-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v0_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v5)) (v2 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v5) = v1 c
          ∧ r.2.mem ((c.tc : Thread Cert.Kernel2Ideal.nD Cert.Kernel2Ideal.τ).loc Cert.Kernel2Ideal.main_v6) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v3)) (v1 : (c : Dev Cert.Kernel3Ideal.nD) → Buf (Elt Ideal) ((c.tc : Thread Cert.Kernel3Ideal.nD Cert.Kernel3Ideal.τ).loc Cert.Kernel3Ideal.main_v4)) (v2 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_v4) = v1 c
          ∧ r.2.mem ((c.tc : Thread Cert.Kernel3Ideal.nD Cert.Kernel3Ideal.τ).loc Cert.Kernel3Ideal.main_v5) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_v35) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v2)) (v3 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_v3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v15) = v1 c
          ∧ r.2.mem ((c.tc : Thread Cert.Reference4Ideal.nD Cert.Reference4Ideal.τ).loc Cert.Reference4Ideal.main_v16) = v2 c
          ∧ r.2.mem ((c.tc : Thread Cert.Reference4Ideal.nD Cert.Reference4Ideal.τ).loc Cert.Reference4Ideal.main_v13) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v1)) (v1 : (c : Dev Cert.Kernel5Ideal.nD) → Buf (Elt Ideal) ((c.tc : Thread Cert.Kernel5Ideal.nD Cert.Kernel5Ideal.τ).loc Cert.Kernel5Ideal.main_v2)) (v2 : (c : Dev Cert.Kernel5Ideal.nD) → Buf (Elt Ideal) ((c.tc : Thread Cert.Kernel5Ideal.nD Cert.Kernel5Ideal.τ).loc Cert.Kernel5Ideal.main_v3)) (v3 : (c : Dev Cert.Kernel5Ideal.nD) → Buf (Elt Ideal) ((c.tc : Thread Cert.Kernel5Ideal.nD Cert.Kernel5Ideal.τ).loc Cert.Kernel5Ideal.main_v4)) (v4 : (c : Dev Cert.Kernel5Ideal.nD) → Buf (Elt Ideal) ((c.tc : Thread Cert.Kernel5Ideal.nD Cert.Kernel5Ideal.τ).loc Cert.Kernel5Ideal.main_v5)) (v5 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_v2) = v1 c
          ∧ r.2.mem ((c.tc : Thread Cert.Kernel5Ideal.nD Cert.Kernel5Ideal.τ).loc Cert.Kernel5Ideal.main_v3) = v2 c
          ∧ r.2.mem ((c.tc : Thread Cert.Kernel5Ideal.nD Cert.Kernel5Ideal.τ).loc Cert.Kernel5Ideal.main_v4) = v3 c
          ∧ r.2.mem ((c.tc : Thread Cert.Kernel5Ideal.nD Cert.Kernel5Ideal.τ).loc Cert.Kernel5Ideal.main_v5) = v4 c
          ∧ r.2.mem ((c.tc : Thread Cert.Kernel5Ideal.nD Cert.Kernel5Ideal.τ).loc Cert.Kernel5Ideal.main_v6) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_v20) = v2 c
          ∧ r.2.mem ((c.tc : Thread Cert.Reference5Ideal.nD Cert.Reference5Ideal.τ).loc Cert.Reference5Ideal.main_v27) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v29) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)) (v1 : (c : Dev Cert.Kernel6Ideal.nD) → Buf (Elt Ideal) ((c.tc : Thread Cert.Kernel6Ideal.nD Cert.Kernel6Ideal.τ).loc Cert.Kernel6Ideal.main_v1)) (v2 : (c : Dev Cert.Kernel6Ideal.nD) → Buf (Elt Ideal) ((c.tc : Thread Cert.Kernel6Ideal.nD Cert.Kernel6Ideal.τ).loc Cert.Kernel6Ideal.main_v2)) (v3 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_v1) = v1 c
          ∧ r.2.mem ((c.tc : Thread Cert.Kernel6Ideal.nD Cert.Kernel6Ideal.τ).loc Cert.Kernel6Ideal.main_v2) = v2 c
          ∧ r.2.mem ((c.tc : Thread Cert.Kernel6Ideal.nD Cert.Kernel6Ideal.τ).loc Cert.Kernel6Ideal.main_v3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v13) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v34) = v0 c
          ∧ r.2.mem ((c.tc : Thread Cert.Reference14Ideal.nD Cert.Reference14Ideal.τ).loc Cert.Reference14Ideal.main_v35) = v1 c
          ∧ r.2.mem ((c.tc : Thread Cert.Reference14Ideal.nD Cert.Reference14Ideal.τ).loc Cert.Reference14Ideal.main_v17) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v43) = v0 c
          ∧ r.2.mem ((c.tc : Thread Cert.Reference15Ideal.nD Cert.Reference15Ideal.τ).loc Cert.Reference15Ideal.main_v44) = v1 c
          ∧ r.2.mem ((c.tc : Thread Cert.Reference15Ideal.nD Cert.Reference15Ideal.τ).loc Cert.Reference15Ideal.main_v46) = v2 c
          ∧ r.2.mem ((c.tc : Thread Cert.Reference15Ideal.nD Cert.Reference15Ideal.τ).loc Cert.Reference15Ideal.main_v36) = v3 c
          ∧ r.2.mem ((c.tc : Thread Cert.Reference15Ideal.nD Cert.Reference15Ideal.τ).loc Cert.Reference15Ideal.main_v42) = v4 c
          ∧ r.2.mem ((c.tc : Thread Cert.Reference15Ideal.nD Cert.Reference15Ideal.τ).loc Cert.Reference15Ideal.main_v39) = v5 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_v22) = v1 c
          ∧ r.2.mem ((c.tc : Thread Cert.Reference16Ideal.nD Cert.Reference16Ideal.τ).loc Cert.Reference16Ideal.main_v20) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v71) = v0 c
          ∧ r.2.mem ((c.tc : Thread Cert.Reference17Ideal.nD Cert.Reference17Ideal.τ).loc Cert.Reference17Ideal.main_v18) = v1 c
          ∧ r.2.mem ((c.tc : Thread Cert.Reference17Ideal.nD Cert.Reference17Ideal.τ).loc Cert.Reference17Ideal.main_v53) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v59) = v0 c
          ∧ r.2.mem ((c.tc : Thread Cert.Reference18Ideal.nD Cert.Reference18Ideal.τ).loc Cert.Reference18Ideal.main_v33) = v1 c
          ∧ r.2.mem ((c.tc : Thread Cert.Reference18Ideal.nD Cert.Reference18Ideal.τ).loc Cert.Reference18Ideal.main_v30) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v12) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v13) = v0 c
          ∧ r.2.mem ((c.tc : Thread Cert.Reference21Ideal.nD Cert.Reference21Ideal.τ).loc Cert.Reference21Ideal.main_v27) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v80) = v0 c
          ∧ r.2.mem ((c.tc : Thread Cert.Reference22Ideal.nD Cert.Reference22Ideal.τ).loc Cert.Reference22Ideal.main_v81) = v1 c
          ∧ r.2.mem ((c.tc : Thread Cert.Reference22Ideal.nD Cert.Reference22Ideal.τ).loc Cert.Reference22Ideal.main_v83) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v39) = v0 c
          ∧ r.2.mem ((c.tc : Thread Cert.Reference23Ideal.nD Cert.Reference23Ideal.τ).loc Cert.Reference23Ideal.main_v40) = v1 c
          ∧ r.2.mem ((c.tc : Thread Cert.Reference23Ideal.nD Cert.Reference23Ideal.τ).loc Cert.Reference23Ideal.main_v41) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v57) = v0 c
          ∧ r.2.mem ((c.tc : Thread Cert.Reference24Ideal.nD Cert.Reference24Ideal.τ).loc Cert.Reference24Ideal.main_v58) = v1 c
          ∧ r.2.mem ((c.tc : Thread Cert.Reference24Ideal.nD Cert.Reference24Ideal.τ).loc Cert.Reference24Ideal.main_v41) = v2 c
          ∧ r.2.mem ((c.tc : Thread Cert.Reference24Ideal.nD Cert.Reference24Ideal.τ).loc Cert.Reference24Ideal.main_v59) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_v29) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_v16) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S16x2176x192 : Shape := ⟨3, ![16, 2176, 192]⟩
abbrev S16x2176x128 : Shape := ⟨3, ![16, 2176, 128]⟩
abbrev S2176x2048 : Shape := ⟨2, ![2176, 2048]⟩
abbrev S_ : Shape := ⟨0, ![]⟩

class Facts : Prop where
  bitsLt_bf16_f32 : FTy.bits .bf16 < FTy.bits .f32
  bcast_S_S16x2176x192 : S_.BroadcastsInDim S16x2176x192 (![] : Fin 0 → Fin S16x2176x192.rank)
  reducesTo_S16x2176x192_S_d0_1_2 : S16x2176x192.ReducesTo [0, 1, 2] S_
  h_S_ : 0 < S_.numel

variable [Facts]

def fn {F : FTy → Type} [FloatOps F] (main_arg0 : FVec F S16x2176x192 .bf16) (main_arg1 : FVec F S16x2176x192 .bf16) (main_arg2 : FVec F S16x2176x128 .bf16) (main_arg3 : FVec F S2176x2048 .bf16) : IVec S_ 1 :=
  let main_v0 : FVec F S16x2176x192 .f32 := (extf .f32 · bitsLt_bf16_f32) main_arg0
  let main_v1 : FVec F S16x2176x192 .f32 := (extf .f32 · bitsLt_bf16_f32) main_arg1
  let main_v2 : FVec F S16x2176x192 .f32 := Host.absf main_v0
  let main_cst : FVec F S_ .f32 := constant S_ .f32 0x7F800000#32
  let main_v3 : FVec F S16x2176x192 .f32 := broadcastInDim S16x2176x192 ![] bcast_S_S16x2176x192 main_cst
  let main_v4 : IVec S16x2176x192 1 := cmpf .olt main_v2 main_v3
  let main_c : IVec S_ 1 := constantI S_ 1 1#1
  let main_v5 : IVec S_ 1 := (fun x v => Host.reduce IntOp.andi x v reducesTo_S16x2176x192_S_d0_1_2 h_S_) main_v4 main_c
  let main_v6 : FVec F S16x2176x192 .f32 := Host.absf main_v1
  let main_cst_0 : FVec F S_ .f32 := constant S_ .f32 0x7F800000#32
  let main_v7 : FVec F S16x2176x192 .f32 := broadcastInDim S16x2176x192 ![] bcast_S_S16x2176x192 main_cst_0
  let main_v8 : IVec S16x2176x192 1 := cmpf .olt main_v6 main_v7
  let main_c_1 : IVec S_ 1 := constantI S_ 1 1#1
  let main_v9 : IVec S_ 1 := (fun x v => Host.reduce IntOp.andi x v reducesTo_S16x2176x192_S_d0_1_2 h_S_) main_v8 main_c_1
  let main_v10 : IVec S_ 1 := andi main_v5 main_v9
  main_v10
-- ==== Kernel.lean ====
abbrev S16x2176x192 : Shape := ⟨3, ![16, 2176, 192]⟩
abbrev S16x2176x128 : Shape := ⟨3, ![16, 2176, 128]⟩
abbrev S2176x2048 : Shape := ⟨2, ![2176, 2048]⟩
abbrev S16x2176x1 : Shape := ⟨3, ![16, 2176, 1]⟩
abbrev S1x2176x192 : Shape := ⟨3, ![1, 2176, 192]⟩
abbrev S1x2176x128 : Shape := ⟨3, ![1, 2176, 128]⟩
abbrev S2176x128 : Shape := ⟨2, ![2176, 128]⟩
abbrev S1x2176x1 : Shape := ⟨3, ![1, 2176, 1]⟩
abbrev S1x544x192 : Shape := ⟨3, ![1, 544, 192]⟩
abbrev S544x192 : Shape := ⟨2, ![544, 192]⟩
abbrev S544x544 : Shape := ⟨2, ![544, 544]⟩
abbrev S544 : Shape := ⟨1, ![544]⟩
abbrev S544x1 : Shape := ⟨2, ![544, 1]⟩
abbrev S1x544x128 : Shape := ⟨3, ![1, 544, 128]⟩
abbrev S544x128 : Shape := ⟨2, ![544, 128]⟩
abbrev S1x544x1 : Shape := ⟨3, ![1, 544, 1]⟩
abbrev S1x1088x192 : Shape := ⟨3, ![1, 1088, 192]⟩
abbrev S1088x192 : Shape := ⟨2, ![1088, 192]⟩
abbrev S544x1088 : Shape := ⟨2, ![544, 1088]⟩
abbrev S1x1088x128 : Shape := ⟨3, ![1, 1088, 128]⟩
abbrev S1088x128 : Shape := ⟨2, ![1088, 128]⟩
abbrev S1x1632x192 : Shape := ⟨3, ![1, 1632, 192]⟩
abbrev S1632x192 : Shape := ⟨2, ![1632, 192]⟩
abbrev S544x1632 : Shape := ⟨2, ![544, 1632]⟩
abbrev S1x1632x128 : Shape := ⟨3, ![1, 1632, 128]⟩
abbrev S1632x128 : Shape := ⟨2, ![1632, 128]⟩
abbrev S2176x192 : Shape := ⟨2, ![2176, 192]⟩
abbrev S544x2176 : Shape := ⟨2, ![544, 2176]⟩

abbrev nBuf : Space → Nat
  | .hbm => 9
  | .vmem => 26
  | .smem => 0
  | _ => 0

abbrev bufTy : (tb : Table) → Fin (tcTables nBuf tb) → BufTy
  | .hbm, ⟨0, _⟩ => ⟨S16x2176x192, .bf16⟩
  | .hbm, ⟨1, _⟩ => ⟨S16x2176x192, .bf16⟩
  | .hbm, ⟨2, _⟩ => ⟨S16x2176x128, .bf16⟩
  | .hbm, ⟨3, _⟩ => ⟨S2176x2048, .bf16⟩
  | .hbm, ⟨4, _⟩ => ⟨S2176x2048, .bf16⟩
  | .hbm, ⟨5, _⟩ => ⟨S16x2176x1, .f32⟩
  | .hbm, ⟨6, _⟩ => ⟨S16x2176x192, .f32⟩
  | .hbm, ⟨7, _⟩ => ⟨S16x2176x192, .f32⟩
  | .hbm, ⟨8, _⟩ => ⟨S16x2176x128, .f32⟩
  | .local _ .vmem, ⟨0, _⟩ => ⟨S1x2176x192, .bf16⟩
  | .local _ .vmem, ⟨1, _⟩ => ⟨S1x2176x192, .bf16⟩
  | .local _ .vmem, ⟨2, _⟩ => ⟨S1x2176x192, .bf16⟩
  | .local _ .vmem, ⟨3, _⟩ => ⟨S1x2176x192, .bf16⟩
  | .local _ .vmem, ⟨4, _⟩ => ⟨S1x2176x128, .bf16⟩
  | .local _ .vmem, ⟨5, _⟩ => ⟨S1x2176x128, .bf16⟩
  | .local _ .vmem, ⟨6, _⟩ => ⟨S2176x128, .bf16⟩
  | .local _ .vmem, ⟨7, _⟩ => ⟨S2176x128, .bf16⟩
  | .local _ .vmem, ⟨8, _⟩ => ⟨S1x2176x1, .f32⟩
  | .local _ .vmem, ⟨9, _⟩ => ⟨S1x2176x1, .f32⟩
  | .local _ .vmem, ⟨10, _⟩ => ⟨S1x2176x192, .bf16⟩
  | .local _ .vmem, ⟨11, _⟩ => ⟨S1x2176x192, .bf16⟩
  | .local _ .vmem, ⟨12, _⟩ => ⟨S1x2176x192, .bf16⟩
  | .local _ .vmem, ⟨13, _⟩ => ⟨S1x2176x192, .bf16⟩
  | .local _ .vmem, ⟨14, _⟩ => ⟨S1x2176x128, .bf16⟩
  | .local _ .vmem, ⟨15, _⟩ => ⟨S1x2176x128, .bf16⟩
  | .local _ .vmem, ⟨16, _⟩ => ⟨S1x2176x1, .f32⟩
  | .local _ .vmem, ⟨17, _⟩ => ⟨S1x2176x1, .f32⟩
  | .local _ .vmem, ⟨18, _⟩ => ⟨S2176x128, .bf16⟩
  | .local _ .vmem, ⟨19, _⟩ => ⟨S2176x128, .bf16⟩
  | .local _ .vmem, ⟨20, _⟩ => ⟨S1x2176x192, .f32⟩
  | .local _ .vmem, ⟨21, _⟩ => ⟨S1x2176x192, .f32⟩
  | .local _ .vmem, ⟨22, _⟩ => ⟨S1x2176x192, .f32⟩
  | .local _ .vmem, ⟨23, _⟩ => ⟨S1x2176x192, .f32⟩
  | .local _ .vmem, ⟨24, _⟩ => ⟨S1x2176x128, .f32⟩
  | .local _ .vmem, ⟨25, _⟩ => ⟨S1x2176x128, .f32⟩
  | _, _ => ⟨S16x2176x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2176x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2176x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2176x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2176x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2176x192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2176x192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2176x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2176x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2176x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2176x192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2176x192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2176x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S16x2176x192 : Shape := ⟨3, ![16, 2176, 192]⟩
abbrev S16x2176x128 : Shape := ⟨3, ![16, 2176, 128]⟩
abbrev S2176x2048 : Shape := ⟨2, ![2176, 2048]⟩
abbrev S16x2176x2176 : Shape := ⟨3, ![16, 2176, 2176]⟩
abbrev S_ : Shape := ⟨0, ![]⟩
abbrev S2176 : Shape := ⟨1, ![2176]⟩
abbrev S1x1x2176 : Shape := ⟨3, ![1, 1, 2176]⟩
abbrev S1x2176x1 : Shape := ⟨3, ![1, 2176, 1]⟩
abbrev S1x2176x2176 : Shape := ⟨3, ![1, 2176, 2176]⟩
abbrev S16x2176 : Shape := ⟨2, ![16, 2176]⟩
abbrev S16x2176x1 : Shape := ⟨3, ![16, 2176, 1]⟩
abbrev S16x128x2176 : Shape := ⟨3, ![16, 128, 2176]⟩
abbrev S2176x16x128 : Shape := ⟨3, ![2176, 16, 128]⟩

abbrev nBuf : Space → Nat
  | .hbm => 94
  | .vmem => 0
  | .smem => 0
  | _ => 0

abbrev bufTy : (tb : Table) → Fin (tcTables nBuf tb) → BufTy
  | .hbm, ⟨0, _⟩ => ⟨S16x2176x192, .bf16⟩
  | .hbm, ⟨1, _⟩ => ⟨S16x2176x192, .bf16⟩
  | .hbm, ⟨2, _⟩ => ⟨S16x2176x128, .bf16⟩
  | .hbm, ⟨3, _⟩ => ⟨S2176x2048, .bf16⟩
  | .hbm, ⟨4, _⟩ => ⟨S16x2176x192, .f32⟩
  | .hbm, ⟨5, _⟩ => ⟨S16x2176x192, .f32⟩
  | .hbm, ⟨6, _⟩ => ⟨S16x2176x128, .f32⟩
  | .hbm, ⟨7, _⟩ => ⟨S2176x2048, .f32⟩
  | .hbm, ⟨8, _⟩ => ⟨S16x2176x2176, .f32⟩
  | .hbm, ⟨9, _⟩ => ⟨S_, .f32⟩
  | .hbm, ⟨10, _⟩ => ⟨S16x2176x2176, .f32⟩
  | .hbm, ⟨11, _⟩ => ⟨S16x2176x2176, .f32⟩
  | .hbm, ⟨12, _⟩ => ⟨S2176, .i32⟩
  | .hbm, ⟨13, _⟩ => ⟨S1x1x2176, .i32⟩
  | .hbm, ⟨14, _⟩ => ⟨S1x2176x1, .i32⟩
  | .hbm, ⟨15, _⟩ => ⟨S1x2176x2176, .i32⟩
  | .hbm, ⟨16, _⟩ => ⟨S1x2176x2176, .i32⟩
  | .hbm, ⟨17, _⟩ => ⟨S1x2176x2176, .i1⟩
  | .hbm, ⟨18, _⟩ => ⟨S_, .f32⟩
  | .hbm, ⟨19, _⟩ => ⟨S_, .f32⟩
  | .hbm, ⟨20, _⟩ => ⟨S16x2176x2176, .i1⟩
  | .hbm, ⟨21, _⟩ => ⟨S16x2176x2176, .f32⟩
  | .hbm, ⟨22, _⟩ => ⟨S16x2176x2176, .f32⟩
  | .hbm, ⟨23, _⟩ => ⟨S_, .f32⟩
  | .hbm, ⟨24, _⟩ => ⟨S16x2176x2176, .f32⟩
  | .hbm, ⟨25, _⟩ => ⟨S_, .f32⟩
  | .hbm, ⟨26, _⟩ => ⟨S16x2176, .f32⟩
  | .hbm, ⟨27, _⟩ => ⟨S16x2176x1, .f32⟩
  | .hbm, ⟨28, _⟩ => ⟨S16x2176x2176, .f32⟩
  | .hbm, ⟨29, _⟩ => ⟨S16x2176x2176, .i1⟩
  | .hbm, ⟨30, _⟩ => ⟨S16x2176x2176, .f32⟩
  | .hbm, ⟨31, _⟩ => ⟨S_, .f32⟩
  | .hbm, ⟨32, _⟩ => ⟨S16x2176, .f32⟩
  | .hbm, ⟨33, _⟩ => ⟨S_, .f32⟩
  | .hbm, ⟨34, _⟩ => ⟨S16x2176, .f32⟩
  | .hbm, ⟨35, _⟩ => ⟨S16x2176, .f32⟩
  | .hbm, ⟨36, _⟩ => ⟨S_, .f32⟩
  | .hbm, ⟨37, _⟩ => ⟨S16x2176, .f32⟩
  | .hbm, ⟨38, _⟩ => ⟨S16x2176, .i1⟩
  | .hbm, ⟨39, _⟩ => ⟨S_, .f32⟩
  | .hbm, ⟨40, _⟩ => ⟨S16x2176, .f32⟩
  | .hbm, ⟨41, _⟩ => ⟨S16x2176, .i1⟩
  | .hbm, ⟨42, _⟩ => ⟨S_, .f32⟩
  | .hbm, ⟨43, _⟩ => ⟨S16x2176, .f32⟩
  | .hbm, ⟨44, _⟩ => ⟨S_, .f32⟩
  | .hbm, ⟨45, _⟩ => ⟨S16x2176, .f32⟩
  | .hbm, ⟨46, _⟩ => ⟨S_, .f32⟩
  | .hbm, ⟨47, _⟩ => ⟨S16x2176, .f32⟩
  | .hbm, ⟨48, _⟩ => ⟨S16x2176, .f32⟩
  | .hbm, ⟨49, _⟩ => ⟨S16x2176, .f32⟩
  | .hbm, ⟨50, _⟩ => ⟨S16x2176x1, .f32⟩
  | .hbm, ⟨51, _⟩ => ⟨S16x2176x2176, .f32⟩
  | .hbm, ⟨52, _⟩ => ⟨S16x2176x2176, .f32⟩
  | .hbm, ⟨53, _⟩ => ⟨S16x2176x2176, .f32⟩
  | .hbm, ⟨54, _⟩ => ⟨S_, .f32⟩
  | .hbm, ⟨55, _⟩ => ⟨S16x2176, .f32⟩
  | .hbm, ⟨56, _⟩ => ⟨S16x2176x1, .f32⟩
  | .hbm, ⟨57, _⟩ => ⟨S16x2176x2176, .f32⟩
  | .hbm, ⟨58, _⟩ => ⟨S16x2176x2176, .f32⟩
  | .hbm, ⟨59, _⟩ => ⟨S16x2176x1, .f32⟩
  | .hbm, ⟨60, _⟩ => ⟨S_, .f32⟩
  | .hbm, ⟨61, _⟩ => ⟨S16x2176x1, .f32⟩
  | .hbm, ⟨62, _⟩ => ⟨S16x2176x1, .f32⟩
  | .hbm, ⟨63, _⟩ => ⟨S16x128x2176, .f32⟩
  | .hbm, ⟨64, _⟩ => ⟨S2176x16x128, .f32⟩
  | .hbm, ⟨65, _⟩ => ⟨S2176x2048, .f32⟩
  | .hbm, ⟨66, _⟩ => ⟨S2176x16x128, .f32⟩
  | .hbm, ⟨67, _⟩ => ⟨S16x128x2176, .f32⟩
  | .hbm, ⟨68, _⟩ => ⟨S16x2176x2176, .f32⟩
  | .hbm, ⟨69, _⟩ => ⟨S16x128x2176, .f32⟩
  | .hbm, ⟨70, _⟩ => ⟨S16x2176x128, .f32⟩
  | .hbm, ⟨71, _⟩ => ⟨S16x2176x2176, .f32⟩
  | .hbm, ⟨72, _⟩ => ⟨S16x2176x2176, .f32⟩
  | .hbm, ⟨73, _⟩ => ⟨S16x2176x2176, .f32⟩
  | .hbm, ⟨74, _⟩ => ⟨S_, .f32⟩
  | .hbm, ⟨75, _⟩ => ⟨S16x2176, .f32⟩
  | .hbm, ⟨76, _⟩ => ⟨S16x2176x1, .f32⟩
  | .hbm, ⟨77, _⟩ => ⟨S16x2176x1, .f32⟩
  | .hbm, ⟨78, _⟩ => ⟨S16x2176x2176, .f32⟩
  | .hbm, ⟨79, _⟩ => ⟨S16x2176x2176, .f32⟩
  | .hbm, ⟨80, _⟩ => ⟨S_, .f32⟩
  | .hbm, ⟨81, _⟩ => ⟨S16x2176, .f32⟩
  | .hbm, ⟨82, _⟩ => ⟨S16x2176x2176, .f32⟩
  | .hbm, ⟨83, _⟩ => ⟨S16x2176x2176, .f32⟩
  | .hbm, ⟨84, _⟩ => ⟨S16x2176x2176, .f32⟩
  | .hbm, ⟨85, _⟩ => ⟨S_, .f32⟩
  | .hbm, ⟨86, _⟩ => ⟨S16x2176x2176, .f32⟩
  | .hbm, ⟨87, _⟩ => ⟨S16x2176x2176, .f32⟩
  | .hbm, ⟨88, _⟩ => ⟨S_, .f32⟩
  | .hbm, ⟨89, _⟩ => ⟨S16x2176x2176, .f32⟩
  | .hbm, ⟨90, _⟩ => ⟨S16x2176x2176, .f32⟩
  | .hbm, ⟨91, _⟩ => ⟨S16x2176x192, .f32⟩
  | .hbm, ⟨92, _⟩ => ⟨S16x2176x192, .f32⟩
  | .hbm, ⟨93, _⟩ => ⟨S2176x2048, .bf16⟩
  | _, _ => ⟨S16x2176x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_v13_1 : Ref sig .tc := ⟨.hbm, 20, rfl⟩
abbrev main_call0_v2 : Ref sig .tc := ⟨.hbm, 21, rfl⟩
abbrev main_v13_0 : Ref sig .tc := ⟨.hbm, 22, rfl⟩
abbrev main_call0_cst : Ref sig .tc := ⟨.hbm, 23, rfl⟩
abbrev main_v13_2 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_cst : Ref sig .tc := ⟨.hbm, 85, rfl⟩
abbrev main_call1_v0 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩

abbrev nD : Nat := 1
abbrev τ : Topo := Topo.v7x

variable {F : FTy → Type} [FloatOps F]
-- ==== Kernel2.lean ====
abbrev S2176x2048 : Shape := ⟨2, ![2176, 2048]⟩
abbrev S1x2048 : Shape := ⟨2, ![1, 2048]⟩
abbrev S2048x11264 : Shape := ⟨2, ![2048, 11264]⟩
abbrev S5632x2048 : Shape := ⟨2, ![5632, 2048]⟩
abbrev S128x2048 : Shape := ⟨2, ![128, 2048]⟩
abbrev S128 : Shape := ⟨1, ![128]⟩
abbrev S128x1 : Shape := ⟨2, ![128, 1]⟩
abbrev S2176x11264 : Shape := ⟨2, ![2176, 11264]⟩
abbrev S2048x512 : Shape := ⟨2, ![2048, 512]⟩
abbrev S2176x512 : Shape := ⟨2, ![2176, 512]⟩
abbrev S8x128 : Shape := ⟨2, ![8, 128]⟩
abbrev S2176x5632 : Shape := ⟨2, ![2176, 5632]⟩
abbrev S64x5632 : Shape := ⟨2, ![64, 5632]⟩
abbrev S512x512 : Shape := ⟨2, ![512, 512]⟩
abbrev S512x2048 : Shape := ⟨2, ![512, 2048]⟩
abbrev S64x11264 : Shape := ⟨2, ![64, 11264]⟩
abbrev S2176x1024 : Shape := ⟨2, ![2176, 1024]⟩
abbrev S1024x512 : Shape := ⟨2, ![1024, 512]⟩

abbrev nBuf : Space → Nat
  | .hbm => 12
  | .vmem => 45
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S2176x2048, .bf16⟩
  | .hbm, ⟨5, _⟩ => ⟨S2176x2048, .bf16⟩
  | .hbm, ⟨6, _⟩ => ⟨S2176x11264, .f32⟩
  | .hbm, ⟨7, _⟩ => ⟨S2176x5632, .bf16⟩
  | .hbm, ⟨8, _⟩ => ⟨S5632x2048, .bf16⟩
  | .hbm, ⟨9, _⟩ => ⟨S2176x5632, .f32⟩
  | .hbm, ⟨10, _⟩ => ⟨S2176x11264, .bf16⟩
  | .hbm, ⟨11, _⟩ => ⟨S2048x11264, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .bf16⟩
  | .local _ .vmem, ⟨4, _⟩ => ⟨S128x2048, .bf16⟩
  | .local _ .vmem, ⟨5, _⟩ => ⟨S2176x2048, .bf16⟩
  | .local _ .vmem, ⟨6, _⟩ => ⟨S2048x512, .bf16⟩
  | .local _ .vmem, ⟨7, _⟩ => ⟨S2048x512, .bf16⟩
  | .local _ .vmem, ⟨8, _⟩ => ⟨S2176x512, .f32⟩
  | .local _ .vmem, ⟨9, _⟩ => ⟨S2176x512, .f32⟩
  | .local _ .vmem, ⟨10, _⟩ => ⟨S8x128, .f32⟩
  | .local _ .vmem, ⟨11, _⟩ => ⟨S64x5632, .f32⟩
  | .local _ .vmem, ⟨12, _⟩ => ⟨S64x5632, .f32⟩
  | .local _ .vmem, ⟨13, _⟩ => ⟨S64x5632, .f32⟩
  | .local _ .vmem, ⟨14, _⟩ => ⟨S64x5632, .f32⟩
  | .local _ .vmem, ⟨15, _⟩ => ⟨S64x5632, .bf16⟩
  | .local _ .vmem, ⟨16, _⟩ => ⟨S64x5632, .bf16⟩
  | .local _ .vmem, ⟨17, _⟩ => ⟨S2176x512, .bf16⟩
  | .local _ .vmem, ⟨18, _⟩ => ⟨S2176x512, .bf16⟩
  | .local _ .vmem, ⟨19, _⟩ => ⟨S2176x512, .bf16⟩
  | .local _ .vmem, ⟨20, _⟩ => ⟨S2176x512, .bf16⟩
  | .local _ .vmem, ⟨21, _⟩ => ⟨S512x512, .bf16⟩
  | .local _ .vmem, ⟨22, _⟩ => ⟨S512x512, .bf16⟩
  | .local _ .vmem, ⟨23, _⟩ => ⟨S8x128, .f32⟩
  | .local _ .vmem, ⟨24, _⟩ => ⟨S2176x2048, .bf16⟩
  | .local _ .vmem, ⟨25, _⟩ => ⟨S512x2048, .bf16⟩
  | .local _ .vmem, ⟨26, _⟩ => ⟨S512x2048, .bf16⟩
  | .local _ .vmem, ⟨27, _⟩ => ⟨S2176x512, .f32⟩
  | .local _ .vmem, ⟨28, _⟩ => ⟨S2176x512, .f32⟩
  | .local _ .vmem, ⟨29, _⟩ => ⟨S8x128, .f32⟩
  | .local _ .vmem, ⟨30, _⟩ => ⟨S64x5632, .f32⟩
  | .local _ .vmem, ⟨31, _⟩ => ⟨S64x5632, .f32⟩
  | .local _ .vmem, ⟨32, _⟩ => ⟨S64x5632, .f32⟩
  | .local _ .vmem, ⟨33, _⟩ => ⟨S64x5632, .f32⟩
  | .local _ .vmem, ⟨34, _⟩ => ⟨S64x5632, .f32⟩
  | .local _ .vmem, ⟨35, _⟩ => ⟨S64x5632, .f32⟩
  | .local _ .vmem, ⟨36, _⟩ => ⟨S64x11264, .bf16⟩
  | .local _ .vmem, ⟨37, _⟩ => ⟨S64x11264, .bf16⟩
  | .local _ .vmem, ⟨38, _⟩ => ⟨S2176x1024, .bf16⟩
  | .local _ .vmem, ⟨39, _⟩ => ⟨S2176x1024, .bf16⟩
  | .local _ .vmem, ⟨40, _⟩ => ⟨S2176x512, .bf16⟩
  | .local _ .vmem, ⟨41, _⟩ => ⟨S2176x512, .bf16⟩
  | .local _ .vmem, ⟨42, _⟩ => ⟨S1024x512, .bf16⟩
  | .local _ .vmem, ⟨43, _⟩ => ⟨S1024x512, .bf16⟩
  | .local _ .vmem, ⟨44, _⟩ => ⟨S8x128, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_scratch0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_scratch0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32
abbrev cc5_sem3_0 : DmaSem sig := 33
abbrev cc5_sem3_1 : DmaSem sig := 34
abbrev cc6_sem0_0 : DmaSem sig := 35
abbrev cc6_sem0_1 : DmaSem sig := 36
abbrev cc6_sem1_0 : DmaSem sig := 37
abbrev cc6_sem1_1 : DmaSem sig := 38
abbrev cc6_sem2_0 : DmaSem sig := 39
abbrev cc6_sem2_1 : DmaSem sig := 40

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 22, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2176x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2176x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![34], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x5632 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x5632 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x5632 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨3, ![11, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2176x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2176x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 11, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2176x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S2176x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨1, ![34], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c1_i32 : BitVec 32 := 1#32
  let c0_i32 : BitVec 32 := 0#32
  ![arg0.toNat, c1_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S64x5632 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S64x5632 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S64x5632 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S64x11264 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨3, ![2, 22, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2176x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2176x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== Reference2Ideal.lean ====
abbrev S2176x2048 : Shape := ⟨2, ![2176, 2048]⟩
abbrev S1x2048 : Shape := ⟨2, ![1, 2048]⟩
abbrev S2048x11264 : Shape := ⟨2, ![2048, 11264]⟩
abbrev S5632x2048 : Shape := ⟨2, ![5632, 2048]⟩
abbrev S2048x5632 : Shape := ⟨2, ![2048, 5632]⟩
abbrev S_ : Shape := ⟨0, ![]⟩
abbrev S2176 : Shape := ⟨1, ![2176]⟩
abbrev S2176x1 : Shape := ⟨2, ![2176, 1]⟩
abbrev S2176x5632 : Shape := ⟨2, ![2176, 5632]⟩
abbrev S2176x11264 : Shape := ⟨2, ![2176, 11264]⟩

abbrev nBuf : Space → Nat
  | .hbm => 61
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2048x11264, .bf16⟩
  | .hbm, ⟨3, _⟩ => ⟨S5632x2048, .bf16⟩
  | .hbm, ⟨4, _⟩ => ⟨S2176x2048, .bf16⟩
  | .hbm, ⟨5, _⟩ => ⟨S2048x5632, .bf16⟩
  | .hbm, ⟨6, _⟩ => ⟨S2048x5632, .bf16⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S2176x2048, .f32⟩
  | .hbm, ⟨11, _⟩ => ⟨S2176x2048, .f32⟩
  | .hbm, ⟨12, _⟩ => ⟨S_, .f32⟩
  | .hbm, ⟨13, _⟩ => ⟨S2176, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S_, .f32⟩
  | .hbm, ⟨19, _⟩ => ⟨S2176x1, .f32⟩
  | .hbm, ⟨20, _⟩ => ⟨S2176x1, .f32⟩
  | .hbm, ⟨21, _⟩ => ⟨S2176x1, .f32⟩
  | .hbm, ⟨22, _⟩ => ⟨S2176x2048, .f32⟩
  | .hbm, ⟨23, _⟩ => ⟨S2176x2048, .f32⟩
  | .hbm, ⟨24, _⟩ => ⟨S2176x2048, .f32⟩
  | .hbm, ⟨25, _⟩ => ⟨S2176x2048, .f32⟩
  | .hbm, ⟨26, _⟩ => ⟨S2176x5632, .f32⟩
  | .hbm, ⟨27, _⟩ => ⟨S2176x5632, .f32⟩
  | .hbm, ⟨28, _⟩ => ⟨S2176x5632, .f32⟩
  | .hbm, ⟨29, _⟩ => ⟨S2176x5632, .f32⟩
  | .hbm, ⟨30, _⟩ => ⟨S_, .f32⟩
  | .hbm, ⟨31, _⟩ => ⟨S2176x5632, .f32⟩
  | .hbm, ⟨32, _⟩ => ⟨S2176x5632, .f32⟩
  | .hbm, ⟨33, _⟩ => ⟨S_, .f32⟩
  | .hbm, ⟨34, _⟩ => ⟨S2176x5632, .f32⟩
  | .hbm, ⟨35, _⟩ => ⟨S2176x5632, .f32⟩
  | .hbm, ⟨36, _⟩ => ⟨S_, .f32⟩
  | .hbm, ⟨37, _⟩ => ⟨S2176x5632, .f32⟩
  | .hbm, ⟨38, _⟩ => ⟨S2176x5632, .f32⟩
  | .hbm, ⟨39, _⟩ => ⟨S2176x5632, .f32⟩
  | .hbm, ⟨40, _⟩ => ⟨S2176x5632, .f32⟩
  | .hbm, ⟨41, _⟩ => ⟨S2176x5632, .f32⟩
  | .hbm, ⟨42, _⟩ => ⟨S2176x2048, .f32⟩
  | .hbm, ⟨43, _⟩ => ⟨S2048x5632, .f32⟩
  | .hbm, ⟨44, _⟩ => ⟨S5632x2048, .f32⟩
  | .hbm, ⟨45, _⟩ => ⟨S2176x5632, .f32⟩
  | .hbm, ⟨46, _⟩ => ⟨S2176x5632, .f32⟩
  | .hbm, ⟨47, _⟩ => ⟨S2176x5632, .f32⟩
  | .hbm, ⟨48, _⟩ => ⟨S2176x5632, .f32⟩
  | .hbm, ⟨49, _⟩ => ⟨S2176x5632, .f32⟩
  | .hbm, ⟨50, _⟩ => ⟨S2176x5632, .f32⟩
  | .hbm, ⟨51, _⟩ => ⟨S2176x5632, .f32⟩
  | .hbm, ⟨52, _⟩ => ⟨S5632x2048, .f32⟩
  | .hbm, ⟨53, _⟩ => ⟨S2048x5632, .f32⟩
  | .hbm, ⟨54, _⟩ => ⟨S5632x2048, .f32⟩
  | .hbm, ⟨55, _⟩ => ⟨S2048x5632, .f32⟩
  | .hbm, ⟨56, _⟩ => ⟨S2176x11264, .f32⟩
  | .hbm, ⟨57, _⟩ => ⟨S2048x11264, .f32⟩
  | .hbm, ⟨58, _⟩ => ⟨S5632x2048, .bf16⟩
  | .hbm, ⟨59, _⟩ => ⟨S2176x11264, .bf16⟩
  | .hbm, ⟨60, _⟩ => ⟨S2048x11264, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v20_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v20_1 : Ref sig .tc := ⟨.hbm, 39, rfl⟩
abbrev main_v20_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩

abbrev nD : Nat := 1
abbrev τ : Topo := Topo.v7x

variable {F : FTy → Type} [FloatOps F]
-- ==== Kernel3.lean ====
abbrev S2176x2048 : Shape := ⟨2, ![2176, 2048]⟩
abbrev S2048x2048 : Shape := ⟨2, ![2048, 2048]⟩
abbrev S1x2048 : Shape := ⟨2, ![1, 2048]⟩
abbrev S2176x4096 : Shape := ⟨2, ![2176, 4096]⟩
abbrev S2048x512 : Shape := ⟨2, ![2048, 512]⟩
abbrev S2176x512 : Shape := ⟨2, ![2176, 512]⟩
abbrev S8x128 : Shape := ⟨2, ![8, 128]⟩
abbrev S128x2048 : Shape := ⟨2, ![128, 2048]⟩
abbrev S2176x1024 : Shape := ⟨2, ![2176, 1024]⟩
abbrev S1024x512 : Shape := ⟨2, ![1024, 512]⟩
abbrev S512x2048 : Shape := ⟨2, ![512, 2048]⟩

abbrev nBuf : Space → Nat
  | .hbm => 17
  | .vmem => 46
  | .smem => 0
  | _ => 0

abbrev bufTy : (tb : Table) → Fin (tcTables nBuf tb) → BufTy
  | .hbm, ⟨0, _⟩ => ⟨S2176x2048, .f32⟩
  | .hbm, ⟨1, _⟩ => ⟨S2176x2048, .bf16⟩
  | .hbm, ⟨2, _⟩ => ⟨S2176x2048, .bf16⟩
  | .hbm, ⟨3, _⟩ => ⟨S2048x2048, .bf16⟩
  | .hbm, ⟨4, _⟩ => ⟨S1x2048, .f32⟩
  | .hbm, ⟨5, _⟩ => ⟨S2048x2048, .bf16⟩
  | .hbm, ⟨6, _⟩ => ⟨S2176x4096, .f32⟩
  | .hbm, ⟨7, _⟩ => ⟨S1x2048, .f32⟩
  | .hbm, ⟨8, _⟩ => ⟨S1x2048, .f32⟩
  | .hbm, ⟨9, _⟩ => ⟨S2048x2048, .bf16⟩
  | .hbm, ⟨10, _⟩ => ⟨S2176x2048, .bf16⟩
  | .hbm, ⟨11, _⟩ => ⟨S2176x2048, .f32⟩
  | .hbm, ⟨12, _⟩ => ⟨S2176x2048, .f32⟩
  | .hbm, ⟨13, _⟩ => ⟨S2176x2048, .bf16⟩
  | .hbm, ⟨14, _⟩ => ⟨S2176x2048, .f32⟩
  | .hbm, ⟨15, _⟩ => ⟨S2048x2048, .bf16⟩
  | .hbm, ⟨16, _⟩ => ⟨S2176x2048, .f32⟩
  | .local _ .vmem, ⟨0, _⟩ => ⟨S2176x2048, .bf16⟩
  | .local _ .vmem, ⟨1, _⟩ => ⟨S2048x512, .bf16⟩
  | .local _ .vmem, ⟨2, _⟩ => ⟨S2048x512, .bf16⟩
  | .local _ .vmem, ⟨3, _⟩ => ⟨S2176x512, .f32⟩
  | .local _ .vmem, ⟨4, _⟩ => ⟨S2176x512, .f32⟩
  | .local _ .vmem, ⟨5, _⟩ => ⟨S8x128, .f32⟩
  | .local _ .vmem, ⟨6, _⟩ => ⟨S2176x2048, .bf16⟩
  | .local _ .vmem, ⟨7, _⟩ => ⟨S2048x512, .bf16⟩
  | .local _ .vmem, ⟨8, _⟩ => ⟨S2048x512, .bf16⟩
  | .local _ .vmem, ⟨9, _⟩ => ⟨S2176x512, .f32⟩
  | .local _ .vmem, ⟨10, _⟩ => ⟨S2176x512, .f32⟩
  | .local _ .vmem, ⟨11, _⟩ => ⟨S8x128, .f32⟩
  | .local _ .vmem, ⟨12, _⟩ => ⟨S128x2048, .f32⟩
  | .local _ .vmem, ⟨13, _⟩ => ⟨S128x2048, .f32⟩
  | .local _ .vmem, ⟨14, _⟩ => ⟨S1x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S1x2048, .f32⟩
  | .local _ .vmem, ⟨22, _⟩ => ⟨S1x2048, .f32⟩
  | .local _ .vmem, ⟨23, _⟩ => ⟨S128x2048, .bf16⟩
  | .local _ .vmem, ⟨24, _⟩ => ⟨S128x2048, .bf16⟩
  | .local _ .vmem, ⟨25, _⟩ => ⟨S2176x2048, .bf16⟩
  | .local _ .vmem, ⟨26, _⟩ => ⟨S2048x512, .bf16⟩
  | .local _ .vmem, ⟨27, _⟩ => ⟨S2048x512, .bf16⟩
  | .local _ .vmem, ⟨28, _⟩ => ⟨S2176x512, .f32⟩
  | .local _ .vmem, ⟨29, _⟩ => ⟨S2176x512, .f32⟩
  | .local _ .vmem, ⟨30, _⟩ => ⟨S2176x512, .f32⟩
  | .local _ .vmem, ⟨31, _⟩ => ⟨S2176x512, .f32⟩
  | .local _ .vmem, ⟨32, _⟩ => ⟨S8x128, .f32⟩
  | .local _ .vmem, ⟨33, _⟩ => ⟨S2176x1024, .bf16⟩
  | .local _ .vmem, ⟨34, _⟩ => ⟨S2176x1024, .bf16⟩
  | .local _ .vmem, ⟨35, _⟩ => ⟨S2176x512, .bf16⟩
  | .local _ .vmem, ⟨36, _⟩ => ⟨S2176x512, .bf16⟩
  | .local _ .vmem, ⟨37, _⟩ => ⟨S1024x512, .bf16⟩
  | .local _ .vmem, ⟨38, _⟩ => ⟨S1024x512, .bf16⟩
  | .local _ .vmem, ⟨39, _⟩ => ⟨S8x128, .f32⟩
  | .local _ .vmem, ⟨40, _⟩ => ⟨S2176x2048, .bf16⟩
  | .local _ .vmem, ⟨41, _⟩ => ⟨S512x2048, .bf16⟩
  | .local _ .vmem, ⟨42, _⟩ => ⟨S512x2048, .bf16⟩
  | .local _ .vmem, ⟨43, _⟩ => ⟨S2176x512, .f32⟩
  | .local _ .vmem, ⟨44, _⟩ => ⟨S2176x512, .f32⟩
  | .local _ .vmem, ⟨45, _⟩ => ⟨S8x128, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_scratch0 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg2_1 : Ref sig .tc := ⟨.vmem, 38, rfl⟩
abbrev cc4_scratch0 : Ref sig .tc := ⟨.vmem, 39, rfl⟩
abbrev cc5_stg0_0 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_scratch0 : Ref sig .tc := ⟨.vmem, 45, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem6_0 : DmaSem sig := 20
abbrev cc2_sem7_0 : DmaSem sig := 21
abbrev cc2_sem7_1 : DmaSem sig := 22
abbrev cc3_sem0_0 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem1_0 : DmaSem sig := 37
abbrev cc5_sem1_1 : DmaSem sig := 38
abbrev cc5_sem2_0 : DmaSem sig := 39
abbrev cc5_sem2_1 : DmaSem sig := 40

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2176x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2176x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![17], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S128x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S128x2048 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2176x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2176x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S2176x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2176x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2176x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![1, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2176x2048 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S512x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S2176x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference3Ideal.lean ====
abbrev S2176x2048 : Shape := ⟨2, ![2176, 2048]⟩
abbrev S2048x2048 : Shape := ⟨2, ![2048, 2048]⟩
abbrev S1x2048 : Shape := ⟨2, ![1, 2048]⟩
abbrev S2176x4096 : Shape := ⟨2, ![2176, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S2176x2048, .bf16⟩
  | .hbm, ⟨2, _⟩ => ⟨S2176x2048, .bf16⟩
  | .hbm, ⟨3, _⟩ => ⟨S2048x2048, .bf16⟩
  | .hbm, ⟨4, _⟩ => ⟨S1x2048, .f32⟩
  | .hbm, ⟨5, _⟩ => ⟨S2048x2048, .bf16⟩
  | .hbm, ⟨6, _⟩ => ⟨S2176x4096, .f32⟩
  | .hbm, ⟨7, _⟩ => ⟨S1x2048, .f32⟩
  | .hbm, ⟨8, _⟩ => ⟨S1x2048, .f32⟩
  | .hbm, ⟨9, _⟩ => ⟨S2048x2048, .bf16⟩
  | .hbm, ⟨10, _⟩ => ⟨S2176x2048, .bf16⟩
  | .hbm, ⟨11, _⟩ => ⟨S2176x2048, .f32⟩
  | .hbm, ⟨12, _⟩ => ⟨S2176x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2176x2048, .f32⟩
  | .hbm, ⟨17, _⟩ => ⟨S2176x2048, .f32⟩
  | .hbm, ⟨18, _⟩ => ⟨S2176x2048, .f32⟩
  | .hbm, ⟨19, _⟩ => ⟨S2176x2048, .f32⟩
  | .hbm, ⟨20, _⟩ => ⟨S2176x2048, .f32⟩
  | .hbm, ⟨21, _⟩ => ⟨S2176x2048, .f32⟩
  | .hbm, ⟨22, _⟩ => ⟨S2176x2048, .f32⟩
  | .hbm, ⟨23, _⟩ => ⟨S2176x2048, .f32⟩
  | .hbm, ⟨24, _⟩ => ⟨S2176x2048, .f32⟩
  | .hbm, ⟨25, _⟩ => ⟨S2176x2048, .f32⟩
  | .hbm, ⟨26, _⟩ => ⟨S2176x2048, .f32⟩
  | .hbm, ⟨27, _⟩ => ⟨S_, .f32⟩
  | .hbm, ⟨28, _⟩ => ⟨S2176x2048, .f32⟩
  | .hbm, ⟨29, _⟩ => ⟨S2176x2048, .f32⟩
  | .hbm, ⟨30, _⟩ => ⟨S_, .f32⟩
  | .hbm, ⟨31, _⟩ => ⟨S2176x2048, .f32⟩
  | .hbm, ⟨32, _⟩ => ⟨S2176x2048, .f32⟩
  | .hbm, ⟨33, _⟩ => ⟨S2176x2048, .f32⟩
  | .hbm, ⟨34, _⟩ => ⟨S2176x2048, .f32⟩
  | .hbm, ⟨35, _⟩ => ⟨S2176x2048, .f32⟩
  | .hbm, ⟨36, _⟩ => ⟨S2176x2048, .f32⟩
  | .hbm, ⟨37, _⟩ => ⟨S_, .f32⟩
  | .hbm, ⟨38, _⟩ => ⟨S2176x2048, .f32⟩
  | .hbm, ⟨39, _⟩ => ⟨S2176x2048, .f32⟩
  | .hbm, ⟨40, _⟩ => ⟨S_, .f32⟩
  | .hbm, ⟨41, _⟩ => ⟨S2176x2048, .f32⟩
  | .hbm, ⟨42, _⟩ => ⟨S2176x2048, .f32⟩
  | .hbm, ⟨43, _⟩ => ⟨S2176x2048, .f32⟩
  | .hbm, ⟨44, _⟩ => ⟨S2176x2048, .f32⟩
  | .hbm, ⟨45, _⟩ => ⟨S2176x2048, .f32⟩
  | .hbm, ⟨46, _⟩ => ⟨S2176x2048, .f32⟩
  | .hbm, ⟨47, _⟩ => ⟨S2176x2048, .f32⟩
  | .hbm, ⟨48, _⟩ => ⟨S2048x2048, .f32⟩
  | .hbm, ⟨49, _⟩ => ⟨S2048x2048, .f32⟩
  | .hbm, ⟨50, _⟩ => ⟨S2176x2048, .f32⟩
  | .hbm, ⟨51, _⟩ => ⟨S2048x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel4.lean ====
abbrev S2176x2048 : Shape := ⟨2, ![2176, 2048]⟩
abbrev S2048x2048 : Shape := ⟨2, ![2048, 2048]⟩
abbrev S2176x1024 : Shape := ⟨2, ![2176, 1024]⟩
abbrev S2176x512 : Shape := ⟨2, ![2176, 512]⟩
abbrev S1024x512 : Shape := ⟨2, ![1024, 512]⟩
abbrev S8x128 : Shape := ⟨2, ![8, 128]⟩
abbrev S512x2048 : Shape := ⟨2, ![512, 2048]⟩

abbrev nBuf : Space → Nat
  | .hbm => 10
  | .vmem => 26
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .bf16⟩
  | .hbm, ⟨3, _⟩ => ⟨S2176x2048, .bf16⟩
  | .hbm, ⟨4, _⟩ => ⟨S2048x2048, .bf16⟩
  | .hbm, ⟨5, _⟩ => ⟨S2176x2048, .bf16⟩
  | .hbm, ⟨6, _⟩ => ⟨S2048x2048, .bf16⟩
  | .hbm, ⟨7, _⟩ => ⟨S2176x2048, .bf16⟩
  | .hbm, ⟨8, _⟩ => ⟨S2048x2048, .bf16⟩
  | .hbm, ⟨9, _⟩ => ⟨S2176x2048, .f32⟩
  | .local _ .vmem, ⟨0, _⟩ => ⟨S2176x1024, .bf16⟩
  | .local _ .vmem, ⟨1, _⟩ => ⟨S2176x1024, .bf16⟩
  | .local _ .vmem, ⟨2, _⟩ => ⟨S2176x512, .bf16⟩
  | .local _ .vmem, ⟨3, _⟩ => ⟨S2176x512, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | .local _ .vmem, ⟨7, _⟩ => ⟨S2176x2048, .bf16⟩
  | .local _ .vmem, ⟨8, _⟩ => ⟨S512x2048, .bf16⟩
  | .local _ .vmem, ⟨9, _⟩ => ⟨S512x2048, .bf16⟩
  | .local _ .vmem, ⟨10, _⟩ => ⟨S2176x512, .bf16⟩
  | .local _ .vmem, ⟨11, _⟩ => ⟨S2176x512, .bf16⟩
  | .local _ .vmem, ⟨12, _⟩ => ⟨S8x128, .f32⟩
  | .local _ .vmem, ⟨13, _⟩ => ⟨S2176x1024, .bf16⟩
  | .local _ .vmem, ⟨14, _⟩ => ⟨S2176x1024, .bf16⟩
  | .local _ .vmem, ⟨15, _⟩ => ⟨S2176x512, .bf16⟩
  | .local _ .vmem, ⟨16, _⟩ => ⟨S2176x512, .bf16⟩
  | .local _ .vmem, ⟨17, _⟩ => ⟨S1024x512, .bf16⟩
  | .local _ .vmem, ⟨18, _⟩ => ⟨S1024x512, .bf16⟩
  | .local _ .vmem, ⟨19, _⟩ => ⟨S8x128, .f32⟩
  | .local _ .vmem, ⟨20, _⟩ => ⟨S2176x2048, .bf16⟩
  | .local _ .vmem, ⟨21, _⟩ => ⟨S512x2048, .bf16⟩
  | .local _ .vmem, ⟨22, _⟩ => ⟨S512x2048, .bf16⟩
  | .local _ .vmem, ⟨23, _⟩ => ⟨S2176x512, .f32⟩
  | .local _ .vmem, ⟨24, _⟩ => ⟨S2176x512, .f32⟩
  | .local _ .vmem, ⟨25, _⟩ => ⟨S8x128, .f32⟩
  | _, _ => ⟨S2176x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2176x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2176x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2176x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2176x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2176x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2176x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference4Ideal.lean ====
abbrev S2176x2048 : Shape := ⟨2, ![2176, 2048]⟩
abbrev S2048x2048 : Shape := ⟨2, ![2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2176x2048, .bf16⟩
  | .hbm, ⟨1, _⟩ => ⟨S2048x2048, .bf16⟩
  | .hbm, ⟨2, _⟩ => ⟨S2176x2048, .bf16⟩
  | .hbm, ⟨3, _⟩ => ⟨S2176x2048, .bf16⟩
  | .hbm, ⟨4, _⟩ => ⟨S2048x2048, .bf16⟩
  | .hbm, ⟨5, _⟩ => ⟨S2176x2048, .bf16⟩
  | .hbm, ⟨6, _⟩ => ⟨S2176x2048, .f32⟩
  | .hbm, ⟨7, _⟩ => ⟨S2048x2048, .f32⟩
  | .hbm, ⟨8, _⟩ => ⟨S2176x2048, .f32⟩
  | .hbm, ⟨9, _⟩ => ⟨S2176x2048, .f32⟩
  | .hbm, ⟨10, _⟩ => ⟨S2048x2048, .f32⟩
  | .hbm, ⟨11, _⟩ => ⟨S2176x2048, .f32⟩
  | .hbm, ⟨12, _⟩ => ⟨S2176x2048, .f32⟩
  | .hbm, ⟨13, _⟩ => ⟨S2048x2048, .f32⟩
  | .hbm, ⟨14, _⟩ => ⟨S2048x2048, .f32⟩
  | .hbm, ⟨15, _⟩ => ⟨S2176x2048, .f32⟩
  | .hbm, ⟨16, _⟩ => ⟨S2176x2048, .f32⟩
  | .hbm, ⟨17, _⟩ => ⟨S2048x2048, .f32⟩
  | .hbm, ⟨18, _⟩ => ⟨S2048x2048, .f32⟩
  | .hbm, ⟨19, _⟩ => ⟨S2176x2048, .f32⟩
  | .hbm, ⟨20, _⟩ => ⟨S2048x2048, .bf16⟩
  | .hbm, ⟨21, _⟩ => ⟨S2176x2048, .bf16⟩
  | .hbm, ⟨22, _⟩ => ⟨S2048x2048, .bf16⟩
  | _, _ => ⟨S2176x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S2176x2048 : Shape := ⟨2, ![2176, 2048]⟩
abbrev S1x2048 : Shape := ⟨2, ![1, 2048]⟩
abbrev S2048x4096 : Shape := ⟨2, ![2048, 4096]⟩
abbrev S2048x1152 : Shape := ⟨2, ![2048, 1152]⟩
abbrev S2176x4096 : Shape := ⟨2, ![2176, 4096]⟩
abbrev S2176x1152 : Shape := ⟨2, ![2176, 1152]⟩
abbrev S8x128 : Shape := ⟨2, ![8, 128]⟩
abbrev S128x2048 : Shape := ⟨2, ![128, 2048]⟩
abbrev S128 : Shape := ⟨1, ![128]⟩
abbrev S128x1 : Shape := ⟨2, ![128, 1]⟩
abbrev S2048x512 : Shape := ⟨2, ![2048, 512]⟩
abbrev S2176x512 : Shape := ⟨2, ![2176, 512]⟩
abbrev S2048x384 : Shape := ⟨2, ![2048, 384]⟩
abbrev S2176x384 : Shape := ⟨2, ![2176, 384]⟩
abbrev S2176x1024 : Shape := ⟨2, ![2176, 1024]⟩
abbrev S1024x512 : Shape := ⟨2, ![1024, 512]⟩
abbrev S1024x384 : Shape := ⟨2, ![1024, 384]⟩

abbrev nBuf : Space → Nat
  | .hbm => 16
  | .vmem => 44
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2048x4096, .bf16⟩
  | .hbm, ⟨3, _⟩ => ⟨S2048x1152, .bf16⟩
  | .hbm, ⟨4, _⟩ => ⟨S2048x4096, .bf16⟩
  | .hbm, ⟨5, _⟩ => ⟨S2176x4096, .bf16⟩
  | .hbm, ⟨6, _⟩ => ⟨S2176x1152, .bf16⟩
  | .hbm, ⟨7, _⟩ => ⟨S2176x4096, .bf16⟩
  | .hbm, ⟨8, _⟩ => ⟨S8x128, .f32⟩
  | .hbm, ⟨9, _⟩ => ⟨S2176x2048, .bf16⟩
  | .hbm, ⟨10, _⟩ => ⟨S2176x4096, .f32⟩
  | .hbm, ⟨11, _⟩ => ⟨S2176x1152, .f32⟩
  | .hbm, ⟨12, _⟩ => ⟨S2176x4096, .f32⟩
  | .hbm, ⟨13, _⟩ => ⟨S2048x4096, .bf16⟩
  | .hbm, ⟨14, _⟩ => ⟨S2048x1152, .bf16⟩
  | .hbm, ⟨15, _⟩ => ⟨S2048x4096, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .bf16⟩
  | .local _ .vmem, ⟨4, _⟩ => ⟨S128x2048, .bf16⟩
  | .local _ .vmem, ⟨5, _⟩ => ⟨S2176x2048, .bf16⟩
  | .local _ .vmem, ⟨6, _⟩ => ⟨S2048x512, .bf16⟩
  | .local _ .vmem, ⟨7, _⟩ => ⟨S2048x512, .bf16⟩
  | .local _ .vmem, ⟨8, _⟩ => ⟨S2176x512, .f32⟩
  | .local _ .vmem, ⟨9, _⟩ => ⟨S2176x512, .f32⟩
  | .local _ .vmem, ⟨10, _⟩ => ⟨S8x128, .f32⟩
  | .local _ .vmem, ⟨11, _⟩ => ⟨S2176x2048, .bf16⟩
  | .local _ .vmem, ⟨12, _⟩ => ⟨S2048x384, .bf16⟩
  | .local _ .vmem, ⟨13, _⟩ => ⟨S2048x384, .bf16⟩
  | .local _ .vmem, ⟨14, _⟩ => ⟨S2176x384, .f32⟩
  | .local _ .vmem, ⟨15, _⟩ => ⟨S2176x384, .f32⟩
  | .local _ .vmem, ⟨16, _⟩ => ⟨S8x128, .f32⟩
  | .local _ .vmem, ⟨17, _⟩ => ⟨S2176x2048, .bf16⟩
  | .local _ .vmem, ⟨18, _⟩ => ⟨S2048x512, .bf16⟩
  | .local _ .vmem, ⟨19, _⟩ => ⟨S2048x512, .bf16⟩
  | .local _ .vmem, ⟨20, _⟩ => ⟨S2176x512, .f32⟩
  | .local _ .vmem, ⟨21, _⟩ => ⟨S2176x512, .f32⟩
  | .local _ .vmem, ⟨22, _⟩ => ⟨S8x128, .f32⟩
  | .local _ .vmem, ⟨23, _⟩ => ⟨S2176x1024, .bf16⟩
  | .local _ .vmem, ⟨24, _⟩ => ⟨S2176x1024, .bf16⟩
  | .local _ .vmem, ⟨25, _⟩ => ⟨S2176x512, .bf16⟩
  | .local _ .vmem, ⟨26, _⟩ => ⟨S2176x512, .bf16⟩
  | .local _ .vmem, ⟨27, _⟩ => ⟨S1024x512, .bf16⟩
  | .local _ .vmem, ⟨28, _⟩ => ⟨S1024x512, .bf16⟩
  | .local _ .vmem, ⟨29, _⟩ => ⟨S8x128, .f32⟩
  | .local _ .vmem, ⟨30, _⟩ => ⟨S2176x1024, .bf16⟩
  | .local _ .vmem, ⟨31, _⟩ => ⟨S2176x1024, .bf16⟩
  | .local _ .vmem, ⟨32, _⟩ => ⟨S2176x384, .bf16⟩
  | .local _ .vmem, ⟨33, _⟩ => ⟨S2176x384, .bf16⟩
  | .local _ .vmem, ⟨34, _⟩ => ⟨S1024x384, .bf16⟩
  | .local _ .vmem, ⟨35, _⟩ => ⟨S1024x384, .bf16⟩
  | .local _ .vmem, ⟨36, _⟩ => ⟨S8x128, .f32⟩
  | .local _ .vmem, ⟨37, _⟩ => ⟨S2176x1024, .bf16⟩
  | .local _ .vmem, ⟨38, _⟩ => ⟨S2176x1024, .bf16⟩
  | .local _ .vmem, ⟨39, _⟩ => ⟨S2176x512, .bf16⟩
  | .local _ .vmem, ⟨40, _⟩ => ⟨S2176x512, .bf16⟩
  | .local _ .vmem, ⟨41, _⟩ => ⟨S1024x512, .bf16⟩
  | .local _ .vmem, ⟨42, _⟩ => ⟨S1024x512, .bf16⟩
  | .local _ .vmem, ⟨43, _⟩ => ⟨S8x128, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_scratch0 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc3_scratch0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_scratch0 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_scratch0 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg1_1 : Ref sig .tc := ⟨.vmem, 40, rfl⟩
abbrev cc6_stg2_0 : Ref sig .tc := ⟨.vmem, 41, rfl⟩
abbrev cc6_stg2_1 : Ref sig .tc := ⟨.vmem, 42, rfl⟩
abbrev cc6_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25
abbrev cc5_sem0_0 : DmaSem sig := 26
abbrev cc5_sem0_1 : DmaSem sig := 27
abbrev cc5_sem1_0 : DmaSem sig := 28
abbrev cc5_sem1_1 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem2_1 : DmaSem sig := 37

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2176x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2176x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 3, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2176x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2048x384 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2176x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2176x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2176x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 8, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2176x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S2176x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 3, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2176x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S2176x384 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x384 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![2, 8, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S2176x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2176x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== Reference5Ideal.lean ====
abbrev S2176x2048 : Shape := ⟨2, ![2176, 2048]⟩
abbrev S1x2048 : Shape := ⟨2, ![1, 2048]⟩
abbrev S2048x4096 : Shape := ⟨2, ![2048, 4096]⟩
abbrev S2048x1152 : Shape := ⟨2, ![2048, 1152]⟩
abbrev S2176x4096 : Shape := ⟨2, ![2176, 4096]⟩
abbrev S2176x1152 : Shape := ⟨2, ![2176, 1152]⟩
abbrev S8x128 : Shape := ⟨2, ![8, 128]⟩
abbrev S_ : Shape := ⟨0, ![]⟩
abbrev S2176 : Shape := ⟨1, ![2176]⟩
abbrev S2176x1 : Shape := ⟨2, ![2176, 1]⟩
abbrev S4096x2048 : Shape := ⟨2, ![4096, 2048]⟩
abbrev S1152x2048 : Shape := ⟨2, ![1152, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2048x4096, .bf16⟩
  | .hbm, ⟨3, _⟩ => ⟨S2048x1152, .bf16⟩
  | .hbm, ⟨4, _⟩ => ⟨S2048x4096, .bf16⟩
  | .hbm, ⟨5, _⟩ => ⟨S2176x4096, .bf16⟩
  | .hbm, ⟨6, _⟩ => ⟨S2176x1152, .bf16⟩
  | .hbm, ⟨7, _⟩ => ⟨S2176x4096, .bf16⟩
  | .hbm, ⟨8, _⟩ => ⟨S8x128, .f32⟩
  | .hbm, ⟨9, _⟩ => ⟨S2048x4096, .f32⟩
  | .hbm, ⟨10, _⟩ => ⟨S2048x1152, .f32⟩
  | .hbm, ⟨11, _⟩ => ⟨S2048x4096, .f32⟩
  | .hbm, ⟨12, _⟩ => ⟨S2176x4096, .f32⟩
  | .hbm, ⟨13, _⟩ => ⟨S2176x1152, .f32⟩
  | .hbm, ⟨14, _⟩ => ⟨S2176x4096, .f32⟩
  | .hbm, ⟨15, _⟩ => ⟨S2176x2048, .f32⟩
  | .hbm, ⟨16, _⟩ => ⟨S_, .f32⟩
  | .hbm, ⟨17, _⟩ => ⟨S2176, .f32⟩
  | .hbm, ⟨18, _⟩ => ⟨S2176x1, .f32⟩
  | .hbm, ⟨19, _⟩ => ⟨S_, .f32⟩
  | .hbm, ⟨20, _⟩ => ⟨S2176x1, .f32⟩
  | .hbm, ⟨21, _⟩ => ⟨S2176x1, .f32⟩
  | .hbm, ⟨22, _⟩ => ⟨S_, .f32⟩
  | .hbm, ⟨23, _⟩ => ⟨S2176x1, .f32⟩
  | .hbm, ⟨24, _⟩ => ⟨S2176x1, .f32⟩
  | .hbm, ⟨25, _⟩ => ⟨S2176x1, .f32⟩
  | .hbm, ⟨26, _⟩ => ⟨S2176x2048, .f32⟩
  | .hbm, ⟨27, _⟩ => ⟨S2176x2048, .f32⟩
  | .hbm, ⟨28, _⟩ => ⟨S2176x2048, .f32⟩
  | .hbm, ⟨29, _⟩ => ⟨S2176x2048, .f32⟩
  | .hbm, ⟨30, _⟩ => ⟨S2176x4096, .f32⟩
  | .hbm, ⟨31, _⟩ => ⟨S2176x1152, .f32⟩
  | .hbm, ⟨32, _⟩ => ⟨S2176x4096, .f32⟩
  | .hbm, ⟨33, _⟩ => ⟨S4096x2048, .f32⟩
  | .hbm, ⟨34, _⟩ => ⟨S2048x4096, .f32⟩
  | .hbm, ⟨35, _⟩ => ⟨S1152x2048, .f32⟩
  | .hbm, ⟨36, _⟩ => ⟨S2048x1152, .f32⟩
  | .hbm, ⟨37, _⟩ => ⟨S4096x2048, .f32⟩
  | .hbm, ⟨38, _⟩ => ⟨S2048x4096, .f32⟩
  | .hbm, ⟨39, _⟩ => ⟨S2048x4096, .bf16⟩
  | .hbm, ⟨40, _⟩ => ⟨S2048x1152, .bf16⟩
  | .hbm, ⟨41, _⟩ => ⟨S2048x4096, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel6.lean ====
abbrev S2176x512 : Shape := ⟨2, ![2176, 512]⟩
abbrev S512x3072 : Shape := ⟨2, ![512, 3072]⟩
abbrev S2176x3072 : Shape := ⟨2, ![2176, 3072]⟩
abbrev S512x4096 : Shape := ⟨2, ![512, 4096]⟩
abbrev S2176x4096 : Shape := ⟨2, ![2176, 4096]⟩
abbrev S512x512 : Shape := ⟨2, ![512, 512]⟩
abbrev S8x128 : Shape := ⟨2, ![8, 128]⟩

abbrev nBuf : Space → Nat
  | .hbm => 10
  | .vmem => 24
  | .smem => 0
  | _ => 0

abbrev bufTy : (tb : Table) → Fin (tcTables nBuf tb) → BufTy
  | .hbm, ⟨0, _⟩ => ⟨S2176x512, .bf16⟩
  | .hbm, ⟨1, _⟩ => ⟨S512x3072, .bf16⟩
  | .hbm, ⟨2, _⟩ => ⟨S2176x3072, .bf16⟩
  | .hbm, ⟨3, _⟩ => ⟨S2176x512, .bf16⟩
  | .hbm, ⟨4, _⟩ => ⟨S512x4096, .bf16⟩
  | .hbm, ⟨5, _⟩ => ⟨S2176x4096, .bf16⟩
  | .hbm, ⟨6, _⟩ => ⟨S2176x3072, .f32⟩
  | .hbm, ⟨7, _⟩ => ⟨S2176x4096, .f32⟩
  | .hbm, ⟨8, _⟩ => ⟨S512x3072, .bf16⟩
  | .hbm, ⟨9, _⟩ => ⟨S512x4096, .bf16⟩
  | .local _ .vmem, ⟨0, _⟩ => ⟨S2176x512, .bf16⟩
  | .local _ .vmem, ⟨1, _⟩ => ⟨S512x512, .bf16⟩
  | .local _ .vmem, ⟨2, _⟩ => ⟨S512x512, .bf16⟩
  | .local _ .vmem, ⟨3, _⟩ => ⟨S2176x512, .f32⟩
  | .local _ .vmem, ⟨4, _⟩ => ⟨S2176x512, .f32⟩
  | .local _ .vmem, ⟨5, _⟩ => ⟨S8x128, .f32⟩
  | .local _ .vmem, ⟨6, _⟩ => ⟨S2176x512, .bf16⟩
  | .local _ .vmem, ⟨7, _⟩ => ⟨S512x512, .bf16⟩
  | .local _ .vmem, ⟨8, _⟩ => ⟨S512x512, .bf16⟩
  | .local _ .vmem, ⟨9, _⟩ => ⟨S2176x512, .f32⟩
  | .local _ .vmem, ⟨10, _⟩ => ⟨S2176x512, .f32⟩
  | .local _ .vmem, ⟨11, _⟩ => ⟨S8x128, .f32⟩
  | .local _ .vmem, ⟨12, _⟩ => ⟨S2176x512, .bf16⟩
  | .local _ .vmem, ⟨13, _⟩ => ⟨S2176x512, .bf16⟩
  | .local _ .vmem, ⟨14, _⟩ => ⟨S2176x512, .bf16⟩
  | .local _ .vmem, ⟨15, _⟩ => ⟨S512x512, .bf16⟩
  | .local _ .vmem, ⟨16, _⟩ => ⟨S512x512, .bf16⟩
  | .local _ .vmem, ⟨17, _⟩ => ⟨S8x128, .f32⟩
  | .local _ .vmem, ⟨18, _⟩ => ⟨S2176x512, .bf16⟩
  | .local _ .vmem, ⟨19, _⟩ => ⟨S2176x512, .bf16⟩
  | .local _ .vmem, ⟨20, _⟩ => ⟨S2176x512, .bf16⟩
  | .local _ .vmem, ⟨21, _⟩ => ⟨S512x512, .bf16⟩
  | .local _ .vmem, ⟨22, _⟩ => ⟨S512x512, .bf16⟩
  | .local _ .vmem, ⟨23, _⟩ => ⟨S8x128, .f32⟩
  | _, _ => ⟨S2176x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2176x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2176x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 6, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2176x512 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2176x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2176x512 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2176x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference6Ideal.lean ====
abbrev S2176x512 : Shape := ⟨2, ![2176, 512]⟩
abbrev S512x3072 : Shape := ⟨2, ![512, 3072]⟩
abbrev S2176x3072 : Shape := ⟨2, ![2176, 3072]⟩
abbrev S512x4096 : Shape := ⟨2, ![512, 4096]⟩
abbrev S2176x4096 : Shape := ⟨2, ![2176, 4096]⟩
abbrev S3072x512 : Shape := ⟨2, ![3072, 512]⟩
abbrev S4096x512 : Shape := ⟨2, ![4096, 512]⟩

abbrev nBuf : Space → Nat
  | .hbm => 20
  | .vmem => 0
  | .smem => 0
  | _ => 0

abbrev bufTy : (tb : Table) → Fin (tcTables nBuf tb) → BufTy
  | .hbm, ⟨0, _⟩ => ⟨S2176x512, .bf16⟩
  | .hbm, ⟨1, _⟩ => ⟨S512x3072, .bf16⟩
  | .hbm, ⟨2, _⟩ => ⟨S2176x3072, .bf16⟩
  | .hbm, ⟨3, _⟩ => ⟨S2176x512, .bf16⟩
  | .hbm, ⟨4, _⟩ => ⟨S512x4096, .bf16⟩
  | .hbm, ⟨5, _⟩ => ⟨S2176x4096, .bf16⟩
  | .hbm, ⟨6, _⟩ => ⟨S2176x512, .f32⟩
  | .hbm, ⟨7, _⟩ => ⟨S512x3072, .f32⟩
  | .hbm, ⟨8, _⟩ => ⟨S2176x3072, .f32⟩
  | .hbm, ⟨9, _⟩ => ⟨S2176x512, .f32⟩
  | .hbm, ⟨10, _⟩ => ⟨S512x4096, .f32⟩
  | .hbm, ⟨11, _⟩ => ⟨S2176x4096, .f32⟩
  | .hbm, ⟨12, _⟩ => ⟨S2176x3072, .f32⟩
  | .hbm, ⟨13, _⟩ => ⟨S2176x4096, .f32⟩
  | .hbm, ⟨14, _⟩ => ⟨S3072x512, .f32⟩
  | .hbm, ⟨15, _⟩ => ⟨S512x3072, .f32⟩
  | .hbm, ⟨16, _⟩ => ⟨S512x3072, .bf16⟩
  | .hbm, ⟨17, _⟩ => ⟨S4096x512, .f32⟩
  | .hbm, ⟨18, _⟩ => ⟨S512x4096, .f32⟩
  | .hbm, ⟨19, _⟩ => ⟨S512x4096, .bf16⟩
  | _, _ => ⟨S2176x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel7.lean ====
abbrev S2176x11264 : Shape := ⟨2, ![2176, 11264]⟩
abbrev S2048x11264 : Shape := ⟨2, ![2048, 11264]⟩
abbrev S2176x2048 : Shape := ⟨2, ![2176, 2048]⟩
abbrev S2176x1408 : Shape := ⟨2, ![2176, 1408]⟩
abbrev S512x1408 : Shape := ⟨2, ![512, 1408]⟩
abbrev S2176x512 : Shape := ⟨2, ![2176, 512]⟩

abbrev nBuf : Space → Nat
  | .hbm => 3
  | .vmem => 7
  | .smem => 0
  | _ => 0

abbrev bufTy : (tb : Table) → Fin (tcTables nBuf tb) → BufTy
  | .hbm, ⟨0, _⟩ => ⟨S2176x11264, .bf16⟩
  | .hbm, ⟨1, _⟩ => ⟨S2048x11264, .bf16⟩
  | .hbm, ⟨2, _⟩ => ⟨S2176x2048, .f32⟩
  | .local _ .vmem, ⟨0, _⟩ => ⟨S2176x1408, .bf16⟩
  | .local _ .vmem, ⟨1, _⟩ => ⟨S2176x1408, .bf16⟩
  | .local _ .vmem, ⟨2, _⟩ => ⟨S512x1408, .bf16⟩
  | .local _ .vmem, ⟨3, _⟩ => ⟨S512x1408, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S2176x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2176x11264 : Shape := ⟨2, ![2176, 11264]⟩
abbrev S2048x11264 : Shape := ⟨2, ![2048, 11264]⟩
abbrev S2176x5632 : Shape := ⟨2, ![2176, 5632]⟩
abbrev S2048x5632 : Shape := ⟨2, ![2048, 5632]⟩
abbrev S_ : Shape := ⟨0, ![]⟩
abbrev S2176x2048 : Shape := ⟨2, ![2176, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2176x11264, .bf16⟩
  | .hbm, ⟨1, _⟩ => ⟨S2048x11264, .bf16⟩
  | .hbm, ⟨2, _⟩ => ⟨S2176x5632, .bf16⟩
  | .hbm, ⟨3, _⟩ => ⟨S2176x5632, .bf16⟩
  | .hbm, ⟨4, _⟩ => ⟨S2048x5632, .bf16⟩
  | .hbm, ⟨5, _⟩ => ⟨S2048x5632, .bf16⟩
  | .hbm, ⟨6, _⟩ => ⟨S2176x5632, .f32⟩
  | .hbm, ⟨7, _⟩ => ⟨S2176x5632, .f32⟩
  | .hbm, ⟨8, _⟩ => ⟨S2048x5632, .f32⟩
  | .hbm, ⟨9, _⟩ => ⟨S2048x5632, .f32⟩
  | .hbm, ⟨10, _⟩ => ⟨S_, .f32⟩
  | .hbm, ⟨11, _⟩ => ⟨S2176x2048, .f32⟩
  | .hbm, ⟨12, _⟩ => ⟨S2176x5632, .f32⟩
  | .hbm, ⟨13, _⟩ => ⟨S2176x5632, .f32⟩
  | .hbm, ⟨14, _⟩ => ⟨S2176x2048, .f32⟩
  | .hbm, ⟨15, _⟩ => ⟨S2176x2048, .f32⟩
  | .hbm, ⟨16, _⟩ => ⟨S2176x2048, .f32⟩
  | _, _ => ⟨S2176x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel8.lean ====
abbrev S2176x5632 : Shape := ⟨2, ![2176, 5632]⟩
abbrev S5632x2048 : Shape := ⟨2, ![5632, 2048]⟩
abbrev S2176x2048 : Shape := ⟨2, ![2176, 2048]⟩
abbrev S2176x1408 : Shape := ⟨2, ![2176, 1408]⟩
abbrev S1408x512 : Shape := ⟨2, ![1408, 512]⟩
abbrev S2176x512 : Shape := ⟨2, ![2176, 512]⟩

abbrev nBuf : Space → Nat
  | .hbm => 4
  | .vmem => 9
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x2048, .f32⟩
  | .hbm, ⟨3, _⟩ => ⟨S2176x2048, .f32⟩
  | .local _ .vmem, ⟨0, _⟩ => ⟨S2176x1408, .bf16⟩
  | .local _ .vmem, ⟨1, _⟩ => ⟨S2176x1408, .bf16⟩
  | .local _ .vmem, ⟨2, _⟩ => ⟨S1408x512, .bf16⟩
  | .local _ .vmem, ⟨3, _⟩ => ⟨S1408x512, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | .local _ .vmem, ⟨7, _⟩ => ⟨S2176x512, .f32⟩
  | .local _ .vmem, ⟨8, _⟩ => ⟨S2176x512, .f32⟩
  | _, _ => ⟨S2176x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2176x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S2176x5632 : Shape := ⟨2, ![2176, 5632]⟩
abbrev S5632x2048 : Shape := ⟨2, ![5632, 2048]⟩
abbrev S2176x2048 : Shape := ⟨2, ![2176, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2176x5632, .bf16⟩
  | .hbm, ⟨1, _⟩ => ⟨S5632x2048, .bf16⟩
  | .hbm, ⟨2, _⟩ => ⟨S2176x2048, .f32⟩
  | .hbm, ⟨3, _⟩ => ⟨S2176x5632, .f32⟩
  | .hbm, ⟨4, _⟩ => ⟨S5632x2048, .f32⟩
  | .hbm, ⟨5, _⟩ => ⟨S2176x2048, .f32⟩
  | .hbm, ⟨6, _⟩ => ⟨S2176x2048, .f32⟩
  | _, _ => ⟨S2176x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S2176x4096 : Shape := ⟨2, ![2176, 4096]⟩
abbrev S2048x4096 : Shape := ⟨2, ![2048, 4096]⟩
abbrev S2176x2048 : Shape := ⟨2, ![2176, 2048]⟩
abbrev S512x2048 : Shape := ⟨2, ![512, 2048]⟩
abbrev S2176x512 : Shape := ⟨2, ![2176, 512]⟩

abbrev nBuf : Space → Nat
  | .hbm => 3
  | .vmem => 7
  | .smem => 0
  | _ => 0

abbrev bufTy : (tb : Table) → Fin (tcTables nBuf tb) → BufTy
  | .hbm, ⟨0, _⟩ => ⟨S2176x4096, .bf16⟩
  | .hbm, ⟨1, _⟩ => ⟨S2048x4096, .bf16⟩
  | .hbm, ⟨2, _⟩ => ⟨S2176x2048, .f32⟩
  | .local _ .vmem, ⟨0, _⟩ => ⟨S2176x2048, .bf16⟩
  | .local _ .vmem, ⟨1, _⟩ => ⟨S2176x2048, .bf16⟩
  | .local _ .vmem, ⟨2, _⟩ => ⟨S512x2048, .bf16⟩
  | .local _ .vmem, ⟨3, _⟩ => ⟨S512x2048, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | _, _ => ⟨S2176x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2176x4096 : Shape := ⟨2, ![2176, 4096]⟩
abbrev S2048x4096 : Shape := ⟨2, ![2048, 4096]⟩
abbrev S_ : Shape := ⟨0, ![]⟩
abbrev S2176x2048 : Shape := ⟨2, ![2176, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2176x4096, .bf16⟩
  | .hbm, ⟨1, _⟩ => ⟨S2048x4096, .bf16⟩
  | .hbm, ⟨2, _⟩ => ⟨S2048x4096, .f32⟩
  | .hbm, ⟨3, _⟩ => ⟨S_, .f32⟩
  | .hbm, ⟨4, _⟩ => ⟨S2176x2048, .f32⟩
  | .hbm, ⟨5, _⟩ => ⟨S2176x4096, .f32⟩
  | .hbm, ⟨6, _⟩ => ⟨S2176x4096, .f32⟩
  | .hbm, ⟨7, _⟩ => ⟨S2176x2048, .f32⟩
  | _, _ => ⟨S2176x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S2176x1152 : Shape := ⟨2, ![2176, 1152]⟩
abbrev S2048x1152 : Shape := ⟨2, ![2048, 1152]⟩
abbrev S2176x2048 : Shape := ⟨2, ![2176, 2048]⟩
abbrev S512x1152 : Shape := ⟨2, ![512, 1152]⟩
abbrev S2176x512 : Shape := ⟨2, ![2176, 512]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S2176x1152, .bf16⟩
  | .hbm, ⟨1, _⟩ => ⟨S2048x1152, .bf16⟩
  | .hbm, ⟨2, _⟩ => ⟨S2176x2048, .f32⟩
  | .hbm, ⟨3, _⟩ => ⟨S2176x2048, .f32⟩
  | .local _ .vmem, ⟨0, _⟩ => ⟨S2176x1152, .bf16⟩
  | .local _ .vmem, ⟨1, _⟩ => ⟨S512x1152, .bf16⟩
  | .local _ .vmem, ⟨2, _⟩ => ⟨S512x1152, .bf16⟩
  | .local _ .vmem, ⟨3, _⟩ => ⟨S2176x512, .f32⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | .local _ .vmem, ⟨7, _⟩ => ⟨S8x128, .f32⟩
  | _, _ => ⟨S2176x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2176x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2176x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2176x1152 : Shape := ⟨2, ![2176, 1152]⟩
abbrev S2048x1152 : Shape := ⟨2, ![2048, 1152]⟩
abbrev S2176x2048 : Shape := ⟨2, ![2176, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2176x1152, .bf16⟩
  | .hbm, ⟨1, _⟩ => ⟨S2048x1152, .bf16⟩
  | .hbm, ⟨2, _⟩ => ⟨S2176x2048, .f32⟩
  | .hbm, ⟨3, _⟩ => ⟨S2048x1152, .f32⟩
  | .hbm, ⟨4, _⟩ => ⟨S2176x1152, .f32⟩
  | .hbm, ⟨5, _⟩ => ⟨S_, .f32⟩
  | .hbm, ⟨6, _⟩ => ⟨S2176x2048, .f32⟩
  | .hbm, ⟨7, _⟩ => ⟨S2176x1152, .f32⟩
  | .hbm, ⟨8, _⟩ => ⟨S2176x2048, .f32⟩
  | .hbm, ⟨9, _⟩ => ⟨S2176x2048, .f32⟩
  | _, _ => ⟨S2176x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel11.lean ====
abbrev S2176x4096 : Shape := ⟨2, ![2176, 4096]⟩
abbrev S2048x4096 : Shape := ⟨2, ![2048, 4096]⟩
abbrev S2176x2048 : Shape := ⟨2, ![2176, 2048]⟩
abbrev S512x2048 : Shape := ⟨2, ![512, 2048]⟩
abbrev S2176x512 : Shape := ⟨2, ![2176, 512]⟩

abbrev nBuf : Space → Nat
  | .hbm => 4
  | .vmem => 9
  | .smem => 0
  | _ => 0

abbrev bufTy : (tb : Table) → Fin (tcTables nBuf tb) → BufTy
  | .hbm, ⟨0, _⟩ => ⟨S2176x4096, .bf16⟩
  | .hbm, ⟨1, _⟩ => ⟨S2048x4096, .bf16⟩
  | .hbm, ⟨2, _⟩ => ⟨S2176x2048, .f32⟩
  | .hbm, ⟨3, _⟩ => ⟨S2176x2048, .f32⟩
  | .local _ .vmem, ⟨0, _⟩ => ⟨S2176x2048, .bf16⟩
  | .local _ .vmem, ⟨1, _⟩ => ⟨S2176x2048, .bf16⟩
  | .local _ .vmem, ⟨2, _⟩ => ⟨S512x2048, .bf16⟩
  | .local _ .vmem, ⟨3, _⟩ => ⟨S512x2048, .bf16⟩
  | .local _ .vmem, ⟨4, _⟩ => ⟨S2176x512, .f32⟩
  | .local _ .vmem, ⟨5, _⟩ => ⟨S2176x512, .f32⟩
  | .local _ .vmem, ⟨6, _⟩ => ⟨S2176x512, .f32⟩
  | .local _ .vmem, ⟨7, _⟩ => ⟨S2176x512, .f32⟩
  | .local _ .vmem, ⟨8, _⟩ => ⟨S2176x512, .f32⟩
  | _, _ => ⟨S2176x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2176x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S2176x4096 : Shape := ⟨2, ![2176, 4096]⟩
abbrev S2048x4096 : Shape := ⟨2, ![2048, 4096]⟩
abbrev S2176x2048 : Shape := ⟨2, ![2176, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2176x4096, .bf16⟩
  | .hbm, ⟨1, _⟩ => ⟨S2048x4096, .bf16⟩
  | .hbm, ⟨2, _⟩ => ⟨S2176x2048, .f32⟩
  | .hbm, ⟨3, _⟩ => ⟨S2048x4096, .f32⟩
  | .hbm, ⟨4, _⟩ => ⟨S2176x4096, .f32⟩
  | .hbm, ⟨5, _⟩ => ⟨S_, .f32⟩
  | .hbm, ⟨6, _⟩ => ⟨S2176x2048, .f32⟩
  | .hbm, ⟨7, _⟩ => ⟨S2176x4096, .f32⟩
  | .hbm, ⟨8, _⟩ => ⟨S2176x2048, .f32⟩
  | .hbm, ⟨9, _⟩ => ⟨S2176x2048, .f32⟩
  | _, _ => ⟨S2176x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel12.lean ====
abbrev S2176x3072 : Shape := ⟨2, ![2176, 3072]⟩
abbrev S512x3072 : Shape := ⟨2, ![512, 3072]⟩
abbrev S2176x512 : Shape := ⟨2, ![2176, 512]⟩
abbrev S2176x1536 : Shape := ⟨2, ![2176, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S2176x3072, .bf16⟩
  | .hbm, ⟨1, _⟩ => ⟨S512x3072, .bf16⟩
  | .hbm, ⟨2, _⟩ => ⟨S2176x512, .f32⟩
  | .local _ .vmem, ⟨0, _⟩ => ⟨S2176x1536, .bf16⟩
  | .local _ .vmem, ⟨1, _⟩ => ⟨S2176x1536, .bf16⟩
  | .local _ .vmem, ⟨2, _⟩ => ⟨S512x1536, .bf16⟩
  | .local _ .vmem, ⟨3, _⟩ => ⟨S512x1536, .bf16⟩
  | .local _ .vmem, ⟨4, _⟩ => ⟨S2176x512, .f32⟩
  | .local _ .vmem, ⟨5, _⟩ => ⟨S2176x512, .f32⟩
  | _, _ => ⟨S2176x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2176x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S2176x3072 : Shape := ⟨2, ![2176, 3072]⟩
abbrev S512x3072 : Shape := ⟨2, ![512, 3072]⟩
abbrev S_ : Shape := ⟨0, ![]⟩
abbrev S2176x512 : Shape := ⟨2, ![2176, 512]⟩

abbrev nBuf : Space → Nat
  | .hbm => 8
  | .vmem => 0
  | .smem => 0
  | _ => 0

abbrev bufTy : (tb : Table) → Fin (tcTables nBuf tb) → BufTy
  | .hbm, ⟨0, _⟩ => ⟨S2176x3072, .bf16⟩
  | .hbm, ⟨1, _⟩ => ⟨S512x3072, .bf16⟩
  | .hbm, ⟨2, _⟩ => ⟨S512x3072, .f32⟩
  | .hbm, ⟨3, _⟩ => ⟨S_, .f32⟩
  | .hbm, ⟨4, _⟩ => ⟨S2176x512, .f32⟩
  | .hbm, ⟨5, _⟩ => ⟨S2176x3072, .f32⟩
  | .hbm, ⟨6, _⟩ => ⟨S2176x3072, .f32⟩
  | .hbm, ⟨7, _⟩ => ⟨S2176x512, .f32⟩
  | _, _ => ⟨S2176x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S2176x4096 : Shape := ⟨2, ![2176, 4096]⟩
abbrev S512x4096 : Shape := ⟨2, ![512, 4096]⟩
abbrev S2176x512 : Shape := ⟨2, ![2176, 512]⟩
abbrev S2176x2048 : Shape := ⟨2, ![2176, 2048]⟩
abbrev S512x2048 : Shape := ⟨2, ![512, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2176x4096, .bf16⟩
  | .hbm, ⟨1, _⟩ => ⟨S512x4096, .bf16⟩
  | .hbm, ⟨2, _⟩ => ⟨S2176x512, .f32⟩
  | .local _ .vmem, ⟨0, _⟩ => ⟨S2176x2048, .bf16⟩
  | .local _ .vmem, ⟨1, _⟩ => ⟨S2176x2048, .bf16⟩
  | .local _ .vmem, ⟨2, _⟩ => ⟨S512x2048, .bf16⟩
  | .local _ .vmem, ⟨3, _⟩ => ⟨S512x2048, .bf16⟩
  | .local _ .vmem, ⟨4, _⟩ => ⟨S2176x512, .f32⟩
  | .local _ .vmem, ⟨5, _⟩ => ⟨S2176x512, .f32⟩
  | _, _ => ⟨S2176x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2176x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S2176x4096 : Shape := ⟨2, ![2176, 4096]⟩
abbrev S512x4096 : Shape := ⟨2, ![512, 4096]⟩
abbrev S_ : Shape := ⟨0, ![]⟩
abbrev S2176x512 : Shape := ⟨2, ![2176, 512]⟩

abbrev nBuf : Space → Nat
  | .hbm => 8
  | .vmem => 0
  | .smem => 0
  | _ => 0

abbrev bufTy : (tb : Table) → Fin (tcTables nBuf tb) → BufTy
  | .hbm, ⟨0, _⟩ => ⟨S2176x4096, .bf16⟩
  | .hbm, ⟨1, _⟩ => ⟨S512x4096, .bf16⟩
  | .hbm, ⟨2, _⟩ => ⟨S512x4096, .f32⟩
  | .hbm, ⟨3, _⟩ => ⟨S_, .f32⟩
  | .hbm, ⟨4, _⟩ => ⟨S2176x512, .f32⟩
  | .hbm, ⟨5, _⟩ => ⟨S2176x4096, .f32⟩
  | .hbm, ⟨6, _⟩ => ⟨S2176x4096, .f32⟩
  | .hbm, ⟨7, _⟩ => ⟨S2176x512, .f32⟩
  | _, _ => ⟨S2176x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S2176x2048 : Shape := ⟨2, ![2176, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2176x2048, .f32⟩
  | .hbm, ⟨3, _⟩ => ⟨S2176x2048, .f32⟩
  | .hbm, ⟨4, _⟩ => ⟨S2176x2048, .f32⟩
  | .hbm, ⟨5, _⟩ => ⟨S2176x2048, .bf16⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .bf16⟩
  | .local _ .vmem, ⟨10, _⟩ => ⟨S128x2048, .bf16⟩
  | .local _ .vmem, ⟨11, _⟩ => ⟨S1x2048, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_18 : BitVec 32 := 0#32
  let v43 : BitVec 1 := Scalar.cmpi .ne v42 c0_i32_18
  v43

def k0_cond2 (i : grid0.Coords) : BitVec 1 :=
  let arg0 : BitVec 32 := BitVec.ofNat 32 (i 0).val
  let c0_i32_19 : BitVec 32 := 0#32
  let v44 : BitVec 1 := Scalar.cmpi .sgt arg0 c0_i32_19
  let v45 : BitVec 32 := Scalar.extui v44
  let c0_i32_20 : BitVec 32 := 0#32
  let v46 : BitVec 1 := Scalar.cmpi .ne v45 c0_i32_20
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S2176x2048 : Shape := ⟨2, ![2176, 2048]⟩
abbrev S1x2048 : Shape := ⟨2, ![1, 2048]⟩
abbrev S_ : Shape := ⟨0, ![]⟩
abbrev S2176 : Shape := ⟨1, ![2176]⟩
abbrev S2176x1 : Shape := ⟨2, ![2176, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2176x2048, .f32⟩
  | .hbm, ⟨3, _⟩ => ⟨S2176x2048, .f32⟩
  | .hbm, ⟨4, _⟩ => ⟨S2176x2048, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x1, .f32⟩
  | .hbm, ⟨16, _⟩ => ⟨S_, .f32⟩
  | .hbm, ⟨17, _⟩ => ⟨S2176x1, .f32⟩
  | .hbm, ⟨18, _⟩ => ⟨S2176x1, .f32⟩
  | .hbm, ⟨19, _⟩ => ⟨S2176x2048, .f32⟩
  | .hbm, ⟨20, _⟩ => ⟨S2176x2048, .f32⟩
  | .hbm, ⟨21, _⟩ => ⟨S2176x2048, .f32⟩
  | .hbm, ⟨22, _⟩ => ⟨S2176x2048, .f32⟩
  | .hbm, ⟨23, _⟩ => ⟨S2176x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2176x2048, .f32⟩
  | .hbm, ⟨28, _⟩ => ⟨S2176x2048, .f32⟩
  | .hbm, ⟨29, _⟩ => ⟨S2176x2048, .f32⟩
  | .hbm, ⟨30, _⟩ => ⟨S_, .f32⟩
  | .hbm, ⟨31, _⟩ => ⟨S2176, .f32⟩
  | .hbm, ⟨32, _⟩ => ⟨S2176x1, .f32⟩
  | .hbm, ⟨33, _⟩ => ⟨S2176x2048, .f32⟩
  | .hbm, ⟨34, _⟩ => ⟨S2176x2048, .f32⟩
  | .hbm, ⟨35, _⟩ => ⟨S2176x1, .f32⟩
  | .hbm, ⟨36, _⟩ => ⟨S_, .f32⟩
  | .hbm, ⟨37, _⟩ => ⟨S2176x1, .f32⟩
  | .hbm, ⟨38, _⟩ => ⟨S2176x1, .f32⟩
  | .hbm, ⟨39, _⟩ => ⟨S_, .f32⟩
  | .hbm, ⟨40, _⟩ => ⟨S2176, .f32⟩
  | .hbm, ⟨41, _⟩ => ⟨S2176x2048, .f32⟩
  | .hbm, ⟨42, _⟩ => ⟨S2176x2048, .f32⟩
  | .hbm, ⟨43, _⟩ => ⟨S2176x2048, .f32⟩
  | .hbm, ⟨44, _⟩ => ⟨S2176x2048, .f32⟩
  | .hbm, ⟨45, _⟩ => ⟨S2176x2048, .f32⟩
  | .hbm, ⟨46, _⟩ => ⟨S2176x2048, .f32⟩
  | .hbm, ⟨47, _⟩ => ⟨S2176x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel15.lean ====
abbrev S2176x2048 : Shape := ⟨2, ![2176, 2048]⟩
abbrev S1x2048 : Shape := ⟨2, ![1, 2048]⟩
abbrev S2176x4096 : Shape := ⟨2, ![2176, 4096]⟩
abbrev S128x2048 : Shape := ⟨2, ![128, 2048]⟩
abbrev S128x4096 : Shape := ⟨2, ![128, 4096]⟩
abbrev S2048 : Shape := ⟨1, ![2048]⟩

abbrev nBuf : Space → Nat
  | .hbm => 13
  | .vmem => 22
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2176x2048, .f32⟩
  | .hbm, ⟨3, _⟩ => ⟨S2176x4096, .f32⟩
  | .hbm, ⟨4, _⟩ => ⟨S1x2048, .f32⟩
  | .hbm, ⟨5, _⟩ => ⟨S1x2048, .f32⟩
  | .hbm, ⟨6, _⟩ => ⟨S2176x2048, .f32⟩
  | .hbm, ⟨7, _⟩ => ⟨S2176x2048, .bf16⟩
  | .hbm, ⟨8, _⟩ => ⟨S2176x2048, .bf16⟩
  | .hbm, ⟨9, _⟩ => ⟨S2176x4096, .bf16⟩
  | .hbm, ⟨10, _⟩ => ⟨S1x2048, .f32⟩
  | .hbm, ⟨11, _⟩ => ⟨S1x2048, .f32⟩
  | .hbm, ⟨12, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S1x2048, .f32⟩
  | .local _ .vmem, ⟨10, _⟩ => ⟨S1x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x4096, .bf16⟩
  | .local _ .vmem, ⟨18, _⟩ => ⟨S128x4096, .bf16⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v69 : BitVec 1 := Scalar.cmpi .eq arg0 c0_i32
  let v70 : BitVec 32 := Scalar.extui v69
  let c0_i32_37 : BitVec 32 := 0#32
  let v71 : BitVec 1 := Scalar.cmpi .ne v70 c0_i32_37
  v71

def k0_cond2 (i : grid0.Coords) : BitVec 1 :=
  let arg0 : BitVec 32 := BitVec.ofNat 32 (i 0).val
  let c0_i32_38 : BitVec 32 := 0#32
  let v72 : BitVec 1 := Scalar.cmpi .sgt arg0 c0_i32_38
  let v73 : BitVec 32 := Scalar.extui v72
  let c0_i32_39 : BitVec 32 := 0#32
  let v74 : BitVec 1 := Scalar.cmpi .ne v73 c0_i32_39
  v74

def k0_cond3 (i : grid0.Coords) : BitVec 1 :=
  let arg0 : BitVec 32 := BitVec.ofNat 32 (i 0).val
  let c0_i32_40 : BitVec 32 := 0#32
  let v75 : BitVec 1 := Scalar.cmpi .eq arg0 c0_i32_40
  let v76 : BitVec 32 := Scalar.extui v75
  let c0_i32_41 : BitVec 32 := 0#32
  let v77 : BitVec 1 := Scalar.cmpi .ne v76 c0_i32_41
  v77

def k0_cond4 (i : grid0.Coords) : BitVec 1 :=
  let arg0 : BitVec 32 := BitVec.ofNat 32 (i 0).val
  let c0_i32_42 : BitVec 32 := 0#32
  let v78 : BitVec 1 := Scalar.cmpi .sgt arg0 c0_i32_42
  let v79 : BitVec 32 := Scalar.extui v78
  let c0_i32_43 : BitVec 32 := 0#32
  let v80 : BitVec 1 := Scalar.cmpi .ne v79 c0_i32_43
  v80

def k0_cond5 (i : grid0.Coords) : BitVec 1 :=
  let arg0 : BitVec 32 := BitVec.ofNat 32 (i 0).val
  let c0_i32_44 : BitVec 32 := 0#32
  let v81 : BitVec 1 := Scalar.cmpi .eq arg0 c0_i32_44
  let v82 : BitVec 32 := Scalar.extui v81
  let c0_i32_45 : BitVec 32 := 0#32
  let v83 : BitVec 1 := Scalar.cmpi .ne v82 c0_i32_45
  v83

def k0_cond6 (i : grid0.Coords) : BitVec 1 :=
  let arg0 : BitVec 32 := BitVec.ofNat 32 (i 0).val
  let c0_i32_46 : BitVec 32 := 0#32
  let v84 : BitVec 1 := Scalar.cmpi .sgt arg0 c0_i32_46
  let v85 : BitVec 32 := Scalar.extui v84
  let c0_i32_47 : BitVec 32 := 0#32
  let v86 : BitVec 1 := Scalar.cmpi .ne v85 c0_i32_47
  v86

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference15Ideal.lean ====
abbrev S2176x2048 : Shape := ⟨2, ![2176, 2048]⟩
abbrev S1x2048 : Shape := ⟨2, ![1, 2048]⟩
abbrev S2176x4096 : Shape := ⟨2, ![2176, 4096]⟩
abbrev S_ : Shape := ⟨0, ![]⟩
abbrev S2048 : Shape := ⟨1, ![2048]⟩

abbrev nBuf : Space → Nat
  | .hbm => 63
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2176x2048, .f32⟩
  | .hbm, ⟨3, _⟩ => ⟨S2176x4096, .f32⟩
  | .hbm, ⟨4, _⟩ => ⟨S1x2048, .f32⟩
  | .hbm, ⟨5, _⟩ => ⟨S1x2048, .f32⟩
  | .hbm, ⟨6, _⟩ => ⟨S2176x2048, .f32⟩
  | .hbm, ⟨7, _⟩ => ⟨S2176x2048, .f32⟩
  | .hbm, ⟨8, _⟩ => ⟨S2176x2048, .f32⟩
  | .hbm, ⟨9, _⟩ => ⟨S2176x2048, .f32⟩
  | .hbm, ⟨10, _⟩ => ⟨S2176x2048, .f32⟩
  | .hbm, ⟨11, _⟩ => ⟨S2176x2048, .f32⟩
  | .hbm, ⟨12, _⟩ => ⟨S2176x2048, .f32⟩
  | .hbm, ⟨13, _⟩ => ⟨S_, .f32⟩
  | .hbm, ⟨14, _⟩ => ⟨S2176x2048, .f32⟩
  | .hbm, ⟨15, _⟩ => ⟨S2176x2048, .f32⟩
  | .hbm, ⟨16, _⟩ => ⟨S_, .f32⟩
  | .hbm, ⟨17, _⟩ => ⟨S2176x2048, .f32⟩
  | .hbm, ⟨18, _⟩ => ⟨S2176x2048, .f32⟩
  | .hbm, ⟨19, _⟩ => ⟨S_, .f32⟩
  | .hbm, ⟨20, _⟩ => ⟨S2176x2048, .f32⟩
  | .hbm, ⟨21, _⟩ => ⟨S2176x2048, .f32⟩
  | .hbm, ⟨22, _⟩ => ⟨S2176x2048, .f32⟩
  | .hbm, ⟨23, _⟩ => ⟨S2176x2048, .f32⟩
  | .hbm, ⟨24, _⟩ => ⟨S2176x2048, .f32⟩
  | .hbm, ⟨25, _⟩ => ⟨S2176x2048, .f32⟩
  | .hbm, ⟨26, _⟩ => ⟨S2176x2048, .f32⟩
  | .hbm, ⟨27, _⟩ => ⟨S_, .f32⟩
  | .hbm, ⟨28, _⟩ => ⟨S2176x2048, .f32⟩
  | .hbm, ⟨29, _⟩ => ⟨S2176x2048, .f32⟩
  | .hbm, ⟨30, _⟩ => ⟨S_, .f32⟩
  | .hbm, ⟨31, _⟩ => ⟨S2176x2048, .f32⟩
  | .hbm, ⟨32, _⟩ => ⟨S2176x2048, .f32⟩
  | .hbm, ⟨33, _⟩ => ⟨S_, .f32⟩
  | .hbm, ⟨34, _⟩ => ⟨S2176x2048, .f32⟩
  | .hbm, ⟨35, _⟩ => ⟨S2176x2048, .f32⟩
  | .hbm, ⟨36, _⟩ => ⟨S2176x2048, .f32⟩
  | .hbm, ⟨37, _⟩ => ⟨S2176x2048, .f32⟩
  | .hbm, ⟨38, _⟩ => ⟨S2176x2048, .f32⟩
  | .hbm, ⟨39, _⟩ => ⟨S2176x2048, .f32⟩
  | .hbm, ⟨40, _⟩ => ⟨S2176x2048, .f32⟩
  | .hbm, ⟨41, _⟩ => ⟨S2176x2048, .f32⟩
  | .hbm, ⟨42, _⟩ => ⟨S2176x2048, .f32⟩
  | .hbm, ⟨43, _⟩ => ⟨S2176x2048, .f32⟩
  | .hbm, ⟨44, _⟩ => ⟨S2176x2048, .f32⟩
  | .hbm, ⟨45, _⟩ => ⟨S2176x2048, .f32⟩
  | .hbm, ⟨46, _⟩ => ⟨S2176x2048, .f32⟩
  | .hbm, ⟨47, _⟩ => ⟨S2176x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2176x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S2176x2048, .f32⟩
  | .hbm, ⟨56, _⟩ => ⟨S_, .f32⟩
  | .hbm, ⟨57, _⟩ => ⟨S2048, .f32⟩
  | .hbm, ⟨58, _⟩ => ⟨S1x2048, .f32⟩
  | .hbm, ⟨59, _⟩ => ⟨S2176x2048, .bf16⟩
  | .hbm, ⟨60, _⟩ => ⟨S2176x2048, .bf16⟩
  | .hbm, ⟨61, _⟩ => ⟨S2176x4096, .f32⟩
  | .hbm, ⟨62, _⟩ => ⟨S2176x4096, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel16.lean ====
abbrev S2176x4096 : Shape := ⟨2, ![2176, 4096]⟩
abbrev S1x2048 : Shape := ⟨2, ![1, 2048]⟩
abbrev S2176x2048 : Shape := ⟨2, ![2176, 2048]⟩
abbrev S128x2048 : Shape := ⟨2, ![128, 2048]⟩
abbrev S128x4096 : Shape := ⟨2, ![128, 4096]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2176x4096, .f32⟩
  | .hbm, ⟨1, _⟩ => ⟨S1x2048, .f32⟩
  | .hbm, ⟨2, _⟩ => ⟨S1x2048, .f32⟩
  | .hbm, ⟨3, _⟩ => ⟨S2176x2048, .f32⟩
  | .hbm, ⟨4, _⟩ => ⟨S2176x4096, .bf16⟩
  | .hbm, ⟨5, _⟩ => ⟨S1x2048, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | .local _ .vmem, ⟨8, _⟩ => ⟨S128x4096, .bf16⟩
  | .local _ .vmem, ⟨9, _⟩ => ⟨S128x4096, .bf16⟩
  | .local _ .vmem, ⟨10, _⟩ => ⟨S1x2048, .f32⟩
  | .local _ .vmem, ⟨11, _⟩ => ⟨S1x2048, .f32⟩
  | _, _ => ⟨S2176x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_19 : BitVec 32 := 0#32
  let v38 : BitVec 1 := Scalar.cmpi .ne v37 c0_i32_19
  v38

def k0_cond2 (i : grid0.Coords) : BitVec 1 :=
  let arg0 : BitVec 32 := BitVec.ofNat 32 (i 0).val
  let c0_i32_20 : BitVec 32 := 0#32
  let v39 : BitVec 1 := Scalar.cmpi .sgt arg0 c0_i32_20
  let v40 : BitVec 32 := Scalar.extui v39
  let c0_i32_21 : BitVec 32 := 0#32
  let v41 : BitVec 1 := Scalar.cmpi .ne v40 c0_i32_21
  v41

def k0_cond3 (i : grid0.Coords) : BitVec 1 :=
  let arg0 : BitVec 32 := BitVec.ofNat 32 (i 0).val
  let c0_i32_22 : BitVec 32 := 0#32
  let v42 : BitVec 1 := Scalar.cmpi .eq arg0 c0_i32_22
  let v43 : BitVec 32 := Scalar.extui v42
  let c0_i32_23 : BitVec 32 := 0#32
  let v44 : BitVec 1 := Scalar.cmpi .ne v43 c0_i32_23
  v44

def k0_cond4 (i : grid0.Coords) : BitVec 1 :=
  let arg0 : BitVec 32 := BitVec.ofNat 32 (i 0).val
  let c0_i32_24 : BitVec 32 := 0#32
  let v45 : BitVec 1 := Scalar.cmpi .sgt arg0 c0_i32_24
  let v46 : BitVec 32 := Scalar.extui v45
  let c0_i32_25 : BitVec 32 := 0#32
  let v47 : BitVec 1 := Scalar.cmpi .ne v46 c0_i32_25
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference16Ideal.lean ====
abbrev S2176x4096 : Shape := ⟨2, ![2176, 4096]⟩
abbrev S1x2048 : Shape := ⟨2, ![1, 2048]⟩
abbrev S2176x2048 : Shape := ⟨2, ![2176, 2048]⟩
abbrev S_ : Shape := ⟨0, ![]⟩
abbrev S2048 : Shape := ⟨1, ![2048]⟩

abbrev nBuf : Space → Nat
  | .hbm => 34
  | .vmem => 0
  | .smem => 0
  | _ => 0

abbrev bufTy : (tb : Table) → Fin (tcTables nBuf tb) → BufTy
  | .hbm, ⟨0, _⟩ => ⟨S2176x4096, .f32⟩
  | .hbm, ⟨1, _⟩ => ⟨S1x2048, .f32⟩
  | .hbm, ⟨2, _⟩ => ⟨S1x2048, .f32⟩
  | .hbm, ⟨3, _⟩ => ⟨S2176x2048, .f32⟩
  | .hbm, ⟨4, _⟩ => ⟨S2176x2048, .f32⟩
  | .hbm, ⟨5, _⟩ => ⟨S2176x2048, .f32⟩
  | .hbm, ⟨6, _⟩ => ⟨S2176x2048, .f32⟩
  | .hbm, ⟨7, _⟩ => ⟨S2176x2048, .f32⟩
  | .hbm, ⟨8, _⟩ => ⟨S2176x2048, .f32⟩
  | .hbm, ⟨9, _⟩ => ⟨S2176x2048, .f32⟩
  | .hbm, ⟨10, _⟩ => ⟨S2176x2048, .f32⟩
  | .hbm, ⟨11, _⟩ => ⟨S2176x2048, .f32⟩
  | .hbm, ⟨12, _⟩ => ⟨S_, .f32⟩
  | .hbm, ⟨13, _⟩ => ⟨S2176x2048, .f32⟩
  | .hbm, ⟨14, _⟩ => ⟨S2176x2048, .f32⟩
  | .hbm, ⟨15, _⟩ => ⟨S_, .f32⟩
  | .hbm, ⟨16, _⟩ => ⟨S2176x2048, .f32⟩
  | .hbm, ⟨17, _⟩ => ⟨S2176x2048, .f32⟩
  | .hbm, ⟨18, _⟩ => ⟨S_, .f32⟩
  | .hbm, ⟨19, _⟩ => ⟨S2176x2048, .f32⟩
  | .hbm, ⟨20, _⟩ => ⟨S2176x2048, .f32⟩
  | .hbm, ⟨21, _⟩ => ⟨S2176x2048, .f32⟩
  | .hbm, ⟨22, _⟩ => ⟨S2176x2048, .f32⟩
  | .hbm, ⟨23, _⟩ => ⟨S2176x2048, .f32⟩
  | .hbm, ⟨24, _⟩ => ⟨S2176x2048, .f32⟩
  | .hbm, ⟨25, _⟩ => ⟨S2176x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S2176x4096, .f32⟩
  | .hbm, ⟨33, _⟩ => ⟨S2176x4096, .bf16⟩
  | _, _ => ⟨S2176x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel17.lean ====
abbrev S2176x1152 : Shape := ⟨2, ![2176, 1152]⟩
abbrev S1x512 : Shape := ⟨2, ![1, 512]⟩
abbrev S2176x512 : Shape := ⟨2, ![2176, 512]⟩
abbrev S2176x128 : Shape := ⟨2, ![2176, 128]⟩
abbrev S128x512 : Shape := ⟨2, ![128, 512]⟩
abbrev S128x128 : Shape := ⟨2, ![128, 128]⟩
abbrev S128x1152 : Shape := ⟨2, ![128, 1152]⟩
abbrev S128 : Shape := ⟨1, ![128]⟩
abbrev S128x1 : Shape := ⟨2, ![128, 1]⟩
abbrev S512 : Shape := ⟨1, ![512]⟩

abbrev nBuf : Space → Nat
  | .hbm => 9
  | .vmem => 16
  | .smem => 0
  | _ => 0

abbrev bufTy : (tb : Table) → Fin (tcTables nBuf tb) → BufTy
  | .hbm, ⟨0, _⟩ => ⟨S2176x1152, .f32⟩
  | .hbm, ⟨1, _⟩ => ⟨S1x512, .f32⟩
  | .hbm, ⟨2, _⟩ => ⟨S1x512, .f32⟩
  | .hbm, ⟨3, _⟩ => ⟨S2176x512, .f32⟩
  | .hbm, ⟨4, _⟩ => ⟨S2176x512, .f32⟩
  | .hbm, ⟨5, _⟩ => ⟨S2176x128, .f32⟩
  | .hbm, ⟨6, _⟩ => ⟨S2176x1152, .bf16⟩
  | .hbm, ⟨7, _⟩ => ⟨S1x512, .f32⟩
  | .hbm, ⟨8, _⟩ => ⟨S1x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x128, .f32⟩
  | .local _ .vmem, ⟨11, _⟩ => ⟨S128x128, .f32⟩
  | .local _ .vmem, ⟨12, _⟩ => ⟨S128x1152, .bf16⟩
  | .local _ .vmem, ⟨13, _⟩ => ⟨S128x1152, .bf16⟩
  | .local _ .vmem, ⟨14, _⟩ => ⟨S1x512, .f32⟩
  | .local _ .vmem, ⟨15, _⟩ => ⟨S1x512, .f32⟩
  | _, _ => ⟨S2176x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v76 : BitVec 1 := Scalar.cmpi .eq arg0 c0_i32
  let v77 : BitVec 32 := Scalar.extui v76
  let c0_i32_30 : BitVec 32 := 0#32
  let v78 : BitVec 1 := Scalar.cmpi .ne v77 c0_i32_30
  v78

def k0_cond2 (i : grid0.Coords) : BitVec 1 :=
  let arg0 : BitVec 32 := BitVec.ofNat 32 (i 0).val
  let c0_i32_31 : BitVec 32 := 0#32
  let v79 : BitVec 1 := Scalar.cmpi .sgt arg0 c0_i32_31
  let v80 : BitVec 32 := Scalar.extui v79
  let c0_i32_32 : BitVec 32 := 0#32
  let v81 : BitVec 1 := Scalar.cmpi .ne v80 c0_i32_32
  v81

def k0_cond3 (i : grid0.Coords) : BitVec 1 :=
  let arg0 : BitVec 32 := BitVec.ofNat 32 (i 0).val
  let c0_i32_33 : BitVec 32 := 0#32
  let v82 : BitVec 1 := Scalar.cmpi .eq arg0 c0_i32_33
  let v83 : BitVec 32 := Scalar.extui v82
  let c0_i32_34 : BitVec 32 := 0#32
  let v84 : BitVec 1 := Scalar.cmpi .ne v83 c0_i32_34
  v84

def k0_cond4 (i : grid0.Coords) : BitVec 1 :=
  let arg0 : BitVec 32 := BitVec.ofNat 32 (i 0).val
  let c0_i32_35 : BitVec 32 := 0#32
  let v85 : BitVec 1 := Scalar.cmpi .sgt arg0 c0_i32_35
  let v86 : BitVec 32 := Scalar.extui v85
  let c0_i32_36 : BitVec 32 := 0#32
  let v87 : BitVec 1 := Scalar.cmpi .ne v86 c0_i32_36
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1152 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference17Ideal.lean ====
abbrev S2176x1152 : Shape := ⟨2, ![2176, 1152]⟩
abbrev S1x512 : Shape := ⟨2, ![1, 512]⟩
abbrev S2176x512 : Shape := ⟨2, ![2176, 512]⟩
abbrev S2176x128 : Shape := ⟨2, ![2176, 128]⟩
abbrev S_ : Shape := ⟨0, ![]⟩
abbrev S2176 : Shape := ⟨1, ![2176]⟩
abbrev S2176x1 : Shape := ⟨2, ![2176, 1]⟩
abbrev S512 : Shape := ⟨1, ![512]⟩

abbrev nBuf : Space → Nat
  | .hbm => 94
  | .vmem => 0
  | .smem => 0
  | _ => 0

abbrev bufTy : (tb : Table) → Fin (tcTables nBuf tb) → BufTy
  | .hbm, ⟨0, _⟩ => ⟨S2176x1152, .f32⟩
  | .hbm, ⟨1, _⟩ => ⟨S1x512, .f32⟩
  | .hbm, ⟨2, _⟩ => ⟨S1x512, .f32⟩
  | .hbm, ⟨3, _⟩ => ⟨S2176x512, .f32⟩
  | .hbm, ⟨4, _⟩ => ⟨S2176x512, .f32⟩
  | .hbm, ⟨5, _⟩ => ⟨S2176x128, .f32⟩
  | .hbm, ⟨6, _⟩ => ⟨S2176x512, .f32⟩
  | .hbm, ⟨7, _⟩ => ⟨S2176x512, .f32⟩
  | .hbm, ⟨8, _⟩ => ⟨S_, .f32⟩
  | .hbm, ⟨9, _⟩ => ⟨S2176, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S_, .f32⟩
  | .hbm, ⟨15, _⟩ => ⟨S2176x1, .f32⟩
  | .hbm, ⟨16, _⟩ => ⟨S2176x1, .f32⟩
  | .hbm, ⟨17, _⟩ => ⟨S2176x1, .f32⟩
  | .hbm, ⟨18, _⟩ => ⟨S2176x1, .f32⟩
  | .hbm, ⟨19, _⟩ => ⟨S_, .f32⟩
  | .hbm, ⟨20, _⟩ => ⟨S2176x1, .f32⟩
  | .hbm, ⟨21, _⟩ => ⟨S2176x1, .f32⟩
  | .hbm, ⟨22, _⟩ => ⟨S2176x512, .f32⟩
  | .hbm, ⟨23, _⟩ => ⟨S2176x512, .f32⟩
  | .hbm, ⟨24, _⟩ => ⟨S2176x512, .f32⟩
  | .hbm, ⟨25, _⟩ => ⟨S2176x512, .f32⟩
  | .hbm, ⟨26, _⟩ => ⟨S2176x512, .f32⟩
  | .hbm, ⟨27, _⟩ => ⟨S_, .f32⟩
  | .hbm, ⟨28, _⟩ => ⟨S512, .f32⟩
  | .hbm, ⟨29, _⟩ => ⟨S1x512, .f32⟩
  | .hbm, ⟨30, _⟩ => ⟨S2176x512, .f32⟩
  | .hbm, ⟨31, _⟩ => ⟨S2176x512, .f32⟩
  | .hbm, ⟨32, _⟩ => ⟨S2176x512, .f32⟩
  | .hbm, ⟨33, _⟩ => ⟨S_, .f32⟩
  | .hbm, ⟨34, _⟩ => ⟨S2176, .f32⟩
  | .hbm, ⟨35, _⟩ => ⟨S2176x1, .f32⟩
  | .hbm, ⟨36, _⟩ => ⟨S2176x512, .f32⟩
  | .hbm, ⟨37, _⟩ => ⟨S2176x512, .f32⟩
  | .hbm, ⟨38, _⟩ => ⟨S2176x1, .f32⟩
  | .hbm, ⟨39, _⟩ => ⟨S_, .f32⟩
  | .hbm, ⟨40, _⟩ => ⟨S2176x1, .f32⟩
  | .hbm, ⟨41, _⟩ => ⟨S2176x1, .f32⟩
  | .hbm, ⟨42, _⟩ => ⟨S_, .f32⟩
  | .hbm, ⟨43, _⟩ => ⟨S2176, .f32⟩
  | .hbm, ⟨44, _⟩ => ⟨S2176x512, .f32⟩
  | .hbm, ⟨45, _⟩ => ⟨S2176x512, .f32⟩
  | .hbm, ⟨46, _⟩ => ⟨S2176x512, .f32⟩
  | .hbm, ⟨47, _⟩ => ⟨S2176x512, .f32⟩
  | .hbm, ⟨48, _⟩ => ⟨S2176x512, .f32⟩
  | .hbm, ⟨49, _⟩ => ⟨S2176x512, .f32⟩
  | .hbm, ⟨50, _⟩ => ⟨S2176x512, .f32⟩
  | .hbm, ⟨51, _⟩ => ⟨S_, .f32⟩
  | .hbm, ⟨52, _⟩ => ⟨S2176, .f32⟩
  | .hbm, ⟨53, _⟩ => ⟨S2176x1, .f32⟩
  | .hbm, ⟨54, _⟩ => ⟨S_, .f32⟩
  | .hbm, ⟨55, _⟩ => ⟨S2176x1, .f32⟩
  | .hbm, ⟨56, _⟩ => ⟨S2176x1, .f32⟩
  | .hbm, ⟨57, _⟩ => ⟨S_, .f32⟩
  | .hbm, ⟨58, _⟩ => ⟨S2176x1, .f32⟩
  | .hbm, ⟨59, _⟩ => ⟨S2176x1, .f32⟩
  | .hbm, ⟨60, _⟩ => ⟨S2176x1, .f32⟩
  | .hbm, ⟨61, _⟩ => ⟨S2176x1, .f32⟩
  | .hbm, ⟨62, _⟩ => ⟨S_, .f32⟩
  | .hbm, ⟨63, _⟩ => ⟨S2176x1, .f32⟩
  | .hbm, ⟨64, _⟩ => ⟨S2176x1, .f32⟩
  | .hbm, ⟨65, _⟩ => ⟨S2176x512, .f32⟩
  | .hbm, ⟨66, _⟩ => ⟨S2176x512, .f32⟩
  | .hbm, ⟨67, _⟩ => ⟨S2176x512, .f32⟩
  | .hbm, ⟨68, _⟩ => ⟨S2176x512, .f32⟩
  | .hbm, ⟨69, _⟩ => ⟨S2176x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S2176x512, .f32⟩
  | .hbm, ⟨74, _⟩ => ⟨S2176x512, .f32⟩
  | .hbm, ⟨75, _⟩ => ⟨S2176x512, .f32⟩
  | .hbm, ⟨76, _⟩ => ⟨S_, .f32⟩
  | .hbm, ⟨77, _⟩ => ⟨S2176, .f32⟩
  | .hbm, ⟨78, _⟩ => ⟨S2176x1, .f32⟩
  | .hbm, ⟨79, _⟩ => ⟨S2176x512, .f32⟩
  | .hbm, ⟨80, _⟩ => ⟨S2176x512, .f32⟩
  | .hbm, ⟨81, _⟩ => ⟨S2176x1, .f32⟩
  | .hbm, ⟨82, _⟩ => ⟨S_, .f32⟩
  | .hbm, ⟨83, _⟩ => ⟨S2176x1, .f32⟩
  | .hbm, ⟨84, _⟩ => ⟨S2176x1, .f32⟩
  | .hbm, ⟨85, _⟩ => ⟨S_, .f32⟩
  | .hbm, ⟨86, _⟩ => ⟨S2176, .f32⟩
  | .hbm, ⟨87, _⟩ => ⟨S2176x512, .f32⟩
  | .hbm, ⟨88, _⟩ => ⟨S2176x512, .f32⟩
  | .hbm, ⟨89, _⟩ => ⟨S2176x512, .f32⟩
  | .hbm, ⟨90, _⟩ => ⟨S2176x512, .f32⟩
  | .hbm, ⟨91, _⟩ => ⟨S2176x512, .f32⟩
  | .hbm, ⟨92, _⟩ => ⟨S2176x1152, .f32⟩
  | .hbm, ⟨93, _⟩ => ⟨S2176x1152, .bf16⟩
  | _, _ => ⟨S2176x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_12 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Kernel18.lean ====
abbrev S2176x2048 : Shape := ⟨2, ![2176, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S1x2048, .f32⟩
  | .hbm, ⟨3, _⟩ => ⟨S2176x2048, .f32⟩
  | .hbm, ⟨4, _⟩ => ⟨S2176x2048, .f32⟩
  | .hbm, ⟨5, _⟩ => ⟨S1x2048, .f32⟩
  | .hbm, ⟨6, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x2048, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v88 : BitVec 1 := Scalar.cmpi .eq arg0 c0_i32
  let v89 : BitVec 32 := Scalar.extui v88
  let c0_i32_33 : BitVec 32 := 0#32
  let v90 : BitVec 1 := Scalar.cmpi .ne v89 c0_i32_33
  v90

def k0_cond2 (i : grid0.Coords) : BitVec 1 :=
  let arg0 : BitVec 32 := BitVec.ofNat 32 (i 0).val
  let c0_i32_34 : BitVec 32 := 0#32
  let v91 : BitVec 1 := Scalar.cmpi .sgt arg0 c0_i32_34
  let v92 : BitVec 32 := Scalar.extui v91
  let c0_i32_35 : BitVec 32 := 0#32
  let v93 : BitVec 1 := Scalar.cmpi .ne v92 c0_i32_35
  v93

def k0_cond3 (i : grid0.Coords) : BitVec 1 :=
  let arg0 : BitVec 32 := BitVec.ofNat 32 (i 0).val
  let c0_i32_36 : BitVec 32 := 0#32
  let v94 : BitVec 1 := Scalar.cmpi .eq arg0 c0_i32_36
  let v95 : BitVec 32 := Scalar.extui v94
  let c0_i32_37 : BitVec 32 := 0#32
  let v96 : BitVec 1 := Scalar.cmpi .ne v95 c0_i32_37
  v96

def k0_cond4 (i : grid0.Coords) : BitVec 1 :=
  let arg0 : BitVec 32 := BitVec.ofNat 32 (i 0).val
  let c0_i32_38 : BitVec 32 := 0#32
  let v97 : BitVec 1 := Scalar.cmpi .sgt arg0 c0_i32_38
  let v98 : BitVec 32 := Scalar.extui v97
  let c0_i32_39 : BitVec 32 := 0#32
  let v99 : BitVec 1 := Scalar.cmpi .ne v98 c0_i32_39
  v99

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S2176x2048 : Shape := ⟨2, ![2176, 2048]⟩
abbrev S1x2048 : Shape := ⟨2, ![1, 2048]⟩
abbrev S_ : Shape := ⟨0, ![]⟩
abbrev S2176 : Shape := ⟨1, ![2176]⟩
abbrev S2176x1 : Shape := ⟨2, ![2176, 1]⟩
abbrev S2048 : Shape := ⟨1, ![2048]⟩

abbrev nBuf : Space → Nat
  | .hbm => 95
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S1x2048, .f32⟩
  | .hbm, ⟨3, _⟩ => ⟨S2176x2048, .f32⟩
  | .hbm, ⟨4, _⟩ => ⟨S_, .f32⟩
  | .hbm, ⟨5, _⟩ => ⟨S2176, .f32⟩
  | .hbm, ⟨6, _⟩ => ⟨S2176x1, .f32⟩
  | .hbm, ⟨7, _⟩ => ⟨S_, .f32⟩
  | .hbm, ⟨8, _⟩ => ⟨S2176x1, .f32⟩
  | .hbm, ⟨9, _⟩ => ⟨S2176x1, .f32⟩
  | .hbm, ⟨10, _⟩ => ⟨S2176x2048, .f32⟩
  | .hbm, ⟨11, _⟩ => ⟨S2176x2048, .f32⟩
  | .hbm, ⟨12, _⟩ => ⟨S2176x2048, .f32⟩
  | .hbm, ⟨13, _⟩ => ⟨S_, .f32⟩
  | .hbm, ⟨14, _⟩ => ⟨S2176x2048, .f32⟩
  | .hbm, ⟨15, _⟩ => ⟨S2176x2048, .f32⟩
  | .hbm, ⟨16, _⟩ => ⟨S_, .f32⟩
  | .hbm, ⟨17, _⟩ => ⟨S2176, .f32⟩
  | .hbm, ⟨18, _⟩ => ⟨S2176x1, .f32⟩
  | .hbm, ⟨19, _⟩ => ⟨S_, .f32⟩
  | .hbm, ⟨20, _⟩ => ⟨S2176x1, .f32⟩
  | .hbm, ⟨21, _⟩ => ⟨S2176x1, .f32⟩
  | .hbm, ⟨22, _⟩ => ⟨S2176x2048, .f32⟩
  | .hbm, ⟨23, _⟩ => ⟨S2176x2048, .f32⟩
  | .hbm, ⟨24, _⟩ => ⟨S_, .f32⟩
  | .hbm, ⟨25, _⟩ => ⟨S2176x1, .f32⟩
  | .hbm, ⟨26, _⟩ => ⟨S2176x1, .f32⟩
  | .hbm, ⟨27, _⟩ => ⟨S2176x1, .f32⟩
  | .hbm, ⟨28, _⟩ => ⟨S2176x1, .f32⟩
  | .hbm, ⟨29, _⟩ => ⟨S_, .f32⟩
  | .hbm, ⟨30, _⟩ => ⟨S2176x1, .f32⟩
  | .hbm, ⟨31, _⟩ => ⟨S2176x1, .f32⟩
  | .hbm, ⟨32, _⟩ => ⟨S2176x2048, .f32⟩
  | .hbm, ⟨33, _⟩ => ⟨S2176x2048, .f32⟩
  | .hbm, ⟨34, _⟩ => ⟨S2176x2048, .f32⟩
  | .hbm, ⟨35, _⟩ => ⟨S2176x2048, .f32⟩
  | .hbm, ⟨36, _⟩ => ⟨S2176x2048, .f32⟩
  | .hbm, ⟨37, _⟩ => ⟨S2176x2048, .f32⟩
  | .hbm, ⟨38, _⟩ => ⟨S2176x2048, .f32⟩
  | .hbm, ⟨39, _⟩ => ⟨S2176x2048, .f32⟩
  | .hbm, ⟨40, _⟩ => ⟨S_, .f32⟩
  | .hbm, ⟨41, _⟩ => ⟨S2176x2048, .f32⟩
  | .hbm, ⟨42, _⟩ => ⟨S2176x2048, .f32⟩
  | .hbm, ⟨43, _⟩ => ⟨S_, .f32⟩
  | .hbm, ⟨44, _⟩ => ⟨S2176x2048, .f32⟩
  | .hbm, ⟨45, _⟩ => ⟨S2176x2048, .f32⟩
  | .hbm, ⟨46, _⟩ => ⟨S_, .f32⟩
  | .hbm, ⟨47, _⟩ => ⟨S2176x2048, .f32⟩
  | .hbm, ⟨48, _⟩ => ⟨S2176x2048, .f32⟩
  | .hbm, ⟨49, _⟩ => ⟨S2176x2048, .f32⟩
  | .hbm, ⟨50, _⟩ => ⟨S2176x2048, .f32⟩
  | .hbm, ⟨51, _⟩ => ⟨S2176x2048, .f32⟩
  | .hbm, ⟨52, _⟩ => ⟨S2176x2048, .f32⟩
  | .hbm, ⟨53, _⟩ => ⟨S2176x2048, .f32⟩
  | .hbm, ⟨54, _⟩ => ⟨S2176x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S2176x2048, .f32⟩
  | .hbm, ⟨59, _⟩ => ⟨S_, .f32⟩
  | .hbm, ⟨60, _⟩ => ⟨S2048, .f32⟩
  | .hbm, ⟨61, _⟩ => ⟨S1x2048, .f32⟩
  | .hbm, ⟨62, _⟩ => ⟨S2176x2048, .f32⟩
  | .hbm, ⟨63, _⟩ => ⟨S2176x2048, .f32⟩
  | .hbm, ⟨64, _⟩ => ⟨S2176x2048, .f32⟩
  | .hbm, ⟨65, _⟩ => ⟨S_, .f32⟩
  | .hbm, ⟨66, _⟩ => ⟨S2176, .f32⟩
  | .hbm, ⟨67, _⟩ => ⟨S2176x1, .f32⟩
  | .hbm, ⟨68, _⟩ => ⟨S2176x2048, .f32⟩
  | .hbm, ⟨69, _⟩ => ⟨S2176x2048, .f32⟩
  | .hbm, ⟨70, _⟩ => ⟨S2176x1, .f32⟩
  | .hbm, ⟨71, _⟩ => ⟨S2176x2048, .f32⟩
  | .hbm, ⟨72, _⟩ => ⟨S_, .f32⟩
  | .hbm, ⟨73, _⟩ => ⟨S2176, .f32⟩
  | .hbm, ⟨74, _⟩ => ⟨S2176x1, .f32⟩
  | .hbm, ⟨75, _⟩ => ⟨S_, .f32⟩
  | .hbm, ⟨76, _⟩ => ⟨S2176x1, .f32⟩
  | .hbm, ⟨77, _⟩ => ⟨S2176x1, .f32⟩
  | .hbm, ⟨78, _⟩ => ⟨S_, .f32⟩
  | .hbm, ⟨79, _⟩ => ⟨S2176, .f32⟩
  | .hbm, ⟨80, _⟩ => ⟨S2176x2048, .f32⟩
  | .hbm, ⟨81, _⟩ => ⟨S2176x2048, .f32⟩
  | .hbm, ⟨82, _⟩ => ⟨S2176x2048, .f32⟩
  | .hbm, ⟨83, _⟩ => ⟨S_, .f32⟩
  | .hbm, ⟨84, _⟩ => ⟨S2176, .f32⟩
  | .hbm, ⟨85, _⟩ => ⟨S2176x1, .f32⟩
  | .hbm, ⟨86, _⟩ => ⟨S2176x2048, .f32⟩
  | .hbm, ⟨87, _⟩ => ⟨S2176x1, .f32⟩
  | .hbm, ⟨88, _⟩ => ⟨S_, .f32⟩
  | .hbm, ⟨89, _⟩ => ⟨S2176x1, .f32⟩
  | .hbm, ⟨90, _⟩ => ⟨S2176x1, .f32⟩
  | .hbm, ⟨91, _⟩ => ⟨S_, .f32⟩
  | .hbm, ⟨92, _⟩ => ⟨S2176, .f32⟩
  | .hbm, ⟨93, _⟩ => ⟨S2176x2048, .f32⟩
  | .hbm, ⟨94, _⟩ => ⟨S2176x2048, .f32⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== Kernel19.lean ====
abbrev S2176x4096 : Shape := ⟨2, ![2176, 4096]⟩
abbrev S1x2048 : Shape := ⟨2, ![1, 2048]⟩
abbrev S2176x2048 : Shape := ⟨2, ![2176, 2048]⟩
abbrev S128x2048 : Shape := ⟨2, ![128, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2176x4096, .f32⟩
  | .hbm, ⟨1, _⟩ => ⟨S1x2048, .f32⟩
  | .hbm, ⟨2, _⟩ => ⟨S1x2048, .f32⟩
  | .hbm, ⟨3, _⟩ => ⟨S2176x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S128x2048, .f32⟩
  | .local _ .vmem, ⟨7, _⟩ => ⟨S128x2048, .f32⟩
  | _, _ => ⟨S2176x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S2176x4096 : Shape := ⟨2, ![2176, 4096]⟩
abbrev S1x2048 : Shape := ⟨2, ![1, 2048]⟩
abbrev S2176x2048 : Shape := ⟨2, ![2176, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2176x4096, .f32⟩
  | .hbm, ⟨1, _⟩ => ⟨S1x2048, .f32⟩
  | .hbm, ⟨2, _⟩ => ⟨S1x2048, .f32⟩
  | .hbm, ⟨3, _⟩ => ⟨S2176x2048, .f32⟩
  | .hbm, ⟨4, _⟩ => ⟨S2176x2048, .f32⟩
  | .hbm, ⟨5, _⟩ => ⟨S2176x2048, .f32⟩
  | .hbm, ⟨6, _⟩ => ⟨S2176x2048, .f32⟩
  | .hbm, ⟨7, _⟩ => ⟨S2176x2048, .f32⟩
  | .hbm, ⟨8, _⟩ => ⟨S2176x2048, .f32⟩
  | .hbm, ⟨9, _⟩ => ⟨S2176x2048, .f32⟩
  | .hbm, ⟨10, _⟩ => ⟨S2176x2048, .f32⟩
  | .hbm, ⟨11, _⟩ => ⟨S_, .f32⟩
  | .hbm, ⟨12, _⟩ => ⟨S2176x2048, .f32⟩
  | .hbm, ⟨13, _⟩ => ⟨S2176x2048, .f32⟩
  | .hbm, ⟨14, _⟩ => ⟨S_, .f32⟩
  | .hbm, ⟨15, _⟩ => ⟨S2176x2048, .f32⟩
  | .hbm, ⟨16, _⟩ => ⟨S2176x2048, .f32⟩
  | .hbm, ⟨17, _⟩ => ⟨S2176x2048, .f32⟩
  | _, _ => ⟨S2176x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel20.lean ====
abbrev S2176x2048 : Shape := ⟨2, ![2176, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩

abbrev nBuf : Space → Nat
  | .hbm => 4
  | .vmem => 6
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S1x2048, .f32⟩
  | .hbm, ⟨3, _⟩ => ⟨S2176x2048, .bf16⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S1x2048, .f32⟩
  | .local _ .vmem, ⟨4, _⟩ => ⟨S128x2048, .bf16⟩
  | .local _ .vmem, ⟨5, _⟩ => ⟨S128x2048, .bf16⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference20Ideal.lean ====
abbrev S2176x2048 : Shape := ⟨2, ![2176, 2048]⟩
abbrev S1x2048 : Shape := ⟨2, ![1, 2048]⟩
abbrev S_ : Shape := ⟨0, ![]⟩
abbrev S2176 : Shape := ⟨1, ![2176]⟩
abbrev S2176x1 : Shape := ⟨2, ![2176, 1]⟩

abbrev nBuf : Space → Nat
  | .hbm => 40
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S1x2048, .f32⟩
  | .hbm, ⟨3, _⟩ => ⟨S_, .f32⟩
  | .hbm, ⟨4, _⟩ => ⟨S2176, .f32⟩
  | .hbm, ⟨5, _⟩ => ⟨S2176x1, .f32⟩
  | .hbm, ⟨6, _⟩ => ⟨S_, .f32⟩
  | .hbm, ⟨7, _⟩ => ⟨S2176x1, .f32⟩
  | .hbm, ⟨8, _⟩ => ⟨S2176x1, .f32⟩
  | .hbm, ⟨9, _⟩ => ⟨S2176x2048, .f32⟩
  | .hbm, ⟨10, _⟩ => ⟨S2176x2048, .f32⟩
  | .hbm, ⟨11, _⟩ => ⟨S2176x2048, .f32⟩
  | .hbm, ⟨12, _⟩ => ⟨S_, .f32⟩
  | .hbm, ⟨13, _⟩ => ⟨S2176, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x2048, .f32⟩
  | .hbm, ⟨19, _⟩ => ⟨S2176x2048, .f32⟩
  | .hbm, ⟨20, _⟩ => ⟨S_, .f32⟩
  | .hbm, ⟨21, _⟩ => ⟨S2176x1, .f32⟩
  | .hbm, ⟨22, _⟩ => ⟨S2176x1, .f32⟩
  | .hbm, ⟨23, _⟩ => ⟨S2176x1, .f32⟩
  | .hbm, ⟨24, _⟩ => ⟨S2176x2048, .f32⟩
  | .hbm, ⟨25, _⟩ => ⟨S2176x2048, .f32⟩
  | .hbm, ⟨26, _⟩ => ⟨S2176x2048, .f32⟩
  | .hbm, ⟨27, _⟩ => ⟨S2176x2048, .f32⟩
  | .hbm, ⟨28, _⟩ => ⟨S2176x2048, .f32⟩
  | .hbm, ⟨29, _⟩ => ⟨S2176x2048, .f32⟩
  | .hbm, ⟨30, _⟩ => ⟨S2176x2048, .f32⟩
  | .hbm, ⟨31, _⟩ => ⟨S2176x2048, .f32⟩
  | .hbm, ⟨32, _⟩ => ⟨S_, .f32⟩
  | .hbm, ⟨33, _⟩ => ⟨S2176x2048, .f32⟩
  | .hbm, ⟨34, _⟩ => ⟨S2176x2048, .f32⟩
  | .hbm, ⟨35, _⟩ => ⟨S_, .f32⟩
  | .hbm, ⟨36, _⟩ => ⟨S2176x2048, .f32⟩
  | .hbm, ⟨37, _⟩ => ⟨S2176x2048, .f32⟩
  | .hbm, ⟨38, _⟩ => ⟨S2176x2048, .f32⟩
  | .hbm, ⟨39, _⟩ => ⟨S2176x2048, .bf16⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel21.lean ====
abbrev S2176x1152 : Shape := ⟨2, ![2176, 1152]⟩
abbrev S1x512 : Shape := ⟨2, ![1, 512]⟩
abbrev S2176x512 : Shape := ⟨2, ![2176, 512]⟩
abbrev S128x512 : Shape := ⟨2, ![128, 512]⟩
abbrev S128 : Shape := ⟨1, ![128]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S2176x1152, .f32⟩
  | .hbm, ⟨1, _⟩ => ⟨S1x512, .f32⟩
  | .hbm, ⟨2, _⟩ => ⟨S1x512, .f32⟩
  | .hbm, ⟨3, _⟩ => ⟨S2176x512, .bf16⟩
  | .hbm, ⟨4, _⟩ => ⟨S2176x512, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | _, _ => ⟨S2176x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S2176x1152 : Shape := ⟨2, ![2176, 1152]⟩
abbrev S1x512 : Shape := ⟨2, ![1, 512]⟩
abbrev S2176x512 : Shape := ⟨2, ![2176, 512]⟩
abbrev S_ : Shape := ⟨0, ![]⟩
abbrev S2176 : Shape := ⟨1, ![2176]⟩
abbrev S2176x1 : Shape := ⟨2, ![2176, 1]⟩

abbrev nBuf : Space → Nat
  | .hbm => 37
  | .vmem => 0
  | .smem => 0
  | _ => 0

abbrev bufTy : (tb : Table) → Fin (tcTables nBuf tb) → BufTy
  | .hbm, ⟨0, _⟩ => ⟨S2176x1152, .f32⟩
  | .hbm, ⟨1, _⟩ => ⟨S1x512, .f32⟩
  | .hbm, ⟨2, _⟩ => ⟨S1x512, .f32⟩
  | .hbm, ⟨3, _⟩ => ⟨S2176x512, .f32⟩
  | .hbm, ⟨4, _⟩ => ⟨S2176x512, .f32⟩
  | .hbm, ⟨5, _⟩ => ⟨S_, .f32⟩
  | .hbm, ⟨6, _⟩ => ⟨S2176, .f32⟩
  | .hbm, ⟨7, _⟩ => ⟨S2176x1, .f32⟩
  | .hbm, ⟨8, _⟩ => ⟨S_, .f32⟩
  | .hbm, ⟨9, _⟩ => ⟨S2176x1, .f32⟩
  | .hbm, ⟨10, _⟩ => ⟨S2176x1, .f32⟩
  | .hbm, ⟨11, _⟩ => ⟨S_, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S2176x512, .f32⟩
  | .hbm, ⟨16, _⟩ => ⟨S2176x512, .f32⟩
  | .hbm, ⟨17, _⟩ => ⟨S2176x512, .f32⟩
  | .hbm, ⟨18, _⟩ => ⟨S2176x512, .f32⟩
  | .hbm, ⟨19, _⟩ => ⟨S2176x512, .bf16⟩
  | .hbm, ⟨20, _⟩ => ⟨S2176x512, .f32⟩
  | .hbm, ⟨21, _⟩ => ⟨S2176x512, .f32⟩
  | .hbm, ⟨22, _⟩ => ⟨S_, .f32⟩
  | .hbm, ⟨23, _⟩ => ⟨S2176, .f32⟩
  | .hbm, ⟨24, _⟩ => ⟨S2176x1, .f32⟩
  | .hbm, ⟨25, _⟩ => ⟨S_, .f32⟩
  | .hbm, ⟨26, _⟩ => ⟨S2176x1, .f32⟩
  | .hbm, ⟨27, _⟩ => ⟨S2176x1, .f32⟩
  | .hbm, ⟨28, _⟩ => ⟨S_, .f32⟩
  | .hbm, ⟨29, _⟩ => ⟨S2176x1, .f32⟩
  | .hbm, ⟨30, _⟩ => ⟨S2176x1, .f32⟩
  | .hbm, ⟨31, _⟩ => ⟨S2176x1, .f32⟩
  | .hbm, ⟨32, _⟩ => ⟨S2176x512, .f32⟩
  | .hbm, ⟨33, _⟩ => ⟨S2176x512, .f32⟩
  | .hbm, ⟨34, _⟩ => ⟨S2176x512, .f32⟩
  | .hbm, ⟨35, _⟩ => ⟨S2176x512, .f32⟩
  | .hbm, ⟨36, _⟩ => ⟨S2176x512, .bf16⟩
  | _, _ => ⟨S2176x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel22.lean ====
abbrev S16x2176x192 : Shape := ⟨3, ![16, 2176, 192]⟩
abbrev S16x2176x128 : Shape := ⟨3, ![16, 2176, 128]⟩
abbrev S2176x32 : Shape := ⟨2, ![2176, 32]⟩
abbrev S2176x3072 : Shape := ⟨2, ![2176, 3072]⟩
abbrev S2176x4096 : Shape := ⟨2, ![2176, 4096]⟩
abbrev S2176x128 : Shape := ⟨2, ![2176, 128]⟩
abbrev S16x128x192 : Shape := ⟨3, ![16, 128, 192]⟩
abbrev S16x128x128 : Shape := ⟨3, ![16, 128, 128]⟩
abbrev S128x32 : Shape := ⟨2, ![128, 32]⟩
abbrev S128x3072 : Shape := ⟨2, ![128, 3072]⟩
abbrev S128x4096 : Shape := ⟨2, ![128, 4096]⟩
abbrev S128x128 : Shape := ⟨2, ![128, 128]⟩
abbrev S128x64 : Shape := ⟨2, ![128, 64]⟩
abbrev S1x128x192 : Shape := ⟨3, ![1, 128, 192]⟩
abbrev S128x192 : Shape := ⟨2, ![128, 192]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S16x2176x192, .f32⟩
  | .hbm, ⟨1, _⟩ => ⟨S16x2176x192, .f32⟩
  | .hbm, ⟨2, _⟩ => ⟨S16x2176x128, .f32⟩
  | .hbm, ⟨3, _⟩ => ⟨S2176x32, .f32⟩
  | .hbm, ⟨4, _⟩ => ⟨S2176x32, .f32⟩
  | .hbm, ⟨5, _⟩ => ⟨S2176x3072, .bf16⟩
  | .hbm, ⟨6, _⟩ => ⟨S2176x4096, .bf16⟩
  | .hbm, ⟨7, _⟩ => ⟨S2176x128, .f32⟩
  | .local _ .vmem, ⟨0, _⟩ => ⟨S16x128x192, .f32⟩
  | .local _ .vmem, ⟨1, _⟩ => ⟨S16x128x192, .f32⟩
  | .local _ .vmem, ⟨2, _⟩ => ⟨S16x128x192, .f32⟩
  | .local _ .vmem, ⟨3, _⟩ => ⟨S16x128x192, .f32⟩
  | .local _ .vmem, ⟨4, _⟩ => ⟨S16x128x128, .f32⟩
  | .local _ .vmem, ⟨5, _⟩ => ⟨S16x128x128, .f32⟩
  | .local _ .vmem, ⟨6, _⟩ => ⟨S128x32, .f32⟩
  | .local _ .vmem, ⟨7, _⟩ => ⟨S128x32, .f32⟩
  | .local _ .vmem, ⟨8, _⟩ => ⟨S128x32, .f32⟩
  | .local _ .vmem, ⟨9, _⟩ => ⟨S128x32, .f32⟩
  | .local _ .vmem, ⟨10, _⟩ => ⟨S128x3072, .bf16⟩
  | .local _ .vmem, ⟨11, _⟩ => ⟨S128x3072, .bf16⟩
  | .local _ .vmem, ⟨12, _⟩ => ⟨S128x4096, .bf16⟩
  | .local _ .vmem, ⟨13, _⟩ => ⟨S128x4096, .bf16⟩
  | .local _ .vmem, ⟨14, _⟩ => ⟨S128x128, .f32⟩
  | .local _ .vmem, ⟨15, _⟩ => ⟨S128x128, .f32⟩
  | _, _ => ⟨S16x2176x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x128x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S16x2176x192 : Shape := ⟨3, ![16, 2176, 192]⟩
abbrev S16x2176x128 : Shape := ⟨3, ![16, 2176, 128]⟩
abbrev S2176x32 : Shape := ⟨2, ![2176, 32]⟩
abbrev S_ : Shape := ⟨0, ![]⟩
abbrev S2176x3072 : Shape := ⟨2, ![2176, 3072]⟩
abbrev S2176x4096 : Shape := ⟨2, ![2176, 4096]⟩
abbrev S2176x64 : Shape := ⟨2, ![2176, 64]⟩
abbrev S2176x16x192 : Shape := ⟨3, ![2176, 16, 192]⟩
abbrev S2176x16x128 : Shape := ⟨3, ![2176, 16, 128]⟩
abbrev S2176x16x64 : Shape := ⟨3, ![2176, 16, 64]⟩
abbrev S2176x1x32 : Shape := ⟨3, ![2176, 1, 32]⟩
abbrev S2176x16x32 : Shape := ⟨3, ![2176, 16, 32]⟩
abbrev S2176x2048 : Shape := ⟨2, ![2176, 2048]⟩
abbrev S2176x1x64 : Shape := ⟨3, ![2176, 1, 64]⟩
abbrev S2176x128 : Shape := ⟨2, ![2176, 128]⟩

abbrev nBuf : Space → Nat
  | .hbm => 95
  | .vmem => 0
  | .smem => 0
  | _ => 0

abbrev bufTy : (tb : Table) → Fin (tcTables nBuf tb) → BufTy
  | .hbm, ⟨0, _⟩ => ⟨S16x2176x192, .f32⟩
  | .hbm, ⟨1, _⟩ => ⟨S16x2176x192, .f32⟩
  | .hbm, ⟨2, _⟩ => ⟨S16x2176x128, .f32⟩
  | .hbm, ⟨3, _⟩ => ⟨S2176x32, .f32⟩
  | .hbm, ⟨4, _⟩ => ⟨S2176x32, .f32⟩
  | .hbm, ⟨5, _⟩ => ⟨S_, .f32⟩
  | .hbm, ⟨6, _⟩ => ⟨S2176x3072, .f32⟩
  | .hbm, ⟨7, _⟩ => ⟨S_, .f32⟩
  | .hbm, ⟨8, _⟩ => ⟨S2176x4096, .f32⟩
  | .hbm, ⟨9, _⟩ => ⟨S_, .f32⟩
  | .hbm, ⟨10, _⟩ => ⟨S2176x64, .f32⟩
  | .hbm, ⟨11, _⟩ => ⟨S2176x16x192, .f32⟩
  | .hbm, ⟨12, _⟩ => ⟨S2176x16x128, .f32⟩
  | .hbm, ⟨13, _⟩ => ⟨S2176x16x64, .f32⟩
  | .hbm, ⟨14, _⟩ => ⟨S2176x1x32, .f32⟩
  | .hbm, ⟨15, _⟩ => ⟨S2176x1x32, .f32⟩
  | .hbm, ⟨16, _⟩ => ⟨S2176x16x32, .f32⟩
  | .hbm, ⟨17, _⟩ => ⟨S2176x16x32, .f32⟩
  | .hbm, ⟨18, _⟩ => ⟨S2176x16x32, .f32⟩
  | .hbm, ⟨19, _⟩ => ⟨S2176x16x32, .f32⟩
  | .hbm, ⟨20, _⟩ => ⟨S2176x16x32, .f32⟩
  | .hbm, ⟨21, _⟩ => ⟨S2176x16x32, .f32⟩
  | .hbm, ⟨22, _⟩ => ⟨S2176x16x32, .f32⟩
  | .hbm, ⟨23, _⟩ => ⟨S2176x16x32, .f32⟩
  | .hbm, ⟨24, _⟩ => ⟨S2176x16x32, .f32⟩
  | .hbm, ⟨25, _⟩ => ⟨S2176x16x32, .f32⟩
  | .hbm, ⟨26, _⟩ => ⟨S2176x16x32, .f32⟩
  | .hbm, ⟨27, _⟩ => ⟨S2176x16x32, .f32⟩
  | .hbm, ⟨28, _⟩ => ⟨S2176x16x64, .f32⟩
  | .hbm, ⟨29, _⟩ => ⟨S2176x16x192, .f32⟩
  | .hbm, ⟨30, _⟩ => ⟨S2176x2048, .f32⟩
  | .hbm, ⟨31, _⟩ => ⟨S2176x2048, .f32⟩
  | .hbm, ⟨32, _⟩ => ⟨S2176x32, .f32⟩
  | .hbm, ⟨33, _⟩ => ⟨S2176x32, .f32⟩
  | .hbm, ⟨34, _⟩ => ⟨S2176x32, .f32⟩
  | .hbm, ⟨35, _⟩ => ⟨S2176x32, .f32⟩
  | .hbm, ⟨36, _⟩ => ⟨S2176x32, .f32⟩
  | .hbm, ⟨37, _⟩ => ⟨S2176x32, .f32⟩
  | .hbm, ⟨38, _⟩ => ⟨S2176x32, .f32⟩
  | .hbm, ⟨39, _⟩ => ⟨S2176x32, .f32⟩
  | .hbm, ⟨40, _⟩ => ⟨S2176x64, .f32⟩
  | .hbm, ⟨41, _⟩ => ⟨S2176x1x64, .f32⟩
  | .hbm, ⟨42, _⟩ => ⟨S2176x16x64, .f32⟩
  | .hbm, ⟨43, _⟩ => ⟨S2176x16x128, .f32⟩
  | .hbm, ⟨44, _⟩ => ⟨S2176x16x192, .f32⟩
  | .hbm, ⟨45, _⟩ => ⟨S16x2176x192, .f32⟩
  | .hbm, ⟨46, _⟩ => ⟨S16x2176x192, .f32⟩
  | .hbm, ⟨47, _⟩ => ⟨S2176x16x128, .f32⟩
  | .hbm, ⟨48, _⟩ => ⟨S16x2176x128, .f32⟩
  | .hbm, ⟨49, _⟩ => ⟨S2176x16x128, .f32⟩
  | .hbm, ⟨50, _⟩ => ⟨S2176x2048, .f32⟩
  | .hbm, ⟨51, _⟩ => ⟨S2176x16x192, .f32⟩
  | .hbm, ⟨52, _⟩ => ⟨S2176x16x192, .f32⟩
  | .hbm, ⟨53, _⟩ => ⟨S2176x16x128, .f32⟩
  | .hbm, ⟨54, _⟩ => ⟨S2176x16x64, .f32⟩
  | .hbm, ⟨55, _⟩ => ⟨S2176x2048, .f32⟩
  | .hbm, ⟨56, _⟩ => ⟨S_, .f32⟩
  | .hbm, ⟨57, _⟩ => ⟨S2176x64, .f32⟩
  | .hbm, ⟨58, _⟩ => ⟨S2176x1x64, .f32⟩
  | .hbm, ⟨59, _⟩ => ⟨S_, .f32⟩
  | .hbm, ⟨60, _⟩ => ⟨S2176x64, .f32⟩
  | .hbm, ⟨61, _⟩ => ⟨S2176x32, .f32⟩
  | .hbm, ⟨62, _⟩ => ⟨S2176x32, .f32⟩
  | .hbm, ⟨63, _⟩ => ⟨S2176x32, .f32⟩
  | .hbm, ⟨64, _⟩ => ⟨S2176x32, .f32⟩
  | .hbm, ⟨65, _⟩ => ⟨S2176x32, .f32⟩
  | .hbm, ⟨66, _⟩ => ⟨S2176x32, .f32⟩
  | .hbm, ⟨67, _⟩ => ⟨S2176x32, .f32⟩
  | .hbm, ⟨68, _⟩ => ⟨S2176x32, .f32⟩
  | .hbm, ⟨69, _⟩ => ⟨S2176x32, .f32⟩
  | .hbm, ⟨70, _⟩ => ⟨S2176x64, .f32⟩
  | .hbm, ⟨71, _⟩ => ⟨S2176x4096, .f32⟩
  | .hbm, ⟨72, _⟩ => ⟨S2176x16x128, .f32⟩
  | .hbm, ⟨73, _⟩ => ⟨S2176x16x64, .f32⟩
  | .hbm, ⟨74, _⟩ => ⟨S2176x16x32, .f32⟩
  | .hbm, ⟨75, _⟩ => ⟨S2176x16x32, .f32⟩
  | .hbm, ⟨76, _⟩ => ⟨S2176x16x32, .f32⟩
  | .hbm, ⟨77, _⟩ => ⟨S2176x16x32, .f32⟩
  | .hbm, ⟨78, _⟩ => ⟨S2176x16x32, .f32⟩
  | .hbm, ⟨79, _⟩ => ⟨S2176x16x32, .f32⟩
  | .hbm, ⟨80, _⟩ => ⟨S2176x16x32, .f32⟩
  | .hbm, ⟨81, _⟩ => ⟨S2176x16x32, .f32⟩
  | .hbm, ⟨82, _⟩ => ⟨S2176x16x32, .f32⟩
  | .hbm, ⟨83, _⟩ => ⟨S2176x16x32, .f32⟩
  | .hbm, ⟨84, _⟩ => ⟨S2176x16x32, .f32⟩
  | .hbm, ⟨85, _⟩ => ⟨S2176x16x32, .f32⟩
  | .hbm, ⟨86, _⟩ => ⟨S2176x16x32, .f32⟩
  | .hbm, ⟨87, _⟩ => ⟨S2176x16x64, .f32⟩
  | .hbm, ⟨88, _⟩ => ⟨S2176x16x192, .f32⟩
  | .hbm, ⟨89, _⟩ => ⟨S2176x3072, .f32⟩
  | .hbm, ⟨90, _⟩ => ⟨S2176x3072, .bf16⟩
  | .hbm, ⟨91, _⟩ => ⟨S2176x4096, .bf16⟩
  | .hbm, ⟨92, _⟩ => ⟨S_, .f32⟩
  | .hbm, ⟨93, _⟩ => ⟨S2176x64, .f32⟩
  | .hbm, ⟨94, _⟩ => ⟨S2176x128, .f32⟩
  | _, _ => ⟨S16x2176x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_2 : Ref sig .tc := ⟨.hbm, 56, rfl⟩
abbrev main_v48 : Ref sig .tc := ⟨.hbm, 57, rfl⟩
abbrev main_v49 : Ref sig .tc := ⟨.hbm, 58, rfl⟩
abbrev main_cst_3 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_4 : Ref sig .tc := ⟨.hbm, 92, rfl⟩
abbrev main_v82 : Ref sig .tc := ⟨.hbm, 93, rfl⟩
abbrev main_v83 : Ref sig .tc := ⟨.hbm, 94, rfl⟩

abbrev nD : Nat := 1
abbrev τ : Topo := Topo.v7x

variable {F : FTy → Type} [FloatOps F]
-- ==== Kernel23.lean ====
abbrev S2176x3072 : Shape := ⟨2, ![2176, 3072]⟩
abbrev S2176x4096 : Shape := ⟨2, ![2176, 4096]⟩
abbrev S2176x1152 : Shape := ⟨2, ![2176, 1152]⟩
abbrev S2176x32 : Shape := ⟨2, ![2176, 32]⟩
abbrev S16x2176x192 : Shape := ⟨3, ![16, 2176, 192]⟩
abbrev S16x2176x128 : Shape := ⟨3, ![16, 2176, 128]⟩
abbrev S128x3072 : Shape := ⟨2, ![128, 3072]⟩
abbrev S128x4096 : Shape := ⟨2, ![128, 4096]⟩
abbrev S128x128 : Shape := ⟨2, ![128, 128]⟩
abbrev S128x32 : Shape := ⟨2, ![128, 32]⟩
abbrev S16x128x192 : Shape := ⟨3, ![16, 128, 192]⟩
abbrev S16x128x128 : Shape := ⟨3, ![16, 128, 128]⟩
abbrev S128x192 : Shape := ⟨2, ![128, 192]⟩
abbrev S1x128x192 : Shape := ⟨3, ![1, 128, 192]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S2176x3072, .f32⟩
  | .hbm, ⟨1, _⟩ => ⟨S2176x4096, .f32⟩
  | .hbm, ⟨2, _⟩ => ⟨S2176x1152, .f32⟩
  | .hbm, ⟨3, _⟩ => ⟨S2176x32, .f32⟩
  | .hbm, ⟨4, _⟩ => ⟨S2176x32, .f32⟩
  | .hbm, ⟨5, _⟩ => ⟨S16x2176x192, .bf16⟩
  | .hbm, ⟨6, _⟩ => ⟨S16x2176x192, .bf16⟩
  | .hbm, ⟨7, _⟩ => ⟨S16x2176x128, .bf16⟩
  | .local _ .vmem, ⟨0, _⟩ => ⟨S128x3072, .f32⟩
  | .local _ .vmem, ⟨1, _⟩ => ⟨S128x3072, .f32⟩
  | .local _ .vmem, ⟨2, _⟩ => ⟨S128x4096, .f32⟩
  | .local _ .vmem, ⟨3, _⟩ => ⟨S128x4096, .f32⟩
  | .local _ .vmem, ⟨4, _⟩ => ⟨S128x128, .f32⟩
  | .local _ .vmem, ⟨5, _⟩ => ⟨S128x128, .f32⟩
  | .local _ .vmem, ⟨6, _⟩ => ⟨S128x32, .f32⟩
  | .local _ .vmem, ⟨7, _⟩ => ⟨S128x32, .f32⟩
  | .local _ .vmem, ⟨8, _⟩ => ⟨S128x32, .f32⟩
  | .local _ .vmem, ⟨9, _⟩ => ⟨S128x32, .f32⟩
  | .local _ .vmem, ⟨10, _⟩ => ⟨S16x128x192, .bf16⟩
  | .local _ .vmem, ⟨11, _⟩ => ⟨S16x128x192, .bf16⟩
  | .local _ .vmem, ⟨12, _⟩ => ⟨S16x128x192, .bf16⟩
  | .local _ .vmem, ⟨13, _⟩ => ⟨S16x128x192, .bf16⟩
  | .local _ .vmem, ⟨14, _⟩ => ⟨S16x128x128, .bf16⟩
  | .local _ .vmem, ⟨15, _⟩ => ⟨S16x128x128, .bf16⟩
  | _, _ => ⟨S2176x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S2176x3072 : Shape := ⟨2, ![2176, 3072]⟩
abbrev S2176x4096 : Shape := ⟨2, ![2176, 4096]⟩
abbrev S2176x1152 : Shape := ⟨2, ![2176, 1152]⟩
abbrev S2176x32 : Shape := ⟨2, ![2176, 32]⟩
abbrev S2176x64 : Shape := ⟨2, ![2176, 64]⟩
abbrev S2176x16x192 : Shape := ⟨3, ![2176, 16, 192]⟩
abbrev S2176x16x128 : Shape := ⟨3, ![2176, 16, 128]⟩
abbrev S2176x16x64 : Shape := ⟨3, ![2176, 16, 64]⟩
abbrev S2176x1x32 : Shape := ⟨3, ![2176, 1, 32]⟩
abbrev S2176x16x32 : Shape := ⟨3, ![2176, 16, 32]⟩
abbrev S2176x2048 : Shape := ⟨2, ![2176, 2048]⟩
abbrev S2176x1x64 : Shape := ⟨3, ![2176, 1, 64]⟩
abbrev S16x2176x192 : Shape := ⟨3, ![16, 2176, 192]⟩
abbrev S16x2176x128 : Shape := ⟨3, ![16, 2176, 128]⟩

abbrev nBuf : Space → Nat
  | .hbm => 47
  | .vmem => 0
  | .smem => 0
  | _ => 0

abbrev bufTy : (tb : Table) → Fin (tcTables nBuf tb) → BufTy
  | .hbm, ⟨0, _⟩ => ⟨S2176x3072, .f32⟩
  | .hbm, ⟨1, _⟩ => ⟨S2176x4096, .f32⟩
  | .hbm, ⟨2, _⟩ => ⟨S2176x1152, .f32⟩
  | .hbm, ⟨3, _⟩ => ⟨S2176x32, .f32⟩
  | .hbm, ⟨4, _⟩ => ⟨S2176x32, .f32⟩
  | .hbm, ⟨5, _⟩ => ⟨S2176x64, .f32⟩
  | .hbm, ⟨6, _⟩ => ⟨S2176x16x192, .f32⟩
  | .hbm, ⟨7, _⟩ => ⟨S2176x16x128, .f32⟩
  | .hbm, ⟨8, _⟩ => ⟨S2176x16x64, .f32⟩
  | .hbm, ⟨9, _⟩ => ⟨S2176x1x32, .f32⟩
  | .hbm, ⟨10, _⟩ => ⟨S2176x1x32, .f32⟩
  | .hbm, ⟨11, _⟩ => ⟨S2176x16x32, .f32⟩
  | .hbm, ⟨12, _⟩ => ⟨S2176x16x32, .f32⟩
  | .hbm, ⟨13, _⟩ => ⟨S2176x16x32, .f32⟩
  | .hbm, ⟨14, _⟩ => ⟨S2176x16x32, .f32⟩
  | .hbm, ⟨15, _⟩ => ⟨S2176x16x32, .f32⟩
  | .hbm, ⟨16, _⟩ => ⟨S2176x16x32, .f32⟩
  | .hbm, ⟨17, _⟩ => ⟨S2176x16x32, .f32⟩
  | .hbm, ⟨18, _⟩ => ⟨S2176x16x32, .f32⟩
  | .hbm, ⟨19, _⟩ => ⟨S2176x16x32, .f32⟩
  | .hbm, ⟨20, _⟩ => ⟨S2176x16x32, .f32⟩
  | .hbm, ⟨21, _⟩ => ⟨S2176x16x32, .f32⟩
  | .hbm, ⟨22, _⟩ => ⟨S2176x16x32, .f32⟩
  | .hbm, ⟨23, _⟩ => ⟨S2176x16x64, .f32⟩
  | .hbm, ⟨24, _⟩ => ⟨S2176x16x192, .f32⟩
  | .hbm, ⟨25, _⟩ => ⟨S2176x2048, .f32⟩
  | .hbm, ⟨26, _⟩ => ⟨S2176x2048, .f32⟩
  | .hbm, ⟨27, _⟩ => ⟨S2176x32, .f32⟩
  | .hbm, ⟨28, _⟩ => ⟨S2176x32, .f32⟩
  | .hbm, ⟨29, _⟩ => ⟨S2176x32, .f32⟩
  | .hbm, ⟨30, _⟩ => ⟨S2176x32, .f32⟩
  | .hbm, ⟨31, _⟩ => ⟨S2176x32, .f32⟩
  | .hbm, ⟨32, _⟩ => ⟨S2176x32, .f32⟩
  | .hbm, ⟨33, _⟩ => ⟨S2176x32, .f32⟩
  | .hbm, ⟨34, _⟩ => ⟨S2176x32, .f32⟩
  | .hbm, ⟨35, _⟩ => ⟨S2176x64, .f32⟩
  | .hbm, ⟨36, _⟩ => ⟨S2176x1x64, .f32⟩
  | .hbm, ⟨37, _⟩ => ⟨S2176x16x64, .f32⟩
  | .hbm, ⟨38, _⟩ => ⟨S2176x16x128, .f32⟩
  | .hbm, ⟨39, _⟩ => ⟨S2176x16x192, .f32⟩
  | .hbm, ⟨40, _⟩ => ⟨S16x2176x192, .f32⟩
  | .hbm, ⟨41, _⟩ => ⟨S16x2176x192, .f32⟩
  | .hbm, ⟨42, _⟩ => ⟨S2176x16x128, .f32⟩
  | .hbm, ⟨43, _⟩ => ⟨S16x2176x128, .f32⟩
  | .hbm, ⟨44, _⟩ => ⟨S16x2176x192, .bf16⟩
  | .hbm, ⟨45, _⟩ => ⟨S16x2176x192, .bf16⟩
  | .hbm, ⟨46, _⟩ => ⟨S16x2176x128, .bf16⟩
  | _, _ => ⟨S2176x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩

abbrev nD : Nat := 1
abbrev τ : Topo := Topo.v7x

variable {F : FTy → Type} [FloatOps F]
-- ==== Kernel24.lean ====
abbrev S2176x2048 : Shape := ⟨2, ![2176, 2048]⟩
abbrev S1x2048 : Shape := ⟨2, ![1, 2048]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S2048 : Shape := ⟨1, ![2048]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2176x2048, .f32⟩
  | .hbm, ⟨3, _⟩ => ⟨S2176x2048, .f32⟩
  | .hbm, ⟨4, _⟩ => ⟨S2176x2048, .bf16⟩
  | .hbm, ⟨5, _⟩ => ⟨S1x2048, .f32⟩
  | .hbm, ⟨6, _⟩ => ⟨S1x128, .f32⟩
  | .local _ .vmem, ⟨0, _⟩ => ⟨S128x2048, .f32⟩
  | .local _ .vmem, ⟨1, _⟩ => ⟨S128x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .bf16⟩
  | .local _ .vmem, ⟨8, _⟩ => ⟨S128x2048, .bf16⟩
  | .local _ .vmem, ⟨9, _⟩ => ⟨S1x2048, .f32⟩
  | .local _ .vmem, ⟨10, _⟩ => ⟨S1x128, .f32⟩
  | _, _ => ⟨S2176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v68 : BitVec 1 := Scalar.cmpi .eq arg0 c0_i32
  let v69 : BitVec 32 := Scalar.extui v68
  let c0_i32_22 : BitVec 32 := 0#32
  let v70 : BitVec 1 := Scalar.cmpi .ne v69 c0_i32_22
  v70

def k0_cond2 (i : grid0.Coords) : BitVec 1 :=
  let arg0 : BitVec 32 := BitVec.ofNat 32 (i 0).val
  let c0_i32_23 : BitVec 32 := 0#32
  let v71 : BitVec 1 := Scalar.cmpi .sgt arg0 c0_i32_23
  let v72 : BitVec 32 := Scalar.extui v71
  let c0_i32_24 : BitVec 32 := 0#32
  let v73 : BitVec 1 := Scalar.cmpi .ne v72 c0_i32_24
  v73

def k0_cond3 (i : grid0.Coords) : BitVec 1 :=
  let arg0 : BitVec 32 := BitVec.ofNat 32 (i 0).val
  let c0_i32_25 : BitVec 32 := 0#32
  let v74 : BitVec 1 := Scalar.cmpi .eq arg0 c0_i32_25
  let v75 : BitVec 32 := Scalar.extui v74
  let c0_i32_26 : BitVec 32 := 0#32
  let v76 : BitVec 1 := Scalar.cmpi .ne v75 c0_i32_26
  v76

def k0_cond4 (i : grid0.Coords) : BitVec 1 :=
  let arg0 : BitVec 32 := BitVec.ofNat 32 (i 0).val
  let c0_i32_27 : BitVec 32 := 0#32
  let v77 : BitVec 1 := Scalar.cmpi .sgt arg0 c0_i32_27
  let v78 : BitVec 32 := Scalar.extui v77
  let c0_i32_28 : BitVec 32 := 0#32
  let v79 : BitVec 1 := Scalar.cmpi .ne v78 c0_i32_28
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference24Ideal.lean ====
abbrev S2176x2048 : Shape := ⟨2, ![2176, 2048]⟩
abbrev S1x2048 : Shape := ⟨2, ![1, 2048]⟩
abbrev S_ : Shape := ⟨0, ![]⟩
abbrev S2176 : Shape := ⟨1, ![2176]⟩
abbrev S2176x1 : Shape := ⟨2, ![2176, 1]⟩
abbrev S16x2048 : Shape := ⟨2, ![16, 2048]⟩
abbrev S2048x2048 : Shape := ⟨2, ![2048, 2048]⟩
abbrev S112x2048 : Shape := ⟨2, ![112, 2048]⟩
abbrev S2048 : Shape := ⟨1, ![2048]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S2176x2048, .f32⟩
  | .hbm, ⟨1, _⟩ => ⟨S1x2048, .f32⟩
  | .hbm, ⟨2, _⟩ => ⟨S2176x2048, .f32⟩
  | .hbm, ⟨3, _⟩ => ⟨S2176x2048, .f32⟩
  | .hbm, ⟨4, _⟩ => ⟨S_, .f32⟩
  | .hbm, ⟨5, _⟩ => ⟨S2176, .f32⟩
  | .hbm, ⟨6, _⟩ => ⟨S2176x1, .f32⟩
  | .hbm, ⟨7, _⟩ => ⟨S_, .f32⟩
  | .hbm, ⟨8, _⟩ => ⟨S2176x1, .f32⟩
  | .hbm, ⟨9, _⟩ => ⟨S2176x1, .f32⟩
  | .hbm, ⟨10, _⟩ => ⟨S_, .f32⟩
  | .hbm, ⟨11, _⟩ => ⟨S2176x1, .f32⟩
  | .hbm, ⟨12, _⟩ => ⟨S2176x1, .f32⟩
  | .hbm, ⟨13, _⟩ => ⟨S2176x1, .f32⟩
  | .hbm, ⟨14, _⟩ => ⟨S2176x1, .f32⟩
  | .hbm, ⟨15, _⟩ => ⟨S_, .f32⟩
  | .hbm, ⟨16, _⟩ => ⟨S2176x1, .f32⟩
  | .hbm, ⟨17, _⟩ => ⟨S2176x1, .f32⟩
  | .hbm, ⟨18, _⟩ => ⟨S2176x2048, .f32⟩
  | .hbm, ⟨19, _⟩ => ⟨S2176x2048, .f32⟩
  | .hbm, ⟨20, _⟩ => ⟨S2176x2048, .f32⟩
  | .hbm, ⟨21, _⟩ => ⟨S2176x2048, .f32⟩
  | .hbm, ⟨22, _⟩ => ⟨S16x2048, .f32⟩
  | .hbm, ⟨23, _⟩ => ⟨S2048x2048, .f32⟩
  | .hbm, ⟨24, _⟩ => ⟨S112x2048, .f32⟩
  | .hbm, ⟨25, _⟩ => ⟨S16x2048, .f32⟩
  | .hbm, ⟨26, _⟩ => ⟨S2048x2048, .f32⟩
  | .hbm, ⟨27, _⟩ => ⟨S112x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x2048, .f32⟩
  | .hbm, ⟨50, _⟩ => ⟨S2048x2048, .f32⟩
  | .hbm, ⟨51, _⟩ => ⟨S_, .f32⟩
  | .hbm, ⟨52, _⟩ => ⟨S16x2048, .f32⟩
  | .hbm, ⟨53, _⟩ => ⟨S_, .f32⟩
  | .hbm, ⟨54, _⟩ => ⟨S112x2048, .f32⟩
  | .hbm, ⟨55, _⟩ => ⟨S2176x2048, .f32⟩
  | .hbm, ⟨56, _⟩ => ⟨S2176x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S2176x2048, .f32⟩
  | .hbm, ⟨61, _⟩ => ⟨S2176x2048, .f32⟩
  | .hbm, ⟨62, _⟩ => ⟨S2176x2048, .f32⟩
  | .hbm, ⟨63, _⟩ => ⟨S_, .f32⟩
  | .hbm, ⟨64, _⟩ => ⟨S2176, .f32⟩
  | .hbm, ⟨65, _⟩ => ⟨S2176x1, .f32⟩
  | .hbm, ⟨66, _⟩ => ⟨S2176x2048, .f32⟩
  | .hbm, ⟨67, _⟩ => ⟨S2176x2048, .f32⟩
  | .hbm, ⟨68, _⟩ => ⟨S2176x1, .f32⟩
  | .hbm, ⟨69, _⟩ => ⟨S_, .f32⟩
  | .hbm, ⟨70, _⟩ => ⟨S2176x1, .f32⟩
  | .hbm, ⟨71, _⟩ => ⟨S2176x1, .f32⟩
  | .hbm, ⟨72, _⟩ => ⟨S_, .f32⟩
  | .hbm, ⟨73, _⟩ => ⟨S2176, .f32⟩
  | .hbm, ⟨74, _⟩ => ⟨S2176x2048, .f32⟩
  | .hbm, ⟨75, _⟩ => ⟨S2176x2048, .f32⟩
  | .hbm, ⟨76, _⟩ => ⟨S2176x2048, .f32⟩
  | .hbm, ⟨77, _⟩ => ⟨S2176x2048, .f32⟩
  | .hbm, ⟨78, _⟩ => ⟨S2176x2048, .f32⟩
  | .hbm, ⟨79, _⟩ => ⟨S2176x2048, .bf16⟩
  | .hbm, ⟨80, _⟩ => ⟨S1x128, .f32⟩
  | _, _ => ⟨S2176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_cst_8 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_11 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_13 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_v51 : Ref sig .tc := ⟨.hbm, 71, rfl⟩
abbrev main_cst_16 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel25.lean ====
abbrev S1 : Shape := ⟨1, ![1]⟩
abbrev S8x1x23552 : Shape := ⟨3, ![8, 1, 23552]⟩
abbrev S1x23552 : Shape := ⟨2, ![1, 23552]⟩
abbrev S1x1x23552 : Shape := ⟨3, ![1, 1, 23552]⟩

abbrev nBuf : Space → Nat
  | .hbm => 9
  | .vmem => 9
  | .smem => 1
  | _ => 0

abbrev bufTy : (tb : Table) → Fin (tcTables nBuf tb) → BufTy
  | .hbm, ⟨0, _⟩ => ⟨S8x1x23552, .f32⟩
  | .hbm, ⟨1, _⟩ => ⟨S1x23552, .f32⟩
  | .hbm, ⟨2, _⟩ => ⟨S1x23552, .f32⟩
  | .hbm, ⟨3, _⟩ => ⟨S1x23552, .f32⟩
  | .hbm, ⟨4, _⟩ => ⟨S1x23552, .f32⟩
  | .hbm, ⟨5, _⟩ => ⟨S1x23552, .f32⟩
  | .hbm, ⟨6, _⟩ => ⟨S1x23552, .f32⟩
  | .hbm, ⟨7, _⟩ => ⟨S1x23552, .f32⟩
  | .hbm, ⟨8, _⟩ => ⟨S1x23552, .f32⟩
  | .local _ .vmem, ⟨0, _⟩ => ⟨S8x1x23552, .f32⟩
  | .local _ .vmem, ⟨1, _⟩ => ⟨S1x23552, .f32⟩
  | .local _ .vmem, ⟨2, _⟩ => ⟨S1x23552, .f32⟩
  | .local _ .vmem, ⟨3, _⟩ => ⟨S1x23552, .f32⟩
  | .local _ .vmem, ⟨4, _⟩ => ⟨S1x23552, .f32⟩
  | .local _ .vmem, ⟨5, _⟩ => ⟨S1x23552, .f32⟩
  | .local _ .vmem, ⟨6, _⟩ => ⟨S1x23552, .f32⟩
  | .local _ .vmem, ⟨7, _⟩ => ⟨S1x23552, .f32⟩
  | .local _ .vmem, ⟨8, _⟩ => ⟨S1x23552, .f32⟩
  | .local _ .smem, ⟨0, _⟩ => ⟨S1, .i32⟩
  | _, _ => ⟨S8x1x23552, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1x23552 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x23552 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x23552 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x23552 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x23552 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x23552 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x23552 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x23552 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x23552 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference25Ideal.lean ====
abbrev S1 : Shape := ⟨1, ![1]⟩
abbrev S8x1x23552 : Shape := ⟨3, ![8, 1, 23552]⟩
abbrev S1x23552 : Shape := ⟨2, ![1, 23552]⟩
abbrev S1x1x1 : Shape := ⟨3, ![1, 1, 1]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1x23552, .f32⟩
  | .hbm, ⟨2, _⟩ => ⟨S1x23552, .f32⟩
  | .hbm, ⟨3, _⟩ => ⟨S1x23552, .f32⟩
  | .hbm, ⟨4, _⟩ => ⟨S1x23552, .f32⟩
  | .hbm, ⟨5, _⟩ => ⟨S1x23552, .f32⟩
  | .hbm, ⟨6, _⟩ => ⟨S8x1x23552, .i32⟩
  | .hbm, ⟨7, _⟩ => ⟨S1x1x1, .i32⟩
  | .hbm, ⟨8, _⟩ => ⟨S8x1x23552, .i32⟩
  | .hbm, ⟨9, _⟩ => ⟨S8x1x23552, .i1⟩
  | .hbm, ⟨10, _⟩ => ⟨S8x1x23552, .f32⟩
  | .hbm, ⟨11, _⟩ => ⟨S8x1x23552, .f32⟩
  | .hbm, ⟨12, _⟩ => ⟨S_, .f32⟩
  | .hbm, ⟨13, _⟩ => ⟨S1x23552, .f32⟩
  | .hbm, ⟨14, _⟩ => ⟨S_, .f32⟩
  | .hbm, ⟨15, _⟩ => ⟨S1x23552, .f32⟩
  | .hbm, ⟨16, _⟩ => ⟨S1x23552, .f32⟩
  | .hbm, ⟨17, _⟩ => ⟨S_, .f32⟩
  | .hbm, ⟨18, _⟩ => ⟨S1x23552, .f32⟩
  | .hbm, ⟨19, _⟩ => ⟨S1x23552, .f32⟩
  | .hbm, ⟨20, _⟩ => ⟨S1x23552, .f32⟩
  | .hbm, ⟨21, _⟩ => ⟨S_, .f32⟩
  | .hbm, ⟨22, _⟩ => ⟨S1x23552, .f32⟩
  | .hbm, ⟨23, _⟩ => ⟨S1x23552, .f32⟩
  | .hbm, ⟨24, _⟩ => ⟨S1x23552, .f32⟩
  | .hbm, ⟨25, _⟩ => ⟨S_, .f32⟩
  | .hbm, ⟨26, _⟩ => ⟨S1x23552, .f32⟩
  | .hbm, ⟨27, _⟩ => ⟨S1x23552, .f32⟩
  | .hbm, ⟨28, _⟩ => ⟨S1x23552, .f32⟩
  | .hbm, ⟨29, _⟩ => ⟨S_, .f32⟩
  | .hbm, ⟨30, _⟩ => ⟨S1x23552, .f32⟩
  | .hbm, ⟨31, _⟩ => ⟨S1x23552, .f32⟩
  | .hbm, ⟨32, _⟩ => ⟨S_, .f32⟩
  | .hbm, ⟨33, _⟩ => ⟨S1x23552, .f32⟩
  | .hbm, ⟨34, _⟩ => ⟨S1x23552, .f32⟩
  | .hbm, ⟨35, _⟩ => ⟨S1x23552, .f32⟩
  | .hbm, ⟨36, _⟩ => ⟨S_, .f32⟩
  | .hbm, ⟨37, _⟩ => ⟨S1x23552, .f32⟩
  | .hbm, ⟨38, _⟩ => ⟨S1x23552, .f32⟩
  | .hbm, ⟨39, _⟩ => ⟨S1x23552, .f32⟩
  | .hbm, ⟨40, _⟩ => ⟨S_, .f32⟩
  | .hbm, ⟨41, _⟩ => ⟨S1x23552, .f32⟩
  | .hbm, ⟨42, _⟩ => ⟨S1x23552, .f32⟩
  | .hbm, ⟨43, _⟩ => ⟨S1x23552, .f32⟩
  | .hbm, ⟨44, _⟩ => ⟨S_, .f32⟩
  | .hbm, ⟨45, _⟩ => ⟨S1x23552, .f32⟩
  | .hbm, ⟨46, _⟩ => ⟨S1x23552, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Proof.Softmax.lean ====
/- Softmax rows over the extended reals, and their gradient written in two ways. Nothing here mentions a program.

   A row of scores `f` has a largest element `top f`, a mass `∑ exp (f j - top f)` and a log-sum `lse f`. One way to
   write its softmax is `exp (f j - lse f)`, the other is `exp (f j - top f) / mass f`. They agree on a row that has no
   `⊤` and at least one finite element (`row_real`), a masked element being `⊥` and its weight 0. The gradient of the
   row against a cotangent `dp` is then the same number in the two spellings (`grad_eq`), whatever `dp` is: only the
   weights have to be real, since a finite factor that is not negative passes through a sum of extended reals. -/
module

public import Idealize.ShloMosaic.PureOps.Ideal

@[expose] public section

noncomputable section

namespace Cert.Softmax

open Idealize.ShloMosaic

variable {n : ℕ}

/-- The largest element of a row. -/
def top (f : Fin n → EReal) : EReal := Finset.univ.fold max ⊥ f

/-- The mass of a row: the sum of its exponentials, taken from the largest element. -/
def mass (f : Fin n → EReal) : EReal := ∑ j, Ideal.exp (f j - top f)

/-- The logarithm of the sum of a row's exponentials. -/
def lse (f : Fin n → EReal) : EReal := top f + Ideal.log (mass f)

/-- An element's weight, by way of the row's log-sum. -/
def prob (f : Fin n → EReal) (j : Fin n) : EReal := Ideal.exp (f j - lse f)

/-- The gradient of a row's scores against the weights' cotangent `dp`, times a scale `c`. -/
def grad (f dp : Fin n → EReal) (c : EReal) (j : Fin n) : EReal :=
  prob f j * (dp j - ∑ k, dp k * prob f k) * c

theorem top_eq_sup (f : Fin n → EReal) : top f = Finset.univ.sup f := rfl

theorem le_top (f : Fin n → EReal) (j : Fin n) : f j ≤ top f := Finset.le_sup (Finset.mem_univ j)

/-! ### Rows cut at the mask: elements that are `⊥` may be left out -/

/-- A sum whose terms from `n` on are zero is the sum of the first `n`. -/
theorem sum_cut {n N : ℕ} (h : n ≤ N) (f : Fin N → EReal) (hf : ∀ j : Fin N, n ≤ j.val → f j = 0) :
    ∑ j : Fin n, f (Fin.castLE h j) = ∑ j, f j := by
  obtain ⟨k, rfl⟩ := Nat.exists_eq_add_of_le h
  rw [Fin.sum_univ_add, Finset.sum_eq_zero (s := Finset.univ (α := Fin k)) fun j _ => hf _ (by simp), add_zero]
  rfl

/-- The largest element of a row whose elements from `n` on are `⊥`. -/
theorem top_cut {n N : ℕ} (h : n ≤ N) (f : Fin N → EReal) (hf : ∀ j : Fin N, n ≤ j.val → f j = ⊥) :
    top (fun j : Fin n => f (Fin.castLE h j)) = top f := by
  refine le_antisymm (Finset.sup_le fun j _ => le_top f _) (Finset.sup_le fun j _ => ?_)
  by_cases hj : j.val < n
  · exact le_top (fun j : Fin n => f (Fin.castLE h j)) ⟨j.val, hj⟩
  · rw [hf j (by omega)]; exact bot_le

theorem exp_bot_sub (x : EReal) : Ideal.exp (⊥ - x) = 0 := by
  rw [sub_eq_add_neg, EReal.bot_add, Ideal.exp_bot]

theorem mass_cut {n N : ℕ} (h : n ≤ N) (f : Fin N → EReal) (hf : ∀ j : Fin N, n ≤ j.val → f j = ⊥) :
    mass (fun j : Fin n => f (Fin.castLE h j)) = mass f := by
  unfold mass
  rw [top_cut h f hf]
  exact sum_cut h (fun j => Ideal.exp (f j - top f)) fun j hj => by rw [hf j hj, exp_bot_sub]

theorem lse_cut {n N : ℕ} (h : n ≤ N) (f : Fin N → EReal) (hf : ∀ j : Fin N, n ≤ j.val → f j = ⊥) :
    lse (fun j : Fin n => f (Fin.castLE h j)) = lse f := by
  unfold lse; rw [top_cut h f hf, mass_cut h f hf]

/-- A masked element has no weight. -/
theorem prob_bot (f : Fin n → EReal) {j : Fin n} (hj : f j = ⊥) : prob f j = 0 := by
  unfold prob; rw [hj, exp_bot_sub]

/-- A masked score has no gradient. -/
theorem grad_bot (f dp : Fin n → EReal) (c : EReal) {j : Fin n} (hj : f j = ⊥) : grad f dp c j = 0 := by
  unfold grad; rw [prob_bot f hj, zero_mul, zero_mul]

/-! ### The two spellings of a weight -/

/-- On a row without `⊤` that has a finite element everything is real: the largest element, the exponentials, the mass,
    which is positive, and the weights, which are the exponentials over the mass. -/
theorem row_real (f : Fin n → EReal) (hT : ∀ j, f j ≠ ⊤) (j₀ : Fin n) (h₀ : f j₀ ≠ ⊥) :
    ∃ (l : ℝ) (a : Fin n → ℝ), 0 < l ∧ (∀ j, 0 ≤ a j) ∧ (∀ j, Ideal.exp (f j - top f) = ((a j : ℝ) : EReal))
      ∧ mass f = ((l : ℝ) : EReal) ∧ ∀ j, prob f j = ((a j * (1 / l) : ℝ) : EReal) := by
  obtain ⟨j₁, -, h₁⟩ := Finset.exists_mem_eq_sup (Finset.univ (α := Fin n)) ⟨j₀, Finset.mem_univ _⟩ f
  have htop : top f = f j₁ := h₁
  have hb : f j₁ ≠ ⊥ := fun e => h₀ (le_bot_iff.mp (e ▸ htop ▸ le_top f j₀))
  obtain ⟨M, hM⟩ : ∃ M : ℝ, f j₁ = (M : EReal) := ⟨_, (EReal.coe_toReal (hT j₁) hb).symm⟩
  have hM' : top f = (M : EReal) := htop.trans hM
  let a : Fin n → ℝ := fun j => if f j = ⊥ then 0 else Real.exp ((f j).toReal - M)
  have ha : ∀ j, Ideal.exp (f j - top f) = ((a j : ℝ) : EReal) := fun j => by
    by_cases hj : f j = ⊥
    · simp only [a, hj, if_true]; rw [exp_bot_sub]; rfl
    · simp only [a, hj, if_false]
      conv_lhs => rw [hM', ← EReal.coe_toReal (hT j) hj, ← EReal.coe_sub, Ideal.exp_coe]
  have hnn : ∀ j, 0 ≤ a j := fun j => by
    simp only [a]; split
    · exact le_rfl
    · exact (Real.exp_pos _).le
  have hl : mass f = ((∑ j, a j : ℝ) : EReal) := by
    unfold mass; rw [Finset.sum_congr rfl fun j _ => ha j]
    induction (Finset.univ : Finset (Fin n)) using Finset.induction_on with
    | empty => simp
    | insert j s hj ih => rw [Finset.sum_insert hj, Finset.sum_insert hj, ih, EReal.coe_add]
  have hpos : 0 < ∑ j, a j := Finset.sum_pos' (fun j _ => hnn j) ⟨j₀, Finset.mem_univ _, by
    simp only [a, h₀, if_false]; exact Real.exp_pos _⟩
  refine ⟨∑ j, a j, a, hpos, hnn, ha, hl, fun j => ?_⟩
  unfold prob lse
  rw [hM', hl, Ideal.log_coe, if_neg (not_le.mpr hpos), ← EReal.coe_add]
  by_cases hj : f j = ⊥
  · rw [hj, exp_bot_sub]; simp only [a, hj, if_true, zero_mul]; rfl
  · conv_lhs => rw [← EReal.coe_toReal (hT j) hj, ← EReal.coe_sub, Ideal.exp_coe]
    simp only [a, hj, if_false]
    rw [sub_add_eq_sub_sub, Real.exp_sub _ (Real.log _), Real.exp_log hpos, mul_one_div]

/-! ### The two spellings of the gradient -/

/-- A finite factor that is not negative passes through a sum. -/
theorem sum_mul_coe {ι : Type} (s : Finset ι) (g : ι → EReal) {r : ℝ} (hr : 0 ≤ r) :
    ∑ k ∈ s, g k * (r : EReal) = (∑ k ∈ s, g k) * (r : EReal) := by
  classical
  induction s using Finset.induction_on with
  | empty => simp
  | insert j s hj ih =>
    rw [Finset.sum_insert hj, Finset.sum_insert hj, ih,
      EReal.right_distrib_of_nonneg_of_ne_top (EReal.coe_nonneg.mpr hr) (EReal.coe_ne_top r)]

/-- Division by a positive real is the product with its reciprocal. -/
theorem div_pos (x : EReal) {l : ℝ} (hl : 0 < l) : Ideal.div x (l : EReal) = x * ((1 / l : ℝ) : EReal) :=
  Ideal.div_coe hl.ne' x

/-- The weight as a quotient of the exponential by the mass. -/
theorem quot_eq_prob (f : Fin n → EReal) (hT : ∀ j, f j ≠ ⊤) (j₀ : Fin n) (h₀ : f j₀ ≠ ⊥) (j : Fin n) :
    Ideal.div (Ideal.exp (f j - top f)) (mass f) = prob f j := by
  obtain ⟨l, a, hl, -, ha, hm, hp⟩ := row_real f hT j₀ h₀
  rw [ha, hm, hp, div_pos _ hl, EReal.coe_mul]

/-- The gradient in the quotient's spelling: the cotangent over the mass, less the row's sum over the mass squared,
    times the exponential. -/
theorem quot_grad (f dp : Fin n → EReal) (hT : ∀ j, f j ≠ ⊤) (j₀ : Fin n) (h₀ : f j₀ ≠ ⊥) (j : Fin n) :
    (Ideal.div (dp j) (mass f)
        + -(∑ k, dp k * Ideal.div 1 (mass f * mass f) * Ideal.exp (f k - top f))) * Ideal.exp (f j - top f)
      = prob f j * (dp j - ∑ k, dp k * prob f k) := by
  obtain ⟨l, a, hl, hn, ha, hm, hp⟩ := row_real f hT j₀ h₀
  have hi : (0 : ℝ) ≤ 1 / l := by positivity
  have h2 : Ideal.div 1 (mass f * mass f) = ((1 / l * (1 / l) : ℝ) : EReal) := by
    rw [hm, ← EReal.coe_mul, div_pos _ (mul_pos hl hl), one_mul]
    congr 1; field_simp
  have e1 : ∑ k, dp k * prob f k = (∑ k, dp k * (a k : EReal)) * ((1 / l : ℝ) : EReal) := by
    rw [← sum_mul_coe _ _ hi]
    exact Finset.sum_congr rfl fun k _ => by rw [hp, EReal.coe_mul, mul_assoc]
  have e2 : ∑ k, dp k * Ideal.div 1 (mass f * mass f) * Ideal.exp (f k - top f)
      = (∑ k, dp k * (a k : EReal)) * ((1 / l : ℝ) : EReal) * ((1 / l : ℝ) : EReal) := by
    rw [mul_assoc, ← EReal.coe_mul, ← sum_mul_coe _ _ (mul_nonneg hi hi)]
    exact Finset.sum_congr rfl fun k _ => by rw [h2, ha]; ac_rfl
  rw [e1, e2, ha, hm, hp, div_pos _ hl, EReal.coe_mul, ← EReal.neg_mul,
    ← EReal.right_distrib_of_nonneg_of_ne_top (EReal.coe_nonneg.mpr hi) (EReal.coe_ne_top _), ← sub_eq_add_neg]
  ac_rfl

end Cert.Softmax

end
-- ==== Proof.Attention.lean ====
/- The attention gradient of one head as mathematics: rows of queries, keys, values and cotangents over the extended
   reals, no program. A row's scores are the scaled products with the keys up to the row's own position, `⊥` after it.

   `dq`, `dk`, `dv` are the three gradients as sums over the whole sequence. A program may look at a row's first `n` keys
   only, `n` past the row's position: the keys it leaves out have no weight and no gradient, so the row's numbers are the
   same (`lse_pre`, `probs_pre`, `dscores_pre`, `sum_pre`). -/
module

public import proofs.«01_k».proof.Proof.Softmax
public import Idealize.ShloMosaic.Lib.WordCmp
public import Idealize.ShloMosaic.Lib.Pointwise

@[expose] public section

noncomputable section

namespace Cert.Attention

open Idealize.ShloMosaic Cert.Softmax

/-- The scale of the scores: the word both programs multiply by. -/
abbrev scale : EReal := Ideal.ofBits .f32 0x3D93CD3A#32

section Row

variable {n : ℕ}

/-- The scores of a query at position `pos` against `n` keys: scaled products, masked after the position. -/
def scores (q : Fin 192 → EReal) (k : Fin n → Fin 192 → EReal) (pos : ℕ) (j : Fin n) : EReal :=
  if j.val ≤ pos then (∑ d, q d * k j d) * scale else ⊥

/-- The weights' cotangent: the products of a row's cotangent with the values. -/
def dprobs (g : Fin 128 → EReal) (v : Fin n → Fin 128 → EReal) (j : Fin n) : EReal := ∑ e, g e * v j e

/-- A row's weights, from its scores and its log-sum. -/
def probs (s : Fin n → EReal) (L : EReal) (j : Fin n) : EReal := Ideal.exp (s j - L)

/-- The gradient of a row's scores, from its weights and their cotangent. -/
def dscores (p dp : Fin n → EReal) (j : Fin n) : EReal := p j * (dp j - ∑ k, dp k * p k) * scale

end Row

/-! ### One head -/

section Head

variable (q k : Fin 2176 → Fin 192 → EReal) (v g : Fin 2176 → Fin 128 → EReal)

/-- Row `r`'s scores. -/
def S (r : Fin 2176) : Fin 2176 → EReal := scores (q r) k r.val
/-- Row `r`'s weights. -/
def P (r : Fin 2176) : Fin 2176 → EReal := probs (S q k r) (lse (S q k r))
/-- The gradient of row `r`'s scores. -/
def DS (r : Fin 2176) : Fin 2176 → EReal := dscores (P q k r) (dprobs (g r) v)

/-- The gradient of the queries. -/
def dq (r : Fin 2176) (d : Fin 192) : EReal := ∑ j, DS q k v g r j * k j d
/-- The gradient of the keys. -/
def dk (j : Fin 2176) (d : Fin 192) : EReal := ∑ r, DS q k v g r j * q r d
/-- The gradient of the values. -/
def dv (j : Fin 2176) (e : Fin 128) : EReal := ∑ r, P q k r j * g r e

theorem S_masked {r j : Fin 2176} (h : r.val < j.val) : S q k r j = ⊥ := if_neg (by omega)

theorem P_masked {r j : Fin 2176} (h : r.val < j.val) : P q k r j = 0 := prob_bot _ (S_masked q k h)

theorem DS_masked {r j : Fin 2176} (h : r.val < j.val) : DS q k v g r j = 0 := grad_bot _ _ _ (S_masked q k h)

/-! ### A row against its first `n` keys -/

variable {n : ℕ} (hn : n ≤ 2176) (r : Fin 2176)

/-- The log-sum of the first `n` scores is the row's. -/
theorem lse_pre (hr : r.val < n) : lse (scores (q r) (fun j : Fin n => k (Fin.castLE hn j)) r.val) = lse (S q k r) :=
  lse_cut hn (S q k r) fun _ hj => S_masked q k (by omega)

/-- The weights of the first `n` keys are the row's. -/
theorem probs_pre (j : Fin n) :
    probs (scores (q r) (fun j : Fin n => k (Fin.castLE hn j)) r.val) (lse (S q k r)) j = P q k r (Fin.castLE hn j) := rfl

/-- The gradient of the first `n` scores is the row's. -/
theorem dscores_pre (hr : r.val < n) (j : Fin n) :
    dscores (probs (scores (q r) (fun j : Fin n => k (Fin.castLE hn j)) r.val) (lse (S q k r)))
        (dprobs (g r) fun j : Fin n => v (Fin.castLE hn j)) j
      = DS q k v g r (Fin.castLE hn j) := by
  unfold DS dscores
  rw [← sum_cut hn (fun j => dprobs (g r) v j * P q k r j) fun j hj => by rw [P_masked q k (by omega), mul_zero]]
  rfl

/-- The gradient of the queries needs the first `n` keys only. -/
theorem dq_pre (hr : r.val < n) (d : Fin 192) :
    ∑ j : Fin n, DS q k v g r (Fin.castLE hn j) * k (Fin.castLE hn j) d = dq q k v g r d :=
  sum_cut hn (fun j => DS q k v g r j * k j d) fun j hj => by rw [DS_masked q k v g (by omega), zero_mul]

end Head

/-! ### A sum over the rows as four sums over 544 rows -/

section Parts

variable (q k : Fin 2176 → Fin 192 → EReal) (v g : Fin 2176 → Fin 128 → EReal)

/-- Row `r` of the 544 from row `o` on. -/
abbrev row (o : ℕ) (r : Fin 544) (ho : o + 544 ≤ 2176 := by decide) : Fin 2176 := ⟨o + r.val, by omega⟩

theorem sum_rows (f : Fin 2176 → EReal) :
    ∑ r, f r = (((0 + ∑ r, f (row 0 r)) + ∑ r, f (row 544 r)) + ∑ r, f (row 1088 r)) + ∑ r, f (row 1632 r) := by
  rw [Fin.sum_univ_add (a := 1632) (b := 544) f, Fin.sum_univ_add (a := 1088) (b := 544), Fin.sum_univ_add (a := 544) (b := 544),
    zero_add]
  refine congrArg₂ (· + ·) (congrArg₂ (· + ·) (congrArg₂ (· + ·) ?_ ?_) ?_) ?_
  · exact Finset.sum_congr rfl fun r _ => congrArg f (Fin.ext (Nat.zero_add _).symm)
  all_goals rfl

/-- What 544 rows add to the gradient of the keys. -/
def dkPart (o : ℕ) (j : Fin 2176) (d : Fin 192) (ho : o + 544 ≤ 2176 := by decide) : EReal :=
  ∑ r, DS q k v g (row o r ho) j * q (row o r ho) d
/-- What 544 rows add to the gradient of the values. -/
def dvPart (o : ℕ) (j : Fin 2176) (e : Fin 128) (ho : o + 544 ≤ 2176 := by decide) : EReal :=
  ∑ r, P q k (row o r ho) j * g (row o r ho) e

theorem dk_parts (j : Fin 2176) (d : Fin 192) :
    dk q k v g j d = (((0 + dkPart q k v g 0 j d) + dkPart q k v g 544 j d) + dkPart q k v g 1088 j d) + dkPart q k v g 1632 j d :=
  sum_rows _
theorem dv_parts (j : Fin 2176) (e : Fin 128) :
    dv q k g j e = (((0 + dvPart q k g 0 j e) + dvPart q k g 544 j e) + dvPart q k g 1088 j e) + dvPart q k g 1632 j e :=
  sum_rows _

/-- Keys after the rows get nothing from them. -/
theorem dkPart_after (o : ℕ) {j : Fin 2176} (h : o + 544 ≤ j.val) (d : Fin 192) (ho : o + 544 ≤ 2176 := by decide) :
    dkPart q k v g o j d ho = 0 :=
  Finset.sum_eq_zero fun r _ => by rw [DS_masked q k v g (by show o + r.val < _; omega), zero_mul]
theorem dvPart_after (o : ℕ) {j : Fin 2176} (h : o + 544 ≤ j.val) (e : Fin 128) (ho : o + 544 ≤ 2176 := by decide) :
    dvPart q k g o j e ho = 0 :=
  Finset.sum_eq_zero fun r _ => by rw [P_masked q k (by show o + r.val < _; omega), zero_mul]

end Parts

/-! ### The mask as the programs compute it: a signed comparison of two 32-bit counters -/

theorem mask_eq {a b : ℕ} (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat ha hb]
  by_cases h : a ≤ b <;> simp [Scalar.select, h]

/-- The word of the masked score. -/
theorem ofBits_neg_inf : Ideal.ofBits .f32 0xFF800000#32 = ⊥ := by simp [Ideal.ofBits, Ideal.ieee, -EReal.coe_mul]

/-- A score masked at a 32-bit comparison of the key's number with the row's, which is `o` past its number in its block. -/
theorem scores_of_words {n : ℕ} (q : Fin 192 → EReal) (k : Fin n → Fin 192 → EReal) (o : ℕ) (r : Fin 544) (j : Fin n)
    (hn : n < 2 ^ 31 := by decide) (ho : o + 544 < 2 ^ 31 := by decide) :
    Scalar.select (IntOp.cmpi .sle (BitVec.ofNat 32 j.val) (IntOp.addi (BitVec.ofNat 32 o) (BitVec.ofNat 32 r.val)))
        ((∑ d, q d * k j d) * Ideal.ofBits .f32 0x3D93CD3A#32) (Ideal.ofBits .f32 0xFF800000#32)
      = scores q k (o + r.val) j := by
  rw [show IntOp.addi (BitVec.ofNat 32 o) (BitVec.ofNat 32 r.val) = BitVec.ofNat 32 (o + r.val) from (BitVec.ofNat_add ..).symm,
    mask_eq (by omega) (by omega), ofBits_neg_inf]
  rfl

/-! ### A block of 544 rows against the first `n` keys, as the programs hold it -/

section Block

variable {n : ℕ} (o : ℕ) (q : Vec Ideal ⟨3, ![1, 544, 192]⟩ .bf16) (k : Vec Ideal ⟨3, ![1, n, 192]⟩ .bf16)
  (l : Vec Ideal ⟨3, ![1, 544, 1]⟩ .f32) (g : Vec Ideal ⟨2, ![544, 128]⟩ .bf16) (v : Vec Ideal ⟨3, ![1, n, 128]⟩ .bf16)

/-- A block's scores of row `r`, which is row `o + r` of the sequence, against the first `n` keys. -/
abbrev bscores (r : Fin 544) : Fin n → EReal :=
  scores (fun d => q (ix3 0 r d)) (fun j d => k (ix3 0 j d)) (o + r.val)

/-- The block's weights, by the log-sums it is given. -/
abbrev bprobs (r : Fin 544) : Fin n → EReal := probs (bscores o q k r) (l (ix3 0 r 0))

/-- The gradient of the block's scores. -/
abbrev bdscores (r : Fin 544) : Fin n → EReal :=
  dscores (bprobs o q k l r) (dprobs (fun e => g (ix2 r e)) fun j e => v (ix3 0 j e))

/-! The block's numbers are the sequence's, when what it holds are rows `o` to `o + 543` and the first `n` keys. -/

variable {o q k l g v} {Q K : Fin 2176 → Fin 192 → EReal} {W G : Fin 2176 → Fin 128 → EReal} {r : Fin 544} {i : Fin 2176}

theorem bscores_eq (hn : n ≤ 2176) (hi : i.val = o + r.val) (hq : ∀ d, q (ix3 0 r d) = Q i d)
    (hk : ∀ j d, k (ix3 0 j d) = K (Fin.castLE hn j) d) :
    bscores o q k r = scores (Q i) (fun j : Fin n => K (Fin.castLE hn j)) i.val := by
  funext j
  simp only [bscores, scores, hi, hq, hk]

theorem blse_eq (hn : n ≤ 2176) (hi : i.val = o + r.val) (ho : o + 544 ≤ n) (hq : ∀ d, q (ix3 0 r d) = Q i d)
    (hk : ∀ j d, k (ix3 0 j d) = K (Fin.castLE hn j) d) : lse (bscores o q k r) = lse (S Q K i) := by
  rw [bscores_eq hn hi hq hk]; exact lse_pre Q K hn i (by omega)

theorem bprobs_eq (hn : n ≤ 2176) (hi : i.val = o + r.val) (hq : ∀ d, q (ix3 0 r d) = Q i d)
    (hk : ∀ j d, k (ix3 0 j d) = K (Fin.castLE hn j) d) (hl : l (ix3 0 r 0) = lse (S Q K i)) (j : Fin n) :
    bprobs o q k l r j = P Q K i (Fin.castLE hn j) := by
  unfold bprobs; rw [bscores_eq hn hi hq hk, hl]; rfl

theorem bdscores_eq (hn : n ≤ 2176) (hi : i.val = o + r.val) (ho : o + 544 ≤ n) (hq : ∀ d, q (ix3 0 r d) = Q i d)
    (hk : ∀ j d, k (ix3 0 j d) = K (Fin.castLE hn j) d) (hl : l (ix3 0 r 0) = lse (S Q K i))
    (hg : ∀ e, g (ix2 r e) = G i e) (hv : ∀ j e, v (ix3 0 j e) = W (Fin.castLE hn j) e) (j : Fin n) :
    bdscores o q k l g v r j = DS Q K W G i (Fin.castLE hn j) := by
  unfold bdscores bprobs; rw [bscores_eq hn hi hq hk, hl]; simp only [hg, hv]
  exact dscores_pre Q K W G hn i (by omega) j

theorem bdq_eq (hn : n ≤ 2176) (hi : i.val = o + r.val) (ho : o + 544 ≤ n) (hq : ∀ d, q (ix3 0 r d) = Q i d)
    (hk : ∀ j d, k (ix3 0 j d) = K (Fin.castLE hn j) d) (hl : l (ix3 0 r 0) = lse (S Q K i))
    (hg : ∀ e, g (ix2 r e) = G i e) (hv : ∀ j e, v (ix3 0 j e) = W (Fin.castLE hn j) e) (d : Fin 192) :
    ∑ j, bdscores o q k l g v r j * k (ix3 0 j d) = dq Q K W G i d := by
  rw [← dq_pre Q K W G hn i (by omega) d]
  exact Finset.sum_congr rfl fun j _ => by rw [bdscores_eq hn hi ho hq hk hl hg hv, hk]

theorem bdk_eq (ho : o + 544 ≤ n) (hn : n ≤ 2176) (hq : ∀ r d, q (ix3 0 r d) = Q (row o r (ho.trans hn)) d)
    (hk : ∀ j d, k (ix3 0 j d) = K (Fin.castLE hn j) d) (hl : ∀ r, l (ix3 0 r 0) = lse (S Q K (row o r (ho.trans hn))))
    (hg : ∀ r e, g (ix2 r e) = G (row o r (ho.trans hn)) e) (hv : ∀ j e, v (ix3 0 j e) = W (Fin.castLE hn j) e)
    (j : Fin n) (d : Fin 192) :
    ∑ r, bdscores o q k l g v r j * q (ix3 0 r d) = dkPart Q K W G o (Fin.castLE hn j) d (ho.trans hn) :=
  Finset.sum_congr rfl fun r _ => by rw [bdscores_eq hn rfl ho (hq r) hk (hl r) (hg r) hv, hq]

theorem bdv_eq (ho : o + 544 ≤ n) (hn : n ≤ 2176) (hq : ∀ r d, q (ix3 0 r d) = Q (row o r (ho.trans hn)) d)
    (hk : ∀ j d, k (ix3 0 j d) = K (Fin.castLE hn j) d) (hl : ∀ r, l (ix3 0 r 0) = lse (S Q K (row o r (ho.trans hn))))
    (hg : ∀ r e, g (ix2 r e) = G (row o r (ho.trans hn)) e) (j : Fin n) (e : Fin 128) :
    ∑ r, bprobs o q k l r j * g (ix2 r e) = dvPart Q K G o (Fin.castLE hn j) e (ho.trans hn) :=
  Finset.sum_congr rfl fun r _ => by rw [bprobs_eq hn rfl (hq r) hk (hl r), hg]

end Block

end Cert.Attention

end
-- ==== Proof.Logsum.lean ====
/- What the forward call leaves of a row: its log-sum. One lemma per block of 544 query rows (`k0_pay12`, `k0_pay6`, …: the
   values stored into the log-sum's array), each the log-sum of the row's scores against the keys the block looks at. -/
module

public import proofs.«01_k».proof.Proof.Attention
public import proofs.«01_k».proof.Proof.Gen.KernelIdeal.Skeleton
public import Idealize.ShloMosaic.Lib.Pointwise

@[expose] public section

set_option maxRecDepth 16384

noncomputable section

namespace Cert.KernelIdeal.Logsum

open Idealize.ShloMosaic Idealize.ShloMosaic.TcCoe Cert.KernelIdeal Cert.KernelIdeal.Gen Cert.Attention Cert.Softmax

variable (q : Vec Ideal S1x544x192 .bf16)

/-- The largest element of each of 544 rows, as the call takes it. -/
theorem row_top {n : ℕ} (x : FVec Ideal ⟨2, ![544, n]⟩ .f32) (h : (⟨2, ![544, n]⟩ : Shape).Reduces [1] S544)
    (h' : S544.ShapeCasts S544x1) (r : Fin 544) :
    shapeCast S544x1 (multiReduction .maximumf [1] S544 x 0xFF800000#32 h (.inl rfl) rfl) h' (ix2 r 0)
      = top fun k => x (ix2 r k) := by
  pointwise
  rw [Attention.ofBits_neg_inf]
  rfl

/-- The log-sum of each of 544 rows, from the largest elements and the masses. -/
theorem row_lse (a b : FVec Ideal S544x1 .f32) (h : S544x1.ShapeCasts S1x544x1) (r : Fin 544) :
    shapeCast S1x544x1 (addf a (log b)) h (ix3 0 r 0) = a (ix2 r 0) + Ideal.log (b (ix2 r 0)) := by
  pointwise

theorem scores0 (k : Vec Ideal S1x544x192 .bf16) (r : Fin 544) (j : Fin 544) :
    k0_pay7 q k (ix2 r j) = bscores 0 q k r j := by
  pointwise [k0_pay7]
  exact (scores_of_words (fun d => q (ix3 0 r d)) (fun (j : Fin 544) d => k (ix3 0 j d)) 0 r j)

theorem top0 (k : Vec Ideal S1x544x192 .bf16) (r : Fin 544) :
    k0_pay8 q k (ix2 r 0) = top (bscores 0 q k r) := by
  refine (row_top (k0_pay7 q k) _ _ r).trans (congrArg top (funext fun j => ?_))
  exact scores0 q k r j

theorem mass0 (k : Vec Ideal S1x544x192 .bf16) (r : Fin 544) :
    k0_pay10 q k (ix2 r 0) = mass (bscores 0 q k r) := by
  pointwise [k0_pay10, k0_pay9]
  simp only [scores0, top0]
  rfl

theorem block0 (k : Vec Ideal S1x544x192 .bf16) (r : Fin 544) :
    k0_pay12 q k (ix3 0 r 0) = lse (bscores 0 q k r) := by
  refine (row_lse (k0_pay8 q k) (k0_pay10 q k) _ r).trans ?_
  rw [top0, mass0]
  rfl

theorem scores1 (k : Vec Ideal S1x1088x192 .bf16) (r : Fin 544) (j : Fin 1088) :
    k0_pay13 q k (ix2 r j) = bscores 544 q k r j := by
  pointwise [k0_pay13]
  exact (scores_of_words (fun d => q (ix3 0 r d)) (fun (j : Fin 1088) d => k (ix3 0 j d)) 544 r j)

theorem top1 (k : Vec Ideal S1x1088x192 .bf16) (r : Fin 544) :
    k0_pay14 q k (ix2 r 0) = top (bscores 544 q k r) := by
  refine (row_top (k0_pay13 q k) _ _ r).trans (congrArg top (funext fun j => ?_))
  exact scores1 q k r j

theorem mass1 (k : Vec Ideal S1x1088x192 .bf16) (r : Fin 544) :
    k0_pay16 q k (ix2 r 0) = mass (bscores 544 q k r) := by
  pointwise [k0_pay16, k0_pay15]
  simp only [scores1, top1]
  rfl

theorem block1 (k : Vec Ideal S1x1088x192 .bf16) (r : Fin 544) :
    k0_pay18 q k (ix3 0 r 0) = lse (bscores 544 q k r) := by
  refine (row_lse (k0_pay14 q k) (k0_pay16 q k) _ r).trans ?_
  rw [top1, mass1]
  rfl

theorem scores2 (k : Vec Ideal S1x1632x192 .bf16) (r : Fin 544) (j : Fin 1632) :
    k0_pay20 (k0_pay19 q) k (ix2 r j) = bscores 1088 q k r j := by
  pointwise [k0_pay20, k0_pay19]
  exact (scores_of_words (fun d => q (ix3 0 r d)) (fun (j : Fin 1632) d => k (ix3 0 j d)) 1088 r j)

theorem top2 (k : Vec Ideal S1x1632x192 .bf16) (r : Fin 544) :
    k0_pay21 (k0_pay19 q) k (ix2 r 0) = top (bscores 1088 q k r) := by
  refine (row_top (k0_pay20 (k0_pay19 q) k) _ _ r).trans (congrArg top (funext fun j => ?_))
  exact scores2 q k r j

theorem mass2 (k : Vec Ideal S1x1632x192 .bf16) (r : Fin 544) :
    k0_pay23 (k0_pay19 q) k (ix2 r 0) = mass (bscores 1088 q k r) := by
  pointwise [k0_pay23, k0_pay22]
  simp only [scores2, top2]
  rfl

theorem block2 (k : Vec Ideal S1x1632x192 .bf16) (r : Fin 544) :
    k0_pay25 (k0_pay19 q) k (ix3 0 r 0) = lse (bscores 1088 q k r) := by
  refine (row_lse (k0_pay21 (k0_pay19 q) k) (k0_pay23 (k0_pay19 q) k) _ r).trans ?_
  rw [top2, mass2]
  rfl

theorem scores3 (k : Vec Ideal S1x2176x192 .bf16) (r : Fin 544) (j : Fin 2176) :
    k0_pay1 (k0_pay26 q) k (ix2 r j) = bscores 1632 q k r j := by
  pointwise [k0_pay1, k0_pay26]
  exact (scores_of_words (fun d => q (ix3 0 r d)) (fun (j : Fin 2176) d => k (ix3 0 j d)) 1632 r j)

theorem top3 (k : Vec Ideal S1x2176x192 .bf16) (r : Fin 544) :
    k0_pay2 (k0_pay26 q) k (ix2 r 0) = top (bscores 1632 q k r) := by
  refine (row_top (k0_pay1 (k0_pay26 q) k) _ _ r).trans (congrArg top (funext fun j => ?_))
  exact scores3 q k r j

theorem mass3 (k : Vec Ideal S1x2176x192 .bf16) (r : Fin 544) :
    k0_pay4 (k0_pay26 q) k (ix2 r 0) = mass (bscores 1632 q k r) := by
  pointwise [k0_pay4, k0_pay3]
  simp only [scores3, top3]
  rfl

theorem block3 (k : Vec Ideal S1x2176x192 .bf16) (r : Fin 544) :
    k0_pay6 (k0_pay26 q) k (ix3 0 r 0) = lse (bscores 1632 q k r) := by
  refine (row_lse (k0_pay2 (k0_pay26 q) k) (k0_pay4 (k0_pay26 q) k) _ r).trans ?_
  rw [top3, mass3]
  rfl

end Cert.KernelIdeal.Logsum

end
-- ==== Proof.LogsumArray.lean ====
/- The log-sums' array after the forward call: every row of every head at the log-sum of its masked scores. -/
module

public import proofs.«01_k».proof.Proof.Logsum
public import proofs.«01_k».proof.Proof.Gen.KernelIdeal.Frame
public import Idealize.ShloMosaic.Lib.Pipeline.ValueKit

@[expose] public section

set_option maxRecDepth 16384

noncomputable section

namespace Cert.KernelIdeal.Logsum

open Idealize.ShloMosaic Idealize.ShloMosaic.TcCoe Idealize.SL.Sem
open Cert.KernelIdeal Cert.KernelIdeal.Gen Cert.Softmax Cert.Attention

variable (V : (c : Dev nD) → (b : Ref sig .tc) → Buf (Elt Ideal) ((c : Thread nD τ).loc b))

/-- An index of a block's column of log-sums is its row. -/
theorem col_idx (x : S1x544x1.Idx) : ∃ r : Fin 544, x = ix3 0 r 0 := ⟨x 1, by blk_ext⟩

/-- What the body leaves in the log-sums' buffer. -/
theorem out (x0 x1 : Vec Ideal S1x2176x192 .bf16) (x2 : Vec Ideal S1x2176x128 .bf16) (y : S1x2176x1.Idx) :
    out0_4 x0 x1 x2 y = lse (S (fun r d => x0 (ix3 0 r d)) (fun j d => x1 (ix3 0 j d)) (y 1)) := by
  unfold_out out0_4
  canon_tiles x h
  · obtain ⟨r, rfl⟩ := col_idx x
    rw [block3]
    refine blse_eq (by decide) h1 (by decide) (fun d => ?_) fun j d => ?_
    · pointwise [r0_14]
      exact congrArg (fun i => x0 (ix3 0 i d)) (Fin.ext h1.symm)
    · pointwise [r0_15]
      rfl
  · obtain ⟨r, rfl⟩ := col_idx x
    rw [block2]
    refine blse_eq (by decide) h1 (by decide) (fun d => ?_) fun j d => ?_
    · pointwise [r0_9]
      exact congrArg (fun i => x0 (ix3 0 i d)) (Fin.ext h1.symm)
    · pointwise [r0_10]
      rfl
  · obtain ⟨r, rfl⟩ := col_idx x
    rw [block1]
    refine blse_eq (by decide) h1 (by decide) (fun d => ?_) fun j d => ?_
    · pointwise [r0_4]
      exact congrArg (fun i => x0 (ix3 0 i d)) (Fin.ext h1.symm)
    · pointwise [r0_5]
      rfl
  · obtain ⟨r, rfl⟩ := col_idx x
    rw [block0]
    refine blse_eq (by decide) (h1.trans (Nat.zero_add _).symm) (by decide) (fun d => ?_) fun j d => ?_
    · pointwise [r0_0]
      exact congrArg (fun i => x0 (ix3 0 i d)) (Fin.ext h1.symm)
    · pointwise [r0_0]
      rfl

/-- Point `t` of the grid is head `t`. -/
theorem idx : ∀ t : Fin cfg0.N, win0_0.index t = ![t.val, 0, 0] ∧ win0_1.index t = ![t.val, 0, 0] ∧ win0_4.index t = ![t.val, 0, 0] :=
  (by decide +kernel : ∀ t : Fin grid0.N, _)

/-- The log-sums of every head's rows, from the arrays of queries and keys. -/
def LSE (q k : FVec Ideal S16x2176x192 .bf16) : FVec Ideal S16x2176x1 .f32 := fun i =>
  lse (S (fun r d => q (ix3 (i 0) r d)) (fun j d => k (ix3 (i 0) j d)) (i 1))

/-- The log-sums' array after the run. -/
theorem final (c : Dev nD) : (dat0 V c).arrAt 4 cfg0.N = LSE (V c main_arg0) (V c main_arg1) := by
  refine (dat0 V c).arrAt_eq_of_covers 4 _ (by decide +kernel) fun t hf y => ?_
  blk_simp
  rw [after0_4, out]
  blk_point [iblk0, LSE, idx t]

end Cert.KernelIdeal.Logsum

end
-- ==== Proof.Blocks.lean ====
/- What the backward call computes of a block of 544 query rows against the keys it looks at: the weights, the gradient of the
   scores, and what it adds to (or stores into) the three gradients. One lemma per value and block; the names are those of
   the values the skeleton states (`k1_pay7`, `k1_pay16`, `k1_pay24`, `k1_pay31` the weights of the four blocks, and so on). -/
module

public import proofs.«01_k».proof.Proof.Attention
public import proofs.«01_k».proof.Proof.Gen.KernelIdeal.Skeleton
public import Idealize.ShloMosaic.Lib.Pointwise

@[expose] public section

set_option maxRecDepth 16384

noncomputable section

namespace Cert.KernelIdeal.Blocks

open Idealize.ShloMosaic Idealize.ShloMosaic.TcCoe Cert.KernelIdeal Cert.KernelIdeal.Gen Cert.Attention Cert.Softmax

variable (q : Vec Ideal S1x544x192 .bf16) (l : Vec Ideal S1x544x1 .f32) (g : Vec Ideal S544x128 .bf16)

/-! ### The first 544 rows, against the first 544 keys -/

theorem probs0 (k : Vec Ideal S1x544x192 .bf16) (r : Fin 544) (j : Fin 544) :
    k1_pay7 q k l (ix2 r j) = bprobs 0 q k l r j := by
  pointwise [k1_pay7, k1_pay5, k1_pay6]
  simp only [scores_of_words (fun d => q (ix3 0 r d)) (fun (j : Fin 544) d => k (ix3 0 j d)) 0 r]
  rfl

theorem dscores0 (k : Vec Ideal S1x544x192 .bf16) (v : Vec Ideal S1x544x128 .bf16) (r : Fin 544) (j : Fin 544) :
    k1_pay10 (k1_pay7 q k l) (k1_pay8 g v) (k1_pay9 q k g l v) (ix2 r j) = bdscores 0 q k l g v r j := by
  pointwise [k1_pay10, k1_pay8, k1_pay9]
  simp only [probs0]
  rfl

theorem dq0 (k : Vec Ideal S1x544x192 .bf16) (v : Vec Ideal S1x544x128 .bf16) (r : Fin 544) (d : Fin 192) :
    k1_pay11 (k1_pay6 k) (k1_pay7 q k l) (k1_pay8 g v) (k1_pay9 q k g l v) (ix3 0 r d)
      = ∑ j, bdscores 0 q k l g v r j * k (ix3 0 j d) := by
  pointwise [k1_pay11]
  refine Finset.sum_congr rfl fun j _ => ?_
  rw [dscores0]
  pointwise [k1_pay6]

theorem dk0 (k : Vec Ideal S1x544x192 .bf16) (v : Vec Ideal S1x544x128 .bf16) (a : Vec Ideal S1x544x192 .f32) (j : Fin 544) (d : Fin 192) :
    k1_pay12 (k1_pay5 q) (k1_pay7 q k l) (k1_pay8 g v) (k1_pay9 q k g l v) a (ix3 0 j d)
      = a (ix3 0 j d) + ∑ r, bdscores 0 q k l g v r j * q (ix3 0 r d) := by
  pointwise [k1_pay12]
  refine congrArg (a (ix3 0 j d) + ·) (Finset.sum_congr rfl fun r _ => ?_)
  rw [dscores0]
  pointwise [k1_pay5]

theorem dv0 (k : Vec Ideal S1x544x192 .bf16) (a : Vec Ideal S1x544x128 .f32) (j : Fin 544) (e : Fin 128) :
    k1_pay13 g (k1_pay7 q k l) a (ix3 0 j e)
      = a (ix3 0 j e) + ∑ r, bprobs 0 q k l r j * g (ix2 r e) := by
  pointwise [k1_pay13]
  simp only [probs0]

/-! ### The second 544 rows, against the first 1088 keys -/

theorem probs1 (k : Vec Ideal S1x1088x192 .bf16) (r : Fin 544) (j : Fin 1088) :
    k1_pay16 (k1_pay14 q) (k1_pay15 k) l (ix2 r j) = bprobs 544 q k l r j := by
  pointwise [k1_pay16, k1_pay14, k1_pay15]
  simp only [scores_of_words (fun d => q (ix3 0 r d)) (fun (j : Fin 1088) d => k (ix3 0 j d)) 544 r]
  rfl

theorem dscores1 (k : Vec Ideal S1x1088x192 .bf16) (v : Vec Ideal S1x1088x128 .bf16) (r : Fin 544) (j : Fin 1088) :
    k1_pay17 (k1_pay14 q) (k1_pay15 k) g l v (ix2 r j) = bdscores 544 q k l g v r j := by
  pointwise [k1_pay17]
  simp only [probs1]
  rfl

theorem dq1 (k : Vec Ideal S1x1088x192 .bf16) (v : Vec Ideal S1x1088x128 .bf16) (r : Fin 544) (d : Fin 192) :
    k1_pay18 (k1_pay14 q) (k1_pay15 k) g l v (ix3 0 r d)
      = ∑ j, bdscores 544 q k l g v r j * k (ix3 0 j d) := by
  pointwise [k1_pay18]
  refine Finset.sum_congr rfl fun j _ => ?_
  rw [dscores1]
  pointwise [k1_pay15]

theorem dk1 (k : Vec Ideal S1x1088x192 .bf16) (v : Vec Ideal S1x1088x128 .bf16) (a : Vec Ideal S1x1088x192 .f32) (j : Fin 1088) (d : Fin 192) :
    k1_pay20 (k1_pay19 (k1_pay14 q) (k1_pay15 k) g l v a) (ix3 0 j d)
      = a (ix3 0 j d) + ∑ r, bdscores 544 q k l g v r j * q (ix3 0 r d) := by
  pointwise [k1_pay20, k1_pay19]
  refine congrArg (a (ix3 0 j d) + ·) (Finset.sum_congr rfl fun r _ => ?_)
  rw [dscores1]
  pointwise [k1_pay14]

theorem dv1 (k : Vec Ideal S1x1088x192 .bf16) (a : Vec Ideal S1x1088x128 .f32) (j : Fin 1088) (e : Fin 128) :
    k1_pay21 g (k1_pay16 (k1_pay14 q) (k1_pay15 k) l) a (ix3 0 j e)
      = a (ix3 0 j e) + ∑ r, bprobs 544 q k l r j * g (ix2 r e) := by
  pointwise [k1_pay21]
  simp only [probs1]

/-! ### The third 544 rows, against the first 1632 keys -/

theorem probs2 (k : Vec Ideal S1x1632x192 .bf16) (r : Fin 544) (j : Fin 1632) :
    k1_pay24 q k l (ix2 r j) = bprobs 1088 q k l r j := by
  pointwise [k1_pay24, k1_pay22, k1_pay23]
  simp only [scores_of_words (fun d => q (ix3 0 r d)) (fun (j : Fin 1632) d => k (ix3 0 j d)) 1088 r]
  rfl

theorem dscores2 (k : Vec Ideal S1x1632x192 .bf16) (v : Vec Ideal S1x1632x128 .bf16) (r : Fin 544) (j : Fin 1632) :
    k1_pay25 g (k1_pay24 q k l) v (ix2 r j) = bdscores 1088 q k l g v r j := by
  pointwise [k1_pay25]
  simp only [probs2]
  rfl

theorem dq2 (k : Vec Ideal S1x1632x192 .bf16) (v : Vec Ideal S1x1632x128 .bf16) (r : Fin 544) (d : Fin 192) :
    k1_pay26 (k1_pay23 k) g (k1_pay24 q k l) v (ix3 0 r d)
      = ∑ j, bdscores 1088 q k l g v r j * k (ix3 0 j d) := by
  pointwise [k1_pay26]
  refine Finset.sum_congr rfl fun j _ => ?_
  rw [dscores2]
  pointwise [k1_pay23]

theorem dk2 (k : Vec Ideal S1x1632x192 .bf16) (v : Vec Ideal S1x1632x128 .bf16) (a : Vec Ideal S1x1632x192 .f32) (j : Fin 1632) (d : Fin 192) :
    k1_pay27 (k1_pay22 q) g (k1_pay24 q k l) v a (ix3 0 j d)
      = a (ix3 0 j d) + ∑ r, bdscores 1088 q k l g v r j * q (ix3 0 r d) := by
  pointwise [k1_pay27]
  refine congrArg (a (ix3 0 j d) + ·) (Finset.sum_congr rfl fun r _ => ?_)
  rw [dscores2]
  pointwise [k1_pay22]

theorem dv2 (k : Vec Ideal S1x1632x192 .bf16) (a : Vec Ideal S1x1632x128 .f32) (j : Fin 1632) (e : Fin 128) :
    k1_pay28 g (k1_pay24 q k l) a (ix3 0 j e)
      = a (ix3 0 j e) + ∑ r, bprobs 1088 q k l r j * g (ix2 r e) := by
  pointwise [k1_pay28]
  simp only [probs2]

/-! ### The fourth 544 rows, against the first 2176 keys -/

theorem probs3 (k : Vec Ideal S1x2176x192 .bf16) (r : Fin 544) (j : Fin 2176) :
    k1_pay31 (k1_pay29 q) k l (ix2 r j) = bprobs 1632 q k l r j := by
  pointwise [k1_pay31, k1_pay29, k1_pay30]
  simp only [scores_of_words (fun d => q (ix3 0 r d)) (fun (j : Fin 2176) d => k (ix3 0 j d)) 1632 r]
  rfl

theorem dscores3 (k : Vec Ideal S1x2176x192 .bf16) (v : Vec Ideal S1x2176x128 .bf16) (r : Fin 544) (j : Fin 2176) :
    k1_pay32 (k1_pay29 q) k g l v (ix2 r j) = bdscores 1632 q k l g v r j := by
  pointwise [k1_pay32]
  simp only [probs3]
  rfl

theorem dq3 (k : Vec Ideal S1x2176x192 .bf16) (v : Vec Ideal S1x2176x128 .bf16) (r : Fin 544) (d : Fin 192) :
    k1_pay33 (k1_pay29 q) k g l v (ix3 0 r d)
      = ∑ j, bdscores 1632 q k l g v r j * k (ix3 0 j d) := by
  pointwise [k1_pay33]
  refine Finset.sum_congr rfl fun j _ => ?_
  rw [dscores3]
  pointwise [k1_pay30]

theorem dk3 (k : Vec Ideal S1x2176x192 .bf16) (v : Vec Ideal S1x2176x128 .bf16) (a : Vec Ideal S1x2176x192 .f32) (j : Fin 2176) (d : Fin 192) :
    k1_pay1 (k1_pay29 q) (k1_pay32 (k1_pay29 q) k g l v) a (ix3 0 j d)
      = a (ix3 0 j d) + ∑ r, bdscores 1632 q k l g v r j * q (ix3 0 r d) := by
  pointwise [k1_pay1]
  refine congrArg (a (ix3 0 j d) + ·) (Finset.sum_congr rfl fun r _ => ?_)
  rw [dscores3]
  pointwise [k1_pay29]

theorem dv3 (k : Vec Ideal S1x2176x192 .bf16) (a : Vec Ideal S1x2176x128 .f32) (j : Fin 2176) (e : Fin 128) :
    k1_pay2 g (k1_pay31 (k1_pay29 q) k l) a (ix3 0 j e)
      = a (ix3 0 j e) + ∑ r, bprobs 1632 q k l r j * g (ix2 r e) := by
  pointwise [k1_pay2]
  simp only [probs3]

end Cert.KernelIdeal.Blocks

end
-- ==== Proof.Loads.lean ====
/- How the backward call keeps a head's gradients of keys and values, block after block, and what its loads hold: rows `o` to
   `o + 543` of the queries, the output's gradient and the log-sums, and the first `n` rows of the keys and values. -/
module

public import proofs.«01_k».proof.Proof.Blocks
public import Idealize.ShloMosaic.Lib.Pipeline.ValueKit
public import Idealize.ShloMosaic.Lib.Pipeline.ReadBack

@[expose] public section

set_option maxRecDepth 16384

noncomputable section

namespace Cert.KernelIdeal.Blocks

open Idealize.ShloMosaic Idealize.ShloMosaic.TcCoe Idealize.SL.Sem
open Cert.KernelIdeal Cert.KernelIdeal.Gen Cert.Softmax Cert.Attention

/-! ### An accumulator of 2176 rows whose first rows are added to

The backward call fills the gradients of a head's keys and values with zeros, and for every block of query rows adds to the
first `n` of their rows. `View.canon L` is what a buffer holds after the stores `L`, the last one first. -/

section acc

variable {sp : Space} {n w : ℕ}

theorem emb_front (hn : n ≤ 2176) (inb) (j : Fin n) (d : Fin w) :
    (Rect.unit (s := ⟨3, ![1, 2176, w]⟩) ![0, 0, 0] ![1, n, w] inb).emb (ix3 0 j d) = ix3 0 (Fin.castLE hn j) d := by
  funext a
  fin_cases a <;> exact Fin.ext ((ValueKit.rect_emb_unit_val _ _ _ _ _).trans (Nat.zero_add _))

/-- Reading the first `n` rows and storing them back with `E` added leaves the buffer with `E` added, if `E` is zero beyond. -/
theorem canon_step (v : View sig .tc sp ⟨3, ![1, 2176, w]⟩ .f32) (hn : n ≤ 2176) (inb)
    (L : List (View.Piece (Elt Ideal) ⟨3, ![1, 2176, w]⟩ .f32)) (D E : Fin 2176 → Fin w → EReal)
    (f : Vec Ideal ⟨3, ![1, n, w]⟩ .f32 → Vec Ideal ⟨3, ![1, n, w]⟩ .f32)
    (hf : ∀ a (j : Fin n) d, f a (ix3 0 j d) = a (ix3 0 j d) + E (Fin.castLE hn j) d)
    (hE : ∀ (j : Fin 2176) d, n ≤ j.val → E j d = 0)
    (hL : ∀ j d, View.canon L (ix3 0 j d) = D j d) (j d) :
    View.canon (⟨Rect.unit (s := ⟨3, ![1, 2176, w]⟩) ![0, 0, 0] ![1, n, w] inb,
        f (v.readCov L (Rect.unit (s := ⟨3, ![1, 2176, w]⟩) ![0, 0, 0] ![1, n, w] inb).toLoadRect)⟩ :: L) (ix3 0 j d)
      = D j d + E j d := by
  by_cases h : j.val < n
  · obtain ⟨j, rfl⟩ : ∃ i : Fin n, j = Fin.castLE hn i := ⟨⟨j.val, h⟩, rfl⟩
    rw [← hL, ← emb_front hn inb, View.canon_cons_emb, hf, View.readCov_eq_canon']
    rfl
  · rw [View.canon_cons_of_not_mem, hL, hE j d (by omega), add_zero]
    rw [Rect.mem_set_unit]
    exact fun hh => h ((hh 1).2.trans_eq (Nat.zero_add n))

/-- The first `n` rows of the buffer, read. -/
theorem read_step (v : View sig .tc sp ⟨3, ![1, 2176, w]⟩ .f32) (hn : n ≤ 2176) (inb)
    (L : List (View.Piece (Elt Ideal) ⟨3, ![1, 2176, w]⟩ .f32)) (D : Fin 2176 → Fin w → EReal)
    (hL : ∀ j d, View.canon L (ix3 0 j d) = D j d) (j : Fin n) (d) :
    v.readCov L (Rect.unit (s := ⟨3, ![1, 2176, w]⟩) ![0, 0, 0] ![1, n, w] inb).toLoadRect (ix3 0 j d)
      = D (Fin.castLE hn j) d := by
  rw [← hL, ← emb_front hn inb, View.readCov_eq_canon' (Val := Elt Ideal)]
  rfl

/-- The buffer filled with zeros. -/
theorem canon_fill (inb) (z : Vec Ideal ⟨3, ![1, 2176, w]⟩ .f32) (h0 : ∀ i, z i = 0) (j d) :
    View.canon (Val := Elt Ideal) [⟨Rect.unit (s := ⟨3, ![1, 2176, w]⟩) ![0, 0, 0] ![1, 2176, w] inb, z⟩] (ix3 0 j d)
      = (0 : EReal) := by
  have h := View.canon_cons_emb (Val := Elt Ideal) (Rect.unit (s := ⟨3, ![1, 2176, w]⟩) ![0, 0, 0] ![1, 2176, w] inb) z []
    (ix3 0 j d)
  rw [emb_front le_rfl inb j d] at h
  exact h.trans (h0 _)

end acc

/-! ### What is loaded of a head -/

theorem ld_rows {n w o : ℕ} {φ : EltTy} (x : Vec Ideal ⟨3, ![1, 2176, w]⟩ φ) (inb) (r : Fin n) (i : Fin 2176)
    (hi : i.val = o + r.val) (d : Fin w) :
    View.ld x (Rect.unit (s := ⟨3, ![1, 2176, w]⟩) ![0, o, 0] ![1, n, w] inb) (ix3 0 r d) = x (ix3 0 i d) := by
  refine congrArg x ?_
  funext a
  fin_cases a
  · rfl
  · exact Fin.ext ((Rect.idx_unit_val ..).trans hi.symm)
  · exact Fin.ext ((Rect.idx_unit_val ..).trans (Nat.zero_add _))

theorem ld_rows2 {n w o : ℕ} {φ : EltTy} (x : Vec Ideal ⟨2, ![2176, w]⟩ φ) (inb) (r : Fin n) (i : Fin 2176)
    (hi : i.val = o + r.val) (d : Fin w) :
    View.ld x (Rect.unit (s := ⟨2, ![2176, w]⟩) ![o, 0] ![n, w] inb) (ix2 r d) = x (ix2 i d) := by
  refine congrArg x ?_
  funext a
  fin_cases a
  · exact Fin.ext ((Rect.idx_unit_val ..).trans hi.symm)
  · exact Fin.ext ((Rect.idx_unit_val ..).trans (Nat.zero_add _))

/-- The rows of a head's block. -/
abbrev rows {w : ℕ} (x : Vec Ideal ⟨3, ![1, 2176, w]⟩ .bf16) : Fin 2176 → Fin w → EReal := fun r d => x (ix3 0 r d)

/-- The rows of a head's columns. -/
abbrev rows2 {w : ℕ} (x : Vec Ideal ⟨2, ![2176, w]⟩ .bf16) : Fin 2176 → Fin w → EReal := fun r d => x (ix2 r d)

section loads

variable {x0 x1 : Vec Ideal S1x2176x192 .bf16} {x2 : Vec Ideal S1x2176x128 .bf16} {x3 : Vec Ideal S1x2176x1 .f32}
  {x4 : Vec Ideal S2176x128 .bf16} {n o : ℕ}
  (hl : ∀ r, x3 (ix3 0 r 0) = lse (S (rows x0) (rows x1) r))
  (ho : o + 544 ≤ n) (hn : n ≤ 2176)

include hl hn ho

/-- A block's sums over the keys are the head's rows of the queries' gradient. -/
theorem ldq (inb0 inb1 inb2 inb3 inb4) (r : Fin 544) (i : Fin 2176) (hi : i.val = o + r.val) (d : Fin 192) :
    ∑ j, bdscores o (View.ld x0 (Rect.unit (s := S1x2176x192) ![0, o, 0] ![1, 544, 192] inb0))
        (View.ld x1 (Rect.unit (s := S1x2176x192) ![0, 0, 0] ![1, n, 192] inb1))
        (View.ld x3 (Rect.unit (s := S1x2176x1) ![0, o, 0] ![1, 544, 1] inb3))
        (View.ld x4 (Rect.unit (s := S2176x128) ![o, 0] ![544, 128] inb4))
        (View.ld x2 (Rect.unit (s := S1x2176x128) ![0, 0, 0] ![1, n, 128] inb2)) r j
      * View.ld x1 (Rect.unit (s := S1x2176x192) ![0, 0, 0] ![1, n, 192] inb1) (ix3 0 j d)
    = dq (rows x0) (rows x1) (rows x2) (rows2 x4) i d :=
  bdq_eq hn hi ho (fun d => ld_rows x0 _ r i hi d) (fun j d => ld_rows x1 _ j _ (Nat.zero_add _).symm d)
    ((ld_rows x3 _ r i hi 0).trans (hl i)) (fun e => ld_rows2 x4 _ r i hi e)
    (fun j e => ld_rows x2 _ j _ (Nat.zero_add _).symm e) d

/-- A block's sums over its rows are its part of the keys' gradient, -/
theorem ldk (inb0 inb1 inb2 inb3 inb4) (j : Fin n) (d : Fin 192) :
    ∑ r, bdscores o (View.ld x0 (Rect.unit (s := S1x2176x192) ![0, o, 0] ![1, 544, 192] inb0))
        (View.ld x1 (Rect.unit (s := S1x2176x192) ![0, 0, 0] ![1, n, 192] inb1))
        (View.ld x3 (Rect.unit (s := S1x2176x1) ![0, o, 0] ![1, 544, 1] inb3))
        (View.ld x4 (Rect.unit (s := S2176x128) ![o, 0] ![544, 128] inb4))
        (View.ld x2 (Rect.unit (s := S1x2176x128) ![0, 0, 0] ![1, n, 128] inb2)) r j
      * View.ld x0 (Rect.unit (s := S1x2176x192) ![0, o, 0] ![1, 544, 192] inb0) (ix3 0 r d)
    = dkPart (rows x0) (rows x1) (rows x2) (rows2 x4)
        o (Fin.castLE hn j) d (ho.trans hn) :=
  bdk_eq ho hn (fun r d => ld_rows x0 _ r _ rfl d) (fun j d => ld_rows x1 _ j _ (Nat.zero_add _).symm d)
    (fun r => (ld_rows x3 _ r _ rfl 0).trans (hl _)) (fun r e => ld_rows2 x4 _ r _ rfl e)
    (fun j e => ld_rows x2 _ j _ (Nat.zero_add _).symm e) j d

/-- and of the values'. -/
theorem ldv (inb0 inb1 inb3 inb4) (j : Fin n) (e : Fin 128) :
    ∑ r, bprobs o (View.ld x0 (Rect.unit (s := S1x2176x192) ![0, o, 0] ![1, 544, 192] inb0))
        (View.ld x1 (Rect.unit (s := S1x2176x192) ![0, 0, 0] ![1, n, 192] inb1))
        (View.ld x3 (Rect.unit (s := S1x2176x1) ![0, o, 0] ![1, 544, 1] inb3)) r j
      * View.ld x4 (Rect.unit (s := S2176x128) ![o, 0] ![544, 128] inb4) (ix2 r e)
    = dvPart (rows x0) (rows x1) (rows2 x4)
        o (Fin.castLE hn j) e (ho.trans hn) :=
  bdv_eq ho hn (fun r d => ld_rows x0 _ r _ rfl d) (fun j d => ld_rows x1 _ j _ (Nat.zero_add _).symm d)
    (fun r => (ld_rows x3 _ r _ rfl 0).trans (hl _)) (fun r e => ld_rows2 x4 _ r _ rfl e) j e

end loads

theorem row_idx {n w : ℕ} (x : Shape.Idx ⟨3, ![1, n, w]⟩) : ∃ (r : Fin n) (d : Fin w), x = ix3 0 r d :=
  ⟨x 1, x 2, by blk_ext⟩

end Cert.KernelIdeal.Blocks

end
-- ==== Proof.Gradients.lean ====
/- What the backward call's body leaves in a head's three buffers: the gradients of the head's queries, keys and values. -/
module

public import proofs.«01_k».proof.Proof.Loads
public import proofs.«01_k».proof.Proof.Gen.KernelIdeal.Frame

@[expose] public section

set_option maxRecDepth 16384

noncomputable section

namespace Cert.KernelIdeal.Blocks

open Idealize.ShloMosaic Idealize.ShloMosaic.TcCoe Idealize.SL.Sem
open Cert.KernelIdeal Cert.KernelIdeal.Gen Cert.Softmax Cert.Attention

variable (V : (c : Dev nD) → (b : Ref sig .tc) → Buf (Elt Ideal) ((c : Thread nD τ).loc b)) (c : Dev nD) (t : Fin cfg1.N)
  (hl : ∀ r, iblk1 V c 3 t (ix3 0 r 0) = lse (S (rows (iblk1 V c 0 t)) (rows (iblk1 V c 1 t)) r))

include hl

/-- The gradient of the queries: every block of rows is stored once. -/
theorem dq_out (j : Fin 2176) (d : Fin 192) :
    (outsAt1 V c t).1 (ix3 0 j d) = dq (rows (iblk1 V c 0 t)) (rows (iblk1 V c 1 t)) (rows (iblk1 V c 2 t)) (rows2 (iblk1 V c 4 t)) j d := by
  unfold outsAt1
  frame_out
  generalize iblk1 V c 0 t = x0 at *
  generalize iblk1 V c 1 t = x1 at *
  generalize iblk1 V c 2 t = x2 at *
  generalize iblk1 V c 3 t = x3 at *
  generalize iblk1 V c 4 t = x4 at *
  change Vec Ideal S1x2176x192 .bf16 at x0 x1
  change Vec Ideal S1x2176x128 .bf16 at x2
  change Vec Ideal S1x2176x1 .f32 at x3
  change Vec Ideal S2176x128 .bf16 at x4
  canon_tiles x h
  · obtain ⟨r, d', rfl⟩ := row_idx x
    obtain rfl : d = d' := Fin.ext h2
    exact (dq3 _ _ _ _ _ _ _).trans (bdq_eq (by decide) h1 (by decide) (fun d => ld_rows x0 _ r _ h1 d) (fun j d => rfl)
      ((ld_rows x3 _ r _ h1 0).trans (hl _)) (fun e => ld_rows2 x4 _ r _ h1 e) (fun j e => rfl) d)
  · obtain ⟨r, d', rfl⟩ := row_idx x
    obtain rfl : d = d' := Fin.ext h2
    exact (dq2 _ _ _ _ _ _ _).trans (ldq (o := 1088) (n := 1632) hl (by decide) (by decide) _ _ _ _ _ r _ h1 d)
  · obtain ⟨r, d', rfl⟩ := row_idx x
    obtain rfl : d = d' := Fin.ext h2
    exact (dq1 _ _ _ _ _ _ _).trans (ldq (o := 544) (n := 1088) hl (by decide) (by decide) _ _ _ _ _ r _ h1 d)
  · obtain ⟨r, d', rfl⟩ := row_idx x
    obtain rfl : d = d' := Fin.ext h2
    replace h1 := h1.trans (Nat.zero_add _).symm
    exact (dq0 _ _ _ _ _ _ _).trans (ldq (o := 0) (n := 544) hl (by decide) (by decide) _ _ _ _ _ r _ h1 d)

/-- The gradient of the keys: zeros, and every block of query rows adds its part. -/
theorem dk_out (j : Fin 2176) (d : Fin 192) :
    (outsAt1 V c t).2.1 (ix3 0 j d) = dk (rows (iblk1 V c 0 t)) (rows (iblk1 V c 1 t)) (rows (iblk1 V c 2 t)) (rows2 (iblk1 V c 4 t)) j d := by
  unfold outsAt1
  frame_out
  generalize iblk1 V c 0 t = x0 at *
  generalize iblk1 V c 1 t = x1 at *
  generalize iblk1 V c 2 t = x2 at *
  generalize iblk1 V c 3 t = x3 at *
  generalize iblk1 V c 4 t = x4 at *
  change Vec Ideal S1x2176x192 .bf16 at x0 x1
  change Vec Ideal S1x2176x128 .bf16 at x2
  change Vec Ideal S1x2176x1 .f32 at x3
  change Vec Ideal S2176x128 .bf16 at x4
  rw [dk_parts]
  refine (dk3 _ _ _ _ _ _ _ _).trans (congrArg₂ (· + ·) (read_step _ le_rfl _ _ (fun j d => 0 + dkPart (rows x0) (rows x1) (rows x2) (rows2 x4) 0 j d
      + dkPart (rows x0) (rows x1) (rows x2) (rows2 x4) 544 j d
      + dkPart (rows x0) (rows x1) (rows x2) (rows2 x4) 1088 j d) (fun j d => ?_) j d) (bdk_eq (by decide) (by decide) (fun r d => ld_rows x0 _ r _ rfl d)
    (fun j d => rfl) (fun r => (ld_rows x3 _ r _ rfl 0).trans (hl _)) (fun r e => ld_rows2 x4 _ r _ rfl e) (fun j e => rfl) j d))
  refine canon_step _ (by decide) _ _ (fun j d => 0 + dkPart (rows x0) (rows x1) (rows x2) (rows2 x4) 0 j d
      + dkPart (rows x0) (rows x1) (rows x2) (rows2 x4) 544 j d)
    (fun j d => dkPart (rows x0) (rows x1) (rows x2) (rows2 x4) 1088 j d) (k1_pay27 _ _ _ _) (fun a j d => ?_)
    (fun j d h => dkPart_after (rows x0) (rows x1) (rows x2) (rows2 x4) 1088 h d) (fun j d => ?_) j d
  · exact (dk2 _ _ _ _ _ _ _ _).trans (congrArg _ (ldk (o := 1088) (n := 1632) hl (by decide) (by decide) _ _ _ _ _ j d))
  refine canon_step _ (by decide) _ _ (fun j d => 0 + dkPart (rows x0) (rows x1) (rows x2) (rows2 x4) 0 j d)
    (fun j d => dkPart (rows x0) (rows x1) (rows x2) (rows2 x4) 544 j d) (fun a => k1_pay20 (k1_pay19 _ _ _ _ _ a)) (fun a j d => ?_)
    (fun j d h => dkPart_after (rows x0) (rows x1) (rows x2) (rows2 x4) 544 h d) (fun j d => ?_) j d
  · exact (dk1 _ _ _ _ _ _ _ _).trans (congrArg _ (ldk (o := 544) (n := 1088) hl (by decide) (by decide) _ _ _ _ _ j d))
  refine canon_step _ (by decide) _ _ (fun _ _ => 0)
    (fun j d => dkPart (rows x0) (rows x1) (rows x2) (rows2 x4) 0 j d) (k1_pay12 _ _ _ _) (fun a j d => ?_)
    (fun j d h => dkPart_after (rows x0) (rows x1) (rows x2) (rows2 x4) 0 (by omega) d) (fun j d => ?_) j d
  · exact (dk0 _ _ _ _ _ _ _ _).trans (congrArg _ (ldk (o := 0) (n := 544) hl (by decide) (by decide) _ _ _ _ _ j d))
  exact canon_fill _ _ (fun i => by pointwise [k1_pay3]) j d

/-- The gradient of the values likewise. -/
theorem dv_out (j : Fin 2176) (e : Fin 128) :
    (outsAt1 V c t).2.2 (ix3 0 j e) = dv (rows (iblk1 V c 0 t)) (rows (iblk1 V c 1 t)) (rows2 (iblk1 V c 4 t)) j e := by
  unfold outsAt1
  frame_out
  generalize iblk1 V c 0 t = x0 at *
  generalize iblk1 V c 1 t = x1 at *
  generalize iblk1 V c 2 t = x2 at *
  generalize iblk1 V c 3 t = x3 at *
  generalize iblk1 V c 4 t = x4 at *
  change Vec Ideal S1x2176x192 .bf16 at x0 x1
  change Vec Ideal S1x2176x128 .bf16 at x2
  change Vec Ideal S1x2176x1 .f32 at x3
  change Vec Ideal S2176x128 .bf16 at x4
  rw [dv_parts]
  refine (dv3 _ _ _ _ _ _ _).trans (congrArg₂ (· + ·) (read_step _ le_rfl _ _ (fun j e => 0 + dvPart (rows x0) (rows x1) (rows2 x4) 0 j e
      + dvPart (rows x0) (rows x1) (rows2 x4) 544 j e
      + dvPart (rows x0) (rows x1) (rows2 x4) 1088 j e) (fun j e => ?_) j e) (bdv_eq (by decide) (by decide) (fun r d => ld_rows x0 _ r _ rfl d)
    (fun j d => rfl) (fun r => (ld_rows x3 _ r _ rfl 0).trans (hl _)) (fun r e => ld_rows2 x4 _ r _ rfl e) j e))
  refine canon_step _ (by decide) _ _ (fun j e => 0 + dvPart (rows x0) (rows x1) (rows2 x4) 0 j e
      + dvPart (rows x0) (rows x1) (rows2 x4) 544 j e)
    (fun j e => dvPart (rows x0) (rows x1) (rows2 x4) 1088 j e) (k1_pay28 _ _) (fun a j e => ?_)
    (fun j e h => dvPart_after (rows x0) (rows x1) (rows2 x4) 1088 h e) (fun j e => ?_) j e
  · exact (dv2 _ _ _ _ _ _ _).trans (congrArg _ (ldv (o := 1088) (n := 1632) hl (by decide) (by decide) _ _ _ _ j e))
  refine canon_step _ (by decide) _ _ (fun j e => 0 + dvPart (rows x0) (rows x1) (rows2 x4) 0 j e)
    (fun j e => dvPart (rows x0) (rows x1) (rows2 x4) 544 j e) (k1_pay21 _ _) (fun a j e => ?_)
    (fun j e h => dvPart_after (rows x0) (rows x1) (rows2 x4) 544 h e) (fun j e => ?_) j e
  · exact (dv1 _ _ _ _ _ _ _).trans (congrArg _ (ldv (o := 544) (n := 1088) hl (by decide) (by decide) _ _ _ _ j e))
  refine canon_step _ (by decide) _ _ (fun _ _ => 0)
    (fun j e => dvPart (rows x0) (rows x1) (rows2 x4) 0 j e) (k1_pay13 _ _) (fun a j e => ?_)
    (fun j e h => dvPart_after (rows x0) (rows x1) (rows2 x4) 0 (by omega) e) (fun j e => ?_) j e
  · exact (dv0 _ _ _ _ _ _ _).trans (congrArg _ (ldv (o := 0) (n := 544) hl (by decide) (by decide) _ _ _ _ j e))
  exact canon_fill _ _ (fun i => by pointwise [k1_pay4]) j e

end Cert.KernelIdeal.Blocks

end
-- ==== Proof.GradientArrays.lean ====
/- The three arrays of the backward call after its run: the gradients of every head's queries, keys and values, as functions
   of the arrays of queries, keys, values and the gradient of the attention's output. -/
module

public import proofs.«01_k».proof.Proof.Gradients
public import proofs.«01_k».proof.Proof.LogsumArray

@[expose] public section

set_option maxRecDepth 16384

noncomputable section

namespace Cert.Attention

open Idealize.ShloMosaic

/-- Head `h` of an array of heads. -/
abbrev head {w : ℕ} (x : FVec Ideal ⟨3, ![16, 2176, w]⟩ .bf16) (h : Fin 16) : Fin 2176 → Fin w → EReal := fun r d => x (ix3 h r d)

/-- Head `h`'s 128 columns of an array of rows. -/
abbrev cols (x : FVec Ideal ⟨2, ![2176, 2048]⟩ .bf16) (h : Fin 16) : Fin 2176 → Fin 128 → EReal :=
  fun r e => x (ix2 r ⟨h.val * 128 + e.val, by omega⟩)

variable (q k : FVec Ideal ⟨3, ![16, 2176, 192]⟩ .bf16) (v : FVec Ideal ⟨3, ![16, 2176, 128]⟩ .bf16)
  (g : FVec Ideal ⟨2, ![2176, 2048]⟩ .bf16)

/-- The gradient of every head's queries, -/
def DQ : FVec Ideal ⟨3, ![16, 2176, 192]⟩ .f32 := fun i => dq (head q (i 0)) (head k (i 0)) (head v (i 0)) (cols g (i 0)) (i 1) (i 2)
/-- of its keys, -/
def DK : FVec Ideal ⟨3, ![16, 2176, 192]⟩ .f32 := fun i => dk (head q (i 0)) (head k (i 0)) (head v (i 0)) (cols g (i 0)) (i 1) (i 2)
/-- and of its values. -/
def DV : FVec Ideal ⟨3, ![16, 2176, 128]⟩ .f32 := fun i => dv (head q (i 0)) (head k (i 0)) (cols g (i 0)) (i 1) (i 2)

end Cert.Attention

namespace Cert.KernelIdeal.Blocks

open Idealize.ShloMosaic Idealize.ShloMosaic.TcCoe Idealize.SL.Sem
open Cert.KernelIdeal Cert.KernelIdeal.Gen Cert.Softmax Cert.Attention

variable (V : (c : Dev nD) → (b : Ref sig .tc) → Buf (Elt Ideal) ((c : Thread nD τ).loc b)) (c : Dev nD)

/-- Point `t` of the grid is head `t`, and its columns of the output's gradient are block `t`. -/
theorem idx : ∀ t : Fin cfg1.N, win1_0.index t = ![t.val, 0, 0] ∧ win1_1.index t = ![t.val, 0, 0] ∧ win1_2.index t = ![t.val, 0, 0]
    ∧ win1_3.index t = ![t.val, 0, 0] ∧ win1_4.index t = ![0, t.val] ∧ win1_5.index t = ![t.val, 0, 0]
    ∧ win1_6.index t = ![t.val, 0, 0] ∧ win1_7.index t = ![t.val, 0, 0] :=
  (by decide +kernel : ∀ t : Fin grid1.N, _)

/-! What is read of a head, and where its results go. -/

theorem q_rows (t : Fin cfg1.N) : rows (iblk1 V c 0 t) = head (V c main_arg0) t := by
  funext r d
  refine congrArg (V c main_arg0) ?_
  blk_ext [idx t]

theorem k_rows (t : Fin cfg1.N) : rows (iblk1 V c 1 t) = head (V c main_arg1) t := by
  funext r d
  refine congrArg (V c main_arg1) ?_
  blk_ext [idx t]

theorem v_rows (t : Fin cfg1.N) : rows (iblk1 V c 2 t) = head (V c main_arg2) t := by
  funext r d
  refine congrArg (V c main_arg2) ?_
  blk_ext [idx t]

theorem g_rows (t : Fin cfg1.N) : rows2 (iblk1 V c 4 t) = cols (V c main_arg3) t := by
  funext r d
  refine congrArg (V c main_arg3) ?_
  blk_ext [idx t]

theorem emb5 (t : Fin cfg1.N) (r : Fin 2176) (d : Fin 192) : (win1_5.blk t).view.emb (ix3 0 r d) = ix3 (t : Fin 16) r d := by
  blk_ext [idx t]

theorem emb6 (t : Fin cfg1.N) (r : Fin 2176) (d : Fin 192) : (win1_6.blk t).view.emb (ix3 0 r d) = ix3 (t : Fin 16) r d := by
  blk_ext [idx t]

theorem emb7 (t : Fin cfg1.N) (r : Fin 2176) (d : Fin 128) : (win1_7.blk t).view.emb (ix3 0 r d) = ix3 (t : Fin 16) r d := by
  blk_ext [idx t]

/-! The arrays, when the array of log-sums is the one of the forward call. -/

variable (hl : V c main_v0_1 = Logsum.LSE (V c main_arg0) (V c main_arg1))
include hl

theorem l_rows (t : Fin cfg1.N) (r : Fin 2176) :
    iblk1 V c 3 t (ix3 0 r 0) = lse (S (rows (iblk1 V c 0 t)) (rows (iblk1 V c 1 t)) r) := by
  rw [q_rows, k_rows]
  refine (congrArg (V c main_v0_1) (?_ : (win1_3.blk t).view.emb (ix3 0 r 0) = ix3 (t : Fin 16) r 0)).trans (congrFun hl _)
  blk_ext [idx t]

theorem dq_final : (dat1 V c).arrAt 5 cfg1.N = DQ (V c main_arg0) (V c main_arg1) (V c main_arg2) (V c main_arg3) := by
  refine (dat1 V c).arrAt_eq_of_covers 5 _ (by decide +kernel) fun t hf y => ?_
  blk_simp
  obtain ⟨r, d, rfl⟩ := row_idx y
  rw [after1_5]
  refine (dq_out V c t (l_rows V c hl t) r d).trans ?_
  rw [q_rows, k_rows, v_rows, g_rows]
  exact (congrArg (DQ (V c main_arg0) (V c main_arg1) (V c main_arg2) (V c main_arg3)) (emb5 t r d)).symm

theorem dk_final : (dat1 V c).arrAt 6 cfg1.N = DK (V c main_arg0) (V c main_arg1) (V c main_arg2) (V c main_arg3) := by
  refine (dat1 V c).arrAt_eq_of_covers 6 _ (by decide +kernel) fun t hf y => ?_
  blk_simp
  obtain ⟨r, d, rfl⟩ := row_idx y
  rw [after1_6]
  refine (dk_out V c t (l_rows V c hl t) r d).trans ?_
  rw [q_rows, k_rows, v_rows, g_rows]
  exact (congrArg (DK (V c main_arg0) (V c main_arg1) (V c main_arg2) (V c main_arg3)) (emb6 t r d)).symm

theorem dv_final : (dat1 V c).arrAt 7 cfg1.N = DV (V c main_arg0) (V c main_arg1) (V c main_arg3) := by
  refine (dat1 V c).arrAt_eq_of_covers 7 _ (by decide +kernel) fun t hf y => ?_
  blk_simp
  obtain ⟨r, d, rfl⟩ := row_idx y
  rw [after1_7]
  refine (dv_out V c t (l_rows V c hl t) r d).trans ?_
  rw [q_rows, k_rows, g_rows]
  exact (congrArg (DV (V c main_arg0) (V c main_arg1) (V c main_arg3)) (emb7 t r d)).symm

end Cert.KernelIdeal.Blocks

end
-- ==== Proof.Finite.lean ====
/- What the precondition gives: with finite queries and keys, no score is +∞, and a row's own position is not −∞. -/
module

public import proofs.«01_k».proof.Proof.GradientArrays
public import proofs.«01_k».proof.Pre_finite
public import Idealize.ShloMosaic.Lib.ReduceAll

@[expose] public section

set_option maxRecDepth 16384

noncomputable section

namespace Cert.Pre_finite

/-- The side conditions of the precondition's operations. -/
theorem facts : Facts := by constructor <;> decide

end Cert.Pre_finite

namespace Cert.Attention

open Idealize.ShloMosaic

/-- An extended real whose magnitude is below +∞ is a real. -/
theorem real_of_lt {x : EReal} (h : max x (-x) < ⊤) : ∃ a : ℝ, x = a := by
  induction x with
  | bot => simp at h
  | top => simp at h
  | coe a => exact ⟨a, rfl⟩

/-- The scale is a real number. -/
theorem scale_real : ∃ a : ℝ, scale = a := by
  have h : scale ≠ ⊤ ∧ scale ≠ ⊥ := by
    unfold scale
    constructor <;> simp [Ideal.ofBits, Ideal.ieee, -EReal.coe_mul]
  exact ⟨scale.toReal, (EReal.coe_toReal h.1 h.2).symm⟩

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

variable {Q K : Fin 2176 → Fin 192 → EReal} (hQ : ∀ r d, ∃ a : ℝ, Q r d = a) (hK : ∀ j d, ∃ a : ℝ, K j d = a)
include hQ hK

/-- A score of a key a row looks at is a real number. -/
theorem S_real {r j : Fin 2176} (h : j.val ≤ r.val) : ∃ a : ℝ, S Q K r j = a := by
  choose q hq using hQ
  choose k hk using hK
  obtain ⟨c, hc⟩ := scale_real
  refine ⟨(∑ d, q r d * k j d) * c, ?_⟩
  refine (if_pos h).trans ?_
  rw [hc, EReal.coe_mul, ← sum_coe]
  simp only [hq, hk, EReal.coe_mul]

theorem S_ne_top (r j : Fin 2176) : S Q K r j ≠ ⊤ := by
  by_cases h : j.val ≤ r.val
  · obtain ⟨a, ha⟩ := S_real hQ hK h
    rw [ha]; exact EReal.coe_ne_top a
  · rw [S_masked Q K (by omega)]; exact bot_ne_top

theorem S_self (r : Fin 2176) : S Q K r r ≠ ⊥ := by
  obtain ⟨a, ha⟩ := S_real hQ hK (le_refl r.val)
  rw [ha]; exact EReal.coe_ne_bot a

end Cert.Attention

namespace Cert.Pre_finite

open Idealize.ShloMosaic Cert.Attention

variable [Facts] (q k : FVec Ideal S16x2176x192 .bf16) (v : FVec Ideal S16x2176x128 .bf16) (g : FVec Ideal S2176x2048 .bf16)

theorem top_word : Ideal.ofBits .f32 0x7F800000#32 = ⊤ := by simp [Ideal.ofBits, Ideal.ieee, -EReal.coe_mul]

/-- The precondition's test of an element. -/
theorem test_real (x : FVec Ideal S16x2176x192 .bf16) (i : S16x2176x192.Idx)
    (h : cmpf .olt (Host.absf (extf .f32 x Facts.bitsLt_bf16_f32)) (broadcastInDim S16x2176x192 ![] Facts.bcast_S_S16x2176x192 (constant S_ .f32 0x7F800000#32)) i = 1#1) :
    ∃ a : ℝ, x i = a := by
  refine real_of_lt ((Ideal.cmp_olt_eq_one _ _).1 ?_)
  refine Eq.trans ?_ h
  rw [← top_word]
  rfl

instance : Subsingleton S_.Idx := ⟨fun a b => funext fun i => i.elim0⟩

/-- Every query and every key is a real number. -/
theorem reals (h : fn (F := Ideal) q k v g = fun _ => 1#1) : (∀ i, ∃ a : ℝ, q i = a) ∧ ∀ i, ∃ a : ℝ, k i = a := by
  obtain ⟨h1, h2⟩ := IntOp.andi_eq_one.1 (congrFun h ix0)
  exact ⟨fun i => test_real q i (Host.reduce_andi_all _ _ _ _ _ h1 i), fun i => test_real k i (Host.reduce_andi_all _ _ _ _ _ h2 i)⟩

end Cert.Pre_finite

end
-- ==== Proof.Output.lean ====
/- The attention's output: what the forward call leaves in its first array. The call divides a row's exponentials by the row's mass
   and looks at the first 544, 1088, 1632 or 2176 keys. For finite queries and keys the quotients are the row's weights, and the
   keys left out have none. -/
module

public import proofs.«01_k».proof.Proof.LogsumArray
public import proofs.«01_k».proof.Proof.Finite

@[expose] public section

set_option maxRecDepth 16384

noncomputable section

namespace Cert.Attention

open Idealize.ShloMosaic Cert.Softmax

/-- A row's output: its weights' product with the values. -/
def att (q k : Fin 2176 → Fin 192 → EReal) (v : Fin 2176 → Fin 128 → EReal) (r : Fin 2176) (e : Fin 128) : EReal :=
  ∑ j, P q k r j * v j e

/-- Column `h * 128 + e` of the output's array is head `h`'s element `e`. -/
def OUT (q k : FVec Ideal ⟨3, ![16, 2176, 192]⟩ .bf16) (v : FVec Ideal ⟨3, ![16, 2176, 128]⟩ .bf16) :
    FVec Ideal ⟨2, ![2176, 2048]⟩ .bf16 := fun i =>
  have hi : (i 1).val < 2048 := (i 1).isLt
  att (head q ⟨(i 1).val / 128, by omega⟩) (head k ⟨(i 1).val / 128, by omega⟩) (head v ⟨(i 1).val / 128, by omega⟩) (i 0)
    ⟨(i 1).val % 128, by omega⟩

variable (q k : FVec Ideal ⟨3, ![16, 2176, 192]⟩ .bf16) (v : FVec Ideal ⟨3, ![16, 2176, 128]⟩ .bf16)

theorem OUT_at (i : (⟨2, ![2176, 2048]⟩ : Shape).Idx) (h : Fin 16) (r : Fin 2176) (e : Fin 128) (h0 : (i 0).val = r.val)
    (h1 : (i 1).val = h.val * 128 + e.val) : OUT q k v i = att (head q h) (head k h) (head v h) r e := by
  obtain rfl : i 0 = r := Fin.ext h0
  have a : (i 1).val / 128 = h.val := by omega
  have b : (i 1).val % 128 = e.val := by omega
  simp only [OUT, a, b]

/-- The numbers of one block's row: what the call adds up is the row's output. -/
theorem batt_eq {n o : ℕ} {x : Vec Ideal ⟨3, ![1, 544, 192]⟩ .bf16} {y : Vec Ideal ⟨3, ![1, n, 192]⟩ .bf16}
    {z : Vec Ideal ⟨3, ![1, n, 128]⟩ .bf16} {Q K : Fin 2176 → Fin 192 → EReal} {W : Fin 2176 → Fin 128 → EReal} {r : Fin 544}
    {i : Fin 2176} (hn : n ≤ 2176) (hi : i.val = o + r.val) (ho : o + 544 ≤ n) (hq : ∀ d, x (ix3 0 r d) = Q i d)
    (hk : ∀ j d, y (ix3 0 j d) = K (Fin.castLE hn j) d) (hv : ∀ j e, z (ix3 0 j e) = W (Fin.castLE hn j) e)
    (hT : ∀ j, S Q K i j ≠ ⊤) (h₀ : S Q K i i ≠ ⊥) (e : Fin 128) :
    ∑ j, Ideal.div (Ideal.exp (bscores o x y r j - top (bscores o x y r))) (mass (bscores o x y r)) * z (ix3 0 j e)
      = att Q K W i e := by
  have hin : i.val < n := by omega
  have hs : bscores o x y r = fun j => S Q K i (Fin.castLE hn j) := bscores_eq hn hi hq hk
  unfold att
  rw [← sum_cut hn (fun j => P Q K i j * W j e) fun j hj => by rw [P_masked Q K (by omega), zero_mul]]
  refine Finset.sum_congr rfl fun j _ => ?_
  rw [quot_eq_prob (bscores o x y r) (fun j => by rw [hs]; exact hT _) ⟨i.val, hin⟩ (by rw [hs]; exact h₀) j, hv]
  unfold prob
  rw [blse_eq hn hi ho hq hk, hs]
  rfl

end Cert.Attention

namespace Cert.KernelIdeal.Logsum

open Idealize.ShloMosaic Idealize.ShloMosaic.TcCoe Idealize.SL.Sem
open Cert.KernelIdeal Cert.KernelIdeal.Gen Cert.Softmax Cert.Attention

variable (q : Vec Ideal S1x544x192 .bf16) (r : Fin 544) (e : Fin 128)

/-! ### One block of 544 rows: the quotients' product with the values -/

theorem sum0 (k : Vec Ideal S1x544x192 .bf16) (v : Vec Ideal S1x544x128 .bf16) : k0_pay11 q k v (ix2 r e)
    = ∑ j, Ideal.div (Ideal.exp (bscores 0 q k r j - top (bscores 0 q k r))) (mass (bscores 0 q k r)) * v (ix3 0 j e) := by
  pointwise [k0_pay11, k0_pay9]
  simp only [scores0, top0, mass0]

theorem sum1 (k : Vec Ideal S1x1088x192 .bf16) (v : Vec Ideal S1x1088x128 .bf16) : k0_pay17 q k v (ix2 r e)
    = ∑ j, Ideal.div (Ideal.exp (bscores 544 q k r j - top (bscores 544 q k r))) (mass (bscores 544 q k r)) * v (ix3 0 j e) := by
  pointwise [k0_pay17, k0_pay15]
  simp only [scores1, top1, mass1]

theorem sum2 (k : Vec Ideal S1x1632x192 .bf16) (v : Vec Ideal S1x1632x128 .bf16) : k0_pay24 (k0_pay19 q) k v (ix2 r e)
    = ∑ j, Ideal.div (Ideal.exp (bscores 1088 q k r j - top (bscores 1088 q k r))) (mass (bscores 1088 q k r)) * v (ix3 0 j e) := by
  pointwise [k0_pay24, k0_pay22]
  simp only [scores2, top2, mass2]

theorem sum3 (k : Vec Ideal S1x2176x192 .bf16) (v : Vec Ideal S1x2176x128 .bf16) : k0_pay5 (k0_pay26 q) k v (ix2 r e)
    = ∑ j, Ideal.div (Ideal.exp (bscores 1632 q k r j - top (bscores 1632 q k r))) (mass (bscores 1632 q k r)) * v (ix3 0 j e) := by
  pointwise [k0_pay5, k0_pay3]
  simp only [scores3, top3, mass3]

/-- An index of a block of outputs is a row and an element. -/
theorem pair (x : S544x128.Idx) : ∃ (r : Fin 544) (e : Fin 128), x = ix2 r e := ⟨x 0, x 1, (ix2_eta x).symm⟩

/-- What the body leaves in the output's buffer, when the scores are finite. -/
theorem out_rows (x0 x1 : Vec Ideal S1x2176x192 .bf16) (x2 : Vec Ideal S1x2176x128 .bf16)
    (hT : ∀ r j, S (fun r d => x0 (ix3 0 r d)) (fun j d => x1 (ix3 0 j d)) r j ≠ ⊤)
    (h₀ : ∀ r, S (fun r d => x0 (ix3 0 r d)) (fun j d => x1 (ix3 0 j d)) r r ≠ ⊥) (y : S2176x128.Idx) :
    out0_3 x0 x1 x2 y = att (fun r d => x0 (ix3 0 r d)) (fun j d => x1 (ix3 0 j d)) (fun j e => x2 (ix3 0 j e)) (y 0) (y 1) := by
  unfold_out out0_3
  canon_tiles x h
  · obtain ⟨r, e, rfl⟩ := pair x
    refine (sum3 ..).trans ((batt_eq (by decide) h0 (by decide) (fun d => ?_) (fun j d => ?_) (fun j e => ?_) (hT _) (h₀ _) e).trans (congrArg (att _ _ _ (y 0)) (Fin.ext h1.symm)))
    · pointwise [r0_14]
      exact congrArg (fun i => x0 (ix3 0 i d)) (Fin.ext h0.symm)
    · pointwise [r0_15]
      rfl
    · pointwise [r0_16]
      rfl
  · obtain ⟨r, e, rfl⟩ := pair x
    refine (sum2 ..).trans ((batt_eq (by decide) h0 (by decide) (fun d => ?_) (fun j d => ?_) (fun j e => ?_) (hT _) (h₀ _) e).trans (congrArg (att _ _ _ (y 0)) (Fin.ext h1.symm)))
    · pointwise [r0_9]
      exact congrArg (fun i => x0 (ix3 0 i d)) (Fin.ext h0.symm)
    · pointwise [r0_10]
      rfl
    · pointwise [r0_11]
      rfl
  · obtain ⟨r, e, rfl⟩ := pair x
    refine (sum1 ..).trans ((batt_eq (by decide) h0 (by decide) (fun d => ?_) (fun j d => ?_) (fun j e => ?_) (hT _) (h₀ _) e).trans (congrArg (att _ _ _ (y 0)) (Fin.ext h1.symm)))
    · pointwise [r0_4]
      exact congrArg (fun i => x0 (ix3 0 i d)) (Fin.ext h0.symm)
    · pointwise [r0_5]
      rfl
    · pointwise [r0_6]
      rfl
  · obtain ⟨r, e, rfl⟩ := pair x
    refine (sum0 ..).trans ((batt_eq (by decide) (h0.trans (Nat.zero_add _).symm) (by decide) (fun d => ?_) (fun j d => ?_) (fun j e => ?_) (hT _) (h₀ _) e).trans (congrArg (att _ _ _ (y 0)) (Fin.ext h1.symm)))
    · pointwise [r0_0]
      exact congrArg (fun i => x0 (ix3 0 i d)) (Fin.ext h0.symm)
    · pointwise [r0_0]
      rfl
    · pointwise [r0_1]
      rfl

/-! ### The whole array -/

variable (V : (c : Dev nD) → (b : Ref sig .tc) → Buf (Elt Ideal) ((c : Thread nD τ).loc b)) (c : Dev nD)

/-- Point `t` of the grid leaves the 128 columns of head `t`. -/
theorem idx_out : ∀ t : Fin cfg0.N, win0_2.index t = ![t.val, 0, 0] ∧ win0_3.index t = ![0, t.val] :=
  (by decide +kernel : ∀ t : Fin grid0.N, _)

theorem q_head (t : Fin cfg0.N) : (fun r d => iblk0 V c 0 t (ix3 0 r d)) = head (V c main_arg0) t := by
  funext r d
  refine congrArg (V c main_arg0) ?_
  blk_ext [idx t]

theorem k_head (t : Fin cfg0.N) : (fun r d => iblk0 V c 1 t (ix3 0 r d)) = head (V c main_arg1) t := by
  funext r d
  refine congrArg (V c main_arg1) ?_
  blk_ext [idx t]

theorem v_head (t : Fin cfg0.N) : (fun r d => iblk0 V c 2 t (ix3 0 r d)) = head (V c main_arg2) t := by
  funext r d
  refine congrArg (V c main_arg2) ?_
  blk_ext [idx_out t]

/-- The output's array after the run, for finite queries and keys. -/
theorem out_final (hq : ∀ i, ∃ a : ℝ, (V c main_arg0 : FVec Ideal S16x2176x192 .bf16) i = (a : EReal))
    (hk : ∀ i, ∃ a : ℝ, (V c main_arg1 : FVec Ideal S16x2176x192 .bf16) i = (a : EReal)) :
    (dat0 V c).arrAt 3 cfg0.N = OUT (V c main_arg0) (V c main_arg1) (V c main_arg2) := by
  refine (dat0 V c).arrAt_eq_of_covers 3 _ (by decide +kernel) fun t hf y => ?_
  blk_simp
  rw [after0_3, out_rows, q_head, k_head, v_head]
  · refine (OUT_at _ _ _ _ t _ _ ?_ ?_).symm
    · blk_point [idx_out t]
    · blk_point [idx_out t]
  · rw [q_head, k_head]
    exact fun r j => S_ne_top (fun r d => hq _) (fun j d => hk _) r j
  · rw [q_head, k_head]
    exact fun r => S_self (fun r d => hq _) (fun j d => hk _) r

end Cert.KernelIdeal.Logsum

end
-- ==== Proof.Results.lean ====
/- The kernel's run with its results read: each gradient's array, and the output's, of the arguments the step was launched with. -/
module

public import proofs.«01_k».proof.Proof.LogsumArray
public import proofs.«01_k».proof.Proof.GradientArrays
public import proofs.«01_k».proof.Proof.Output

@[expose] public section

set_option maxRecDepth 16384

noncomputable section

namespace Cert.KernelIdeal.Results

open Idealize.ShloMosaic Idealize.ShloMosaic.TcCoe Idealize.SL Idealize.SL.RA Idealize.SL.Sem Idealize.SL.BI
open Idealize.ShloMosaic.Rounds Cert.KernelIdeal Cert.KernelIdeal.Gen Cert.Attention
open scoped Idealize.SL.BI
open Idealize.SL.BI.BIBase Idealize.SL.BI.Laws Idealize.SL.ProofMode

local notation "𝕄" => MT nD τ sig Unit (Elt Ideal) ℕ (UR sig nD τ) ℕ

variable (m : (ℓ : Loc nD τ sig) → Buf (Elt Ideal) ℓ) (ρ : Dev nD → PrngReg) (c : Dev nD)

/-- The four arguments as launched. -/
abbrev argQ : FVec Ideal S16x2176x192 .bf16 := m ((c.tc : Thread nD τ).loc main_arg0)
abbrev argK : FVec Ideal S16x2176x192 .bf16 := m ((c.tc : Thread nD τ).loc main_arg1)
abbrev argV : FVec Ideal S16x2176x128 .bf16 := m ((c.tc : Thread nD τ).loc main_arg2)
abbrev argG : FVec Ideal S2176x2048 .bf16 := m ((c.tc : Thread nD τ).loc main_arg3)

theorem entry0 : V1 m ρ c main_arg0 = argQ m c := W1_args m ρ c main_arg0 (by decide)
theorem entry1 : V1 m ρ c main_arg1 = argK m c := W1_args m ρ c main_arg1 (by decide)
theorem entry2 : V1 m ρ c main_arg2 = argV m c := W1_args m ρ c main_arg2 (by decide)
theorem entry3 : V1 m ρ c main_arg3 = argG m c := W1_args m ρ c main_arg3 (by decide)

/-- The second call reads the log-sums the first one left. -/
theorem logs : V1 m ρ c main_v0_1 = Logsum.LSE (V1 m ρ c main_arg0) (V1 m ρ c main_arg1) := by
  rw [entry0, entry1]
  exact (hF0 m ρ c 4).symm.trans (Logsum.final (V0 m ρ) c)

theorem out0 : W2 m ρ c (Proc.devRef .tc main_v1_0) = DQ (argQ m c) (argK m c) (argV m c) (argG m c) := by
  rw [← entry0 m ρ c, ← entry1 m ρ c, ← entry2 m ρ c, ← entry3 m ρ c]
  exact (W2_arr m ρ c 5).trans (Blocks.dq_final (V1 m ρ) c (logs m ρ c))
theorem out1 : W2 m ρ c (Proc.devRef .tc main_v1_1) = DK (argQ m c) (argK m c) (argV m c) (argG m c) := by
  rw [← entry0 m ρ c, ← entry1 m ρ c, ← entry2 m ρ c, ← entry3 m ρ c]
  exact (W2_arr m ρ c 6).trans (Blocks.dk_final (V1 m ρ) c (logs m ρ c))
theorem out2 : W2 m ρ c (Proc.devRef .tc main_v1_2) = DV (argQ m c) (argK m c) (argG m c) := by
  rw [← entry0 m ρ c, ← entry1 m ρ c, ← entry3 m ρ c]
  exact (W2_arr m ρ c 7).trans (Blocks.dv_final (V1 m ρ) c (logs m ρ c))

/-! Of finite queries and keys: -/

variable (hq : ∀ c i, ∃ a : ℝ, argQ m c i = (a : EReal)) (hk : ∀ c i, ∃ a : ℝ, argK m c i = (a : EReal))
include hq hk

/-- The output's array is the first call's, which the second one leaves alone. -/
theorem out3 : W2 m ρ c (Proc.devRef .tc main_v0_0) = OUT (argQ m c) (argK m c) (argV m c) :=
  (W2_of m ρ c main_v0_0 (by decide)).trans ((hF0 m ρ c 3).symm.trans (Logsum.out_final (V0 m ρ) c (hq c) (hk c)))

set_option backward.isDefEq.respectTransparency.types false in
/-- Every execution ends with the three gradients and the output in the result arrays and the arguments as launched. -/
theorem run : θ_run defs (onTc (τ := τ) (main (F := Ideal))) ⟨m, fun _ => 0, ρ⟩ (fun r => ∀ c : Dev nD,
      r.2.mem ((c.tc : Thread nD τ).loc main_v1_0) = DQ (argQ m c) (argK m c) (argV m c) (argG m c)
      ∧ r.2.mem ((c.tc : Thread nD τ).loc main_v1_1) = DK (argQ m c) (argK m c) (argV m c) (argG m c)
      ∧ r.2.mem ((c.tc : Thread nD τ).loc main_v1_2) = DV (argQ m c) (argK m c) (argG m c)
      ∧ r.2.mem ((c.tc : Thread nD τ).loc main_v0_0) = OUT (argQ m c) (argK m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v1_0 (by decide))).trans (out0 m ρ c), (h c _ (mem_uc main_v1_1 (by decide))).trans (out1 m ρ c),
       (h c _ (mem_uc main_v1_2 (by decide))).trans (out2 m ρ c), (h c _ (mem_uc main_v0_0 (by decide))).trans (out3 m ρ c hq hk),
       (h c _ (mem_uc main_arg0 (by decide))).trans (W2_main_arg0 m ρ c),
       (h c _ (mem_uc main_arg1 (by decide))).trans (W2_main_arg1 m ρ c), (h c _ (mem_uc main_arg2 (by decide))).trans (W2_main_arg2 m ρ c),
       (h c _ (mem_uc main_arg3 (by decide))).trans (W2_main_arg3 m ρ c)⟩)

end Cert.KernelIdeal.Results

end
-- ==== Proof.Ffn.lean ====
/- The feed-forward block's numbers: a row's normalisation, a product of two arrays, the gate's share of an element and its
   gradient. The kernel's calls and the reference are both read in these. -/
module

public import proofs.«01_k».proof.Proof.Softmax
public import Idealize.ShloMosaic.Lib.Pointwise

@[expose] public section

noncomputable section

namespace Cert.Ffn

open Idealize.ShloMosaic

/-! ### Rows -/

/-- The reciprocal of a row's root mean square, the small number added under the root. -/
def rmsInv {n : ℕ} (x : Fin n → EReal) : EReal :=
  Ideal.rsqrt (Ideal.div (∑ k, x k * x k) (Scalar.ofBits (F := Ideal) .f32 0x45000000#32) + Scalar.ofBits (F := Ideal) .f32 0x358637BD#32)

/-- An array with every row normalised and multiplied by the scale `g`. -/
def normed {m n : ℕ} (x : FVec Ideal ⟨2, ![m, n]⟩ .f32) (g : FVec Ideal ⟨2, ![1, n]⟩ .f32) : FVec Ideal ⟨2, ![m, n]⟩ .bf16 := fun i =>
  x (ix2 (i 0) (i 1)) * rmsInv (fun k => x (ix2 (i 0) k)) * g (ix2 0 (i 1))

/-! ### Products of two arrays -/

section Products
variable {m n k : ℕ} (φ : FTy)

/-- The product of two arrays, -/
def prod (x : FVec Ideal ⟨2, ![m, k]⟩ .bf16) (y : FVec Ideal ⟨2, ![k, n]⟩ .bf16) : FVec Ideal ⟨2, ![m, n]⟩ φ := fun i =>
  ∑ l, x (ix2 (i 0) l) * y (ix2 l (i 1))
/-- with the first one transposed, -/
def prodT (x : FVec Ideal ⟨2, ![k, m]⟩ .bf16) (y : FVec Ideal ⟨2, ![k, n]⟩ .bf16) : FVec Ideal ⟨2, ![m, n]⟩ φ := fun i =>
  ∑ l, x (ix2 l (i 0)) * y (ix2 l (i 1))
/-- with the second one transposed. -/
def prodR (x : FVec Ideal ⟨2, ![m, k]⟩ .bf16) (y : FVec Ideal ⟨2, ![n, k]⟩ .bf16) : FVec Ideal ⟨2, ![m, n]⟩ φ := fun i =>
  ∑ l, x (ix2 (i 0) l) * y (ix2 (i 1) l)

/-- The product of two arrays, and a third one added. -/
def prodPlus (x : FVec Ideal ⟨2, ![m, k]⟩ .bf16) (y : FVec Ideal ⟨2, ![k, n]⟩ .bf16) (h : FVec Ideal ⟨2, ![m, n]⟩ .f32) :
    FVec Ideal ⟨2, ![m, n]⟩ .f32 := fun i => (∑ l, x (ix2 (i 0) l) * y (ix2 l (i 1))) + h (ix2 (i 0) (i 1))

end Products

/-! ### The gate -/

/-- The logistic function. -/
def gate (a : EReal) : EReal := Ideal.div 1 (1 + Ideal.exp (-a))

/-- An element of the gated product: `silu a * b`. -/
def gated (a b : EReal) : EReal := a * gate a * b

/-- The gradient of an element's first factor, of the gradient `d` of the gated product, -/
def dGate (a b d : EReal) : EReal := d * b * gate a + a * (d * b) * (gate a * (1 - gate a))
/-- and of its second. -/
def dUp (a d : EReal) : EReal := a * gate a * d

/-- The gate's slope in the two spellings: from the exponential and from the gate itself. -/
theorem slope (a : EReal) :
    Ideal.div 1 ((1 + Ideal.exp (-a)) * (1 + Ideal.exp (-a))) * Ideal.exp (-a) = gate a * (1 - gate a) := by
  unfold gate
  induction a with
  | bot =>
    have h : (1 : EReal) + ⊤ = ⊤ := EReal.coe_add_top 1
    simp [Ideal.div, h]
  | top =>
    have h : Ideal.div 1 1 = 1 := by simpa using Ideal.div_coe (y := 1) one_ne_zero 1
    simp only [EReal.neg_top, Ideal.exp_bot, add_zero, mul_one, mul_zero, h]
    rw [one_mul]
    exact (EReal.sub_self (by decide) (by decide)).symm
  | coe a =>
    have hp : (0 : ℝ) < 1 + Real.exp (-a) := by positivity
    have e1 : (1 : EReal) + Ideal.exp (-(a : EReal)) = ((1 + Real.exp (-a) : ℝ) : EReal) := by
      rw [← EReal.coe_neg, Ideal.exp_coe, EReal.coe_add, EReal.coe_one]
    rw [e1, ← EReal.coe_mul, Ideal.div_coe (by positivity), Ideal.div_coe hp.ne', ← EReal.coe_neg, Ideal.exp_coe, one_mul, one_mul,
      ← EReal.coe_one, ← EReal.coe_sub, ← EReal.coe_mul, ← EReal.coe_mul]
    refine congrArg _ ?_
    field_simp
    ring

/-- The first factor's gradient as the kernel spells it. -/
theorem dGate_eq (a b d : EReal) :
    d * b * Ideal.div 1 (1 + Ideal.exp (0 - a)) + (0 - (0 - a * (d * b) * Ideal.div 1 ((1 + Ideal.exp (0 - a)) * (1 + Ideal.exp (0 - a))))
      * Ideal.exp (0 - a)) = dGate a b d := by
  simp only [zero_sub]
  rw [neg_mul, neg_neg, mul_assoc (a * (d * b)), slope]
  rfl

/-- The left and the right half of a column of pairs. -/
abbrev lo (j : Fin 5632) : Fin 11264 := ⟨j.val, by omega⟩
abbrev hi (j : Fin 5632) : Fin 11264 := ⟨5632 + j.val, by omega⟩

/-- The gated product of an array of pairs, -/
def gatedArr {m : ℕ} (ab : FVec Ideal ⟨2, ![m, 11264]⟩ .f32) : FVec Ideal ⟨2, ![m, 5632]⟩ .bf16 := fun i =>
  gated (ab (ix2 (i 0) (lo (i 1)))) (ab (ix2 (i 0) (hi (i 1))))

/-- and its gradient, of the gradient `d` of the product. -/
def dPairs {m : ℕ} (ab : FVec Ideal ⟨2, ![m, 11264]⟩ .f32) (d : FVec Ideal ⟨2, ![m, 5632]⟩ .f32) : FVec Ideal ⟨2, ![m, 11264]⟩ .bf16 := fun i =>
  if h : (i 1).val < 5632 then dGate (ab (ix2 (i 0) (lo ⟨(i 1).val, h⟩))) (ab (ix2 (i 0) (hi ⟨(i 1).val, h⟩))) (d (ix2 (i 0) ⟨(i 1).val, h⟩))
  else dUp (ab (ix2 (i 0) (lo ⟨(i 1).val - 5632, by have := (i 1).isLt; simp at this; omega⟩))) (d (ix2 (i 0) ⟨(i 1).val - 5632, by have := (i 1).isLt; simp at this; omega⟩))

theorem gatedArr_at {m : ℕ} (ab : FVec Ideal ⟨2, ![m, 11264]⟩ .f32) (r : Fin m) (j : Fin 5632) :
    gatedArr ab (ix2 r j) = gated (ab (ix2 r (lo j))) (ab (ix2 r (hi j))) := rfl

theorem dPairs_lo {m : ℕ} (ab : FVec Ideal ⟨2, ![m, 11264]⟩ .f32) (d : FVec Ideal ⟨2, ![m, 5632]⟩ .f32) (r : Fin m) (j : Fin 5632) :
    dPairs ab d (ix2 r (lo j)) = dGate (ab (ix2 r (lo j))) (ab (ix2 r (hi j))) (d (ix2 r j)) := dif_pos j.isLt

theorem dPairs_hi {m : ℕ} (ab : FVec Ideal ⟨2, ![m, 11264]⟩ .f32) (d : FVec Ideal ⟨2, ![m, 5632]⟩ .f32) (r : Fin m) (j : Fin 5632) :
    dPairs ab d (ix2 r (hi j)) = dUp (ab (ix2 r (lo j))) (d (ix2 r j)) := by
  have e : (⟨(hi j).val - 5632, by simp⟩ : Fin 5632) = j := Fin.ext (by simp)
  refine (dif_neg (by simp)).trans ?_
  exact congrArg (fun i => dUp (ab (ix2 r (lo i))) (d (ix2 r i))) e

end Cert.Ffn

end
-- ==== Proof.FfnCalls.lean ====
/- What each call of the feed-forward block stores, element by element. -/
module

public import proofs.«01_k».proof.Proof.Ffn
public import proofs.«01_k».proof.Proof.Gen.Kernel2Ideal.Skeleton

@[expose] public section

set_option maxRecDepth 16384

noncomputable section

namespace Cert.Kernel2Ideal.Calls

open Idealize.ShloMosaic Idealize.ShloMosaic.TcCoe Cert.Kernel2Ideal Cert.Kernel2Ideal.Gen Cert.Ffn

theorem norm_at (x : Vec Ideal S128x2048 .f32) (g : Vec Ideal S1x2048 .f32) (r : Fin 128) (d : Fin 2048) :
    k0_pay1 x g (ix2 r d) = x (ix2 r d) * rmsInv (fun k => x (ix2 r k)) * g (ix2 0 d) := by
  pointwise [k0_pay1]
  rfl

theorem pairs_at (x : Vec Ideal S2176x2048 .bf16) (w : Vec Ideal S2048x512 .bf16) (r : Fin 2176) (j : Fin 512) :
    k1_pay1 x w (ix2 r j) = ∑ l, x (ix2 r l) * w (ix2 l j) := by
  pointwise [k1_pay1]

theorem gated_at (a b : Vec Ideal S64x5632 .f32) (r : Fin 64) (j : Fin 5632) :
    k2_pay1 a b (ix2 r j) = gated (a (ix2 r j)) (b (ix2 r j)) := by
  pointwise [k2_pay1]
  rw [zero_sub]
  rfl

theorem down_at (x y : Vec Ideal S2176x512 .bf16) (i j : Fin 512) :
    k3_pay1 x y (ix2 i j) = ∑ l, x (ix2 l i) * y (ix2 l j) := by
  pointwise [k3_pay1]

theorem back_at (x : Vec Ideal S2176x2048 .bf16) (w : Vec Ideal S512x2048 .bf16) (r : Fin 2176) (j : Fin 512) :
    k4_pay1 x w (ix2 r j) = ∑ l, x (ix2 r l) * w (ix2 j l) := by
  pointwise [k4_pay1]

theorem dGate_at (a b d : Vec Ideal S64x5632 .f32) (r : Fin 64) (j : Fin 5632) :
    k5_pay1 a b d (ix2 r (lo j)) = dGate (a (ix2 r j)) (b (ix2 r j)) (d (ix2 r j)) := by
  pointwise [k5_pay1]
  exact dGate_eq _ _ _

theorem dUp_at (a b d : Vec Ideal S64x5632 .f32) (r : Fin 64) (j : Fin 5632) :
    k5_pay1 a b d (ix2 r (hi j)) = dUp (a (ix2 r j)) (d (ix2 r j)) := by
  pointwise [k5_pay1]
  rw [zero_sub]
  rfl

theorem up_at (x : Vec Ideal S2176x1024 .bf16) (y : Vec Ideal S2176x512 .bf16) (i : Fin 1024) (j : Fin 512) :
    k6_pay1 x y (ix2 i j) = ∑ l, x (ix2 l i) * y (ix2 l j) := by
  pointwise [k6_pay1]

end Cert.Kernel2Ideal.Calls

end
-- ==== Proof.FfnArrays.lean ====
/- What each call of the feed-forward block leaves in its result's array, of the arrays it reads. -/
module

public import proofs.«01_k».proof.Proof.FfnCalls
public import proofs.«01_k».proof.Proof.Gen.Kernel2Ideal.Frame
public import Idealize.ShloMosaic.Lib.Pipeline.ValueKit

@[expose] public section

set_option maxRecDepth 16384

noncomputable section

namespace Cert.Kernel2Ideal.Calls

open Idealize.ShloMosaic Idealize.ShloMosaic.TcCoe Idealize.SL.Sem
open Cert.Kernel2Ideal Cert.Kernel2Ideal.Gen Cert.Ffn

variable (V : (c : Dev nD) → (b : Ref sig .tc) → Buf (Elt Ideal) ((c : Thread nD τ).loc b)) (c : Dev nD)

/-- A two-axis index is the pair of its coordinates. -/
theorem pair_idx {m n : ℕ} (x : (⟨2, ![m, n]⟩ : Shape).Idx) : ∃ (i : Fin m) (j : Fin n), x = ix2 i j := ⟨x 0, x 1, by blk_ext⟩

/-! ### The rows' normalisation: 128 rows at a point -/

theorem idx0 : ∀ t : Fin cfg0.N, win0_0.index t = ![t.val, 0] ∧ win0_1.index t = ![0, 0] ∧ win0_2.index t = ![t.val, 0] :=
  (by decide +kernel : ∀ t : Fin grid0.N, _)

theorem norm_final : (dat0 V c).arrAt 2 cfg0.N = normed (V c main_arg0) (V c main_arg1) := by
  refine (dat0 V c).arrAt_eq_of_covers 2 _ (by decide +kernel) fun t hf y => ?_
  blk_simp
  rw [after0_2]
  frame_out
  obtain ⟨r, d, rfl⟩ := pair_idx y
  rw [norm_at]
  blk_point [iblk0, normed, idx0 t]

/-! ### The products with the two weight arrays side by side: 512 columns at a point -/

theorem idx1 : ∀ t : Fin cfg1.N, win1_0.index t = ![0, 0] ∧ win1_1.index t = ![0, t.val] ∧ win1_2.index t = ![0, t.val] :=
  (by decide +kernel : ∀ t : Fin grid1.N, _)

theorem pairs_final : (dat1 V c).arrAt 2 cfg1.N
    = prod .f32 (V c main_v0) (V c main_arg2) := by
  refine (dat1 V c).arrAt_eq_of_covers 2 _ (by decide +kernel) fun t hf y => ?_
  blk_simp
  rw [after1_2]
  unfold outsAt1
  frame_out
  obtain ⟨r, d, rfl⟩ := pair_idx y
  rw [pairs_at]
  blk_point [iblk1, prod, idx1 t]

/-! ### The gated product: 64 rows at a point -/

theorem idx2 : ∀ t : Fin cfg2.N, win2_0.index t = ![t.val, 0] ∧ win2_1.index t = ![t.val, 1] ∧ win2_2.index t = ![t.val, 0] :=
  (by decide +kernel : ∀ t : Fin grid2.N, _)

/-- Row `r` of point `t`'s 64. -/
abbrev row64 (t : Fin 34) (r : Fin 64) : Fin 2176 := ⟨t.val * 64 + r.val, by omega⟩

theorem emb2 (t : Fin cfg2.N) (r : Fin 64) (j : Fin 5632) : (win2_2.blk t).view.emb (ix2 r j) = ix2 (row64 t r) j := by
  blk_ext [idx2 t]

theorem gated_final : (dat2 V c).arrAt 2 cfg2.N = gatedArr (V c main_v1) := by
  refine (dat2 V c).arrAt_eq_of_covers 2 _ (by decide +kernel) fun t hf y => ?_
  blk_simp
  rw [after2_2]
  frame_out
  obtain ⟨r, d, rfl⟩ := pair_idx y
  rw [gated_at, emb2 t r d, gatedArr_at]
  blk_point [iblk2, idx2 t]

/-! ### The gradient of the second weight: a tile of 512 by 512 at a point -/

theorem idx3 : ∀ t : Fin cfg3.N, win3_0.index t = ![0, t.val / 4] ∧ win3_1.index t = ![0, t.val % 4]
    ∧ win3_2.index t = ![t.val / 4, t.val % 4] :=
  (by decide +kernel : ∀ t : Fin grid3.N, _)

theorem down_final : (dat3 V c).arrAt 2 cfg3.N = prodT .bf16 (V c main_v2) (V c main_arg4) := by
  refine (dat3 V c).arrAt_eq_of_covers 2 _ (by decide +kernel) fun t hf y => ?_
  blk_simp
  rw [after3_2]
  unfold outsAt3
  frame_out
  obtain ⟨r, d, rfl⟩ := pair_idx y
  rw [down_at]
  blk_point [iblk3, prodT, idx3 t]

/-! ### The gradient of the gated product: 512 columns at a point -/

theorem idx4 : ∀ t : Fin cfg4.N, win4_0.index t = ![0, 0] ∧ win4_1.index t = ![t.val, 0] ∧ win4_2.index t = ![0, t.val] :=
  (by decide +kernel : ∀ t : Fin grid4.N, _)

theorem back_final : (dat4 V c).arrAt 2 cfg4.N = prodR .f32 (V c main_arg4) (V c main_arg3) := by
  refine (dat4 V c).arrAt_eq_of_covers 2 _ (by decide +kernel) fun t hf y => ?_
  blk_simp
  rw [after4_2]
  unfold outsAt4
  frame_out
  obtain ⟨r, d, rfl⟩ := pair_idx y
  rw [back_at]
  blk_point [iblk4, prodR, idx4 t]

/-! ### The gradient of the pairs: 64 rows at a point, both halves -/

theorem idx5 : ∀ t : Fin cfg5.N, win5_0.index t = ![t.val, 0] ∧ win5_1.index t = ![t.val, 1] ∧ win5_2.index t = ![t.val, 0]
    ∧ win5_3.index t = ![t.val, 0] :=
  (by decide +kernel : ∀ t : Fin grid5.N, _)

/-- A column of pairs is one of the left half or one of the right. -/
theorem half (j : Fin 11264) : (∃ i, j = lo i) ∨ ∃ i, j = hi i := by
  by_cases h : j.val < 5632
  · exact .inl ⟨⟨j.val, h⟩, rfl⟩
  · exact .inr ⟨⟨j.val - 5632, by omega⟩, Fin.ext (by simp; omega)⟩

theorem emb5 (t : Fin cfg5.N) (r : Fin 64) (j : Fin 11264) : (win5_3.blk t).view.emb (ix2 r j) = ix2 (row64 t r) j := by
  blk_ext [idx5 t]

theorem dPairs_final : (dat5 V c).arrAt 3 cfg5.N = dPairs (V c main_v1) (V c main_v4) := by
  refine (dat5 V c).arrAt_eq_of_covers 3 _ (by decide +kernel) fun t hf y => ?_
  blk_simp
  rw [after5_3]
  frame_out
  obtain ⟨r, d, rfl⟩ := pair_idx y
  obtain ⟨j, rfl⟩ | ⟨j, rfl⟩ := half d
  · rw [dGate_at, emb5 t r (lo j), dPairs_lo]
    blk_point [iblk5, idx5 t]
  · rw [dUp_at, emb5 t r (hi j), dPairs_hi]
    blk_point [iblk5, idx5 t]

/-! ### The gradient of the first weights: a tile of 1024 by 512 at a point -/

theorem idx6 : ∀ t : Fin cfg6.N, win6_0.index t = ![0, t.val / 22] ∧ win6_1.index t = ![0, t.val % 22]
    ∧ win6_2.index t = ![t.val / 22, t.val % 22] :=
  (by decide +kernel : ∀ t : Fin grid6.N, _)

theorem up_final : (dat6 V c).arrAt 2 cfg6.N = prodT .bf16 (V c main_v0) (V c main_v5) := by
  refine (dat6 V c).arrAt_eq_of_covers 2 _ (by decide +kernel) fun t hf y => ?_
  blk_simp
  rw [after6_2]
  unfold outsAt6
  frame_out
  obtain ⟨r, d, rfl⟩ := pair_idx y
  rw [up_at]
  blk_point [iblk6, prodT, idx6 t]

end Cert.Kernel2Ideal.Calls

end
-- ==== Proof.FfnResults.lean ====
/- The feed-forward program's run with its results read: the two weights' gradients and the gradient of the pairs, of the
   arguments the step was launched with. -/
module

public import proofs.«01_k».proof.Proof.FfnArrays

@[expose] public section

set_option maxRecDepth 16384

noncomputable section

namespace Cert.Ffn

open Idealize.ShloMosaic

variable (h : FVec Ideal ⟨2, ![2176, 2048]⟩ .f32) (g : FVec Ideal ⟨2, ![1, 2048]⟩ .f32) (w : FVec Ideal ⟨2, ![2048, 11264]⟩ .bf16)
  (u : FVec Ideal ⟨2, ![5632, 2048]⟩ .bf16) (d : FVec Ideal ⟨2, ![2176, 2048]⟩ .bf16)

/-- The pairs of the block's input, -/
def pairs : FVec Ideal ⟨2, ![2176, 11264]⟩ .f32 := prod .f32 (normed h g) w
/-- the second weight's gradient, -/
def gDown : FVec Ideal ⟨2, ![5632, 2048]⟩ .bf16 := prodT .bf16 (gatedArr (pairs h g w)) d
/-- the gradient of the pairs -/
def gPairs : FVec Ideal ⟨2, ![2176, 11264]⟩ .bf16 := dPairs (pairs h g w) (prodR .f32 d u)
/-- and the first weights' gradient. -/
def gUp : FVec Ideal ⟨2, ![2048, 11264]⟩ .bf16 := prodT .bf16 (normed h g) (gPairs h g w u d)

end Cert.Ffn

namespace Cert.Kernel2Ideal.Results

open Idealize.ShloMosaic Idealize.ShloMosaic.TcCoe Idealize.SL Idealize.SL.RA Idealize.SL.Sem Idealize.SL.BI
open Idealize.ShloMosaic.Rounds Cert.Kernel2Ideal Cert.Kernel2Ideal.Gen Cert.Kernel2Ideal.Calls Cert.Ffn
open scoped Idealize.SL.BI
open Idealize.SL.BI.BIBase Idealize.SL.BI.Laws Idealize.SL.ProofMode

local notation "𝕄" => MT nD τ sig Unit (Elt Ideal) ℕ (UR sig nD τ) ℕ

variable (m : (ℓ : Loc nD τ sig) → Buf (Elt Ideal) ℓ) (ρ : Dev nD → PrngReg) (c : Dev nD)

/-- The five arguments as launched. -/
abbrev argH : FVec Ideal S2176x2048 .f32 := m ((c.tc : Thread nD τ).loc main_arg0)
abbrev argG : FVec Ideal S1x2048 .f32 := m ((c.tc : Thread nD τ).loc main_arg1)
abbrev argW : FVec Ideal S2048x11264 .bf16 := m ((c.tc : Thread nD τ).loc main_arg2)
abbrev argU : FVec Ideal S5632x2048 .bf16 := m ((c.tc : Thread nD τ).loc main_arg3)
abbrev argD : FVec Ideal S2176x2048 .bf16 := m ((c.tc : Thread nD τ).loc main_arg4)

/-! ### What each call finds and leaves -/

theorem normed1 : V1 m ρ c main_v0 = normed (argH m c) (argG m c) := (W1_arr m ρ c 2).trans (norm_final (V0 m ρ) c)

theorem pairs2 : V2 m ρ c main_v1 = pairs (argH m c) (argG m c) (argW m c) := by
  refine (W2_arr m ρ c 2).trans ((pairs_final (V1 m ρ) c).trans ?_)
  rw [normed1, show V1 m ρ c main_arg2 = argW m c from W1_args m ρ c main_arg2 (by decide)]
  rfl

theorem gated3 : V3 m ρ c main_v2 = gatedArr (pairs (argH m c) (argG m c) (argW m c)) := by
  refine (W3_arr m ρ c 2).trans ((gated_final (V2 m ρ) c).trans ?_)
  rw [pairs2]

theorem down4 : V4 m ρ c main_v3 = gDown (argH m c) (argG m c) (argW m c) (argD m c) := by
  refine (W4_arr m ρ c 2).trans ((down_final (V3 m ρ) c).trans ?_)
  rw [gated3, show V3 m ρ c main_arg4 = argD m c from W3_args m ρ c main_arg4 (by decide)]
  rfl

theorem back5 : V5 m ρ c main_v4 = prodR .f32 (argD m c) (argU m c) := by
  refine (W5_arr m ρ c 2).trans ((back_final (V4 m ρ) c).trans ?_)
  rw [show V4 m ρ c main_arg4 = argD m c from W4_args m ρ c main_arg4 (by decide),
    show V4 m ρ c main_arg3 = argU m c from W4_args m ρ c main_arg3 (by decide)]

theorem pairs5 : V5 m ρ c main_v1 = pairs (argH m c) (argG m c) (argW m c) :=
  (W5_of m ρ c main_v1 (by decide)).trans ((W4_of m ρ c main_v1 (by decide)).trans ((W3_of m ρ c main_v1 (by decide)).trans (pairs2 m ρ c)))

theorem dPairs6 : V6 m ρ c main_v5 = gPairs (argH m c) (argG m c) (argW m c) (argU m c) (argD m c) := by
  refine (W6_arr m ρ c 3).trans ((dPairs_final (V5 m ρ) c).trans ?_)
  rw [pairs5, back5]
  rfl

theorem normed6 : V6 m ρ c main_v0 = normed (argH m c) (argG m c) :=
  (W6_of m ρ c main_v0 (by decide)).trans ((W5_of m ρ c main_v0 (by decide)).trans ((W4_of m ρ c main_v0 (by decide)).trans
    ((W3_of m ρ c main_v0 (by decide)).trans ((W2_of m ρ c main_v0 (by decide)).trans (normed1 m ρ c)))))

theorem out0 : W7 m ρ c (Proc.devRef .tc main_v3) = gDown (argH m c) (argG m c) (argW m c) (argD m c) :=
  (W7_of m ρ c main_v3 (by decide)).trans ((W6_of m ρ c main_v3 (by decide)).trans ((W5_of m ρ c main_v3 (by decide)).trans (down4 m ρ c)))

theorem out1 : W7 m ρ c (Proc.devRef .tc main_v5) = gPairs (argH m c) (argG m c) (argW m c) (argU m c) (argD m c) :=
  (W7_of m ρ c main_v5 (by decide)).trans (dPairs6 m ρ c)

theorem out2 : W7 m ρ c (Proc.devRef .tc main_v6) = gUp (argH m c) (argG m c) (argW m c) (argU m c) (argD m c) := by
  refine (W7_arr m ρ c 2).trans ((up_final (V6 m ρ) c).trans ?_)
  rw [normed6, dPairs6]
  rfl

set_option backward.isDefEq.respectTransparency.types false in
/-- Every execution ends with the results in their arrays and the arguments as launched. -/
theorem run : θ_run defs (onTc (τ := τ) (main (F := Ideal))) ⟨m, fun _ => 0, ρ⟩ (fun r => ∀ c : Dev nD,
      r.2.mem ((c.tc : Thread nD τ).loc main_v3) = gDown (argH m c) (argG m c) (argW m c) (argD m c)
      ∧ r.2.mem ((c.tc : Thread nD τ).loc main_v5) = gPairs (argH m c) (argG m c) (argW m c) (argU m c) (argD m c)
      ∧ r.2.mem ((c.tc : Thread nD τ).loc main_v6) = gUp (argH m c) (argG m c) (argW m c) (argU m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨(h c _ (mem_uc main_v3 (by decide))).trans (out0 m ρ c), (h c _ (mem_uc main_v5 (by decide))).trans (out1 m ρ c),
       (h c _ (mem_uc main_v6 (by decide))).trans (out2 m ρ c), (h c _ (mem_uc main_arg0 (by decide))).trans (W7_main_arg0 m ρ c),
       (h c _ (mem_uc main_arg1 (by decide))).trans (W7_main_arg1 m ρ c), (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.Kernel2Ideal.Results

end
-- ==== Proof.FfnReference.lean ====
/- What the feed-forward block's reference computes, stage by stage, and its three results: the ones the calls leave. -/
module

public import proofs.«01_k».proof.Proof.FfnResults
public import proofs.«01_k».proof.Proof.Gen.Reference2Ideal.Run

@[expose] public section

set_option maxRecDepth 16384

noncomputable section

namespace Cert.Reference2Ideal.Stages

open Cert.Reference2Ideal Cert.Reference2Ideal.Gen Cert.Reference2Ideal.Value Idealize.ShloMosaic Cert.Ffn

variable (x : FVec Ideal S2176x2048 .f32) (g : FVec Ideal S1x2048 .f32) (w : FVec Ideal S2048x11264 .bf16)
  (u : FVec Ideal S5632x2048 .bf16) (d : FVec Ideal S2176x2048 .bf16)
  (n : FVec Ideal S2176x2048 .f32) (v : FVec Ideal S2048x5632 .f32) (a b e : FVec Ideal S2176x5632 .f32)

/-! ### The stages, each of what the ones before leave, and each at an index -/

/-- The normalised rows. -/
def norm : FVec Ideal S2176x2048 .f32 :=
  mulf (mulf x (broadcastInDim S2176x2048 ![0, 1] bcast_S2176x1_S2176x2048_0_1 (Host.rsqrt (addf (Host.divf
      (broadcastInDim S2176x1 ![0] bcast_S2176_S2176x1_0 (Host.reduceAdd (mulf x x) (constant S_ .f32 0x00000000#32) reducesTo_S2176x2048_S2176_d1 h_S_))
      (broadcastInDim S2176x1 ![] bcast_S_S2176x1 (constant S_ .f32 0x45000000#32)))
    (broadcastInDim S2176x1 ![] bcast_S_S2176x1 (constant S_ .f32 0x358637BD#32))))))
    (broadcastInDim S2176x2048 ![0, 1] bcast_S1x2048_S2176x2048_0_1 g)

theorem norm_at (r : Fin 2176) (k : Fin 2048) : norm x g (ix2 r k) = normed x g (ix2 r k) := by
  pointwise [norm]
  rfl

/-- The two weights of the array that holds them side by side. -/
def left : FVec Ideal S2048x5632 .f32 := extf .f32 (extractStridedSlice S2048x5632 ![0, 0] w slices_S2048x11264_S2048x5632_0_0) bitsLt_bf16_f32
def right : FVec Ideal S2048x5632 .f32 := extf .f32 (extractStridedSlice S2048x5632 ![0, 5632] w slices_S2048x11264_S2048x5632_0_5632) bitsLt_bf16_f32

theorem left_at (k : Fin 2048) (j : Fin 5632) : left w (ix2 k j) = w (ix2 k (lo j)) := by pointwise [left]
theorem right_at (k : Fin 2048) (j : Fin 5632) : right w (ix2 k j) = w (ix2 k (hi j)) := by pointwise [right]

/-- The rows' product with a weight. -/
def times : FVec Ideal S2176x5632 .f32 := Host.dotGeneral dot_S2176x2048_S2048x5632_S2176x5632_1_0_0_1_n_n none n v

theorem times_at (r : Fin 2176) (j : Fin 5632) : times n v (ix2 r j) = ∑ k, n (ix2 r k) * v (ix2 k j) := by pointwise [times]

/-- The gate of every element, -/
def gates : FVec Ideal S2176x5632 .f32 :=
  Host.divf (broadcastInDim S2176x5632 ![] bcast_S_S2176x5632 (constant S_ .f32 0x3F800000#32))
    (addf (broadcastInDim S2176x5632 ![] bcast_S_S2176x5632 (constant S_ .f32 0x3F800000#32)) (Host.exp (Host.negf a)))
/-- and its slope. -/
def slopes : FVec Ideal S2176x5632 .f32 :=
  mulf (gates a) (subf (broadcastInDim S2176x5632 ![] bcast_S_S2176x5632 (constant S_ .f32 0x3F800000#32)) (gates a))

variable (r : Fin 2176) (j : Fin 5632)

theorem gates_at : gates a (ix2 r j) = gate (a (ix2 r j)) := by
  pointwise [gates]
  rfl

theorem slopes_at : slopes a (ix2 r j) = gate (a (ix2 r j)) * (1 - gate (a (ix2 r j))) := by
  pointwise [slopes]
  rw [gates_at]

/-- The gated product, -/
def product : FVec Ideal S2176x5632 .f32 := mulf (mulf a (gates a)) b
/-- its gradient, -/
def productGrad : FVec Ideal S2176x5632 .f32 :=
  Host.dotGeneral dot_S2176x2048_S5632x2048_S2176x5632_1_1_0_0_n_n none (extf .f32 d bitsLt_bf16_f32) (extf .f32 u bitsLt_bf16_f32)
/-- the first factor's -/
def leftGrad : FVec Ideal S2176x5632 .f32 := addf (mulf (mulf e b) (gates a)) (mulf (mulf a (mulf e b)) (slopes a))
/-- and the second's. -/
def rightGrad : FVec Ideal S2176x5632 .f32 := mulf (mulf a (gates a)) e

theorem product_at : product a b (ix2 r j) = gated (a (ix2 r j)) (b (ix2 r j)) := by
  pointwise [product]
  rw [gates_at]
  rfl

theorem productGrad_at : productGrad u d (ix2 r j) = ∑ k, d (ix2 r k) * u (ix2 j k) := by pointwise [productGrad]

theorem leftGrad_at : leftGrad a b e (ix2 r j) = dGate (a (ix2 r j)) (b (ix2 r j)) (e (ix2 r j)) := by
  pointwise [leftGrad]
  rw [gates_at, slopes_at]
  rfl

theorem rightGrad_at : rightGrad a e (ix2 r j) = dUp (a (ix2 r j)) (e (ix2 r j)) := by
  pointwise [rightGrad]
  rw [gates_at]
  rfl

/-! ### The three results -/

/-- The second weight's gradient, -/
def outDown : FVec Ideal S5632x2048 .bf16 :=
  truncf .bf16 (transpose S5632x2048 [1, 0] (Host.dotGeneral dot_S2176x2048_S2176x5632_S2048x5632_0_0_1_1_n_n none (extf .f32 d bitsLt_bf16_f32) a)
    transposes_S2048x5632_S5632x2048_1_0) bitsLt_bf16_f32
/-- the gradients of the two factors side by side, -/
def outPairs : FVec Ideal S2176x11264 .bf16 :=
  truncf .bf16 (concatenate S2176x11264 1 [⟨S2176x5632, a⟩, ⟨S2176x5632, b⟩] concatenates_S2176x5632_S2176x5632_S2176x11264_d1) bitsLt_bf16_f32
/-- the gradient of one of the first weights, -/
def outUp : FVec Ideal S2048x5632 .f32 :=
  transpose S2048x5632 [1, 0] (Host.dotGeneral dot_S2176x5632_S2176x2048_S5632x2048_0_0_1_1_n_n none a n) transposes_S5632x2048_S2048x5632_1_0
/-- and two of them side by side. -/
def outUps (p q : FVec Ideal S2048x5632 .f32) : FVec Ideal S2048x11264 .bf16 :=
  truncf .bf16 (concatenate S2048x11264 1 [⟨S2048x5632, p⟩, ⟨S2048x5632, q⟩] concatenates_S2048x5632_S2048x5632_S2048x11264_d1) bitsLt_bf16_f32

theorem outDown_at (i : Fin 5632) (k : Fin 2048) : outDown d a (ix2 i k) = ∑ l, d (ix2 l k) * a (ix2 l i) := by pointwise [outDown]
theorem outPairs_lo : outPairs a b (ix2 r (lo j)) = a (ix2 r j) := by pointwise [outPairs]
theorem outPairs_hi : outPairs a b (ix2 r (hi j)) = b (ix2 r j) := by pointwise [outPairs]
theorem outUp_at (k : Fin 2048) : outUp n a (ix2 k j) = ∑ l, a (ix2 l j) * n (ix2 l k) := by pointwise [outUp]
theorem outUps_lo (p q : FVec Ideal S2048x5632 .f32) (k : Fin 2048) : outUps p q (ix2 k (lo j)) = p (ix2 k j) := by pointwise [outUps]
theorem outUps_hi (p q : FVec Ideal S2048x5632 .f32) (k : Fin 2048) : outUps p q (ix2 k (hi j)) = q (ix2 k j) := by pointwise [outUps]

/-- The first factor of the arguments, -/
def fst : FVec Ideal S2176x5632 .f32 := times (norm x g) (left w)
/-- and the second. -/
def snd : FVec Ideal S2176x5632 .f32 := times (norm x g) (right w)

theorem fst_at : fst x g w (ix2 r j) = pairs x g w (ix2 r (lo j)) := by
  unfold fst
  rw [times_at]
  simp only [norm_at, left_at]
  rfl

theorem snd_at : snd x g w (ix2 r j) = pairs x g w (ix2 r (hi j)) := by
  unfold snd
  rw [times_at]
  simp only [norm_at, right_at]
  rfl

theorem down_eq : outDown d (product (fst x g w) (snd x g w)) = gDown x g w d := funext fun i => by
  obtain ⟨i, k, rfl⟩ := Kernel2Ideal.Calls.pair_idx i
  rw [outDown_at]
  simp only [product_at, fst_at, snd_at]
  exact Finset.sum_congr rfl fun l _ => mul_comm _ _

/-- The gradient of the first factor at an element, -/
theorem left_eq : leftGrad (fst x g w) (snd x g w) (productGrad u d) (ix2 r j) = gPairs x g w u d (ix2 r (lo j)) := by
  rw [leftGrad_at, fst_at, snd_at, productGrad_at]
  exact (dPairs_lo (pairs x g w) (prodR .f32 d u) r j).symm

/-- and of the second. -/
theorem right_eq : rightGrad (fst x g w) (productGrad u d) (ix2 r j) = gPairs x g w u d (ix2 r (hi j)) := by
  rw [rightGrad_at, fst_at, productGrad_at]
  exact (dPairs_hi (pairs x g w) (prodR .f32 d u) r j).symm

theorem pairs_eq : outPairs (leftGrad (fst x g w) (snd x g w) (productGrad u d)) (rightGrad (fst x g w) (productGrad u d)) = gPairs x g w u d :=
  funext fun i => by
    obtain ⟨r, k, rfl⟩ := Kernel2Ideal.Calls.pair_idx i
    obtain ⟨j, rfl⟩ | ⟨j, rfl⟩ := Kernel2Ideal.Calls.half k
    · rw [outPairs_lo, left_eq]
    · rw [outPairs_hi, right_eq]

theorem ups_eq : outUps (outUp (norm x g) (leftGrad (fst x g w) (snd x g w) (productGrad u d)))
    (outUp (norm x g) (rightGrad (fst x g w) (productGrad u d))) = gUp x g w u d :=
  funext fun i => by
    obtain ⟨k, l, rfl⟩ := Kernel2Ideal.Calls.pair_idx i
    obtain ⟨j, rfl⟩ | ⟨j, rfl⟩ := Kernel2Ideal.Calls.half l
    · rw [outUps_lo, outUp_at]
      simp only [left_eq, norm_at]
      exact Finset.sum_congr rfl fun l _ => mul_comm _ _
    · rw [outUps_hi, outUp_at]
      simp only [right_eq, norm_at]
      exact Finset.sum_congr rfl fun l _ => mul_comm _ _

variable (μ : (ℓ : Loc nD τ sig) → Buf (Elt Ideal) ℓ) (c : Dev nD)

/-- The program's five arguments. -/
abbrev argH : FVec Ideal S2176x2048 .f32 := μ ((c.tc : Thread nD τ).loc main_arg0)
abbrev argG : FVec Ideal S1x2048 .f32 := μ ((c.tc : Thread nD τ).loc main_arg1)
abbrev argW : FVec Ideal S2048x11264 .bf16 := μ ((c.tc : Thread nD τ).loc main_arg2)
abbrev argU : FVec Ideal S5632x2048 .bf16 := μ ((c.tc : Thread nD τ).loc main_arg3)
abbrev argD : FVec Ideal S2176x2048 .bf16 := μ ((c.tc : Thread nD τ).loc main_arg4)

/-- Every execution of the reference ends with the same results, and the arguments as launched. -/
theorem run (ρ : Dev nD → PrngReg) : θ_run defs (onTc (τ := τ) (main (F := Ideal))) ⟨μ, fun _ => 0, ρ⟩ (fun r => ∀ c : Dev nD,
      r.2.mem ((c.tc : Thread nD τ).loc main_v35) = gDown (argH μ c) (argG μ c) (argW μ c) (argD μ c)
      ∧ r.2.mem ((c.tc : Thread nD τ).loc main_v36) = gPairs (argH μ c) (argG μ c) (argW μ c) (argU μ c) (argD μ c)
      ∧ r.2.mem ((c.tc : Thread nD τ).loc main_v37) = gUp (argH μ c) (argG μ c) (argW μ c) (argU μ c) (argD μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)) :=
  (θ_run defs _ _).mono (fun _ h c =>
    ⟨(h c).1.trans (down_eq (argH μ c) (argG μ c) (argW μ c) (argD μ c)),
     (h c).2.1.trans (pairs_eq (argH μ c) (argG μ c) (argW μ c) (argU μ c) (argD μ c)),
     (h c).2.2.1.trans (ups_eq (argH μ c) (argG μ c) (argW μ c) (argU μ c) (argD μ c)), (h c).2.2.2⟩) (Value.run (F := Ideal) μ ρ)

end Cert.Reference2Ideal.Stages

end
-- ==== Proof.MixProducts.lean ====
/- The two mixers' outputs, their gated sum and the product after it: what each of the six calls stores, and what it leaves in its
   result's array. -/
module

public import proofs.«01_k».proof.Proof.FfnArrays
public import proofs.«01_k».proof.Proof.Gen.Kernel3Ideal.Frame

@[expose] public section

set_option maxRecDepth 16384

noncomputable section

namespace Cert.Ffn

open Idealize.ShloMosaic

/-- A column of the left half of an array, and of its right half. -/
def inLeft (j : Fin 2048) : Fin 4096 := ⟨j.val, by omega⟩
def inRight (j : Fin 2048) : Fin 4096 := ⟨2048 + j.val, by omega⟩

/-- The two mixers' gated sum: of either its product, and its gate's argument `z` and bias; the first has a bias `b` of its own. -/
def mixOf (y : FVec Ideal ⟨2, ![2176, 2048]⟩ .f32) (b : FVec Ideal ⟨2, ![1, 2048]⟩ .f32) (a : FVec Ideal ⟨2, ![2176, 2048]⟩ .f32)
    (z : FVec Ideal ⟨2, ![2176, 4096]⟩ .f32) (p q : FVec Ideal ⟨2, ![1, 2048]⟩ .f32) : FVec Ideal ⟨2, ![2176, 2048]⟩ .bf16 := fun i =>
  gate (z (ix2 (i 0) (inLeft (i 1))) + p (ix2 0 (i 1))) * (y (ix2 (i 0) (i 1)) + b (ix2 0 (i 1)))
    + gate (z (ix2 (i 0) (inRight (i 1))) + q (ix2 0 (i 1))) * a (ix2 (i 0) (i 1))

end Cert.Ffn

namespace Cert.Kernel3Ideal.Calls

open Idealize.ShloMosaic Idealize.ShloMosaic.TcCoe Idealize.SL.Sem
open Cert.Kernel3Ideal Cert.Kernel3Ideal.Gen Cert.Ffn
open Cert.Kernel2Ideal.Calls (pair_idx)

/-! ### What the calls store -/

theorem conv_at (x : Vec Ideal S2176x2048 .bf16) (w : Vec Ideal S2048x512 .bf16) (r : Fin 2176) (j : Fin 512) :
    k0_pay1 x w (ix2 r j) = ∑ l, x (ix2 r l) * w (ix2 l j) := by
  pointwise [k0_pay1]

theorem attn_at (x : Vec Ideal S2176x2048 .bf16) (w : Vec Ideal S2048x512 .bf16) (r : Fin 2176) (j : Fin 512) :
    k1_pay1 x w (ix2 r j) = ∑ l, x (ix2 r l) * w (ix2 l j) := by
  pointwise [k1_pay1]

theorem mix_at (y : Vec Ideal S128x2048 .f32) (b : Vec Ideal S1x2048 .f32) (a z w : Vec Ideal S128x2048 .f32)
    (p q : Vec Ideal S1x2048 .f32) (r : Fin 128) (j : Fin 2048) :
    k2_pay1 y b a z w p q (ix2 r j) = gate (z (ix2 r j) + p (ix2 0 j)) * (y (ix2 r j) + b (ix2 0 j))
      + gate (w (ix2 r j) + q (ix2 0 j)) * a (ix2 r j) := by
  pointwise [k2_pay1]
  simp only [zero_sub]
  rfl

theorem out_at (x : Vec Ideal S2176x2048 .bf16) (w : Vec Ideal S2048x512 .bf16) (h : Vec Ideal S2176x512 .f32) (r : Fin 2176) (j : Fin 512) :
    k3_pay1 x w h (ix2 r j) = (∑ l, x (ix2 r l) * w (ix2 l j)) + h (ix2 r j) := by
  pointwise [k3_pay1]

theorem weight_at (x : Vec Ideal S2176x1024 .bf16) (y : Vec Ideal S2176x512 .bf16) (i : Fin 1024) (j : Fin 512) :
    k4_pay1 x y (ix2 i j) = ∑ l, x (ix2 l i) * y (ix2 l j) := by
  pointwise [k4_pay1]

theorem grad_at (x : Vec Ideal S2176x2048 .bf16) (w : Vec Ideal S512x2048 .bf16) (r : Fin 2176) (j : Fin 512) :
    k5_pay1 x w (ix2 r j) = ∑ l, x (ix2 r l) * w (ix2 j l) := by
  pointwise [k5_pay1]

/-! ### What the calls leave -/

variable (V : (c : Dev nD) → (b : Ref sig .tc) → Buf (Elt Ideal) ((c : Thread nD τ).loc b)) (c : Dev nD)

theorem idx0 : ∀ t : Fin cfg0.N, win0_0.index t = ![0, 0] ∧ win0_1.index t = ![0, t.val] ∧ win0_2.index t = ![0, t.val] :=
  (by decide +kernel : ∀ t : Fin grid0.N, _)

theorem conv_final : (dat0 V c).arrAt 2 cfg0.N = prod .f32 (V c main_arg1) (V c main_arg3) := by
  refine (dat0 V c).arrAt_eq_of_covers 2 _ (by decide +kernel) fun t hf y => ?_
  blk_simp
  rw [after0_2]
  unfold outsAt0
  frame_out
  obtain ⟨r, d, rfl⟩ := pair_idx y
  rw [conv_at]
  blk_point [iblk0, prod, idx0 t]

theorem idx1 : ∀ t : Fin cfg1.N, win1_0.index t = ![0, 0] ∧ win1_1.index t = ![0, t.val] ∧ win1_2.index t = ![0, t.val] :=
  (by decide +kernel : ∀ t : Fin grid1.N, _)

theorem attn_final : (dat1 V c).arrAt 2 cfg1.N = prod .f32 (V c main_arg2) (V c main_arg5) := by
  refine (dat1 V c).arrAt_eq_of_covers 2 _ (by decide +kernel) fun t hf y => ?_
  blk_simp
  rw [after1_2]
  unfold outsAt1
  frame_out
  obtain ⟨r, d, rfl⟩ := pair_idx y
  rw [attn_at]
  blk_point [iblk1, prod, idx1 t]

theorem idx2 : ∀ t : Fin cfg2.N, win2_0.index t = ![t.val, 0] ∧ win2_1.index t = ![0, 0] ∧ win2_2.index t = ![t.val, 0]
    ∧ win2_3.index t = ![t.val, 0] ∧ win2_4.index t = ![t.val, 1] ∧ win2_5.index t = ![0, 0] ∧ win2_6.index t = ![0, 0]
    ∧ win2_7.index t = ![t.val, 0] :=
  (by decide +kernel : ∀ t : Fin grid2.N, _)

theorem mix_final : (dat2 V c).arrAt 7 cfg2.N
    = mixOf (V c main_v0) (V c main_arg4) (V c main_v1) (V c main_arg6) (V c main_arg7) (V c main_arg8) := by
  refine (dat2 V c).arrAt_eq_of_covers 7 _ (by decide +kernel) fun t hf y => ?_
  blk_simp
  rw [after2_7]
  frame_out
  obtain ⟨r, d, rfl⟩ := pair_idx y
  rw [mix_at]
  blk_point [iblk2, mixOf, inLeft, inRight, idx2 t]

theorem idx3 : ∀ t : Fin cfg3.N, win3_0.index t = ![0, 0] ∧ win3_1.index t = ![0, t.val] ∧ win3_2.index t = ![0, t.val]
    ∧ win3_3.index t = ![0, t.val] :=
  (by decide +kernel : ∀ t : Fin grid3.N, _)

theorem out_final : (dat3 V c).arrAt 3 cfg3.N = prodPlus (V c main_v2) (V c main_arg9) (V c main_arg0) := by
  refine (dat3 V c).arrAt_eq_of_covers 3 _ (by decide +kernel) fun t hf y => ?_
  blk_simp
  rw [after3_3]
  unfold outsAt3
  frame_out
  obtain ⟨r, d, rfl⟩ := pair_idx y
  rw [out_at]
  blk_point [iblk3, prodPlus, idx3 t]

theorem idx4 : ∀ t : Fin cfg4.N, win4_0.index t = ![0, t.val / 4] ∧ win4_1.index t = ![0, t.val % 4]
    ∧ win4_2.index t = ![t.val / 4, t.val % 4] :=
  (by decide +kernel : ∀ t : Fin grid4.N, _)

theorem weight_final : (dat4 V c).arrAt 2 cfg4.N = prodT .bf16 (V c main_v2) (V c main_arg10) := by
  refine (dat4 V c).arrAt_eq_of_covers 2 _ (by decide +kernel) fun t hf y => ?_
  blk_simp
  rw [after4_2]
  unfold outsAt4
  frame_out
  obtain ⟨r, d, rfl⟩ := pair_idx y
  rw [weight_at]
  blk_point [iblk4, prodT, idx4 t]

theorem idx5 : ∀ t : Fin cfg5.N, win5_0.index t = ![0, 0] ∧ win5_1.index t = ![t.val, 0] ∧ win5_2.index t = ![0, t.val] :=
  (by decide +kernel : ∀ t : Fin grid5.N, _)

theorem grad_final : (dat5 V c).arrAt 2 cfg5.N = prodR .f32 (V c main_arg10) (V c main_arg9) := by
  refine (dat5 V c).arrAt_eq_of_covers 2 _ (by decide +kernel) fun t hf y => ?_
  blk_simp
  rw [after5_2]
  unfold outsAt5
  frame_out
  obtain ⟨r, d, rfl⟩ := pair_idx y
  rw [grad_at]
  blk_point [iblk5, prodR, idx5 t]

end Cert.Kernel3Ideal.Calls

end
-- ==== Proof.MixResults.lean ====
/- The mixers' calls run: each call's result as a term of the arguments, and what the results' arrays end holding. -/
module

public import proofs.«01_k».proof.Proof.MixProducts

@[expose] public section

set_option maxRecDepth 16384

noncomputable section

namespace Cert.Kernel3Ideal.Results

open Idealize.ShloMosaic Idealize.ShloMosaic.TcCoe Idealize.SL Idealize.SL.RA Idealize.SL.Sem Idealize.SL.BI
open Idealize.ShloMosaic.Rounds Cert.Kernel3Ideal Cert.Kernel3Ideal.Gen Cert.Kernel3Ideal.Calls Cert.Ffn
open scoped Idealize.SL.BI
open Idealize.SL.BI.BIBase Idealize.SL.BI.Laws Idealize.SL.ProofMode

local notation "𝕄" => MT nD τ sig Unit (Elt Ideal) ℕ (UR sig nD τ) ℕ

variable (m : (ℓ : Loc nD τ sig) → Buf (Elt Ideal) ℓ) (ρ : Dev nD → PrngReg) (c : Dev nD)

/-- The arguments as launched: the residual rows; the convolution's and the attention's outputs; the first's weight and bias and the
    second's weight; the gates' argument and two biases; the last product's weight, and its result's gradient. -/
abbrev argH : FVec Ideal S2176x2048 .f32 := m ((c.tc : Thread nD τ).loc main_arg0)
abbrev argC : FVec Ideal S2176x2048 .bf16 := m ((c.tc : Thread nD τ).loc main_arg1)
abbrev argO : FVec Ideal S2176x2048 .bf16 := m ((c.tc : Thread nD τ).loc main_arg2)
abbrev argWc : FVec Ideal S2048x2048 .bf16 := m ((c.tc : Thread nD τ).loc main_arg3)
abbrev argB : FVec Ideal S1x2048 .f32 := m ((c.tc : Thread nD τ).loc main_arg4)
abbrev argWo : FVec Ideal S2048x2048 .bf16 := m ((c.tc : Thread nD τ).loc main_arg5)
abbrev argZ : FVec Ideal S2176x4096 .f32 := m ((c.tc : Thread nD τ).loc main_arg6)
abbrev argP : FVec Ideal S1x2048 .f32 := m ((c.tc : Thread nD τ).loc main_arg7)
abbrev argQ : FVec Ideal S1x2048 .f32 := m ((c.tc : Thread nD τ).loc main_arg8)
abbrev argW : FVec Ideal S2048x2048 .bf16 := m ((c.tc : Thread nD τ).loc main_arg9)
abbrev argD : FVec Ideal S2176x2048 .bf16 := m ((c.tc : Thread nD τ).loc main_arg10)

/-- The gated sum of the two mixers' products, -/
def mix : FVec Ideal S2176x2048 .bf16 :=
  mixOf (prod .f32 (argC m c) (argWc m c)) (argB m c) (prod .f32 (argO m c) (argWo m c)) (argZ m c) (argP m c) (argQ m c)

theorem conv2 : V2 m ρ c main_v0 = prod .f32 (argC m c) (argWc m c) :=
  (W2_of m ρ c main_v0 (by decide)).trans ((W1_arr m ρ c 2).trans (conv_final (V0 m ρ) c))

theorem attn2 : V2 m ρ c main_v1 = prod .f32 (argO m c) (argWo m c) := by
  refine (W2_arr m ρ c 2).trans ((attn_final (V1 m ρ) c).trans ?_)
  rw [show V1 m ρ c main_arg2 = argO m c from W1_args m ρ c main_arg2 (by decide),
    show V1 m ρ c main_arg5 = argWo m c from W1_args m ρ c main_arg5 (by decide)]

/-- which the third call leaves and the others keep. -/
theorem mix3 : V3 m ρ c main_v2 = mix m c := by
  refine (W3_arr m ρ c 7).trans ((mix_final (V2 m ρ) c).trans ?_)
  rw [conv2 m ρ c, attn2 m ρ c, show V2 m ρ c main_arg4 = argB m c from W2_args m ρ c main_arg4 (by decide),
    show V2 m ρ c main_arg6 = argZ m c from W2_args m ρ c main_arg6 (by decide),
    show V2 m ρ c main_arg7 = argP m c from W2_args m ρ c main_arg7 (by decide),
    show V2 m ρ c main_arg8 = argQ m c from W2_args m ρ c main_arg8 (by decide)]
  rfl
theorem mix4 : V4 m ρ c main_v2 = mix m c := (W4_of m ρ c main_v2 (by decide)).trans (mix3 m ρ c)

theorem out3 : W6 m ρ c (Proc.devRef .tc main_v3) = prodPlus (mix m c) (argW m c) (argH m c) := by
  refine (W6_of m ρ c main_v3 (by decide)).trans ((W5_of m ρ c main_v3 (by decide)).trans
    ((W4_arr m ρ c 3).trans ((out_final (V3 m ρ) c).trans ?_)))
  rw [mix3 m ρ c, show V3 m ρ c main_arg9 = argW m c from W3_args m ρ c main_arg9 (by decide),
    show V3 m ρ c main_arg0 = argH m c from W3_args m ρ c main_arg0 (by decide)]

theorem out4 : W6 m ρ c (Proc.devRef .tc main_v4) = prodT .bf16 (mix m c) (argD m c) := by
  refine (W6_of m ρ c main_v4 (by decide)).trans ((W5_arr m ρ c 2).trans ((weight_final (V4 m ρ) c).trans ?_))
  rw [mix4 m ρ c, show V4 m ρ c main_arg10 = argD m c from W4_args m ρ c main_arg10 (by decide)]

theorem out5 : W6 m ρ c (Proc.devRef .tc main_v5) = prodR .f32 (argD m c) (argW m c) := by
  refine (W6_arr m ρ c 2).trans ((grad_final (V5 m ρ) c).trans ?_)
  rw [show V5 m ρ c main_arg10 = argD m c from W5_args m ρ c main_arg10 (by decide),
    show V5 m ρ c main_arg9 = argW m c from W5_args m ρ c main_arg9 (by decide)]

set_option backward.isDefEq.respectTransparency.types false in
/-- Every execution ends with the results in their arrays and the arguments as launched. -/
theorem run : θ_run defs (onTc (τ := τ) (main (F := Ideal))) ⟨m, fun _ => 0, ρ⟩ (fun r => ∀ c : Dev nD,
      r.2.mem ((c.tc : Thread nD τ).loc main_v3) = prodPlus (mix m c) (argW m c) (argH m c)
      ∧ r.2.mem ((c.tc : Thread nD τ).loc main_v4) = prodT .bf16 (mix m c) (argD m c)
      ∧ r.2.mem ((c.tc : Thread nD τ).loc main_v5) = prodR .f32 (argD m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨(h c _ (mem_uc main_v3 (by decide))).trans (out3 m ρ c), (h c _ (mem_uc main_v4 (by decide))).trans (out4 m ρ c),
       (h c _ (mem_uc main_v5 (by decide))).trans (out5 m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.Kernel3Ideal.Results

end
-- ==== Proof.MixReference.lean ====
/- What the mixers' reference computes: the gated sum, the product after it, and the gradients the calls leave. -/
module

public import proofs.«01_k».proof.Proof.MixResults
public import proofs.«01_k».proof.Proof.Gen.Reference3Ideal.Run

@[expose] public section

set_option maxRecDepth 16384

noncomputable section

namespace Cert.Reference3Ideal.Stages

open Cert.Reference3Ideal Cert.Reference3Ideal.Gen Cert.Reference3Ideal.Value Idealize.ShloMosaic Cert.Ffn
open Cert.Kernel2Ideal.Calls (pair_idx)

variable (h : FVec Ideal S2176x2048 .f32) (x y : FVec Ideal S2176x2048 .bf16) (w v u : FVec Ideal S2048x2048 .bf16)
  (b p q : FVec Ideal S1x2048 .f32) (z : FVec Ideal S2176x4096 .f32) (d : FVec Ideal S2176x2048 .bf16) (s e : FVec Ideal S2176x2048 .f32)

/-! ### The stages -/

/-- The product of an array with a weight, -/
def times : FVec Ideal S2176x2048 .f32 :=
  Host.dotGeneral dot_S2176x2048_S2048x2048_S2176x2048_1_0_0_1_n_n none (extf .f32 x bitsLt_bf16_f32) (extf .f32 w bitsLt_bf16_f32)
/-- a gate of its argument and bias, -/
def gates : FVec Ideal S2176x2048 .f32 :=
  Host.divf (broadcastInDim S2176x2048 ![] bcast_S_S2176x2048 (constant S_ .f32 0x3F800000#32))
    (addf (broadcastInDim S2176x2048 ![] bcast_S_S2176x2048 (constant S_ .f32 0x3F800000#32))
      (Host.exp (Host.negf (addf s (broadcastInDim S2176x2048 ![0, 1] bcast_S1x2048_S2176x2048_0_1 p)))))
/-- and the gated sum. -/
def mix : FVec Ideal S2176x2048 .f32 :=
  addf (mulf (gates p (extractStridedSlice S2176x2048 ![0, 0] z slices_S2176x4096_S2176x2048_0_0))
      (addf (times x w) (broadcastInDim S2176x2048 ![0, 1] bcast_S1x2048_S2176x2048_0_1 b)))
    (mulf (gates q (extractStridedSlice S2176x2048 ![0, 2048] z slices_S2176x4096_S2176x2048_0_2048)) (times y v))

variable (r : Fin 2176) (j : Fin 2048)

theorem times_at : times x w (ix2 r j) = ∑ l, x (ix2 r l) * w (ix2 l j) := by
  pointwise [times]

theorem gates_at : gates p s (ix2 r j) = gate (s (ix2 r j) + p (ix2 0 j)) := by
  pointwise [gates]
  rfl

theorem mix_at : mix x y w v b p q z (ix2 r j) = mixOf (prod .f32 x w) b (prod .f32 y v) z p q (ix2 r j) := by
  pointwise [mix]
  rw [gates_at, gates_at, times_at, times_at]
  pointwise []
  rfl

/-- The product after the sum, and the residual rows added, -/
def out : FVec Ideal S2176x2048 .f32 :=
  addf h (Host.dotGeneral dot_S2176x2048_S2048x2048_S2176x2048_1_0_0_1_n_n none (mix x y w v b p q z) (extf .f32 u bitsLt_bf16_f32))
/-- its weight's gradient, -/
def ofWeight : FVec Ideal S2048x2048 .bf16 :=
  truncf .bf16 (transpose S2048x2048 [1, 0] (Host.dotGeneral dot_S2176x2048_S2176x2048_S2048x2048_0_0_1_1_n_n none (extf .f32 d bitsLt_bf16_f32)
    (mix x y w v b p q z)) transposes_S2048x2048_S2048x2048_1_0) bitsLt_bf16_f32
/-- and the sum's. -/
def ofSum : FVec Ideal S2176x2048 .f32 :=
  Host.dotGeneral dot_S2176x2048_S2048x2048_S2176x2048_1_1_0_0_n_n none (extf .f32 d bitsLt_bf16_f32) (extf .f32 u bitsLt_bf16_f32)

theorem out_eq : out h x y w v u b p q z = prodPlus (mixOf (prod .f32 x w) b (prod .f32 y v) z p q) u h := funext fun i => by
  obtain ⟨i, j, rfl⟩ := pair_idx i
  pointwise [out]
  rw [add_comm]
  exact congrArg (· + h (ix2 i j)) (Finset.sum_congr rfl fun l _ => by
    rw [mix_at]
    rfl)

theorem ofWeight_eq : ofWeight x y w v b p q z d = prodT .bf16 (mixOf (prod .f32 x w) b (prod .f32 y v) z p q) d := funext fun i => by
  obtain ⟨i, j, rfl⟩ := pair_idx i
  pointwise [ofWeight]
  exact Finset.sum_congr rfl fun l _ => by
    rw [mix_at, mul_comm]
    rfl

theorem ofSum_eq : ofSum u d = prodR .f32 d u := funext fun i => by
  obtain ⟨i, j, rfl⟩ := pair_idx i
  pointwise [ofSum]
  rfl

/-! ### The run -/

variable (μ : (ℓ : Loc nD τ sig) → Buf (Elt Ideal) ℓ) (c : Dev nD)

/-- The program's eleven arguments. -/
abbrev argH : FVec Ideal S2176x2048 .f32 := μ ((c.tc : Thread nD τ).loc main_arg0)
abbrev argC : FVec Ideal S2176x2048 .bf16 := μ ((c.tc : Thread nD τ).loc main_arg1)
abbrev argO : FVec Ideal S2176x2048 .bf16 := μ ((c.tc : Thread nD τ).loc main_arg2)
abbrev argWc : FVec Ideal S2048x2048 .bf16 := μ ((c.tc : Thread nD τ).loc main_arg3)
abbrev argB : FVec Ideal S1x2048 .f32 := μ ((c.tc : Thread nD τ).loc main_arg4)
abbrev argWo : FVec Ideal S2048x2048 .bf16 := μ ((c.tc : Thread nD τ).loc main_arg5)
abbrev argZ : FVec Ideal S2176x4096 .f32 := μ ((c.tc : Thread nD τ).loc main_arg6)
abbrev argP : FVec Ideal S1x2048 .f32 := μ ((c.tc : Thread nD τ).loc main_arg7)
abbrev argQ : FVec Ideal S1x2048 .f32 := μ ((c.tc : Thread nD τ).loc main_arg8)
abbrev argW : FVec Ideal S2048x2048 .bf16 := μ ((c.tc : Thread nD τ).loc main_arg9)
abbrev argD : FVec Ideal S2176x2048 .bf16 := μ ((c.tc : Thread nD τ).loc main_arg10)

/-- The gated sum of the arguments. -/
def sum : FVec Ideal S2176x2048 .bf16 :=
  mixOf (prod .f32 (argC μ c) (argWc μ c)) (argB μ c) (prod .f32 (argO μ c) (argWo μ c)) (argZ μ c) (argP μ c) (argQ μ c)

/-- Every execution of the reference ends with the same results, and the arguments as launched. -/
theorem run (ρ : Dev nD → PrngReg) : θ_run defs (onTc (τ := τ) (main (F := Ideal))) ⟨μ, fun _ => 0, ρ⟩ (fun r => ∀ c : Dev nD,
      r.2.mem ((c.tc : Thread nD τ).loc main_v32) = prodPlus (sum μ c) (argW μ c) (argH μ c)
      ∧ r.2.mem ((c.tc : Thread nD τ).loc main_v36) = prodT .bf16 (sum μ c) (argD μ c)
      ∧ r.2.mem ((c.tc : Thread nD τ).loc main_v35) = prodR .f32 (argD μ c) (argW μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7)
      ∧ r.2.mem ((c.tc : Thread nD τ).loc main_arg8) = μ ((c.tc : Thread nD τ).loc main_arg8)
      ∧ r.2.mem ((c.tc : Thread nD τ).loc main_arg9) = μ ((c.tc : Thread nD τ).loc main_arg9)
      ∧ r.2.mem ((c.tc : Thread nD τ).loc main_arg10) = μ ((c.tc : Thread nD τ).loc main_arg10)) :=
  (θ_run defs _ _).mono (fun _ h c =>
    ⟨(h c).1.trans (out_eq (argH μ c) (argC μ c) (argO μ c) (argWc μ c) (argWo μ c) (argW μ c) (argB μ c) (argP μ c) (argQ μ c) (argZ μ c)),
     (h c).2.1.trans (ofWeight_eq (argC μ c) (argO μ c) (argWc μ c) (argWo μ c) (argB μ c) (argP μ c) (argQ μ c) (argZ μ c) (argD μ c)),
     (h c).2.2.1.trans (ofSum_eq (argW μ c) (argD μ c)), (h c).2.2.2⟩)
    (Value.run (F := Ideal) μ ρ)

end Cert.Reference3Ideal.Stages

end
-- ==== Proof.OutGrads.lean ====
/- The gradients of the two mixers' output products: what each of the four calls stores, what it leaves in its result's array,
   and the program's run with its results read. -/
module

public import proofs.«01_k».proof.Proof.FfnArrays
public import proofs.«01_k».proof.Proof.Gen.Kernel4Ideal.Frame

@[expose] public section

set_option maxRecDepth 16384

noncomputable section

namespace Cert.Kernel4Ideal.Results

open Idealize.ShloMosaic Idealize.ShloMosaic.TcCoe Idealize.SL Idealize.SL.RA Idealize.SL.Sem Idealize.SL.BI
open Idealize.ShloMosaic.Rounds Cert.Kernel4Ideal Cert.Kernel4Ideal.Gen Cert.Ffn
open Cert.Kernel2Ideal.Calls (pair_idx)
open scoped Idealize.SL.BI
open Idealize.SL.BI.BIBase Idealize.SL.BI.Laws Idealize.SL.ProofMode

local notation "𝕄" => MT nD τ sig Unit (Elt Ideal) ℕ (UR sig nD τ) ℕ

/-! ### What the calls store: a tile of a weight's gradient, or 512 columns of an input's -/

theorem weight0_at (x : Vec Ideal S2176x1024 .bf16) (y : Vec Ideal S2176x512 .bf16) (i : Fin 1024) (j : Fin 512) :
    k0_pay1 x y (ix2 i j) = ∑ l, x (ix2 l i) * y (ix2 l j) := by
  pointwise [k0_pay1]

theorem input1_at (x : Vec Ideal S2176x2048 .bf16) (w : Vec Ideal S512x2048 .bf16) (r : Fin 2176) (j : Fin 512) :
    k1_pay1 x w (ix2 r j) = ∑ l, x (ix2 r l) * w (ix2 j l) := by
  pointwise [k1_pay1]

theorem weight2_at (x : Vec Ideal S2176x1024 .bf16) (y : Vec Ideal S2176x512 .bf16) (i : Fin 1024) (j : Fin 512) :
    k2_pay1 x y (ix2 i j) = ∑ l, x (ix2 l i) * y (ix2 l j) := by
  pointwise [k2_pay1]

theorem input3_at (x : Vec Ideal S2176x2048 .bf16) (w : Vec Ideal S512x2048 .bf16) (r : Fin 2176) (j : Fin 512) :
    k3_pay1 x w (ix2 r j) = ∑ l, x (ix2 r l) * w (ix2 j l) := by
  pointwise [k3_pay1]

/-! ### What the calls leave -/

section Arrays
variable (V : (c : Dev nD) → (b : Ref sig .tc) → Buf (Elt Ideal) ((c : Thread nD τ).loc b)) (c : Dev nD)

theorem idx0 : ∀ t : Fin cfg0.N, win0_0.index t = ![0, t.val / 4] ∧ win0_1.index t = ![0, t.val % 4]
    ∧ win0_2.index t = ![t.val / 4, t.val % 4] :=
  (by decide +kernel : ∀ t : Fin grid0.N, _)

theorem weight0_final : (dat0 V c).arrAt 2 cfg0.N = prodT .bf16 (V c main_arg0) (V c main_arg2) := by
  refine (dat0 V c).arrAt_eq_of_covers 2 _ (by decide +kernel) fun t hf y => ?_
  blk_simp
  rw [after0_2]
  unfold outsAt0
  frame_out
  obtain ⟨r, d, rfl⟩ := pair_idx y
  rw [weight0_at]
  blk_point [iblk0, prodT, idx0 t]

theorem idx1 : ∀ t : Fin cfg1.N, win1_0.index t = ![0, 0] ∧ win1_1.index t = ![t.val, 0] ∧ win1_2.index t = ![0, t.val] :=
  (by decide +kernel : ∀ t : Fin grid1.N, _)

theorem input1_final : (dat1 V c).arrAt 2 cfg1.N = prodR .bf16 (V c main_arg2) (V c main_arg1) := by
  refine (dat1 V c).arrAt_eq_of_covers 2 _ (by decide +kernel) fun t hf y => ?_
  blk_simp
  rw [after1_2]
  unfold outsAt1
  frame_out
  obtain ⟨r, d, rfl⟩ := pair_idx y
  rw [input1_at]
  blk_point [iblk1, prodR, idx1 t]

theorem idx2 : ∀ t : Fin cfg2.N, win2_0.index t = ![0, t.val / 4] ∧ win2_1.index t = ![0, t.val % 4]
    ∧ win2_2.index t = ![t.val / 4, t.val % 4] :=
  (by decide +kernel : ∀ t : Fin grid2.N, _)

theorem weight2_final : (dat2 V c).arrAt 2 cfg2.N = prodT .bf16 (V c main_arg3) (V c main_arg5) := by
  refine (dat2 V c).arrAt_eq_of_covers 2 _ (by decide +kernel) fun t hf y => ?_
  blk_simp
  rw [after2_2]
  unfold outsAt2
  frame_out
  obtain ⟨r, d, rfl⟩ := pair_idx y
  rw [weight2_at]
  blk_point [iblk2, prodT, idx2 t]

theorem idx3 : ∀ t : Fin cfg3.N, win3_0.index t = ![0, 0] ∧ win3_1.index t = ![t.val, 0] ∧ win3_2.index t = ![0, t.val] :=
  (by decide +kernel : ∀ t : Fin grid3.N, _)

theorem input3_final : (dat3 V c).arrAt 2 cfg3.N = prodR .f32 (V c main_arg5) (V c main_arg4) := by
  refine (dat3 V c).arrAt_eq_of_covers 2 _ (by decide +kernel) fun t hf y => ?_
  blk_simp
  rw [after3_2]
  unfold outsAt3
  frame_out
  obtain ⟨r, d, rfl⟩ := pair_idx y
  rw [input3_at]
  blk_point [iblk3, prodR, idx3 t]

end Arrays

/-! ### The run -/

variable (m : (ℓ : Loc nD τ sig) → Buf (Elt Ideal) ℓ) (ρ : Dev nD → PrngReg) (c : Dev nD)

/-- The six arguments as launched: of either mixer its output, its weight, and the gradient of their product. -/
abbrev argO : FVec Ideal S2176x2048 .bf16 := m ((c.tc : Thread nD τ).loc main_arg0)
abbrev argWo : FVec Ideal S2048x2048 .bf16 := m ((c.tc : Thread nD τ).loc main_arg1)
abbrev argDo : FVec Ideal S2176x2048 .bf16 := m ((c.tc : Thread nD τ).loc main_arg2)
abbrev argC : FVec Ideal S2176x2048 .bf16 := m ((c.tc : Thread nD τ).loc main_arg3)
abbrev argWc : FVec Ideal S2048x2048 .bf16 := m ((c.tc : Thread nD τ).loc main_arg4)
abbrev argDc : FVec Ideal S2176x2048 .bf16 := m ((c.tc : Thread nD τ).loc main_arg5)

theorem out0 : W4 m ρ c (Proc.devRef .tc main_v0) = prodT .bf16 (argO m c) (argDo m c) :=
  (W4_of m ρ c main_v0 (by decide)).trans ((W3_of m ρ c main_v0 (by decide)).trans ((W2_of m ρ c main_v0 (by decide)).trans
    ((W1_arr m ρ c 2).trans (weight0_final (V0 m ρ) c))))

theorem out1 : W4 m ρ c (Proc.devRef .tc main_v1) = prodR .bf16 (argDo m c) (argWo m c) := by
  refine (W4_of m ρ c main_v1 (by decide)).trans ((W3_of m ρ c main_v1 (by decide)).trans
    ((W2_arr m ρ c 2).trans ((input1_final (V1 m ρ) c).trans ?_)))
  rw [show V1 m ρ c main_arg1 = argWo m c from W1_args m ρ c main_arg1 (by decide),
    show V1 m ρ c main_arg2 = argDo m c from W1_args m ρ c main_arg2 (by decide)]

theorem out2 : W4 m ρ c (Proc.devRef .tc main_v2) = prodT .bf16 (argC m c) (argDc m c) := by
  refine (W4_of m ρ c main_v2 (by decide)).trans ((W3_arr m ρ c 2).trans ((weight2_final (V2 m ρ) c).trans ?_))
  rw [show V2 m ρ c main_arg3 = argC m c from W2_args m ρ c main_arg3 (by decide),
    show V2 m ρ c main_arg5 = argDc m c from W2_args m ρ c main_arg5 (by decide)]

theorem out3 : W4 m ρ c (Proc.devRef .tc main_v3) = prodR .f32 (argDc m c) (argWc m c) := by
  refine (W4_arr m ρ c 2).trans ((input3_final (V3 m ρ) c).trans ?_)
  rw [show V3 m ρ c main_arg4 = argWc m c from W3_args m ρ c main_arg4 (by decide),
    show V3 m ρ c main_arg5 = argDc m c from W3_args m ρ c main_arg5 (by decide)]

set_option backward.isDefEq.respectTransparency.types false in
/-- Every execution ends with the results in their arrays and the arguments as launched. -/
theorem run : θ_run defs (onTc (τ := τ) (main (F := Ideal))) ⟨m, fun _ => 0, ρ⟩ (fun r => ∀ c : Dev nD,
      r.2.mem ((c.tc : Thread nD τ).loc main_v0) = prodT .bf16 (argO m c) (argDo m c)
      ∧ r.2.mem ((c.tc : Thread nD τ).loc main_v1) = prodR .bf16 (argDo m c) (argWo m c)
      ∧ r.2.mem ((c.tc : Thread nD τ).loc main_v2) = prodT .bf16 (argC m c) (argDc m c)
      ∧ r.2.mem ((c.tc : Thread nD τ).loc main_v3) = prodR .f32 (argDc m c) (argWc m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v0 (by decide))).trans (out0 m ρ c), (h c _ (mem_uc main_v1 (by decide))).trans (out1 m ρ c),
       (h c _ (mem_uc main_v2 (by decide))).trans (out2 m ρ c), (h c _ (mem_uc main_v3 (by decide))).trans (out3 m ρ c),
       (h c _ (mem_uc main_arg0 (by decide))).trans (W4_main_arg0 m ρ c), (h c _ (mem_uc main_arg1 (by decide))).trans (W4_main_arg1 m ρ c),
       (h c _ (mem_uc main_arg2 (by decide))).trans (W4_main_arg2 m ρ c), (h c _ (mem_uc main_arg3 (by decide))).trans (W4_main_arg3 m ρ c),
       (h c _ (mem_uc main_arg4 (by decide))).trans (W4_main_arg4 m ρ c), (h c _ (mem_uc main_arg5 (by decide))).trans (W4_main_arg5 m ρ c)⟩)

end Cert.Kernel4Ideal.Results

end
-- ==== Proof.OutGradsReference.lean ====
/- What the reference of the mixers' output products computes: the four gradients the calls leave. -/
module

public import proofs.«01_k».proof.Proof.OutGrads
public import proofs.«01_k».proof.Proof.Gen.Reference4Ideal.Run

@[expose] public section

set_option maxRecDepth 16384

noncomputable section

namespace Cert.Reference4Ideal.Stages

open Cert.Reference4Ideal Cert.Reference4Ideal.Gen Cert.Reference4Ideal.Value Idealize.ShloMosaic Cert.Ffn
open Cert.Kernel2Ideal.Calls (pair_idx)

variable (x d : FVec Ideal S2176x2048 .bf16) (w : FVec Ideal S2048x2048 .bf16)

/-- The gradient of a weight, of the array it multiplies and the gradient of their product, -/
def ofWeight : FVec Ideal S2048x2048 .bf16 :=
  truncf .bf16 (transpose S2048x2048 [1, 0] (Host.dotGeneral dot_S2176x2048_S2176x2048_S2048x2048_0_0_1_1_n_n none (extf .f32 d bitsLt_bf16_f32)
    (extf .f32 x bitsLt_bf16_f32)) transposes_S2048x2048_S2048x2048_1_0) bitsLt_bf16_f32
/-- and of that array, of the weight, -/
def ofInput : FVec Ideal S2176x2048 .f32 :=
  Host.dotGeneral dot_S2176x2048_S2048x2048_S2176x2048_1_1_0_0_n_n none (extf .f32 d bitsLt_bf16_f32) (extf .f32 w bitsLt_bf16_f32)
/-- which may be rounded. -/
def ofInputRounded : FVec Ideal S2176x2048 .bf16 := truncf .bf16 (ofInput d w) bitsLt_bf16_f32

theorem ofWeight_eq : ofWeight x d = prodT .bf16 x d := funext fun i => by
  obtain ⟨i, j, rfl⟩ := pair_idx i
  pointwise [ofWeight]
  exact Finset.sum_congr rfl fun l _ => mul_comm _ _

theorem ofInput_eq : ofInput d w = prodR .f32 d w := funext fun i => by
  obtain ⟨i, j, rfl⟩ := pair_idx i
  pointwise [ofInput]
  rfl

theorem ofInputRounded_eq : ofInputRounded d w = prodR .bf16 d w := congrArg (truncf .bf16 · bitsLt_bf16_f32) (ofInput_eq d w)

variable (μ : (ℓ : Loc nD τ sig) → Buf (Elt Ideal) ℓ) (c : Dev nD)

/-- The program's six arguments. -/
abbrev argO : FVec Ideal S2176x2048 .bf16 := μ ((c.tc : Thread nD τ).loc main_arg0)
abbrev argWo : FVec Ideal S2048x2048 .bf16 := μ ((c.tc : Thread nD τ).loc main_arg1)
abbrev argDo : FVec Ideal S2176x2048 .bf16 := μ ((c.tc : Thread nD τ).loc main_arg2)
abbrev argC : FVec Ideal S2176x2048 .bf16 := μ ((c.tc : Thread nD τ).loc main_arg3)
abbrev argWc : FVec Ideal S2048x2048 .bf16 := μ ((c.tc : Thread nD τ).loc main_arg4)
abbrev argDc : FVec Ideal S2176x2048 .bf16 := μ ((c.tc : Thread nD τ).loc main_arg5)

/-- Every execution of the reference ends with the same results, and the arguments as launched. -/
theorem run (ρ : Dev nD → PrngReg) : θ_run defs (onTc (τ := τ) (main (F := Ideal))) ⟨μ, fun _ => 0, ρ⟩ (fun r => ∀ c : Dev nD,
      r.2.mem ((c.tc : Thread nD τ).loc main_v14) = prodT .bf16 (argO μ c) (argDo μ c)
      ∧ r.2.mem ((c.tc : Thread nD τ).loc main_v15) = prodR .bf16 (argDo μ c) (argWo μ c)
      ∧ r.2.mem ((c.tc : Thread nD τ).loc main_v16) = prodT .bf16 (argC μ c) (argDc μ c)
      ∧ r.2.mem ((c.tc : Thread nD τ).loc main_v13) = prodR .f32 (argDc μ c) (argWc μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)) :=
  (θ_run defs _ _).mono (fun _ h c =>
    ⟨(h c).1.trans (ofWeight_eq (argO μ c) (argDo μ c)), (h c).2.1.trans (ofInputRounded_eq (argDo μ c) (argWo μ c)),
     (h c).2.2.1.trans (ofWeight_eq (argC μ c) (argDc μ c)), (h c).2.2.2.1.trans (ofInput_eq (argDc μ c) (argWc μ c)), (h c).2.2.2.2⟩)
    (Value.run (F := Ideal) μ ρ)

end Cert.Reference4Ideal.Stages

end
-- ==== Proof.InProducts.lean ====
/- The input projection: the rows' normalisation, their products with the projection's three parts, and the parts' gradients. What
   each of the seven calls stores, and what it leaves in its result's array. -/
module

public import proofs.«01_k».proof.Proof.FfnArrays
public import proofs.«01_k».proof.Proof.Gen.Kernel5Ideal.Frame

@[expose] public section

set_option maxRecDepth 16384

noncomputable section

namespace Cert.Kernel5Ideal.Calls

open Idealize.ShloMosaic Idealize.ShloMosaic.TcCoe Idealize.SL.Sem
open Cert.Kernel5Ideal Cert.Kernel5Ideal.Gen Cert.Ffn
open Cert.Kernel2Ideal.Calls (pair_idx)

/-! ### What the calls store: 128 normalised rows, some columns of a product, or a tile of a weight's gradient -/

theorem norm_at (x : Vec Ideal S128x2048 .f32) (g : Vec Ideal S1x2048 .f32) (r : Fin 128) (d : Fin 2048) :
    k0_pay1 x g (ix2 r d) = x (ix2 r d) * rmsInv (fun k => x (ix2 r k)) * g (ix2 0 d) := by
  pointwise [k0_pay1]
  rfl

theorem product1_at (x : Vec Ideal S2176x2048 .bf16) (w : Vec Ideal S2048x512 .bf16) (r : Fin 2176) (j : Fin 512) :
    k1_pay1 x w (ix2 r j) = ∑ l, x (ix2 r l) * w (ix2 l j) := by
  pointwise [k1_pay1]

theorem product2_at (x : Vec Ideal S2176x2048 .bf16) (w : Vec Ideal S2048x384 .bf16) (r : Fin 2176) (j : Fin 384) :
    k2_pay1 x w (ix2 r j) = ∑ l, x (ix2 r l) * w (ix2 l j) := by
  pointwise [k2_pay1]

theorem product3_at (x : Vec Ideal S2176x2048 .bf16) (w : Vec Ideal S2048x512 .bf16) (r : Fin 2176) (j : Fin 512) :
    k3_pay1 x w (ix2 r j) = ∑ l, x (ix2 r l) * w (ix2 l j) := by
  pointwise [k3_pay1]

theorem weight4_at (x : Vec Ideal S2176x1024 .bf16) (y : Vec Ideal S2176x512 .bf16) (i : Fin 1024) (j : Fin 512) :
    k4_pay1 x y (ix2 i j) = ∑ l, x (ix2 l i) * y (ix2 l j) := by
  pointwise [k4_pay1]

theorem weight5_at (x : Vec Ideal S2176x1024 .bf16) (y : Vec Ideal S2176x384 .bf16) (i : Fin 1024) (j : Fin 384) :
    k5_pay1 x y (ix2 i j) = ∑ l, x (ix2 l i) * y (ix2 l j) := by
  pointwise [k5_pay1]

theorem weight6_at (x : Vec Ideal S2176x1024 .bf16) (y : Vec Ideal S2176x512 .bf16) (i : Fin 1024) (j : Fin 512) :
    k6_pay1 x y (ix2 i j) = ∑ l, x (ix2 l i) * y (ix2 l j) := by
  pointwise [k6_pay1]

/-! ### What the calls leave -/

variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, _)

theorem norm_final : (dat0 V c).arrAt 2 cfg0.N = normed (V c main_arg0) (V c main_arg1) := by
  refine (dat0 V c).arrAt_eq_of_covers 2 _ (by decide +kernel) fun t hf y => ?_
  blk_simp
  rw [after0_2]
  frame_out
  obtain ⟨r, d, rfl⟩ := pair_idx y
  rw [norm_at]
  blk_point [iblk0, normed, idx0 t]

theorem idx1 : ∀ t : Fin cfg1.N, win1_0.index t = ![0, 0] ∧ win1_1.index t = ![0, t.val] ∧ win1_2.index t = ![0, t.val] :=
  (by decide +kernel : ∀ t : Fin grid1.N, _)

theorem product1_final : (dat1 V c).arrAt 2 cfg1.N = prod .f32 (V c main_v0) (V c main_arg2) := by
  refine (dat1 V c).arrAt_eq_of_covers 2 _ (by decide +kernel) fun t hf y => ?_
  blk_simp
  rw [after1_2]
  unfold outsAt1
  frame_out
  obtain ⟨r, d, rfl⟩ := pair_idx y
  rw [product1_at]
  blk_point [iblk1, prod, idx1 t]

theorem idx2 : ∀ t : Fin cfg2.N, win2_0.index t = ![0, 0] ∧ win2_1.index t = ![0, t.val] ∧ win2_2.index t = ![0, t.val] :=
  (by decide +kernel : ∀ t : Fin grid2.N, _)

theorem product2_final : (dat2 V c).arrAt 2 cfg2.N = prod .f32 (V c main_v0) (V c main_arg3) := by
  refine (dat2 V c).arrAt_eq_of_covers 2 _ (by decide +kernel) fun t hf y => ?_
  blk_simp
  rw [after2_2]
  unfold outsAt2
  frame_out
  obtain ⟨r, d, rfl⟩ := pair_idx y
  rw [product2_at]
  blk_point [iblk2, prod, idx2 t]

theorem idx3 : ∀ t : Fin cfg3.N, win3_0.index t = ![0, 0] ∧ win3_1.index t = ![0, t.val] ∧ win3_2.index t = ![0, t.val] :=
  (by decide +kernel : ∀ t : Fin grid3.N, _)

theorem product3_final : (dat3 V c).arrAt 2 cfg3.N = prod .f32 (V c main_v0) (V c main_arg4) := by
  refine (dat3 V c).arrAt_eq_of_covers 2 _ (by decide +kernel) fun t hf y => ?_
  blk_simp
  rw [after3_2]
  unfold outsAt3
  frame_out
  obtain ⟨r, d, rfl⟩ := pair_idx y
  rw [product3_at]
  blk_point [iblk3, prod, idx3 t]

theorem idx4 : ∀ t : Fin cfg4.N, win4_0.index t = ![0, t.val / 8] ∧ win4_1.index t = ![0, t.val % 8]
    ∧ win4_2.index t = ![t.val / 8, t.val % 8] :=
  (by decide +kernel : ∀ t : Fin grid4.N, _)

theorem weight4_final : (dat4 V c).arrAt 2 cfg4.N = prodT .bf16 (V c main_v0) (V c main_arg5) := by
  refine (dat4 V c).arrAt_eq_of_covers 2 _ (by decide +kernel) fun t hf y => ?_
  blk_simp
  rw [after4_2]
  unfold outsAt4
  frame_out
  obtain ⟨r, d, rfl⟩ := pair_idx y
  rw [weight4_at]
  blk_point [iblk4, prodT, idx4 t]

theorem idx5 : ∀ t : Fin cfg5.N, win5_0.index t = ![0, t.val / 3] ∧ win5_1.index t = ![0, t.val % 3]
    ∧ win5_2.index t = ![t.val / 3, t.val % 3] :=
  (by decide +kernel : ∀ t : Fin grid5.N, _)

theorem weight5_final : (dat5 V c).arrAt 2 cfg5.N = prodT .bf16 (V c main_v0) (V c main_arg6) := by
  refine (dat5 V c).arrAt_eq_of_covers 2 _ (by decide +kernel) fun t hf y => ?_
  blk_simp
  rw [after5_2]
  unfold outsAt5
  frame_out
  obtain ⟨r, d, rfl⟩ := pair_idx y
  rw [weight5_at]
  blk_point [iblk5, prodT, idx5 t]

theorem idx6 : ∀ t : Fin cfg6.N, win6_0.index t = ![0, t.val / 8] ∧ win6_1.index t = ![0, t.val % 8]
    ∧ win6_2.index t = ![t.val / 8, t.val % 8] :=
  (by decide +kernel : ∀ t : Fin grid6.N, _)

theorem weight6_final : (dat6 V c).arrAt 2 cfg6.N = prodT .bf16 (V c main_v0) (V c main_arg7) := by
  refine (dat6 V c).arrAt_eq_of_covers 2 _ (by decide +kernel) fun t hf y => ?_
  blk_simp
  rw [after6_2]
  unfold outsAt6
  frame_out
  obtain ⟨r, d, rfl⟩ := pair_idx y
  rw [weight6_at]
  blk_point [iblk6, prodT, idx6 t]

end Cert.Kernel5Ideal.Calls

end
-- ==== Proof.InResults.lean ====
/- The input projection's run: each call's result as a term of the arguments, and what the results' arrays end holding. -/
module

public import proofs.«01_k».proof.Proof.InProducts

@[expose] public section

set_option maxRecDepth 16384

noncomputable section

namespace Cert.Kernel5Ideal.Results

open Idealize.ShloMosaic Idealize.ShloMosaic.TcCoe Idealize.SL Idealize.SL.RA Idealize.SL.Sem Idealize.SL.BI
open Idealize.ShloMosaic.Rounds Cert.Kernel5Ideal Cert.Kernel5Ideal.Gen Cert.Kernel5Ideal.Calls Cert.Ffn
open scoped Idealize.SL.BI
open Idealize.SL.BI.BIBase Idealize.SL.BI.Laws Idealize.SL.ProofMode

local notation "𝕄" => MT nD τ sig Unit (Elt Ideal) ℕ (UR sig nD τ) ℕ

variable (m : (ℓ : Loc nD τ sig) → Buf (Elt Ideal) ℓ) (ρ : Dev nD → PrngReg) (c : Dev nD)

/-- The arguments as launched: the rows and their scale, the projection's three parts and their products' gradients. The ninth, which
    orders the calls, is read by none. -/
abbrev argX : FVec Ideal S2176x2048 .f32 := m ((c.tc : Thread nD τ).loc main_arg0)
abbrev argG : FVec Ideal S1x2048 .f32 := m ((c.tc : Thread nD τ).loc main_arg1)
abbrev argW : FVec Ideal S2048x4096 .bf16 := m ((c.tc : Thread nD τ).loc main_arg2)
abbrev argL : FVec Ideal S2048x1152 .bf16 := m ((c.tc : Thread nD τ).loc main_arg3)
abbrev argZ : FVec Ideal S2048x4096 .bf16 := m ((c.tc : Thread nD τ).loc main_arg4)
abbrev argDw : FVec Ideal S2176x4096 .bf16 := m ((c.tc : Thread nD τ).loc main_arg5)
abbrev argDl : FVec Ideal S2176x1152 .bf16 := m ((c.tc : Thread nD τ).loc main_arg6)
abbrev argDz : FVec Ideal S2176x4096 .bf16 := m ((c.tc : Thread nD τ).loc main_arg7)

/-- The normalised rows, -/
def rows : FVec Ideal S2176x2048 .bf16 := normed (argX m c) (argG m c)

/-- which the first call leaves and the others keep. -/
theorem rows1 : V1 m ρ c main_v0 = rows m c := (W1_arr m ρ c 2).trans (norm_final (V0 m ρ) c)
theorem rows2 : V2 m ρ c main_v0 = rows m c := (W2_of m ρ c main_v0 (by decide)).trans (rows1 m ρ c)
theorem rows3 : V3 m ρ c main_v0 = rows m c := (W3_of m ρ c main_v0 (by decide)).trans (rows2 m ρ c)
theorem rows4 : V4 m ρ c main_v0 = rows m c := (W4_of m ρ c main_v0 (by decide)).trans (rows3 m ρ c)
theorem rows5 : V5 m ρ c main_v0 = rows m c := (W5_of m ρ c main_v0 (by decide)).trans (rows4 m ρ c)
theorem rows6 : V6 m ρ c main_v0 = rows m c := (W6_of m ρ c main_v0 (by decide)).trans (rows5 m ρ c)

theorem out1 : W7 m ρ c (Proc.devRef .tc main_v1) = prod .f32 (rows m c) (argW m c) := by
  refine (W7_of m ρ c main_v1 (by decide)).trans ((W6_of m ρ c main_v1 (by decide)).trans ((W5_of m ρ c main_v1 (by decide)).trans
    ((W4_of m ρ c main_v1 (by decide)).trans ((W3_of m ρ c main_v1 (by decide)).trans
      ((W2_arr m ρ c 2).trans ((product1_final (V1 m ρ) c).trans ?_))))))
  rw [rows1 m ρ c, show V1 m ρ c main_arg2 = argW m c from W1_args m ρ c main_arg2 (by decide)]

theorem out2 : W7 m ρ c (Proc.devRef .tc main_v2) = prod .f32 (rows m c) (argL m c) := by
  refine (W7_of m ρ c main_v2 (by decide)).trans ((W6_of m ρ c main_v2 (by decide)).trans ((W5_of m ρ c main_v2 (by decide)).trans
    ((W4_of m ρ c main_v2 (by decide)).trans ((W3_arr m ρ c 2).trans ((product2_final (V2 m ρ) c).trans ?_)))))
  rw [rows2 m ρ c, show V2 m ρ c main_arg3 = argL m c from W2_args m ρ c main_arg3 (by decide)]

theorem out3 : W7 m ρ c (Proc.devRef .tc main_v3) = prod .f32 (rows m c) (argZ m c) := by
  refine (W7_of m ρ c main_v3 (by decide)).trans ((W6_of m ρ c main_v3 (by decide)).trans ((W5_of m ρ c main_v3 (by decide)).trans
    ((W4_arr m ρ c 2).trans ((product3_final (V3 m ρ) c).trans ?_))))
  rw [rows3 m ρ c, show V3 m ρ c main_arg4 = argZ m c from W3_args m ρ c main_arg4 (by decide)]

theorem out4 : W7 m ρ c (Proc.devRef .tc main_v4) = prodT .bf16 (rows m c) (argDw m c) := by
  refine (W7_of m ρ c main_v4 (by decide)).trans ((W6_of m ρ c main_v4 (by decide)).trans
    ((W5_arr m ρ c 2).trans ((weight4_final (V4 m ρ) c).trans ?_)))
  rw [rows4 m ρ c, show V4 m ρ c main_arg5 = argDw m c from W4_args m ρ c main_arg5 (by decide)]

theorem out5 : W7 m ρ c (Proc.devRef .tc main_v5) = prodT .bf16 (rows m c) (argDl m c) := by
  refine (W7_of m ρ c main_v5 (by decide)).trans ((W6_arr m ρ c 2).trans ((weight5_final (V5 m ρ) c).trans ?_))
  rw [rows5 m ρ c, show V5 m ρ c main_arg6 = argDl m c from W5_args m ρ c main_arg6 (by decide)]

theorem out6 : W7 m ρ c (Proc.devRef .tc main_v6) = prodT .bf16 (rows m c) (argDz m c) := by
  refine (W7_arr m ρ c 2).trans ((weight6_final (V6 m ρ) c).trans ?_)
  rw [rows6 m ρ c, show V6 m ρ c main_arg7 = argDz m c from W6_args m ρ c main_arg7 (by decide)]

set_option backward.isDefEq.respectTransparency.types false in
/-- Every execution ends with the results in their arrays and the arguments as launched. -/
theorem run : θ_run defs (onTc (τ := τ) (main (F := Ideal))) ⟨m, fun _ => 0, ρ⟩ (fun r => ∀ c : Dev nD,
      r.2.mem ((c.tc : Thread nD τ).loc main_v1) = prod .f32 (rows m c) (argW m c)
      ∧ r.2.mem ((c.tc : Thread nD τ).loc main_v2) = prod .f32 (rows m c) (argL m c)
      ∧ r.2.mem ((c.tc : Thread nD τ).loc main_v3) = prod .f32 (rows m c) (argZ m c)
      ∧ r.2.mem ((c.tc : Thread nD τ).loc main_v4) = prodT .bf16 (rows m c) (argDw m c)
      ∧ r.2.mem ((c.tc : Thread nD τ).loc main_v5) = prodT .bf16 (rows m c) (argDl m c)
      ∧ r.2.mem ((c.tc : Thread nD τ).loc main_v6) = prodT .bf16 (rows m c) (argDz m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨(h c _ (mem_uc main_v1 (by decide))).trans (out1 m ρ c), (h c _ (mem_uc main_v2 (by decide))).trans (out2 m ρ c),
       (h c _ (mem_uc main_v3 (by decide))).trans (out3 m ρ c), (h c _ (mem_uc main_v4 (by decide))).trans (out4 m ρ c),
       (h c _ (mem_uc main_v5 (by decide))).trans (out5 m ρ c), (h c _ (mem_uc main_v6 (by decide))).trans (out6 m ρ c),
       (h c _ (mem_uc main_arg0 (by decide))).trans (W7_main_arg0 m ρ c), (h c _ (mem_uc main_arg1 (by decide))).trans (W7_main_arg1 m ρ c),
       (h c _ (mem_uc main_arg2 (by decide))).trans (W7_main_arg2 m ρ c), (h c _ (mem_uc main_arg3 (by decide))).trans (W7_main_arg3 m ρ c),
       (h c _ (mem_uc main_arg4 (by decide))).trans (W7_main_arg4 m ρ c), (h c _ (mem_uc main_arg5 (by decide))).trans (W7_main_arg5 m ρ c),
       (h c _ (mem_uc main_arg6 (by decide))).trans (W7_main_arg6 m ρ c), (h c _ (mem_uc main_arg7 (by decide))).trans (W7_main_arg7 m ρ c),
       (h c _ (mem_uc main_arg8 (by decide))).trans (W7_main_arg8 m ρ c)⟩)

end Cert.Kernel5Ideal.Results

end
-- ==== Proof.InReference.lean ====
/- What the input projection's reference computes: the three products and the three gradients the calls leave. -/
module

public import proofs.«01_k».proof.Proof.InResults
public import proofs.«01_k».proof.Proof.Gen.Reference5Ideal.Run

@[expose] public section

set_option maxRecDepth 16384

noncomputable section

namespace Cert.Reference5Ideal.Stages

open Cert.Reference5Ideal Cert.Reference5Ideal.Gen Cert.Reference5Ideal.Value Idealize.ShloMosaic Cert.Ffn
open Cert.Kernel2Ideal.Calls (pair_idx)

variable (x : FVec Ideal S2176x2048 .f32) (g : FVec Ideal S1x2048 .f32) (w : FVec Ideal S2048x4096 .bf16) (v : FVec Ideal S2048x1152 .bf16)
  (d : FVec Ideal S2176x4096 .bf16) (e : FVec Ideal S2176x1152 .bf16)

/-! ### The stages -/

/-- The normalised rows. -/
def norm : FVec Ideal S2176x2048 .f32 :=
  mulf (mulf x (broadcastInDim S2176x2048 ![0, 1] bcast_S2176x1_S2176x2048_0_1 (Host.rsqrt (addf (Host.divf
      (broadcastInDim S2176x1 ![0] bcast_S2176_S2176x1_0 (Host.reduceAdd (mulf x x) (constant S_ .f32 0x00000000#32) reducesTo_S2176x2048_S2176_d1 h_S_))
      (broadcastInDim S2176x1 ![] bcast_S_S2176x1 (constant S_ .f32 0x45000000#32)))
    (broadcastInDim S2176x1 ![] bcast_S_S2176x1 (constant S_ .f32 0x358637BD#32))))))
    (broadcastInDim S2176x2048 ![0, 1] bcast_S1x2048_S2176x2048_0_1 g)

theorem norm_at (r : Fin 2176) (k : Fin 2048) : norm x g (ix2 r k) = normed x g (ix2 r k) := by
  pointwise [norm]
  rfl

/-- Their product with a wide part of the projection and with the narrow one, -/
def wide : FVec Ideal S2176x4096 .f32 :=
  Host.dotGeneral dot_S2176x2048_S2048x4096_S2176x4096_1_0_0_1_n_n none (norm x g) (extf .f32 w bitsLt_bf16_f32)
def narrow : FVec Ideal S2176x1152 .f32 :=
  Host.dotGeneral dot_S2176x2048_S2048x1152_S2176x1152_1_0_0_1_n_n none (norm x g) (extf .f32 v bitsLt_bf16_f32)
/-- and the parts' gradients. -/
def ofWide : FVec Ideal S2048x4096 .bf16 :=
  truncf .bf16 (transpose S2048x4096 [1, 0] (Host.dotGeneral dot_S2176x4096_S2176x2048_S4096x2048_0_0_1_1_n_n none (extf .f32 d bitsLt_bf16_f32)
    (norm x g)) transposes_S4096x2048_S2048x4096_1_0) bitsLt_bf16_f32
def ofNarrow : FVec Ideal S2048x1152 .bf16 :=
  truncf .bf16 (transpose S2048x1152 [1, 0] (Host.dotGeneral dot_S2176x1152_S2176x2048_S1152x2048_0_0_1_1_n_n none (extf .f32 e bitsLt_bf16_f32)
    (norm x g)) transposes_S1152x2048_S2048x1152_1_0) bitsLt_bf16_f32

theorem wide_eq : wide x g w = prod .f32 (normed x g) w := funext fun i => by
  obtain ⟨i, j, rfl⟩ := pair_idx i
  pointwise [wide]
  exact Finset.sum_congr rfl fun l _ => by
    rw [norm_at]
    rfl

theorem narrow_eq : narrow x g v = prod .f32 (normed x g) v := funext fun i => by
  obtain ⟨i, j, rfl⟩ := pair_idx i
  pointwise [narrow]
  exact Finset.sum_congr rfl fun l _ => by
    rw [norm_at]
    rfl

theorem ofWide_eq : ofWide x g d = prodT .bf16 (normed x g) d := funext fun i => by
  obtain ⟨i, j, rfl⟩ := pair_idx i
  pointwise [ofWide]
  exact Finset.sum_congr rfl fun l _ => by
    rw [norm_at, mul_comm]
    rfl

theorem ofNarrow_eq : ofNarrow x g e = prodT .bf16 (normed x g) e := funext fun i => by
  obtain ⟨i, j, rfl⟩ := pair_idx i
  pointwise [ofNarrow]
  exact Finset.sum_congr rfl fun l _ => by
    rw [norm_at, mul_comm]
    rfl

/-! ### The run -/

variable (μ : (ℓ : Loc nD τ sig) → Buf (Elt Ideal) ℓ) (c : Dev nD)

/-- The program's arguments that are read. -/
abbrev argX : FVec Ideal S2176x2048 .f32 := μ ((c.tc : Thread nD τ).loc main_arg0)
abbrev argG : FVec Ideal S1x2048 .f32 := μ ((c.tc : Thread nD τ).loc main_arg1)
abbrev argW : FVec Ideal S2048x4096 .bf16 := μ ((c.tc : Thread nD τ).loc main_arg2)
abbrev argL : FVec Ideal S2048x1152 .bf16 := μ ((c.tc : Thread nD τ).loc main_arg3)
abbrev argZ : FVec Ideal S2048x4096 .bf16 := μ ((c.tc : Thread nD τ).loc main_arg4)
abbrev argDw : FVec Ideal S2176x4096 .bf16 := μ ((c.tc : Thread nD τ).loc main_arg5)
abbrev argDl : FVec Ideal S2176x1152 .bf16 := μ ((c.tc : Thread nD τ).loc main_arg6)
abbrev argDz : FVec Ideal S2176x4096 .bf16 := μ ((c.tc : Thread nD τ).loc main_arg7)

/-- The normalised rows of the arguments. -/
def rows : FVec Ideal S2176x2048 .bf16 := normed (argX μ c) (argG μ c)

/-- Every execution of the reference ends with the same results, and the arguments as launched. -/
theorem run (ρ : Dev nD → PrngReg) : θ_run defs (onTc (τ := τ) (main (F := Ideal))) ⟨μ, fun _ => 0, ρ⟩ (fun r => ∀ c : Dev nD,
      r.2.mem ((c.tc : Thread nD τ).loc main_v18) = prod .f32 (rows μ c) (argW μ c)
      ∧ r.2.mem ((c.tc : Thread nD τ).loc main_v19) = prod .f32 (rows μ c) (argL μ c)
      ∧ r.2.mem ((c.tc : Thread nD τ).loc main_v20) = prod .f32 (rows μ c) (argZ μ c)
      ∧ r.2.mem ((c.tc : Thread nD τ).loc main_v27) = prodT .bf16 (rows μ c) (argDw μ c)
      ∧ r.2.mem ((c.tc : Thread nD τ).loc main_v28) = prodT .bf16 (rows μ c) (argDl μ c)
      ∧ r.2.mem ((c.tc : Thread nD τ).loc main_v29) = prodT .bf16 (rows μ c) (argDz μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)
      ∧ r.2.mem ((c.tc : Thread nD τ).loc main_arg7) = μ ((c.tc : Thread nD τ).loc main_arg7)
      ∧ r.2.mem ((c.tc : Thread nD τ).loc main_arg8) = μ ((c.tc : Thread nD τ).loc main_arg8)) :=
  (θ_run defs _ _).mono (fun _ h c =>
    ⟨(h c).1.trans (wide_eq (argX μ c) (argG μ c) (argW μ c)), (h c).2.1.trans (narrow_eq (argX μ c) (argG μ c) (argL μ c)),
     (h c).2.2.1.trans (wide_eq (argX μ c) (argG μ c) (argZ μ c)), (h c).2.2.2.1.trans (ofWide_eq (argX μ c) (argG μ c) (argDw μ c)),
     (h c).2.2.2.2.1.trans (ofNarrow_eq (argX μ c) (argG μ c) (argDl μ c)),
     (h c).2.2.2.2.2.1.trans (ofWide_eq (argX μ c) (argG μ c) (argDz μ c)), (h c).2.2.2.2.2.2⟩)
    (Value.run (F := Ideal) μ ρ)

end Cert.Reference5Ideal.Stages

end
-- ==== Proof.LoraProducts.lean ====
/- The attention's queries, keys and values of their low-rank parts, and the weights' gradients: what each of the four calls
   stores, what it leaves in its result's array, and the program's run with its results read. -/
module

public import proofs.«01_k».proof.Proof.FfnArrays
public import proofs.«01_k».proof.Proof.Gen.Kernel6Ideal.Frame

@[expose] public section

set_option maxRecDepth 16384

noncomputable section

namespace Cert.Kernel6Ideal.Results

open Idealize.ShloMosaic Idealize.ShloMosaic.TcCoe Idealize.SL Idealize.SL.RA Idealize.SL.Sem Idealize.SL.BI
open Idealize.ShloMosaic.Rounds Cert.Kernel6Ideal Cert.Kernel6Ideal.Gen Cert.Ffn
open Cert.Kernel2Ideal.Calls (pair_idx)
open scoped Idealize.SL.BI
open Idealize.SL.BI.BIBase Idealize.SL.BI.Laws Idealize.SL.ProofMode

local notation "𝕄" => MT nD τ sig Unit (Elt Ideal) ℕ (UR sig nD τ) ℕ

/-! ### What the calls store: 512 columns of a product, or of a weight's gradient -/

theorem product0_at (x : Vec Ideal S2176x512 .bf16) (w : Vec Ideal S512x512 .bf16) (r : Fin 2176) (j : Fin 512) :
    k0_pay1 x w (ix2 r j) = ∑ l, x (ix2 r l) * w (ix2 l j) := by
  pointwise [k0_pay1]

theorem product1_at (x : Vec Ideal S2176x512 .bf16) (w : Vec Ideal S512x512 .bf16) (r : Fin 2176) (j : Fin 512) :
    k1_pay1 x w (ix2 r j) = ∑ l, x (ix2 r l) * w (ix2 l j) := by
  pointwise [k1_pay1]

theorem weight2_at (x : Vec Ideal S2176x512 .bf16) (y : Vec Ideal S2176x512 .bf16) (i j : Fin 512) :
    k2_pay1 x y (ix2 i j) = ∑ l, x (ix2 l i) * y (ix2 l j) := by
  pointwise [k2_pay1]

theorem weight3_at (x : Vec Ideal S2176x512 .bf16) (y : Vec Ideal S2176x512 .bf16) (i j : Fin 512) :
    k3_pay1 x y (ix2 i j) = ∑ l, x (ix2 l i) * y (ix2 l j) := by
  pointwise [k3_pay1]

/-! ### What the calls leave -/

section Arrays
variable (V : (c : Dev nD) → (b : Ref sig .tc) → Buf (Elt Ideal) ((c : Thread nD τ).loc b)) (c : Dev nD)

theorem idx0 : ∀ t : Fin cfg0.N, win0_0.index t = ![0, 0] ∧ win0_1.index t = ![0, t.val] ∧ win0_2.index t = ![0, t.val] :=
  (by decide +kernel : ∀ t : Fin grid0.N, _)

theorem product0_final : (dat0 V c).arrAt 2 cfg0.N = prod .f32 (V c main_arg0) (V c main_arg1) := by
  refine (dat0 V c).arrAt_eq_of_covers 2 _ (by decide +kernel) fun t hf y => ?_
  blk_simp
  rw [after0_2]
  unfold outsAt0
  frame_out
  obtain ⟨r, d, rfl⟩ := pair_idx y
  rw [product0_at]
  blk_point [iblk0, prod, idx0 t]

theorem idx1 : ∀ t : Fin cfg1.N, win1_0.index t = ![0, 0] ∧ win1_1.index t = ![0, t.val] ∧ win1_2.index t = ![0, t.val] :=
  (by decide +kernel : ∀ t : Fin grid1.N, _)

theorem product1_final : (dat1 V c).arrAt 2 cfg1.N = prod .f32 (V c main_arg3) (V c main_arg4) := by
  refine (dat1 V c).arrAt_eq_of_covers 2 _ (by decide +kernel) fun t hf y => ?_
  blk_simp
  rw [after1_2]
  unfold outsAt1
  frame_out
  obtain ⟨r, d, rfl⟩ := pair_idx y
  rw [product1_at]
  blk_point [iblk1, prod, idx1 t]

theorem idx2 : ∀ t : Fin cfg2.N, win2_0.index t = ![0, 0] ∧ win2_1.index t = ![0, t.val] ∧ win2_2.index t = ![0, t.val] :=
  (by decide +kernel : ∀ t : Fin grid2.N, _)

theorem weight2_final : (dat2 V c).arrAt 2 cfg2.N = prodT .bf16 (V c main_arg0) (V c main_arg2) := by
  refine (dat2 V c).arrAt_eq_of_covers 2 _ (by decide +kernel) fun t hf y => ?_
  blk_simp
  rw [after2_2]
  unfold outsAt2
  frame_out
  obtain ⟨r, d, rfl⟩ := pair_idx y
  rw [weight2_at]
  blk_point [iblk2, prodT, idx2 t]

theorem idx3 : ∀ t : Fin cfg3.N, win3_0.index t = ![0, 0] ∧ win3_1.index t = ![0, t.val] ∧ win3_2.index t = ![0, t.val] :=
  (by decide +kernel : ∀ t : Fin grid3.N, _)

theorem weight3_final : (dat3 V c).arrAt 2 cfg3.N = prodT .bf16 (V c main_arg3) (V c main_arg5) := by
  refine (dat3 V c).arrAt_eq_of_covers 2 _ (by decide +kernel) fun t hf y => ?_
  blk_simp
  rw [after3_2]
  unfold outsAt3
  frame_out
  obtain ⟨r, d, rfl⟩ := pair_idx y
  rw [weight3_at]
  blk_point [iblk3, prodT, idx3 t]

end Arrays

/-! ### The run -/

variable (m : (ℓ : Loc nD τ sig) → Buf (Elt Ideal) ℓ) (ρ : Dev nD → PrngReg) (c : Dev nD)

/-- The six arguments as launched: the queries' low-rank part, its weight and their product's gradient, and the keys' and values'. -/
abbrev argQ : FVec Ideal S2176x512 .bf16 := m ((c.tc : Thread nD τ).loc main_arg0)
abbrev argWq : FVec Ideal S512x3072 .bf16 := m ((c.tc : Thread nD τ).loc main_arg1)
abbrev argDq : FVec Ideal S2176x3072 .bf16 := m ((c.tc : Thread nD τ).loc main_arg2)
abbrev argK : FVec Ideal S2176x512 .bf16 := m ((c.tc : Thread nD τ).loc main_arg3)
abbrev argWk : FVec Ideal S512x4096 .bf16 := m ((c.tc : Thread nD τ).loc main_arg4)
abbrev argDk : FVec Ideal S2176x4096 .bf16 := m ((c.tc : Thread nD τ).loc main_arg5)

theorem out0 : W4 m ρ c (Proc.devRef .tc main_v0) = prod .f32 (argQ m c) (argWq m c) :=
  (W4_of m ρ c main_v0 (by decide)).trans ((W3_of m ρ c main_v0 (by decide)).trans ((W2_of m ρ c main_v0 (by decide)).trans
    ((W1_arr m ρ c 2).trans (product0_final (V0 m ρ) c))))

theorem out1 : W4 m ρ c (Proc.devRef .tc main_v1) = prod .f32 (argK m c) (argWk m c) := by
  refine (W4_of m ρ c main_v1 (by decide)).trans ((W3_of m ρ c main_v1 (by decide)).trans
    ((W2_arr m ρ c 2).trans ((product1_final (V1 m ρ) c).trans ?_)))
  rw [show V1 m ρ c main_arg3 = argK m c from W1_args m ρ c main_arg3 (by decide),
    show V1 m ρ c main_arg4 = argWk m c from W1_args m ρ c main_arg4 (by decide)]

theorem out2 : W4 m ρ c (Proc.devRef .tc main_v2) = prodT .bf16 (argQ m c) (argDq m c) := by
  refine (W4_of m ρ c main_v2 (by decide)).trans ((W3_arr m ρ c 2).trans ((weight2_final (V2 m ρ) c).trans ?_))
  rw [show V2 m ρ c main_arg0 = argQ m c from W2_args m ρ c main_arg0 (by decide),
    show V2 m ρ c main_arg2 = argDq m c from W2_args m ρ c main_arg2 (by decide)]

theorem out3 : W4 m ρ c (Proc.devRef .tc main_v3) = prodT .bf16 (argK m c) (argDk m c) := by
  refine (W4_arr m ρ c 2).trans ((weight3_final (V3 m ρ) c).trans ?_)
  rw [show V3 m ρ c main_arg3 = argK m c from W3_args m ρ c main_arg3 (by decide),
    show V3 m ρ c main_arg5 = argDk m c from W3_args m ρ c main_arg5 (by decide)]

set_option backward.isDefEq.respectTransparency.types false in
/-- Every execution ends with the results in their arrays and the arguments as launched. -/
theorem run : θ_run defs (onTc (τ := τ) (main (F := Ideal))) ⟨m, fun _ => 0, ρ⟩ (fun r => ∀ c : Dev nD,
      r.2.mem ((c.tc : Thread nD τ).loc main_v0) = prod .f32 (argQ m c) (argWq m c)
      ∧ r.2.mem ((c.tc : Thread nD τ).loc main_v1) = prod .f32 (argK m c) (argWk m c)
      ∧ r.2.mem ((c.tc : Thread nD τ).loc main_v2) = prodT .bf16 (argQ m c) (argDq m c)
      ∧ r.2.mem ((c.tc : Thread nD τ).loc main_v3) = prodT .bf16 (argK m c) (argDk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v0 (by decide))).trans (out0 m ρ c), (h c _ (mem_uc main_v1 (by decide))).trans (out1 m ρ c),
       (h c _ (mem_uc main_v2 (by decide))).trans (out2 m ρ c), (h c _ (mem_uc main_v3 (by decide))).trans (out3 m ρ c),
       (h c _ (mem_uc main_arg0 (by decide))).trans (W4_main_arg0 m ρ c), (h c _ (mem_uc main_arg1 (by decide))).trans (W4_main_arg1 m ρ c),
       (h c _ (mem_uc main_arg2 (by decide))).trans (W4_main_arg2 m ρ c), (h c _ (mem_uc main_arg3 (by decide))).trans (W4_main_arg3 m ρ c),
       (h c _ (mem_uc main_arg4 (by decide))).trans (W4_main_arg4 m ρ c), (h c _ (mem_uc main_arg5 (by decide))).trans (W4_main_arg5 m ρ c)⟩)

end Cert.Kernel6Ideal.Results

end
-- ==== Proof.LoraProductsReference.lean ====
/- What the reference of the attention's low-rank products computes: the two products and the two gradients the calls leave. -/
module

public import proofs.«01_k».proof.Proof.LoraProducts
public import proofs.«01_k».proof.Proof.Gen.Reference6Ideal.Run

@[expose] public section

set_option maxRecDepth 16384

noncomputable section

namespace Cert.Reference6Ideal.Stages

open Cert.Reference6Ideal Cert.Reference6Ideal.Gen Cert.Reference6Ideal.Value Idealize.ShloMosaic Cert.Ffn
open Cert.Kernel2Ideal.Calls (pair_idx)

variable (x : FVec Ideal S2176x512 .bf16) (w : FVec Ideal S512x3072 .bf16) (d : FVec Ideal S2176x3072 .bf16)
  (v : FVec Ideal S512x4096 .bf16) (e : FVec Ideal S2176x4096 .bf16)

/-- The queries, and the keys and values side by side, -/
def queries : FVec Ideal S2176x3072 .f32 :=
  Host.dotGeneral dot_S2176x512_S512x3072_S2176x3072_1_0_0_1_n_n none (extf .f32 x bitsLt_bf16_f32) (extf .f32 w bitsLt_bf16_f32)
def keys : FVec Ideal S2176x4096 .f32 :=
  Host.dotGeneral dot_S2176x512_S512x4096_S2176x4096_1_0_0_1_n_n none (extf .f32 x bitsLt_bf16_f32) (extf .f32 v bitsLt_bf16_f32)
/-- and the gradients of the two weights. -/
def ofQueries : FVec Ideal S512x3072 .bf16 :=
  truncf .bf16 (transpose S512x3072 [1, 0] (Host.dotGeneral dot_S2176x3072_S2176x512_S3072x512_0_0_1_1_n_n none (extf .f32 d bitsLt_bf16_f32)
    (extf .f32 x bitsLt_bf16_f32)) transposes_S3072x512_S512x3072_1_0) bitsLt_bf16_f32
def ofKeys : FVec Ideal S512x4096 .bf16 :=
  truncf .bf16 (transpose S512x4096 [1, 0] (Host.dotGeneral dot_S2176x4096_S2176x512_S4096x512_0_0_1_1_n_n none (extf .f32 e bitsLt_bf16_f32)
    (extf .f32 x bitsLt_bf16_f32)) transposes_S4096x512_S512x4096_1_0) bitsLt_bf16_f32

theorem queries_eq : queries x w = prod .f32 x w := funext fun i => by
  obtain ⟨i, j, rfl⟩ := pair_idx i
  pointwise [queries]
  rfl

theorem keys_eq : keys x v = prod .f32 x v := funext fun i => by
  obtain ⟨i, j, rfl⟩ := pair_idx i
  pointwise [keys]
  rfl

theorem ofQueries_eq : ofQueries x d = prodT .bf16 x d := funext fun i => by
  obtain ⟨i, j, rfl⟩ := pair_idx i
  pointwise [ofQueries]
  exact Finset.sum_congr rfl fun l _ => mul_comm _ _

theorem ofKeys_eq : ofKeys x e = prodT .bf16 x e := funext fun i => by
  obtain ⟨i, j, rfl⟩ := pair_idx i
  pointwise [ofKeys]
  exact Finset.sum_congr rfl fun l _ => mul_comm _ _

variable (μ : (ℓ : Loc nD τ sig) → Buf (Elt Ideal) ℓ) (c : Dev nD)

/-- The program's six arguments. -/
abbrev argQ : FVec Ideal S2176x512 .bf16 := μ ((c.tc : Thread nD τ).loc main_arg0)
abbrev argWq : FVec Ideal S512x3072 .bf16 := μ ((c.tc : Thread nD τ).loc main_arg1)
abbrev argDq : FVec Ideal S2176x3072 .bf16 := μ ((c.tc : Thread nD τ).loc main_arg2)
abbrev argK : FVec Ideal S2176x512 .bf16 := μ ((c.tc : Thread nD τ).loc main_arg3)
abbrev argWk : FVec Ideal S512x4096 .bf16 := μ ((c.tc : Thread nD τ).loc main_arg4)
abbrev argDk : FVec Ideal S2176x4096 .bf16 := μ ((c.tc : Thread nD τ).loc main_arg5)

/-- Every execution of the reference ends with the same results, and the arguments as launched. -/
theorem run (ρ : Dev nD → PrngReg) : θ_run defs (onTc (τ := τ) (main (F := Ideal))) ⟨μ, fun _ => 0, ρ⟩ (fun r => ∀ c : Dev nD,
      r.2.mem ((c.tc : Thread nD τ).loc main_v6) = prod .f32 (argQ μ c) (argWq μ c)
      ∧ r.2.mem ((c.tc : Thread nD τ).loc main_v7) = prod .f32 (argK μ c) (argWk μ c)
      ∧ r.2.mem ((c.tc : Thread nD τ).loc main_v10) = prodT .bf16 (argQ μ c) (argDq μ c)
      ∧ r.2.mem ((c.tc : Thread nD τ).loc main_v13) = prodT .bf16 (argK μ c) (argDk μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)) :=
  (θ_run defs _ _).mono (fun _ h c =>
    ⟨(h c).1.trans (queries_eq (argQ μ c) (argWq μ c)), (h c).2.1.trans (keys_eq (argK μ c) (argWk μ c)),
     (h c).2.2.1.trans (ofQueries_eq (argQ μ c) (argDq μ c)), (h c).2.2.2.1.trans (ofKeys_eq (argK μ c) (argDk μ c)), (h c).2.2.2.2⟩)
    (Value.run (F := Ideal) μ ρ)

end Cert.Reference6Ideal.Stages

end
-- ==== Proof.NormedGrad.lean ====
/- The gradient of the channel mixer's normalised input: 512 columns gathered over eight points, each adding the product of 1408
   columns of the two arrays. What the call leaves is the whole product. -/
module

public import proofs.«01_k».proof.Proof.FfnArrays
public import proofs.«01_k».proof.Proof.Gen.Kernel7Ideal.Frame
public import Idealize.ShloMosaic.Lib.Pipeline.ReadBack

@[expose] public section

set_option maxRecDepth 16384

noncomputable section

namespace Cert.Kernel7Ideal.Results

open Idealize.ShloMosaic Idealize.ShloMosaic.TcCoe Idealize.SL.Sem
open Cert.Kernel7Ideal Cert.Kernel7Ideal.Gen Cert.Ffn
open Cert.Kernel2Ideal.Calls (pair_idx)

/-! ### A point's product, and what it does to the columns gathered so far -/

theorem part_at (x : Vec Ideal S2176x1408 .bf16) (w : Vec Ideal S512x1408 .bf16) (r : Fin 2176) (j : Fin 512) :
    k0_pay1 x w (ix2 r j) = ∑ l, x (ix2 r l) * w (ix2 j l) := by
  pointwise [k0_pay1]

variable (x : Vec Ideal S2176x1408 .bf16) (w : Vec Ideal S512x1408 .bf16) (a : Vec Ideal S2176x512 .f32) (i : S2176x512.Idx)

theorem start_eq : k0_pay2 x w i = 0 + k0_pay1 x w i := by
  obtain ⟨r, j, rfl⟩ := pair_idx i
  pointwise [k0_pay2]

theorem step_eq : k0_pay3 x w a i = a i + k0_pay1 x w i := by
  obtain ⟨r, j, rfl⟩ := pair_idx i
  pointwise [k0_pay3]

theorem last_eq : k0_pay4 x w a i = a i + k0_pay1 x w i := by
  obtain ⟨r, j, rfl⟩ := pair_idx i
  pointwise [k0_pay4]

variable (m : (ℓ : Loc nD τ sig) → Buf (Elt Ideal) ℓ) (ρ : Dev nD → PrngReg) (c : Dev nD)

/-- The columns gathered after a point: in the scratch, and at a run's last point in the result's block. -/
def gathered (n : ℕ) (h : n < cfg0.N) : S2176x512.Idx → EReal := if n % 8 = 7 then (outsAt0 m c n h).1 else (outsAt0 m c n h).2

theorem gathered_first (t : Fin cfg0.N) (h : t.val % 8 = 0) (i : S2176x512.Idx) :
    gathered m c t.val t.isLt i = 0 + k0_pay1 (iblk m c 0 t) (iblk m c 1 t) i := by
  rw [gathered, if_neg (by omega), outsAt0_A m c t h (by omega) (by omega)]
  frame_out
  exact start_eq _ _ i

theorem gathered_next (t : Fin cfg0.N) (h : ¬t.val % 8 = 0) (i : S2176x512.Idx) :
    gathered m c t.val t.isLt i = gathered m c (t.val - 1) (Nat.lt_of_le_of_lt (Nat.sub_le _ _) t.isLt) i
      + k0_pay1 (iblk m c 0 t) (iblk m c 1 t) i := by
  rw [gathered, gathered, if_neg (show ¬(t.val - 1) % 8 = 7 by omega)]
  by_cases h7 : t.val % 8 = 7
  · rw [if_pos h7, outsAt0_C m c t h (by omega) h7]
    frame_out
    rw [last_eq, read_unread_whole]
  · rw [if_neg h7, outsAt0_B m c t h (by omega) h7]
    frame_out
    rw [step_eq, read_unread_whole]

/-! ### What the call leaves -/

theorem idx0 : ∀ t : Fin cfg0.N, win0_0.index t = ![0, t.val % 8] ∧ win0_1.index t = ![t.val / 8, t.val % 8]
    ∧ win0_2.index t = ![0, t.val / 8] :=
  (by decide +kernel : ∀ t : Fin grid0.N, _)

theorem final : (dats m 0 c).arrAt 2 cfg0.N = prodR .f32 (V m c main_arg0) (V m c main_arg1) := by
  refine (dats m 0 c).arrAt_eq_of_covers 2 _ (by decide +kernel) fun t hf y => ?_
  have h7 := (flush0_2 t).mp hf
  blk_simp
  rw [after0_2, show (outsAt0 m c t.val t.isLt).1 = gathered m c t.val t.isLt from (if_pos h7).symm,
    Pipeline.eq_sum_fin_of_reset_step_apply_of_flush (gathered m c) 8 (fun _ => 0) (fun t => k0_pay1 (iblk m c 0 t) (iblk m c 1 t))
      (gathered_first m c) (gathered_next m c) t h7 y]
  obtain ⟨r, d, rfl⟩ := pair_idx y
  rw [zero_add]
  simp only [part_at]
  refine Fin.sum_mul_add_congr fun s k hl => ?_
  blk_point [iblk, V, idx0]

abbrev argD : FVec Ideal S2176x11264 .bf16 := m ((c.tc : Thread nD τ).loc main_arg0)
abbrev argW : FVec Ideal S2048x11264 .bf16 := m ((c.tc : Thread nD τ).loc main_arg1)

/-- Every execution ends with the product, and the arguments as launched. -/
theorem run : θ_run defs (onTc (τ := τ) (main (F := Ideal))) ⟨m, fun _ => 0, ρ⟩ (fun r => ∀ c : Dev nD,
      r.2.mem ((c.tc : Thread nD τ).loc main_v0) = prodR .f32 (argD m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans ((final m c).trans (by rw [V_main_arg0, V_main_arg1])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.Kernel7Ideal.Results

end
-- ==== Proof.Runs.lean ====
/- A sum gathered over the points of a run, started at a point by something more than the point's own term. -/
module

public import proofs.«01_k».proof.Proof.Ffn
public import Idealize.ShloMosaic.Lib.Pipeline.ReadBack
public import Idealize.ShloMosaic.Lib.Pipeline.ValueKit.Acc

@[expose] public section

noncomputable section

namespace Cert.Ffn

open Idealize.ShloMosaic

/-- The product of an array with another's rows, and an array added to it. -/
def prodRPlus {m k n : ℕ} (x : FVec Ideal ⟨2, ![m, k]⟩ .bf16) (y : FVec Ideal ⟨2, ![n, k]⟩ .bf16) (h : FVec Ideal ⟨2, ![m, n]⟩ .f32) :
    FVec Ideal ⟨2, ![m, n]⟩ .f32 := fun i => (∑ l, x (ix2 (i 0) l) * y (ix2 (i 1) l)) + h (ix2 (i 0) (i 1))

/-- What `f` gathers over `J` points by adding a term at each, the first point's term with `a` added to it: the terms' sum and that `a`. -/
theorem sum_plus_of_runs {N : ℕ} {ι M : Type*} [AddCommMonoid M] (f : (n : ℕ) → n < N → ι → M) (J : ℕ) [NeZero J] (a term : Fin N → ι → M)
    (h0 : ∀ t : Fin N, t.val % J = 0 → ∀ i, f t.val t.isLt i = term t i + a t i)
    (hs : ∀ t : Fin N, ¬t.val % J = 0 → ∀ i, f t.val t.isLt i = f (t.val - 1) (Nat.lt_of_le_of_lt (Nat.sub_le _ _) t.isLt) i + term t i)
    (t : Fin N) (h : t.val % J = J - 1) (i : ι) :
    f t.val t.isLt i = ∑ s : Fin J, term ⟨J * (t.val / J) + s.val, Pipeline.run_point_lt_of_flush t h s⟩ i
      + a ⟨J * (t.val / J) + (0 : Fin J).val, Pipeline.run_point_lt_of_flush t h 0⟩ i := by
  rw [Pipeline.eq_sum_fin_of_reset_step_apply_of_flush f J (fun _ => 0) (fun t i => term t i + if t.val % J = 0 then a t i else 0)
    (fun t h i => by rw [h0 t h i, zero_add, if_pos h]) (fun t h i => by rw [hs t h i, if_neg h, add_zero]) t h i, zero_add,
    Finset.sum_add_distrib]
  refine congrArg (_ + ·) ((Finset.sum_eq_single (0 : Fin J) (fun s _ hs => if_neg ?_) (fun h => absurd (Finset.mem_univ _) h)).trans (if_pos ?_))
  · intro he
    rw [Nat.mul_add_mod, Nat.mod_eq_of_lt s.isLt] at he
    exact hs (Fin.ext (by simpa using he))
  · simp

end Cert.Ffn

end
-- ==== Proof.DownSum.lean ====
/- The channel mixer's last product, added to the mixer's input: 512 columns gathered over four points, each adding the product of 1408
   columns of the one array and 1408 rows of the other, the first point's with the input's block. -/
module

public import proofs.«01_k».proof.Proof.FfnArrays
public import proofs.«01_k».proof.Proof.Runs
public import proofs.«01_k».proof.Proof.Gen.Kernel8Ideal.Frame

@[expose] public section

set_option maxRecDepth 16384

noncomputable section

/-! ### The product and the sum -/

namespace Cert.Kernel8Ideal.Results

open Idealize.ShloMosaic Idealize.ShloMosaic.TcCoe Idealize.SL.Sem
open Cert.Kernel8Ideal Cert.Kernel8Ideal.Gen Cert.Ffn
open Cert.Kernel2Ideal.Calls (pair_idx)

theorem part_at (x : Vec Ideal S2176x1408 .bf16) (w : Vec Ideal S1408x512 .bf16) (r : Fin 2176) (j : Fin 512) :
    k0_pay1 x w (ix2 r j) = ∑ l, x (ix2 r l) * w (ix2 l j) := by
  pointwise [k0_pay1]

variable (x : Vec Ideal S2176x1408 .bf16) (w : Vec Ideal S1408x512 .bf16) (a : Vec Ideal S2176x512 .f32) (i : S2176x512.Idx)

theorem start_eq : k0_pay2 x w a i = k0_pay1 x w i + a i := by
  obtain ⟨r, j, rfl⟩ := pair_idx i
  pointwise [k0_pay2]

theorem step_eq : k0_pay3 x w a i = a i + k0_pay1 x w i := by
  obtain ⟨r, j, rfl⟩ := pair_idx i
  pointwise [k0_pay3]

theorem last_eq : k0_pay4 x w a i = a i + k0_pay1 x w i := by
  obtain ⟨r, j, rfl⟩ := pair_idx i
  pointwise [k0_pay4]

variable (m : (ℓ : Loc nD τ sig) → Buf (Elt Ideal) ℓ) (ρ : Dev nD → PrngReg) (c : Dev nD)

/-- The columns gathered after a point: in the scratch, and at a run's last point in the result's block. -/
def gathered (n : ℕ) (h : n < cfg0.N) : S2176x512.Idx → EReal := if n % 4 = 3 then (outsAt0 m c n h).1 else (outsAt0 m c n h).2

theorem gathered_first (t : Fin cfg0.N) (h : t.val % 4 = 0) (i : S2176x512.Idx) :
    gathered m c t.val t.isLt i = k0_pay1 (iblk m c 0 t) (iblk m c 1 t) i + iblk m c 2 t i := by
  rw [gathered, if_neg (by omega), outsAt0_A m c t h (by omega) (by omega)]
  frame_out
  exact start_eq _ _ _ i

theorem gathered_next (t : Fin cfg0.N) (h : ¬t.val % 4 = 0) (i : S2176x512.Idx) :
    gathered m c t.val t.isLt i = gathered m c (t.val - 1) (Nat.lt_of_le_of_lt (Nat.sub_le _ _) t.isLt) i
      + k0_pay1 (iblk m c 0 t) (iblk m c 1 t) i := by
  rw [gathered, gathered, if_neg (show ¬(t.val - 1) % 4 = 3 by omega)]
  by_cases h3 : t.val % 4 = 3
  · rw [if_pos h3, outsAt0_C m c t h (by omega) h3]
    frame_out
    rw [last_eq, read_unread_whole]
  · rw [if_neg h3, outsAt0_B m c t h (by omega) h3]
    frame_out
    rw [step_eq, read_unread_whole]

theorem idx0 : ∀ t : Fin cfg0.N, win0_0.index t = ![0, t.val % 4] ∧ win0_1.index t = ![t.val % 4, t.val / 4]
    ∧ win0_2.index t = ![0, t.val / 4] ∧ win0_3.index t = ![0, t.val / 4] :=
  (by decide +kernel : ∀ t : Fin grid0.N, _)

theorem final : (dats m 0 c).arrAt 3 cfg0.N = prodPlus (V m c main_arg0) (V m c main_arg1) (V m c main_arg2) := by
  refine (dats m 0 c).arrAt_eq_of_covers 3 _ (by decide +kernel) fun t hf y => ?_
  have hl := (flush0_3 t).mp hf
  blk_simp
  rw [after0_3, show (outsAt0 m c t.val t.isLt).1 = gathered m c t.val t.isLt from (if_pos hl).symm,
    sum_plus_of_runs (gathered m c) 4 (fun t => iblk m c 2 t) (fun t => k0_pay1 (iblk m c 0 t) (iblk m c 1 t))
      (gathered_first m c) (gathered_next m c) t hl y]
  obtain ⟨r, d, rfl⟩ := pair_idx y
  simp only [part_at]
  refine congrArg₂ (· + ·) (Fin.sum_mul_add_congr fun s k hl => ?_) ?_
  · blk_point [iblk, V, idx0]
  · blk_point [iblk, V, idx0]

abbrev argD : FVec Ideal S2176x5632 .bf16 := m ((c.tc : Thread nD τ).loc main_arg0)
abbrev argW : FVec Ideal S5632x2048 .bf16 := m ((c.tc : Thread nD τ).loc main_arg1)
abbrev argU : FVec Ideal S2176x2048 .f32 := m ((c.tc : Thread nD τ).loc main_arg2)

/-- Every execution ends with the product, the array added, and the arguments as launched. -/
theorem run : θ_run defs (onTc (τ := τ) (main (F := Ideal))) ⟨m, fun _ => 0, ρ⟩ (fun r => ∀ c : Dev nD,
      r.2.mem ((c.tc : Thread nD τ).loc main_v0) = prodPlus (argD m c) (argW m c) (argU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans ((final m c).trans (by rw [V_main_arg0, V_main_arg1, V_main_arg2])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.Kernel8Ideal.Results

end
-- ==== Proof.MixerGrads.lean ====
/- The gradient of the mixer's normalised input: a product of two arrays, and twice a product added to what there is. The longer
   products are gathered in two points, each of half of the columns. -/
module

public import proofs.«01_k».proof.Proof.FfnArrays
public import proofs.«01_k».proof.Proof.Runs
public import proofs.«01_k».proof.Proof.Gen.Kernel9Ideal.Frame
public import proofs.«01_k».proof.Proof.Gen.Kernel10Ideal.Frame
public import proofs.«01_k».proof.Proof.Gen.Kernel11Ideal.Frame

@[expose] public section

set_option maxRecDepth 16384

noncomputable section

/-! ### The first product -/

namespace Cert.Kernel9Ideal.Results

open Idealize.ShloMosaic Idealize.ShloMosaic.TcCoe Idealize.SL.Sem
open Cert.Kernel9Ideal Cert.Kernel9Ideal.Gen Cert.Ffn
open Cert.Kernel2Ideal.Calls (pair_idx)

theorem part_at (x : Vec Ideal S2176x2048 .bf16) (w : Vec Ideal S512x2048 .bf16) (r : Fin 2176) (j : Fin 512) :
    k0_pay1 x w (ix2 r j) = ∑ l, x (ix2 r l) * w (ix2 j l) := by
  pointwise [k0_pay1]

variable (x : Vec Ideal S2176x2048 .bf16) (w : Vec Ideal S512x2048 .bf16) (a : Vec Ideal S2176x512 .f32) (i : S2176x512.Idx)

theorem start_eq : k0_pay2 x w i = 0 + k0_pay1 x w i := by
  obtain ⟨r, j, rfl⟩ := pair_idx i
  pointwise [k0_pay2]

theorem last_eq : k0_pay4 x w a i = a i + k0_pay1 x w i := by
  obtain ⟨r, j, rfl⟩ := pair_idx i
  pointwise [k0_pay4]

variable (m : (ℓ : Loc nD τ sig) → Buf (Elt Ideal) ℓ) (ρ : Dev nD → PrngReg) (c : Dev nD)

/-- The columns gathered after a point: in the scratch, and at a run's last point in the result's block. -/
def gathered (n : ℕ) (h : n < cfg0.N) : S2176x512.Idx → EReal := if n % 2 = 1 then (outsAt0 m c n h).1 else (outsAt0 m c n h).2

theorem gathered_first (t : Fin cfg0.N) (h : t.val % 2 = 0) (i : S2176x512.Idx) :
    gathered m c t.val t.isLt i = 0 + k0_pay1 (iblk m c 0 t) (iblk m c 1 t) i := by
  rw [gathered, if_neg (by omega), outsAt0_A m c t h (by omega)]
  frame_out
  exact start_eq _ _ i

theorem gathered_next (t : Fin cfg0.N) (h : ¬t.val % 2 = 0) (i : S2176x512.Idx) :
    gathered m c t.val t.isLt i = gathered m c (t.val - 1) (Nat.lt_of_le_of_lt (Nat.sub_le _ _) t.isLt) i
      + k0_pay1 (iblk m c 0 t) (iblk m c 1 t) i := by
  rw [gathered, gathered, if_neg (show ¬(t.val - 1) % 2 = 1 by omega)]
  rw [if_pos (by omega), outsAt0_B m c t h (by omega)]
  frame_out
  rw [last_eq, read_unread_whole]

theorem idx0 : ∀ t : Fin cfg0.N, win0_0.index t = ![0, t.val % 2] ∧ win0_1.index t = ![t.val / 2, t.val % 2]
    ∧ win0_2.index t = ![0, t.val / 2] :=
  (by decide +kernel : ∀ t : Fin grid0.N, _)

theorem final : (dats m 0 c).arrAt 2 cfg0.N = prodR .f32 (V m c main_arg0) (V m c main_arg1) := by
  refine (dats m 0 c).arrAt_eq_of_covers 2 _ (by decide +kernel) fun t hf y => ?_
  have hl := (flush0_2 t).mp hf
  blk_simp
  rw [after0_2, show (outsAt0 m c t.val t.isLt).1 = gathered m c t.val t.isLt from (if_pos hl).symm,
    Pipeline.eq_sum_fin_of_reset_step_apply_of_flush (gathered m c) 2 (fun _ => 0) (fun t => k0_pay1 (iblk m c 0 t) (iblk m c 1 t))
      (gathered_first m c) (gathered_next m c) t hl y]
  obtain ⟨r, d, rfl⟩ := pair_idx y
  rw [zero_add]
  simp only [part_at]
  refine Fin.sum_mul_add_congr fun s k hl => ?_
  blk_point [iblk, V, idx0]

abbrev argD : FVec Ideal S2176x4096 .bf16 := m ((c.tc : Thread nD τ).loc main_arg0)
abbrev argW : FVec Ideal S2048x4096 .bf16 := m ((c.tc : Thread nD τ).loc main_arg1)

/-- Every execution ends with the product and the arguments as launched. -/
theorem run : θ_run defs (onTc (τ := τ) (main (F := Ideal))) ⟨m, fun _ => 0, ρ⟩ (fun r => ∀ c : Dev nD,
      r.2.mem ((c.tc : Thread nD τ).loc main_v0) = prodR .f32 (argD m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans ((final m c).trans (by rw [V_main_arg0, V_main_arg1])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.Kernel9Ideal.Results

/-! ### The low-rank arrays' product, added to the first -/

namespace Cert.Kernel10Ideal.Results

open Idealize.ShloMosaic Idealize.ShloMosaic.TcCoe Idealize.SL.Sem
open Cert.Kernel10Ideal Cert.Kernel10Ideal.Gen Cert.Ffn
open Cert.Kernel2Ideal.Calls (pair_idx)

theorem payload_at (x : Vec Ideal S2176x1152 .bf16) (w : Vec Ideal S512x1152 .bf16) (a : Vec Ideal S2176x512 .f32) (r : Fin 2176) (j : Fin 512) :
    k0_pay1 x w a (ix2 r j) = (∑ l, x (ix2 r l) * w (ix2 j l)) + a (ix2 r j) := by
  pointwise [k0_pay1]

variable (m : (ℓ : Loc nD τ sig) → Buf (Elt Ideal) ℓ) (ρ : Dev nD → PrngReg) (c : Dev nD)

theorem idx0 : ∀ t : Fin cfg0.N, win0_0.index t = ![0, 0] ∧ win0_1.index t = ![t.val, 0] ∧ win0_2.index t = ![0, t.val]
    ∧ win0_3.index t = ![0, t.val] :=
  (by decide +kernel : ∀ t : Fin grid0.N, _)

theorem final : (dats m 0 c).arrAt 3 cfg0.N = prodRPlus (V m c main_arg0) (V m c main_arg1) (V m c main_arg2) := by
  refine (dats m 0 c).arrAt_eq_of_covers 3 _ (by decide +kernel) fun t _ y => ?_
  blk_simp
  rw [after0_3]
  unfold outsAt0
  frame_out
  obtain ⟨r, j, rfl⟩ := pair_idx y
  rw [payload_at]
  blk_point [iblk, prodRPlus, V, idx0 t]

abbrev argD : FVec Ideal S2176x1152 .bf16 := m ((c.tc : Thread nD τ).loc main_arg0)
abbrev argW : FVec Ideal S2048x1152 .bf16 := m ((c.tc : Thread nD τ).loc main_arg1)
abbrev argU : FVec Ideal S2176x2048 .f32 := m ((c.tc : Thread nD τ).loc main_arg2)

/-- Every execution ends with the product, the array added, and the arguments as launched. -/
theorem run : θ_run defs (onTc (τ := τ) (main (F := Ideal))) ⟨m, fun _ => 0, ρ⟩ (fun r => ∀ c : Dev nD,
      r.2.mem ((c.tc : Thread nD τ).loc main_v0) = prodRPlus (argD m c) (argW m c) (argU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans ((final m c).trans (by rw [V_main_arg0, V_main_arg1, V_main_arg2])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.Kernel10Ideal.Results

/-! ### The gates' product, added to both -/

namespace Cert.Kernel11Ideal.Results

open Idealize.ShloMosaic Idealize.ShloMosaic.TcCoe Idealize.SL.Sem
open Cert.Kernel11Ideal Cert.Kernel11Ideal.Gen Cert.Ffn
open Cert.Kernel2Ideal.Calls (pair_idx)

theorem part_at (x : Vec Ideal S2176x2048 .bf16) (w : Vec Ideal S512x2048 .bf16) (r : Fin 2176) (j : Fin 512) :
    k0_pay1 x w (ix2 r j) = ∑ l, x (ix2 r l) * w (ix2 j l) := by
  pointwise [k0_pay1]

variable (x : Vec Ideal S2176x2048 .bf16) (w : Vec Ideal S512x2048 .bf16) (a : Vec Ideal S2176x512 .f32) (i : S2176x512.Idx)

theorem start_eq : k0_pay2 x w a i = k0_pay1 x w i + a i := by
  obtain ⟨r, j, rfl⟩ := pair_idx i
  pointwise [k0_pay2]

theorem last_eq : k0_pay4 x w a i = a i + k0_pay1 x w i := by
  obtain ⟨r, j, rfl⟩ := pair_idx i
  pointwise [k0_pay4]

variable (m : (ℓ : Loc nD τ sig) → Buf (Elt Ideal) ℓ) (ρ : Dev nD → PrngReg) (c : Dev nD)

/-- The columns gathered after a point: in the scratch, and at a run's last point in the result's block. -/
def gathered (n : ℕ) (h : n < cfg0.N) : S2176x512.Idx → EReal := if n % 2 = 1 then (outsAt0 m c n h).1 else (outsAt0 m c n h).2

theorem gathered_first (t : Fin cfg0.N) (h : t.val % 2 = 0) (i : S2176x512.Idx) :
    gathered m c t.val t.isLt i = k0_pay1 (iblk m c 0 t) (iblk m c 1 t) i + iblk m c 2 t i := by
  rw [gathered, if_neg (by omega), outsAt0_A m c t h (by omega)]
  frame_out
  exact start_eq _ _ _ i

theorem gathered_next (t : Fin cfg0.N) (h : ¬t.val % 2 = 0) (i : S2176x512.Idx) :
    gathered m c t.val t.isLt i = gathered m c (t.val - 1) (Nat.lt_of_le_of_lt (Nat.sub_le _ _) t.isLt) i
      + k0_pay1 (iblk m c 0 t) (iblk m c 1 t) i := by
  rw [gathered, gathered, if_neg (show ¬(t.val - 1) % 2 = 1 by omega)]
  rw [if_pos (by omega), outsAt0_B m c t h (by omega)]
  frame_out
  rw [last_eq, read_unread_whole]

theorem idx0 : ∀ t : Fin cfg0.N, win0_0.index t = ![0, t.val % 2] ∧ win0_1.index t = ![t.val / 2, t.val % 2]
    ∧ win0_2.index t = ![0, t.val / 2] ∧ win0_3.index t = ![0, t.val / 2] :=
  (by decide +kernel : ∀ t : Fin grid0.N, _)

theorem final : (dats m 0 c).arrAt 3 cfg0.N = prodRPlus (V m c main_arg0) (V m c main_arg1) (V m c main_arg2) := by
  refine (dats m 0 c).arrAt_eq_of_covers 3 _ (by decide +kernel) fun t hf y => ?_
  have hl := (flush0_3 t).mp hf
  blk_simp
  rw [after0_3, show (outsAt0 m c t.val t.isLt).1 = gathered m c t.val t.isLt from (if_pos hl).symm,
    sum_plus_of_runs (gathered m c) 2 (fun t => iblk m c 2 t) (fun t => k0_pay1 (iblk m c 0 t) (iblk m c 1 t))
      (gathered_first m c) (gathered_next m c) t hl y]
  obtain ⟨r, d, rfl⟩ := pair_idx y
  simp only [part_at]
  refine congrArg₂ (· + ·) (Fin.sum_mul_add_congr fun s k hl => ?_) ?_
  · blk_point [iblk, V, idx0]
  · blk_point [iblk, V, idx0]

abbrev argD : FVec Ideal S2176x4096 .bf16 := m ((c.tc : Thread nD τ).loc main_arg0)
abbrev argW : FVec Ideal S2048x4096 .bf16 := m ((c.tc : Thread nD τ).loc main_arg1)
abbrev argU : FVec Ideal S2176x2048 .f32 := m ((c.tc : Thread nD τ).loc main_arg2)

/-- Every execution ends with the product, the array added, and the arguments as launched. -/
theorem run : θ_run defs (onTc (τ := τ) (main (F := Ideal))) ⟨m, fun _ => 0, ρ⟩ (fun r => ∀ c : Dev nD,
      r.2.mem ((c.tc : Thread nD τ).loc main_v0) = prodRPlus (argD m c) (argW m c) (argU m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans ((final m c).trans (by rw [V_main_arg0, V_main_arg1, V_main_arg2])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.Kernel11Ideal.Results

end
-- ==== Proof.LoraGrads.lean ====
/- The gradients of the two low-rank normalised arrays: each a product gathered in two points, each of half of the columns. -/
module

public import proofs.«01_k».proof.Proof.FfnArrays
public import proofs.«01_k».proof.Proof.Runs
public import proofs.«01_k».proof.Proof.Gen.Kernel12Ideal.Frame
public import proofs.«01_k».proof.Proof.Gen.Kernel13Ideal.Frame

@[expose] public section

set_option maxRecDepth 16384

noncomputable section

/-! ### Of the queries -/

namespace Cert.Kernel12Ideal.Results

open Idealize.ShloMosaic Idealize.ShloMosaic.TcCoe Idealize.SL.Sem
open Cert.Kernel12Ideal Cert.Kernel12Ideal.Gen Cert.Ffn
open Cert.Kernel2Ideal.Calls (pair_idx)

theorem part_at (x : Vec Ideal S2176x1536 .bf16) (w : Vec Ideal S512x1536 .bf16) (r : Fin 2176) (j : Fin 512) :
    k0_pay1 x w (ix2 r j) = ∑ l, x (ix2 r l) * w (ix2 j l) := by
  pointwise [k0_pay1]

variable (x : Vec Ideal S2176x1536 .bf16) (w : Vec Ideal S512x1536 .bf16) (a : Vec Ideal S2176x512 .f32) (i : S2176x512.Idx)

theorem start_eq : k0_pay2 x w i = 0 + k0_pay1 x w i := by
  obtain ⟨r, j, rfl⟩ := pair_idx i
  pointwise [k0_pay2]

theorem last_eq : k0_pay4 x w a i = a i + k0_pay1 x w i := by
  obtain ⟨r, j, rfl⟩ := pair_idx i
  pointwise [k0_pay4]

variable (m : (ℓ : Loc nD τ sig) → Buf (Elt Ideal) ℓ) (ρ : Dev nD → PrngReg) (c : Dev nD)

/-- The columns gathered after a point: in the scratch, and at a run's last point in the result's block. -/
def gathered (n : ℕ) (h : n < cfg0.N) : S2176x512.Idx → EReal := if n % 2 = 1 then (outsAt0 m c n h).1 else (outsAt0 m c n h).2

theorem gathered_first (t : Fin cfg0.N) (h : t.val % 2 = 0) (i : S2176x512.Idx) :
    gathered m c t.val t.isLt i = 0 + k0_pay1 (iblk m c 0 t) (iblk m c 1 t) i := by
  rw [gathered, if_neg (by omega), outsAt0_A m c t h (by omega)]
  frame_out
  exact start_eq _ _ i

theorem gathered_next (t : Fin cfg0.N) (h : ¬t.val % 2 = 0) (i : S2176x512.Idx) :
    gathered m c t.val t.isLt i = gathered m c (t.val - 1) (Nat.lt_of_le_of_lt (Nat.sub_le _ _) t.isLt) i
      + k0_pay1 (iblk m c 0 t) (iblk m c 1 t) i := by
  rw [gathered, gathered, if_neg (show ¬(t.val - 1) % 2 = 1 by omega)]
  rw [if_pos (by omega), outsAt0_B m c t h (by omega)]
  frame_out
  rw [last_eq, read_unread_whole]

theorem idx0 : ∀ t : Fin cfg0.N, win0_0.index t = ![0, t.val % 2] ∧ win0_1.index t = ![t.val / 2, t.val % 2]
    ∧ win0_2.index t = ![0, t.val / 2] :=
  (by decide +kernel : ∀ t : Fin grid0.N, _)

theorem final : (dats m 0 c).arrAt 2 cfg0.N = prodR .f32 (V m c main_arg0) (V m c main_arg1) := by
  refine (dats m 0 c).arrAt_eq_of_covers 2 _ (by decide +kernel) fun t hf y => ?_
  have hl := (flush0_2 t).mp hf
  blk_simp
  rw [after0_2, show (outsAt0 m c t.val t.isLt).1 = gathered m c t.val t.isLt from (if_pos hl).symm,
    Pipeline.eq_sum_fin_of_reset_step_apply_of_flush (gathered m c) 2 (fun _ => 0) (fun t => k0_pay1 (iblk m c 0 t) (iblk m c 1 t))
      (gathered_first m c) (gathered_next m c) t hl y]
  obtain ⟨r, d, rfl⟩ := pair_idx y
  rw [zero_add]
  simp only [part_at]
  refine Fin.sum_mul_add_congr fun s k hl => ?_
  blk_point [iblk, V, idx0]

abbrev argD : FVec Ideal S2176x3072 .bf16 := m ((c.tc : Thread nD τ).loc main_arg0)
abbrev argW : FVec Ideal S512x3072 .bf16 := m ((c.tc : Thread nD τ).loc main_arg1)

/-- Every execution ends with the product and the arguments as launched. -/
theorem run : θ_run defs (onTc (τ := τ) (main (F := Ideal))) ⟨m, fun _ => 0, ρ⟩ (fun r => ∀ c : Dev nD,
      r.2.mem ((c.tc : Thread nD τ).loc main_v0) = prodR .f32 (argD m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans ((final m c).trans (by rw [V_main_arg0, V_main_arg1])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.Kernel12Ideal.Results

/-! ### Of the keys and values -/

namespace Cert.Kernel13Ideal.Results

open Idealize.ShloMosaic Idealize.ShloMosaic.TcCoe Idealize.SL.Sem
open Cert.Kernel13Ideal Cert.Kernel13Ideal.Gen Cert.Ffn
open Cert.Kernel2Ideal.Calls (pair_idx)

theorem part_at (x : Vec Ideal S2176x2048 .bf16) (w : Vec Ideal S512x2048 .bf16) (r : Fin 2176) (j : Fin 512) :
    k0_pay1 x w (ix2 r j) = ∑ l, x (ix2 r l) * w (ix2 j l) := by
  pointwise [k0_pay1]

variable (x : Vec Ideal S2176x2048 .bf16) (w : Vec Ideal S512x2048 .bf16) (a : Vec Ideal S2176x512 .f32) (i : S2176x512.Idx)

theorem start_eq : k0_pay2 x w i = 0 + k0_pay1 x w i := by
  obtain ⟨r, j, rfl⟩ := pair_idx i
  pointwise [k0_pay2]

theorem last_eq : k0_pay4 x w a i = a i + k0_pay1 x w i := by
  obtain ⟨r, j, rfl⟩ := pair_idx i
  pointwise [k0_pay4]

variable (m : (ℓ : Loc nD τ sig) → Buf (Elt Ideal) ℓ) (ρ : Dev nD → PrngReg) (c : Dev nD)

/-- The columns gathered after a point: in the scratch, and at a run's last point in the result's block. -/
def gathered (n : ℕ) (h : n < cfg0.N) : S2176x512.Idx → EReal := if n % 2 = 1 then (outsAt0 m c n h).1 else (outsAt0 m c n h).2

theorem gathered_first (t : Fin cfg0.N) (h : t.val % 2 = 0) (i : S2176x512.Idx) :
    gathered m c t.val t.isLt i = 0 + k0_pay1 (iblk m c 0 t) (iblk m c 1 t) i := by
  rw [gathered, if_neg (by omega), outsAt0_A m c t h (by omega)]
  frame_out
  exact start_eq _ _ i

theorem gathered_next (t : Fin cfg0.N) (h : ¬t.val % 2 = 0) (i : S2176x512.Idx) :
    gathered m c t.val t.isLt i = gathered m c (t.val - 1) (Nat.lt_of_le_of_lt (Nat.sub_le _ _) t.isLt) i
      + k0_pay1 (iblk m c 0 t) (iblk m c 1 t) i := by
  rw [gathered, gathered, if_neg (show ¬(t.val - 1) % 2 = 1 by omega)]
  rw [if_pos (by omega), outsAt0_B m c t h (by omega)]
  frame_out
  rw [last_eq, read_unread_whole]

theorem idx0 : ∀ t : Fin cfg0.N, win0_0.index t = ![0, t.val % 2] ∧ win0_1.index t = ![t.val / 2, t.val % 2]
    ∧ win0_2.index t = ![0, t.val / 2] :=
  (by decide +kernel : ∀ t : Fin grid0.N, _)

theorem final : (dats m 0 c).arrAt 2 cfg0.N = prodR .f32 (V m c main_arg0) (V m c main_arg1) := by
  refine (dats m 0 c).arrAt_eq_of_covers 2 _ (by decide +kernel) fun t hf y => ?_
  have hl := (flush0_2 t).mp hf
  blk_simp
  rw [after0_2, show (outsAt0 m c t.val t.isLt).1 = gathered m c t.val t.isLt from (if_pos hl).symm,
    Pipeline.eq_sum_fin_of_reset_step_apply_of_flush (gathered m c) 2 (fun _ => 0) (fun t => k0_pay1 (iblk m c 0 t) (iblk m c 1 t))
      (gathered_first m c) (gathered_next m c) t hl y]
  obtain ⟨r, d, rfl⟩ := pair_idx y
  rw [zero_add]
  simp only [part_at]
  refine Fin.sum_mul_add_congr fun s k hl => ?_
  blk_point [iblk, V, idx0]

abbrev argD : FVec Ideal S2176x4096 .bf16 := m ((c.tc : Thread nD τ).loc main_arg0)
abbrev argW : FVec Ideal S512x4096 .bf16 := m ((c.tc : Thread nD τ).loc main_arg1)

/-- Every execution ends with the product and the arguments as launched. -/
theorem run : θ_run defs (onTc (τ := τ) (main (F := Ideal))) ⟨m, fun _ => 0, ρ⟩ (fun r => ∀ c : Dev nD,
      r.2.mem ((c.tc : Thread nD τ).loc main_v0) = prodR .f32 (argD m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 2).trans ((final m c).trans (by rw [V_main_arg0, V_main_arg1])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.Kernel13Ideal.Results

end
-- ==== Proof.ProductReferences.lean ====
/- The references of the single products, read back: what each leaves is the product, with the array added where there is one. -/
module

public import proofs.«01_k».proof.Proof.Runs
public import proofs.«01_k».proof.Proof.FfnArrays
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run

@[expose] public section

set_option maxRecDepth 16384

noncomputable section

/-! ### The gradient of the channel mixer's normalised input -/

namespace Cert.Reference7Ideal.Stages

open Cert.Reference7Ideal Cert.Reference7Ideal.Gen Cert.Reference7Ideal.Value Idealize.ShloMosaic Cert.Ffn
open Cert.Kernel2Ideal.Calls (pair_idx)

variable (d : FVec Ideal S2176x11264 .bf16) (w : FVec Ideal S2048x11264 .bf16)

/-- The product of the right halves and the product of the left halves, -/
def result : FVec Ideal S2176x2048 .f32 :=
  addf (Host.dotGeneral dot_S2176x5632_S2048x5632_S2176x2048_1_1_0_0_n_n none
      (extf .f32 (extractStridedSlice S2176x5632 ![0, 5632] d slices_S2176x11264_S2176x5632_0_5632) bitsLt_bf16_f32)
      (extf .f32 (extractStridedSlice S2048x5632 ![0, 5632] w slices_S2048x11264_S2048x5632_0_5632) bitsLt_bf16_f32))
    (Host.dotGeneral dot_S2176x5632_S2048x5632_S2176x2048_1_1_0_0_n_n none
      (extf .f32 (extractStridedSlice S2176x5632 ![0, 0] d slices_S2176x11264_S2176x5632_0_0) bitsLt_bf16_f32)
      (extf .f32 (extractStridedSlice S2048x5632 ![0, 0] w slices_S2048x11264_S2048x5632_0_0) bitsLt_bf16_f32))

/-- added, are the whole product. -/
theorem result_eq : result d w = prodR .f32 d w := funext fun i => by
  obtain ⟨i, j, rfl⟩ := pair_idx i
  pointwise [result]
  refine (add_comm _ _).trans ((congrArg₂ (· + ·) (Finset.sum_congr rfl fun l _ => ?_) (Finset.sum_congr rfl fun l _ => ?_)).trans
    (Fin.sum_univ_add (a := 5632) (b := 5632) fun l => d (ix2 i l) * w (ix2 j l)).symm) <;> rfl

variable (μ : (ℓ : Loc nD τ sig) → Buf (Elt Ideal) ℓ) (c : Dev nD)

abbrev argD : FVec Ideal S2176x11264 .bf16 := μ ((c.tc : Thread nD τ).loc main_arg0)
abbrev argW : FVec Ideal S2048x11264 .bf16 := μ ((c.tc : Thread nD τ).loc main_arg1)

/-- Every execution ends with that, and the arguments as launched. -/
theorem run (ρ : Dev nD → PrngReg) : θ_run defs (onTc (τ := τ) (main (F := Ideal))) ⟨μ, fun _ => 0, ρ⟩ (fun r => ∀ c : Dev nD,
      r.2.mem ((c.tc : Thread nD τ).loc main_v13) = prodR .f32 (argD μ c) (argW μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)) :=
  (θ_run defs _ _).mono (fun _ h c => ⟨(h c).1.trans (result_eq (argD μ c) (argW μ c)), (h c).2⟩) (Value.run (F := Ideal) μ ρ)

end Cert.Reference7Ideal.Stages

/-! ### The channel mixer's last product, with the sum -/

namespace Cert.Reference8Ideal.Stages

open Cert.Reference8Ideal Cert.Reference8Ideal.Gen Cert.Reference8Ideal.Value Idealize.ShloMosaic Cert.Ffn
open Cert.Kernel2Ideal.Calls (pair_idx)

variable (d : FVec Ideal S2176x5632 .bf16) (w : FVec Ideal S5632x2048 .bf16) (u : FVec Ideal S2176x2048 .f32)

def result : FVec Ideal S2176x2048 .f32 := addf u (Host.dotGeneral dot_S2176x5632_S5632x2048_S2176x2048_1_0_0_1_n_n none (extf .f32 d bitsLt_bf16_f32) (extf .f32 w bitsLt_bf16_f32))

theorem result_eq : result d w u = prodPlus d w u := funext fun i => by
  obtain ⟨i, j, rfl⟩ := pair_idx i
  pointwise [result]
  exact add_comm _ _

variable (μ : (ℓ : Loc nD τ sig) → Buf (Elt Ideal) ℓ) (c : Dev nD)

abbrev argD : FVec Ideal S2176x5632 .bf16 := μ ((c.tc : Thread nD τ).loc main_arg0)
abbrev argW : FVec Ideal S5632x2048 .bf16 := μ ((c.tc : Thread nD τ).loc main_arg1)
abbrev argU : FVec Ideal S2176x2048 .f32 := μ ((c.tc : Thread nD τ).loc main_arg2)

/-- Every execution ends with that, and the arguments as launched. -/
theorem run (ρ : Dev nD → PrngReg) : θ_run defs (onTc (τ := τ) (main (F := Ideal))) ⟨μ, fun _ => 0, ρ⟩ (fun r => ∀ c : Dev nD,
      r.2.mem ((c.tc : Thread nD τ).loc main_v3) = prodPlus (argD μ c) (argW μ c) (argU μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)) :=
  (θ_run defs _ _).mono (fun _ h c => ⟨(h c).1.trans (result_eq (argD μ c) (argW μ c) (argU μ c)), (h c).2⟩) (Value.run (F := Ideal) μ ρ)

end Cert.Reference8Ideal.Stages

/-! ### The gradient of the mixer's normalised input: the first product, -/

namespace Cert.Reference9Ideal.Stages

open Cert.Reference9Ideal Cert.Reference9Ideal.Gen Cert.Reference9Ideal.Value Idealize.ShloMosaic Cert.Ffn
open Cert.Kernel2Ideal.Calls (pair_idx)

variable (d : FVec Ideal S2176x4096 .bf16) (w : FVec Ideal S2048x4096 .bf16)

def result : FVec Ideal S2176x2048 .f32 := Host.dotGeneral dot_S2176x4096_S2048x4096_S2176x2048_1_1_0_0_n_n none (extf .f32 d bitsLt_bf16_f32) (extf .f32 w bitsLt_bf16_f32)

theorem result_eq : result d w = prodR .f32 d w := funext fun i => by
  obtain ⟨i, j, rfl⟩ := pair_idx i
  pointwise [result]
  rfl

variable (μ : (ℓ : Loc nD τ sig) → Buf (Elt Ideal) ℓ) (c : Dev nD)

abbrev argD : FVec Ideal S2176x4096 .bf16 := μ ((c.tc : Thread nD τ).loc main_arg0)
abbrev argW : FVec Ideal S2048x4096 .bf16 := μ ((c.tc : Thread nD τ).loc main_arg1)

/-- Every execution ends with that, and the arguments as launched. -/
theorem run (ρ : Dev nD → PrngReg) : θ_run defs (onTc (τ := τ) (main (F := Ideal))) ⟨μ, fun _ => 0, ρ⟩ (fun r => ∀ c : Dev nD,
      r.2.mem ((c.tc : Thread nD τ).loc main_v4) = prodR .f32 (argD μ c) (argW μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)) :=
  (θ_run defs _ _).mono (fun _ h c => ⟨(h c).1.trans (result_eq (argD μ c) (argW μ c)), (h c).2⟩) (Value.run (F := Ideal) μ ρ)

end Cert.Reference9Ideal.Stages

/-! ### the low-rank arrays' product, added, -/

namespace Cert.Reference10Ideal.Stages

open Cert.Reference10Ideal Cert.Reference10Ideal.Gen Cert.Reference10Ideal.Value Idealize.ShloMosaic Cert.Ffn
open Cert.Kernel2Ideal.Calls (pair_idx)

variable (d : FVec Ideal S2176x1152 .bf16) (w : FVec Ideal S2048x1152 .bf16) (u : FVec Ideal S2176x2048 .f32)

def result : FVec Ideal S2176x2048 .f32 := addf u (Host.dotGeneral dot_S2176x1152_S2048x1152_S2176x2048_1_1_0_0_n_n none (extf .f32 d bitsLt_bf16_f32) (extf .f32 w bitsLt_bf16_f32))

theorem result_eq : result d w u = prodRPlus d w u := funext fun i => by
  obtain ⟨i, j, rfl⟩ := pair_idx i
  pointwise [result]
  exact add_comm _ _

variable (μ : (ℓ : Loc nD τ sig) → Buf (Elt Ideal) ℓ) (c : Dev nD)

abbrev argD : FVec Ideal S2176x1152 .bf16 := μ ((c.tc : Thread nD τ).loc main_arg0)
abbrev argW : FVec Ideal S2048x1152 .bf16 := μ ((c.tc : Thread nD τ).loc main_arg1)
abbrev argU : FVec Ideal S2176x2048 .f32 := μ ((c.tc : Thread nD τ).loc main_arg2)

/-- Every execution ends with that, and the arguments as launched. -/
theorem run (ρ : Dev nD → PrngReg) : θ_run defs (onTc (τ := τ) (main (F := Ideal))) ⟨μ, fun _ => 0, ρ⟩ (fun r => ∀ c : Dev nD,
      r.2.mem ((c.tc : Thread nD τ).loc main_v5) = prodRPlus (argD μ c) (argW μ c) (argU μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)) :=
  (θ_run defs _ _).mono (fun _ h c => ⟨(h c).1.trans (result_eq (argD μ c) (argW μ c) (argU μ c)), (h c).2⟩) (Value.run (F := Ideal) μ ρ)

end Cert.Reference10Ideal.Stages

/-! ### and the gates' -/

namespace Cert.Reference11Ideal.Stages

open Cert.Reference11Ideal Cert.Reference11Ideal.Gen Cert.Reference11Ideal.Value Idealize.ShloMosaic Cert.Ffn
open Cert.Kernel2Ideal.Calls (pair_idx)

variable (d : FVec Ideal S2176x4096 .bf16) (w : FVec Ideal S2048x4096 .bf16) (u : FVec Ideal S2176x2048 .f32)

def result : FVec Ideal S2176x2048 .f32 := addf u (Host.dotGeneral dot_S2176x4096_S2048x4096_S2176x2048_1_1_0_0_n_n none (extf .f32 d bitsLt_bf16_f32) (extf .f32 w bitsLt_bf16_f32))

theorem result_eq : result d w u = prodRPlus d w u := funext fun i => by
  obtain ⟨i, j, rfl⟩ := pair_idx i
  pointwise [result]
  exact add_comm _ _

variable (μ : (ℓ : Loc nD τ sig) → Buf (Elt Ideal) ℓ) (c : Dev nD)

abbrev argD : FVec Ideal S2176x4096 .bf16 := μ ((c.tc : Thread nD τ).loc main_arg0)
abbrev argW : FVec Ideal S2048x4096 .bf16 := μ ((c.tc : Thread nD τ).loc main_arg1)
abbrev argU : FVec Ideal S2176x2048 .f32 := μ ((c.tc : Thread nD τ).loc main_arg2)

/-- Every execution ends with that, and the arguments as launched. -/
theorem run (ρ : Dev nD → PrngReg) : θ_run defs (onTc (τ := τ) (main (F := Ideal))) ⟨μ, fun _ => 0, ρ⟩ (fun r => ∀ c : Dev nD,
      r.2.mem ((c.tc : Thread nD τ).loc main_v5) = prodRPlus (argD μ c) (argW μ c) (argU μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)) :=
  (θ_run defs _ _).mono (fun _ h c => ⟨(h c).1.trans (result_eq (argD μ c) (argW μ c) (argU μ c)), (h c).2⟩) (Value.run (F := Ideal) μ ρ)

end Cert.Reference11Ideal.Stages

/-! ### The gradients of the low-rank normalised arrays: of the queries', -/

namespace Cert.Reference12Ideal.Stages

open Cert.Reference12Ideal Cert.Reference12Ideal.Gen Cert.Reference12Ideal.Value Idealize.ShloMosaic Cert.Ffn
open Cert.Kernel2Ideal.Calls (pair_idx)

variable (d : FVec Ideal S2176x3072 .bf16) (w : FVec Ideal S512x3072 .bf16)

def result : FVec Ideal S2176x512 .f32 := Host.dotGeneral dot_S2176x3072_S512x3072_S2176x512_1_1_0_0_n_n none (extf .f32 d bitsLt_bf16_f32) (extf .f32 w bitsLt_bf16_f32)

theorem result_eq : result d w = prodR .f32 d w := funext fun i => by
  obtain ⟨i, j, rfl⟩ := pair_idx i
  pointwise [result]
  rfl

variable (μ : (ℓ : Loc nD τ sig) → Buf (Elt Ideal) ℓ) (c : Dev nD)

abbrev argD : FVec Ideal S2176x3072 .bf16 := μ ((c.tc : Thread nD τ).loc main_arg0)
abbrev argW : FVec Ideal S512x3072 .bf16 := μ ((c.tc : Thread nD τ).loc main_arg1)

/-- Every execution ends with that, and the arguments as launched. -/
theorem run (ρ : Dev nD → PrngReg) : θ_run defs (onTc (τ := τ) (main (F := Ideal))) ⟨μ, fun _ => 0, ρ⟩ (fun r => ∀ c : Dev nD,
      r.2.mem ((c.tc : Thread nD τ).loc main_v4) = prodR .f32 (argD μ c) (argW μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)) :=
  (θ_run defs _ _).mono (fun _ h c => ⟨(h c).1.trans (result_eq (argD μ c) (argW μ c)), (h c).2⟩) (Value.run (F := Ideal) μ ρ)

end Cert.Reference12Ideal.Stages

/-! ### and of the keys' and values' -/

namespace Cert.Reference13Ideal.Stages

open Cert.Reference13Ideal Cert.Reference13Ideal.Gen Cert.Reference13Ideal.Value Idealize.ShloMosaic Cert.Ffn
open Cert.Kernel2Ideal.Calls (pair_idx)

variable (d : FVec Ideal S2176x4096 .bf16) (w : FVec Ideal S512x4096 .bf16)

def result : FVec Ideal S2176x512 .f32 := Host.dotGeneral dot_S2176x4096_S512x4096_S2176x512_1_1_0_0_n_n none (extf .f32 d bitsLt_bf16_f32) (extf .f32 w bitsLt_bf16_f32)

theorem result_eq : result d w = prodR .f32 d w := funext fun i => by
  obtain ⟨i, j, rfl⟩ := pair_idx i
  pointwise [result]
  rfl

variable (μ : (ℓ : Loc nD τ sig) → Buf (Elt Ideal) ℓ) (c : Dev nD)

abbrev argD : FVec Ideal S2176x4096 .bf16 := μ ((c.tc : Thread nD τ).loc main_arg0)
abbrev argW : FVec Ideal S512x4096 .bf16 := μ ((c.tc : Thread nD τ).loc main_arg1)

/-- Every execution ends with that, and the arguments as launched. -/
theorem run (ρ : Dev nD → PrngReg) : θ_run defs (onTc (τ := τ) (main (F := Ideal))) ⟨μ, fun _ => 0, ρ⟩ (fun r => ∀ c : Dev nD,
      r.2.mem ((c.tc : Thread nD τ).loc main_v4) = prodR .f32 (argD μ c) (argW μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)) :=
  (θ_run defs _ _).mono (fun _ h c => ⟨(h c).1.trans (result_eq (argD μ c) (argW μ c)), (h c).2⟩) (Value.run (F := Ideal) μ ρ)

end Cert.Reference13Ideal.Stages

end
-- ==== Proof.Gates.lean ====
/- What the gates' gradients are made of: two arrays side by side, the sum of every column, and the gradient of a gate's argument. -/
module

public import proofs.«01_k».proof.Proof.MixProducts

@[expose] public section

noncomputable section

namespace Cert.Ffn

open Idealize.ShloMosaic

/-- The sum of every column, as one row. -/
def colSums (f : Fin 2176 → Fin 2048 → EReal) : FVec Ideal ⟨2, ![1, 2048]⟩ .f32 := fun i => ∑ r, f r (i 1)

/-- An array by its elements. -/
def rows (φ : FTy) (f : Fin 2176 → Fin 2048 → EReal) : FVec Ideal ⟨2, ![2176, 2048]⟩ φ := fun i => f (i 0) (i 1)

/-- Two arrays side by side. -/
def beside (f g : Fin 2176 → Fin 2048 → EReal) : FVec Ideal ⟨2, ![2176, 4096]⟩ .bf16 := fun i =>
  if h : (i 1).val < 2048 then f (i 0) ⟨(i 1).val, h⟩ else g (i 0) ⟨(i 1).val - 2048, by have := (i 1).isLt; simp at this; omega⟩

variable (f g : Fin 2176 → Fin 2048 → EReal) (r : Fin 2176) (j : Fin 2048)

theorem beside_left : beside f g (ix2 r (inLeft j)) = f r j := dif_pos j.isLt

theorem beside_right : beside f g (ix2 r (inRight j)) = g r j := by
  refine (dif_neg (by simp [inRight])).trans ?_
  exact congrArg (g r) (Fin.ext (by simp [inRight]))

/-- A column of the two is one of the left array or one of the right. -/
theorem inHalf (j : Fin 4096) : (∃ i, j = inLeft i) ∨ ∃ i, j = inRight i := by
  by_cases h : j.val < 2048
  · exact .inl ⟨⟨j.val, h⟩, rfl⟩
  · exact .inr ⟨⟨j.val - 2048, by omega⟩, Fin.ext (by simp [inRight]; omega)⟩

/-- The gradient of a gate's argument `s`, the gate multiplying something whose product with the result's gradient is `p`. -/
def dArg (p s : EReal) : EReal := p * (gate s * (1 - gate s))

theorem dArg_eq (p s : EReal) : 0 - (0 - p * Ideal.div 1 ((1 + Ideal.exp (0 - s)) * (1 + Ideal.exp (0 - s))) * 1) * Ideal.exp (0 - s) = dArg p s := by
  simp only [zero_sub, mul_one]
  rw [neg_mul, neg_neg, mul_assoc p, slope]
  rfl

end Cert.Ffn

end
-- ==== Proof.Norms.lean ====
/- A row's norm and its gradient, the layer norm's, and the activation after it, for a row of any length. -/
module

public import proofs.«01_k».proof.Proof.Gates

@[expose] public section

noncomputable section

namespace Cert.Ffn

open Idealize.ShloMosaic

/-- The lengths of a row, 2048 and 512. -/
abbrev full : EReal := Scalar.ofBits (F := Ideal) .f32 0x45000000#32
abbrev short : EReal := Scalar.ofBits (F := Ideal) .f32 0x44000000#32

section Row
variable {n : ℕ} (w : EReal) (x e : Fin n → EReal) (j : Fin n)

/-- A row's mean square, the small number added, -/
def rowMean : EReal := Ideal.div (∑ k, x k * x k) w + Scalar.ofBits (F := Ideal) .f32 0x358637BD#32
/-- the reciprocal of its root, -/
def rowInv : EReal := Ideal.rsqrt (rowMean w x)
/-- and the share of the row's gradient that comes through it, `e` the gradient of the row's normalised elements. -/
def rowShare : EReal :=
  Ideal.div ((∑ k, x k * e k) * (Scalar.ofBits (F := Ideal) .f32 0xBF000000#32 * Ideal.div (rowInv w x) (rowMean w x))) w
/-- The gradient of an element of the row. -/
def normTerm : EReal := e j * rowInv w x + x j * rowShare w x e + rowShare w x e * x j

/-! ### The layer norm -/

/-- A row less its mean, -/
def centred : EReal := x j - Ideal.div (∑ k, x k) w
/-- its norm, scaled by `g` and moved by `b`. -/
def layer (g b : Fin n → EReal) : EReal := centred w x j * rowInv w (centred w x) * g j + b j
/-- The gradient of an element of the centred row from its own factor, -/
def ownTerm : EReal := e j * rowInv w (centred w x)
/-- and from the variance. -/
def varTerm : EReal := rowShare w (centred w x) e * (Scalar.ofBits (F := Ideal) .f32 0x40000000#32 * centred w x j)
/-- The gradient of an element of the row: of the centred one, and through the mean. -/
def layerTerm : EReal := ownTerm w x e j + varTerm w x e j
    + Ideal.div ((∑ k, -ownTerm w x e k) + ∑ k, -varTerm w x e k) w

end Row

/-- The activation, -/
def act (s : EReal) : EReal := s * gate s
/-- and the gradient of its argument, `d` the result's. -/
def actGrad (d s : EReal) : EReal := d * gate s + dArg (s * d) s

/-- A row of an array. -/
abbrev rowOf {m n : ℕ} (h : FVec Ideal ⟨2, ![m, n]⟩ .f32) (r : Fin m) (k : Fin n) : EReal := h (ix2 r k)

end Cert.Ffn

end
-- ==== Proof.NormGrads.lean ====
/- The gradient of a norm before a projection: 128 rows at a point, each with the gradient of what is kept beside it added, and the
   gradient of the norm's scale, the sums of the columns, gathered over the seventeen points. -/
module

public import proofs.«01_k».proof.Proof.Norms
public import proofs.«01_k».proof.Proof.Gen.Kernel14Ideal.Frame
public import Idealize.ShloMosaic.Lib.Pipeline.ReadBack
public import Idealize.ShloMosaic.Lib.Pipeline.ValueKit.Acc

@[expose] public section

set_option maxRecDepth 16384

noncomputable section

namespace Cert.Ffn

open Idealize.ShloMosaic

section Norm
variable {m : ℕ} (h : FVec Ideal ⟨2, ![m, 2048]⟩ .f32) (g : FVec Ideal ⟨2, ![1, 2048]⟩ .f32) (d e : FVec Ideal ⟨2, ![m, 2048]⟩ .f32)
  (r : Fin m) (j : Fin 2048)

/-- The gradient of a row's normalised elements. -/
abbrev rowGrad (k : Fin 2048) : EReal := d (ix2 r k) * g (ix2 0 k)

/-- The norm's gradient at an element, `e` added, -/
def normGrad : EReal := normTerm full (rowOf h r) (rowGrad g d r) j + e (ix2 r j)
/-- and what a row adds to the scale's. -/
def scaleGrad : EReal := h (ix2 r j) * rowInv full (rowOf h r) * d (ix2 r j)

end Norm

end Cert.Ffn

namespace Cert.Kernel14Ideal.Results

open Idealize.ShloMosaic Idealize.ShloMosaic.TcCoe Idealize.SL.Sem
open Cert.Kernel14Ideal Cert.Kernel14Ideal.Gen Cert.Ffn
open Cert.Kernel2Ideal.Calls (pair_idx)

/-! ### A point's terms -/

section Point
variable (h d e : Vec Ideal S128x2048 .f32) (g : Vec Ideal S1x2048 .f32) (k : Fin 128) (j : Fin 2048) (o : Fin 1)

theorem mean_at : k0_pay2 h (ix2 k o) = rowMean full (rowOf h k) := by
  pointwise [k0_pay2]
  rfl

theorem inv_at : k0_pay3 h (ix2 k o) = rowInv full (rowOf h k) := by
  pointwise [k0_pay3]
  rw [mean_at]
  rfl

theorem scale_at : k0_pay4 h d (ix2 o j) = ∑ k, scaleGrad h d k j := by
  pointwise [k0_pay4]
  simp only [inv_at]
  rfl

theorem grad_at : k0_pay5 h g d e (ix2 k j) = normGrad h g d e k j := by
  pointwise [k0_pay5]
  simp only [inv_at, mean_at, Finset.univ_unique, Finset.sum_const, Finset.card_singleton, one_smul]
  rfl

theorem short_at : k0_pay6 h g d e (ix2 k j) = k0_pay5 h g d e (ix2 k j) := by pointwise [k0_pay6]

theorem add1 (v w : Vec Ideal S1x2048 .f32) (i : S1x2048.Idx) : k0_pay1 v w i = w i + v i := by
  obtain ⟨r, j, rfl⟩ := pair_idx i
  pointwise [k0_pay1]

end Point

variable (m : (ℓ : Loc nD τ sig) → Buf (Elt Ideal) ℓ) (ρ : Dev nD → PrngReg) (c : Dev nD)

/-! ### What a point leaves -/

/-- A point's column sums, -/
abbrev sums (t : Fin cfg0.N) := k0_pay4 (iblk m c 0 t) (iblk m c 2 t)

/-- the column sums gathered after a point, -/
def gather (n : ℕ) (h : n < cfg0.N) : S1x2048.Idx → EReal := (outsAt0 m c n h).2.2

theorem gather_first (t : Fin cfg0.N) (h : t.val % 17 = 0) (i : S1x2048.Idx) : gather m c t.val t.isLt i = 0 + sums m c t i := by
  have h1 : ¬1 ≤ t.val := by have := lt_of_lt_of_eq t.isLt N_0; omega
  rw [gather, outsAt0_A m c t h h1, zero_add]
  frame_out

theorem gather_next (t : Fin cfg0.N) (h : ¬t.val % 17 = 0) (i : S1x2048.Idx) :
    gather m c t.val t.isLt i = gather m c (t.val - 1) (Nat.lt_of_le_of_lt (Nat.sub_le _ _) t.isLt) i + sums m c t i := by
  rw [gather, gather, outsAt0_B m c t h (by omega)]
  frame_out
  rw [add1]

/-- and what it stores in the two arrays of rows. -/
theorem stored (t : Fin cfg0.N) :
    (outsAt0 m c t.val t.isLt).1 = k0_pay5 (iblk m c 0 t) (iblk m c 1 t) (iblk m c 2 t) (iblk m c 3 t)
    ∧ (outsAt0 m c t.val t.isLt).2.1 = k0_pay6 (iblk m c 0 t) (iblk m c 1 t) (iblk m c 2 t) (iblk m c 3 t) := by
  have hN := lt_of_lt_of_eq t.isLt N_0
  by_cases h : t.val % 17 = 0
  · rw [outsAt0_A m c t h (by omega)]
    refine ⟨?_, ?_⟩ <;> frame_out
  · rw [outsAt0_B m c t h (by omega)]
    refine ⟨?_, ?_⟩ <;> frame_out

/-! ### What the call leaves -/

theorem idx0 : ∀ t : Fin cfg0.N, win0_0.index t = ![t.val % 17, 0] ∧ win0_1.index t = ![0, 0] ∧ win0_2.index t = ![t.val % 17, 0]
    ∧ win0_3.index t = ![t.val % 17, 0] ∧ win0_4.index t = ![t.val % 17, 0] ∧ win0_5.index t = ![t.val % 17, 0]
    ∧ win0_6.index t = ![0, 0] :=
  (by decide +kernel : ∀ t : Fin grid0.N, _)

/-- A point's row. -/
def row (t : Fin cfg0.N) (k : Fin 128) : Fin 2176 := ⟨t.val % 17 * 128 + k.val, by omega⟩

theorem row_run {n : ℕ} (s : Fin 17) (k : Fin 128) (h : 17 * n + s.val < cfg0.N) (hl : s.val * 128 + k.val < 2176) :
    row ⟨17 * n + s.val, h⟩ k = ⟨s.val * 128 + k.val, hl⟩ := Fin.ext (by simp [row, Nat.mod_eq_of_lt s.isLt])

section Terms
variable (t : Fin cfg0.N) (k : Fin 128) (j : Fin 2048)

theorem blk0 : iblk m c 0 t (ix2 k j) = V m c main_arg0 (ix2 (row t k) j) := by blk_point [iblk, idx0 t, row]
theorem blk1 (o : Fin 1) : iblk m c 1 t (ix2 o j) = V m c main_arg1 (ix2 o j) := by blk_point [iblk, idx0 t]
theorem blk2 : iblk m c 2 t (ix2 k j) = V m c main_arg2 (ix2 (row t k) j) := by blk_point [iblk, idx0 t, row]
theorem blk3 : iblk m c 3 t (ix2 k j) = V m c main_arg3 (ix2 (row t k) j) := by blk_point [iblk, idx0 t, row]

/-- The block's rows are the array's. -/
theorem gradTerm : normGrad (iblk m c 0 t) (iblk m c 1 t) (iblk m c 2 t) (iblk m c 3 t) k j
    = normGrad (V m c main_arg0) (V m c main_arg1) (V m c main_arg2) (V m c main_arg3) (row t k) j := by
  have e0 : rowOf (iblk m c 0 t) k = rowOf (V m c main_arg0) (row t k) := funext fun l => blk0 m c t k l
  have e1 : rowGrad (iblk m c 1 t) (iblk m c 2 t) k = rowGrad (V m c main_arg1) (V m c main_arg2) (row t k) :=
    funext fun l => congrArg₂ (· * ·) (blk2 m c t k l) (blk1 m c t l 0)
  rw [normGrad, normGrad, e0, e1, blk3]

theorem scaleTerm : scaleGrad (iblk m c 0 t) (iblk m c 2 t) k j = scaleGrad (V m c main_arg0) (V m c main_arg2) (row t k) j := by
  have e0 : rowOf (iblk m c 0 t) k = rowOf (V m c main_arg0) (row t k) := funext fun l => blk0 m c t k l
  rw [scaleGrad, scaleGrad, e0, blk0, blk2]

theorem emb4 : (win0_4.blk t).view.emb (ix2 k j) = ix2 (row t k) j := by blk_ext [idx0 t, row]
theorem emb5 : (win0_5.blk t).view.emb (ix2 k j) = ix2 (row t k) j := by blk_ext [idx0 t, row]
theorem emb6 (o : Fin 1) : (win0_6.blk t).view.emb (ix2 o j) = ix2 o j := by blk_ext [idx0 t]

end Terms

theorem final4 : (dats m 0 c).arrAt 4 cfg0.N
    = rows .f32 (normGrad (V m c main_arg0) (V m c main_arg1) (V m c main_arg2) (V m c main_arg3)) := by
  refine (dats m 0 c).arrAt_eq_of_covers 4 _ (by decide +kernel) fun t hf y => ?_
  blk_simp
  obtain ⟨r, d, rfl⟩ := pair_idx y
  rw [after0_4, (stored m c t).1, grad_at, gradTerm, emb4 t r d]
  rfl

theorem final5 : (dats m 0 c).arrAt 5 cfg0.N
    = rows .bf16 (normGrad (V m c main_arg0) (V m c main_arg1) (V m c main_arg2) (V m c main_arg3)) := by
  refine (dats m 0 c).arrAt_eq_of_covers 5 _ (by decide +kernel) fun t hf y => ?_
  blk_simp
  obtain ⟨r, d, rfl⟩ := pair_idx y
  rw [after0_5, (stored m c t).2, short_at, grad_at, gradTerm, emb5 t r d]
  rfl

theorem final6 : (dats m 0 c).arrAt 6 cfg0.N = colSums (scaleGrad (V m c main_arg0) (V m c main_arg2)) := by
  refine (dats m 0 c).arrAt_eq_of_covers 6 _ (by decide +kernel) fun t hf y => ?_
  blk_simp
  rw [after0_6, show (outsAt0 m c t.val t.isLt).2.2 = gather m c t.val t.isLt from rfl,
    Pipeline.eq_sum_fin_of_reset_step_apply_of_flush (gather m c) 17 (fun _ => 0) (sums m c) (gather_first m c) (gather_next m c) t
      ((flush0_6 t).mp hf) y]
  obtain ⟨o, d, rfl⟩ := pair_idx y
  rw [zero_add, emb6 t d o]
  simp only [sums, scale_at, scaleTerm]
  exact Fin.sum_mul_add_congr fun s k hl => congrArg (scaleGrad _ _ · d) (row_run s k _ hl)

abbrev argH : FVec Ideal S2176x2048 .f32 := m ((c.tc : Thread nD τ).loc main_arg0)
abbrev argG : FVec Ideal S1x2048 .f32 := m ((c.tc : Thread nD τ).loc main_arg1)
abbrev argD : FVec Ideal S2176x2048 .f32 := m ((c.tc : Thread nD τ).loc main_arg2)
abbrev argE : FVec Ideal S2176x2048 .f32 := m ((c.tc : Thread nD τ).loc main_arg3)

/-- Every execution ends with the gradient in the two types, the scale's, and the arguments as launched. -/
theorem run : θ_run defs (onTc (τ := τ) (main (F := Ideal))) ⟨m, fun _ => 0, ρ⟩ (fun r => ∀ c : Dev nD,
      r.2.mem ((c.tc : Thread nD τ).loc main_v0_0) = rows .f32 (normGrad (argH m c) (argG m c) (argD m c) (argE m c))
      ∧ r.2.mem ((c.tc : Thread nD τ).loc main_v0_1) = rows .bf16 (normGrad (argH m c) (argG m c) (argD m c) (argE m c))
      ∧ r.2.mem ((c.tc : Thread nD τ).loc main_v0_2) = colSums (scaleGrad (argH m c) (argD m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans ((final4 m c).trans (by rw [V_main_arg0, V_main_arg1, V_main_arg2, V_main_arg3])),
     ((h c).1 5).trans ((final5 m c).trans (by rw [V_main_arg0, V_main_arg1, V_main_arg2, V_main_arg3])),
     ((h c).1 6).trans ((final6 m c).trans (by rw [V_main_arg0, V_main_arg2])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c)))⟩)
    (run_main m ρ)

end Cert.Kernel14Ideal.Results

end
-- ==== Proof.UnitGrads.lean ====
/- The gradient of the gated linear unit: 128 rows at a point, both halves of the argument's gradient, and the two biases' gradients,
   the sums of their columns, gathered over the seventeen points. -/
module

public import proofs.«01_k».proof.Proof.Gates
public import proofs.«01_k».proof.Proof.Gen.Kernel16Ideal.Frame
public import Idealize.ShloMosaic.Lib.Pipeline.ReadBack
public import Idealize.ShloMosaic.Lib.Pipeline.ValueKit.Acc

@[expose] public section

set_option maxRecDepth 16384

noncomputable section

namespace Cert.Ffn

open Idealize.ShloMosaic

section Unit
variable (z : FVec Ideal ⟨2, ![2176, 4096]⟩ .f32) (p q : FVec Ideal ⟨2, ![1, 2048]⟩ .f32) (d : FVec Ideal ⟨2, ![2176, 2048]⟩ .f32)
  (r : Fin 2176) (j : Fin 2048)

/-- The gradient of the factor that is gated, -/
def unitLeft : EReal := d (ix2 r j) * gate (z (ix2 r (inRight j)) + q (ix2 0 j))
/-- and of the gate's argument. -/
def unitRight : EReal := dArg ((z (ix2 r (inLeft j)) + p (ix2 0 j)) * d (ix2 r j)) (z (ix2 r (inRight j)) + q (ix2 0 j))

end Unit

end Cert.Ffn

namespace Cert.Kernel16Ideal.Results

open Idealize.ShloMosaic Idealize.ShloMosaic.TcCoe Idealize.SL.Sem
open Cert.Kernel16Ideal Cert.Kernel16Ideal.Gen Cert.Ffn
open Cert.Kernel2Ideal.Calls (pair_idx)

/-! ### A point's terms -/

section Point
variable (a b d : Vec Ideal S128x2048 .f32) (p q : Vec Ideal S1x2048 .f32) (k : Fin 128) (j : Fin 2048)

theorem left_at : k0_pay5 b q d (ix2 k j) = d (ix2 k j) * gate (b (ix2 k j) + q (ix2 0 j)) := by
  pointwise [k0_pay5, k0_pay4, k0_pay3]
  simp only [zero_sub]
  rfl

theorem exp_at : k0_pay3 b q (ix2 k j) = Ideal.exp (0 - (b (ix2 k j) + q (ix2 0 j))) := by pointwise [k0_pay3]

theorem under_at : k0_pay4 b q (ix2 k j) = 1 + Ideal.exp (0 - (b (ix2 k j) + q (ix2 0 j))) := by
  pointwise [k0_pay4]
  rw [exp_at]

theorem right_at : k0_pay6 a b p q d (ix2 k j) = dArg ((a (ix2 k j) + p (ix2 0 j)) * d (ix2 k j)) (b (ix2 k j) + q (ix2 0 j)) := by
  have h : k0_pay6 a b p q d (ix2 k j) = 0 - (0 - (a (ix2 k j) + p (ix2 0 j)) * d (ix2 k j) * Ideal.div 1 (k0_pay4 b q (ix2 k j) * k0_pay4 b q (ix2 k j)) * 1)
      * k0_pay3 b q (ix2 k j) := by pointwise [k0_pay6]
  rw [h, exp_at, under_at]
  exact dArg_eq _ _

theorem leftSum_at (o : Fin 1) : k0_pay8 b q d (ix2 o j) = ∑ k, k0_pay5 b q d (ix2 k j) := by
  pointwise [k0_pay8]

theorem rightSum_at (o : Fin 1) : k0_pay7 a b p q d (ix2 o j) = ∑ k, k0_pay6 a b p q d (ix2 k j) := by
  pointwise [k0_pay7]

theorem both_left : k0_pay9 a b p q d (ix2 k (inLeft j)) = k0_pay5 b q d (ix2 k j) := by
  pointwise [k0_pay9, inLeft]

theorem both_right : k0_pay9 a b p q d (ix2 k (inRight j)) = k0_pay6 a b p q d (ix2 k j) := by
  pointwise [k0_pay9, inRight]

theorem add1 (v w : Vec Ideal S1x2048 .f32) (i : S1x2048.Idx) : k0_pay1 v w i = w i + v i := by
  obtain ⟨r, j, rfl⟩ := pair_idx i
  pointwise [k0_pay1]

theorem add2 (v w : Vec Ideal S1x2048 .f32) (i : S1x2048.Idx) : k0_pay2 v w i = w i + v i := by
  obtain ⟨r, j, rfl⟩ := pair_idx i
  pointwise [k0_pay2]

end Point

variable (m : (ℓ : Loc nD τ sig) → Buf (Elt Ideal) ℓ) (ρ : Dev nD → PrngReg) (c : Dev nD)

/-- A point's column sums. -/
abbrev lefts (t : Fin cfg0.N) := k0_pay8 (iblk m c 1 t) (iblk m c 3 t) (iblk m c 4 t)
abbrev rights (t : Fin cfg0.N) := k0_pay7 (iblk m c 0 t) (iblk m c 1 t) (iblk m c 2 t) (iblk m c 3 t) (iblk m c 4 t)

/-- The column sums gathered after a point. -/
def gatherL (n : ℕ) (h : n < cfg0.N) : S1x2048.Idx → EReal := (outsAt0 m c n h).2.1
def gatherR (n : ℕ) (h : n < cfg0.N) : S1x2048.Idx → EReal := (outsAt0 m c n h).2.2

theorem gatherL_first (t : Fin cfg0.N) (h : t.val % 17 = 0) (i : S1x2048.Idx) : gatherL m c t.val t.isLt i = 0 + lefts m c t i := by
  have h1 : ¬1 ≤ t.val := by have := lt_of_lt_of_eq t.isLt N_0; omega
  rw [gatherL, outsAt0_A m c t h h1 h h1, zero_add]
  frame_out

theorem gatherL_next (t : Fin cfg0.N) (h : ¬t.val % 17 = 0) (i : S1x2048.Idx) :
    gatherL m c t.val t.isLt i = gatherL m c (t.val - 1) (Nat.lt_of_le_of_lt (Nat.sub_le _ _) t.isLt) i + lefts m c t i := by
  have h1 : 1 ≤ t.val := by omega
  rw [gatherL, gatherL, outsAt0_B m c t h h1 h h1]
  frame_out
  rw [add1]

theorem gatherR_first (t : Fin cfg0.N) (h : t.val % 17 = 0) (i : S1x2048.Idx) : gatherR m c t.val t.isLt i = 0 + rights m c t i := by
  have h1 : ¬1 ≤ t.val := by have := lt_of_lt_of_eq t.isLt N_0; omega
  rw [gatherR, outsAt0_A m c t h h1 h h1, zero_add]
  frame_out

theorem gatherR_next (t : Fin cfg0.N) (h : ¬t.val % 17 = 0) (i : S1x2048.Idx) :
    gatherR m c t.val t.isLt i = gatherR m c (t.val - 1) (Nat.lt_of_le_of_lt (Nat.sub_le _ _) t.isLt) i + rights m c t i := by
  have h1 : 1 ≤ t.val := by omega
  rw [gatherR, gatherR, outsAt0_B m c t h h1 h h1]
  frame_out
  rw [add2]

theorem idx0 : ∀ t : Fin cfg0.N, win0_0.index t = ![t.val % 17, 0] ∧ win0_1.index t = ![t.val % 17, 1] ∧ win0_2.index t = ![0, 0]
    ∧ win0_3.index t = ![0, 0] ∧ win0_4.index t = ![t.val % 17, 0] ∧ win0_5.index t = ![t.val % 17, 0] ∧ win0_6.index t = ![0, 0]
    ∧ win0_7.index t = ![0, 0] :=
  (by decide +kernel : ∀ t : Fin grid0.N, _)

/-! ### What the call leaves -/

/-- A point's row. -/
def row (t : Fin cfg0.N) (k : Fin 128) : Fin 2176 := ⟨t.val % 17 * 128 + k.val, by omega⟩

theorem leftTerm (t : Fin cfg0.N) (k : Fin 128) (j : Fin 2048) : k0_pay5 (iblk m c 1 t) (iblk m c 3 t) (iblk m c 4 t) (ix2 k j)
    = unitLeft (V m c main_arg0) (V m c main_arg2) (V m c main_arg3) (row t k) j := by
  rw [left_at, unitLeft]
  blk_point [iblk, idx0 t, row, inRight]

theorem rightTerm (t : Fin cfg0.N) (k : Fin 128) (j : Fin 2048) :
    k0_pay6 (iblk m c 0 t) (iblk m c 1 t) (iblk m c 2 t) (iblk m c 3 t) (iblk m c 4 t) (ix2 k j)
    = unitRight (V m c main_arg0) (V m c main_arg1) (V m c main_arg2) (V m c main_arg3) (row t k) j := by
  rw [right_at, unitRight]
  blk_point [iblk, idx0 t, row, inLeft, inRight]

theorem emb5 (t : Fin cfg0.N) (k : Fin 128) (j : Fin 4096) : (win0_5.blk t).view.emb (ix2 k j) = ix2 (row t k) j := by
  blk_ext [idx0 t, row]

theorem emb6 (t : Fin cfg0.N) (r : Fin 1) (j : Fin 2048) : (win0_6.blk t).view.emb (ix2 r j) = ix2 r j := by blk_ext [idx0 t]
theorem emb7 (t : Fin cfg0.N) (r : Fin 1) (j : Fin 2048) : (win0_7.blk t).view.emb (ix2 r j) = ix2 r j := by blk_ext [idx0 t]

theorem row_run {n : ℕ} (s : Fin 17) (k : Fin 128) (h : 17 * n + s.val < cfg0.N) (hl : s.val * 128 + k.val < 2176) :
    row ⟨17 * n + s.val, h⟩ k = ⟨s.val * 128 + k.val, hl⟩ := Fin.ext (by simp [row, Nat.mod_eq_of_lt s.isLt])

theorem final5 : (dats m 0 c).arrAt 5 cfg0.N = beside (unitLeft (V m c main_arg0) (V m c main_arg2) (V m c main_arg3))
    (unitRight (V m c main_arg0) (V m c main_arg1) (V m c main_arg2) (V m c main_arg3)) := by
  refine (dats m 0 c).arrAt_eq_of_covers 5 _ (by decide +kernel) fun t hf y => ?_
  blk_simp
  have e : (outsAt0 m c t.val t.isLt).1 = k0_pay9 (iblk m c 0 t) (iblk m c 1 t) (iblk m c 2 t) (iblk m c 3 t) (iblk m c 4 t) := by
    have hN := lt_of_lt_of_eq t.isLt N_0
    by_cases h : t.val % 17 = 0
    · rw [outsAt0_A m c t h (by omega) h (by omega)]
      frame_out
    · rw [outsAt0_B m c t h (by omega) h (by omega)]
      frame_out
  rw [after0_5, e]
  obtain ⟨r, d, rfl⟩ := pair_idx y
  obtain ⟨j, rfl⟩ | ⟨j, rfl⟩ := inHalf d
  · rw [both_left, leftTerm, emb5 t r (inLeft j), beside_left]
  · rw [both_right, rightTerm, emb5 t r (inRight j), beside_right]

theorem final6 : (dats m 0 c).arrAt 6 cfg0.N = colSums (unitLeft (V m c main_arg0) (V m c main_arg2) (V m c main_arg3)) := by
  refine (dats m 0 c).arrAt_eq_of_covers 6 _ (by decide +kernel) fun t hf y => ?_
  have hl := (flush0_6 t).mp hf
  blk_simp
  rw [after0_6, show (outsAt0 m c t.val t.isLt).2.1 = gatherL m c t.val t.isLt from rfl,
    Pipeline.eq_sum_fin_of_reset_step_apply_of_flush (gatherL m c) 17 (fun _ => 0) (lefts m c) (gatherL_first m c) (gatherL_next m c) t hl y]
  obtain ⟨r, d, rfl⟩ := pair_idx y
  rw [zero_add]
  simp only [lefts, leftSum_at, leftTerm]
  rw [emb6 t r d]
  exact Fin.sum_mul_add_congr fun s k hl => congrArg (unitLeft _ _ _ · d) (row_run s k _ hl)

theorem final7 : (dats m 0 c).arrAt 7 cfg0.N
    = colSums (unitRight (V m c main_arg0) (V m c main_arg1) (V m c main_arg2) (V m c main_arg3)) := by
  refine (dats m 0 c).arrAt_eq_of_covers 7 _ (by decide +kernel) fun t hf y => ?_
  have hl := (flush0_7 t).mp hf
  blk_simp
  rw [after0_7, show (outsAt0 m c t.val t.isLt).2.2 = gatherR m c t.val t.isLt from rfl,
    Pipeline.eq_sum_fin_of_reset_step_apply_of_flush (gatherR m c) 17 (fun _ => 0) (rights m c) (gatherR_first m c) (gatherR_next m c) t hl y]
  obtain ⟨r, d, rfl⟩ := pair_idx y
  rw [zero_add]
  simp only [rights, rightSum_at, rightTerm]
  rw [emb7 t r d]
  exact Fin.sum_mul_add_congr fun s k hl => congrArg (unitRight _ _ _ _ · d) (row_run s k _ hl)

abbrev argZ : FVec Ideal S2176x4096 .f32 := m ((c.tc : Thread nD τ).loc main_arg0)
abbrev argP : FVec Ideal S1x2048 .f32 := m ((c.tc : Thread nD τ).loc main_arg1)
abbrev argQ : FVec Ideal S1x2048 .f32 := m ((c.tc : Thread nD τ).loc main_arg2)
abbrev argD : FVec Ideal S2176x2048 .f32 := m ((c.tc : Thread nD τ).loc main_arg3)

/-- Every execution ends with the three gradients and the arguments as launched. -/
theorem run : θ_run defs (onTc (τ := τ) (main (F := Ideal))) ⟨m, fun _ => 0, ρ⟩ (fun r => ∀ c : Dev nD,
      r.2.mem ((c.tc : Thread nD τ).loc main_v0_0)
        = beside (unitLeft (argZ m c) (argQ m c) (argD m c)) (unitRight (argZ m c) (argP m c) (argQ m c) (argD m c))
      ∧ r.2.mem ((c.tc : Thread nD τ).loc main_v0_1) = colSums (unitLeft (argZ m c) (argQ m c) (argD m c))
      ∧ r.2.mem ((c.tc : Thread nD τ).loc main_v0_2) = colSums (unitRight (argZ m c) (argP m c) (argQ m c) (argD m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 5).trans ((final5 m c).trans (by rw [V_main_arg0, V_main_arg1, V_main_arg2, V_main_arg3])),
     ((h c).1 6).trans ((final6 m c).trans (by rw [V_main_arg0, V_main_arg2, V_main_arg3])),
     ((h c).1 7).trans ((final7 m c).trans (by rw [V_main_arg0, V_main_arg1, V_main_arg2, V_main_arg3])),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 3).trans (((dats m 0 c).arrAt_in 3 rfl _).trans ((A_eq m c 3).trans (V_main_arg2 m c))),
     ((h c).1 4).trans (((dats m 0 c).arrAt_in 4 rfl _).trans ((A_eq m c 4).trans (V_main_arg3 m c)))⟩)
    (run_main m ρ)

end Cert.Kernel16Ideal.Results

end
-- ==== Proof.UnitReference.lean ====
/- The gated linear unit's gradient as the reference computes it, stage by stage, and its three results: the ones the call leaves. -/
module

public import proofs.«01_k».proof.Proof.UnitGrads
public import proofs.«01_k».proof.Proof.Gen.Reference16Ideal.Run

@[expose] public section

set_option maxRecDepth 16384

noncomputable section

namespace Cert.Reference16Ideal.Stages

open Cert.Reference16Ideal Cert.Reference16Ideal.Gen Cert.Reference16Ideal.Value Idealize.ShloMosaic Cert.Ffn
open Cert.Kernel2Ideal.Calls (pair_idx)

variable (z : FVec Ideal S2176x4096 .f32) (p q : FVec Ideal S1x2048 .f32) (d s x y : FVec Ideal S2176x2048 .f32)
  (r : Fin 2176) (j : Fin 2048)

/-! ### The stages -/

/-- The two halves of an array, a row added to each of their rows, -/
def leftArg : FVec Ideal S2176x2048 .f32 :=
  addf (extractStridedSlice S2176x2048 ![0, 0] z slices_S2176x4096_S2176x2048_0_0) (broadcastInDim S2176x2048 ![0, 1] bcast_S1x2048_S2176x2048_0_1 p)
def rightArg : FVec Ideal S2176x2048 .f32 :=
  addf (extractStridedSlice S2176x2048 ![0, 2048] z slices_S2176x4096_S2176x2048_0_2048) (broadcastInDim S2176x2048 ![0, 1] bcast_S1x2048_S2176x2048_0_1 q)
/-- the gate of every element, -/
def gates : FVec Ideal S2176x2048 .f32 :=
  Host.divf (broadcastInDim S2176x2048 ![] bcast_S_S2176x2048 (constant S_ .f32 0x3F800000#32))
    (addf (broadcastInDim S2176x2048 ![] bcast_S_S2176x2048 (constant S_ .f32 0x3F800000#32)) (Host.exp (Host.negf s)))
/-- its slope, -/
def slopes : FVec Ideal S2176x2048 .f32 :=
  mulf (gates s) (subf (broadcastInDim S2176x2048 ![] bcast_S_S2176x2048 (constant S_ .f32 0x3F800000#32)) (gates s))
/-- two arrays side by side, -/
def both : FVec Ideal S2176x4096 .bf16 :=
  truncf .bf16 (concatenate S2176x4096 1 [⟨S2176x2048, x⟩, ⟨S2176x2048, y⟩] concatenates_S2176x2048_S2176x2048_S2176x4096_d1) bitsLt_bf16_f32
/-- and the sum of every column. -/
def sums : FVec Ideal S1x2048 .f32 :=
  shapeCast S1x2048 (Host.reduceAdd x (constant S_ .f32 0x00000000#32) reducesTo_S2176x2048_S2048_d0 h_S_) shapeCasts_S2048_S1x2048

theorem leftArg_at : leftArg z p (ix2 r j) = z (ix2 r (inLeft j)) + p (ix2 0 j) := by pointwise [leftArg, inLeft]
theorem rightArg_at : rightArg z q (ix2 r j) = z (ix2 r (inRight j)) + q (ix2 0 j) := by pointwise [rightArg, inRight]

theorem gates_at : gates s (ix2 r j) = gate (s (ix2 r j)) := by
  pointwise [gates]
  rfl

theorem slopes_at : slopes s (ix2 r j) = gate (s (ix2 r j)) * (1 - gate (s (ix2 r j))) := by
  pointwise [slopes]
  rw [gates_at]

theorem both_left : both x y (ix2 r (inLeft j)) = x (ix2 r j) := by pointwise [both, inLeft]
theorem both_right : both x y (ix2 r (inRight j)) = y (ix2 r j) := by pointwise [both, inRight]
theorem sums_at (o : Fin 1) : sums x (ix2 o j) = ∑ r, x (ix2 r j) := by pointwise [sums]

/-- Two arrays known at every element, side by side, -/
theorem both_eq (f g : Fin 2176 → Fin 2048 → EReal) (hx : ∀ r j, x (ix2 r j) = f r j) (hy : ∀ r j, y (ix2 r j) = g r j) :
    both x y = beside f g := funext fun i => by
  obtain ⟨r, k, rfl⟩ := pair_idx i
  obtain ⟨j, rfl⟩ | ⟨j, rfl⟩ := inHalf k
  · rw [both_left, hx, beside_left]
  · rw [both_right, hy, beside_right]

/-- and an array's column sums. -/
theorem sums_eq (f : Fin 2176 → Fin 2048 → EReal) (hx : ∀ r j, x (ix2 r j) = f r j) : sums x = colSums f := funext fun i => by
  obtain ⟨o, j, rfl⟩ := pair_idx i
  rw [sums_at]
  exact Finset.sum_congr rfl fun r _ => hx r j

/-- The gradient of the gated factor, -/
def left : FVec Ideal S2176x2048 .f32 := mulf d (gates (rightArg z q))
/-- and of the gate's argument. -/
def right : FVec Ideal S2176x2048 .f32 := mulf (mulf (leftArg z p) d) (slopes (rightArg z q))

theorem left_at : left z q d (ix2 r j) = unitLeft z q d r j := by
  pointwise [left]
  rw [gates_at, rightArg_at]
  rfl

theorem right_at : right z p q d (ix2 r j) = unitRight z p q d r j := by
  pointwise [right]
  rw [slopes_at, rightArg_at, leftArg_at]
  rfl

/-! ### The three results -/

variable (μ : (ℓ : Loc nD τ sig) → Buf (Elt Ideal) ℓ) (c : Dev nD)

abbrev argZ : FVec Ideal S2176x4096 .f32 := μ ((c.tc : Thread nD τ).loc main_arg0)
abbrev argP : FVec Ideal S1x2048 .f32 := μ ((c.tc : Thread nD τ).loc main_arg1)
abbrev argQ : FVec Ideal S1x2048 .f32 := μ ((c.tc : Thread nD τ).loc main_arg2)
abbrev argD : FVec Ideal S2176x2048 .f32 := μ ((c.tc : Thread nD τ).loc main_arg3)

theorem run (ρ : Dev nD → PrngReg) : θ_run defs (onTc (τ := τ) (main (F := Ideal))) ⟨μ, fun _ => 0, ρ⟩ (fun r => ∀ c : Dev nD,
      r.2.mem ((c.tc : Thread nD τ).loc main_v24)
        = beside (unitLeft (argZ μ c) (argQ μ c) (argD μ c)) (unitRight (argZ μ c) (argP μ c) (argQ μ c) (argD μ c))
      ∧ r.2.mem ((c.tc : Thread nD τ).loc main_v22) = colSums (unitLeft (argZ μ c) (argQ μ c) (argD μ c))
      ∧ r.2.mem ((c.tc : Thread nD τ).loc main_v20) = colSums (unitRight (argZ μ c) (argP μ c) (argQ μ c) (argD μ c))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)) :=
  (θ_run defs _ _).mono (fun _ h c =>
    ⟨(h c).1.trans (both_eq _ _ _ _ (left_at (argZ μ c) (argQ μ c) (argD μ c)) (right_at (argZ μ c) (argP μ c) (argQ μ c) (argD μ c))),
     (h c).2.1.trans (sums_eq _ _ (left_at (argZ μ c) (argQ μ c) (argD μ c))),
     (h c).2.2.1.trans (sums_eq _ _ (right_at (argZ μ c) (argP μ c) (argQ μ c) (argD μ c))), (h c).2.2.2⟩)
    (Value.run (F := Ideal) μ ρ)

end Cert.Reference16Ideal.Stages

end
-- ==== Proof.NormReference.lean ====
/- The gradient of a norm as the reference computes it, stage by stage, and its three results: the ones the call leaves. -/
module

public import proofs.«01_k».proof.Proof.NormGrads
public import proofs.«01_k».proof.Proof.UnitReference
public import proofs.«01_k».proof.Proof.Gen.Reference14Ideal.Run

@[expose] public section

set_option maxRecDepth 16384

noncomputable section

namespace Cert.Reference14Ideal.Stages

open Cert.Reference14Ideal Cert.Reference14Ideal.Gen Cert.Reference14Ideal.Value Idealize.ShloMosaic Cert.Ffn
open Cert.Kernel2Ideal.Calls (pair_idx)
open Cert.Reference16Ideal.Stages (sums sums_eq)

variable (h : FVec Ideal S2176x2048 .f32) (g : FVec Ideal S1x2048 .f32) (d e x : FVec Ideal S2176x2048 .f32)
  (r : Fin 2176) (j : Fin 2048) (o : Fin 1)

/-! ### The stages -/

/-- The rows' mean squares, -/
def means : FVec Ideal S2176x1 .f32 :=
  addf (Host.divf
      (broadcastInDim S2176x1 ![0] bcast_S2176_S2176x1_0 (Host.reduceAdd (mulf h h) (constant S_ .f32 0x00000000#32) reducesTo_S2176x2048_S2176_d1 h_S_))
      (broadcastInDim S2176x1 ![] bcast_S_S2176x1 (constant S_ .f32 0x45000000#32)))
    (broadcastInDim S2176x1 ![] bcast_S_S2176x1 (constant S_ .f32 0x358637BD#32))
/-- the gradient of their normalised elements, -/
def scaled : FVec Ideal S2176x2048 .f32 := mulf d (broadcastInDim S2176x2048 ![0, 1] bcast_S1x2048_S2176x2048_0_1 g)
/-- what comes through the mean square, -/
def part : FVec Ideal S2176x1 .f32 :=
  Host.divf (mulf (shapeCast S2176x1 (Host.reduceAdd (mulf h x) (constant S_ .f32 0x00000000#32) reducesTo_S2176x2048_S2176_d1 h_S_) shapeCasts_S2176_S2176x1)
      (mulf (broadcastInDim S2176x1 ![] bcast_S_S2176x1 (constant S_ .f32 0xBF000000#32)) (Host.divf (Host.rsqrt (means h)) (means h))))
    (broadcastInDim S2176x1 ![] bcast_S_S2176x1 (constant S_ .f32 0x45000000#32))
/-- at every element of its row, -/
def share : FVec Ideal S2176x2048 .f32 :=
  broadcastInDim S2176x2048 ![0] bcast_S2176_S2176x2048_0
    (Host.reduceAdd (part h x) (constant S_ .f32 0x00000000#32) reducesTo_S2176x1_S2176_d1 h_S_)
/-- the norm's gradient, -/
def grad : FVec Ideal S2176x2048 .f32 :=
  addf (addf (addf (mulf x (broadcastInDim S2176x2048 ![0, 1] bcast_S2176x1_S2176x2048_0_1 (Host.rsqrt (means h)))) (mulf h (share h x)))
    (mulf (share h x) h)) e
/-- and the scale's at a row. -/
def scale : FVec Ideal S2176x2048 .f32 :=
  mulf (mulf h (broadcastInDim S2176x2048 ![0, 1] bcast_S2176x1_S2176x2048_0_1 (Host.rsqrt (means h)))) d

theorem means_at : means h (ix2 r o) = rowMean full (rowOf h r) := by
  pointwise [means]
  rfl

theorem scaled_at : scaled g d (ix2 r j) = d (ix2 r j) * g (ix2 0 j) := by pointwise [scaled]

theorem part_at : part h x (ix2 r o) = rowShare full (rowOf h r) (rowOf x r) := by
  pointwise [part]
  rw [means_at]
  rfl

theorem share_at : share h x (ix2 r j) = rowShare full (rowOf h r) (rowOf x r) := by
  pointwise [share]
  simp only [part_at, Finset.univ_unique, Finset.sum_const, Finset.card_singleton, one_smul]
  rfl

theorem grad_at : grad h e (scaled g d) (ix2 r j) = normGrad h g d e r j := by
  have hs : rowOf (scaled g d) r = rowGrad g d r := funext fun l => scaled_at g d r l
  pointwise [grad]
  rw [share_at, means_at, scaled_at, hs]
  rfl

theorem scale_at : scale h d (ix2 r j) = scaleGrad h d r j := by
  pointwise [scale]
  rw [means_at]
  rfl

/-- An array known at every element, in either type. -/
theorem rows_eq (f : Fin 2176 → Fin 2048 → EReal) (hx : ∀ r j, x (ix2 r j) = f r j) :
    x = rows .f32 f ∧ truncf .bf16 x bitsLt_bf16_f32 = rows .bf16 f := by
  constructor <;> refine funext fun i => ?_ <;> obtain ⟨r, j, rfl⟩ := pair_idx i <;> exact hx r j

/-! ### The three results -/

variable (μ : (ℓ : Loc nD τ sig) → Buf (Elt Ideal) ℓ) (c : Dev nD)

abbrev argH : FVec Ideal S2176x2048 .f32 := μ ((c.tc : Thread nD τ).loc main_arg0)
abbrev argG : FVec Ideal S1x2048 .f32 := μ ((c.tc : Thread nD τ).loc main_arg1)
abbrev argD : FVec Ideal S2176x2048 .f32 := μ ((c.tc : Thread nD τ).loc main_arg2)
abbrev argE : FVec Ideal S2176x2048 .f32 := μ ((c.tc : Thread nD τ).loc main_arg3)

theorem run (ρ : Dev nD → PrngReg) : θ_run defs (onTc (τ := τ) (main (F := Ideal))) ⟨μ, fun _ => 0, ρ⟩ (fun r => ∀ c : Dev nD,
      r.2.mem ((c.tc : Thread nD τ).loc main_v34) = rows .f32 (normGrad (argH μ c) (argG μ c) (argD μ c) (argE μ c))
      ∧ r.2.mem ((c.tc : Thread nD τ).loc main_v35) = rows .bf16 (normGrad (argH μ c) (argG μ c) (argD μ c) (argE μ c))
      ∧ r.2.mem ((c.tc : Thread nD τ).loc main_v17) = colSums (scaleGrad (argH μ c) (argD μ c))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)) :=
  (θ_run defs _ _).mono (fun _ h c =>
    ⟨(h c).1.trans (rows_eq _ _ (grad_at (argH μ c) (argG μ c) (argD μ c) (argE μ c))).1,
     (h c).2.1.trans (rows_eq _ _ (grad_at (argH μ c) (argG μ c) (argD μ c) (argE μ c))).2,
     (h c).2.2.1.trans (sums_eq _ _ (scale_at (argH μ c) (argD μ c))), (h c).2.2.2⟩)
    (Value.run (F := Ideal) μ ρ)

end Cert.Reference14Ideal.Stages

end
-- ==== Proof.GateGrads.lean ====
/- The gradient of the two mixers' gated sum: 128 rows at a point of either mixer's gradient and of the gates' arguments, and the
   biases' gradients, the sums of their columns, gathered over the seventeen points. -/
module

public import proofs.«01_k».proof.Proof.Gates
public import proofs.«01_k».proof.Proof.Gen.Kernel15Ideal.Frame
public import Idealize.ShloMosaic.Lib.Pipeline.ReadBack
public import Idealize.ShloMosaic.Lib.Pipeline.ValueKit.Acc

@[expose] public section

set_option maxRecDepth 16384

noncomputable section

namespace Cert.Ffn

open Idealize.ShloMosaic

section Gated
variable (y : FVec Ideal ⟨2, ![2176, 2048]⟩ .f32) (b : FVec Ideal ⟨2, ![1, 2048]⟩ .f32) (z : FVec Ideal ⟨2, ![2176, 4096]⟩ .f32)
  (p : FVec Ideal ⟨2, ![1, 2048]⟩ .f32) (d : FVec Ideal ⟨2, ![2176, 2048]⟩ .f32) (side : Fin 2048 → Fin 4096) (r : Fin 2176) (j : Fin 2048)

/-- The gradient of a gated array, its gate's argument the half `side` of `z` with `p` added, -/
def mixGrad : EReal := gate (z (ix2 r (side j)) + p (ix2 0 j)) * d (ix2 r j)
/-- of the gate's argument, -/
def mixArg : EReal := dArg (d (ix2 r j) * y (ix2 r j)) (z (ix2 r (side j)) + p (ix2 0 j))
/-- and of it where the gated array has a bias `b`. -/
def mixArgPlus : EReal := dArg (d (ix2 r j) * (y (ix2 r j) + b (ix2 0 j))) (z (ix2 r (side j)) + p (ix2 0 j))

end Gated

end Cert.Ffn

namespace Cert.Kernel15Ideal.Results

open Idealize.ShloMosaic Idealize.ShloMosaic.TcCoe Idealize.SL.Sem
open Cert.Kernel15Ideal Cert.Kernel15Ideal.Gen Cert.Ffn
open Cert.Kernel2Ideal.Calls (pair_idx)

/-! ### A point's terms -/

section Point
variable (y d z w : Vec Ideal S128x2048 .f32) (b p : Vec Ideal S1x2048 .f32) (k : Fin 128) (j : Fin 2048)

theorem exp1 : k0_pay4 z p (ix2 k j) = Ideal.exp (0 - (z (ix2 k j) + p (ix2 0 j))) := by pointwise [k0_pay4]
theorem exp2 : k0_pay9 z p (ix2 k j) = Ideal.exp (0 - (z (ix2 k j) + p (ix2 0 j))) := by pointwise [k0_pay9]

theorem under1 : k0_pay5 z p (ix2 k j) = 1 + Ideal.exp (0 - (z (ix2 k j) + p (ix2 0 j))) := by
  pointwise [k0_pay5]
  rw [exp1]
theorem under2 : k0_pay10 z p (ix2 k j) = 1 + Ideal.exp (0 - (z (ix2 k j) + p (ix2 0 j))) := by
  pointwise [k0_pay10]
  rw [exp2]

theorem gate1 : k0_pay6 z p (ix2 k j) = gate (z (ix2 k j) + p (ix2 0 j)) := by
  pointwise [k0_pay6]
  rw [under1, zero_sub]
  rfl
theorem gate2 : k0_pay11 z p (ix2 k j) = gate (z (ix2 k j) + p (ix2 0 j)) := by
  pointwise [k0_pay11]
  rw [under2, zero_sub]
  rfl

theorem over1 : k0_pay7 z p (ix2 k j) = Ideal.div 1 (k0_pay5 z p (ix2 k j) * k0_pay5 z p (ix2 k j)) := by pointwise [k0_pay7]
theorem over2 : k0_pay12 z p (ix2 k j) = Ideal.div 1 (k0_pay10 z p (ix2 k j) * k0_pay10 z p (ix2 k j)) := by pointwise [k0_pay12]

theorem biased_at : k0_pay8 y b (ix2 k j) = y (ix2 k j) + b (ix2 0 j) := by pointwise [k0_pay8]
theorem same1 : k0_pay13 d (ix2 k j) = d (ix2 k j) := by pointwise [k0_pay13]
theorem same2 : k0_pay14 d (ix2 k j) = d (ix2 k j) := by pointwise [k0_pay14]

theorem conv_at : k0_pay17 (k0_pay6 z p) (k0_pay13 d) (ix2 k j) = gate (z (ix2 k j) + p (ix2 0 j)) * d (ix2 k j) := by
  pointwise [k0_pay17]
  rw [gate1, same1]

theorem convOut_at : k0_pay21 (k0_pay6 z p) (k0_pay13 d) (ix2 k j) = k0_pay17 (k0_pay6 z p) (k0_pay13 d) (ix2 k j) := by
  pointwise [k0_pay21]

theorem attn_at : k0_pay22 d (k0_pay11 z p) (ix2 k j) = gate (z (ix2 k j) + p (ix2 0 j)) * d (ix2 k j) := by
  pointwise [k0_pay22]
  rw [gate2, same2]

theorem arg1_at : k0_pay19 (k0_pay4 z p) (k0_pay7 z p) (k0_pay8 y b) (k0_pay13 d) (ix2 k j)
    = dArg (d (ix2 k j) * (y (ix2 k j) + b (ix2 0 j))) (z (ix2 k j) + p (ix2 0 j)) := by
  have h : k0_pay19 (k0_pay4 z p) (k0_pay7 z p) (k0_pay8 y b) (k0_pay13 d) (ix2 k j)
      = 0 - (0 - k0_pay13 d (ix2 k j) * k0_pay8 y b (ix2 k j) * k0_pay7 z p (ix2 k j) * 1) * k0_pay4 z p (ix2 k j) := by
    pointwise [k0_pay19]
  rw [h, over1, under1, exp1, biased_at, same1]
  exact dArg_eq _ _

theorem arg2_at : k0_pay15 y d (k0_pay9 z p) (k0_pay12 z p) (ix2 k j) = dArg (d (ix2 k j) * y (ix2 k j)) (z (ix2 k j) + p (ix2 0 j)) := by
  have h : k0_pay15 y d (k0_pay9 z p) (k0_pay12 z p) (ix2 k j)
      = 0 - (0 - k0_pay14 d (ix2 k j) * y (ix2 k j) * k0_pay12 z p (ix2 k j) * 1) * k0_pay9 z p (ix2 k j) := by
    pointwise [k0_pay15]
  rw [h, over2, under2, exp2, same2]
  exact dArg_eq _ _

theorem sum1_at (u v : FVec Ideal S128x2048 .f32) (o : Fin 1) : k0_pay18 u v (ix2 o j) = ∑ k, k0_pay17 u v (ix2 k j) := by pointwise [k0_pay18]
theorem sum2_at (s t u v : FVec Ideal S128x2048 .f32) (o : Fin 1) : k0_pay20 s t u v (ix2 o j) = ∑ k, k0_pay19 s t u v (ix2 k j) := by
  pointwise [k0_pay20]
theorem sum3_at (s t u v : FVec Ideal S128x2048 .f32) (o : Fin 1) : k0_pay16 s t u v (ix2 o j) = ∑ k, k0_pay15 s t u v (ix2 k j) := by
  pointwise [k0_pay16]

theorem both_left (s t u v u' v' : FVec Ideal S128x2048 .f32) :
    k0_pay23 y d s t u u' v' v (ix2 k (inLeft j)) = k0_pay19 s t u v (ix2 k j) := by
  pointwise [k0_pay23, inLeft]
theorem both_right (s t u v u' v' : FVec Ideal S128x2048 .f32) :
    k0_pay23 y d s t u u' v' v (ix2 k (inRight j)) = k0_pay15 y d u' v' (ix2 k j) := by
  pointwise [k0_pay23, inRight]

theorem add1 (v w : Vec Ideal S1x2048 .f32) (i : S1x2048.Idx) : k0_pay1 v w i = w i + v i := by
  obtain ⟨r, j, rfl⟩ := pair_idx i
  pointwise [k0_pay1]
theorem add2 (v w : Vec Ideal S1x2048 .f32) (i : S1x2048.Idx) : k0_pay2 v w i = w i + v i := by
  obtain ⟨r, j, rfl⟩ := pair_idx i
  pointwise [k0_pay2]
theorem add3 (v w : Vec Ideal S1x2048 .f32) (i : S1x2048.Idx) : k0_pay3 v w i = w i + v i := by
  obtain ⟨r, j, rfl⟩ := pair_idx i
  pointwise [k0_pay3]

end Point

variable (m : (ℓ : Loc nD τ sig) → Buf (Elt Ideal) ℓ) (ρ : Dev nD → PrngReg) (c : Dev nD)

/-! ### What a point leaves -/

/-- The terms of a point, -/
abbrev convs (t : Fin cfg0.N) := k0_pay17 (k0_pay6 (iblk m c 3 t) (iblk m c 5 t)) (k0_pay13 (iblk m c 7 t))
abbrev args1 (t : Fin cfg0.N) := k0_pay19 (k0_pay4 (iblk m c 3 t) (iblk m c 5 t)) (k0_pay7 (iblk m c 3 t) (iblk m c 5 t))
  (k0_pay8 (iblk m c 0 t) (iblk m c 1 t)) (k0_pay13 (iblk m c 7 t))
abbrev args2 (t : Fin cfg0.N) := k0_pay15 (iblk m c 2 t) (iblk m c 7 t) (k0_pay9 (iblk m c 4 t) (iblk m c 6 t))
  (k0_pay12 (iblk m c 4 t) (iblk m c 6 t))
/-- and their column sums. -/
abbrev sums1 (t : Fin cfg0.N) := k0_pay18 (k0_pay6 (iblk m c 3 t) (iblk m c 5 t)) (k0_pay13 (iblk m c 7 t))
abbrev sums2 (t : Fin cfg0.N) := k0_pay20 (k0_pay4 (iblk m c 3 t) (iblk m c 5 t)) (k0_pay7 (iblk m c 3 t) (iblk m c 5 t))
  (k0_pay8 (iblk m c 0 t) (iblk m c 1 t)) (k0_pay13 (iblk m c 7 t))
abbrev sums3 (t : Fin cfg0.N) := k0_pay16 (iblk m c 2 t) (iblk m c 7 t) (k0_pay9 (iblk m c 4 t) (iblk m c 6 t))
  (k0_pay12 (iblk m c 4 t) (iblk m c 6 t))

/-- The column sums gathered after a point. -/
def gather1 (n : ℕ) (h : n < cfg0.N) : S1x2048.Idx → EReal := (outsAt0 m c n h).2.2.2.1
def gather2 (n : ℕ) (h : n < cfg0.N) : S1x2048.Idx → EReal := (outsAt0 m c n h).2.2.2.2.1
def gather3 (n : ℕ) (h : n < cfg0.N) : S1x2048.Idx → EReal := (outsAt0 m c n h).2.2.2.2.2

theorem first (t : Fin cfg0.N) (h : t.val % 17 = 0) (i : S1x2048.Idx) : gather1 m c t.val t.isLt i = 0 + sums1 m c t i
    ∧ gather2 m c t.val t.isLt i = 0 + sums2 m c t i ∧ gather3 m c t.val t.isLt i = 0 + sums3 m c t i := by
  have h1 : ¬1 ≤ t.val := by have := lt_of_lt_of_eq t.isLt N_0; omega
  rw [gather1, gather2, gather3, outsAt0_A m c t h h1 h h1 h h1, zero_add, zero_add, zero_add]
  refine ⟨?_, ?_, ?_⟩ <;> frame_out

theorem next (t : Fin cfg0.N) (h : ¬t.val % 17 = 0) (i : S1x2048.Idx) :
    gather1 m c t.val t.isLt i = gather1 m c (t.val - 1) (Nat.lt_of_le_of_lt (Nat.sub_le _ _) t.isLt) i + sums1 m c t i
    ∧ gather2 m c t.val t.isLt i = gather2 m c (t.val - 1) (Nat.lt_of_le_of_lt (Nat.sub_le _ _) t.isLt) i + sums2 m c t i
    ∧ gather3 m c t.val t.isLt i = gather3 m c (t.val - 1) (Nat.lt_of_le_of_lt (Nat.sub_le _ _) t.isLt) i + sums3 m c t i := by
  have h1 : 1 ≤ t.val := by omega
  rw [gather1, gather2, gather3, gather1, gather2, gather3, outsAt0_B m c t h h1 h h1 h h1]
  refine ⟨?_, ?_, ?_⟩
  · frame_out
    rw [add1]
  · frame_out
    rw [add2]
  · frame_out
    rw [add3]

/-- What a point stores in the three arrays of rows. -/
theorem stored (t : Fin cfg0.N) :
    (outsAt0 m c t.val t.isLt).1 = k0_pay21 (k0_pay6 (iblk m c 3 t) (iblk m c 5 t)) (k0_pay13 (iblk m c 7 t))
    ∧ (outsAt0 m c t.val t.isLt).2.1 = k0_pay22 (iblk m c 7 t) (k0_pay11 (iblk m c 4 t) (iblk m c 6 t))
    ∧ (outsAt0 m c t.val t.isLt).2.2.1 = k0_pay23 (iblk m c 2 t) (iblk m c 7 t) (k0_pay4 (iblk m c 3 t) (iblk m c 5 t))
      (k0_pay7 (iblk m c 3 t) (iblk m c 5 t)) (k0_pay8 (iblk m c 0 t) (iblk m c 1 t)) (k0_pay9 (iblk m c 4 t) (iblk m c 6 t))
      (k0_pay12 (iblk m c 4 t) (iblk m c 6 t)) (k0_pay13 (iblk m c 7 t)) := by
  have hN := lt_of_lt_of_eq t.isLt N_0
  by_cases h : t.val % 17 = 0
  · rw [outsAt0_A m c t h (by omega) h (by omega) h (by omega)]
    refine ⟨?_, ?_, ?_⟩ <;> frame_out
  · rw [outsAt0_B m c t h (by omega) h (by omega) h (by omega)]
    refine ⟨?_, ?_, ?_⟩ <;> frame_out

/-! ### What the call leaves -/

theorem idx0 : ∀ t : Fin cfg0.N, win0_0.index t = ![t.val % 17, 0] ∧ win0_1.index t = ![0, 0] ∧ win0_2.index t = ![t.val % 17, 0]
    ∧ win0_3.index t = ![t.val % 17, 0] ∧ win0_4.index t = ![t.val % 17, 1] ∧ win0_5.index t = ![0, 0] ∧ win0_6.index t = ![0, 0]
    ∧ win0_7.index t = ![t.val % 17, 0] ∧ win0_8.index t = ![t.val % 17, 0] ∧ win0_9.index t = ![t.val % 17, 0]
    ∧ win0_10.index t = ![t.val % 17, 0] ∧ win0_11.index t = ![0, 0] ∧ win0_12.index t = ![0, 0] ∧ win0_13.index t = ![0, 0] :=
  (by decide +kernel : ∀ t : Fin grid0.N, _)

/-- A point's row. -/
def row (t : Fin cfg0.N) (k : Fin 128) : Fin 2176 := ⟨t.val % 17 * 128 + k.val, by omega⟩

theorem row_run {n : ℕ} (s : Fin 17) (k : Fin 128) (h : 17 * n + s.val < cfg0.N) (hl : s.val * 128 + k.val < 2176) :
    row ⟨17 * n + s.val, h⟩ k = ⟨s.val * 128 + k.val, hl⟩ := Fin.ext (by simp [row, Nat.mod_eq_of_lt s.isLt])

section Terms
variable (t : Fin cfg0.N) (k : Fin 128) (j : Fin 2048)

/-- The three gradients of the arguments' arrays at an element. -/
abbrev convGrad := mixGrad (V m c main_arg3) (V m c main_arg4) (V m c main_arg6) inLeft
abbrev attnGrad := mixGrad (V m c main_arg3) (V m c main_arg5) (V m c main_arg6) inRight
abbrev convArg := mixArgPlus (V m c main_arg0) (V m c main_arg1) (V m c main_arg3) (V m c main_arg4) (V m c main_arg6) inLeft
abbrev attnArg := mixArg (V m c main_arg2) (V m c main_arg3) (V m c main_arg5) (V m c main_arg6) inRight

theorem convTerm : convs m c t (ix2 k j) = convGrad m c (row t k) j := by
  unfold convs convGrad
  rw [conv_at, mixGrad]
  blk_point [iblk, idx0 t, row, inLeft]

theorem attnTerm : k0_pay22 (iblk m c 7 t) (k0_pay11 (iblk m c 4 t) (iblk m c 6 t)) (ix2 k j) = attnGrad m c (row t k) j := by
  unfold attnGrad
  rw [attn_at, mixGrad]
  blk_point [iblk, idx0 t, row, inRight]

theorem argTerm1 : args1 m c t (ix2 k j) = convArg m c (row t k) j := by
  unfold args1 convArg
  rw [arg1_at, mixArgPlus]
  blk_point [iblk, idx0 t, row, inLeft]

theorem argTerm2 : args2 m c t (ix2 k j) = attnArg m c (row t k) j := by
  unfold args2 attnArg
  rw [arg2_at, mixArg]
  blk_point [iblk, idx0 t, row, inRight]

theorem emb8 : (win0_8.blk t).view.emb (ix2 k j) = ix2 (row t k) j := by blk_ext [idx0 t, row]
theorem emb9 : (win0_9.blk t).view.emb (ix2 k j) = ix2 (row t k) j := by blk_ext [idx0 t, row]
theorem emb10 (j : Fin 4096) : (win0_10.blk t).view.emb (ix2 k j) = ix2 (row t k) j := by blk_ext [idx0 t, row]
theorem emb11 (o : Fin 1) : (win0_11.blk t).view.emb (ix2 o j) = ix2 o j := by blk_ext [idx0 t]
theorem emb12 (o : Fin 1) : (win0_12.blk t).view.emb (ix2 o j) = ix2 o j := by blk_ext [idx0 t]
theorem emb13 (o : Fin 1) : (win0_13.blk t).view.emb (ix2 o j) = ix2 o j := by blk_ext [idx0 t]

end Terms

theorem final8 : (dats m 0 c).arrAt 8 cfg0.N = rows .bf16 (convGrad m c) := by
  refine (dats m 0 c).arrAt_eq_of_covers 8 _ (by decide +kernel) fun t hf y => ?_
  blk_simp
  obtain ⟨r, d, rfl⟩ := pair_idx y
  rw [after0_8, (stored m c t).1, convOut_at, emb8 t r d]
  exact convTerm m c t r d

theorem final9 : (dats m 0 c).arrAt 9 cfg0.N = rows .bf16 (attnGrad m c) := by
  refine (dats m 0 c).arrAt_eq_of_covers 9 _ (by decide +kernel) fun t hf y => ?_
  blk_simp
  obtain ⟨r, d, rfl⟩ := pair_idx y
  rw [after0_9, (stored m c t).2.1, emb9 t r d]
  exact attnTerm m c t r d

theorem final10 : (dats m 0 c).arrAt 10 cfg0.N = beside (convArg m c) (attnArg m c) := by
  refine (dats m 0 c).arrAt_eq_of_covers 10 _ (by decide +kernel) fun t hf y => ?_
  blk_simp
  obtain ⟨r, d, rfl⟩ := pair_idx y
  rw [after0_10, (stored m c t).2.2]
  obtain ⟨j, rfl⟩ | ⟨j, rfl⟩ := inHalf d
  · rw [both_left, emb10 t r (inLeft j), beside_left]
    exact argTerm1 m c t r j
  · rw [both_right, emb10 t r (inRight j), beside_right]
    exact argTerm2 m c t r j

theorem final11 : (dats m 0 c).arrAt 11 cfg0.N = colSums (convGrad m c) := by
  refine (dats m 0 c).arrAt_eq_of_covers 11 _ (by decide +kernel) fun t hf y => ?_
  blk_simp
  rw [after0_11, show (outsAt0 m c t.val t.isLt).2.2.2.1 = gather1 m c t.val t.isLt from rfl,
    Pipeline.eq_sum_fin_of_reset_step_apply_of_flush (gather1 m c) 17 (fun _ => 0) (sums1 m c) (fun t h i => (first m c t h i).1)
      (fun t h i => (next m c t h i).1) t ((flush0_11 t).mp hf) y]
  obtain ⟨o, d, rfl⟩ := pair_idx y
  rw [zero_add, emb11 t d o]
  simp only [sums1, sum1_at, convTerm]
  exact Fin.sum_mul_add_congr fun s k hl => congrArg (convGrad m c · d) (row_run s k _ hl)

theorem final12 : (dats m 0 c).arrAt 12 cfg0.N = colSums (convArg m c) := by
  refine (dats m 0 c).arrAt_eq_of_covers 12 _ (by decide +kernel) fun t hf y => ?_
  blk_simp
  rw [after0_12, show (outsAt0 m c t.val t.isLt).2.2.2.2.1 = gather2 m c t.val t.isLt from rfl,
    Pipeline.eq_sum_fin_of_reset_step_apply_of_flush (gather2 m c) 17 (fun _ => 0) (sums2 m c) (fun t h i => (first m c t h i).2.1)
      (fun t h i => (next m c t h i).2.1) t ((flush0_12 t).mp hf) y]
  obtain ⟨o, d, rfl⟩ := pair_idx y
  rw [zero_add, emb12 t d o]
  simp only [sums2, sum2_at, argTerm1]
  exact Fin.sum_mul_add_congr fun s k hl => congrArg (convArg m c · d) (row_run s k _ hl)

theorem final13 : (dats m 0 c).arrAt 13 cfg0.N = colSums (attnArg m c) := by
  refine (dats m 0 c).arrAt_eq_of_covers 13 _ (by decide +kernel) fun t hf y => ?_
  blk_simp
  rw [after0_13, show (outsAt0 m c t.val t.isLt).2.2.2.2.2 = gather3 m c t.val t.isLt from rfl,
    Pipeline.eq_sum_fin_of_reset_step_apply_of_flush (gather3 m c) 17 (fun _ => 0) (sums3 m c) (fun t h i => (first m c t h i).2.2)
      (fun t h i => (next m c t h i).2.2) t ((flush0_13 t).mp hf) y]
  obtain ⟨o, d, rfl⟩ := pair_idx y
  rw [zero_add, emb13 t d o]
  simp only [sums3, sum3_at, argTerm2]
  exact Fin.sum_mul_add_congr fun s k hl => congrArg (attnArg m c · d) (row_run s k _ hl)

abbrev argY : FVec Ideal S2176x2048 .f32 := m ((c.tc : Thread nD τ).loc main_arg0)
abbrev argB : FVec Ideal S1x2048 .f32 := m ((c.tc : Thread nD τ).loc main_arg1)
abbrev argA : FVec Ideal S2176x2048 .f32 := m ((c.tc : Thread nD τ).loc main_arg2)
abbrev argZ : FVec Ideal S2176x4096 .f32 := m ((c.tc : Thread nD τ).loc main_arg3)
abbrev argP : FVec Ideal S1x2048 .f32 := m ((c.tc : Thread nD τ).loc main_arg4)
abbrev argQ : FVec Ideal S1x2048 .f32 := m ((c.tc : Thread nD τ).loc main_arg5)
abbrev argD : FVec Ideal S2176x2048 .f32 := m ((c.tc : Thread nD τ).loc main_arg6)

/-- Every execution ends with the six gradients and the arguments as launched. -/
theorem run : θ_run defs (onTc (τ := τ) (main (F := Ideal))) ⟨m, fun _ => 0, ρ⟩ (fun r => ∀ c : Dev nD,
      r.2.mem ((c.tc : Thread nD τ).loc main_v0_0)
        = rows .bf16 (mixGrad (argZ m c) (argP m c) (argD m c) inLeft)
      ∧ r.2.mem ((c.tc : Thread nD τ).loc main_v0_1)
        = rows .bf16 (mixGrad (argZ m c) (argQ m c) (argD m c) inRight)
      ∧ r.2.mem ((c.tc : Thread nD τ).loc main_v0_2)
        = beside (mixArgPlus (argY m c) (argB m c) (argZ m c) (argP m c) (argD m c) inLeft)
          (mixArg (argA m c) (argZ m c) (argQ m c) (argD m c) inRight)
      ∧ r.2.mem ((c.tc : Thread nD τ).loc main_v0_3)
        = colSums (mixGrad (argZ m c) (argP m c) (argD m c) inLeft)
      ∧ r.2.mem ((c.tc : Thread nD τ).loc main_v0_4)
        = colSums (mixArgPlus (argY m c) (argB m c) (argZ m c) (argP m c) (argD m c) inLeft)
      ∧ r.2.mem ((c.tc : Thread nD τ).loc main_v0_5)
        = colSums (mixArg (argA m c) (argZ m c) (argQ m c) (argD m c) inRight)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 8).trans ((final8 m c).trans (by unfold convGrad; rw [V_main_arg3, V_main_arg4, V_main_arg6])),
     ((h c).1 9).trans ((final9 m c).trans (by unfold attnGrad; rw [V_main_arg3, V_main_arg5, V_main_arg6])),
     ((h c).1 10).trans ((final10 m c).trans (by unfold convArg attnArg; rw [V_main_arg0, V_main_arg1, V_main_arg2, V_main_arg3, V_main_arg4, V_main_arg5, V_main_arg6])),
     ((h c).1 11).trans ((final11 m c).trans (by unfold convGrad; rw [V_main_arg3, V_main_arg4, V_main_arg6])),
     ((h c).1 12).trans ((final12 m c).trans (by unfold convArg; rw [V_main_arg0, V_main_arg1, V_main_arg3, V_main_arg4, V_main_arg6])),
     ((h c).1 13).trans ((final13 m c).trans (by unfold attnArg; rw [V_main_arg2, V_main_arg3, V_main_arg5, V_main_arg6])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 5).trans (((dats m 0 c).arrAt_in 5 rfl _).trans ((A_eq m c 5).trans (V_main_arg4 m c))),
     ((h c).1 6).trans (((dats m 0 c).arrAt_in 6 rfl _).trans ((A_eq m c 6).trans (V_main_arg5 m c))),
     ((h c).1 7).trans (((dats m 0 c).arrAt_in 7 rfl _).trans ((A_eq m c 7).trans (V_main_arg6 m c)))⟩)
    (run_main m ρ)

end Cert.Kernel15Ideal.Results

end
-- ==== Proof.GateReference.lean ====
/- The gradient of the two mixers' gated sum as the reference computes it, and its six results: the ones the call leaves. Its stages
   are those of the gated linear unit's. -/
module

public import proofs.«01_k».proof.Proof.GateGrads
public import proofs.«01_k».proof.Proof.UnitReference
public import proofs.«01_k».proof.Proof.Gen.Reference15Ideal.Run

@[expose] public section

set_option maxRecDepth 16384

noncomputable section

namespace Cert.Reference15Ideal.Stages

open Cert.Reference15Ideal Cert.Reference15Ideal.Gen Cert.Reference15Ideal.Value Idealize.ShloMosaic Cert.Ffn
open Cert.Kernel2Ideal.Calls (pair_idx)
open Cert.Reference16Ideal.Stages (leftArg leftArg_at rightArg rightArg_at gates gates_at slopes slopes_at both both_eq sums sums_eq)

variable (y : FVec Ideal S2176x2048 .f32) (b : FVec Ideal S1x2048 .f32) (z : FVec Ideal S2176x4096 .f32) (p : FVec Ideal S1x2048 .f32)
  (d : FVec Ideal S2176x2048 .f32) (r : Fin 2176) (j : Fin 2048)

/-- The result's gradient. -/
def same : FVec Ideal S2176x2048 .f32 := shapeCast S2176x2048 d shapeCasts_S2176x2048_S2176x2048
theorem same_at : same d (ix2 r j) = d (ix2 r j) := by pointwise [same]

/-- A gated array's gradient, for the left gates and for the right, -/
def conv : FVec Ideal S2176x2048 .f32 := mulf (gates (leftArg z p)) (same d)
def attn : FVec Ideal S2176x2048 .f32 := mulf (gates (rightArg z p)) (same d)
/-- and the gradients of the gates' arguments. -/
def argsC : FVec Ideal S2176x2048 .f32 :=
  mulf (mulf (same d) (addf y (broadcastInDim S2176x2048 ![0, 1] bcast_S1x2048_S2176x2048_0_1 b))) (slopes (leftArg z p))
def argsA : FVec Ideal S2176x2048 .f32 := mulf (mulf (same d) y) (slopes (rightArg z p))

theorem conv_at : conv z p d (ix2 r j) = mixGrad z p d inLeft r j := by
  pointwise [conv]
  rw [gates_at, leftArg_at, same_at]
  rfl

theorem attn_at : attn z p d (ix2 r j) = mixGrad z p d inRight r j := by
  pointwise [attn]
  rw [gates_at, rightArg_at, same_at]
  rfl

theorem argsC_at : argsC y b z p d (ix2 r j) = mixArgPlus y b z p d inLeft r j := by
  pointwise [argsC]
  rw [slopes_at, leftArg_at, same_at]
  rfl

theorem argsA_at : argsA y z p d (ix2 r j) = mixArg y z p d inRight r j := by
  pointwise [argsA]
  rw [slopes_at, rightArg_at, same_at]
  rfl

/-- An array known at every element, in the shorter type. -/
theorem rows_eq (x : FVec Ideal S2176x2048 .f32) (f : Fin 2176 → Fin 2048 → EReal) (hx : ∀ r j, x (ix2 r j) = f r j) :
    truncf .bf16 x bitsLt_bf16_f32 = rows .bf16 f := funext fun i => by
  obtain ⟨r, j, rfl⟩ := pair_idx i
  exact hx r j

/-! ### The six results -/

variable (μ : (ℓ : Loc nD τ sig) → Buf (Elt Ideal) ℓ) (c : Dev nD)

abbrev argY : FVec Ideal S2176x2048 .f32 := μ ((c.tc : Thread nD τ).loc main_arg0)
abbrev argB : FVec Ideal S1x2048 .f32 := μ ((c.tc : Thread nD τ).loc main_arg1)
abbrev argA : FVec Ideal S2176x2048 .f32 := μ ((c.tc : Thread nD τ).loc main_arg2)
abbrev argZ : FVec Ideal S2176x4096 .f32 := μ ((c.tc : Thread nD τ).loc main_arg3)
abbrev argP : FVec Ideal S1x2048 .f32 := μ ((c.tc : Thread nD τ).loc main_arg4)
abbrev argQ : FVec Ideal S1x2048 .f32 := μ ((c.tc : Thread nD τ).loc main_arg5)
abbrev argD : FVec Ideal S2176x2048 .f32 := μ ((c.tc : Thread nD τ).loc main_arg6)

theorem run (ρ : Dev nD → PrngReg) : θ_run defs (onTc (τ := τ) (main (F := Ideal))) ⟨μ, fun _ => 0, ρ⟩ (fun r => ∀ c : Dev nD,
      r.2.mem ((c.tc : Thread nD τ).loc main_v43)
        = rows .bf16 (mixGrad (argZ μ c) (argP μ c) (argD μ c) inLeft)
      ∧ r.2.mem ((c.tc : Thread nD τ).loc main_v44)
        = rows .bf16 (mixGrad (argZ μ c) (argQ μ c) (argD μ c) inRight)
      ∧ r.2.mem ((c.tc : Thread nD τ).loc main_v46)
        = beside (mixArgPlus (argY μ c) (argB μ c) (argZ μ c) (argP μ c) (argD μ c) inLeft)
          (mixArg (argA μ c) (argZ μ c) (argQ μ c) (argD μ c) inRight)
      ∧ r.2.mem ((c.tc : Thread nD τ).loc main_v36)
        = colSums (mixGrad (argZ μ c) (argP μ c) (argD μ c) inLeft)
      ∧ r.2.mem ((c.tc : Thread nD τ).loc main_v42)
        = colSums (mixArgPlus (argY μ c) (argB μ c) (argZ μ c) (argP μ c) (argD μ c) inLeft)
      ∧ r.2.mem ((c.tc : Thread nD τ).loc main_v39)
        = colSums (mixArg (argA μ c) (argZ μ c) (argQ μ c) (argD μ c) inRight)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)
      ∧ r.2.mem ((c.tc : Thread nD τ).loc main_arg6) = μ ((c.tc : Thread nD τ).loc main_arg6)) :=
  (θ_run defs _ _).mono (fun _ h c =>
    ⟨(h c).1.trans (rows_eq _ _ (conv_at (argZ μ c) (argP μ c) (argD μ c))),
     (h c).2.1.trans (rows_eq _ _ (attn_at (argZ μ c) (argQ μ c) (argD μ c))),
     (h c).2.2.1.trans (both_eq _ _ _ _ (argsC_at (argY μ c) (argB μ c) (argZ μ c) (argP μ c) (argD μ c)) (argsA_at (argA μ c) (argZ μ c) (argQ μ c) (argD μ c))),
     (h c).2.2.2.1.trans (sums_eq _ _ (conv_at (argZ μ c) (argP μ c) (argD μ c))),
     (h c).2.2.2.2.1.trans (sums_eq _ _ (argsC_at (argY μ c) (argB μ c) (argZ μ c) (argP μ c) (argD μ c))),
     (h c).2.2.2.2.2.1.trans (sums_eq _ _ (argsA_at (argA μ c) (argZ μ c) (argQ μ c) (argD μ c))), (h c).2.2.2.2.2.2⟩)
    (Value.run (F := Ideal) μ ρ)

end Cert.Reference15Ideal.Stages

end
-- ==== Proof.LowGrads.lean ====
/- The gradients of the norms of the two low-rank arrays, the rotary part's beside them: 128 rows at a point, and the gradients of the
   norms' scales, sums of the columns, gathered over the seventeen points. -/
module

public import proofs.«01_k».proof.Proof.Norms
public import proofs.«01_k».proof.Proof.Gen.Kernel17Ideal.Frame
public import Idealize.ShloMosaic.Lib.Pipeline.ReadBack
public import Idealize.ShloMosaic.Lib.Pipeline.ValueKit.Acc

@[expose] public section

set_option maxRecDepth 16384

noncomputable section

namespace Cert.Ffn

open Idealize.ShloMosaic

/-! ### The array's columns: the two low-rank arrays' and the rotary part's -/

def qCol (j : Fin 512) : Fin 1152 := ⟨j.val, by omega⟩
def kCol (j : Fin 512) : Fin 1152 := ⟨512 + j.val, by omega⟩
def rotCol (j : Fin 128) : Fin 1152 := ⟨1024 + j.val, by omega⟩

theorem inThird (j : Fin 1152) : (∃ i, j = qCol i) ∨ (∃ i, j = kCol i) ∨ ∃ i, j = rotCol i := by
  by_cases h : j.val < 512
  · exact .inl ⟨⟨j.val, h⟩, rfl⟩
  by_cases h' : j.val < 1024
  · exact .inr (.inl ⟨⟨j.val - 512, by omega⟩, Fin.ext (by simp [kCol]; omega)⟩)
  · exact .inr (.inr ⟨⟨j.val - 1024, by omega⟩, Fin.ext (by simp [rotCol]; omega)⟩)

/-- Three arrays side by side. -/
def three (f g : Fin 2176 → Fin 512 → EReal) (h : Fin 2176 → Fin 128 → EReal) : FVec Ideal ⟨2, ![2176, 1152]⟩ .bf16 := fun i =>
  if hq : (i 1).val < 512 then f (i 0) ⟨(i 1).val, hq⟩
  else if hk : (i 1).val < 1024 then g (i 0) ⟨(i 1).val - 512, by omega⟩
  else h (i 0) ⟨(i 1).val - 1024, by have := (i 1).isLt; simp at this; omega⟩

section Three
variable (f g : Fin 2176 → Fin 512 → EReal) (h : Fin 2176 → Fin 128 → EReal) (r : Fin 2176) (j : Fin 512)

theorem three_q : three f g h (ix2 r (qCol j)) = f r j := dif_pos j.isLt

theorem three_k : three f g h (ix2 r (kCol j)) = g r j := by
  have h0 : ¬(kCol j).val < 512 := by simp [kCol]
  have h1 : (kCol j).val < 1024 := by simp [kCol]; omega
  refine (dif_neg h0).trans ((dif_pos h1).trans (congrArg (g r) (Fin.ext ?_)))
  simp [kCol]

theorem three_rot (j : Fin 128) : three f g h (ix2 r (rotCol j)) = h r j := by
  have h0 : ¬(rotCol j).val < 512 := by simp [rotCol]; omega
  have h1 : ¬(rotCol j).val < 1024 := by simp [rotCol]
  refine (dif_neg h0).trans ((dif_neg h1).trans (congrArg (h r) (Fin.ext ?_)))
  simp [rotCol]

/-- The sum of every column of 512. -/
def shortSums : FVec Ideal ⟨2, ![1, 512]⟩ .f32 := fun i => ∑ r, f r (i 1)

end Three

section Low
variable {m : ℕ} (x : Fin 512 → EReal) (g : FVec Ideal ⟨2, ![1, 512]⟩ .f32) (d : FVec Ideal ⟨2, ![m, 512]⟩ .f32) (r : Fin m) (j : Fin 512)

/-- The gradient of an element of a row `x` of a low-rank array, -/
def lowTerm : EReal := normTerm short x (fun k => d (ix2 r k) * g (ix2 0 k)) j
/-- and what the row adds to the scale's. -/
def lowScale : EReal := x j * rowInv short x * d (ix2 r j)

end Low

section Arrays
variable (z : FVec Ideal ⟨2, ![2176, 1152]⟩ .f32) (g : FVec Ideal ⟨2, ![1, 512]⟩ .f32) (d : FVec Ideal ⟨2, ![2176, 512]⟩ .f32)
  (e : FVec Ideal ⟨2, ![2176, 128]⟩ .f32) (r : Fin 2176)

/-- A row of each of the arrays, -/
def qRow (k : Fin 512) : EReal := z (ix2 r (qCol k))
def kRow (k : Fin 512) : EReal := z (ix2 r (kCol k))
/-- the gradients of its elements, -/
def qGrad (j : Fin 512) : EReal := lowTerm (qRow z r) g d r j
def kGrad (j : Fin 512) : EReal := lowTerm (kRow z r) g d r j
/-- and what it adds to the scales'. -/
def qScale (j : Fin 512) : EReal := lowScale (qRow z r) d r j
def kScale (j : Fin 512) : EReal := lowScale (kRow z r) d r j

end Arrays

end Cert.Ffn

namespace Cert.Kernel17Ideal.Results

open Idealize.ShloMosaic Idealize.ShloMosaic.TcCoe Idealize.SL.Sem
open Cert.Kernel17Ideal Cert.Kernel17Ideal.Gen Cert.Ffn
open Cert.Kernel2Ideal.Calls (pair_idx)

/-! ### A point's terms -/

section Point
variable (x y d e : Vec Ideal S128x512 .f32) (p q : Vec Ideal S1x512 .f32) (z : Vec Ideal S128x128 .f32)
  (s u v w : Vec Ideal S128x1 .f32) (k : Fin 128) (j : Fin 512) (o : Fin 1)

theorem mean_at : k0_pay3 x (ix2 k o) = rowMean short (rowOf x k) := by
  pointwise [k0_pay3]
  rfl

theorem inv_at : k0_pay4 x (ix2 k o) = rowInv short (rowOf x k) := by
  pointwise [k0_pay4]
  rw [mean_at]
  rfl

theorem slope_at : k0_pay5 x (ix2 k o)
    = Scalar.ofBits (F := Ideal) .f32 0xBF000000#32 * Ideal.div (rowInv short (rowOf x k)) (rowMean short (rowOf x k)) := by
  pointwise [k0_pay5]
  rw [mean_at, inv_at]
  rfl

/-- The second array's are the same. -/
theorem mean_k : k0_pay6 x = k0_pay3 (F := Ideal) x := rfl
theorem inv_k : k0_pay7 x = k0_pay4 (F := Ideal) x := rfl
theorem slope_k : k0_pay8 x = k0_pay5 (F := Ideal) x := rfl

theorem qSum_at : k0_pay10 x d (ix2 o j) = ∑ k, lowScale (rowOf x k) d k j := by
  pointwise [k0_pay10]
  simp only [inv_at]
  rfl

theorem kSum_at : k0_pay11 d (k0_pay9 x) (ix2 o j) = ∑ k, lowScale (rowOf x k) d k j := by
  have h (k : Fin 128) : k0_pay9 x (ix2 k j) = x (ix2 k j) * rowInv short (rowOf x k) := by
    pointwise [k0_pay9]
    rw [inv_k, inv_at]
    rfl
  pointwise [k0_pay11]
  simp only [h]
  rfl

theorem part_q : k0_pay12 x y p q d e z s u v w (ix2 k (qCol j)) = d (ix2 k j) * p (ix2 0 j) * s (ix2 k 0)
    + x (ix2 k j) * Ideal.div ((∑ l, x (ix2 k l) * (d (ix2 k l) * p (ix2 0 l))) * u (ix2 k 0)) short
    + Ideal.div ((∑ l, x (ix2 k l) * (d (ix2 k l) * p (ix2 0 l))) * u (ix2 k 0)) short * x (ix2 k j) := by
  pointwise [k0_pay12, qCol]
  simp only [Finset.univ_unique, Finset.sum_singleton]
  rfl

theorem part_k : k0_pay12 x y p q d e z s u v w (ix2 k (kCol j)) = e (ix2 k j) * q (ix2 0 j) * v (ix2 k 0)
    + y (ix2 k j) * Ideal.div ((∑ l, y (ix2 k l) * (e (ix2 k l) * q (ix2 0 l))) * w (ix2 k 0)) short
    + Ideal.div ((∑ l, y (ix2 k l) * (e (ix2 k l) * q (ix2 0 l))) * w (ix2 k 0)) short * y (ix2 k j) := by
  pointwise [k0_pay12, kCol]
  simp only [Finset.univ_unique, Finset.sum_singleton]
  rfl

theorem part_rot (j : Fin 128) : k0_pay12 x y p q d e z s u v w (ix2 k (rotCol j)) = z (ix2 k j) := by
  pointwise [k0_pay12, rotCol]
  refine (dif_neg (by omega)).trans ((dif_neg (by omega)).trans (congrArg (fun l => z (ix2 k l)) (Fin.ext ?_)))
  show 1024 + j.val - 512 - 512 = j.val
  omega

/-- A point's rows of the gradient. -/
abbrev grads := k0_pay12 x y p q d e z (k0_pay4 x) (k0_pay5 x) (k0_pay7 y) (k0_pay8 y)

theorem grads_q : grads x y d e p q z (ix2 k (qCol j)) = lowTerm (rowOf x k) p d k j := by
  rw [grads, part_q, inv_at, slope_at]
  rfl

theorem grads_k : grads x y d e p q z (ix2 k (kCol j)) = lowTerm (rowOf y k) q e k j := by
  rw [grads, part_k, inv_k, slope_k, inv_at, slope_at]
  rfl

theorem add1 (v w : Vec Ideal S1x512 .f32) (i : S1x512.Idx) : k0_pay1 v w i = w i + v i := by
  obtain ⟨r, j, rfl⟩ := pair_idx i
  pointwise [k0_pay1]

theorem add2 (v w : Vec Ideal S1x512 .f32) (i : S1x512.Idx) : k0_pay2 v w i = w i + v i := by
  obtain ⟨r, j, rfl⟩ := pair_idx i
  pointwise [k0_pay2]

end Point

variable (m : (ℓ : Loc nD τ sig) → Buf (Elt Ideal) ℓ) (ρ : Dev nD → PrngReg) (c : Dev nD)

/-! ### What a point leaves -/

/-- A point's column sums, -/
abbrev qSums (t : Fin cfg0.N) := k0_pay10 (X0_0 m c t) (iblk m c 4 t)
abbrev kSums (t : Fin cfg0.N) := k0_pay11 (iblk m c 5 t) (k0_pay9 (X0_1 m c t))

/-- the column sums gathered after a point, -/
def gatherQ (n : ℕ) (h : n < cfg0.N) : S1x512.Idx → EReal := (outsAt0 m c n h).2.1
def gatherK (n : ℕ) (h : n < cfg0.N) : S1x512.Idx → EReal := (outsAt0 m c n h).2.2

theorem gatherQ_first (t : Fin cfg0.N) (h : t.val % 17 = 0) (i : S1x512.Idx) : gatherQ m c t.val t.isLt i = 0 + qSums m c t i := by
  have h1 : ¬1 ≤ t.val := by have := lt_of_lt_of_eq t.isLt N_0; omega
  rw [gatherQ, outsAt0_A m c t h h1 h h1, zero_add]
  frame_out

theorem gatherQ_next (t : Fin cfg0.N) (h : ¬t.val % 17 = 0) (i : S1x512.Idx) :
    gatherQ m c t.val t.isLt i = gatherQ m c (t.val - 1) (Nat.lt_of_le_of_lt (Nat.sub_le _ _) t.isLt) i + qSums m c t i := by
  have h1 : 1 ≤ t.val := by omega
  rw [gatherQ, gatherQ, outsAt0_B m c t h h1 h h1]
  frame_out
  rw [add1]

theorem gatherK_first (t : Fin cfg0.N) (h : t.val % 17 = 0) (i : S1x512.Idx) : gatherK m c t.val t.isLt i = 0 + kSums m c t i := by
  have h1 : ¬1 ≤ t.val := by have := lt_of_lt_of_eq t.isLt N_0; omega
  rw [gatherK, outsAt0_A m c t h h1 h h1, zero_add]
  frame_out

theorem gatherK_next (t : Fin cfg0.N) (h : ¬t.val % 17 = 0) (i : S1x512.Idx) :
    gatherK m c t.val t.isLt i = gatherK m c (t.val - 1) (Nat.lt_of_le_of_lt (Nat.sub_le _ _) t.isLt) i + kSums m c t i := by
  have h1 : 1 ≤ t.val := by omega
  rw [gatherK, gatherK, outsAt0_B m c t h h1 h h1]
  frame_out
  rw [add2]

/-- and its rows of the gradient. -/
theorem stored (t : Fin cfg0.N) : (outsAt0 m c t.val t.isLt).1
    = grads (X0_0 m c t) (X0_1 m c t) (iblk m c 4 t) (iblk m c 5 t) (iblk m c 2 t) (iblk m c 3 t) (iblk m c 6 t) := by
  have hN := lt_of_lt_of_eq t.isLt N_0
  by_cases h : t.val % 17 = 0
  · rw [outsAt0_A m c t h (by omega) h (by omega)]
    frame_out
  · rw [outsAt0_B m c t h (by omega) h (by omega)]
    frame_out

/-! ### What the call leaves -/

theorem idx0 : ∀ t : Fin cfg0.N, win0_0.index t = ![t.val % 17, 0] ∧ win0_1.index t = ![t.val % 17, 1] ∧ win0_2.index t = ![0, 0]
    ∧ win0_3.index t = ![0, 0] ∧ win0_4.index t = ![t.val % 17, 0] ∧ win0_5.index t = ![t.val % 17, 0]
    ∧ win0_6.index t = ![t.val % 17, 0] ∧ win0_7.index t = ![t.val % 17, 0] ∧ win0_8.index t = ![0, 0] ∧ win0_9.index t = ![0, 0] :=
  (by decide +kernel : ∀ t : Fin grid0.N, _)

/-- A point's row. -/
def row (t : Fin cfg0.N) (k : Fin 128) : Fin 2176 := ⟨t.val % 17 * 128 + k.val, by omega⟩

theorem row_run {n : ℕ} (s : Fin 17) (k : Fin 128) (h : 17 * n + s.val < cfg0.N) (hl : s.val * 128 + k.val < 2176) :
    row ⟨17 * n + s.val, h⟩ k = ⟨s.val * 128 + k.val, hl⟩ := Fin.ext (by simp [row, Nat.mod_eq_of_lt s.isLt])

section Terms
variable (t : Fin cfg0.N) (k : Fin 128) (j : Fin 512) (o : Fin 1)

theorem blk0 : X0_0 m c t (ix2 k j) = V m c main_arg0 (ix2 (row t k) (qCol j)) := by
  unfold X0_0 Pipeline.Window.fill
  rw [dif_pos (moved0_0 t _)]
  blk_point [iblk, idx0 t, row, qCol]

theorem blk1 : X0_1 m c t (ix2 k j) = V m c main_arg0 (ix2 (row t k) (kCol j)) := by
  unfold X0_1 Pipeline.Window.fill
  rw [dif_pos (moved0_1 t _)]
  blk_point [iblk, idx0 t, row, kCol]

theorem blk2 : iblk m c 2 t (ix2 o j) = V m c main_arg1 (ix2 o j) := by blk_point [iblk, idx0 t]
theorem blk3 : iblk m c 3 t (ix2 o j) = V m c main_arg2 (ix2 o j) := by blk_point [iblk, idx0 t]
theorem blk4 : iblk m c 4 t (ix2 k j) = V m c main_arg3 (ix2 (row t k) j) := by blk_point [iblk, idx0 t, row]
theorem blk5 : iblk m c 5 t (ix2 k j) = V m c main_arg4 (ix2 (row t k) j) := by blk_point [iblk, idx0 t, row]
theorem blk6 (j : Fin 128) : iblk m c 6 t (ix2 k j) = V m c main_arg5 (ix2 (row t k) j) := by blk_point [iblk, idx0 t, row]

/-- The block's rows are the array's. -/
theorem rowQ : rowOf (X0_0 m c t) k = qRow (V m c main_arg0) (row t k) := funext fun l => blk0 m c t k l
theorem rowK : rowOf (X0_1 m c t) k = kRow (V m c main_arg0) (row t k) := funext fun l => blk1 m c t k l

theorem gradQ : lowTerm (rowOf (X0_0 m c t) k) (iblk m c 2 t) (iblk m c 4 t) k j
    = qGrad (V m c main_arg0) (V m c main_arg1) (V m c main_arg3) (row t k) j :=
  congrArg₂ (normTerm short · · j) (rowQ m c t k) (funext fun l => congrArg₂ (fun a b : EReal => a * b) (blk4 m c t k l) (blk2 m c t l 0))

theorem gradK : lowTerm (rowOf (X0_1 m c t) k) (iblk m c 3 t) (iblk m c 5 t) k j
    = kGrad (V m c main_arg0) (V m c main_arg2) (V m c main_arg4) (row t k) j :=
  congrArg₂ (normTerm short · · j) (rowK m c t k) (funext fun l => congrArg₂ (fun a b : EReal => a * b) (blk5 m c t k l) (blk3 m c t l 0))

theorem scaleQ : lowScale (rowOf (X0_0 m c t) k) (iblk m c 4 t) k j = qScale (V m c main_arg0) (V m c main_arg3) (row t k) j := by
  rw [lowScale, rowQ, blk4]
  rfl

theorem scaleK : lowScale (rowOf (X0_1 m c t) k) (iblk m c 5 t) k j = kScale (V m c main_arg0) (V m c main_arg4) (row t k) j := by
  rw [lowScale, rowK, blk5]
  rfl

theorem emb7 (j : Fin 1152) : (win0_7.blk t).view.emb (ix2 k j) = ix2 (row t k) j := by blk_ext [idx0 t, row]
theorem emb8 : (win0_8.blk t).view.emb (ix2 o j) = ix2 o j := by blk_ext [idx0 t]
theorem emb9 : (win0_9.blk t).view.emb (ix2 o j) = ix2 o j := by blk_ext [idx0 t]

end Terms

theorem final7 : (dats m 0 c).arrAt 7 cfg0.N = three (qGrad (V m c main_arg0) (V m c main_arg1) (V m c main_arg3))
    (kGrad (V m c main_arg0) (V m c main_arg2) (V m c main_arg4)) (rowOf (V m c main_arg5)) := by
  refine (dats m 0 c).arrAt_eq_of_covers 7 _ (by decide +kernel) fun t hf y => ?_
  blk_simp
  obtain ⟨r, d, rfl⟩ := pair_idx y
  rw [after0_7, stored m c t]
  obtain ⟨j, rfl⟩ | ⟨j, rfl⟩ | ⟨j, rfl⟩ := inThird d
  · rw [grads_q, gradQ, emb7 t r (qCol j), three_q]
  · rw [grads_k, gradK, emb7 t r (kCol j), three_k]
  · rw [grads, part_rot, blk6, emb7 t r (rotCol j), three_rot]

theorem final8 : (dats m 0 c).arrAt 8 cfg0.N = shortSums (qScale (V m c main_arg0) (V m c main_arg3)) := by
  refine (dats m 0 c).arrAt_eq_of_covers 8 _ (by decide +kernel) fun t hf y => ?_
  blk_simp
  rw [after0_8, show (outsAt0 m c t.val t.isLt).2.1 = gatherQ m c t.val t.isLt from rfl,
    Pipeline.eq_sum_fin_of_reset_step_apply_of_flush (gatherQ m c) 17 (fun _ => 0) (qSums m c) (gatherQ_first m c) (gatherQ_next m c) t
      ((flush0_8 t).mp hf) y]
  obtain ⟨o, d, rfl⟩ := pair_idx y
  rw [zero_add, emb8 t d o]
  simp only [qSums, qSum_at, scaleQ]
  exact Fin.sum_mul_add_congr fun s k hl => congrArg (qScale _ _ · d) (row_run s k _ hl)

theorem final9 : (dats m 0 c).arrAt 9 cfg0.N = shortSums (kScale (V m c main_arg0) (V m c main_arg4)) := by
  refine (dats m 0 c).arrAt_eq_of_covers 9 _ (by decide +kernel) fun t hf y => ?_
  blk_simp
  rw [after0_9, show (outsAt0 m c t.val t.isLt).2.2 = gatherK m c t.val t.isLt from rfl,
    Pipeline.eq_sum_fin_of_reset_step_apply_of_flush (gatherK m c) 17 (fun _ => 0) (kSums m c) (gatherK_first m c) (gatherK_next m c) t
      ((flush0_9 t).mp hf) y]
  obtain ⟨o, d, rfl⟩ := pair_idx y
  rw [zero_add, emb9 t d o]
  simp only [kSums, kSum_at, scaleK]
  exact Fin.sum_mul_add_congr fun s k hl => congrArg (kScale _ _ · d) (row_run s k _ hl)

abbrev argZ : FVec Ideal S2176x1152 .f32 := m ((c.tc : Thread nD τ).loc main_arg0)
abbrev argP : FVec Ideal S1x512 .f32 := m ((c.tc : Thread nD τ).loc main_arg1)
abbrev argQ : FVec Ideal S1x512 .f32 := m ((c.tc : Thread nD τ).loc main_arg2)
abbrev argD : FVec Ideal S2176x512 .f32 := m ((c.tc : Thread nD τ).loc main_arg3)
abbrev argE : FVec Ideal S2176x512 .f32 := m ((c.tc : Thread nD τ).loc main_arg4)
abbrev argR : FVec Ideal S2176x128 .f32 := m ((c.tc : Thread nD τ).loc main_arg5)

/-- Every execution ends with the gradients side by side, the scales', and the arguments as launched. -/
theorem run : θ_run defs (onTc (τ := τ) (main (F := Ideal))) ⟨m, fun _ => 0, ρ⟩ (fun r => ∀ c : Dev nD,
      r.2.mem ((c.tc : Thread nD τ).loc main_v0_0)
        = three (qGrad (argZ m c) (argP m c) (argD m c)) (kGrad (argZ m c) (argQ m c) (argE m c)) (rowOf (argR m c))
      ∧ r.2.mem ((c.tc : Thread nD τ).loc main_v0_1) = shortSums (qScale (argZ m c) (argD m c))
      ∧ r.2.mem ((c.tc : Thread nD τ).loc main_v0_2) = shortSums (kScale (argZ m c) (argE m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 7).trans ((final7 m c).trans (by
        rw [V_main_arg0, V_main_arg1, V_main_arg2, V_main_arg3, V_main_arg4, V_main_arg5])),
     ((h c).1 8).trans ((final8 m c).trans (by rw [V_main_arg0, V_main_arg3])),
     ((h c).1 9).trans ((final9 m c).trans (by rw [V_main_arg0, V_main_arg4])),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 3).trans (((dats m 0 c).arrAt_in 3 rfl _).trans ((A_eq m c 3).trans (V_main_arg2 m c))),
     ((h c).1 4).trans (((dats m 0 c).arrAt_in 4 rfl _).trans ((A_eq m c 4).trans (V_main_arg3 m c))),
     ((h c).1 5).trans (((dats m 0 c).arrAt_in 5 rfl _).trans ((A_eq m c 5).trans (V_main_arg4 m c))),
     ((h c).1 6).trans (((dats m 0 c).arrAt_in 6 rfl _).trans ((A_eq m c 6).trans (V_main_arg5 m c)))⟩)
    (run_main m ρ)

end Cert.Kernel17Ideal.Results

end
-- ==== Proof.LowReference.lean ====
/- The gradients of the low-rank arrays' norms as the reference computes them, stage by stage, and its three results: the ones the call
   leaves. -/
module

public import proofs.«01_k».proof.Proof.LowGrads
public import proofs.«01_k».proof.Proof.Gen.Reference17Ideal.Run

@[expose] public section

set_option maxRecDepth 16384

noncomputable section

namespace Cert.Reference17Ideal.Stages

open Cert.Reference17Ideal Cert.Reference17Ideal.Gen Cert.Reference17Ideal.Value Idealize.ShloMosaic Cert.Ffn
open Cert.Kernel2Ideal.Calls (pair_idx)

variable (z : FVec Ideal S2176x1152 .f32) (h d x y : FVec Ideal S2176x512 .f32) (g p q : FVec Ideal S1x512 .f32)
  (e : FVec Ideal S2176x128 .f32) (r : Fin 2176) (j : Fin 512) (o : Fin 1)

/-! ### The stages -/

/-- The two low-rank arrays, -/
def qs : FVec Ideal S2176x512 .f32 := extractStridedSlice S2176x512 ![0, 0] z slices_S2176x1152_S2176x512_0_0
def ks : FVec Ideal S2176x512 .f32 := extractStridedSlice S2176x512 ![0, 512] z slices_S2176x1152_S2176x512_0_512
/-- an array's mean squares, -/
def means : FVec Ideal S2176x1 .f32 :=
  addf (Host.divf
      (broadcastInDim S2176x1 ![0] bcast_S2176_S2176x1_0 (Host.reduceAdd (mulf h h) (constant S_ .f32 0x00000000#32) reducesTo_S2176x512_S2176_d1 h_S_))
      (broadcastInDim S2176x1 ![] bcast_S_S2176x1 (constant S_ .f32 0x44000000#32)))
    (broadcastInDim S2176x1 ![] bcast_S_S2176x1 (constant S_ .f32 0x358637BD#32))
/-- the gradient of its normalised elements, -/
def scaled : FVec Ideal S2176x512 .f32 := mulf d (broadcastInDim S2176x512 ![0, 1] bcast_S1x512_S2176x512_0_1 g)
/-- what comes through the mean square, -/
def part : FVec Ideal S2176x1 .f32 :=
  Host.divf (mulf (shapeCast S2176x1 (Host.reduceAdd (mulf h x) (constant S_ .f32 0x00000000#32) reducesTo_S2176x512_S2176_d1 h_S_) shapeCasts_S2176_S2176x1)
      (mulf (broadcastInDim S2176x1 ![] bcast_S_S2176x1 (constant S_ .f32 0xBF000000#32)) (Host.divf (Host.rsqrt (means h)) (means h))))
    (broadcastInDim S2176x1 ![] bcast_S_S2176x1 (constant S_ .f32 0x44000000#32))
/-- at every element of its row, -/
def share : FVec Ideal S2176x512 .f32 :=
  broadcastInDim S2176x512 ![0] bcast_S2176_S2176x512_0
    (Host.reduceAdd (part h x) (constant S_ .f32 0x00000000#32) reducesTo_S2176x1_S2176_d1 h_S_)
/-- the norm's gradient, -/
def grad : FVec Ideal S2176x512 .f32 :=
  addf (addf (mulf x (broadcastInDim S2176x512 ![0, 1] bcast_S2176x1_S2176x512_0_1 (Host.rsqrt (means h)))) (mulf h (share h x)))
    (mulf (share h x) h)
/-- the scale's at a row, -/
def scale : FVec Ideal S2176x512 .f32 :=
  mulf (mulf h (broadcastInDim S2176x512 ![0, 1] bcast_S2176x1_S2176x512_0_1 (Host.rsqrt (means h)))) d
/-- the sum of every column, -/
def sums : FVec Ideal S1x512 .f32 :=
  shapeCast S1x512 (Host.reduceAdd x (constant S_ .f32 0x00000000#32) reducesTo_S2176x512_S512_d0 h_S_) shapeCasts_S512_S1x512
/-- and three arrays side by side. -/
def all : FVec Ideal S2176x1152 .bf16 :=
  truncf .bf16 (concatenate S2176x1152 1 [⟨S2176x512, x⟩, ⟨S2176x512, y⟩, ⟨S2176x128, e⟩]
    concatenates_S2176x512_S2176x512_S2176x128_S2176x1152_d1) bitsLt_bf16_f32

theorem qs_row : rowOf (qs z) r = qRow z r := funext fun l => by pointwise [rowOf, qRow, qs, qCol]
theorem ks_row : rowOf (ks z) r = kRow z r := funext fun l => by pointwise [rowOf, kRow, ks, kCol]

theorem means_at : means h (ix2 r o) = rowMean short (rowOf h r) := by
  pointwise [means]
  rfl

theorem scaled_at : scaled d g (ix2 r j) = d (ix2 r j) * g (ix2 0 j) := by pointwise [scaled]

theorem part_at : part h x (ix2 r o) = rowShare short (rowOf h r) (rowOf x r) := by
  pointwise [part]
  rw [means_at]
  rfl

theorem share_at : share h x (ix2 r j) = rowShare short (rowOf h r) (rowOf x r) := by
  pointwise [share]
  simp only [part_at, Finset.univ_unique, Finset.sum_singleton]
  rfl

theorem grad_at : grad h (scaled d g) (ix2 r j) = lowTerm (rowOf h r) g d r j := by
  have hs : rowOf (scaled d g) r = fun k => d (ix2 r k) * g (ix2 0 k) := funext fun l => scaled_at d g r l
  pointwise [grad]
  rw [share_at, means_at, scaled_at, hs]
  rfl

theorem scale_at : scale h d (ix2 r j) = lowScale (rowOf h r) d r j := by
  pointwise [scale]
  rw [means_at]
  rfl

theorem sums_eq (f : Fin 2176 → Fin 512 → EReal) (hx : ∀ r j, x (ix2 r j) = f r j) : sums x = shortSums f := funext fun i => by
  obtain ⟨o, j, rfl⟩ := pair_idx i
  have h : sums x (ix2 o j) = ∑ r, x (ix2 r j) := by pointwise [sums]
  rw [h]
  exact Finset.sum_congr rfl fun r _ => hx r j

theorem all_q : all x y e (ix2 r (qCol j)) = x (ix2 r j) := by pointwise [all, qCol]
theorem all_k : all x y e (ix2 r (kCol j)) = y (ix2 r j) := by pointwise [all, kCol]
theorem all_rot (j : Fin 128) : all x y e (ix2 r (rotCol j)) = e (ix2 r j) := by
  pointwise [all, rotCol]
  refine (dif_neg (by omega)).trans ((dif_neg (by omega)).trans (congrArg (fun l => e (ix2 r l)) (Fin.ext ?_)))
  show 1024 + j.val - 512 - 512 = j.val
  omega

theorem all_eq (f f' : Fin 2176 → Fin 512 → EReal) (hx : ∀ r j, x (ix2 r j) = f r j) (hy : ∀ r j, y (ix2 r j) = f' r j) :
    all x y e = three f f' (rowOf e) := funext fun i => by
  obtain ⟨r, k, rfl⟩ := pair_idx i
  obtain ⟨j, rfl⟩ | ⟨j, rfl⟩ | ⟨j, rfl⟩ := inThird k
  · rw [all_q, hx, three_q]
  · rw [all_k, hy, three_k]
  · rw [all_rot, three_rot]

theorem qGrad_at : grad (qs z) (scaled d g) (ix2 r j) = qGrad z g d r j := by
  rw [grad_at, qs_row]
  rfl
theorem kGrad_at : grad (ks z) (scaled d g) (ix2 r j) = kGrad z g d r j := by
  rw [grad_at, ks_row]
  rfl
theorem qScale_at : scale (qs z) d (ix2 r j) = qScale z d r j := by
  rw [scale_at, qs_row]
  rfl
theorem kScale_at : scale (ks z) d (ix2 r j) = kScale z d r j := by
  rw [scale_at, ks_row]
  rfl

/-! ### The three results -/

variable (μ : (ℓ : Loc nD τ sig) → Buf (Elt Ideal) ℓ) (c : Dev nD)

abbrev argZ : FVec Ideal S2176x1152 .f32 := μ ((c.tc : Thread nD τ).loc main_arg0)
abbrev argP : FVec Ideal S1x512 .f32 := μ ((c.tc : Thread nD τ).loc main_arg1)
abbrev argQ : FVec Ideal S1x512 .f32 := μ ((c.tc : Thread nD τ).loc main_arg2)
abbrev argD : FVec Ideal S2176x512 .f32 := μ ((c.tc : Thread nD τ).loc main_arg3)
abbrev argE : FVec Ideal S2176x512 .f32 := μ ((c.tc : Thread nD τ).loc main_arg4)
abbrev argR : FVec Ideal S2176x128 .f32 := μ ((c.tc : Thread nD τ).loc main_arg5)

theorem grads_eq : res_main_v71 (F := Ideal) μ c
    = all (grad (qs (argZ μ c)) (scaled (argD μ c) (argP μ c))) (grad (ks (argZ μ c)) (scaled (argE μ c) (argQ μ c))) (argR μ c) := rfl

theorem run (ρ : Dev nD → PrngReg) : θ_run defs (onTc (τ := τ) (main (F := Ideal))) ⟨μ, fun _ => 0, ρ⟩ (fun r => ∀ c : Dev nD,
      r.2.mem ((c.tc : Thread nD τ).loc main_v71)
        = three (qGrad (argZ μ c) (argP μ c) (argD μ c)) (kGrad (argZ μ c) (argQ μ c) (argE μ c)) (rowOf (argR μ c))
      ∧ r.2.mem ((c.tc : Thread nD τ).loc main_v18) = shortSums (qScale (argZ μ c) (argD μ c))
      ∧ r.2.mem ((c.tc : Thread nD τ).loc main_v53) = shortSums (kScale (argZ μ c) (argE μ c))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)) :=
  (θ_run defs _ _).mono (fun _ h c =>
    ⟨(h c).1.trans ((grads_eq μ c).trans (all_eq _ _ _ _ _ (qGrad_at (argZ μ c) (argD μ c) (argP μ c))
        (kGrad_at (argZ μ c) (argE μ c) (argQ μ c)))),
     (h c).2.1.trans (sums_eq _ _ (qScale_at (argZ μ c) (argD μ c))),
     (h c).2.2.1.trans (sums_eq _ _ (kScale_at (argZ μ c) (argE μ c))), (h c).2.2.2⟩)
    (Value.run (F := Ideal) μ ρ)

end Cert.Reference17Ideal.Stages

end
-- ==== Proof.LayerForward.lean ====
/- The layer norm and the activation after it: 128 rows at a point; and the reference's, stage by stage, the same. -/
module

public import proofs.«01_k».proof.Proof.NormReference
public import proofs.«01_k».proof.Proof.Gen.Kernel20Ideal.Frame
public import proofs.«01_k».proof.Proof.Gen.Reference20Ideal.Run
public import Idealize.ShloMosaic.Lib.Pipeline.ReadBack

@[expose] public section

set_option maxRecDepth 16384

noncomputable section

namespace Cert.Ffn

open Idealize.ShloMosaic

/-- The layer norm of a row's element, `g` the scale and `b` the offset, -/
def layerOf {m : ℕ} (x : FVec Ideal ⟨2, ![m, 2048]⟩ .f32) (g b : FVec Ideal ⟨2, ![1, 2048]⟩ .f32) (r : Fin m) (j : Fin 2048) : EReal :=
  layer full (rowOf x r) j (rowOf g 0) (rowOf b 0)
/-- and its activation. -/
def layerAct {m : ℕ} (x : FVec Ideal ⟨2, ![m, 2048]⟩ .f32) (g b : FVec Ideal ⟨2, ![1, 2048]⟩ .f32) (r : Fin m) (j : Fin 2048) : EReal :=
  act (layerOf x g b r j)

end Cert.Ffn

namespace Cert.Kernel20Ideal.Results

open Idealize.ShloMosaic Idealize.ShloMosaic.TcCoe Idealize.SL.Sem
open Cert.Kernel20Ideal Cert.Kernel20Ideal.Gen Cert.Ffn
open Cert.Kernel2Ideal.Calls (pair_idx)

theorem act_at (x : Vec Ideal S128x2048 .f32) (g b : Vec Ideal S1x2048 .f32) (k : Fin 128) (j : Fin 2048) :
    k0_pay1 x g b (ix2 k j) = layerAct x g b k j := by
  pointwise [k0_pay1]
  simp only [zero_sub]
  rfl

variable (m : (ℓ : Loc nD τ sig) → Buf (Elt Ideal) ℓ) (ρ : Dev nD → PrngReg) (c : Dev nD)

theorem idx0 : ∀ t : Fin cfg0.N, win0_0.index t = ![t.val % 17, 0] ∧ win0_1.index t = ![0, 0] ∧ win0_2.index t = ![0, 0]
    ∧ win0_3.index t = ![t.val % 17, 0] :=
  (by decide +kernel : ∀ t : Fin grid0.N, _)

/-- A point's row. -/
def row (t : Fin cfg0.N) (k : Fin 128) : Fin 2176 := ⟨t.val % 17 * 128 + k.val, by omega⟩

section Terms
variable (t : Fin cfg0.N) (k : Fin 128) (j : Fin 2048) (o : Fin 1)

theorem blk0 : iblk m c 0 t (ix2 k j) = V m c main_arg0 (ix2 (row t k) j) := by blk_point [iblk, idx0 t, row]
theorem blk1 : iblk m c 1 t (ix2 o j) = V m c main_arg1 (ix2 o j) := by blk_point [iblk, idx0 t]
theorem blk2 : iblk m c 2 t (ix2 o j) = V m c main_arg2 (ix2 o j) := by blk_point [iblk, idx0 t]
theorem emb3 : (win0_3.blk t).view.emb (ix2 k j) = ix2 (row t k) j := by blk_ext [idx0 t, row]

/-- The block's rows are the array's. -/
theorem term : layerAct (iblk m c 0 t) (iblk m c 1 t) (iblk m c 2 t) k j
    = layerAct (V m c main_arg0) (V m c main_arg1) (V m c main_arg2) (row t k) j := by
  have e0 : rowOf (iblk m c 0 t) k = rowOf (V m c main_arg0) (row t k) := funext fun l => blk0 m c t k l
  have e1 : rowOf (iblk m c 1 t) 0 = rowOf (V m c main_arg1) 0 := funext fun l => blk1 m c t l 0
  have e2 : rowOf (iblk m c 2 t) 0 = rowOf (V m c main_arg2) 0 := funext fun l => blk2 m c t l 0
  rw [layerAct, layerAct, layerOf, layerOf, e0, e1, e2]

end Terms

theorem final3 : (dats m 0 c).arrAt 3 cfg0.N = rows .bf16 (layerAct (V m c main_arg0) (V m c main_arg1) (V m c main_arg2)) := by
  refine (dats m 0 c).arrAt_eq_of_covers 3 _ (by decide +kernel) fun t hf y => ?_
  blk_simp
  rw [after0_3]
  frame_out
  obtain ⟨r, d, rfl⟩ := pair_idx y
  rw [act_at, term, emb3 t r d]
  rfl

abbrev argX : FVec Ideal S2176x2048 .f32 := m ((c.tc : Thread nD τ).loc main_arg0)
abbrev argG : FVec Ideal S1x2048 .f32 := m ((c.tc : Thread nD τ).loc main_arg1)
abbrev argB : FVec Ideal S1x2048 .f32 := m ((c.tc : Thread nD τ).loc main_arg2)

/-- Every execution ends with the activation of the layer norm and the arguments as launched. -/
theorem run : θ_run defs (onTc (τ := τ) (main (F := Ideal))) ⟨m, fun _ => 0, ρ⟩ (fun r => ∀ c : Dev nD,
      r.2.mem ((c.tc : Thread nD τ).loc main_v0) = rows .bf16 (layerAct (argX m c) (argG m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans ((final3 m c).trans (by rw [V_main_arg0, V_main_arg1, V_main_arg2])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.Kernel20Ideal.Results

namespace Cert.Reference20Ideal.Stages

open Cert.Reference20Ideal Cert.Reference20Ideal.Gen Cert.Reference20Ideal.Value Idealize.ShloMosaic Cert.Ffn
open Cert.Reference16Ideal.Stages (gates gates_at)
open Cert.Reference14Ideal.Stages (means means_at rows_eq)

variable (x : FVec Ideal S2176x2048 .f32) (g b : FVec Ideal S1x2048 .f32) (r : Fin 2176) (j : Fin 2048)

/-- The rows less their means, -/
def centre : FVec Ideal S2176x2048 .f32 :=
  subf x (broadcastInDim S2176x2048 ![0, 1] bcast_S2176x1_S2176x2048_0_1 (Host.divf
    (broadcastInDim S2176x1 ![0] bcast_S2176_S2176x1_0 (Host.reduceAdd x (constant S_ .f32 0x00000000#32) reducesTo_S2176x2048_S2176_d1 h_S_))
    (broadcastInDim S2176x1 ![] bcast_S_S2176x1 (constant S_ .f32 0x45000000#32))))
/-- over the roots of their variances, -/
def normed : FVec Ideal S2176x2048 .f32 :=
  mulf (centre x) (broadcastInDim S2176x2048 ![0, 1] bcast_S2176x1_S2176x2048_0_1 (Host.rsqrt (means (centre x))))
/-- scaled and moved, -/
def layers : FVec Ideal S2176x2048 .f32 :=
  addf (mulf (normed x) (broadcastInDim S2176x2048 ![0, 1] bcast_S1x2048_S2176x2048_0_1 g))
    (broadcastInDim S2176x2048 ![0, 1] bcast_S1x2048_S2176x2048_0_1 b)
/-- and their activation. -/
def acts : FVec Ideal S2176x2048 .f32 := mulf (layers x g b) (gates (layers x g b))

theorem centre_at : centre x (ix2 r j) = centred full (rowOf x r) j := by
  pointwise [centre]
  rfl

theorem centre_row : rowOf (centre x) r = centred full (rowOf x r) := funext fun l => centre_at x r l

theorem normed_at : normed x (ix2 r j) = centred full (rowOf x r) j * rowInv full (centred full (rowOf x r)) := by
  pointwise [normed]
  rw [means_at, centre_at, centre_row]
  rfl

theorem layers_at : layers x g b (ix2 r j) = layerOf x g b r j := by
  pointwise [layers]
  rw [normed_at]
  rfl

theorem acts_at : acts x g b (ix2 r j) = layerAct x g b r j := by
  pointwise [acts]
  rw [gates_at, layers_at]
  rfl

variable (μ : (ℓ : Loc nD τ sig) → Buf (Elt Ideal) ℓ) (c : Dev nD)

abbrev argX : FVec Ideal S2176x2048 .f32 := μ ((c.tc : Thread nD τ).loc main_arg0)
abbrev argG : FVec Ideal S1x2048 .f32 := μ ((c.tc : Thread nD τ).loc main_arg1)
abbrev argB : FVec Ideal S1x2048 .f32 := μ ((c.tc : Thread nD τ).loc main_arg2)

theorem run (ρ : Dev nD → PrngReg) : θ_run defs (onTc (τ := τ) (main (F := Ideal))) ⟨μ, fun _ => 0, ρ⟩ (fun r => ∀ c : Dev nD,
      r.2.mem ((c.tc : Thread nD τ).loc main_v23) = rows .bf16 (layerAct (argX μ c) (argG μ c) (argB μ c))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)) :=
  (θ_run defs _ _).mono (fun _ h c => ⟨(h c).1.trans (rows_eq _ _ (acts_at (argX μ c) (argG μ c) (argB μ c))).2, (h c).2⟩)
    (Value.run (F := Ideal) μ ρ)

end Cert.Reference20Ideal.Stages

end
-- ==== Proof.LayerGrads.lean ====
/- The gradient of the layer norm and the activation after it: 128 rows at a point, and the gradients of the norm's scale and offset,
   sums of the columns, gathered over the seventeen points. -/
module

public import proofs.«01_k».proof.Proof.LayerForward
public import proofs.«01_k».proof.Proof.Gen.Kernel18Ideal.Frame
public import Idealize.ShloMosaic.Lib.Pipeline.ValueKit.Acc

@[expose] public section

set_option maxRecDepth 16384

noncomputable section

namespace Cert.Ffn

open Idealize.ShloMosaic

section Layer
variable {m : ℕ} (x : FVec Ideal ⟨2, ![m, 2048]⟩ .f32) (g b : FVec Ideal ⟨2, ![1, 2048]⟩ .f32) (d : FVec Ideal ⟨2, ![m, 2048]⟩ .f32)
  (r : Fin m) (j : Fin 2048)

/-- The gradient of the layer norm's element, which a row adds to the offset's, -/
def offsetGrad : EReal := actGrad (d (ix2 r j)) (layerOf x g b r j)
/-- what it adds to the scale's, -/
def layerScaleGrad : EReal := centred full (rowOf x r) j * rowInv full (centred full (rowOf x r)) * offsetGrad x g b d r j
/-- the gradient of a row's normalised elements, -/
def layerRow (k : Fin 2048) : EReal := offsetGrad x g b d r k * g (ix2 0 k)
/-- and the gradient of an element of the row. -/
def layerGrad : EReal := layerTerm full (rowOf x r) (layerRow x g b d r) j

end Layer

end Cert.Ffn

namespace Cert.Kernel18Ideal.Results

open Idealize.ShloMosaic Idealize.ShloMosaic.TcCoe Idealize.SL.Sem
open Cert.Kernel18Ideal Cert.Kernel18Ideal.Gen Cert.Ffn
open Cert.Kernel2Ideal.Calls (pair_idx)

/-! ### A point's terms -/

section Point
variable (x d : Vec Ideal S128x2048 .f32) (g b : Vec Ideal S1x2048 .f32) (k : Fin 128) (j : Fin 2048) (o : Fin 1)

theorem mean_at : k0_pay4 x (ix2 k o) = Ideal.div (∑ l, x (ix2 k l)) full := by
  pointwise [k0_pay4]

theorem centre_at : k0_pay5 x (ix2 k j) = centred full (rowOf x k) j := by
  pointwise [k0_pay5]
  rw [mean_at]
  rfl

theorem centre_at' : k0_pay7 x (ix2 k j) = centred full (rowOf x k) j := by
  pointwise [k0_pay7]
  rw [mean_at]
  rfl

theorem twice_at : k0_pay6 x (ix2 k j) = Scalar.ofBits (F := Ideal) .f32 0x40000000#32 * centred full (rowOf x k) j := by
  pointwise [k0_pay6]
  rw [centre_at]
  rfl

theorem var_at : k0_pay8 x (ix2 k o) = rowMean full (centred full (rowOf x k)) := by
  pointwise [k0_pay8]
  simp only [centre_at]
  rfl

theorem inv_at : k0_pay9 x (ix2 k o) = rowInv full (centred full (rowOf x k)) := by
  pointwise [k0_pay9]
  rw [var_at]
  rfl

theorem slope_at : k0_pay10 x (ix2 k o) = Scalar.ofBits (F := Ideal) .f32 0xBF000000#32
    * Ideal.div (rowInv full (centred full (rowOf x k))) (rowMean full (centred full (rowOf x k))) := by
  pointwise [k0_pay10]
  rw [var_at, inv_at]
  rfl

theorem normed_at : k0_pay11 x (ix2 k j) = centred full (rowOf x k) j * rowInv full (centred full (rowOf x k)) := by
  pointwise [k0_pay11]
  rw [centre_at', inv_at]
  rfl

theorem layer_at : k0_pay12 x g b (ix2 k j) = layerOf x g b k j := by
  pointwise [k0_pay12]
  rw [normed_at]
  rfl

theorem exp_at : k0_pay13 x g b (ix2 k j) = Ideal.exp (0 - layerOf x g b k j) := by
  pointwise [k0_pay13]
  rw [layer_at]

theorem under_at : k0_pay14 x g b (ix2 k j) = 1 + Ideal.exp (0 - layerOf x g b k j) := by
  pointwise [k0_pay14]
  rw [exp_at]

theorem gate_at : k0_pay15 x g b (ix2 k j) = gate (layerOf x g b k j) := by
  pointwise [k0_pay15]
  rw [under_at, zero_sub]
  rfl

theorem square_at : k0_pay16 x g b (ix2 k j) = (1 + Ideal.exp (0 - layerOf x g b k j)) * (1 + Ideal.exp (0 - layerOf x g b k j)) := by
  pointwise [k0_pay16]
  rw [under_at]

theorem one_at : k0_pay17 (F := Ideal) (ix2 k j) = (1 : EReal) := by
  pointwise [k0_pay17]

theorem offs_at : k0_pay18 d (k0_pay12 x g b) (k0_pay13 x g b) (k0_pay15 x g b) (k0_pay16 x g b) k0_pay17 (ix2 k j)
    = offsetGrad x g b d k j := by
  have h (u v w y z : Vec Ideal S128x2048 .f32) : k0_pay18 d u v w y z (ix2 k j)
      = d (ix2 k j) * w (ix2 k j) + (0 - (0 - u (ix2 k j) * d (ix2 k j) * Ideal.div (z (ix2 k j)) (y (ix2 k j)) * 1) * v (ix2 k j)) := by
    pointwise [k0_pay18]
  rw [h, exp_at, gate_at, square_at, one_at, layer_at, dArg_eq]
  rfl

variable (s v24 : Vec Ideal S128x1 .f32) (v12 v18 u v w y z : Vec Ideal S128x2048 .f32)

theorem offSum_at : k0_pay19 d u v w y z (ix2 o j) = ∑ k, k0_pay18 d u v w y z (ix2 k j) := by
  pointwise [k0_pay19]

theorem scaleSum_at : k0_pay20 d v12 u v w y z (ix2 o j) = ∑ k, v12 (ix2 k j) * k0_pay18 d u v w y z (ix2 k j) := by
  pointwise [k0_pay20]

theorem scaled_at : k0_pay21 g d u v w y z (ix2 k j) = k0_pay18 d u v w y z (ix2 k j) * g (ix2 0 j) := by
  pointwise [k0_pay21]

theorem own_at : k0_pay22 g d s u v w y z (ix2 k j) = k0_pay18 d u v w y z (ix2 k j) * g (ix2 0 j) * s (ix2 k 0) := by
  pointwise [k0_pay22]
  rw [scaled_at]

theorem var_at' : k0_pay23 g d v12 v18 v24 u v w y z (ix2 k j)
    = Ideal.div ((∑ l, v18 (ix2 k l) * (k0_pay18 d u v w y z (ix2 k l) * g (ix2 0 l))) * v24 (ix2 k 0)) full * v12 (ix2 k j) := by
  pointwise [k0_pay23]
  simp only [scaled_at, Finset.univ_unique, Finset.sum_singleton]
  rfl

theorem both_at : k0_pay24 g d v12 v18 s v24 u v w y z (ix2 k j)
    = k0_pay22 g d s u v w y z (ix2 k j) + k0_pay23 g d v12 v18 v24 u v w y z (ix2 k j) := by
  pointwise [k0_pay24]

theorem mean_at' : k0_pay25 g d v12 v18 s v24 u v w y z (ix2 k j)
    = Ideal.div ((∑ l, -k0_pay22 g d s u v w y z (ix2 k l)) + ∑ l, -k0_pay23 g d v12 v18 v24 u v w y z (ix2 k l)) full := by
  pointwise [k0_pay25]
  simp only [zero_sub, Finset.univ_unique, Finset.sum_singleton]

/-- A point's rows of the argument's gradient. -/
abbrev grads := k0_pay1
  (k0_pay24 g d (k0_pay6 x) (k0_pay7 x) (k0_pay9 x) (k0_pay10 x) (k0_pay12 x g b) (k0_pay13 x g b) (k0_pay15 x g b) (k0_pay16 x g b) k0_pay17)
  (k0_pay25 g d (k0_pay6 x) (k0_pay7 x) (k0_pay9 x) (k0_pay10 x) (k0_pay12 x g b) (k0_pay13 x g b) (k0_pay15 x g b) (k0_pay16 x g b) k0_pay17)

theorem grads_at : grads x d g b (ix2 k j) = layerGrad x g b d k j := by
  have h (p q : Vec Ideal S128x2048 .f32) : k0_pay1 (F := Ideal) p q (ix2 k j) = p (ix2 k j) + q (ix2 k j) := by pointwise [k0_pay1]
  have hp (l : Fin 2048) : k0_pay22 g d (k0_pay9 x) (k0_pay12 x g b) (k0_pay13 x g b) (k0_pay15 x g b) (k0_pay16 x g b) k0_pay17 (ix2 k l)
      = ownTerm full (rowOf x k) (layerRow x g b d k) l := by
    rw [own_at, offs_at, inv_at]
    rfl
  have hq (l : Fin 2048) : k0_pay23 g d (k0_pay6 x) (k0_pay7 x) (k0_pay10 x) (k0_pay12 x g b) (k0_pay13 x g b) (k0_pay15 x g b) (k0_pay16 x g b)
      k0_pay17 (ix2 k l) = varTerm full (rowOf x k) (layerRow x g b d k) l := by
    rw [var_at']
    simp only [offs_at, slope_at, twice_at, centre_at']
    rfl
  rw [grads, h, both_at, mean_at']
  simp only [hp, hq]
  rfl

theorem add2 (v w : Vec Ideal S1x2048 .f32) (i : S1x2048.Idx) : k0_pay2 v w i = w i + v i := by
  obtain ⟨r, j, rfl⟩ := pair_idx i
  pointwise [k0_pay2]

theorem add3 (v w : Vec Ideal S1x2048 .f32) (i : S1x2048.Idx) : k0_pay3 v w i = w i + v i := by
  obtain ⟨r, j, rfl⟩ := pair_idx i
  pointwise [k0_pay3]

end Point

variable (m : (ℓ : Loc nD τ sig) → Buf (Elt Ideal) ℓ) (ρ : Dev nD → PrngReg) (c : Dev nD)

/-! ### What a point leaves -/

section Sums
variable (x d : Vec Ideal S128x2048 .f32) (g b : Vec Ideal S1x2048 .f32)

/-- A point's column sums, for the scale and for the offset, -/
abbrev scaleSums := k0_pay20 d (k0_pay11 x) (k0_pay12 x g b) (k0_pay13 x g b) (k0_pay15 x g b) (k0_pay16 x g b) k0_pay17
abbrev offSums := k0_pay19 d (k0_pay12 x g b) (k0_pay13 x g b) (k0_pay15 x g b) (k0_pay16 x g b) k0_pay17

end Sums

abbrev scales (t : Fin cfg0.N) := scaleSums (iblk m c 0 t) (iblk m c 3 t) (iblk m c 1 t) (iblk m c 2 t)
abbrev offsets (t : Fin cfg0.N) := offSums (iblk m c 0 t) (iblk m c 3 t) (iblk m c 1 t) (iblk m c 2 t)

/-- the column sums gathered after a point, -/
def gatherG (n : ℕ) (h : n < cfg0.N) : S1x2048.Idx → EReal := (outsAt0 m c n h).2.1
def gatherB (n : ℕ) (h : n < cfg0.N) : S1x2048.Idx → EReal := (outsAt0 m c n h).2.2

theorem gatherG_first (t : Fin cfg0.N) (h : t.val % 17 = 0) (i : S1x2048.Idx) : gatherG m c t.val t.isLt i = 0 + scales m c t i := by
  have h1 : ¬1 ≤ t.val := by have := lt_of_lt_of_eq t.isLt N_0; omega
  rw [gatherG, outsAt0_A m c t h h1 h h1, zero_add]
  frame_out

theorem gatherG_next (t : Fin cfg0.N) (h : ¬t.val % 17 = 0) (i : S1x2048.Idx) :
    gatherG m c t.val t.isLt i = gatherG m c (t.val - 1) (Nat.lt_of_le_of_lt (Nat.sub_le _ _) t.isLt) i + scales m c t i := by
  have h1 : 1 ≤ t.val := by omega
  rw [gatherG, gatherG, outsAt0_B m c t h h1 h h1]
  frame_out
  rw [add2]

theorem gatherB_first (t : Fin cfg0.N) (h : t.val % 17 = 0) (i : S1x2048.Idx) : gatherB m c t.val t.isLt i = 0 + offsets m c t i := by
  have h1 : ¬1 ≤ t.val := by have := lt_of_lt_of_eq t.isLt N_0; omega
  rw [gatherB, outsAt0_A m c t h h1 h h1, zero_add]
  frame_out

theorem gatherB_next (t : Fin cfg0.N) (h : ¬t.val % 17 = 0) (i : S1x2048.Idx) :
    gatherB m c t.val t.isLt i = gatherB m c (t.val - 1) (Nat.lt_of_le_of_lt (Nat.sub_le _ _) t.isLt) i + offsets m c t i := by
  have h1 : 1 ≤ t.val := by omega
  rw [gatherB, gatherB, outsAt0_B m c t h h1 h h1]
  frame_out
  rw [add3]

/-- and its rows of the argument's gradient. -/
theorem stored (t : Fin cfg0.N) :
    (outsAt0 m c t.val t.isLt).1 = grads (iblk m c 0 t) (iblk m c 3 t) (iblk m c 1 t) (iblk m c 2 t) := by
  have hN := lt_of_lt_of_eq t.isLt N_0
  by_cases h : t.val % 17 = 0
  · rw [outsAt0_A m c t h (by omega) h (by omega)]
    frame_out
  · rw [outsAt0_B m c t h (by omega) h (by omega)]
    frame_out

/-! ### What the call leaves -/

theorem idx0 : ∀ t : Fin cfg0.N, win0_0.index t = ![t.val % 17, 0] ∧ win0_1.index t = ![0, 0] ∧ win0_2.index t = ![0, 0]
    ∧ win0_3.index t = ![t.val % 17, 0] ∧ win0_4.index t = ![t.val % 17, 0] ∧ win0_5.index t = ![0, 0] ∧ win0_6.index t = ![0, 0] :=
  (by decide +kernel : ∀ t : Fin grid0.N, _)

/-- A point's row. -/
def row (t : Fin cfg0.N) (k : Fin 128) : Fin 2176 := ⟨t.val % 17 * 128 + k.val, by omega⟩

theorem row_run {n : ℕ} (s : Fin 17) (k : Fin 128) (h : 17 * n + s.val < cfg0.N) (hl : s.val * 128 + k.val < 2176) :
    row ⟨17 * n + s.val, h⟩ k = ⟨s.val * 128 + k.val, hl⟩ := Fin.ext (by simp [row, Nat.mod_eq_of_lt s.isLt])

section Terms
variable (t : Fin cfg0.N) (k : Fin 128) (j : Fin 2048)

theorem blk0 : iblk m c 0 t (ix2 k j) = V m c main_arg0 (ix2 (row t k) j) := by blk_point [iblk, idx0 t, row]
theorem blk1 (o : Fin 1) : iblk m c 1 t (ix2 o j) = V m c main_arg1 (ix2 o j) := by blk_point [iblk, idx0 t]
theorem blk2 (o : Fin 1) : iblk m c 2 t (ix2 o j) = V m c main_arg2 (ix2 o j) := by blk_point [iblk, idx0 t]
theorem blk3 : iblk m c 3 t (ix2 k j) = V m c main_arg3 (ix2 (row t k) j) := by blk_point [iblk, idx0 t, row]

/-- The block's rows are the array's. -/
theorem blkRow : rowOf (iblk m c 0 t) k = rowOf (V m c main_arg0) (row t k) := funext fun l => blk0 m c t k l

theorem offTerm : offsetGrad (iblk m c 0 t) (iblk m c 1 t) (iblk m c 2 t) (iblk m c 3 t) k j
    = offsetGrad (V m c main_arg0) (V m c main_arg1) (V m c main_arg2) (V m c main_arg3) (row t k) j := by
  have e1 : rowOf (iblk m c 1 t) 0 = rowOf (V m c main_arg1) 0 := funext fun l => blk1 m c t l 0
  have e2 : rowOf (iblk m c 2 t) 0 = rowOf (V m c main_arg2) 0 := funext fun l => blk2 m c t l 0
  rw [offsetGrad, offsetGrad, layerOf, layerOf, blkRow, e1, e2, blk3]

theorem scaleTerm : layerScaleGrad (iblk m c 0 t) (iblk m c 1 t) (iblk m c 2 t) (iblk m c 3 t) k j
    = layerScaleGrad (V m c main_arg0) (V m c main_arg1) (V m c main_arg2) (V m c main_arg3) (row t k) j := by
  rw [layerScaleGrad, layerScaleGrad, offTerm, blkRow]

theorem gradTerm : layerGrad (iblk m c 0 t) (iblk m c 1 t) (iblk m c 2 t) (iblk m c 3 t) k j
    = layerGrad (V m c main_arg0) (V m c main_arg1) (V m c main_arg2) (V m c main_arg3) (row t k) j := by
  have e : layerRow (iblk m c 0 t) (iblk m c 1 t) (iblk m c 2 t) (iblk m c 3 t) k
      = layerRow (V m c main_arg0) (V m c main_arg1) (V m c main_arg2) (V m c main_arg3) (row t k) :=
    funext fun l => congrArg₂ (· * ·) (offTerm m c t k l) (blk1 m c t l 0)
  rw [layerGrad, layerGrad, e, blkRow]

theorem emb4 : (win0_4.blk t).view.emb (ix2 k j) = ix2 (row t k) j := by blk_ext [idx0 t, row]
theorem emb5 (o : Fin 1) : (win0_5.blk t).view.emb (ix2 o j) = ix2 o j := by blk_ext [idx0 t]
theorem emb6 (o : Fin 1) : (win0_6.blk t).view.emb (ix2 o j) = ix2 o j := by blk_ext [idx0 t]

theorem scales_at (o : Fin 1) : scales m c t (ix2 o j)
    = ∑ k, layerScaleGrad (V m c main_arg0) (V m c main_arg1) (V m c main_arg2) (V m c main_arg3) (row t k) j := by
  refine (scaleSum_at _ j o _ _ _ _ _ _).trans (Finset.sum_congr rfl fun k _ => ?_)
  rw [← scaleTerm, offs_at, normed_at]
  rfl

theorem offsets_at (o : Fin 1) : offsets m c t (ix2 o j)
    = ∑ k, offsetGrad (V m c main_arg0) (V m c main_arg1) (V m c main_arg2) (V m c main_arg3) (row t k) j := by
  refine (offSum_at _ j o _ _ _ _ _).trans (Finset.sum_congr rfl fun k _ => ?_)
  rw [← offTerm, offs_at]

end Terms

theorem final4 : (dats m 0 c).arrAt 4 cfg0.N
    = rows .f32 (layerGrad (V m c main_arg0) (V m c main_arg1) (V m c main_arg2) (V m c main_arg3)) := by
  refine (dats m 0 c).arrAt_eq_of_covers 4 _ (by decide +kernel) fun t hf y => ?_
  blk_simp
  obtain ⟨r, d, rfl⟩ := pair_idx y
  rw [after0_4, stored m c t, grads_at, gradTerm, emb4 t r d]
  rfl

theorem final5 : (dats m 0 c).arrAt 5 cfg0.N
    = colSums (layerScaleGrad (V m c main_arg0) (V m c main_arg1) (V m c main_arg2) (V m c main_arg3)) := by
  refine (dats m 0 c).arrAt_eq_of_covers 5 _ (by decide +kernel) fun t hf y => ?_
  blk_simp
  rw [after0_5, show (outsAt0 m c t.val t.isLt).2.1 = gatherG m c t.val t.isLt from rfl,
    Pipeline.eq_sum_fin_of_reset_step_apply_of_flush (gatherG m c) 17 (fun _ => 0) (scales m c) (gatherG_first m c) (gatherG_next m c) t
      ((flush0_5 t).mp hf) y]
  obtain ⟨o, d, rfl⟩ := pair_idx y
  rw [zero_add, emb5 t d o]
  simp only [scales_at]
  exact Fin.sum_mul_add_congr fun s k hl => congrArg (layerScaleGrad _ _ _ _ · d) (row_run s k _ hl)

theorem final6 : (dats m 0 c).arrAt 6 cfg0.N
    = colSums (offsetGrad (V m c main_arg0) (V m c main_arg1) (V m c main_arg2) (V m c main_arg3)) := by
  refine (dats m 0 c).arrAt_eq_of_covers 6 _ (by decide +kernel) fun t hf y => ?_
  blk_simp
  rw [after0_6, show (outsAt0 m c t.val t.isLt).2.2 = gatherB m c t.val t.isLt from rfl,
    Pipeline.eq_sum_fin_of_reset_step_apply_of_flush (gatherB m c) 17 (fun _ => 0) (offsets m c) (gatherB_first m c) (gatherB_next m c) t
      ((flush0_6 t).mp hf) y]
  obtain ⟨o, d, rfl⟩ := pair_idx y
  rw [zero_add, emb6 t d o]
  simp only [offsets_at]
  exact Fin.sum_mul_add_congr fun s k hl => congrArg (offsetGrad _ _ _ _ · d) (row_run s k _ hl)

abbrev argX : FVec Ideal S2176x2048 .f32 := m ((c.tc : Thread nD τ).loc main_arg0)
abbrev argG : FVec Ideal S1x2048 .f32 := m ((c.tc : Thread nD τ).loc main_arg1)
abbrev argB : FVec Ideal S1x2048 .f32 := m ((c.tc : Thread nD τ).loc main_arg2)
abbrev argD : FVec Ideal S2176x2048 .f32 := m ((c.tc : Thread nD τ).loc main_arg3)

/-- Every execution ends with the three gradients and the arguments as launched. -/
theorem run : θ_run defs (onTc (τ := τ) (main (F := Ideal))) ⟨m, fun _ => 0, ρ⟩ (fun r => ∀ c : Dev nD,
      r.2.mem ((c.tc : Thread nD τ).loc main_v0_0) = rows .f32 (layerGrad (argX m c) (argG m c) (argB m c) (argD m c))
      ∧ r.2.mem ((c.tc : Thread nD τ).loc main_v0_1) = colSums (layerScaleGrad (argX m c) (argG m c) (argB m c) (argD m c))
      ∧ r.2.mem ((c.tc : Thread nD τ).loc main_v0_2) = colSums (offsetGrad (argX m c) (argG m c) (argB m c) (argD m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans ((final4 m c).trans (by rw [V_main_arg0, V_main_arg1, V_main_arg2, V_main_arg3])),
     ((h c).1 5).trans ((final5 m c).trans (by rw [V_main_arg0, V_main_arg1, V_main_arg2, V_main_arg3])),
     ((h c).1 6).trans ((final6 m c).trans (by rw [V_main_arg0, V_main_arg1, V_main_arg2, V_main_arg3])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c)))⟩)
    (run_main m ρ)

end Cert.Kernel18Ideal.Results

end
-- ==== Proof.LayerReference.lean ====
/- The gradient of the layer norm and its activation as the reference computes it, stage by stage, and its three results: the ones the
   call leaves. -/
module

public import proofs.«01_k».proof.Proof.LayerGrads
public import proofs.«01_k».proof.Proof.Gen.Reference18Ideal.Run

@[expose] public section

set_option maxRecDepth 16384

noncomputable section

namespace Cert.Reference18Ideal.Stages

open Cert.Reference18Ideal Cert.Reference18Ideal.Gen Cert.Reference18Ideal.Value Idealize.ShloMosaic Cert.Ffn
open Cert.Reference14Ideal.Stages (means part share scaled means_at part_at share_at scaled_at rows_eq)
open Cert.Reference16Ideal.Stages (gates slopes sums gates_at slopes_at sums_eq)
open Cert.Reference20Ideal.Stages (centre normed layers centre_at centre_row normed_at layers_at)

variable (x d e p q : FVec Ideal S2176x2048 .f32) (g b : FVec Ideal S1x2048 .f32) (r : Fin 2176) (j : Fin 2048) (o : Fin 1)

/-! ### The stages -/

/-- The gradient of the layer norm's elements, -/
def offs : FVec Ideal S2176x2048 .f32 :=
  addf (mulf d (gates (layers x g b))) (mulf (mulf (layers x g b) d) (slopes (layers x g b)))
/-- and at every row, times its normalised element. -/
def offScales : FVec Ideal S2176x2048 .f32 := mulf (normed x) (offs x d g b)
/-- The gradient of the centred row from its own factor, `e` the gradient of its normalised elements, -/
def owns : FVec Ideal S2176x2048 .f32 :=
  mulf e (broadcastInDim S2176x2048 ![0, 1] bcast_S2176x1_S2176x2048_0_1 (Host.rsqrt (means (centre x))))
/-- and from the variance; -/
def vars : FVec Ideal S2176x2048 .f32 :=
  mulf (share (centre x) e) (mulf (broadcastInDim S2176x2048 ![] bcast_S_S2176x2048 (constant S_ .f32 0x40000000#32)) (centre x))
/-- a row's sum, negated, -/
def minus : FVec Ideal S2176x1 .f32 :=
  shapeCast S2176x1 (Host.reduceAdd (Host.negf p) (constant S_ .f32 0x00000000#32) reducesTo_S2176x2048_S2176_d1 h_S_) shapeCasts_S2176_S2176x1
/-- the mean's part, -/
def outer : FVec Ideal S2176x1 .f32 :=
  Host.divf (addf (minus p) (minus q)) (broadcastInDim S2176x1 ![] bcast_S_S2176x1 (constant S_ .f32 0x45000000#32))
/-- and the argument's gradient. -/
def total : FVec Ideal S2176x2048 .f32 :=
  addf (addf p q) (broadcastInDim S2176x2048 ![0] bcast_S2176_S2176x2048_0
    (Host.reduceAdd (outer p q) (constant S_ .f32 0x00000000#32) reducesTo_S2176x1_S2176_d1 h_S_))

theorem offs_at : offs x d g b (ix2 r j) = offsetGrad x g b d r j := by
  pointwise [offs]
  rw [gates_at, slopes_at, layers_at]
  rfl

theorem offScales_at : offScales x d g b (ix2 r j) = layerScaleGrad x g b d r j := by
  pointwise [offScales]
  rw [normed_at, offs_at]
  rfl

theorem owns_at : owns x e (ix2 r j) = ownTerm full (rowOf x r) (rowOf e r) j := by
  pointwise [owns]
  rw [means_at, centre_row]
  rfl

theorem vars_at : vars x e (ix2 r j) = varTerm full (rowOf x r) (rowOf e r) j := by
  pointwise [vars]
  rw [share_at, centre_at, centre_row]
  rfl

theorem minus_at : minus p (ix2 r o) = ∑ l, -p (ix2 r l) := by pointwise [minus]

theorem outer_at : outer p q (ix2 r o) = Ideal.div ((∑ l, -p (ix2 r l)) + ∑ l, -q (ix2 r l)) full := by
  pointwise [outer]
  rw [minus_at, minus_at]

theorem total_at : total p q (ix2 r j) = p (ix2 r j) + q (ix2 r j) + Ideal.div ((∑ l, -p (ix2 r l)) + ∑ l, -q (ix2 r l)) full := by
  pointwise [total]
  simp only [outer_at, Finset.univ_unique, Finset.sum_singleton]
  rfl

/-- The gradient of the norm's argument. -/
def grad : FVec Ideal S2176x2048 .f32 := total (owns x (scaled g (offs x d g b))) (vars x (scaled g (offs x d g b)))

theorem grad_at : grad x d g b (ix2 r j) = layerGrad x g b d r j := by
  have e : rowOf (scaled g (offs x d g b)) r = layerRow x g b d r := funext fun l =>
    (scaled_at g _ r l).trans (congrArg (· * g (ix2 0 l)) (offs_at x d g b r l))
  rw [grad, total_at]
  simp only [owns_at, vars_at, e]
  rfl

/-! ### The three results -/

variable (μ : (ℓ : Loc nD τ sig) → Buf (Elt Ideal) ℓ) (c : Dev nD)

abbrev argX : FVec Ideal S2176x2048 .f32 := μ ((c.tc : Thread nD τ).loc main_arg0)
abbrev argG : FVec Ideal S1x2048 .f32 := μ ((c.tc : Thread nD τ).loc main_arg1)
abbrev argB : FVec Ideal S1x2048 .f32 := μ ((c.tc : Thread nD τ).loc main_arg2)
abbrev argD : FVec Ideal S2176x2048 .f32 := μ ((c.tc : Thread nD τ).loc main_arg3)

theorem grad_eq : res_main_v59 (F := Ideal) μ c = grad (argX μ c) (argD μ c) (argG μ c) (argB μ c) := rfl
theorem scale_eq : res_main_v33 (F := Ideal) μ c = sums (offScales (argX μ c) (argD μ c) (argG μ c) (argB μ c)) := rfl
theorem offset_eq : res_main_v30 (F := Ideal) μ c = sums (offs (argX μ c) (argD μ c) (argG μ c) (argB μ c)) := rfl

theorem run (ρ : Dev nD → PrngReg) : θ_run defs (onTc (τ := τ) (main (F := Ideal))) ⟨μ, fun _ => 0, ρ⟩ (fun r => ∀ c : Dev nD,
      r.2.mem ((c.tc : Thread nD τ).loc main_v59) = rows .f32 (layerGrad (argX μ c) (argG μ c) (argB μ c) (argD μ c))
      ∧ r.2.mem ((c.tc : Thread nD τ).loc main_v33) = colSums (layerScaleGrad (argX μ c) (argG μ c) (argB μ c) (argD μ c))
      ∧ r.2.mem ((c.tc : Thread nD τ).loc main_v30) = colSums (offsetGrad (argX μ c) (argG μ c) (argB μ c) (argD μ c))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)) :=
  (θ_run defs _ _).mono (fun _ h c =>
    ⟨(h c).1.trans ((grad_eq μ c).trans (rows_eq _ _ (grad_at (argX μ c) (argD μ c) (argG μ c) (argB μ c))).1),
     (h c).2.1.trans ((scale_eq μ c).trans (sums_eq _ _ (offScales_at (argX μ c) (argD μ c) (argG μ c) (argB μ c)))),
     (h c).2.2.1.trans ((offset_eq μ c).trans (sums_eq _ _ (offs_at (argX μ c) (argD μ c) (argG μ c) (argB μ c)))), (h c).2.2.2⟩)
    (Value.run (F := Ideal) μ ρ)

end Cert.Reference18Ideal.Stages

end
-- ==== Proof.UnitForward.lean ====
/- The gated linear unit: 128 rows at a point; and the reference's, the same. -/
module

public import proofs.«01_k».proof.Proof.UnitReference
public import proofs.«01_k».proof.Proof.Gen.Kernel19Ideal.Frame
public import proofs.«01_k».proof.Proof.Gen.Reference19Ideal.Run
public import Idealize.ShloMosaic.Lib.Pipeline.ReadBack

@[expose] public section

set_option maxRecDepth 16384

noncomputable section

namespace Cert.Ffn

open Idealize.ShloMosaic

/-- The gated linear unit at an element. -/
def unit (z : FVec Ideal ⟨2, ![2176, 4096]⟩ .f32) (p q : FVec Ideal ⟨2, ![1, 2048]⟩ .f32) (r : Fin 2176) (j : Fin 2048) : EReal :=
  (z (ix2 r (inLeft j)) + p (ix2 0 j)) * gate (z (ix2 r (inRight j)) + q (ix2 0 j))

end Cert.Ffn

namespace Cert.Kernel19Ideal.Results

open Idealize.ShloMosaic Idealize.ShloMosaic.TcCoe Idealize.SL.Sem
open Cert.Kernel19Ideal Cert.Kernel19Ideal.Gen Cert.Ffn
open Cert.Kernel2Ideal.Calls (pair_idx)

theorem unit_at (a b : Vec Ideal S128x2048 .f32) (p q : Vec Ideal S1x2048 .f32) (k : Fin 128) (j : Fin 2048) :
    k0_pay1 a b p q (ix2 k j) = (a (ix2 k j) + p (ix2 0 j)) * gate (b (ix2 k j) + q (ix2 0 j)) := by
  pointwise [k0_pay1]
  simp only [zero_sub]
  rfl

variable (m : (ℓ : Loc nD τ sig) → Buf (Elt Ideal) ℓ) (ρ : Dev nD → PrngReg) (c : Dev nD)

theorem idx0 : ∀ t : Fin cfg0.N, win0_0.index t = ![t.val % 17, 0] ∧ win0_1.index t = ![t.val % 17, 1] ∧ win0_2.index t = ![0, 0]
    ∧ win0_3.index t = ![0, 0] ∧ win0_4.index t = ![t.val % 17, 0] :=
  (by decide +kernel : ∀ t : Fin grid0.N, _)

/-- A point's row. -/
def row (t : Fin cfg0.N) (k : Fin 128) : Fin 2176 := ⟨t.val % 17 * 128 + k.val, by omega⟩

theorem emb4 (t : Fin cfg0.N) (k : Fin 128) (j : Fin 2048) : (win0_4.blk t).view.emb (ix2 k j) = ix2 (row t k) j := by
  blk_ext [idx0 t, row]

theorem term (t : Fin cfg0.N) (k : Fin 128) (j : Fin 2048) : k0_pay1 (iblk m c 0 t) (iblk m c 1 t) (iblk m c 2 t) (iblk m c 3 t) (ix2 k j)
    = unit (V m c main_arg0) (V m c main_arg1) (V m c main_arg2) (row t k) j := by
  rw [unit_at, unit]
  blk_point [iblk, idx0 t, row, inLeft, inRight]

theorem final4 : (dats m 0 c).arrAt 4 cfg0.N = rows .f32 (unit (V m c main_arg0) (V m c main_arg1) (V m c main_arg2)) := by
  refine (dats m 0 c).arrAt_eq_of_covers 4 _ (by decide +kernel) fun t hf y => ?_
  blk_simp
  rw [after0_4]
  frame_out
  obtain ⟨r, d, rfl⟩ := pair_idx y
  rw [term, emb4 t r d]
  rfl

abbrev argZ : FVec Ideal S2176x4096 .f32 := m ((c.tc : Thread nD τ).loc main_arg0)
abbrev argP : FVec Ideal S1x2048 .f32 := m ((c.tc : Thread nD τ).loc main_arg1)
abbrev argQ : FVec Ideal S1x2048 .f32 := m ((c.tc : Thread nD τ).loc main_arg2)

/-- Every execution ends with the unit's result and the arguments as launched. -/
theorem run : θ_run defs (onTc (τ := τ) (main (F := Ideal))) ⟨m, fun _ => 0, ρ⟩ (fun r => ∀ c : Dev nD,
      r.2.mem ((c.tc : Thread nD τ).loc main_v0) = rows .f32 (unit (argZ m c) (argP m c) (argQ m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 4).trans ((final4 m c).trans (by rw [V_main_arg0, V_main_arg1, V_main_arg2])),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 3).trans (((dats m 0 c).arrAt_in 3 rfl _).trans ((A_eq m c 3).trans (V_main_arg2 m c)))⟩)
    (run_main m ρ)

end Cert.Kernel19Ideal.Results

namespace Cert.Reference19Ideal.Stages

open Cert.Reference19Ideal Cert.Reference19Ideal.Gen Cert.Reference19Ideal.Value Idealize.ShloMosaic Cert.Ffn
open Cert.Kernel2Ideal.Calls (pair_idx)
open Cert.Reference16Ideal.Stages (leftArg rightArg gates leftArg_at rightArg_at gates_at)

variable (μ : (ℓ : Loc nD τ sig) → Buf (Elt Ideal) ℓ) (c : Dev nD)

theorem unit_eq (z : FVec Ideal S2176x4096 .f32) (p q : FVec Ideal S1x2048 .f32) :
    mulf (leftArg z p) (gates (rightArg z q)) = rows .f32 (unit z p q) := funext fun i => by
  obtain ⟨r, j, rfl⟩ := pair_idx i
  refine (congrArg₂ (· * ·) (leftArg_at z p r j) (gates_at (rightArg z q) r j)).trans ?_
  rw [rightArg_at]
  rfl

abbrev argZ : FVec Ideal S2176x4096 .f32 := μ ((c.tc : Thread nD τ).loc main_arg0)
abbrev argP : FVec Ideal S1x2048 .f32 := μ ((c.tc : Thread nD τ).loc main_arg1)
abbrev argQ : FVec Ideal S1x2048 .f32 := μ ((c.tc : Thread nD τ).loc main_arg2)

theorem run (ρ : Dev nD → PrngReg) : θ_run defs (onTc (τ := τ) (main (F := Ideal))) ⟨μ, fun _ => 0, ρ⟩ (fun r => ∀ c : Dev nD,
      r.2.mem ((c.tc : Thread nD τ).loc main_v12) = rows .f32 (unit (argZ μ c) (argP μ c) (argQ μ c))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)) :=
  (θ_run defs _ _).mono (fun _ h c => ⟨(h c).1.trans (unit_eq (argZ μ c) (argP μ c) (argQ μ c)), (h c).2⟩) (Value.run (F := Ideal) μ ρ)

end Cert.Reference19Ideal.Stages

end
-- ==== Proof.LowForward.lean ====
/- The norms of the two low-rank arrays: 128 rows at a point; and the reference's, stage by stage, the same. -/
module

public import proofs.«01_k».proof.Proof.LowReference
public import proofs.«01_k».proof.Proof.Gen.Kernel21Ideal.Frame
public import proofs.«01_k».proof.Proof.Gen.Reference21Ideal.Run
public import Idealize.ShloMosaic.Lib.Pipeline.ReadBack

@[expose] public section

set_option maxRecDepth 16384

noncomputable section

namespace Cert.Ffn

open Idealize.ShloMosaic

/-- A row's normalised element, `g` the scale, -/
def lowNorm (x : Fin 512 → EReal) (g : FVec Ideal ⟨2, ![1, 512]⟩ .f32) (j : Fin 512) : EReal := x j * rowInv short x * g (ix2 0 j)
/-- and an array of such elements. -/
def shortRows (f : Fin 2176 → Fin 512 → EReal) : FVec Ideal ⟨2, ![2176, 512]⟩ .bf16 := fun i => f (i 0) (i 1)

end Cert.Ffn

namespace Cert.Kernel21Ideal.Results

open Idealize.ShloMosaic Idealize.ShloMosaic.TcCoe Idealize.SL.Sem
open Cert.Kernel21Ideal Cert.Kernel21Ideal.Gen Cert.Ffn
open Cert.Kernel2Ideal.Calls (pair_idx)

theorem norm_at (x : Vec Ideal S128x512 .f32) (g : Vec Ideal S1x512 .f32) (k : Fin 128) (j : Fin 512) :
    k0_pay1 x g (ix2 k j) = lowNorm (rowOf x k) g j := by
  pointwise [k0_pay1]
  rfl

/-- The second array's are the same. -/
theorem norm_k (x : Vec Ideal S128x512 .f32) (g : Vec Ideal S1x512 .f32) : k0_pay2 x g = k0_pay1 (F := Ideal) x g := rfl

variable (m : (ℓ : Loc nD τ sig) → Buf (Elt Ideal) ℓ) (ρ : Dev nD → PrngReg) (c : Dev nD)

theorem idx0 : ∀ t : Fin cfg0.N, win0_0.index t = ![t.val % 17, 0] ∧ win0_1.index t = ![t.val % 17, 1] ∧ win0_2.index t = ![0, 0]
    ∧ win0_3.index t = ![0, 0] ∧ win0_4.index t = ![t.val % 17, 0] ∧ win0_5.index t = ![t.val % 17, 0] :=
  (by decide +kernel : ∀ t : Fin grid0.N, _)

/-- A point's row. -/
def row (t : Fin cfg0.N) (k : Fin 128) : Fin 2176 := ⟨t.val % 17 * 128 + k.val, by omega⟩

section Terms
variable (t : Fin cfg0.N) (k : Fin 128) (j : Fin 512) (o : Fin 1)

theorem blk0 : X0_0 m c t (ix2 k j) = V m c main_arg0 (ix2 (row t k) (qCol j)) := by
  unfold X0_0 Pipeline.Window.fill
  rw [dif_pos (moved0_0 t _)]
  blk_point [iblk, idx0 t, row, qCol]

theorem blk1 : X0_1 m c t (ix2 k j) = V m c main_arg0 (ix2 (row t k) (kCol j)) := by
  unfold X0_1 Pipeline.Window.fill
  rw [dif_pos (moved0_1 t _)]
  blk_point [iblk, idx0 t, row, kCol]

theorem blk2 : iblk m c 2 t (ix2 o j) = V m c main_arg1 (ix2 o j) := by blk_point [iblk, idx0 t]
theorem blk3 : iblk m c 3 t (ix2 o j) = V m c main_arg2 (ix2 o j) := by blk_point [iblk, idx0 t]

/-- The block's rows are the array's. -/
theorem rowQ : rowOf (X0_0 m c t) k = qRow (V m c main_arg0) (row t k) := funext fun l => blk0 m c t k l
theorem rowK : rowOf (X0_1 m c t) k = kRow (V m c main_arg0) (row t k) := funext fun l => blk1 m c t k l

theorem termQ : lowNorm (rowOf (X0_0 m c t) k) (iblk m c 2 t) j = lowNorm (qRow (V m c main_arg0) (row t k)) (V m c main_arg1) j := by
  rw [lowNorm, rowQ, blk2]
  rfl

theorem termK : lowNorm (rowOf (X0_1 m c t) k) (iblk m c 3 t) j = lowNorm (kRow (V m c main_arg0) (row t k)) (V m c main_arg2) j := by
  rw [lowNorm, rowK, blk3]
  rfl

theorem emb4 : (win0_4.blk t).view.emb (ix2 k j) = ix2 (row t k) j := by blk_ext [idx0 t, row]
theorem emb5 : (win0_5.blk t).view.emb (ix2 k j) = ix2 (row t k) j := by blk_ext [idx0 t, row]

end Terms

theorem storedQ (t : Fin cfg0.N) : (outsAt0 m c t).1 = k0_pay1 (X0_0 m c t) (iblk m c 2 t) := by frame_out
theorem storedK (t : Fin cfg0.N) : (outsAt0 m c t).2 = k0_pay2 (X0_1 m c t) (iblk m c 3 t) := by frame_out

theorem final4 : (dats m 0 c).arrAt 4 cfg0.N = shortRows (fun r => lowNorm (qRow (V m c main_arg0) r) (V m c main_arg1)) := by
  refine (dats m 0 c).arrAt_eq_of_covers 4 _ (by decide +kernel) fun t hf y => ?_
  blk_simp
  rw [after0_4, storedQ]
  obtain ⟨r, d, rfl⟩ := pair_idx y
  rw [norm_at, termQ, emb4 t r d]
  rfl

theorem final5 : (dats m 0 c).arrAt 5 cfg0.N = shortRows (fun r => lowNorm (kRow (V m c main_arg0) r) (V m c main_arg2)) := by
  refine (dats m 0 c).arrAt_eq_of_covers 5 _ (by decide +kernel) fun t hf y => ?_
  blk_simp
  rw [after0_5, storedK]
  obtain ⟨r, d, rfl⟩ := pair_idx y
  rw [norm_k, norm_at, termK, emb5 t r d]
  rfl

abbrev argZ : FVec Ideal S2176x1152 .f32 := m ((c.tc : Thread nD τ).loc main_arg0)
abbrev argP : FVec Ideal S1x512 .f32 := m ((c.tc : Thread nD τ).loc main_arg1)
abbrev argQ : FVec Ideal S1x512 .f32 := m ((c.tc : Thread nD τ).loc main_arg2)

/-- Every execution ends with the two arrays' norms and the arguments as launched. -/
theorem run : θ_run defs (onTc (τ := τ) (main (F := Ideal))) ⟨m, fun _ => 0, ρ⟩ (fun r => ∀ c : Dev nD,
      r.2.mem ((c.tc : Thread nD τ).loc main_v0_0) = shortRows (fun r => lowNorm (qRow (argZ m c) r) (argP m c))
      ∧ r.2.mem ((c.tc : Thread nD τ).loc main_v0_1) = shortRows (fun r => lowNorm (kRow (argZ m c) r) (argQ m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 4).trans ((final4 m c).trans (by rw [V_main_arg0, V_main_arg1])),
     ((h c).1 5).trans ((final5 m c).trans (by rw [V_main_arg0, V_main_arg2])),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).1 3).trans (((dats m 0 c).arrAt_in 3 rfl _).trans ((A_eq m c 3).trans (V_main_arg2 m c)))⟩)
    (run_main m ρ)

end Cert.Kernel21Ideal.Results

namespace Cert.Reference21Ideal.Stages

open Cert.Reference21Ideal Cert.Reference21Ideal.Gen Cert.Reference21Ideal.Value Idealize.ShloMosaic Cert.Ffn
open Cert.Kernel2Ideal.Calls (pair_idx)
open Cert.Reference17Ideal.Stages (qs ks means means_at qs_row ks_row)

variable (z : FVec Ideal S2176x1152 .f32) (h : FVec Ideal S2176x512 .f32) (g : FVec Ideal S1x512 .f32) (r : Fin 2176) (j : Fin 512)

/-- The normalised rows of an array. -/
def norms : FVec Ideal S2176x512 .bf16 :=
  truncf .bf16 (mulf (mulf h (broadcastInDim S2176x512 ![0, 1] bcast_S2176x1_S2176x512_0_1 (Host.rsqrt (means h))))
    (broadcastInDim S2176x512 ![0, 1] bcast_S1x512_S2176x512_0_1 g)) bitsLt_bf16_f32

theorem norms_at : norms h g (ix2 r j) = lowNorm (rowOf h r) g j := by
  pointwise [norms]
  rw [means_at]
  rfl

theorem norms_q : norms (qs z) g = shortRows (fun r => lowNorm (qRow z r) g) := funext fun i => by
  obtain ⟨r, j, rfl⟩ := pair_idx i
  rw [norms_at, qs_row]
  rfl

theorem norms_k : norms (ks z) g = shortRows (fun r => lowNorm (kRow z r) g) := funext fun i => by
  obtain ⟨r, j, rfl⟩ := pair_idx i
  rw [norms_at, ks_row]
  rfl

variable (μ : (ℓ : Loc nD τ sig) → Buf (Elt Ideal) ℓ) (c : Dev nD)

abbrev argZ : FVec Ideal S2176x1152 .f32 := μ ((c.tc : Thread nD τ).loc main_arg0)
abbrev argP : FVec Ideal S1x512 .f32 := μ ((c.tc : Thread nD τ).loc main_arg1)
abbrev argQ : FVec Ideal S1x512 .f32 := μ ((c.tc : Thread nD τ).loc main_arg2)

theorem run (ρ : Dev nD → PrngReg) : θ_run defs (onTc (τ := τ) (main (F := Ideal))) ⟨μ, fun _ => 0, ρ⟩ (fun r => ∀ c : Dev nD,
      r.2.mem ((c.tc : Thread nD τ).loc main_v13) = shortRows (fun r => lowNorm (qRow (argZ μ c) r) (argP μ c))
      ∧ r.2.mem ((c.tc : Thread nD τ).loc main_v27) = shortRows (fun r => lowNorm (kRow (argZ μ c) r) (argQ μ c))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)) :=
  (θ_run defs _ _).mono (fun _ h c => ⟨(h c).1.trans (norms_q (argZ μ c) (argP μ c)),
      (h c).2.1.trans (norms_k (argZ μ c) (argQ μ c)), (h c).2.2⟩) (Value.run (F := Ideal) μ ρ)

end Cert.Reference21Ideal.Stages

end
-- ==== Proof.HeadGrads.lean ====
/- The gradient of the rotary embedding and of the split into heads, 128 rows at a point: a head's rotary pairs turned back, the heads'
   parts side by side, and the sum over the heads for the rotary key that they share. -/
module

public import proofs.«01_k».proof.Proof.Norms
public import proofs.«01_k».proof.Proof.Gen.Kernel22Ideal.Frame
public import Idealize.ShloMosaic.Lib.Pipeline.ReadBack
public import Idealize.ShloMosaic.Lib.Pipeline.ValueKit.Tiles

@[expose] public section

set_option maxRecDepth 16384

noncomputable section

namespace Cert.Ffn

open Idealize.ShloMosaic

/-! ### A head's columns: the plain ones, and the two halves of the rotary ones -/

def plainCol (j : Fin 128) : Fin 192 := ⟨j.val, by omega⟩
def firstCol (j : Fin 32) : Fin 192 := ⟨128 + j.val, by omega⟩
def secondCol (j : Fin 32) : Fin 192 := ⟨160 + j.val, by omega⟩

theorem secondCol_eq (j : Fin 32) : (⟨128 + (32 + j.val), by omega⟩ : Fin 192) = secondCol j := Fin.ext (by simp [secondCol]; omega)

theorem inPart (j : Fin 192) : (∃ i, j = plainCol i) ∨ (∃ i, j = firstCol i) ∨ ∃ i, j = secondCol i := by
  by_cases h : j.val < 128
  · exact .inl ⟨⟨j.val, h⟩, rfl⟩
  by_cases h' : j.val < 160
  · exact .inr (.inl ⟨⟨j.val - 128, by omega⟩, Fin.ext (by simp [firstCol]; omega)⟩)
  · exact .inr (.inr ⟨⟨j.val - 160, by omega⟩, Fin.ext (by simp [secondCol]; omega)⟩)

section Turn
variable (d : Fin 192 → EReal) (c s : Fin 32 → EReal)

/-- A head's row, its rotary pairs turned back by the angles whose cosines and sines are `c` and `s`. -/
def turned (j : Fin 192) : EReal :=
  if hp : j.val < 128 then d j
  else if ha : j.val < 160 then
    d (firstCol ⟨j.val - 128, by omega⟩) * c ⟨j.val - 128, by omega⟩ + d (secondCol ⟨j.val - 128, by omega⟩) * s ⟨j.val - 128, by omega⟩
  else d (secondCol ⟨j.val - 160, by omega⟩) * c ⟨j.val - 160, by omega⟩ - d (firstCol ⟨j.val - 160, by omega⟩) * s ⟨j.val - 160, by omega⟩

theorem turned_plain (j : Fin 128) : turned d c s (plainCol j) = d (plainCol j) := dif_pos j.isLt

theorem turned_first (j : Fin 32) : turned d c s (firstCol j) = d (firstCol j) * c j + d (secondCol j) * s j := by
  have h : (⟨(firstCol j).val - 128, by simp [firstCol]⟩ : Fin 32) = j := Fin.ext (by simp [firstCol])
  rw [turned, dif_neg (by simp [firstCol]), dif_pos (by simp [firstCol]; omega), h]

theorem turned_second (j : Fin 32) : turned d c s (secondCol j) = d (secondCol j) * c j - d (firstCol j) * s j := by
  have h : (⟨(secondCol j).val - 160, by simp [secondCol]⟩ : Fin 32) = j := Fin.ext (by simp [secondCol])
  rw [turned, dif_neg (by simp [secondCol]; omega), dif_neg (by simp [secondCol]), h]

end Turn

section Arrays
variable {n : ℕ} (q k : FVec Ideal ⟨3, ![16, n, 192]⟩ .f32) (v : FVec Ideal ⟨3, ![16, n, 128]⟩ .f32) (c s : FVec Ideal ⟨2, ![n, 32]⟩ .f32)
  (r : Fin n)

/-- The queries' gradient: every head's turned row, side by side. -/
def queryGrad (j : Fin 3072) : EReal :=
  turned (fun l => q (ix3 ⟨j.val / 192, by omega⟩ r l)) (rowOf c r) (rowOf s r) ⟨j.val % 192, by omega⟩

/-- The keys' and values': the heads' plain columns side by side, and their values after them. -/
def pairGrad (j : Fin 4096) : EReal :=
  if h : j.val < 2048 then k (ix3 ⟨j.val / 128, by omega⟩ r (plainCol ⟨j.val % 128, by omega⟩))
  else v (ix3 ⟨(j.val - 2048) / 128, by omega⟩ r ⟨j.val % 128, by omega⟩)

/-- The sum of the heads' rows, -/
def headSum (l : Fin 192) : EReal := ∑ h, k (ix3 h r l)
/-- and the rotary key's: the sum's rotary pairs turned, and zeros after them. -/
def keyGrad (j : Fin 128) : EReal :=
  if h : j.val < 64 then turned (headSum k r) (rowOf c r) (rowOf s r) ⟨128 + j.val, by omega⟩ else 0

theorem inKey (j : Fin 128) : (∃ i : Fin 32, j = ⟨i.val, by omega⟩) ∨ (∃ i : Fin 32, j = ⟨32 + i.val, by omega⟩)
    ∨ ∃ i : Fin 64, j = ⟨64 + i.val, by omega⟩ := by
  by_cases h : j.val < 32
  · exact .inl ⟨⟨j.val, h⟩, rfl⟩
  by_cases h' : j.val < 64
  · exact .inr (.inl ⟨⟨j.val - 32, by omega⟩, Fin.ext (by simp; omega)⟩)
  · exact .inr (.inr ⟨⟨j.val - 64, by omega⟩, Fin.ext (by simp; omega)⟩)

theorem keyGrad_first (j : Fin 32) : keyGrad k c s r ⟨j.val, by omega⟩
    = headSum k r (firstCol j) * c (ix2 r j) + headSum k r (secondCol j) * s (ix2 r j) :=
  (dif_pos (by simp; omega)).trans (turned_first _ _ _ j)

theorem keyGrad_second (j : Fin 32) : keyGrad k c s r ⟨32 + j.val, by omega⟩
    = headSum k r (secondCol j) * c (ix2 r j) - headSum k r (firstCol j) * s (ix2 r j) := by
  rw [keyGrad, dif_pos (by simp; omega)]
  exact (congrArg _ (secondCol_eq j)).trans (turned_second _ _ _ j)

theorem keyGrad_zero (j : Fin 64) : keyGrad k c s r ⟨64 + j.val, by omega⟩ = 0 := dif_neg (by simp)

end Arrays

/-- An array of such elements. -/
def headRows {w : ℕ} (t : FTy) (f : Fin 2176 → Fin w → EReal) : FVec Ideal ⟨2, ![2176, w]⟩ t := fun i => f (i 0) (i 1)

end Cert.Ffn

namespace Cert.Kernel22Ideal.Results

open Idealize.ShloMosaic Idealize.ShloMosaic.TcCoe Idealize.SL.Sem
open Cert.Kernel22Ideal Cert.Kernel22Ideal.Gen Cert.Ffn
open Cert.Kernel2Ideal.Calls (pair_idx)

/-! ### What is loaded -/

theorem ld_head {w : ℕ} (x : Vec Ideal ⟨3, ![16, 128, w]⟩ .f32) (h : ℕ) (hh : h < 16) (inb) (k : Fin 128) (l : Fin w) :
    View.ld x (Rect.unit (s := ⟨3, ![16, 128, w]⟩) ![h, 0, 0] ![1, 128, w] inb) (ix3 0 k l) = x (ix3 ⟨h, hh⟩ k l) := by
  refine congrArg x ?_
  funext a
  fin_cases a
  · exact Fin.ext ((Rect.idx_unit_val ..).trans (Nat.add_zero _))
  · exact Fin.ext ((Rect.idx_unit_val ..).trans (Nat.zero_add _))
  · exact Fin.ext ((Rect.idx_unit_val ..).trans (Nat.zero_add _))

theorem ld_all (x : Vec Ideal S128x32 .f32) (k : Fin 128) (l : Fin 32) : View.ld x r0_0 (ix2 k l) = x (ix2 k l) := by pointwise [r0_0]

/-! ### One head -/

section Head
variable (c s : Vec Ideal S128x32 .f32) (d : Vec Ideal S1x128x192 .f32) (e : Vec Ideal S1x128x128 .f32) (k : Fin 128)

theorem head_plain (j : Fin 128) : k0_pay1 c s d (ix2 k (plainCol j)) = d (ix3 0 k (plainCol j)) := by
  pointwise [k0_pay1, plainCol]

theorem head_first (j : Fin 32) : k0_pay1 c s d (ix2 k (firstCol j))
    = d (ix3 0 k (firstCol j)) * c (ix2 k j) + d (ix3 0 k (secondCol j)) * s (ix2 k j) := by
  pointwise [k0_pay1, firstCol, secondCol]

theorem head_second (j : Fin 32) : k0_pay1 c s d (ix2 k (secondCol j))
    = d (ix3 0 k (secondCol j)) * c (ix2 k j) - d (ix3 0 k (firstCol j)) * s (ix2 k j) := by
  have e : 160 + j.val - 128 - 32 = j.val := by omega
  pointwise [k0_pay1, firstCol, secondCol]
  refine (dif_neg (by omega)).trans ((dif_neg (by omega)).trans ?_)
  simp only [e]

theorem head_at (j : Fin 192) : k0_pay1 c s d (ix2 k j) = turned (fun l => d (ix3 0 k l)) (rowOf c k) (rowOf s k) j := by
  obtain ⟨j, rfl⟩ | ⟨j, rfl⟩ | ⟨j, rfl⟩ := inPart j
  · rw [head_plain, turned_plain]
  · rw [head_first, turned_first]
  · rw [head_second, turned_second]

theorem keys_at (j : Fin 128) : k0_pay3 d (ix2 k j) = d (ix3 0 k (plainCol j)) := by pointwise [k0_pay3, k0_pay2, plainCol]
theorem values_at (j : Fin 128) : k0_pay4 e (ix2 k j) = e (ix3 0 k j) := by pointwise [k0_pay4]

end Head

/-! ### What a point leaves: a head's store is its part of the block -/

section Stores
variable (x0 x1 : Vec Ideal S16x128x192 .f32) (x2 : Vec Ideal S16x128x128 .f32) (c s : Vec Ideal S128x32 .f32)

theorem row_ld (k : Fin 128) : rowOf (View.ld c r0_0) k = rowOf c k := funext fun l => ld_all c k l

theorem query_store (o h : ℕ) (hh : h < 16) (ho : o = h * 192) (inb) (x : S128x192.Idx) (p : Fin 128) (q : Fin 3072)
    (h0 : p.val = (x 0).val) (h1 : q.val = o + (x 1).val) :
    k0_pay1 (View.ld c r0_0) (View.ld s r0_0) (View.ld x0 (Rect.unit (s := S16x128x192) ![h, 0, 0] S1x128x192.size inb)) x
      = queryGrad x0 c s p q := by
  obtain ⟨k, j, rfl⟩ := pair_idx x
  obtain rfl : p = k := Fin.ext h0
  replace h1 : q.val = o + j.val := h1
  have e1 : (⟨q.val / 192, by omega⟩ : Fin 16) = ⟨h, hh⟩ := Fin.ext (by show q.val / 192 = h; omega)
  have e2 : (⟨q.val % 192, Nat.mod_lt _ (by decide)⟩ : Fin 192) = j := Fin.ext (by show q.val % 192 = j.val; omega)
  rw [head_at, row_ld, row_ld, queryGrad, e1, e2]
  exact congrArg (fun f => turned f _ _ _) (funext fun l => ld_head x0 h hh inb p l)

theorem queries (y : S128x3072.Idx) : out0_5 x0 x1 x2 c s y = queryGrad x0 c s (y 0) (y 1) := by
  unfold_out out0_5
  canon_tiles x h
  all_goals first
    | exact query_store x0 c s _ _ (by decide) (by decide) _ x (y 0) (y 1) h0 h1
    | exact query_store x0 c s _ _ (by decide) (by decide) _ x (y 0) (y 1) h0 (h1.trans (Nat.zero_add _).symm)

theorem key_store (o h : ℕ) (hh : h < 16) (ho : o = h * 128) (inb) (x : S128x128.Idx) (p : Fin 128) (q : Fin 4096)
    (h0 : p.val = (x 0).val) (h1 : q.val = o + (x 1).val) :
    k0_pay3 (View.ld x1 (Rect.unit (s := S16x128x192) ![h, 0, 0] S1x128x192.size inb)) x = pairGrad x1 x2 p q := by
  obtain ⟨k, j, rfl⟩ := pair_idx x
  obtain rfl : p = k := Fin.ext h0
  replace h1 : q.val = o + j.val := h1
  have hl : q.val < 2048 := by omega
  have e1 : (⟨q.val / 128, by omega⟩ : Fin 16) = ⟨h, hh⟩ := Fin.ext (by show q.val / 128 = h; omega)
  have e2 : (⟨q.val % 128, Nat.mod_lt _ (by decide)⟩ : Fin 128) = j := Fin.ext (by show q.val % 128 = j.val; omega)
  rw [keys_at, pairGrad, dif_pos hl, e1, e2]
  exact ld_head x1 h hh inb p _

theorem value_store (o h : ℕ) (hh : h < 16) (ho : o = 2048 + h * 128) (inb) (x : S128x128.Idx) (p : Fin 128) (q : Fin 4096)
    (h0 : p.val = (x 0).val) (h1 : q.val = o + (x 1).val) :
    k0_pay4 (View.ld x2 (Rect.unit (s := S16x128x128) ![h, 0, 0] S1x128x128.size inb)) x = pairGrad x1 x2 p q := by
  obtain ⟨k, j, rfl⟩ := pair_idx x
  obtain rfl : p = k := Fin.ext h0
  replace h1 : q.val = o + j.val := h1
  have hl : ¬q.val < 2048 := by omega
  have e1 : (⟨(q.val - 2048) / 128, by omega⟩ : Fin 16) = ⟨h, hh⟩ := Fin.ext (by show (q.val - 2048) / 128 = h; omega)
  have e2 : (⟨q.val % 128, Nat.mod_lt _ (by decide)⟩ : Fin 128) = j := Fin.ext (by show q.val % 128 = j.val; omega)
  rw [values_at, pairGrad, dif_neg hl, e1, e2]
  exact ld_head x2 h hh inb p _

theorem pairs (y : S128x4096.Idx) : out0_6 x0 x1 x2 c s y = pairGrad x1 x2 (y 0) (y 1) := by
  unfold_out out0_6
  canon_tiles x h
  all_goals first
    | exact value_store x1 x2 _ _ (by decide) (by decide) _ x (y 0) (y 1) h0 h1
    | exact key_store x1 x2 _ _ (by decide) (by decide) _ x (y 0) (y 1) h0 h1
    | exact key_store x1 x2 _ _ (by decide) (by decide) _ x (y 0) (y 1) h0 (h1.trans (Nat.zero_add _).symm)

end Stores

/-! ### The rotary key's: the heads' rotary columns added up, and turned -/

section Key
variable (d : Fin 16 → Vec Ideal S1x128x192 .f32) (c s : Vec Ideal S128x32 .f32) (g : FVec Ideal S128x64 .f32) (k : Fin 128)

/-- A head's rotary columns, -/
def rotary (e : Vec Ideal S1x128x192 .f32) : FVec Ideal S128x64 .f32 :=
  extractStridedSlice S128x64 ![0, 128] (shapeCast S128x192 e shapeCasts_S1x128x192_S128x192) slices_S128x192_o0_128_S128x64
/-- the first `n` heads' added to zeros one after another, -/
def gathered : (n : ℕ) → n ≤ 16 → FVec Ideal S128x64 .f32
  | 0, _ => broadcast S128x64 (Scalar.ofBits (F := Ideal) .f32 0x00000000#32)
  | n + 1, h => addf (gathered n (by omega)) (rotary (d ⟨n, h⟩))
/-- a sum's pairs turned, and zeros after them, -/
def turnedSum : FVec Ideal S128x128 .f32 :=
  concatenate S128x128 1
    [⟨S128x32, addf (mulf (extractStridedSlice S128x32 ![0, 0] g slices_S128x64_o0_0_S128x32) c)
        (mulf (extractStridedSlice S128x32 ![0, 32] g slices_S128x64_o0_32_S128x32) s)⟩,
      ⟨S128x32, subf (mulf (extractStridedSlice S128x32 ![0, 32] g slices_S128x64_o0_32_S128x32) c)
        (mulf (extractStridedSlice S128x32 ![0, 0] g slices_S128x64_o0_0_S128x32) s)⟩,
      ⟨S128x64, broadcast S128x64 (Scalar.ofBits (F := Ideal) .f32 0x00000000#32)⟩] concatenates_S128x32_S128x32_S128x64_S128x128_d1
/-- and a head as it is loaded. -/
def loaded (x : Vec Ideal S16x128x192 .f32) (h : Fin 16) : Vec Ideal S1x128x192 .f32 :=
  View.ld x (Rect.unit (s := S16x128x192) ![h.val, 0, 0] S1x128x192.size (fun a => by fin_cases a <;> simp [S16x128x192, S1x128x192]))

theorem rotary_at (e : Vec Ideal S1x128x192 .f32) (l : Fin 64) : rotary e (ix2 k l) = e (ix3 0 k ⟨128 + l.val, by omega⟩) := by
  pointwise [rotary]

theorem gathered_at (l : Fin 64) : ∀ (n : ℕ) (h : n ≤ 16),
    gathered d n h (ix2 k l) = ∑ i : Fin n, d ⟨i.val, by omega⟩ (ix3 0 k ⟨128 + l.val, by omega⟩)
  | 0, _ => by
    rw [Fin.sum_univ_zero]
    pointwise [gathered]
  | n + 1, h => by
    rw [Fin.sum_univ_castSucc]
    exact congrArg₂ (· + ·) (gathered_at l n _) (rotary_at k _ l)

theorem turnedSum_first (j : Fin 32) : turnedSum c s g (ix2 k ⟨j.val, by omega⟩)
    = g (ix2 k ⟨j.val, by omega⟩) * c (ix2 k j) + g (ix2 k ⟨32 + j.val, by omega⟩) * s (ix2 k j) := by
  pointwise [turnedSum]

theorem turnedSum_second (j : Fin 32) : turnedSum c s g (ix2 k ⟨32 + j.val, by omega⟩)
    = g (ix2 k ⟨32 + j.val, by omega⟩) * c (ix2 k j) - g (ix2 k ⟨j.val, by omega⟩) * s (ix2 k j) := by
  pointwise [turnedSum]

theorem turnedSum_zero (j : Fin 64) : turnedSum c s g (ix2 k ⟨64 + j.val, by omega⟩) = 0 := by
  pointwise [turnedSum]
  exact (dif_neg (by omega)).trans (dif_neg (by omega))

theorem loaded_at (x : Vec Ideal S16x128x192 .f32) (h : Fin 16) (l : Fin 192) : loaded x h (ix3 0 k l) = x (ix3 h k l) :=
  ld_head x h.val h.isLt _ k l

/-- All the heads' sum. -/
theorem all_at (x : Vec Ideal S16x128x192 .f32) (l : Fin 64) :
    gathered (loaded x) 16 le_rfl (ix2 k l) = headSum x k ⟨128 + l.val, by omega⟩ :=
  (gathered_at (loaded x) k l 16 le_rfl).trans (Finset.sum_congr rfl fun h _ => loaded_at k x h _)

theorem turned_key (x : Vec Ideal S16x128x192 .f32) (j : Fin 128) :
    turnedSum (View.ld c r0_0) (View.ld s r0_0) (gathered (loaded x) 16 le_rfl) (ix2 k j) = keyGrad x c s k j := by
  obtain ⟨j, rfl⟩ | ⟨j, rfl⟩ | ⟨j, rfl⟩ := inKey j
  · rw [turnedSum_first, keyGrad_first, all_at, all_at, ld_all, ld_all, secondCol_eq]
    rfl
  · rw [turnedSum_second, keyGrad_second, all_at, all_at, ld_all, ld_all, secondCol_eq]
    rfl
  · rw [turnedSum_zero, keyGrad_zero]

theorem keySum (x0 x1 : Vec Ideal S16x128x192 .f32) (x2 : Vec Ideal S16x128x128 .f32) (y : S128x128.Idx) :
    out0_7 x0 x1 x2 c s y = keyGrad x1 c s (y 0) (y 1) := by
  unfold_out out0_7
  canon_tiles x h
  have e : y = x := by
    funext a
    fin_cases a
    · exact Fin.ext h0
    · exact Fin.ext h1
  subst e
  obtain ⟨k, j, rfl⟩ := pair_idx y
  exact turned_key c s k x1 j

end Key

/-! ### The blocks and the arrays -/

variable (m : (ℓ : Loc nD τ sig) → Buf (Elt Ideal) ℓ) (ρ : Dev nD → PrngReg) (c : Dev nD)

theorem idx0 : ∀ t : Fin cfg0.N, win0_0.index t = ![0, t.val % 17, 0] ∧ win0_1.index t = ![0, t.val % 17, 0]
    ∧ win0_2.index t = ![0, t.val % 17, 0] ∧ win0_3.index t = ![t.val % 17, 0] ∧ win0_4.index t = ![t.val % 17, 0]
    ∧ win0_5.index t = ![t.val % 17, 0] ∧ win0_6.index t = ![t.val % 17, 0] ∧ win0_7.index t = ![t.val % 17, 0] :=
  (by decide +kernel : ∀ t : Fin grid0.N, _)

/-- A point's row. -/
def row (t : Fin cfg0.N) (k : Fin 128) : Fin 2176 := ⟨t.val % 17 * 128 + k.val, by omega⟩

section Terms
variable (t : Fin cfg0.N) (k : Fin 128) (h : Fin 16)

theorem blk0 (l : Fin 192) : iblk m c 0 t (ix3 h k l) = V m c main_arg0 (ix3 h (row t k) l) := by blk_point [iblk, idx0 t, row]
theorem blk1 (l : Fin 192) : iblk m c 1 t (ix3 h k l) = V m c main_arg1 (ix3 h (row t k) l) := by blk_point [iblk, idx0 t, row]
theorem blk2 (l : Fin 128) : iblk m c 2 t (ix3 h k l) = V m c main_arg2 (ix3 h (row t k) l) := by blk_point [iblk, idx0 t, row]
theorem blk3 (l : Fin 32) : iblk m c 3 t (ix2 k l) = V m c main_arg3 (ix2 (row t k) l) := by blk_point [iblk, idx0 t, row]
theorem blk4 (l : Fin 32) : iblk m c 4 t (ix2 k l) = V m c main_arg4 (ix2 (row t k) l) := by blk_point [iblk, idx0 t, row]

/-- The block's rows are the array's. -/
theorem row3 : rowOf (iblk m c 3 t) k = rowOf (V m c main_arg3) (row t k) := funext fun l => blk3 m c t k l
theorem row4 : rowOf (iblk m c 4 t) k = rowOf (V m c main_arg4) (row t k) := funext fun l => blk4 m c t k l
theorem sum1 : headSum (iblk m c 1 t) k = headSum (V m c main_arg1) (row t k) :=
  funext fun l => Finset.sum_congr rfl fun h _ => blk1 m c t k h l

theorem term5 (j : Fin 3072) : queryGrad (iblk m c 0 t) (iblk m c 3 t) (iblk m c 4 t) k j
    = queryGrad (V m c main_arg0) (V m c main_arg3) (V m c main_arg4) (row t k) j := by
  rw [queryGrad, row3, row4]
  exact congrArg (fun f => turned f _ _ _) (funext fun l => blk0 m c t k _ l)

theorem term6 (j : Fin 4096) : pairGrad (iblk m c 1 t) (iblk m c 2 t) k j = pairGrad (V m c main_arg1) (V m c main_arg2) (row t k) j := by
  unfold pairGrad
  split
  · exact blk1 m c t k _ _
  · exact blk2 m c t k _ _

theorem term7 (j : Fin 128) : keyGrad (iblk m c 1 t) (iblk m c 3 t) (iblk m c 4 t) k j
    = keyGrad (V m c main_arg1) (V m c main_arg3) (V m c main_arg4) (row t k) j := by
  unfold keyGrad
  rw [row3, row4, sum1]

theorem emb5 (j : Fin 3072) : (win0_5.blk t).view.emb (ix2 k j) = ix2 (row t k) j := by blk_ext [idx0 t, row]
theorem emb6 (j : Fin 4096) : (win0_6.blk t).view.emb (ix2 k j) = ix2 (row t k) j := by blk_ext [idx0 t, row]
theorem emb7 (j : Fin 128) : (win0_7.blk t).view.emb (ix2 k j) = ix2 (row t k) j := by blk_ext [idx0 t, row]

end Terms

theorem final5 : (dats m 0 c).arrAt 5 cfg0.N = headRows .bf16 (queryGrad (V m c main_arg0) (V m c main_arg3) (V m c main_arg4)) := by
  refine (dats m 0 c).arrAt_eq_of_covers 5 _ (by decide +kernel) fun t hf y => ?_
  blk_simp
  rw [after0_5, queries]
  obtain ⟨r, d, rfl⟩ := pair_idx y
  rw [emb5 t r d]
  exact term5 m c t r d

theorem final6 : (dats m 0 c).arrAt 6 cfg0.N = headRows .bf16 (pairGrad (V m c main_arg1) (V m c main_arg2)) := by
  refine (dats m 0 c).arrAt_eq_of_covers 6 _ (by decide +kernel) fun t hf y => ?_
  blk_simp
  rw [after0_6, pairs]
  obtain ⟨r, d, rfl⟩ := pair_idx y
  rw [emb6 t r d]
  exact term6 m c t r d

theorem final7 : (dats m 0 c).arrAt 7 cfg0.N = headRows .f32 (keyGrad (V m c main_arg1) (V m c main_arg3) (V m c main_arg4)) := by
  refine (dats m 0 c).arrAt_eq_of_covers 7 _ (by decide +kernel) fun t hf y => ?_
  blk_simp
  rw [after0_7, keySum]
  obtain ⟨r, d, rfl⟩ := pair_idx y
  rw [emb7 t r d]
  exact term7 m c t r d

abbrev argQ : FVec Ideal S16x2176x192 .f32 := m ((c.tc : Thread nD τ).loc main_arg0)
abbrev argK : FVec Ideal S16x2176x192 .f32 := m ((c.tc : Thread nD τ).loc main_arg1)
abbrev argV : FVec Ideal S16x2176x128 .f32 := m ((c.tc : Thread nD τ).loc main_arg2)
abbrev argC : FVec Ideal S2176x32 .f32 := m ((c.tc : Thread nD τ).loc main_arg3)
abbrev argS : FVec Ideal S2176x32 .f32 := m ((c.tc : Thread nD τ).loc main_arg4)

/-- Every execution ends with the three gradients and the arguments as launched. -/
theorem run : θ_run defs (onTc (τ := τ) (main (F := Ideal))) ⟨m, fun _ => 0, ρ⟩ (fun r => ∀ c : Dev nD,
      r.2.mem ((c.tc : Thread nD τ).loc main_v0_0) = headRows .bf16 (queryGrad (argQ m c) (argC m c) (argS m c))
      ∧ r.2.mem ((c.tc : Thread nD τ).loc main_v0_1) = headRows .bf16 (pairGrad (argK m c) (argV m c))
      ∧ r.2.mem ((c.tc : Thread nD τ).loc main_v0_2) = headRows .f32 (keyGrad (argK m c) (argC m c) (argS m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 5).trans ((final5 m c).trans (by rw [V_main_arg0, V_main_arg3, V_main_arg4])),
     ((h c).1 6).trans ((final6 m c).trans (by rw [V_main_arg1, V_main_arg2])),
     ((h c).1 7).trans ((final7 m c).trans (by rw [V_main_arg1, V_main_arg3, V_main_arg4])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c)))⟩)
    (run_main m ρ)

end Cert.Kernel22Ideal.Results

end
-- ==== Proof.HeadReference.lean ====
/- The gradient of the rotary embedding and of the split into heads as the reference computes it, stage by stage, and its three results:
   the ones the call leaves. -/
module

public import proofs.«01_k».proof.Proof.HeadGrads
public import proofs.«01_k».proof.Proof.Gen.Reference22Ideal.Run

@[expose] public section

set_option maxRecDepth 16384

noncomputable section

namespace Cert.Reference22Ideal.Stages

open Cert.Reference22Ideal Cert.Reference22Ideal.Gen Cert.Reference22Ideal.Value Idealize.ShloMosaic Cert.Ffn
open Cert.Kernel2Ideal.Calls (pair_idx)

variable (q k : FVec Ideal S16x2176x192 .f32) (v : FVec Ideal S16x2176x128 .f32) (c s : FVec Ideal S2176x32 .f32) (r : Fin 2176) (h : Fin 16)

/-! ### The stages -/

/-- A row's heads, -/
def heads : FVec Ideal S2176x16x192 .f32 := transpose S2176x16x192 [1, 0, 2] q transposes_S16x2176x192_S2176x16x192_1_0_2
/-- their plain columns, -/
def plain : FVec Ideal S2176x16x128 .f32 := extractStridedSlice S2176x16x128 ![0, 0, 0] (heads q) slices_S2176x16x192_S2176x16x128_0_0_0
/-- their rotary ones, -/
def rot : FVec Ideal S2176x16x64 .f32 := extractStridedSlice S2176x16x64 ![0, 0, 128] (heads q) slices_S2176x16x192_S2176x16x64_0_0_128
/-- in two halves, -/
def half1 : FVec Ideal S2176x16x32 .f32 := extractStridedSlice S2176x16x32 ![0, 0, 0] (rot q) slices_S2176x16x64_S2176x16x32_0_0_0
def half2 : FVec Ideal S2176x16x32 .f32 := extractStridedSlice S2176x16x32 ![0, 0, 32] (rot q) slices_S2176x16x64_S2176x16x32_0_0_32
/-- an angle's cosine or sine at every head, -/
def angle : FVec Ideal S2176x16x32 .f32 :=
  broadcastInDim S2176x16x32 ![0, 1, 2] bcast_S2176x1x32_S2176x16x32_0_1_2 (broadcastInDim S2176x1x32 ![0, 2] bcast_S2176x32_S2176x1x32_0_2 c)
/-- the turned heads, -/
def turnedHeads : FVec Ideal S2176x16x192 .f32 :=
  concatenate S2176x16x192 2 [⟨S2176x16x128, plain q⟩,
    ⟨S2176x16x64, concatenate S2176x16x64 2
      [⟨S2176x16x32, addf (mulf (half2 q) (angle s)) (mulf (half1 q) (angle c))⟩,
        ⟨S2176x16x32, addf (mulf (half2 q) (angle c)) (mulf (Host.negf (half1 q)) (angle s))⟩]
      concatenates_S2176x16x32_S2176x16x32_S2176x16x64_d2⟩] concatenates_S2176x16x128_S2176x16x64_S2176x16x192_d2
/-- side by side, -/
def queries : FVec Ideal S2176x3072 .bf16 := truncf .bf16 (shapeCast _ (turnedHeads q c s) shapeCasts_S2176x16x192_S2176x3072) bitsLt_bf16_f32
/-- the keys and the values, -/
def pairs : FVec Ideal S2176x4096 .bf16 :=
  truncf .bf16 (concatenate S2176x4096 1 [⟨S2176x2048, shapeCast _ (plain k) shapeCasts_S2176x16x128_S2176x2048⟩,
    ⟨S2176x2048, shapeCast _ (transpose S2176x16x128 [1, 0, 2] v transposes_S16x2176x128_S2176x16x128_1_0_2) shapeCasts_S2176x16x128_S2176x2048⟩]
    concatenates_S2176x2048_S2176x2048_S2176x4096_d1) bitsLt_bf16_f32
/-- the rotary columns' sum over the heads, -/
def sums : FVec Ideal S2176x64 .f32 :=
  Host.reduceAdd (broadcastInDim S2176x1x64 ![0, 2] bcast_S2176x64_S2176x1x64_0_2
      (Host.reduceAdd (rot k) (constant S_ .f32 0x00000000#32) reducesTo_S2176x16x64_S2176x64_d1 h_S_))
    (constant S_ .f32 0x00000000#32) reducesTo_S2176x1x64_S2176x64_d1 h_S_
/-- its halves, -/
def sum1 : FVec Ideal S2176x32 .f32 := extractStridedSlice S2176x32 ![0, 0] (sums k) slices_S2176x64_S2176x32_0_0
def sum2 : FVec Ideal S2176x32 .f32 := extractStridedSlice S2176x32 ![0, 32] (sums k) slices_S2176x64_S2176x32_0_32
/-- and the rotary key's gradient. -/
def keys : FVec Ideal S2176x128 .f32 :=
  concatenate S2176x128 1 [⟨S2176x64, concatenate S2176x64 1
      [⟨S2176x32, addf (mulf (sum2 k) s) (mulf (sum1 k) c)⟩, ⟨S2176x32, addf (mulf (sum2 k) c) (mulf (Host.negf (sum1 k)) s)⟩]
      concatenates_S2176x32_S2176x32_S2176x64_d1⟩,
    ⟨S2176x64, broadcastInDim S2176x64 ![] bcast_S_S2176x64 (constant S_ .f32 0x00000000#32)⟩] concatenates_S2176x64_S2176x64_S2176x128_d1

/-! ### Their elements -/

/-- The two ways the turned pairs are written. -/
theorem swap (a b x y : EReal) : b * y + a * x = a * x + b * y := add_comm _ _
theorem less (a b x y : EReal) : b * x + -a * y = b * x - a * y := by rw [EReal.neg_mul, sub_eq_add_neg]

theorem turned_plain_at (j : Fin 128) : turnedHeads q c s (ix3 r h (plainCol j)) = q (ix3 h r (plainCol j)) := by
  pointwise [turnedHeads, plain, heads, plainCol]

theorem half1_at (j : Fin 32) : half1 q (ix3 r h j) = q (ix3 h r (firstCol j)) := by pointwise [half1, rot, heads, firstCol]
theorem half2_at (j : Fin 32) : half2 q (ix3 r h j) = q (ix3 h r (secondCol j)) := by
  rw [← secondCol_eq]
  pointwise [half2, rot, heads]
theorem angle_at (j : Fin 32) : angle c (ix3 r h j) = c (ix2 r j) := by pointwise [angle]

theorem turned_first_at (j : Fin 32) : turnedHeads q c s (ix3 r h (firstCol j))
    = half2 q (ix3 r h j) * angle s (ix3 r h j) + half1 q (ix3 r h j) * angle c (ix3 r h j) := by
  pointwise [turnedHeads, firstCol]

theorem turned_second_at (j : Fin 32) : turnedHeads q c s (ix3 r h (secondCol j))
    = half2 q (ix3 r h j) * angle c (ix3 r h j) + -half1 q (ix3 r h j) * angle s (ix3 r h j) := by
  rw [← secondCol_eq]
  pointwise [turnedHeads]

theorem turnedHeads_at (j : Fin 192) : turnedHeads q c s (ix3 r h j) = turned (fun l => q (ix3 h r l)) (rowOf c r) (rowOf s r) j := by
  obtain ⟨j, rfl⟩ | ⟨j, rfl⟩ | ⟨j, rfl⟩ := inPart j
  · rw [turned_plain_at, turned_plain]
  · rw [turned_first_at, half1_at, half2_at, angle_at, angle_at, turned_first, swap]
  · rw [turned_second_at, half1_at, half2_at, angle_at, angle_at, turned_second, less]

theorem queries_eq : queries q c s = headRows .bf16 (queryGrad q c s) := funext fun i => by
  obtain ⟨r, j, rfl⟩ := pair_idx i
  have e : queries q c s (ix2 r j) = turnedHeads q c s (ix3 r ⟨j.val / 192, by omega⟩ ⟨j.val % 192, by omega⟩) := by pointwise [queries]
  rw [e, turnedHeads_at]
  rfl

theorem pairs_eq : pairs k v = headRows .bf16 (pairGrad k v) := funext fun i => by
  obtain ⟨r, j, rfl⟩ := pair_idx i
  show pairs k v (ix2 r j) = pairGrad k v r j
  have e (h : ¬j.val < 2048) : (j.val - 2048) % 128 = j.val % 128 := by omega
  pointwise [pairs, plain, heads, pairGrad, plainCol]
  split
  · rfl
  · next h => simp only [e h]

theorem sums_at (l : Fin 64) : sums k (ix2 r l) = headSum k r ⟨128 + l.val, by omega⟩ := by
  pointwise [sums, rot, heads, headSum]
  simp only [Finset.univ_unique, Finset.sum_singleton]

theorem keys_first (j : Fin 32) : keys k c s (ix2 r ⟨j.val, by omega⟩)
    = sums k (ix2 r ⟨32 + j.val, by omega⟩) * s (ix2 r j) + sums k (ix2 r ⟨j.val, by omega⟩) * c (ix2 r j) := by
  pointwise [keys, sum1, sum2]
  exact dif_pos (by omega)

theorem keys_second (j : Fin 32) : keys k c s (ix2 r ⟨32 + j.val, by omega⟩)
    = sums k (ix2 r ⟨32 + j.val, by omega⟩) * c (ix2 r j) + -sums k (ix2 r ⟨j.val, by omega⟩) * s (ix2 r j) := by
  pointwise [keys, sum1, sum2]
  exact dif_pos (by omega)

theorem keys_zero (j : Fin 64) : keys k c s (ix2 r ⟨64 + j.val, by omega⟩) = 0 := by
  pointwise [keys]

theorem keys_eq : keys k c s = headRows .f32 (keyGrad k c s) := funext fun i => by
  obtain ⟨r, j, rfl⟩ := pair_idx i
  show keys k c s (ix2 r j) = keyGrad k c s r j
  obtain ⟨j, rfl⟩ | ⟨j, rfl⟩ | ⟨j, rfl⟩ := inKey j
  · rw [keys_first, sums_at, sums_at, secondCol_eq, keyGrad_first, swap]
    rfl
  · rw [keys_second, sums_at, sums_at, secondCol_eq, keyGrad_second, less]
    rfl
  · rw [keys_zero, keyGrad_zero]

variable (μ : (ℓ : Loc nD τ sig) → Buf (Elt Ideal) ℓ) (c : Dev nD)

abbrev argQ : FVec Ideal S16x2176x192 .f32 := μ ((c.tc : Thread nD τ).loc main_arg0)
abbrev argK : FVec Ideal S16x2176x192 .f32 := μ ((c.tc : Thread nD τ).loc main_arg1)
abbrev argV : FVec Ideal S16x2176x128 .f32 := μ ((c.tc : Thread nD τ).loc main_arg2)
abbrev argC : FVec Ideal S2176x32 .f32 := μ ((c.tc : Thread nD τ).loc main_arg3)
abbrev argS : FVec Ideal S2176x32 .f32 := μ ((c.tc : Thread nD τ).loc main_arg4)

theorem run (ρ : Dev nD → PrngReg) : θ_run defs (onTc (τ := τ) (main (F := Ideal))) ⟨μ, fun _ => 0, ρ⟩ (fun r => ∀ c : Dev nD,
      r.2.mem ((c.tc : Thread nD τ).loc main_v80) = headRows .bf16 (queryGrad (argQ μ c) (argC μ c) (argS μ c))
      ∧ r.2.mem ((c.tc : Thread nD τ).loc main_v81) = headRows .bf16 (pairGrad (argK μ c) (argV μ c))
      ∧ r.2.mem ((c.tc : Thread nD τ).loc main_v83) = headRows .f32 (keyGrad (argK μ c) (argC μ c) (argS μ c))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)) :=
  (θ_run defs _ _).mono (fun _ h c => ⟨(h c).1.trans (queries_eq (argQ μ c) (argC μ c) (argS μ c)),
      (h c).2.1.trans (pairs_eq (argK μ c) (argV μ c)),
      (h c).2.2.1.trans (keys_eq (argK μ c) (argC μ c) (argS μ c)), (h c).2.2.2⟩) (Value.run (F := Ideal) μ ρ)

end Cert.Reference22Ideal.Stages

end
-- ==== Proof.HeadForward.lean ====
/- The rotary embedding and the split into heads, 128 rows at a point: a head's rotary pairs turned, and the rotary key, turned once, at
   every head. -/
module

public import proofs.«01_k».proof.Proof.HeadGrads
public import proofs.«01_k».proof.Proof.Gen.Kernel23Ideal.Frame

@[expose] public section

set_option maxRecDepth 16384

noncomputable section

namespace Cert.Ffn

open Idealize.ShloMosaic

section Spin
variable (d : Fin 192 → EReal) (c s : Fin 32 → EReal)

/-- A head's row, its rotary pairs turned by the angles whose cosines and sines are `c` and `s`. -/
def spun (j : Fin 192) : EReal :=
  if hp : j.val < 128 then d j
  else if ha : j.val < 160 then
    d (firstCol ⟨j.val - 128, by omega⟩) * c ⟨j.val - 128, by omega⟩ - d (secondCol ⟨j.val - 128, by omega⟩) * s ⟨j.val - 128, by omega⟩
  else d (firstCol ⟨j.val - 160, by omega⟩) * s ⟨j.val - 160, by omega⟩ + d (secondCol ⟨j.val - 160, by omega⟩) * c ⟨j.val - 160, by omega⟩

theorem spun_plain (j : Fin 128) : spun d c s (plainCol j) = d (plainCol j) := dif_pos j.isLt

theorem spun_first (j : Fin 32) : spun d c s (firstCol j) = d (firstCol j) * c j - d (secondCol j) * s j := by
  have h : (⟨(firstCol j).val - 128, by simp [firstCol]⟩ : Fin 32) = j := Fin.ext (by simp [firstCol])
  rw [spun, dif_neg (by simp [firstCol]), dif_pos (by simp [firstCol]; omega), h]

theorem spun_second (j : Fin 32) : spun d c s (secondCol j) = d (firstCol j) * s j + d (secondCol j) * c j := by
  have h : (⟨(secondCol j).val - 160, by simp [secondCol]⟩ : Fin 32) = j := Fin.ext (by simp [secondCol])
  rw [spun, dif_neg (by simp [secondCol]; omega), dif_neg (by simp [secondCol]), h]

end Spin

/-- A key's row: its plain columns, and the rotary key after them. -/
def keyRow (a : Fin 128 → EReal) (b : Fin 64 → EReal) (l : Fin 192) : EReal :=
  if h : l.val < 128 then a ⟨l.val, h⟩ else b ⟨l.val - 128, by omega⟩

section KeyRow
variable (a : Fin 128 → EReal) (b : Fin 64 → EReal)

theorem keyRow_plain (j : Fin 128) : keyRow a b (plainCol j) = a j := dif_pos j.isLt

theorem keyRow_first (j : Fin 32) : keyRow a b (firstCol j) = b ⟨j.val, by omega⟩ := by
  refine (dif_neg (by simp [firstCol])).trans (congrArg b (Fin.ext ?_))
  simp [firstCol]

theorem keyRow_second (j : Fin 32) : keyRow a b (secondCol j) = b ⟨32 + j.val, by omega⟩ := by
  refine (dif_neg (by simp [secondCol]; omega)).trans (congrArg b (Fin.ext ?_))
  simp [secondCol]
  omega

end KeyRow

section Arrays
variable {n : ℕ} (q : FVec Ideal ⟨2, ![n, 3072]⟩ .f32) (kv : FVec Ideal ⟨2, ![n, 4096]⟩ .f32) (e : Fin n → Fin 64 → EReal)
  (c s : FVec Ideal ⟨2, ![n, 32]⟩ .f32) (h : Fin 16) (r : Fin n)

/-- A head's query, -/
def queryHead (j : Fin 192) : EReal := spun (fun l => q (ix2 r ⟨h.val * 192 + l.val, by omega⟩)) (rowOf c r) (rowOf s r) j
/-- its key, `e` the rotary keys, -/
def keyHead (j : Fin 192) : EReal := spun (keyRow (fun l => kv (ix2 r ⟨h.val * 128 + l.val, by omega⟩)) (e r)) (rowOf c r) (rowOf s r) j
/-- and its value. -/
def valueHead (j : Fin 128) : EReal := kv (ix2 r ⟨2048 + h.val * 128 + j.val, by omega⟩)

end Arrays

/-- The rotary keys in the array that has them after the low-rank ones, -/
def rotaryKey (z : FVec Ideal ⟨2, ![2176, 1152]⟩ .f32) (r : Fin 2176) (l : Fin 64) : EReal := z (ix2 r ⟨1024 + l.val, by omega⟩)
/-- and an array of such heads. -/
def headArray {w : ℕ} (f : Fin 16 → Fin 2176 → Fin w → EReal) : FVec Ideal ⟨3, ![16, 2176, w]⟩ .bf16 := fun i => f (i 0) (i 1) (i 2)

end Cert.Ffn

namespace Cert.Kernel23Ideal.Results

open Idealize.ShloMosaic Idealize.ShloMosaic.TcCoe Idealize.SL.Sem
open Cert.Kernel23Ideal Cert.Kernel23Ideal.Gen Cert.Ffn
open Cert.Kernel2Ideal.Calls (pair_idx)

theorem triple_idx {a b w : ℕ} (i : Shape.Idx ⟨3, ![a, b, w]⟩) : ∃ h k j, i = ix3 h k j :=
  ⟨i 0, i 1, i 2, by funext a; fin_cases a <;> rfl⟩

/-! ### What is loaded -/

theorem ld_cols {n w : ℕ} (x : Vec Ideal ⟨2, ![128, n]⟩ .f32) (o : ℕ) (inb) (k : Fin 128) (l : Fin w) (ho : o + l.val < n) :
    View.ld x (Rect.unit (s := ⟨2, ![128, n]⟩) ![0, o] ![128, w] inb) (ix2 k l) = x (ix2 k ⟨o + l.val, ho⟩) := by
  refine congrArg x ?_
  funext a
  fin_cases a
  · exact Fin.ext ((Rect.idx_unit_val ..).trans (Nat.zero_add _))
  · exact Fin.ext (Rect.idx_unit_val ..)

theorem ld_all (x : Vec Ideal S128x32 .f32) (k : Fin 128) (l : Fin 32) : View.ld x r0_0 (ix2 k l) = x (ix2 k l) := by pointwise [r0_0]
theorem ld_key (x : Vec Ideal S128x128 .f32) (k : Fin 128) (l : Fin 128) : View.ld x r0_1 (ix2 k l) = x (ix2 k l) := by pointwise [r0_1]

/-! ### One head -/

section Head
variable (c s a b : Vec Ideal S128x32 .f32) (e p : Vec Ideal S128x128 .f32) (k : Fin 128)

theorem query_plain (j : Fin 128) : k0_pay6 c s a b p (ix3 0 k (plainCol j)) = p (ix2 k j) := by
  pointwise [k0_pay6, plainCol]

theorem query_first (j : Fin 32) : k0_pay6 c s a b p (ix3 0 k (firstCol j)) = a (ix2 k j) * c (ix2 k j) - b (ix2 k j) * s (ix2 k j) := by
  pointwise [k0_pay6, firstCol]

theorem query_second (j : Fin 32) : k0_pay6 c s a b p (ix3 0 k (secondCol j)) = a (ix2 k j) * s (ix2 k j) + b (ix2 k j) * c (ix2 k j) := by
  have e : 160 + j.val - 128 - 32 = j.val := by omega
  pointwise [k0_pay6, secondCol]
  refine (dif_neg (by omega)).trans ((dif_neg (by omega)).trans ?_)
  simp only [e]

theorem key_plain (j : Fin 128) : k0_pay7 c s e p (ix3 0 k (plainCol j)) = p (ix2 k j) := by
  pointwise [k0_pay7, plainCol]

theorem key_first (j : Fin 32) : k0_pay7 c s e p (ix3 0 k (firstCol j))
    = e (ix2 k ⟨j.val, by omega⟩) * c (ix2 k j) - e (ix2 k ⟨32 + j.val, by omega⟩) * s (ix2 k j) := by
  pointwise [k0_pay7, k0_pay4, k0_pay5, k0_pay2, k0_pay3, firstCol]

theorem key_second (j : Fin 32) : k0_pay7 c s e p (ix3 0 k (secondCol j))
    = e (ix2 k ⟨j.val, by omega⟩) * s (ix2 k j) + e (ix2 k ⟨32 + j.val, by omega⟩) * c (ix2 k j) := by
  have e : 160 + j.val - 128 - 32 = j.val := by omega
  pointwise [k0_pay7, k0_pay4, k0_pay5, k0_pay2, k0_pay3, secondCol]
  refine (dif_neg (by omega)).trans ((dif_neg (by omega)).trans ?_)
  simp only [e]

theorem values_at (j : Fin 128) : k0_pay12 p (ix3 0 k j) = p (ix2 k j) := by pointwise [k0_pay12]

end Head

/-! ### What a point leaves: a head's store is its part of the block -/

section Stores
variable (x0 : Vec Ideal S128x3072 .f32) (x1 : Vec Ideal S128x4096 .f32) (x2 : Vec Ideal S128x128 .f32) (c s : Vec Ideal S128x32 .f32)

/-- The block's rotary keys. -/
def blockKey (k : Fin 128) (l : Fin 64) : EReal := x2 (ix2 k ⟨l.val, by omega⟩)

theorem query_at (h : Fin 16) (o1 o2 o3 : ℕ) (e1 : o1 = h.val * 192 + 128) (e2 : o2 = h.val * 192 + 160) (e3 : o3 = h.val * 192)
    (inb1 inb2 inb3) (k : Fin 128) (j : Fin 192) :
    k0_pay6 (View.ld c r0_0) (View.ld s r0_0) (View.ld x0 (Rect.unit (s := S128x3072) ![0, o1] S128x32.size inb1))
      (View.ld x0 (Rect.unit (s := S128x3072) ![0, o2] S128x32.size inb2))
      (View.ld x0 (Rect.unit (s := S128x3072) ![0, o3] S128x128.size inb3)) (ix3 0 k j) = queryHead x0 c s h k j := by
  subst e1 e2 e3
  unfold queryHead
  have hl (l : Fin 32) : x0 (ix2 k ⟨h.val * 192 + 128 + l.val, by omega⟩) = x0 (ix2 k ⟨h.val * 192 + (firstCol l).val, by omega⟩) :=
    congrArg (fun v => x0 (ix2 k v)) (Fin.ext (by simp [firstCol]; omega))
  have hr (l : Fin 32) : x0 (ix2 k ⟨h.val * 192 + 160 + l.val, by omega⟩) = x0 (ix2 k ⟨h.val * 192 + (secondCol l).val, by omega⟩) :=
    congrArg (fun v => x0 (ix2 k v)) (Fin.ext (by simp [secondCol]; omega))
  obtain ⟨j, rfl⟩ | ⟨j, rfl⟩ | ⟨j, rfl⟩ := inPart j
  · rw [query_plain, spun_plain]
    exact ld_cols x0 _ inb3 k j (by omega)
  · rw [query_first, spun_first, ld_all, ld_all, ← hl, ← hr]
    exact congrArg₂ (fun a b => a * c (ix2 k j) - b * s (ix2 k j)) (ld_cols x0 _ inb1 k j (by omega)) (ld_cols x0 _ inb2 k j (by omega))
  · rw [query_second, spun_second, ld_all, ld_all, ← hl, ← hr]
    exact congrArg₂ (fun a b => a * s (ix2 k j) + b * c (ix2 k j)) (ld_cols x0 _ inb1 k j (by omega)) (ld_cols x0 _ inb2 k j (by omega))

theorem key_at (h : Fin 16) (o : ℕ) (ho : o = h.val * 128) (inb) (k : Fin 128) (j : Fin 192) :
    k0_pay7 (View.ld c r0_0) (View.ld s r0_0) (View.ld x2 r0_1) (View.ld x1 (Rect.unit (s := S128x4096) ![0, o] S128x128.size inb))
      (ix3 0 k j) = keyHead x1 (blockKey x2) c s h k j := by
  subst ho
  unfold keyHead
  obtain ⟨j, rfl⟩ | ⟨j, rfl⟩ | ⟨j, rfl⟩ := inPart j
  · rw [key_plain, spun_plain, keyRow_plain]
    exact ld_cols x1 _ inb k j (by omega)
  · rw [key_first, spun_first, keyRow_first, keyRow_second, ld_all, ld_all, ld_key, ld_key]
    rfl
  · rw [key_second, spun_second, keyRow_first, keyRow_second, ld_all, ld_all, ld_key, ld_key]
    rfl

theorem value_at (h : Fin 16) (o : ℕ) (ho : o = 2048 + h.val * 128) (inb) (k j : Fin 128) :
    k0_pay12 (View.ld x1 (Rect.unit (s := S128x4096) ![0, o] S128x128.size inb)) (ix3 0 k j) = valueHead x1 h k j := by
  subst ho
  rw [values_at]
  exact ld_cols x1 _ inb k j (by omega)

/-- A store's element of the block. -/
theorem head_idx {w : ℕ} (h : Fin 16) (x : Shape.Idx ⟨3, ![1, 128, w]⟩) (y : Shape.Idx ⟨3, ![16, 128, w]⟩)
    (h0 : (y 0).val = h.val + (x 0).val) (h1 : (y 1).val = (x 1).val) (h2 : (y 2).val = (x 2).val) :
    ∃ k j, x = ix3 0 k j ∧ y = ix3 h k j := by
  obtain ⟨o, k, j, rfl⟩ := triple_idx x
  obtain rfl : o = 0 := Subsingleton.elim _ _
  refine ⟨k, j, rfl, ?_⟩
  funext a
  fin_cases a
  · exact Fin.ext h0
  · exact Fin.ext h1
  · exact Fin.ext h2

theorem query_store (h : Fin 16) (o1 o2 o3 : ℕ) (e1 : o1 = h.val * 192 + 128) (e2 : o2 = h.val * 192 + 160) (e3 : o3 = h.val * 192)
    (inb1 inb2 inb3) (x : S1x128x192.Idx) (y : S16x128x192.Idx)
    (h0 : (y 0).val = h.val + (x 0).val) (h1 : (y 1).val = (x 1).val) (h2 : (y 2).val = (x 2).val) :
    k0_pay6 (View.ld c r0_0) (View.ld s r0_0) (View.ld x0 (Rect.unit (s := S128x3072) ![0, o1] S128x32.size inb1))
      (View.ld x0 (Rect.unit (s := S128x3072) ![0, o2] S128x32.size inb2))
      (View.ld x0 (Rect.unit (s := S128x3072) ![0, o3] S128x128.size inb3)) x = queryHead x0 c s (y 0) (y 1) (y 2) := by
  obtain ⟨k, j, rfl, rfl⟩ := head_idx h x y h0 h1 h2
  exact query_at x0 c s h o1 o2 o3 e1 e2 e3 inb1 inb2 inb3 k j

theorem key_store (h : Fin 16) (o : ℕ) (ho : o = h.val * 128) (inb) (x : S1x128x192.Idx) (y : S16x128x192.Idx)
    (h0 : (y 0).val = h.val + (x 0).val) (h1 : (y 1).val = (x 1).val) (h2 : (y 2).val = (x 2).val) :
    k0_pay7 (View.ld c r0_0) (View.ld s r0_0) (View.ld x2 r0_1) (View.ld x1 (Rect.unit (s := S128x4096) ![0, o] S128x128.size inb)) x
      = keyHead x1 (blockKey x2) c s (y 0) (y 1) (y 2) := by
  obtain ⟨k, j, rfl, rfl⟩ := head_idx h x y h0 h1 h2
  exact key_at x1 x2 c s h o ho inb k j

theorem value_store (h : Fin 16) (o : ℕ) (ho : o = 2048 + h.val * 128) (inb) (x : S1x128x128.Idx) (y : S16x128x128.Idx)
    (h0 : (y 0).val = h.val + (x 0).val) (h1 : (y 1).val = (x 1).val) (h2 : (y 2).val = (x 2).val) :
    k0_pay12 (View.ld x1 (Rect.unit (s := S128x4096) ![0, o] S128x128.size inb)) x = valueHead x1 (y 0) (y 1) (y 2) := by
  obtain ⟨k, j, rfl, rfl⟩ := head_idx h x y h0 h1 h2
  exact value_at x1 h o ho inb k j

theorem queries (y : S16x128x192.Idx) : out0_5 x0 x1 x2 c s y = queryHead x0 c s (y 0) (y 1) (y 2) := by
  unfold_out out0_5
  canon_tiles x h
  all_goals first
    | exact query_store x0 c s ⟨_, by decide⟩ _ _ _ (by decide) (by decide) (by decide) _ _ _ x y h0 h1 h2
    | exact query_store x0 c s 0 _ _ _ (by decide) (by decide) (by decide) _ _ _ x y (h0.trans (Nat.zero_add _).symm) h1 h2

theorem keys (y : S16x128x192.Idx) : out0_6 x0 x1 x2 c s y = keyHead x1 (blockKey x2) c s (y 0) (y 1) (y 2) := by
  unfold_out out0_6
  canon_tiles x h
  all_goals first
    | exact key_store x1 x2 c s ⟨_, by decide⟩ _ (by decide) _ x y h0 h1 h2
    | exact key_store x1 x2 c s 0 _ (by decide) _ x y (h0.trans (Nat.zero_add _).symm) h1 h2

theorem vals (y : S16x128x128.Idx) : out0_7 x0 x1 x2 c s y = valueHead x1 (y 0) (y 1) (y 2) := by
  unfold_out out0_7
  canon_tiles x h
  all_goals first
    | exact value_store x1 ⟨_, by decide⟩ _ (by decide) _ x y h0 h1 h2
    | exact value_store x1 0 _ (by decide) _ x y (h0.trans (Nat.zero_add _).symm) h1 h2

end Stores

/-! ### The blocks and the arrays -/

variable (m : (ℓ : Loc nD τ sig) → Buf (Elt Ideal) ℓ) (ρ : Dev nD → PrngReg) (c : Dev nD)

theorem idx0 : ∀ t : Fin cfg0.N, win0_0.index t = ![t.val % 17, 0] ∧ win0_1.index t = ![t.val % 17, 0]
    ∧ win0_2.index t = ![t.val % 17, 8] ∧ win0_3.index t = ![t.val % 17, 0] ∧ win0_4.index t = ![t.val % 17, 0]
    ∧ win0_5.index t = ![0, t.val % 17, 0] ∧ win0_6.index t = ![0, t.val % 17, 0] ∧ win0_7.index t = ![0, t.val % 17, 0] :=
  (by decide +kernel : ∀ t : Fin grid0.N, _)

/-- A point's row. -/
def row (t : Fin cfg0.N) (k : Fin 128) : Fin 2176 := ⟨t.val % 17 * 128 + k.val, by omega⟩

section Terms
variable (t : Fin cfg0.N) (k : Fin 128) (h : Fin 16)

theorem blk0 (l : Fin 3072) : iblk m c 0 t (ix2 k l) = V m c main_arg0 (ix2 (row t k) l) := by blk_point [iblk, idx0 t, row]
theorem blk1 (l : Fin 4096) : iblk m c 1 t (ix2 k l) = V m c main_arg1 (ix2 (row t k) l) := by blk_point [iblk, idx0 t, row]
theorem blk2 (l : Fin 128) : iblk m c 2 t (ix2 k l) = V m c main_arg2 (ix2 (row t k) ⟨1024 + l.val, by omega⟩) := by
  blk_point [iblk, idx0 t, row]
theorem blk3 (l : Fin 32) : iblk m c 3 t (ix2 k l) = V m c main_arg3 (ix2 (row t k) l) := by blk_point [iblk, idx0 t, row]
theorem blk4 (l : Fin 32) : iblk m c 4 t (ix2 k l) = V m c main_arg4 (ix2 (row t k) l) := by blk_point [iblk, idx0 t, row]

/-- The block's rows are the array's. -/
theorem row3 : rowOf (iblk m c 3 t) k = rowOf (V m c main_arg3) (row t k) := funext fun l => blk3 m c t k l
theorem row4 : rowOf (iblk m c 4 t) k = rowOf (V m c main_arg4) (row t k) := funext fun l => blk4 m c t k l
theorem key2 : blockKey (iblk m c 2 t) k = rotaryKey (V m c main_arg2) (row t k) := funext fun l => blk2 m c t k _

theorem term5 (j : Fin 192) : queryHead (iblk m c 0 t) (iblk m c 3 t) (iblk m c 4 t) h k j
    = queryHead (V m c main_arg0) (V m c main_arg3) (V m c main_arg4) h (row t k) j := by
  rw [queryHead, row3, row4]
  exact congrArg (fun f => spun f _ _ _) (funext fun l => blk0 m c t k _)

theorem term6 (j : Fin 192) : keyHead (iblk m c 1 t) (blockKey (iblk m c 2 t)) (iblk m c 3 t) (iblk m c 4 t) h k j
    = keyHead (V m c main_arg1) (rotaryKey (V m c main_arg2)) (V m c main_arg3) (V m c main_arg4) h (row t k) j := by
  rw [keyHead, row3, row4, key2]
  exact congrArg (fun f => spun (keyRow f _) _ _ _) (funext fun l => blk1 m c t k _)

theorem term7 (j : Fin 128) : valueHead (iblk m c 1 t) h k j = valueHead (V m c main_arg1) h (row t k) j := blk1 m c t k _

theorem emb5 (j : Fin 192) : (win0_5.blk t).view.emb (ix3 h k j) = ix3 h (row t k) j := by blk_ext [idx0 t, row]
theorem emb6 (j : Fin 192) : (win0_6.blk t).view.emb (ix3 h k j) = ix3 h (row t k) j := by blk_ext [idx0 t, row]
theorem emb7 (j : Fin 128) : (win0_7.blk t).view.emb (ix3 h k j) = ix3 h (row t k) j := by blk_ext [idx0 t, row]

end Terms

theorem final5 : (dats m 0 c).arrAt 5 cfg0.N = headArray (queryHead (V m c main_arg0) (V m c main_arg3) (V m c main_arg4)) := by
  refine (dats m 0 c).arrAt_eq_of_covers 5 _ (by decide +kernel) fun t hf y => ?_
  blk_simp
  rw [after0_5, queries]
  obtain ⟨h, r, d, rfl⟩ := triple_idx y
  rw [emb5 t r h d]
  exact term5 m c t r h d

theorem final6 : (dats m 0 c).arrAt 6 cfg0.N
    = headArray (keyHead (V m c main_arg1) (rotaryKey (V m c main_arg2)) (V m c main_arg3) (V m c main_arg4)) := by
  refine (dats m 0 c).arrAt_eq_of_covers 6 _ (by decide +kernel) fun t hf y => ?_
  blk_simp
  rw [after0_6, keys]
  obtain ⟨h, r, d, rfl⟩ := triple_idx y
  rw [emb6 t r h d]
  exact term6 m c t r h d

theorem final7 : (dats m 0 c).arrAt 7 cfg0.N = headArray (valueHead (V m c main_arg1)) := by
  refine (dats m 0 c).arrAt_eq_of_covers 7 _ (by decide +kernel) fun t hf y => ?_
  blk_simp
  rw [after0_7, vals]
  obtain ⟨h, r, d, rfl⟩ := triple_idx y
  rw [emb7 t r h d]
  exact term7 m c t r h d

abbrev argQ : FVec Ideal S2176x3072 .f32 := m ((c.tc : Thread nD τ).loc main_arg0)
abbrev argK : FVec Ideal S2176x4096 .f32 := m ((c.tc : Thread nD τ).loc main_arg1)
abbrev argZ : FVec Ideal S2176x1152 .f32 := m ((c.tc : Thread nD τ).loc main_arg2)
abbrev argC : FVec Ideal S2176x32 .f32 := m ((c.tc : Thread nD τ).loc main_arg3)
abbrev argS : FVec Ideal S2176x32 .f32 := m ((c.tc : Thread nD τ).loc main_arg4)

/-- Every execution ends with the heads' queries, keys and values and the arguments as launched. -/
theorem run : θ_run defs (onTc (τ := τ) (main (F := Ideal))) ⟨m, fun _ => 0, ρ⟩ (fun r => ∀ c : Dev nD,
      r.2.mem ((c.tc : Thread nD τ).loc main_v0_0) = headArray (queryHead (argQ m c) (argC m c) (argS m c))
      ∧ r.2.mem ((c.tc : Thread nD τ).loc main_v0_1) = headArray (keyHead (argK m c) (rotaryKey (argZ m c)) (argC m c) (argS m c))
      ∧ r.2.mem ((c.tc : Thread nD τ).loc main_v0_2) = headArray (valueHead (argK m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 5).trans ((final5 m c).trans (by rw [V_main_arg0, V_main_arg3, V_main_arg4])),
     ((h c).1 6).trans ((final6 m c).trans (by rw [V_main_arg1, V_main_arg2, V_main_arg3, V_main_arg4])),
     ((h c).1 7).trans ((final7 m c).trans (by rw [V_main_arg1])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c)))⟩)
    (run_main m ρ)

end Cert.Kernel23Ideal.Results

end
-- ==== Proof.HeadForwardReference.lean ====
/- The rotary embedding and the split into heads as the reference computes them, stage by stage, and its three results: the ones the
   call leaves. -/
module

public import proofs.«01_k».proof.Proof.HeadForward
public import proofs.«01_k».proof.Proof.Gen.Reference23Ideal.Run

@[expose] public section

set_option maxRecDepth 16384

noncomputable section

namespace Cert.Reference23Ideal.Stages

open Cert.Reference23Ideal Cert.Reference23Ideal.Gen Cert.Reference23Ideal.Value Idealize.ShloMosaic Cert.Ffn
open Cert.Kernel23Ideal.Results (triple_idx)

variable (q : FVec Ideal S2176x3072 .f32) (kv : FVec Ideal S2176x4096 .f32) (z : FVec Ideal S2176x1152 .f32)
  (c s : FVec Ideal S2176x32 .f32) (h : Fin 16) (r : Fin 2176)

/-! ### The stages -/

/-- A row's heads, -/
def heads : FVec Ideal S2176x16x192 .f32 := shapeCast _ q shapeCasts_S2176x3072_S2176x16x192
/-- their rotary columns, -/
def rot : FVec Ideal S2176x16x64 .f32 := extractStridedSlice S2176x16x64 ![0, 0, 128] (heads q) slices_S2176x16x192_S2176x16x64_0_0_128
/-- in two halves, -/
def half1 : FVec Ideal S2176x16x32 .f32 := extractStridedSlice S2176x16x32 ![0, 0, 0] (rot q) slices_S2176x16x64_S2176x16x32_0_0_0
def half2 : FVec Ideal S2176x16x32 .f32 := extractStridedSlice S2176x16x32 ![0, 0, 32] (rot q) slices_S2176x16x64_S2176x16x32_0_0_32
/-- an angle's cosine or sine at every head, -/
def angle : FVec Ideal S2176x16x32 .f32 :=
  broadcastInDim S2176x16x32 ![0, 1, 2] bcast_S2176x1x32_S2176x16x32_0_1_2 (broadcastInDim S2176x1x32 ![0, 2] bcast_S2176x32_S2176x1x32_0_2 c)
/-- the turned heads, -/
def queries : FVec Ideal S2176x16x192 .f32 :=
  concatenate S2176x16x192 2
    [⟨S2176x16x128, extractStridedSlice S2176x16x128 ![0, 0, 0] (heads q) slices_S2176x16x192_S2176x16x128_0_0_0⟩,
      ⟨S2176x16x64, concatenate S2176x16x64 2
        [⟨S2176x16x32, subf (mulf (half1 q) (angle c)) (mulf (half2 q) (angle s))⟩,
          ⟨S2176x16x32, addf (mulf (half1 q) (angle s)) (mulf (half2 q) (angle c))⟩]
        concatenates_S2176x16x32_S2176x16x32_S2176x16x64_d2⟩] concatenates_S2176x16x128_S2176x16x64_S2176x16x192_d2
/-- the rotary key in two halves, -/
def rotKey : FVec Ideal S2176x64 .f32 := extractStridedSlice S2176x64 ![0, 1024] z slices_S2176x1152_S2176x64_0_1024
def key1 : FVec Ideal S2176x32 .f32 := extractStridedSlice S2176x32 ![0, 0] (rotKey z) slices_S2176x64_S2176x32_0_0
def key2 : FVec Ideal S2176x32 .f32 := extractStridedSlice S2176x32 ![0, 32] (rotKey z) slices_S2176x64_S2176x32_0_32
/-- and turned, -/
def turnedKey : FVec Ideal S2176x64 .f32 :=
  concatenate S2176x64 1
    [⟨S2176x32, subf (mulf (key1 z) c) (mulf (key2 z) s)⟩, ⟨S2176x32, addf (mulf (key1 z) s) (mulf (key2 z) c)⟩]
    concatenates_S2176x32_S2176x32_S2176x64_d1
/-- the heads' keys, -/
def keys : FVec Ideal S2176x16x192 .f32 :=
  concatenate S2176x16x192 2
    [⟨S2176x16x128, shapeCast _ (extractStridedSlice S2176x2048 ![0, 0] kv slices_S2176x4096_S2176x2048_0_0) shapeCasts_S2176x2048_S2176x16x128⟩,
      ⟨S2176x16x64, broadcastInDim S2176x16x64 ![0, 1, 2] bcast_S2176x1x64_S2176x16x64_0_1_2
        (broadcastInDim S2176x1x64 ![0, 2] bcast_S2176x64_S2176x1x64_0_2 (turnedKey z c s))⟩]
    concatenates_S2176x16x128_S2176x16x64_S2176x16x192_d2
/-- the heads first, -/
def headsFirst (x : FVec Ideal S2176x16x192 .f32) : FVec Ideal S16x2176x192 .bf16 :=
  truncf .bf16 (transpose S16x2176x192 [1, 0, 2] x transposes_S2176x16x192_S16x2176x192_1_0_2) bitsLt_bf16_f32
/-- and the values. -/
def vals : FVec Ideal S16x2176x128 .bf16 :=
  truncf .bf16 (transpose S16x2176x128 [1, 0, 2]
    (shapeCast _ (extractStridedSlice S2176x2048 ![0, 2048] kv slices_S2176x4096_S2176x2048_0_2048) shapeCasts_S2176x2048_S2176x16x128)
    transposes_S2176x16x128_S16x2176x128_1_0_2) bitsLt_bf16_f32

/-! ### Their elements -/

theorem first_at (x : FVec Ideal S2176x16x192 .f32) (j : Fin 192) : headsFirst x (ix3 h r j) = x (ix3 r h j) := by pointwise [headsFirst]

theorem heads_at (j : Fin 192) : heads q (ix3 r h j) = q (ix2 r ⟨h.val * 192 + j.val, by omega⟩) := by pointwise [heads]

theorem half1_at (j : Fin 32) : half1 q (ix3 r h j) = heads q (ix3 r h (firstCol j)) := by pointwise [half1, rot, firstCol]
theorem half2_at (j : Fin 32) : half2 q (ix3 r h j) = heads q (ix3 r h (secondCol j)) := by
  rw [← secondCol_eq]
  pointwise [half2, rot]
theorem angle_at (j : Fin 32) : angle c (ix3 r h j) = c (ix2 r j) := by pointwise [angle]

theorem queries_plain (j : Fin 128) : queries q c s (ix3 r h (plainCol j)) = heads q (ix3 r h (plainCol j)) := by
  pointwise [queries, plainCol]

theorem queries_first (j : Fin 32) : queries q c s (ix3 r h (firstCol j))
    = half1 q (ix3 r h j) * angle c (ix3 r h j) - half2 q (ix3 r h j) * angle s (ix3 r h j) := by
  pointwise [queries, firstCol]

theorem queries_second (j : Fin 32) : queries q c s (ix3 r h (secondCol j))
    = half1 q (ix3 r h j) * angle s (ix3 r h j) + half2 q (ix3 r h j) * angle c (ix3 r h j) := by
  rw [← secondCol_eq]
  pointwise [queries]

theorem queries_eq : headsFirst (queries q c s) = headArray (queryHead q c s) := funext fun i => by
  obtain ⟨h, r, j, rfl⟩ := triple_idx i
  rw [first_at]
  show _ = queryHead q c s h r j
  unfold queryHead
  obtain ⟨j, rfl⟩ | ⟨j, rfl⟩ | ⟨j, rfl⟩ := inPart j
  · rw [queries_plain, heads_at, spun_plain]
  · rw [queries_first, half1_at, half2_at, angle_at, angle_at, heads_at, heads_at, spun_first]
  · rw [queries_second, half1_at, half2_at, angle_at, angle_at, heads_at, heads_at, spun_second]

theorem key1_at (j : Fin 32) : key1 z (ix2 r j) = rotaryKey z r ⟨j.val, by omega⟩ := by pointwise [key1, rotKey, rotaryKey]
theorem key2_at (j : Fin 32) : key2 z (ix2 r j) = rotaryKey z r ⟨32 + j.val, by omega⟩ := by pointwise [key2, rotKey, rotaryKey]

theorem turnedKey_first (j : Fin 32) : turnedKey z c s (ix2 r ⟨j.val, by omega⟩)
    = key1 z (ix2 r j) * c (ix2 r j) - key2 z (ix2 r j) * s (ix2 r j) := by
  pointwise [turnedKey]

theorem turnedKey_second (j : Fin 32) : turnedKey z c s (ix2 r ⟨32 + j.val, by omega⟩)
    = key1 z (ix2 r j) * s (ix2 r j) + key2 z (ix2 r j) * c (ix2 r j) := by
  pointwise [turnedKey]

theorem keys_plain (j : Fin 128) : keys kv z c s (ix3 r h (plainCol j)) = kv (ix2 r ⟨h.val * 128 + j.val, by omega⟩) := by
  pointwise [keys, plainCol]

theorem keys_rot (j : Fin 64) : keys kv z c s (ix3 r h ⟨128 + j.val, by omega⟩) = turnedKey z c s (ix2 r j) := by
  pointwise [keys]

theorem keys_eq : headsFirst (keys kv z c s) = headArray (keyHead kv (rotaryKey z) c s) := funext fun i => by
  obtain ⟨h, r, j, rfl⟩ := triple_idx i
  rw [first_at]
  show _ = keyHead kv (rotaryKey z) c s h r j
  unfold keyHead
  obtain ⟨j, rfl⟩ | ⟨j, rfl⟩ | ⟨j, rfl⟩ := inPart j
  · rw [keys_plain, spun_plain, keyRow_plain]
  · rw [spun_first, keyRow_first, keyRow_second, ← key1_at, ← key2_at]
    exact (keys_rot kv z c s h r _).trans (turnedKey_first z c s r j)
  · rw [spun_second, keyRow_first, keyRow_second, ← key1_at, ← key2_at, ← secondCol_eq]
    exact (keys_rot kv z c s h r ⟨32 + j.val, by omega⟩).trans (turnedKey_second z c s r j)

theorem vals_eq : vals kv = headArray (valueHead kv) := funext fun i => by
  obtain ⟨h, r, j, rfl⟩ := triple_idx i
  show vals kv (ix3 h r j) = valueHead kv h r j
  pointwise [vals, valueHead]
  simp only [Nat.add_assoc]

variable (μ : (ℓ : Loc nD τ sig) → Buf (Elt Ideal) ℓ) (c : Dev nD)

abbrev argQ : FVec Ideal S2176x3072 .f32 := μ ((c.tc : Thread nD τ).loc main_arg0)
abbrev argK : FVec Ideal S2176x4096 .f32 := μ ((c.tc : Thread nD τ).loc main_arg1)
abbrev argZ : FVec Ideal S2176x1152 .f32 := μ ((c.tc : Thread nD τ).loc main_arg2)
abbrev argC : FVec Ideal S2176x32 .f32 := μ ((c.tc : Thread nD τ).loc main_arg3)
abbrev argS : FVec Ideal S2176x32 .f32 := μ ((c.tc : Thread nD τ).loc main_arg4)

theorem run (ρ : Dev nD → PrngReg) : θ_run defs (onTc (τ := τ) (main (F := Ideal))) ⟨μ, fun _ => 0, ρ⟩ (fun r => ∀ c : Dev nD,
      r.2.mem ((c.tc : Thread nD τ).loc main_v39) = headArray (queryHead (argQ μ c) (argC μ c) (argS μ c))
      ∧ r.2.mem ((c.tc : Thread nD τ).loc main_v40) = headArray (keyHead (argK μ c) (rotaryKey (argZ μ c)) (argC μ c) (argS μ c))
      ∧ r.2.mem ((c.tc : Thread nD τ).loc main_v41) = headArray (valueHead (argK μ c))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)) :=
  (θ_run defs _ _).mono (fun _ h c => ⟨(h c).1.trans (queries_eq (argQ μ c) (argC μ c) (argS μ c)),
      (h c).2.1.trans (keys_eq (argK μ c) (argZ μ c) (argC μ c) (argS μ c)),
      (h c).2.2.1.trans (vals_eq (argK μ c)), (h c).2.2.2⟩) (Value.run (F := Ideal) μ ρ)

end Cert.Reference23Ideal.Stages

end
-- ==== Proof.LossGrads.lean ====
/- The loss of a row, kept or left out, and its gradients through the last norm. 128 rows at a point; the gradient of the
   norm's scale and the loss are gathered over the seventeen points. -/
module

public import proofs.«01_k».proof.Proof.NormGrads
public import proofs.«01_k».proof.Proof.Softmax
public import proofs.«01_k».proof.Proof.Gen.Kernel24Ideal.Frame

@[expose] public section

set_option maxRecDepth 16384

noncomputable section

namespace Cert.Ffn

open Idealize.ShloMosaic

/-- The rows of the array that the loss keeps: neither the first 16 nor those from 2064 on. -/
abbrev Kept (r : ℕ) : Prop := 16 ≤ r ∧ r < 2064

/-- What is kept at a row. -/
abbrev keep (r : ℕ) (x : EReal) : EReal := if Kept r then x else 0

section Loss
variable {m : ℕ} (o : ℕ) (h : FVec Ideal ⟨2, ![m, 2048]⟩ .f32) (g : FVec Ideal ⟨2, ![1, 2048]⟩ .f32) (t : FVec Ideal ⟨2, ![m, 2048]⟩ .f32)
  (r : Fin m) (j : Fin 2048)

/-- An element of the normalised row, less the target. -/
def off : EReal := h (ix2 r j) * rowInv full (rowOf h r) * g (ix2 0 j) - t (ix2 r j)

/-- The same at a kept row, and 0 at another; the array's first row is row `o`, -/
def miss : EReal := keep (o + r.val) (off h g t r j)
/-- the gradient of the normalised row, -/
def missPart : EReal := Ideal.div (miss o h g t r j) full
/-- of the row itself, -/
def lossGrad : EReal := normTerm full (rowOf h r) (fun k => missPart o h g t r k * g (ix2 0 k)) j
/-- what the row adds to the scale's, -/
def lossScale : EReal := h (ix2 r j) * rowInv full (rowOf h r) * missPart o h g t r j
/-- and the sum of the row's squares. -/
def squares : EReal := ∑ k, miss o h g t r k * miss o h g t r k

end Loss

/-- Half the mean over a row's length, as a factor. -/
abbrev halfMean : EReal := ((1 / 4096 : ℝ) : EReal)

theorem full_eq : full = ((2048 : ℝ) : EReal) := by
  simp [full, Ideal.ofBits, Ideal.ieee, -EReal.coe_mul]
  norm_num
theorem half_eq : Scalar.ofBits (F := Ideal) .f32 0x3F000000#32 = ((1 / 2 : ℝ) : EReal) := by
  simp [Ideal.ofBits, Ideal.ieee, -EReal.coe_mul]
  norm_num
theorem two_eq : Scalar.ofBits (F := Ideal) .f32 0x40000000#32 = ((2 : ℝ) : EReal) := by
  simp [Ideal.ofBits, Ideal.ieee, -EReal.coe_mul]
  norm_num

theorem div_full (x : EReal) : Ideal.div x full = x * ((1 / 2048 : ℝ) : EReal) := by
  rw [full_eq]
  exact Ideal.div_coe (by norm_num) x

theorem half_div (x : EReal) : Ideal.div (Scalar.ofBits (F := Ideal) .f32 0x3F000000#32 * x) full = x * halfMean := by
  rw [div_full, half_eq, mul_comm _ x, mul_assoc, ← EReal.coe_mul]
  norm_num

/-- The loss, at every place of a row of 128. -/
def lossRow (h : FVec Ideal ⟨2, ![2176, 2048]⟩ .f32) (g : FVec Ideal ⟨2, ![1, 2048]⟩ .f32) (t : FVec Ideal ⟨2, ![2176, 2048]⟩ .f32) :
    FVec Ideal ⟨2, ![1, 128]⟩ .f32 := fun _ => (∑ r, squares 0 h g t r) * halfMean

end Cert.Ffn

namespace Cert.Kernel24Ideal.Results

open Idealize.ShloMosaic Idealize.ShloMosaic.TcCoe Idealize.SL.Sem
open Cert.Kernel24Ideal Cert.Kernel24Ideal.Gen Cert.Ffn
open Cert.Kernel2Ideal.Calls (pair_idx)

/-! ### A point's terms -/

section Point
variable (i : grid0.Coords) (h t : Vec Ideal S128x2048 .f32) (g : Vec Ideal S1x2048 .f32) (k : Fin 128) (j : Fin 2048) (o : Fin 1)

/-- The point's first row. -/
abbrev start : ℕ := (i 0).val * 128

/-- The mask of a row, from its number as a word of 32 bits. -/
theorem mask_eq (n : ℕ) (hn : n < 17) (x y : EReal) :
    Scalar.select (IntOp.andi
        (IntOp.cmpi .sge (IntOp.addi (Scalar.muli (BitVec.ofNat 32 n) 128#32) (BitVec.ofNat 32 k.val)) 16#32)
        (IntOp.cmpi .slt (IntOp.addi (Scalar.muli (BitVec.ofNat 32 n) 128#32) (BitVec.ofNat 32 k.val)) 2064#32)) x y
      = if Kept (n * 128 + k.val) then x else y := by
  have e : IntOp.addi (Scalar.muli (BitVec.ofNat 32 n) 128#32) (BitVec.ofNat 32 k.val) = BitVec.ofNat 32 (n * 128 + k.val) := by
    rw [show Scalar.muli (BitVec.ofNat 32 n) 128#32 = BitVec.ofNat 32 (n * 128) from (BitVec.ofNat_mul ..).symm]
    exact (BitVec.ofNat_add ..).symm
  have hk := k.isLt
  rw [e, WordCmp.cmpi_sge_ofNat (by omega) (by decide), WordCmp.cmpi_slt_ofNat (by omega) (by decide)]
  by_cases h1 : 16 ≤ n * 128 + k.val <;> by_cases h2 : n * 128 + k.val < 2064 <;>
    simp [Scalar.select, IntOp.andi, Kept, h1, h2]

theorem mean_at : k0_pay2 h (ix2 k o) = rowMean full (rowOf h k) := by
  pointwise [k0_pay2]
  rfl

theorem inv_at : k0_pay3 h (ix2 k o) = rowInv full (rowOf h k) := by
  pointwise [k0_pay3]
  rw [mean_at]
  rfl

theorem slope_at : k0_pay4 h (ix2 k o)
    = Scalar.ofBits (F := Ideal) .f32 0xBF000000#32 * Ideal.div (rowInv full (rowOf h k)) (rowMean full (rowOf h k)) := by
  pointwise [k0_pay4]
  rw [mean_at, inv_at]
  rfl

theorem scaled_at : k0_pay5 h (ix2 k j) = h (ix2 k j) * rowInv full (rowOf h k) := by
  pointwise [k0_pay5]
  rw [inv_at]
  rfl

theorem miss_at : k0_pay6 i h g t (ix2 k j) = miss (start i) h g t k j := by
  pointwise [k0_pay6]
  rw [scaled_at]
  refine (mask_eq k (i 0).val (i 0).isLt _ _).trans ?_
  rw [miss, keep, off]

theorem part_at : k0_pay7 i h g t (ix2 k j) = missPart (start i) h g t k j := by
  pointwise [k0_pay7]
  rw [miss_at]
  rfl

theorem scale_at : k0_pay8 i h g t (ix2 o j) = ∑ k, lossScale (start i) h g t k j := by
  pointwise [k0_pay8]
  simp only [scaled_at, part_at]
  rfl

theorem own_at : k0_pay9 i h g t (ix2 k j) = missPart (start i) h g t k j * g (ix2 0 j) := by
  pointwise [k0_pay9]
  rw [part_at]

theorem dot_at : k0_pay10 i h g t (ix2 k o) = ∑ j, h (ix2 k j) * (missPart (start i) h g t k j * g (ix2 0 j)) := by
  pointwise [k0_pay10]
  simp only [own_at]

/-- The gradient as a point stores it, -/
abbrev grad := k0_pay11 h (k0_pay3 h) (k0_pay4 h) (k0_pay9 i h g t) (k0_pay10 i h g t)
/-- and in the shorter type. -/
abbrev gradShort := k0_pay13 h (k0_pay3 h) (k0_pay4 h) (k0_pay9 i h g t) (k0_pay10 i h g t)

theorem grad_at : grad i h t g (ix2 k j) = lossGrad (start i) h g t k j := by
  pointwise [grad, k0_pay11]
  simp only [inv_at, slope_at, own_at, dot_at, Finset.univ_unique, Finset.sum_const, Finset.card_singleton, one_smul]
  rfl

theorem short_at : gradShort i h t g (ix2 k j) = grad i h t g (ix2 k j) := by pointwise [gradShort, k0_pay13]

theorem loss_at (l : Fin 128) : k0_pay12 (k0_pay6 i h g t) (ix2 o l) = (∑ k, squares (start i) h g t k) * halfMean := by
  pointwise [k0_pay12]
  simp only [miss_at]
  exact half_div _

theorem add_scale (v : FVec Ideal S1x2048 .f32) (w : Vec Ideal S1x2048 .f32) (y : S1x2048.Idx) : k0_pay14 v w y = w y + v y := by
  obtain ⟨r, j, rfl⟩ := pair_idx y
  pointwise [k0_pay14]

theorem add_loss (v : FVec Ideal S1x128 .f32) (w : Vec Ideal S1x128 .f32) (y : S1x128.Idx) : k0_pay1 v w y = w y + v y := by
  obtain ⟨r, j, rfl⟩ := pair_idx y
  pointwise [k0_pay1]

end Point

variable (m : (ℓ : Loc nD τ sig) → Buf (Elt Ideal) ℓ) (ρ : Dev nD → PrngReg) (c : Dev nD)

/-! ### What a point leaves -/

/-- A point's column sums and its loss, -/
abbrev sums (t : Fin cfg0.N) := k0_pay8 (grid0.coords t) (iblk m c 0 t) (iblk m c 1 t) (iblk m c 2 t)
abbrev part (t : Fin cfg0.N) := k0_pay12 (k0_pay6 (grid0.coords t) (iblk m c 0 t) (iblk m c 1 t) (iblk m c 2 t))

/-- the column sums gathered after a point, -/
def gather (n : ℕ) (h : n < cfg0.N) : S1x2048.Idx → EReal := (outsAt0 m c n h).2.2.1

theorem gather_first (t : Fin cfg0.N) (h : t.val % 17 = 0) (i : S1x2048.Idx) : gather m c t.val t.isLt i = 0 + sums m c t i := by
  have h1 : ¬1 ≤ t.val := by have := lt_of_lt_of_eq t.isLt N_0; omega
  rw [gather, outsAt0_A m c t h h1 h h1, zero_add]
  frame_out

theorem gather_next (t : Fin cfg0.N) (h : ¬t.val % 17 = 0) (i : S1x2048.Idx) :
    gather m c t.val t.isLt i = gather m c (t.val - 1) (Nat.lt_of_le_of_lt (Nat.sub_le _ _) t.isLt) i + sums m c t i := by
  rw [gather, gather, outsAt0_B m c t h (by omega) h (by omega)]
  frame_out
  rw [add_scale]

/-- the loss gathered after it, -/
def total (n : ℕ) (h : n < cfg0.N) : S1x128.Idx → EReal := (outsAt0 m c n h).2.2.2

theorem total_first (t : Fin cfg0.N) (h : t.val % 17 = 0) (i : S1x128.Idx) : total m c t.val t.isLt i = 0 + part m c t i := by
  have h1 : ¬1 ≤ t.val := by have := lt_of_lt_of_eq t.isLt N_0; omega
  rw [total, outsAt0_A m c t h h1 h h1, zero_add]
  frame_out

theorem total_next (t : Fin cfg0.N) (h : ¬t.val % 17 = 0) (i : S1x128.Idx) :
    total m c t.val t.isLt i = total m c (t.val - 1) (Nat.lt_of_le_of_lt (Nat.sub_le _ _) t.isLt) i + part m c t i := by
  rw [total, total, outsAt0_B m c t h (by omega) h (by omega)]
  frame_out
  rw [add_loss]

/-- and what it stores in the two arrays of rows. -/
theorem stored (t : Fin cfg0.N) :
    (outsAt0 m c t.val t.isLt).1 = grad (grid0.coords t) (iblk m c 0 t) (iblk m c 2 t) (iblk m c 1 t)
    ∧ (outsAt0 m c t.val t.isLt).2.1 = gradShort (grid0.coords t) (iblk m c 0 t) (iblk m c 2 t) (iblk m c 1 t) := by
  have hN := lt_of_lt_of_eq t.isLt N_0
  by_cases h : t.val % 17 = 0
  · rw [outsAt0_A m c t h (by omega) h (by omega)]
    refine ⟨?_, ?_⟩ <;> frame_out
  · rw [outsAt0_B m c t h (by omega) h (by omega)]
    refine ⟨?_, ?_⟩ <;> frame_out

/-! ### What the call leaves -/

theorem idx0 : ∀ t : Fin cfg0.N, win0_0.index t = ![t.val % 17, 0] ∧ win0_1.index t = ![0, 0] ∧ win0_2.index t = ![t.val % 17, 0]
    ∧ win0_3.index t = ![t.val % 17, 0] ∧ win0_4.index t = ![t.val % 17, 0] ∧ win0_5.index t = ![0, 0]
    ∧ win0_6.index t = ![0, 0] :=
  (by decide +kernel : ∀ t : Fin grid0.N, _)

theorem place : ∀ t : Fin cfg0.N, (grid0.coords t 0).val = t.val % 17 := (by decide +kernel : ∀ t : Fin grid0.N, _)

/-- A point's row. -/
def row (t : Fin cfg0.N) (k : Fin 128) : Fin 2176 := ⟨t.val % 17 * 128 + k.val, by omega⟩

theorem row_run {n : ℕ} (s : Fin 17) (k : Fin 128) (h : 17 * n + s.val < cfg0.N) (hl : s.val * 128 + k.val < 2176) :
    row ⟨17 * n + s.val, h⟩ k = ⟨s.val * 128 + k.val, hl⟩ := Fin.ext (by simp [row, Nat.mod_eq_of_lt s.isLt])

section Terms
variable (t : Fin cfg0.N) (k : Fin 128) (j : Fin 2048)

theorem blk0 : iblk m c 0 t (ix2 k j) = V m c main_arg0 (ix2 (row t k) j) := by blk_point [iblk, idx0 t, row]
theorem blk1 (o : Fin 1) : iblk m c 1 t (ix2 o j) = V m c main_arg1 (ix2 o j) := by blk_point [iblk, idx0 t]
theorem blk2 : iblk m c 2 t (ix2 k j) = V m c main_arg2 (ix2 (row t k) j) := by blk_point [iblk, idx0 t, row]

/-- The block's rows are the array's. -/
theorem rowTerm : rowOf (iblk m c 0 t) k = rowOf (V m c main_arg0) (row t k) := funext fun l => blk0 m c t k l

theorem missTerm : miss (start (grid0.coords t)) (iblk m c 0 t) (iblk m c 1 t) (iblk m c 2 t) k j
    = miss 0 (V m c main_arg0) (V m c main_arg1) (V m c main_arg2) (row t k) j := by
  have e : start (grid0.coords t) + k.val = 0 + (row t k).val := by rw [start, place, zero_add]; rfl
  rw [miss, miss, e, off, off, rowTerm, blk0, blk1, blk2]

theorem partTerm : missPart (start (grid0.coords t)) (iblk m c 0 t) (iblk m c 1 t) (iblk m c 2 t) k j
    = missPart 0 (V m c main_arg0) (V m c main_arg1) (V m c main_arg2) (row t k) j := by rw [missPart, missPart, missTerm]

theorem gradTerm : lossGrad (start (grid0.coords t)) (iblk m c 0 t) (iblk m c 1 t) (iblk m c 2 t) k j
    = lossGrad 0 (V m c main_arg0) (V m c main_arg1) (V m c main_arg2) (row t k) j := by
  rw [lossGrad, lossGrad, rowTerm]
  simp only [partTerm, blk1]

theorem scaleTerm : lossScale (start (grid0.coords t)) (iblk m c 0 t) (iblk m c 1 t) (iblk m c 2 t) k j
    = lossScale 0 (V m c main_arg0) (V m c main_arg1) (V m c main_arg2) (row t k) j := by
  rw [lossScale, lossScale, rowTerm, partTerm, blk0]

theorem squaresTerm : squares (start (grid0.coords t)) (iblk m c 0 t) (iblk m c 1 t) (iblk m c 2 t) k
    = squares 0 (V m c main_arg0) (V m c main_arg1) (V m c main_arg2) (row t k) := by
  simp only [squares, missTerm]

theorem emb3 : (win0_3.blk t).view.emb (ix2 k j) = ix2 (row t k) j := by blk_ext [idx0 t, row]
theorem emb4 : (win0_4.blk t).view.emb (ix2 k j) = ix2 (row t k) j := by blk_ext [idx0 t, row]
theorem emb5 (o : Fin 1) : (win0_5.blk t).view.emb (ix2 o j) = ix2 o j := by blk_ext [idx0 t]
theorem emb6 (o : Fin 1) (l : Fin 128) : (win0_6.blk t).view.emb (ix2 o l) = ix2 o l := by blk_ext [idx0 t]

end Terms

theorem final3 : (dats m 0 c).arrAt 3 cfg0.N = rows .f32 (lossGrad 0 (V m c main_arg0) (V m c main_arg1) (V m c main_arg2)) := by
  refine (dats m 0 c).arrAt_eq_of_covers 3 _ (by decide +kernel) fun t hf y => ?_
  blk_simp
  obtain ⟨r, d, rfl⟩ := pair_idx y
  rw [after0_3, (stored m c t).1, grad_at, gradTerm, emb3 t r d]
  rfl

theorem final4 : (dats m 0 c).arrAt 4 cfg0.N = rows .bf16 (lossGrad 0 (V m c main_arg0) (V m c main_arg1) (V m c main_arg2)) := by
  refine (dats m 0 c).arrAt_eq_of_covers 4 _ (by decide +kernel) fun t hf y => ?_
  blk_simp
  obtain ⟨r, d, rfl⟩ := pair_idx y
  rw [after0_4, (stored m c t).2, short_at, grad_at, gradTerm, emb4 t r d]
  rfl

theorem final5 : (dats m 0 c).arrAt 5 cfg0.N = colSums (lossScale 0 (V m c main_arg0) (V m c main_arg1) (V m c main_arg2)) := by
  refine (dats m 0 c).arrAt_eq_of_covers 5 _ (by decide +kernel) fun t hf y => ?_
  blk_simp
  rw [after0_5, show (outsAt0 m c t.val t.isLt).2.2.1 = gather m c t.val t.isLt from rfl,
    Pipeline.eq_sum_fin_of_reset_step_apply_of_flush (gather m c) 17 (fun _ => 0) (sums m c) (gather_first m c) (gather_next m c) t
      ((flush0_5 t).mp hf) y]
  obtain ⟨o, d, rfl⟩ := pair_idx y
  rw [zero_add, emb5 t d o]
  simp only [sums, scale_at, scaleTerm]
  exact Fin.sum_mul_add_congr fun s k hl => congrArg (lossScale 0 _ _ _ · d) (row_run s k _ hl)

theorem final6 : (dats m 0 c).arrAt 6 cfg0.N = lossRow (V m c main_arg0) (V m c main_arg1) (V m c main_arg2) := by
  refine (dats m 0 c).arrAt_eq_of_covers 6 _ (by decide +kernel) fun t hf y => ?_
  blk_simp
  rw [after0_6, show (outsAt0 m c t.val t.isLt).2.2.2 = total m c t.val t.isLt from rfl,
    Pipeline.eq_sum_fin_of_reset_step_apply_of_flush (total m c) 17 (fun _ => 0) (part m c) (total_first m c) (total_next m c) t
      ((flush0_6 t).mp hf) y]
  obtain ⟨o, l, rfl⟩ := pair_idx y
  rw [zero_add, emb6 t o l]
  simp only [part, loss_at, squaresTerm, lossRow]
  rw [Cert.Softmax.sum_mul_coe _ _ (by norm_num)]
  exact congrArg (· * halfMean) (Fin.sum_mul_add_congr fun s k hl => congrArg (squares 0 _ _ _) (row_run s k _ hl))

abbrev argH : FVec Ideal S2176x2048 .f32 := m ((c.tc : Thread nD τ).loc main_arg0)
abbrev argG : FVec Ideal S1x2048 .f32 := m ((c.tc : Thread nD τ).loc main_arg1)
abbrev argT : FVec Ideal S2176x2048 .f32 := m ((c.tc : Thread nD τ).loc main_arg2)

/-- Every execution ends with the gradient in the two types, the scale's, the loss, and the arguments as launched. -/
theorem run : θ_run defs (onTc (τ := τ) (main (F := Ideal))) ⟨m, fun _ => 0, ρ⟩ (fun r => ∀ c : Dev nD,
      r.2.mem ((c.tc : Thread nD τ).loc main_v0_0) = rows .f32 (lossGrad 0 (argH m c) (argG m c) (argT m c))
      ∧ r.2.mem ((c.tc : Thread nD τ).loc main_v0_1) = rows .bf16 (lossGrad 0 (argH m c) (argG m c) (argT m c))
      ∧ r.2.mem ((c.tc : Thread nD τ).loc main_v0_2) = colSums (lossScale 0 (argH m c) (argG m c) (argT m c))
      ∧ r.2.mem ((c.tc : Thread nD τ).loc main_v0_3) = lossRow (argH m c) (argG m c) (argT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans ((final3 m c).trans (by rw [V_main_arg0, V_main_arg1, V_main_arg2])),
     ((h c).1 4).trans ((final4 m c).trans (by rw [V_main_arg0, V_main_arg1, V_main_arg2])),
     ((h c).1 5).trans ((final5 m c).trans (by rw [V_main_arg0, V_main_arg1, V_main_arg2])),
     ((h c).1 6).trans ((final6 m c).trans (by rw [V_main_arg0, V_main_arg1, V_main_arg2])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c)))⟩)
    (run_main m ρ)

end Cert.Kernel24Ideal.Results

end
-- ==== Proof.LossReference.lean ====
/- The loss and its gradients as the reference computes them, stage by stage, and the four results: the ones the call leaves. -/
module

public import proofs.«01_k».proof.Proof.LossGrads
public import proofs.«01_k».proof.Proof.NormReference
public import proofs.«01_k».proof.Proof.Gen.Reference24Ideal.Run

@[expose] public section

set_option maxRecDepth 16384

noncomputable section

namespace Cert.Reference24Ideal.Stages

open Cert.Reference24Ideal Cert.Reference24Ideal.Gen Cert.Reference24Ideal.Value Idealize.ShloMosaic Cert.Ffn
open Cert.Kernel2Ideal.Calls (pair_idx)
open Cert.Reference16Ideal.Stages (sums_eq)
open Cert.Reference14Ideal.Stages (means means_at scaled scaled_at share share_at scale scale_at rows_eq)

variable (h : FVec Ideal S2176x2048 .f32) (g : FVec Ideal S1x2048 .f32) (t d x : FVec Ideal S2176x2048 .f32)
  (e : FVec Ideal S2048x2048 .f32) (r : Fin 2176) (k : Fin 2048) (j : Fin 2048) (o : Fin 1)

/-! ### The stages -/

/-- The norm, -/
def normed : FVec Ideal S2176x2048 .f32 :=
  mulf (mulf h (broadcastInDim S2176x2048 ![0, 1] bcast_S2176x1_S2176x2048_0_1 (Host.rsqrt (means h))))
    (broadcastInDim S2176x2048 ![0, 1] bcast_S1x2048_S2176x2048_0_1 g)
/-- the kept rows of it, less the target's, -/
def errors : FVec Ideal S2048x2048 .f32 :=
  subf (extractStridedSlice S2048x2048 ![16, 0] (normed h g) slices_S2176x2048_S2048x2048_16_0)
    (extractStridedSlice S2048x2048 ![16, 0] t slices_S2176x2048_S2048x2048_16_0)
/-- the loss, -/
def loss : FVec Ideal S1x128 .f32 :=
  broadcastInDim S1x128 ![] bcast_S_S1x128 (mulf (constant S_ .f32 0x3F000000#32)
    (Host.reduceAdd
      (Host.divf (Host.reduceAdd (mulf e e) (constant S_ .f32 0x00000000#32) reducesTo_S2048x2048_S2048_d1 h_S_)
        (broadcastInDim S2048 ![] bcast_S_S2048 (constant S_ .f32 0x45000000#32)))
      (constant S_ .f32 0x00000000#32) reducesTo_S2048_S_d0 h_S_))
/-- the gradient of the kept rows, -/
def inner : FVec Ideal S2048x2048 .f32 :=
  mulf (broadcastInDim S2048x2048 ![0] bcast_S2048_S2048x2048_0
      (Host.divf (broadcastInDim S2048 ![] bcast_S_S2048 (mulf (constant S_ .f32 0x3F000000#32) (constant S_ .f32 0x3F800000#32)))
        (broadcastInDim S2048 ![] bcast_S_S2048 (constant S_ .f32 0x45000000#32))))
    (mulf (broadcastInDim S2048x2048 ![] bcast_S_S2048x2048 (constant S_ .f32 0x40000000#32)) e)
/-- with rows of zeros before and after it, -/
def outer : FVec Ideal S2176x2048 .f32 :=
  concatenate S2176x2048 0 [⟨S16x2048, broadcastInDim S16x2048 ![] bcast_S_S16x2048 (constant (F := Ideal) S_ .f32 0x00000000#32)⟩,
    ⟨S2048x2048, e⟩, ⟨S112x2048, broadcastInDim S112x2048 ![] bcast_S_S112x2048 (constant (F := Ideal) S_ .f32 0x00000000#32)⟩]
    concatenates_S16x2048_S2048x2048_S112x2048_S2176x2048_d0
/-- and the gradient of the norm's argument. -/
def grad : FVec Ideal S2176x2048 .f32 :=
  addf (addf (mulf x (broadcastInDim S2176x2048 ![0, 1] bcast_S2176x1_S2176x2048_0_1 (Host.rsqrt (means h)))) (mulf h (share h x)))
    (mulf (share h x) h)

/-- The row of the array that is kept as row `k`. -/
def keptRow : Fin 2176 := ⟨16 + k.val, by omega⟩

theorem normed_at : normed h g (ix2 r j) = h (ix2 r j) * rowInv full (rowOf h r) * g (ix2 0 j) := by
  pointwise [normed]
  rw [means_at]
  rfl

theorem errors_at : errors h g t (ix2 k j) = off h g t (keptRow k) j := by
  pointwise [errors]
  have e1 := normed_at h g (keptRow k) j
  rw [off, ← e1]
  rfl

theorem inner_at : inner e (ix2 k j) = Ideal.div (e (ix2 k j)) full := by
  pointwise [inner]
  refine (show _ = Ideal.div (Scalar.ofBits (F := Ideal) .f32 0x3F000000#32) full
    * (Scalar.ofBits (F := Ideal) .f32 0x40000000#32 * e (ix2 k j)) from rfl).trans ((?_ : _ = _).trans
      (show Ideal.div (e (ix2 k j)) full = _ from rfl))
  rw [div_full, half_eq, div_full, two_eq, ← EReal.coe_mul, ← mul_assoc, ← EReal.coe_mul, mul_comm]
  norm_num

theorem loss_at (l : Fin 128) : loss e (ix2 o l) = (∑ k, ∑ j, e (ix2 k j) * e (ix2 k j)) * halfMean := by
  pointwise [loss]
  refine (show _ = Scalar.ofBits (F := Ideal) .f32 0x3F000000#32 * ∑ k, Ideal.div (∑ j, e (ix2 k j) * e (ix2 k j)) full from rfl).trans ?_
  simp only [div_full]
  rw [Cert.Softmax.sum_mul_coe _ _ (by norm_num), ← div_full, ← half_div]
  rw [half_eq, div_full, div_full, mul_assoc]

theorem outer_first (k : Fin 16) (hk : k.val < 2176) : outer e (ix2 ⟨k.val, hk⟩ j) = 0 := by
  pointwise [outer]
theorem outer_kept : outer e (ix2 (keptRow k) j) = e (ix2 k j) := by
  pointwise [outer, keptRow]
theorem outer_last (k : Fin 112) (hk : 2064 + k.val < 2176) : outer e (ix2 ⟨2064 + k.val, hk⟩ j) = 0 := by
  pointwise [outer]
  refine (dif_neg (by omega)).trans ((dif_neg (by omega)).trans ?_)
  simp [Ideal.ofBits, Ideal.ieee]

/-- A row left out has no gradient. -/
theorem part_zero (hr : ¬Kept r.val) : missPart 0 h g t r j = 0 := by
  rw [missPart, miss, keep, zero_add, if_neg hr, div_full, zero_mul]

/-- The gradient of the normalised rows, zero at the rows left out. -/
theorem outer_at : outer (inner (errors h g t)) (ix2 r j) = missPart 0 h g t r j := by
  by_cases h1 : r.val < 16
  · exact (outer_first _ j ⟨r.val, h1⟩ r.isLt).trans (part_zero h g t r j (by omega)).symm
  · by_cases h2 : 2064 ≤ r.val
    · obtain ⟨k, hk, rfl⟩ : ∃ (k : Fin 112) (hk : 2064 + k.val < 2176), ⟨2064 + k.val, hk⟩ = r :=
        ⟨⟨r.val - 2064, by omega⟩, by simp; omega, Fin.ext (by simp; omega)⟩
      exact (outer_last _ j k hk).trans (part_zero h g t _ j (by simp)).symm
    · obtain ⟨k, rfl⟩ : ∃ k, keptRow k = r := ⟨⟨r.val - 16, by omega⟩, Fin.ext (by simp [keptRow]; omega)⟩
      rw [outer_kept, inner_at, errors_at, missPart, miss, keep, if_pos (by simp [keptRow]; omega)]

theorem grad_at (hd : ∀ r j, d (ix2 r j) = missPart 0 h g t r j) : grad h (scaled g d) (ix2 r j) = lossGrad 0 h g t r j := by
  have hs : rowOf (scaled g d) r = fun k => missPart 0 h g t r k * g (ix2 0 k) :=
    funext fun l => (scaled_at g d r l).trans (by rw [hd])
  pointwise [grad]
  rw [share_at, means_at, scaled_at, hs, hd]
  rfl

theorem scaleGrad_at (hd : ∀ r j, d (ix2 r j) = missPart 0 h g t r j) : scale h d (ix2 r j) = lossScale 0 h g t r j := by
  rw [scale_at, scaleGrad, hd, lossScale]

/-- A row left out adds nothing to the loss. -/
theorem squares_zero (hr : ¬Kept r.val) : squares 0 h g t r = 0 := by
  refine Finset.sum_eq_zero fun k _ => ?_
  rw [miss, keep, zero_add, if_neg hr, zero_mul]

theorem squares_kept : squares 0 h g t (keptRow k) = ∑ j, errors h g t (ix2 k j) * errors h g t (ix2 k j) := by
  refine Finset.sum_congr rfl fun j _ => ?_
  rw [errors_at, miss, keep, zero_add, if_pos (by simp [keptRow]; omega)]

/-- A sum over all rows, zero at those left out, is the sum over the kept ones. -/
theorem sum_kept (f : Fin 2176 → EReal) (hf : ∀ r : Fin 2176, ¬Kept r.val → f r = 0) : ∑ k, f (keptRow k) = ∑ r, f r := by
  refine Finset.sum_bij_ne_zero (fun k _ _ => keptRow k) (fun _ _ _ => Finset.mem_univ _) ?_ ?_ fun _ _ _ => rfl
  · intro a _ _ b _ _ hab
    have := congrArg Fin.val hab
    simp only [keptRow] at this
    exact Fin.ext (by omega)
  · intro r _ hr
    have hk : Kept r.val := by
      by_contra hn
      exact hr (hf r hn)
    have e : keptRow ⟨r.val - 16, by omega⟩ = r := Fin.ext (by simp [keptRow]; omega)
    exact ⟨_, Finset.mem_univ _, by rw [e]; exact hr, e⟩

theorem loss_eq : loss (errors h g t) = lossRow h g t := funext fun i => by
  obtain ⟨o, l, rfl⟩ := pair_idx i
  rw [loss_at, lossRow, ← sum_kept _ (squares_zero h g t)]
  simp only [squares_kept]

/-! ### The four results -/

variable (μ : (ℓ : Loc nD τ sig) → Buf (Elt Ideal) ℓ) (c : Dev nD)

abbrev argH : FVec Ideal S2176x2048 .f32 := μ ((c.tc : Thread nD τ).loc main_arg0)
abbrev argG : FVec Ideal S1x2048 .f32 := μ ((c.tc : Thread nD τ).loc main_arg1)
abbrev argT : FVec Ideal S2176x2048 .f32 := μ ((c.tc : Thread nD τ).loc main_arg2)

/-- The gradient of the norm's argument, of the arguments as launched. -/
def result : FVec Ideal S2176x2048 .f32 :=
  grad (argH μ c) (scaled (argG μ c) (outer (inner (errors (argH μ c) (argG μ c) (argT μ c)))))

theorem result_at (r : Fin 2176) (j : Fin 2048) : result μ c (ix2 r j) = lossGrad 0 (argH μ c) (argG μ c) (argT μ c) r j :=
  grad_at _ _ _ _ r j (outer_at _ _ _)

theorem grad_result : res_main_v57 μ c = rows .f32 (lossGrad 0 (argH μ c) (argG μ c) (argT μ c)) :=
  (show res_main_v57 μ c = result μ c from rfl).trans (rows_eq _ _ (result_at μ c)).1

theorem short_result : res_main_v58 μ c = rows .bf16 (lossGrad 0 (argH μ c) (argG μ c) (argT μ c)) :=
  (show res_main_v58 μ c = truncf .bf16 (result μ c) bitsLt_bf16_f32 from rfl).trans (rows_eq _ _ (result_at μ c)).2

theorem run (ρ : Dev nD → PrngReg) : θ_run defs (onTc (τ := τ) (main (F := Ideal))) ⟨μ, fun _ => 0, ρ⟩ (fun r => ∀ c : Dev nD,
      r.2.mem ((c.tc : Thread nD τ).loc main_v57) = rows .f32 (lossGrad 0 (argH μ c) (argG μ c) (argT μ c))
      ∧ r.2.mem ((c.tc : Thread nD τ).loc main_v58) = rows .bf16 (lossGrad 0 (argH μ c) (argG μ c) (argT μ c))
      ∧ r.2.mem ((c.tc : Thread nD τ).loc main_v41) = colSums (lossScale 0 (argH μ c) (argG μ c) (argT μ c))
      ∧ r.2.mem ((c.tc : Thread nD τ).loc main_v59) = lossRow (argH μ c) (argG μ c) (argT μ c)
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)) :=
  (θ_run defs _ _).mono (fun _ h c =>
    ⟨(h c).1.trans (grad_result μ c), (h c).2.1.trans (short_result μ c),
     (h c).2.2.1.trans (sums_eq _ _ fun r j => scaleGrad_at (argH μ c) (argG μ c) (argT μ c) _ r j (outer_at _ _ _)),
     (h c).2.2.2.1.trans (loss_eq (argH μ c) (argG μ c) (argT μ c)), (h c).2.2.2.2⟩)
    (Value.run (F := Ideal) μ ρ)

end Cert.Reference24Ideal.Stages

end
-- ==== Proof.Optimiser.lean ====
/- The optimiser's step for the weights that every device holds whole: the gradient is the sum of the eight devices' parts,
   the device's own part taken from its own array, and the two moments and the step follow from it element by element. -/
module

public import proofs.«01_k».proof.Proof.Gates
public import Idealize.ShloMosaic.Lib.Pipeline.Covers
public import proofs.«01_k».proof.Proof.Gen.Kernel25Ideal.Frame

@[expose] public section

set_option maxRecDepth 16384

noncomputable section

namespace Cert.Ffn

open Idealize.ShloMosaic

section Step
variable (me : BitVec 32) (parts : FVec Ideal ⟨3, ![8, 1, 23552]⟩ .f32) (own w m v : FVec Ideal ⟨2, ![1, 23552]⟩ .f32) (j : Fin 23552)

/-- A device's part of the gradient: device `me`'s is its own, -/
def partOf (q : Fin 8) : EReal := if me = BitVec.ofNat 32 q.val then own (ix2 0 j) else parts (ix3 q 0 j)
/-- the gradient, -/
def summed : EReal := ∑ q, partOf me parts own j q
/-- the first moment, -/
def firstMoment : EReal :=
  Scalar.ofBits (F := Ideal) .f32 0x3F666666#32 * m (ix2 0 j) + Scalar.ofBits (F := Ideal) .f32 0x3DCCCCCD#32 * summed me parts own j
/-- the second, -/
def secondMoment : EReal :=
  Scalar.ofBits (F := Ideal) .f32 0x3F7FBE77#32 * v (ix2 0 j)
    + Scalar.ofBits (F := Ideal) .f32 0x3A83126F#32 * (summed me parts own j * summed me parts own j)
/-- and the step. -/
def stepOf : EReal :=
  Scalar.ofBits (F := Ideal) .f32 0xBA83126F#32
    * (Ideal.div (Ideal.div (firstMoment me parts own m j) (Scalar.ofBits (F := Ideal) .f32 0x3F26BD02#32))
        (Ideal.sqrt (Ideal.div (secondMoment me parts own v j) (Scalar.ofBits (F := Ideal) .f32 0x3C231ACC#32))
          + Scalar.ofBits (F := Ideal) .f32 0x322BCC77#32)
      + Scalar.ofBits (F := Ideal) .f32 0x3C23D70A#32 * w (ix2 0 j))

section Same
variable {me parts own w m v j} {parts' : FVec Ideal ⟨3, ![8, 1, 23552]⟩ .f32} {own' w' m' v' : FVec Ideal ⟨2, ![1, 23552]⟩ .f32}
  (hp : ∀ q, parts (ix3 q 0 j) = parts' (ix3 q 0 j)) (ho : own (ix2 0 j) = own' (ix2 0 j)) (hw : w (ix2 0 j) = w' (ix2 0 j))
  (hm : m (ix2 0 j) = m' (ix2 0 j)) (hv : v (ix2 0 j) = v' (ix2 0 j))

include hp ho

/-- They depend on one column of the arrays only. -/
theorem summed_same : summed me parts own j = summed me parts' own' j := by
  refine Finset.sum_congr rfl fun q _ => ?_
  rw [partOf, partOf, hp, ho]
include hm in
theorem firstMoment_same : firstMoment me parts own m j = firstMoment me parts' own' m' j := by
  rw [firstMoment, firstMoment, summed_same hp ho, hm]
include hv in
theorem secondMoment_same : secondMoment me parts own v j = secondMoment me parts' own' v' j := by
  rw [secondMoment, secondMoment, summed_same hp ho, hv]
include hw hm hv in
theorem stepOf_same : stepOf me parts own w m v j = stepOf me parts' own' w' m' v' j := by
  rw [stepOf, stepOf, firstMoment_same hp ho hm, secondMoment_same hp ho hv, hw]

end Same

end Step

/-- A row of the weights, from its elements. -/
def rowFrom (f : Fin 23552 → EReal) : FVec Ideal ⟨2, ![1, 23552]⟩ .f32 := fun i => f (i 1)

end Cert.Ffn

namespace Cert.Kernel25Ideal.Results

open Idealize.ShloMosaic Idealize.ShloMosaic.TcCoe Idealize.SL.Sem
open Cert.Kernel25Ideal Cert.Kernel25Ideal.Gen Cert.Ffn
open Cert.Kernel2Ideal.Calls (pair_idx)

section Point
variable (me : BitVec 32) (x : Vec Ideal S8x1x23552 .f32) (own w a b : Vec Ideal S1x23552 .f32) (o : Fin 1) (j : Fin 23552)

/-- A device's part, as a point reads it. -/
def slot (q : Fin 8) : Vec Ideal S1x1x23552 .f32 := fun i => x (ix3 q 0 (i 2))

theorem slot_at (q : Fin 8) : slot x q (ix3 0 0 j) = x (ix3 q 0 j) := rfl

theorem part_eq (n : BitVec 32) (p q : EReal) : Scalar.select (Scalar.cmpi .eq me n) p q = if me = n then p else q := by
  by_cases h : me = n
  · simp [Scalar.select, Scalar.cmpi, IntOp.cmpi, h]
  · have e : (me == n) = false := beq_eq_false_iff_ne.mpr h
    rw [if_neg h]
    refine if_neg fun hc => ?_
    have hc : BitVec.ofBool (me == n) = 1#1 := hc
    simp [e] at hc

/-- The first six parts' sum, -/
abbrev first := k0_pay2 own me (slot x 0) (slot x 1) (slot x 2) (slot x 3) (slot x 4) (slot x 5)
/-- and all eight's. -/
abbrev grad := k0_pay3 own me (first me x own) 6#32 (slot x 6) (slot x 7)

theorem grad_at : grad me x own (ix2 o j) = summed me x own j := by
  pointwise [grad, k0_pay3, k0_pay2]
  simp only [part_eq, slot_at]
  obtain rfl : o = 0 := Subsingleton.elim _ _
  rw [summed, Fin.sum_univ_eight]
  rfl

/-- The moments and the step. -/
abbrev moment1 := k0_pay4 own me (first me x own) 6#32 (slot x 6) (slot x 7) a
abbrev moment2 := k0_pay5 own me (first me x own) 6#32 (slot x 6) (slot x 7) b
abbrev delta := k0_pay1 (k0_pay6 own me (first me x own) 6#32 (slot x 6) (slot x 7) a b w)

theorem moment1_at : moment1 me x own a (ix2 o j) = firstMoment me x own a j := by
  have e : k0_pay3 own me (first me x own) 6#32 (slot x 6) (slot x 7) (ix2 o j) = _ := grad_at me x own o j
  obtain rfl : o = 0 := Subsingleton.elim _ _
  pointwise [moment1, k0_pay4]
  rw [e]
  rfl

theorem moment2_at : moment2 me x own b (ix2 o j) = secondMoment me x own b j := by
  have e : k0_pay3 own me (first me x own) 6#32 (slot x 6) (slot x 7) (ix2 o j) = _ := grad_at me x own o j
  obtain rfl : o = 0 := Subsingleton.elim _ _
  pointwise [moment2, k0_pay5]
  rw [e]
  rfl

theorem delta_at : delta me x own w a b (ix2 o j) = stepOf me x own w a b j := by
  have e1 : k0_pay4 own me (first me x own) 6#32 (slot x 6) (slot x 7) a (ix2 o j) = _ := moment1_at me x own a o j
  have e2 : k0_pay5 own me (first me x own) 6#32 (slot x 6) (slot x 7) b (ix2 o j) = _ := moment2_at me x own b o j
  obtain rfl : o = 0 := Subsingleton.elim _ _
  pointwise [delta, k0_pay1, k0_pay6]
  rw [e1, e2]
  rfl

theorem load (q : Fin 8) (h) : View.ld x (Rect.unit (s := S8x1x23552) ![q.val, 0, 0] ![1, 1, 23552] h) = slot x q := by
  refine funext fun i => congrArg x (funext fun a => Fin.ext ?_)
  fin_cases a
  · show q.val + 1 * (i 0).val = _
    simp [ix3]
  · show 0 + 1 * (i 1).val = _
    simp [ix3]
  · show 0 + 1 * (i 2).val = _
    simp [ix3]

end Point

variable (m : (ℓ : Loc nD τ sig) → Buf (Elt Ideal) ℓ) (ρ : Dev nD → PrngReg) (hO : Ok m) (c : Dev nD)

/-- The device's number, as launched. -/
def device : BitVec 32 := (m ((c.tc : Thread nD τ).loc main_arg0) : S1.Idx → BitVec 32) (ix1 0)

theorem word (h) : View.readAt (Elt Ideal) (View.whole main_arg0) (Rect.unit (s := S1) ![0] ![1] inb_S1_S1_0).toLoadRect (tbl m 0) (Shape.Idx.first h)
    = device m c := by
  obtain rfl : c = 0 := Subsingleton.elim _ _
  refine congrArg (m (((0 : Dev nD).tc : Thread nD τ).loc main_arg0) : S1.Idx → BitVec 32) (funext fun a => ?_)
  fin_cases a
  exact Subsingleton.elim (α := Fin 1) _ _

/-- What the body leaves in the four outputs, from its inputs. -/
theorem left (i : grid0.Coords) (arg2 : Memref sig .tc .vmem S8x1x23552 .f32) (harg2 : arg2.IsWhole) (arg3 : Memref sig .tc .vmem S1x23552 .f32) (harg3 : arg3.IsWhole) (arg4 : Memref sig .tc .vmem S1x23552 .f32) (harg4 : arg4.IsWhole) (arg5 : Memref sig .tc .vmem S1x23552 .f32) (harg5 : arg5.IsWhole) (arg6 : Memref sig .tc .vmem S1x23552 .f32) (harg6 : arg6.IsWhole) (arg7 : Memref sig .tc .vmem S1x23552 .f32) (harg7 : arg7.IsWhole) (arg8 : Memref sig .tc .vmem S1x23552 .f32) (harg8 : arg8.IsWhole) (arg9 : Memref sig .tc .vmem S1x23552 .f32) (harg9 : arg9.IsWhole) (arg10 : Memref sig .tc .vmem S1x23552 .f32) (harg10 : arg10.IsWhole)
    (x0 : Vec Ideal S8x1x23552 .f32) (x1 x2 x3 x4 : Vec Ideal S1x23552 .f32) :
    out0_A_5 c i arg2 harg2 arg3 harg3 arg4 harg4 arg5 harg5 arg6 harg6 arg7 harg7 arg8 harg8 arg9 harg9 arg10 harg10 x0 x1 x2 x3 x4 (tbl m 0) = grad (device m c) x0 x1
    ∧ out0_A_6 c i arg2 harg2 arg3 harg3 arg4 harg4 arg5 harg5 arg6 harg6 arg7 harg7 arg8 harg8 arg9 harg9 arg10 harg10 x0 x1 x2 x3 x4 (tbl m 0) = delta (device m c) x0 x1 x2 x3 x4
    ∧ out0_A_7 c i arg2 harg2 arg3 harg3 arg4 harg4 arg5 harg5 arg6 harg6 arg7 harg7 arg8 harg8 arg9 harg9 arg10 harg10 x0 x1 x2 x3 x4 (tbl m 0) = moment1 (device m c) x0 x1 x3
    ∧ out0_A_8 c i arg2 harg2 arg3 harg3 arg4 harg4 arg5 harg5 arg6 harg6 arg7 harg7 arg8 harg8 arg9 harg9 arg10 harg10 x0 x1 x2 x3 x4 (tbl m 0) = moment2 (device m c) x0 x1 x4 := by
  have l0 : View.ld x0 (Rect.unit (s := S8x1x23552) ![0, 0, 0] ![1, 1, 23552] inb_S8x1x23552_S1x1x23552_0_0_0) = slot x0 0 := load _ 0 _
  have l1 : View.ld x0 (Rect.unit (s := S8x1x23552) ![1, 0, 0] ![1, 1, 23552] inb_S8x1x23552_S1x1x23552_1_0_0) = slot x0 1 := load _ 1 _
  have l2 : View.ld x0 (Rect.unit (s := S8x1x23552) ![2, 0, 0] ![1, 1, 23552] inb_S8x1x23552_S1x1x23552_2_0_0) = slot x0 2 := load _ 2 _
  have l3 : View.ld x0 (Rect.unit (s := S8x1x23552) ![3, 0, 0] ![1, 1, 23552] inb_S8x1x23552_S1x1x23552_3_0_0) = slot x0 3 := load _ 3 _
  have l4 : View.ld x0 (Rect.unit (s := S8x1x23552) ![4, 0, 0] ![1, 1, 23552] inb_S8x1x23552_S1x1x23552_4_0_0) = slot x0 4 := load _ 4 _
  have l5 : View.ld x0 (Rect.unit (s := S8x1x23552) ![5, 0, 0] ![1, 1, 23552] inb_S8x1x23552_S1x1x23552_5_0_0) = slot x0 5 := load _ 5 _
  have l6 : View.ld x0 (Rect.unit (s := S8x1x23552) ![6, 0, 0] ![1, 1, 23552] inb_S8x1x23552_S1x1x23552_6_0_0) = slot x0 6 := load _ 6 _
  have l7 : View.ld x0 (Rect.unit (s := S8x1x23552) ![7, 0, 0] ![1, 1, 23552] inb_S8x1x23552_S1x1x23552_7_0_0) = slot x0 7 := load _ 7 _
  refine ⟨?_, ?_, ?_, ?_⟩ <;> frame_out <;> simp only [Memref.IsWhole.read_unread, word m c] <;>
    simp only [l0, l1, l2, l3, l4, l5, l6, l7]

theorem stored (t : Fin (cfgM m hO).N) :
    (outsAt0 m hO c t).1 = grad (device m c) (iblk m hO c 0 t) (iblk m hO c 1 t)
    ∧ (outsAt0 m hO c t).2.1
      = delta (device m c) (iblk m hO c 0 t) (iblk m hO c 1 t) (iblk m hO c 2 t) (iblk m hO c 3 t) (iblk m hO c 4 t)
    ∧ (outsAt0 m hO c t).2.2.1 = moment1 (device m c) (iblk m hO c 0 t) (iblk m hO c 1 t) (iblk m hO c 3 t)
    ∧ (outsAt0 m hO c t).2.2.2 = moment2 (device m c) (iblk m hO c 0 t) (iblk m hO c 1 t) (iblk m hO c 4 t)  := by
  unfold outsAt0
  dsimp only
  exact left m c (grid0.coords t) (ms0_0 m hO t) (hs0_0 m hO t) (ms0_1 m hO t) (hs0_1 m hO t) (ms0_2 m hO t) (hs0_2 m hO t) (ms0_3 m hO t)
    (hs0_3 m hO t) (ms0_4 m hO t) (hs0_4 m hO t) (ms0_5 m hO t) (hs0_5 m hO t) (ms0_6 m hO t) (hs0_6 m hO t) (ms0_7 m hO t) (hs0_7 m hO t)
    (ms0_8 m hO t) (hs0_8 m hO t) (iblk m hO c 0 t) (iblk m hO c 1 t) (iblk m hO c 2 t) (iblk m hO c 3 t) (iblk m hO c 4 t)

/-! ### What the call leaves -/

theorem idx (t : Fin (cfgM m hO).N) : ((cfgM m hO).win 0).index t = ![0, 0, 0]
    ∧ ((cfgM m hO).win 1).index t = ![0, 0]
    ∧ ((cfgM m hO).win 2).index t = ![0, 0]
    ∧ ((cfgM m hO).win 3).index t = ![0, 0]
    ∧ ((cfgM m hO).win 4).index t = ![0, 0]
    ∧ ((cfgM m hO).win 5).index t = ![0, 0]
    ∧ ((cfgM m hO).win 6).index t = ![0, 0]
    ∧ ((cfgM m hO).win 7).index t = ![0, 0]
    ∧ ((cfgM m hO).win 8).index t = ![0, 0] := by
  obtain rfl : t = t0_0 := fin_N0 t
  refine ⟨?_, ?_, ?_, ?_, ?_, ?_, ?_, ?_, ?_⟩
  · show cc0_transform_0 (grid0.coords t0_0) = _
    decide +kernel
  · show cc0_transform_1 (grid0.coords t0_0) = _
    decide +kernel
  · show cc0_transform_2 (grid0.coords t0_0) = _
    decide +kernel
  · show cc0_transform_3 (grid0.coords t0_0) = _
    decide +kernel
  · show cc0_transform_4 (grid0.coords t0_0) = _
    decide +kernel
  · show cc0_transform_5 (grid0.coords t0_0) = _
    decide +kernel
  · show cc0_transform_6 (grid0.coords t0_0) = _
    decide +kernel
  · show cc0_transform_7 (grid0.coords t0_0) = _
    decide +kernel
  · show cc0_transform_8 (grid0.coords t0_0) = _
    decide +kernel

section Terms
variable (t : Fin (cfgM m hO).N) (q : Fin 8) (o : Fin 1) (j : Fin 23552)

theorem blk0 : iblk m hO c 0 t (ix3 q o j) = V m c main_arg1 (ix3 q o j) := by blk_point [iblk, idx m hO t]
theorem blk1 : iblk m hO c 1 t (ix2 o j) = V m c main_arg2 (ix2 o j) := by blk_point [iblk, idx m hO t]
theorem blk2 : iblk m hO c 2 t (ix2 o j) = V m c main_arg3 (ix2 o j) := by blk_point [iblk, idx m hO t]
theorem blk3 : iblk m hO c 3 t (ix2 o j) = V m c main_arg4 (ix2 o j) := by blk_point [iblk, idx m hO t]
theorem blk4 : iblk m hO c 4 t (ix2 o j) = V m c main_arg5 (ix2 o j) := by blk_point [iblk, idx m hO t]
theorem emb5 : (((cfgM m hO).win 5).blk t).view.emb (ix2 o j) = ix2 o j := by blk_ext [idx m hO t]

theorem emb6 : (((cfgM m hO).win 6).blk t).view.emb (ix2 o j) = ix2 o j := by blk_ext [idx m hO t]
theorem emb7 : (((cfgM m hO).win 7).blk t).view.emb (ix2 o j) = ix2 o j := by blk_ext [idx m hO t]
theorem emb8 : (((cfgM m hO).win 8).blk t).view.emb (ix2 o j) = ix2 o j := by blk_ext [idx m hO t]

/-- The gradient, the moments and the step are those of the arrays. -/
theorem summedTerm : summed (device m c) (iblk m hO c 0 t) (iblk m hO c 1 t) j
    = summed (device m c) (V m c main_arg1) (V m c main_arg2) j :=
  summed_same (fun q => blk0 m hO c t q 0 j) (blk1 m hO c t 0 j)

theorem firstTerm : firstMoment (device m c) (iblk m hO c 0 t) (iblk m hO c 1 t) (iblk m hO c 3 t) j
    = firstMoment (device m c) (V m c main_arg1) (V m c main_arg2) (V m c main_arg4) j :=
  firstMoment_same (fun q => blk0 m hO c t q 0 j) (blk1 m hO c t 0 j) (blk3 m hO c t 0 j)

theorem secondTerm : secondMoment (device m c) (iblk m hO c 0 t) (iblk m hO c 1 t) (iblk m hO c 4 t) j
    = secondMoment (device m c) (V m c main_arg1) (V m c main_arg2) (V m c main_arg5) j :=
  secondMoment_same (fun q => blk0 m hO c t q 0 j) (blk1 m hO c t 0 j) (blk4 m hO c t 0 j)

theorem stepTerm : stepOf (device m c) (iblk m hO c 0 t) (iblk m hO c 1 t) (iblk m hO c 2 t) (iblk m hO c 3 t) (iblk m hO c 4 t) j
    = stepOf (device m c) (V m c main_arg1) (V m c main_arg2) (V m c main_arg3) (V m c main_arg4) (V m c main_arg5) j :=
  stepOf_same (fun q => blk0 m hO c t q 0 j) (blk1 m hO c t 0 j) (blk2 m hO c t 0 j) (blk3 m hO c t 0 j) (blk4 m hO c t 0 j)

end Terms

/-- The number of a row's one block. -/
theorem only (β : (a : Fin 2) → Fin ((S1x23552.size a + S1x23552.size a - 1) / S1x23552.size a)) (a : Fin 2) :
    (![0, 0] : Fin 2 → ℕ) a = (β a).val := by
  fin_cases a
  · have : (β 0).val < 1 := (β 0).isLt
    exact (Nat.lt_one_iff.mp this).symm
  · have : (β 1).val < 1 := (β 1).isLt
    exact (Nat.lt_one_iff.mp this).symm

theorem positive (a : Fin 2) : 0 < S1x23552.size a := by fin_cases a <;> decide

/-- Each output is one block. -/
theorem covers : ((cfgM m hO).win 5).Covers
    ∧ ((cfgM m hO).win 6).Covers
    ∧ ((cfgM m hO).win 7).Covers
    ∧ ((cfgM m hO).win 8).Covers := by
  obtain ⟨-, -, -, -, -, h5, h6, h7, h8⟩ := idx m hO t0_0
  refine ⟨Pipeline.Window.covers_of_index_surj _ rfl positive fun β => ⟨t0_0, fun a => ?_⟩,
    Pipeline.Window.covers_of_index_surj _ rfl positive fun β => ⟨t0_0, fun a => ?_⟩,
    Pipeline.Window.covers_of_index_surj _ rfl positive fun β => ⟨t0_0, fun a => ?_⟩,
    Pipeline.Window.covers_of_index_surj _ rfl positive fun β => ⟨t0_0, fun a => ?_⟩⟩
  · exact (congrFun h5 a).trans (only β a)
  · exact (congrFun h6 a).trans (only β a)
  · exact (congrFun h7 a).trans (only β a)
  · exact (congrFun h8 a).trans (only β a)

theorem final5 : (dats m hO 0 c).arrAt 5 (cfgM m hO).N = rowFrom (summed (device m c) (V m c main_arg1) (V m c main_arg2)) := by
  refine (dats m hO 0 c).arrAt_eq_of_covers 5 _ (covers m hO).1 fun t hf y => ?_
  obtain ⟨o, j, rfl⟩ := pair_idx y
  blk_simp
  rw [after0_5, (stored m hO c t).1]
  exact (grad_at _ _ _ o j).trans ((summedTerm m hO c t j).trans (congrArg (rowFrom (summed (device m c) (V m c main_arg1) (V m c main_arg2)))
    (emb5 m hO t o j)).symm)

theorem final6 : (dats m hO 0 c).arrAt 6 (cfgM m hO).N = rowFrom (stepOf (device m c) (V m c main_arg1) (V m c main_arg2) (V m c main_arg3) (V m c main_arg4) (V m c main_arg5)) := by
  refine (dats m hO 0 c).arrAt_eq_of_covers 6 _ (covers m hO).2.1 fun t hf y => ?_
  obtain ⟨o, j, rfl⟩ := pair_idx y
  blk_simp
  rw [after0_6, (stored m hO c t).2.1]
  exact (delta_at _ _ _ _ _ _ o j).trans ((stepTerm m hO c t j).trans (congrArg (rowFrom (stepOf (device m c) (V m c main_arg1) (V m c main_arg2) (V m c main_arg3) (V m c main_arg4) (V m c main_arg5)))
    (emb6 m hO t o j)).symm)

theorem final7 : (dats m hO 0 c).arrAt 7 (cfgM m hO).N = rowFrom (firstMoment (device m c) (V m c main_arg1) (V m c main_arg2) (V m c main_arg4)) := by
  refine (dats m hO 0 c).arrAt_eq_of_covers 7 _ (covers m hO).2.2.1 fun t hf y => ?_
  obtain ⟨o, j, rfl⟩ := pair_idx y
  blk_simp
  rw [after0_7, (stored m hO c t).2.2.1]
  exact (moment1_at _ _ _ _ o j).trans ((firstTerm m hO c t j).trans (congrArg (rowFrom (firstMoment (device m c) (V m c main_arg1) (V m c main_arg2) (V m c main_arg4)))
    (emb7 m hO t o j)).symm)

theorem final8 : (dats m hO 0 c).arrAt 8 (cfgM m hO).N = rowFrom (secondMoment (device m c) (V m c main_arg1) (V m c main_arg2) (V m c main_arg5)) := by
  refine (dats m hO 0 c).arrAt_eq_of_covers 8 _ (covers m hO).2.2.2 fun t hf y => ?_
  obtain ⟨o, j, rfl⟩ := pair_idx y
  blk_simp
  rw [after0_8, (stored m hO c t).2.2.2]
  exact (moment2_at _ _ _ _ o j).trans ((secondTerm m hO c t j).trans (congrArg (rowFrom (secondMoment (device m c) (V m c main_arg1) (V m c main_arg2) (V m c main_arg5)))
    (emb8 m hO t o j)).symm)

abbrev argX : FVec Ideal S8x1x23552 .f32 := m ((c.tc : Thread nD τ).loc main_arg1)
abbrev argO : FVec Ideal S1x23552 .f32 := m ((c.tc : Thread nD τ).loc main_arg2)
abbrev argW : FVec Ideal S1x23552 .f32 := m ((c.tc : Thread nD τ).loc main_arg3)
abbrev argA : FVec Ideal S1x23552 .f32 := m ((c.tc : Thread nD τ).loc main_arg4)
abbrev argB : FVec Ideal S1x23552 .f32 := m ((c.tc : Thread nD τ).loc main_arg5)

/-- Every execution ends with the gradient, the step and the two moments, and the arguments as launched. -/
theorem run : θ_run defs (onTc (τ := τ) (main (F := Ideal))) ⟨m, fun _ => 0, ρ⟩ (fun r => ∀ c : Dev nD,
      r.2.mem ((c.tc : Thread nD τ).loc main_v0_0) = rowFrom (summed (device m c) (argX m c) (argO m c))
      ∧ r.2.mem ((c.tc : Thread nD τ).loc main_v0_1) = rowFrom (stepOf (device m c) (argX m c) (argO m c) (argW m c) (argA m c) (argB m c))
      ∧ r.2.mem ((c.tc : Thread nD τ).loc main_v0_2) = rowFrom (firstMoment (device m c) (argX m c) (argO m c) (argA m c))
      ∧ r.2.mem ((c.tc : Thread nD τ).loc main_v0_3) = rowFrom (secondMoment (device m c) (argX m c) (argO m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h.1 c).1 5).trans ((final5 m trivial c).trans (by rw [V_main_arg1, V_main_arg2])),
     ((h.1 c).1 6).trans ((final6 m trivial c).trans (by rw [V_main_arg1, V_main_arg2, V_main_arg3, V_main_arg4, V_main_arg5])),
     ((h.1 c).1 7).trans ((final7 m trivial c).trans (by rw [V_main_arg1, V_main_arg2, V_main_arg4])),
     ((h.1 c).1 8).trans ((final8 m trivial c).trans (by rw [V_main_arg1, V_main_arg2, V_main_arg5])),
     (h.2 c)⟩)
    (θ_run_and (run_main m ρ trivial) (unchanged m ρ trivial))

end Cert.Kernel25Ideal.Results

end
-- ==== Proof.OptimiserReference.lean ====
/- The optimiser's step as the reference computes it, stage by stage, and its four results: the ones the call leaves. -/
module

public import proofs.«01_k».proof.Proof.Optimiser
public import proofs.«01_k».proof.Proof.Gen.Reference25Ideal.Run

@[expose] public section

set_option maxRecDepth 16384

noncomputable section

namespace Cert.Reference25Ideal.Stages

open Cert.Reference25Ideal Cert.Reference25Ideal.Gen Cert.Reference25Ideal.Value Idealize.ShloMosaic Cert.Ffn
open Cert.Kernel2Ideal.Calls (pair_idx)
open Cert.Kernel25Ideal.Results (part_eq)

variable (d : IVec S1 32) (x : FVec Ideal S8x1x23552 .f32) (own w a b g n v : FVec Ideal S1x23552 .f32) (o : Fin 1) (j : Fin 23552)

/-! ### The stages -/

/-- The gradient, -/
def total : FVec Ideal S1x23552 .f32 :=
  Host.reduceAdd (select (cmpi .eq (iotaInDim S8x1x23552 32 0) (broadcastInDim S8x1x23552 ![0, 1, 2] bcast_S1x1x1_S8x1x23552_0_1_2
      (broadcastInDim S1x1x1 ![2] bcast_S1_S1x1x1_2 d))) (broadcastInDim S8x1x23552 ![1, 2] bcast_S1x23552_S8x1x23552_1_2 own) x)
    (constant S_ .f32 0x00000000#32) reducesTo_S8x1x23552_S1x23552_d0 h_S_
/-- a number at every place of a row, -/
abbrev fill (z : BitVec 32) : FVec Ideal S1x23552 .f32 := broadcastInDim S1x23552 ![] bcast_S_S1x23552 (constant S_ .f32 z)
/-- the moments, -/
def moment1 : FVec Ideal S1x23552 .f32 := addf (mulf (fill 0x3F666666#32) a) (mulf (fill 0x3DCCCCCD#32) g)
def moment2 : FVec Ideal S1x23552 .f32 := addf (mulf (fill 0x3F7FBE77#32) b) (mulf (fill 0x3A83126F#32) (mulf g g))
/-- and the step. -/
def delta : FVec Ideal S1x23552 .f32 :=
  mulf (fill 0xBA83126F#32) (addf (Host.divf (Host.divf n (fill 0x3F26BD02#32))
    (addf (Host.sqrt (Host.divf v (fill 0x3C231ACC#32))) (fill 0x322BCC77#32))) (mulf (fill 0x3C23D70A#32) w))

theorem total_at : total d x own (ix2 o j) = summed (d (ix1 0)) x own j := by
  obtain rfl : o = 0 := Subsingleton.elim _ _
  pointwise [total]
  refine Finset.sum_congr rfl fun q _ => ?_
  have swap : IntOp.cmpi .eq (BitVec.ofNat 32 q.val) (d (ix1 0)) = Scalar.cmpi .eq (d (ix1 0)) (BitVec.ofNat 32 q.val) :=
    congrArg BitVec.ofBool (Bool.beq_comm ..)
  rw [partOf, ← part_eq, swap]

theorem moment1_at (hg : g (ix2 0 j) = summed (d (ix1 0)) x own j) : moment1 a g (ix2 o j) = firstMoment (d (ix1 0)) x own a j := by
  obtain rfl : o = 0 := Subsingleton.elim _ _
  pointwise [moment1]
  rw [hg]
  rfl

theorem moment2_at (hg : g (ix2 0 j) = summed (d (ix1 0)) x own j) : moment2 b g (ix2 o j) = secondMoment (d (ix1 0)) x own b j := by
  obtain rfl : o = 0 := Subsingleton.elim _ _
  pointwise [moment2]
  rw [hg]
  rfl

theorem delta_at (hn : n (ix2 0 j) = firstMoment (d (ix1 0)) x own a j) (hv : v (ix2 0 j) = secondMoment (d (ix1 0)) x own b j) :
    delta w n v (ix2 o j) = stepOf (d (ix1 0)) x own w a b j := by
  obtain rfl : o = 0 := Subsingleton.elim _ _
  pointwise [delta]
  rw [hn, hv]
  rfl

/-- A row is its elements. -/
theorem row_eq (f : FVec Ideal S1x23552 .f32) (e : Fin 23552 → EReal) (h : ∀ j, f (ix2 0 j) = e j) : f = rowFrom e := funext fun i => by
  obtain ⟨o, j, rfl⟩ := pair_idx i
  obtain rfl : o = 0 := Subsingleton.elim _ _
  exact h j

/-! ### The four results -/

variable (μ : (ℓ : Loc nD τ sig) → Buf (Elt Ideal) ℓ) (c : Dev nD)

abbrev argD : IVec S1 32 := μ ((c.tc : Thread nD τ).loc main_arg0)
abbrev argX : FVec Ideal S8x1x23552 .f32 := μ ((c.tc : Thread nD τ).loc main_arg1)
abbrev argO : FVec Ideal S1x23552 .f32 := μ ((c.tc : Thread nD τ).loc main_arg2)
abbrev argW : FVec Ideal S1x23552 .f32 := μ ((c.tc : Thread nD τ).loc main_arg3)
abbrev argA : FVec Ideal S1x23552 .f32 := μ ((c.tc : Thread nD τ).loc main_arg4)
abbrev argB : FVec Ideal S1x23552 .f32 := μ ((c.tc : Thread nD τ).loc main_arg5)

theorem run (ρ : Dev nD → PrngReg) : θ_run defs (onTc (τ := τ) (main (F := Ideal))) ⟨μ, fun _ => 0, ρ⟩ (fun r => ∀ c : Dev nD,
      r.2.mem ((c.tc : Thread nD τ).loc main_v5) = rowFrom (summed (argD μ c (ix1 0)) (argX μ c) (argO μ c))
      ∧ r.2.mem ((c.tc : Thread nD τ).loc main_v29) = rowFrom (stepOf (argD μ c (ix1 0)) (argX μ c) (argO μ c) (argW μ c) (argA μ c) (argB μ c))
      ∧ r.2.mem ((c.tc : Thread nD τ).loc main_v10) = rowFrom (firstMoment (argD μ c (ix1 0)) (argX μ c) (argO μ c) (argA μ c))
      ∧ r.2.mem ((c.tc : Thread nD τ).loc main_v16) = rowFrom (secondMoment (argD μ c (ix1 0)) (argX μ c) (argO μ c) (argB μ c))
      ∧ r.2.mem ((c.tc : Thread nD τ).loc main_arg0) = μ ((c.tc : Thread nD τ).loc main_arg0)
      ∧ r.2.mem ((c.tc : Thread nD τ).loc main_arg1) = μ ((c.tc : Thread nD τ).loc main_arg1)
      ∧ r.2.mem ((c.tc : Thread nD τ).loc main_arg2) = μ ((c.tc : Thread nD τ).loc main_arg2)
      ∧ r.2.mem ((c.tc : Thread nD τ).loc main_arg3) = μ ((c.tc : Thread nD τ).loc main_arg3)
      ∧ r.2.mem ((c.tc : Thread nD τ).loc main_arg4) = μ ((c.tc : Thread nD τ).loc main_arg4)
      ∧ r.2.mem ((c.tc : Thread nD τ).loc main_arg5) = μ ((c.tc : Thread nD τ).loc main_arg5)) :=
  (θ_run defs _ _).mono (fun _ h c =>
    have g := total_at (argD μ c) (argX μ c) (argO μ c) 0
    have n := fun j => moment1_at (argD μ c) (argX μ c) (argO μ c) (argA μ c) _ 0 j (g j)
    have v := fun j => moment2_at (argD μ c) (argX μ c) (argO μ c) (argB μ c) _ 0 j (g j)
    ⟨(h c).1.trans (row_eq _ _ g),
     (h c).2.1.trans (row_eq _ _ fun j => delta_at (argD μ c) (argX μ c) (argO μ c) (argW μ c) (argA μ c) (argB μ c) _ _ 0 j (n j) (v j)),
     (h c).2.2.1.trans (row_eq _ _ n), (h c).2.2.2.1.trans (row_eq _ _ v), (h c).2.2.2.2⟩)
    (Value.run (F := Ideal) μ ρ)

end Cert.Reference25Ideal.Stages

end
-- ==== Proof.Reference.lean ====
/- What the reference computes: the scores, their exponentials, the weights and the gradient of the scores, stage by stage, and
   its four results from them. Each stage at an index is a row's number from Attention.lean; the reference divides by a row's
   mass where the kernel uses the log-sum, which for finite scores is the same (Softmax.lean). -/
module

public import proofs.«01_k».proof.Proof.GradientArrays
public import proofs.«01_k».proof.Proof.Gen.ReferenceIdeal.Run

@[expose] public section

set_option maxRecDepth 16384

noncomputable section

namespace Cert.ReferenceIdeal.Stages

open Cert.ReferenceIdeal Cert.ReferenceIdeal.Gen Cert.ReferenceIdeal.Value Idealize.ShloMosaic Cert.Softmax Cert.Attention

variable (q k : FVec Ideal S16x2176x192 .bf16) (v : FVec Ideal S16x2176x128 .bf16) (g : FVec Ideal S2176x2048 .bf16)
  (s e w : FVec Ideal S16x2176x2176 .f32) (m n : FVec Ideal S16x2176 .f32) (t : FVec Ideal S16x2176x1 .f32)
  (o : FVec Ideal S16x128x2176 .f32) (h : Fin 16) (r j : Fin 2176)

/-! ### The stages, each of what the ones before leave, and each at an index -/

/-- Which keys a row looks at: those up to its own position. -/
def mask : IVec S16x2176x2176 1 :=
  broadcastInDim S16x2176x2176 ![0, 1, 2] bcast_S1x2176x2176_S16x2176x2176_0_1_2 (cmpi .sle
    (broadcastInDim S1x2176x2176 ![0, 1, 2] bcast_S1x1x2176_S1x2176x2176_0_1_2 (broadcastInDim S1x1x2176 ![2] bcast_S2176_S1x1x2176_2 (iotaInDim S2176 32 0)))
    (broadcastInDim S1x2176x2176 ![0, 1, 2] bcast_S1x2176x1_S1x2176x2176_0_1_2 (broadcastInDim S1x2176x1 ![1] bcast_S2176_S1x2176x1_1 (iotaInDim S2176 32 0))))

/-- The masked scores. -/
def score : FVec Ideal S16x2176x2176 .f32 :=
  select mask (mulf (Host.dotGeneral dot_S16x2176x192_S16x2176x192_S16x2176x2176_2_2_1_1_0_0 none (extf .f32 q bitsLt_bf16_f32) (extf .f32 k bitsLt_bf16_f32))
      (broadcastInDim S16x2176x2176 ![] bcast_S_S16x2176x2176 (constant S_ .f32 0x3D93CD3A#32)))
    (broadcastInDim S16x2176x2176 ![] bcast_S_S16x2176x2176 (constant S_ .f32 0xFF800000#32))

theorem score_at : score q k (ix3 h r j) = S (head q h) (head k h) r j := by
  pointwise [score, mask]
  rw [mask_eq (by omega) (by omega), ofBits_neg_inf]
  rfl

/-- A maximum along the last of three axes. -/
theorem reduce_max_last {a b c : ℕ} {u : Shape} (x : FVec Ideal ⟨3, ![a, b, c]⟩ .f32) (z : FVec Ideal u .f32)
    (h : (⟨3, ![a, b, c]⟩ : Shape).ReducesTo [2] ⟨2, ![a, b]⟩) (hu : 0 < u.numel) (i : Fin a) (j : Fin b) :
    Host.reduce FloatOps.maximumf x z h hu (ix2 i j)
      = Finset.univ.fold max (z (Shape.Idx.first hu)) fun k : Fin c => x (ix3 i j k) := by
  pointwise

/-- A row's largest score. -/
def most : FVec Ideal S16x2176 .f32 :=
  maximumf (broadcastInDim S16x2176 ![] bcast_S_S16x2176 (constant S_ .f32 0xFF800000#32))
    (Host.reduce FloatOps.maximumf s (constant S_ .f32 0xFF800000#32) reducesTo_S16x2176x2176_S16x2176_d2 h_S_)

theorem maximumf_at (a b : FVec Ideal S16x2176 .f32) : maximumf a b (ix2 h r) = max (a (ix2 h r)) (b (ix2 h r)) := rfl

theorem low_word (i : S_.Idx) : constant (F := Ideal) S_ .f32 0xFF800000#32 i = ⊥ := ofBits_neg_inf

theorem low_at : broadcastInDim S16x2176 ![] bcast_S_S16x2176 (constant (F := Ideal) S_ .f32 0xFF800000#32) (ix2 h r) = ⊥ := by
  pointwise
  exact ofBits_neg_inf

theorem most_at : most s (ix2 h r) = top fun j => s (ix3 h r j) := by
  unfold most top
  rw [maximumf_at, low_at, reduce_max_last, low_word]
  exact max_eq_right bot_le

/-- The scores' exponentials, taken from the largest. -/
def expo : FVec Ideal S16x2176x2176 .f32 :=
  Host.exp (subf s (broadcastInDim S16x2176x2176 ![0, 1, 2] bcast_S16x2176x1_S16x2176x2176_0_1_2
    (broadcastInDim S16x2176x1 ![0, 1] bcast_S16x2176_S16x2176x1_0_1 m)))

theorem expo_at : expo s m (ix3 h r j) = Ideal.exp (s (ix3 h r j) - m (ix2 h r)) := by
  pointwise [expo]

/-- A row's mass. -/
def total : FVec Ideal S16x2176x1 .f32 :=
  broadcastInDim S16x2176x1 ![0, 1] bcast_S16x2176_S16x2176x1_0_1 (Host.reduceAdd e (constant S_ .f32 0x00000000#32) reducesTo_S16x2176x2176_S16x2176_d2 h_S_)

theorem total_at : total e (ix3 h r 0) = ∑ j, e (ix3 h r j) := by
  pointwise [total]

/-- The weights. -/
def weight : FVec Ideal S16x2176x2176 .f32 :=
  Host.divf e (broadcastInDim S16x2176x2176 ![0, 1, 2] bcast_S16x2176x1_S16x2176x2176_0_1_2 t)

theorem weight_at : weight e t (ix3 h r j) = Ideal.div (e (ix3 h r j)) (t (ix3 h r 0)) := by
  pointwise [weight]

/-- The output's gradient, head by head, a head's elements before its rows. -/
def outGrad : FVec Ideal S16x128x2176 .f32 :=
  transpose S16x128x2176 [1, 2, 0] (shapeCast _ (extf .f32 g bitsLt_bf16_f32) shapeCasts_S2176x2048_S2176x16x128) transposes_S2176x16x128_S16x128x2176_1_2_0

theorem outGrad_at (d : Fin 128) : outGrad g (ix3 h d r) = cols g h r d := by
  pointwise [outGrad]

/-- The gradient of the weights. -/
def weightGrad : FVec Ideal S16x2176x2176 .f32 :=
  Host.dotGeneral dot_S16x128x2176_S16x2176x128_S16x2176x2176_1_2_2_1_0_0 none o (extf .f32 v bitsLt_bf16_f32)

theorem weightGrad_at : weightGrad v o (ix3 h r j) = ∑ d, o (ix3 h d r) * v (ix3 h j d) := by
  pointwise [weightGrad]

/-- A row's share of the scores' gradient that comes by way of its mass. -/
def massGrad : FVec Ideal S16x2176 .f32 :=
  Host.reduceAdd (Host.negf (shapeCast _ (Host.reduceAdd (mulf (mulf w
      (broadcastInDim S16x2176x2176 ![0, 1, 2] bcast_S16x2176x1_S16x2176x2176_0_1_2
        (Host.divf (broadcastInDim S16x2176x1 ![] bcast_S_S16x2176x1 (constant S_ .f32 0x3F800000#32)) (mulf t t))))
      e) (constant S_ .f32 0x00000000#32) reducesTo_S16x2176x2176_S16x2176_d2 h_S_) shapeCasts_S16x2176_S16x2176x1))
    (constant S_ .f32 0x00000000#32) reducesTo_S16x2176x1_S16x2176_d2 h_S_

theorem massGrad_at : massGrad e w t (ix2 h r)
    = -∑ j, w (ix3 h r j) * Ideal.div 1 (t (ix3 h r 0) * t (ix3 h r 0)) * e (ix3 h r j) := by
  pointwise [massGrad]
  exact Fin.sum_univ_one _

/-- The gradient of the scores. -/
def scoreGrad : FVec Ideal S16x2176x2176 .f32 :=
  mulf (select mask (mulf (addf (Host.divf w (broadcastInDim S16x2176x2176 ![0, 1, 2] bcast_S16x2176x1_S16x2176x2176_0_1_2 t))
        (broadcastInDim S16x2176x2176 ![0, 1] bcast_S16x2176_S16x2176x2176_0_1 n)) e)
      (broadcastInDim S16x2176x2176 ![] bcast_S_S16x2176x2176 (constant S_ .f32 0x00000000#32)))
    (broadcastInDim S16x2176x2176 ![] bcast_S_S16x2176x2176 (constant S_ .f32 0x3D93CD3A#32))

theorem scoreGrad_at : scoreGrad e w n t (ix3 h r j)
    = (if j.val ≤ r.val then (Ideal.div (w (ix3 h r j)) (t (ix3 h r 0)) + n (ix2 h r)) * e (ix3 h r j) else 0) * scale := by
  pointwise [scoreGrad, mask]
  rw [mask_eq (by omega) (by omega)]
  split
  · rfl
  · rw [zero_mul]

/-! ### The four results from the stages -/

/-- The weights of the arguments, -/
def weights : FVec Ideal S16x2176x2176 .f32 :=
  weight (expo (score q k) (most (score q k))) (total (expo (score q k) (most (score q k))))

/-- and the gradient of their scores. -/
def scoreGrads : FVec Ideal S16x2176x2176 .f32 :=
  scoreGrad (expo (score q k) (most (score q k))) (weightGrad v (outGrad g))
    (massGrad (expo (score q k) (most (score q k))) (weightGrad v (outGrad g)) (total (expo (score q k) (most (score q k)))))
    (total (expo (score q k) (most (score q k))))

/-- The queries' gradient, -/
def outQ : FVec Ideal S16x2176x192 .f32 :=
  Host.dotGeneral dot_S16x2176x2176_S16x2176x192_S16x2176x192_2_1_1_2_0_0 none s (extf .f32 k bitsLt_bf16_f32)
/-- the keys', -/
def outK : FVec Ideal S16x2176x192 .f32 :=
  Host.dotGeneral dot_S16x2176x2176_S16x2176x192_S16x2176x192_1_1_2_2_0_0 none s (extf .f32 q bitsLt_bf16_f32)
/-- and the values'. -/
def outV : FVec Ideal S16x2176x128 .f32 :=
  transpose S16x2176x128 [0, 2, 1] (Host.dotGeneral dot_S16x128x2176_S16x2176x2176_S16x128x2176_2_1_1_2_0_0 none o w)
    transposes_S16x128x2176_S16x2176x128_0_2_1

/-- The attention's output, all heads' elements side by side in a row. -/
def outO : FVec Ideal S2176x2048 .bf16 :=
  truncf .bf16 (shapeCast _ (transpose S2176x16x128 [2, 0, 1]
    (Host.dotGeneral dot_S16x2176x128_S16x2176x2176_S16x128x2176_1_2_2_1_0_0 none (extf .f32 v bitsLt_bf16_f32) w)
    transposes_S16x128x2176_S2176x16x128_2_0_1) shapeCasts_S2176x16x128_S2176x2048) bitsLt_bf16_f32

theorem outO_at (e : Fin 128) : outO v w (ix2 r ⟨h.val * 128 + e.val, by omega⟩) = ∑ j, v (ix3 h j e) * w (ix3 h r j) := by
  pointwise [outO]

theorem outQ_at (d : Fin 192) : outQ k s (ix3 h r d) = ∑ j, s (ix3 h r j) * k (ix3 h j d) := by pointwise [outQ]
theorem outK_at (d : Fin 192) : outK q s (ix3 h j d) = ∑ r, s (ix3 h r j) * q (ix3 h r d) := by pointwise [outK]
theorem outV_at (d : Fin 128) : outV w o (ix3 h j d) = ∑ r, o (ix3 h d r) * w (ix3 h r j) := by pointwise [outV]

variable (μ : (ℓ : Loc nD τ sig) → Buf (Elt Ideal) ℓ) (c : Dev nD)

/-- The program's four arguments. -/
abbrev argQ : FVec Ideal S16x2176x192 .bf16 := μ ((c.tc : Thread nD τ).loc main_arg0)
abbrev argK : FVec Ideal S16x2176x192 .bf16 := μ ((c.tc : Thread nD τ).loc main_arg1)
abbrev argV : FVec Ideal S16x2176x128 .bf16 := μ ((c.tc : Thread nD τ).loc main_arg2)
abbrev argG : FVec Ideal S2176x2048 .bf16 := μ ((c.tc : Thread nD τ).loc main_arg3)

theorem res0 : res_out0 μ c = outQ (argK μ c) (scoreGrads (argQ μ c) (argK μ c) (argV μ c) (argG μ c)) := rfl
theorem res1 : res_out1 μ c = outK (argQ μ c) (scoreGrads (argQ μ c) (argK μ c) (argV μ c) (argG μ c)) := rfl
theorem res2 : res_out2 μ c = outV (weights (argQ μ c) (argK μ c)) (outGrad (argG μ c)) := rfl
theorem res3 : res_out3 μ c = outO (argV μ c) (weights (argQ μ c) (argK μ c)) := rfl

/-! ### A row of the stages is a row of the head's numbers -/

theorem expos_at : expo (score q k) (most (score q k)) (ix3 h r j)
    = Ideal.exp (S (head q h) (head k h) r j - top (S (head q h) (head k h) r)) := by
  rw [expo_at, most_at]
  simp only [score_at]

theorem totals_at : total (expo (score q k) (most (score q k))) (ix3 h r 0) = mass (S (head q h) (head k h) r) := by
  rw [total_at]
  simp only [expos_at]
  rfl

theorem weightGrads_at : weightGrad v (outGrad g) (ix3 h r j) = dprobs (cols g h r) (head v h) j := by
  rw [weightGrad_at]
  simp only [outGrad_at]
  rfl

variable (hT : ∀ j, S (head q h) (head k h) r j ≠ ⊤) (h₀ : S (head q h) (head k h) r r ≠ ⊥)
include hT h₀

theorem weights_at : weights q k (ix3 h r j) = P (head q h) (head k h) r j := by
  unfold weights
  rw [weight_at, expos_at, totals_at]
  exact quot_eq_prob _ hT r h₀ j

theorem scoreGrads_at : scoreGrads q k v g (ix3 h r j) = DS (head q h) (head k h) (head v h) (cols g h) r j := by
  unfold scoreGrads
  rw [scoreGrad_at, massGrad_at]
  simp only [expos_at, totals_at, weightGrads_at]
  rw [quot_grad _ (dprobs (cols g h r) (head v h)) hT r h₀ j]
  split
  · rfl
  · rename_i hj
    rw [DS_masked _ _ _ _ (by omega), zero_mul]

end Cert.ReferenceIdeal.Stages

end
-- ==== Proof.Equation.lean ====
/- The reference's four results are the three gradients and the output, wherever queries and keys are finite. -/
module

public import proofs.«01_k».proof.Proof.Reference
public import proofs.«01_k».proof.Proof.Finite
public import proofs.«01_k».proof.Proof.Output

@[expose] public section

set_option maxRecDepth 16384

noncomputable section

namespace Cert.ReferenceIdeal.Stages

open Idealize.ShloMosaic Cert.Attention

variable (q k : FVec Ideal S16x2176x192 .bf16) (v : FVec Ideal S16x2176x128 .bf16) (g : FVec Ideal S2176x2048 .bf16)
  (hq : ∀ i, ∃ a : ℝ, q i = a) (hk : ∀ i, ∃ a : ℝ, k i = a)
include hq hk

theorem weights_head (h : Fin 16) (r j : Fin 2176) : weights q k (ix3 h r j) = P (head q h) (head k h) r j :=
  weights_at q k h r j (fun j => S_ne_top (fun r d => hq _) (fun j d => hk _) r j) (S_self (fun r d => hq _) (fun j d => hk _) r)

theorem scoreGrads_head (h : Fin 16) (r j : Fin 2176) :
    scoreGrads q k v g (ix3 h r j) = DS (head q h) (head k h) (head v h) (cols g h) r j :=
  scoreGrads_at q k v g h r j (fun j => S_ne_top (fun r d => hq _) (fun j d => hk _) r j) (S_self (fun r d => hq _) (fun j d => hk _) r)

theorem outQ_eq : outQ k (scoreGrads q k v g) = DQ q k v g := funext fun i => by
  obtain ⟨h, r, d, rfl⟩ : ∃ h r d, i = ix3 h r d := ⟨i 0, i 1, i 2, (ix3_eta i).symm⟩
  rw [outQ_at]
  simp only [scoreGrads_head q k v g hq hk]
  rfl

theorem outK_eq : outK q (scoreGrads q k v g) = DK q k v g := funext fun i => by
  obtain ⟨h, r, d, rfl⟩ : ∃ h r d, i = ix3 h r d := ⟨i 0, i 1, i 2, (ix3_eta i).symm⟩
  rw [outK_at]
  simp only [scoreGrads_head q k v g hq hk]
  rfl

theorem outV_eq : outV (weights q k) (outGrad g) = DV q k g := funext fun i => by
  obtain ⟨h, r, d, rfl⟩ : ∃ h r d, i = ix3 h r d := ⟨i 0, i 1, i 2, (ix3_eta i).symm⟩
  rw [outV_at]
  simp only [weights_head q k hq hk, outGrad_at]
  exact Finset.sum_congr rfl fun r _ => mul_comm _ _

theorem outO_eq : outO v (weights q k) = OUT q k v := funext fun i => by
  obtain ⟨r, y, rfl⟩ : ∃ r y, i = ix2 r y := ⟨i 0, i 1, (ix2_eta i).symm⟩
  obtain ⟨h, e, rfl⟩ : ∃ (h : Fin 16) (e : Fin 128), y = (⟨h.val * 128 + e.val, by omega⟩ : Fin 2048) :=
    ⟨⟨y.val / 128, by omega⟩, ⟨y.val % 128, by omega⟩, Fin.ext (by show y.val = y.val / 128 * 128 + y.val % 128; omega)⟩
  rw [outO_at, OUT_at q k v _ h r e rfl rfl]
  simp only [weights_head q k hq hk]
  exact Finset.sum_congr rfl fun j _ => mul_comm _ _

end Cert.ReferenceIdeal.Stages

end
-- ==== Proof.lean ====
/- The certificate: the frames of the programs, and each kernel's results equal to its reference's. -/
module

public import proofs.«01_k».proof.Defs
public import proofs.«01_k».proof.Proof.Gen.Kernel.Frame
public import proofs.«01_k».proof.Proof.Results
public import proofs.«01_k».proof.Proof.Gen.Kernel2.Frame
public import proofs.«01_k».proof.Proof.FfnReference
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel11.Frame
public import proofs.«01_k».proof.Proof.Gen.Kernel10.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.MixResults
public import proofs.«01_k».proof.Proof.MixReference
public import proofs.«01_k».proof.Proof.OutGrads
public import proofs.«01_k».proof.Proof.OutGradsReference
public import proofs.«01_k».proof.Proof.InResults
public import proofs.«01_k».proof.Proof.InReference
public import proofs.«01_k».proof.Proof.LoraProducts
public import proofs.«01_k».proof.Proof.LoraProductsReference
public import proofs.«01_k».proof.Proof.NormedGrad
public import proofs.«01_k».proof.Proof.DownSum
public import proofs.«01_k».proof.Proof.MixerGrads
public import proofs.«01_k».proof.Proof.LoraGrads
public import proofs.«01_k».proof.Proof.ProductReferences
public import proofs.«01_k».proof.Proof.NormReference
public import proofs.«01_k».proof.Proof.GateReference
public import proofs.«01_k».proof.Proof.UnitReference
public import proofs.«01_k».proof.Proof.LowReference
public import proofs.«01_k».proof.Proof.LayerReference
public import proofs.«01_k».proof.Proof.UnitForward
public import proofs.«01_k».proof.Proof.LowForward
public import proofs.«01_k».proof.Proof.HeadReference
public import proofs.«01_k».proof.Proof.HeadForwardReference
public import proofs.«01_k».proof.Proof.LossReference
public import proofs.«01_k».proof.Proof.OptimiserReference
public import proofs.«01_k».proof.Proof.Equation
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference leaves its arguments alone; it has no semaphore. -/
theorem reference_frame : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run (F := Ideal) m ρ)

/-- The three gradients, and the output. -/
theorem gradients : Cert.algebraic_KernelIdeal_ReferenceIdeal_pre_finite (hPre_finite := Cert.Pre_finite.facts) := by
  haveI := Cert.Pre_finite.facts
  intro m g m' g' hpre hagree
  refine ⟨_, _, _, _, Cert.KernelIdeal.Results.run m g (fun c => (Cert.Pre_finite.reals _ _ _ _ (hpre c)).1)
    (fun c => (Cert.Pre_finite.reals _ _ _ _ (hpre c)).2), (θ_run Cert.ReferenceIdeal.defs _ _).mono (fun r h c => ?_) (Cert.ReferenceIdeal.Value.run (F := Ideal) m' g')⟩
  obtain ⟨hq, hk⟩ := Cert.Pre_finite.reals _ _ _ _ (hpre c)
  obtain ⟨a0, a1, a2, a3⟩ := hagree c
  obtain ⟨h0, h1, h2, h3, hargs⟩ := h c
  refine ⟨h0.trans ?_, h1.trans ?_, h2.trans ?_, h3.trans ?_, hargs⟩
  · refine (Cert.ReferenceIdeal.Stages.res0 m' c).trans ?_
    unfold Cert.ReferenceIdeal.Stages.argQ Cert.ReferenceIdeal.Stages.argK Cert.ReferenceIdeal.Stages.argV Cert.ReferenceIdeal.Stages.argG
    rw [a0, a1, a2, a3]
    exact Cert.ReferenceIdeal.Stages.outQ_eq _ _ _ _ hq hk
  · refine (Cert.ReferenceIdeal.Stages.res1 m' c).trans ?_
    unfold Cert.ReferenceIdeal.Stages.argQ Cert.ReferenceIdeal.Stages.argK Cert.ReferenceIdeal.Stages.argV Cert.ReferenceIdeal.Stages.argG
    rw [a0, a1, a2, a3]
    exact Cert.ReferenceIdeal.Stages.outK_eq _ _ _ _ hq hk
  · refine (Cert.ReferenceIdeal.Stages.res2 m' c).trans ?_
    unfold Cert.ReferenceIdeal.Stages.argQ Cert.ReferenceIdeal.Stages.argK Cert.ReferenceIdeal.Stages.argG
    rw [a0, a1, a3]
    exact Cert.ReferenceIdeal.Stages.outV_eq _ _ _ hq hk
  · refine (Cert.ReferenceIdeal.Stages.res3 m' c).trans ?_
    unfold Cert.ReferenceIdeal.Stages.argQ Cert.ReferenceIdeal.Stages.argK Cert.ReferenceIdeal.Stages.argV
    rw [a0, a1, a2]
    exact Cert.ReferenceIdeal.Stages.outO_eq _ _ _ hq hk

/-- The feed-forward block's reference leaves its arguments alone; it has no semaphore. -/
theorem ffn_reference_frame : Cert.quiescent_Reference2Ideal := fun m ρ _ =>
  (θ_run Cert.Reference2Ideal.defs _ _).mono
    (fun r h => ⟨fun c => (h c).2.2.2, sem_eq_zero_of_no_sems (by decide) r.2⟩) (Cert.Reference2Ideal.Stages.run m ρ)

/-- The feed-forward block's two weights' gradients and the gradient of its pairs. -/
theorem ffn_gradients : Cert.algebraic_Kernel2Ideal_Reference2Ideal := by
  intro m g m' g' _ hagree
  refine ⟨_, _, _, Cert.Kernel2Ideal.Results.run m g, (θ_run Cert.Reference2Ideal.defs _ _).mono (fun r h c => ?_) (Cert.Reference2Ideal.Stages.run m' g')⟩
  obtain ⟨a0, a1, a2, a3, a4⟩ := hagree c
  obtain ⟨h0, h1, h2, h3⟩ := h c
  unfold Cert.Reference2Ideal.Stages.argH Cert.Reference2Ideal.Stages.argG Cert.Reference2Ideal.Stages.argW Cert.Reference2Ideal.Stages.argD at h0
  unfold Cert.Reference2Ideal.Stages.argH Cert.Reference2Ideal.Stages.argG Cert.Reference2Ideal.Stages.argW Cert.Reference2Ideal.Stages.argU Cert.Reference2Ideal.Stages.argD at h1 h2
  rw [a0, a1, a2, a4] at h0
  rw [a0, a1, a2, a3, a4] at h1 h2
  exact ⟨h0, h1, h2, h3⟩

/-- The mixing block's product with the sum, its weight's gradient and the gradient of what it multiplies. -/
theorem mix_gradients : Cert.algebraic_Kernel3Ideal_Reference3Ideal := by
  intro m g m' g' _ hagree
  refine ⟨_, _, _, Cert.Kernel3Ideal.Results.run m g, (θ_run Cert.Reference3Ideal.defs _ _).mono (fun r h c => ?_) (Cert.Reference3Ideal.Stages.run m' g')⟩
  obtain ⟨a0, a1, a2, a3, a4, a5, a6, a7, a8, a9, a10⟩ := hagree c
  obtain ⟨h0, h1, h2, hargs⟩ := h c
  simp only [Cert.Reference3Ideal.Stages.sum, Cert.Reference3Ideal.Stages.argH, Cert.Reference3Ideal.Stages.argC, Cert.Reference3Ideal.Stages.argO, Cert.Reference3Ideal.Stages.argWc, Cert.Reference3Ideal.Stages.argB, Cert.Reference3Ideal.Stages.argWo, Cert.Reference3Ideal.Stages.argZ, Cert.Reference3Ideal.Stages.argP, Cert.Reference3Ideal.Stages.argQ, Cert.Reference3Ideal.Stages.argW, Cert.Reference3Ideal.Stages.argD, a0, a1, a2, a3, a4, a5, a6, a7, a8, a9, a10] at h0 h1 h2
  exact ⟨h0, h1, h2, hargs⟩

theorem mix_reference_frame : Cert.quiescent_Reference3Ideal := fun m ρ _ =>
  (θ_run Cert.Reference3Ideal.defs _ _).mono
    (fun r h => ⟨fun c => (h c).2.2.2, sem_eq_zero_of_no_sems (by decide) r.2⟩) (Cert.Reference3Ideal.Stages.run m ρ)

/-- The attention's and the convolution's output projections' gradients. -/
theorem out_gradients : Cert.algebraic_Kernel4Ideal_Reference4Ideal := by
  intro m g m' g' _ hagree
  refine ⟨_, _, _, _, Cert.Kernel4Ideal.Results.run m g, (θ_run Cert.Reference4Ideal.defs _ _).mono (fun r h c => ?_) (Cert.Reference4Ideal.Stages.run m' g')⟩
  obtain ⟨a0, a1, a2, a3, a4, a5⟩ := hagree c
  obtain ⟨h0, h1, h2, h3, hargs⟩ := h c
  simp only [Cert.Reference4Ideal.Stages.argO, Cert.Reference4Ideal.Stages.argWo, Cert.Reference4Ideal.Stages.argDo, Cert.Reference4Ideal.Stages.argC, Cert.Reference4Ideal.Stages.argWc, Cert.Reference4Ideal.Stages.argDc, a0, a1, a2, a3, a4, a5] at h0 h1 h2 h3
  exact ⟨h0, h1, h2, h3, hargs⟩

theorem out_reference_frame : Cert.quiescent_Reference4Ideal := fun m ρ _ =>
  (θ_run Cert.Reference4Ideal.defs _ _).mono
    (fun r h => ⟨fun c => (h c).2.2.2.2, sem_eq_zero_of_no_sems (by decide) r.2⟩) (Cert.Reference4Ideal.Stages.run m ρ)

/-- The input projections' products and weights' gradients. -/
theorem in_gradients : Cert.algebraic_Kernel5Ideal_Reference5Ideal := by
  intro m g m' g' _ hagree
  refine ⟨_, _, _, _, _, _, Cert.Kernel5Ideal.Results.run m g, (θ_run Cert.Reference5Ideal.defs _ _).mono (fun r h c => ?_) (Cert.Reference5Ideal.Stages.run m' g')⟩
  obtain ⟨a0, a1, a2, a3, a4, a5, a6, a7, a8⟩ := hagree c
  obtain ⟨h0, h1, h2, h3, h4, h5, hargs⟩ := h c
  simp only [Cert.Reference5Ideal.Stages.rows, Cert.Reference5Ideal.Stages.argX, Cert.Reference5Ideal.Stages.argG, Cert.Reference5Ideal.Stages.argW, Cert.Reference5Ideal.Stages.argL, Cert.Reference5Ideal.Stages.argZ, Cert.Reference5Ideal.Stages.argDw, Cert.Reference5Ideal.Stages.argDl, Cert.Reference5Ideal.Stages.argDz, a0, a1, a2, a3, a4, a5, a6, a7, a8] at h0 h1 h2 h3 h4 h5
  exact ⟨h0, h1, h2, h3, h4, h5, hargs⟩

theorem in_reference_frame : Cert.quiescent_Reference5Ideal := fun m ρ _ =>
  (θ_run Cert.Reference5Ideal.defs _ _).mono
    (fun r h => ⟨fun c => (h c).2.2.2.2.2.2, sem_eq_zero_of_no_sems (by decide) r.2⟩) (Cert.Reference5Ideal.Stages.run m ρ)

/-- The low-rank up-projections' products and weights' gradients. -/
theorem lora_gradients : Cert.algebraic_Kernel6Ideal_Reference6Ideal := by
  intro m g m' g' _ hagree
  refine ⟨_, _, _, _, Cert.Kernel6Ideal.Results.run m g, (θ_run Cert.Reference6Ideal.defs _ _).mono (fun r h c => ?_) (Cert.Reference6Ideal.Stages.run m' g')⟩
  obtain ⟨a0, a1, a2, a3, a4, a5⟩ := hagree c
  obtain ⟨h0, h1, h2, h3, hargs⟩ := h c
  simp only [Cert.Reference6Ideal.Stages.argQ, Cert.Reference6Ideal.Stages.argWq, Cert.Reference6Ideal.Stages.argDq, Cert.Reference6Ideal.Stages.argK, Cert.Reference6Ideal.Stages.argWk, Cert.Reference6Ideal.Stages.argDk, a0, a1, a2, a3, a4, a5] at h0 h1 h2 h3
  exact ⟨h0, h1, h2, h3, hargs⟩

theorem lora_reference_frame : Cert.quiescent_Reference6Ideal := fun m ρ _ =>
  (θ_run Cert.Reference6Ideal.defs _ _).mono
    (fun r h => ⟨fun c => (h c).2.2.2.2, sem_eq_zero_of_no_sems (by decide) r.2⟩) (Cert.Reference6Ideal.Stages.run m ρ)

/-- The gradient of the channel mixer's normalised input. -/
theorem normed_gradients : Cert.algebraic_Kernel7Ideal_Reference7Ideal := by
  intro m g m' g' _ hagree
  refine ⟨_, Cert.Kernel7Ideal.Results.run m g, (θ_run Cert.Reference7Ideal.defs _ _).mono (fun r h c => ?_) (Cert.Reference7Ideal.Stages.run m' g')⟩
  obtain ⟨a0, a1⟩ := hagree c
  obtain ⟨h0, hargs⟩ := h c
  simp only [Cert.Reference7Ideal.Stages.argD, Cert.Reference7Ideal.Stages.argW, a0, a1] at h0
  exact ⟨h0, hargs⟩

theorem normed_reference_frame : Cert.quiescent_Reference7Ideal := fun m ρ _ =>
  (θ_run Cert.Reference7Ideal.defs _ _).mono
    (fun r h => ⟨fun c => (h c).2, sem_eq_zero_of_no_sems (by decide) r.2⟩) (Cert.Reference7Ideal.Stages.run m ρ)

/-- The channel mixer's last product, with the sum. -/
theorem down_gradients : Cert.algebraic_Kernel8Ideal_Reference8Ideal := by
  intro m g m' g' _ hagree
  refine ⟨_, Cert.Kernel8Ideal.Results.run m g, (θ_run Cert.Reference8Ideal.defs _ _).mono (fun r h c => ?_) (Cert.Reference8Ideal.Stages.run m' g')⟩
  obtain ⟨a0, a1, a2⟩ := hagree c
  obtain ⟨h0, hargs⟩ := h c
  simp only [Cert.Reference8Ideal.Stages.argD, Cert.Reference8Ideal.Stages.argW, Cert.Reference8Ideal.Stages.argU, a0, a1, a2] at h0
  exact ⟨h0, hargs⟩

theorem down_reference_frame : Cert.quiescent_Reference8Ideal := fun m ρ _ =>
  (θ_run Cert.Reference8Ideal.defs _ _).mono
    (fun r h => ⟨fun c => (h c).2, sem_eq_zero_of_no_sems (by decide) r.2⟩) (Cert.Reference8Ideal.Stages.run m ρ)

/-- The gradient of the mixer's normalised input, its first term, -/
theorem first_gradients : Cert.algebraic_Kernel9Ideal_Reference9Ideal := by
  intro m g m' g' _ hagree
  refine ⟨_, Cert.Kernel9Ideal.Results.run m g, (θ_run Cert.Reference9Ideal.defs _ _).mono (fun r h c => ?_) (Cert.Reference9Ideal.Stages.run m' g')⟩
  obtain ⟨a0, a1⟩ := hagree c
  obtain ⟨h0, hargs⟩ := h c
  simp only [Cert.Reference9Ideal.Stages.argD, Cert.Reference9Ideal.Stages.argW, a0, a1] at h0
  exact ⟨h0, hargs⟩

theorem first_reference_frame : Cert.quiescent_Reference9Ideal := fun m ρ _ =>
  (θ_run Cert.Reference9Ideal.defs _ _).mono
    (fun r h => ⟨fun c => (h c).2, sem_eq_zero_of_no_sems (by decide) r.2⟩) (Cert.Reference9Ideal.Stages.run m ρ)

/-- with the low-rank arrays' term, -/
theorem second_gradients : Cert.algebraic_Kernel10Ideal_Reference10Ideal := by
  intro m g m' g' _ hagree
  refine ⟨_, Cert.Kernel10Ideal.Results.run m g, (θ_run Cert.Reference10Ideal.defs _ _).mono (fun r h c => ?_) (Cert.Reference10Ideal.Stages.run m' g')⟩
  obtain ⟨a0, a1, a2⟩ := hagree c
  obtain ⟨h0, hargs⟩ := h c
  simp only [Cert.Reference10Ideal.Stages.argD, Cert.Reference10Ideal.Stages.argW, Cert.Reference10Ideal.Stages.argU, a0, a1, a2] at h0
  exact ⟨h0, hargs⟩

theorem second_reference_frame : Cert.quiescent_Reference10Ideal := fun m ρ _ =>
  (θ_run Cert.Reference10Ideal.defs _ _).mono
    (fun r h => ⟨fun c => (h c).2, sem_eq_zero_of_no_sems (by decide) r.2⟩) (Cert.Reference10Ideal.Stages.run m ρ)

/-- and with the gates'. -/
theorem third_gradients : Cert.algebraic_Kernel11Ideal_Reference11Ideal := by
  intro m g m' g' _ hagree
  refine ⟨_, Cert.Kernel11Ideal.Results.run m g, (θ_run Cert.Reference11Ideal.defs _ _).mono (fun r h c => ?_) (Cert.Reference11Ideal.Stages.run m' g')⟩
  obtain ⟨a0, a1, a2⟩ := hagree c
  obtain ⟨h0, hargs⟩ := h c
  simp only [Cert.Reference11Ideal.Stages.argD, Cert.Reference11Ideal.Stages.argW, Cert.Reference11Ideal.Stages.argU, a0, a1, a2] at h0
  exact ⟨h0, hargs⟩

theorem third_reference_frame : Cert.quiescent_Reference11Ideal := fun m ρ _ =>
  (θ_run Cert.Reference11Ideal.defs _ _).mono
    (fun r h => ⟨fun c => (h c).2, sem_eq_zero_of_no_sems (by decide) r.2⟩) (Cert.Reference11Ideal.Stages.run m ρ)

/-- The gradient of the queries' low-rank array, -/
theorem queries_gradients : Cert.algebraic_Kernel12Ideal_Reference12Ideal := by
  intro m g m' g' _ hagree
  refine ⟨_, Cert.Kernel12Ideal.Results.run m g, (θ_run Cert.Reference12Ideal.defs _ _).mono (fun r h c => ?_) (Cert.Reference12Ideal.Stages.run m' g')⟩
  obtain ⟨a0, a1⟩ := hagree c
  obtain ⟨h0, hargs⟩ := h c
  simp only [Cert.Reference12Ideal.Stages.argD, Cert.Reference12Ideal.Stages.argW, a0, a1] at h0
  exact ⟨h0, hargs⟩

theorem queries_reference_frame : Cert.quiescent_Reference12Ideal := fun m ρ _ =>
  (θ_run Cert.Reference12Ideal.defs _ _).mono
    (fun r h => ⟨fun c => (h c).2, sem_eq_zero_of_no_sems (by decide) r.2⟩) (Cert.Reference12Ideal.Stages.run m ρ)

/-- and of the keys' and values'. -/
theorem keys_gradients : Cert.algebraic_Kernel13Ideal_Reference13Ideal := by
  intro m g m' g' _ hagree
  refine ⟨_, Cert.Kernel13Ideal.Results.run m g, (θ_run Cert.Reference13Ideal.defs _ _).mono (fun r h c => ?_) (Cert.Reference13Ideal.Stages.run m' g')⟩
  obtain ⟨a0, a1⟩ := hagree c
  obtain ⟨h0, hargs⟩ := h c
  simp only [Cert.Reference13Ideal.Stages.argD, Cert.Reference13Ideal.Stages.argW, a0, a1] at h0
  exact ⟨h0, hargs⟩

theorem keys_reference_frame : Cert.quiescent_Reference13Ideal := fun m ρ _ =>
  (θ_run Cert.Reference13Ideal.defs _ _).mono
    (fun r h => ⟨fun c => (h c).2, sem_eq_zero_of_no_sems (by decide) r.2⟩) (Cert.Reference13Ideal.Stages.run m ρ)

/-- The gradient of the norm before a projection. -/
theorem norm_gradients : Cert.algebraic_Kernel14Ideal_Reference14Ideal := by
  intro m g m' g' _ hagree
  refine ⟨_, _, _, Cert.Kernel14Ideal.Results.run m g, (θ_run Cert.Reference14Ideal.defs _ _).mono (fun r h c => ?_) (Cert.Reference14Ideal.Stages.run m' g')⟩
  obtain ⟨a0, a1, a2, a3⟩ := hagree c
  obtain ⟨h0, h1, h2, hargs⟩ := h c
  simp only [Cert.Reference14Ideal.Stages.argH, Cert.Reference14Ideal.Stages.argG, Cert.Reference14Ideal.Stages.argD, Cert.Reference14Ideal.Stages.argE, a0, a1, a2, a3] at h0 h1 h2
  exact ⟨h0, h1, h2, hargs⟩

theorem norm_reference_frame : Cert.quiescent_Reference14Ideal := fun m ρ _ =>
  (θ_run Cert.Reference14Ideal.defs _ _).mono
    (fun r h => ⟨fun c => (h c).2.2.2, sem_eq_zero_of_no_sems (by decide) r.2⟩) (Cert.Reference14Ideal.Stages.run m ρ)

/-- The gradients of the mixers' gated sum. -/
theorem gates_gradients : Cert.algebraic_Kernel15Ideal_Reference15Ideal := by
  intro m g m' g' _ hagree
  refine ⟨_, _, _, _, _, _, Cert.Kernel15Ideal.Results.run m g, (θ_run Cert.Reference15Ideal.defs _ _).mono (fun r h c => ?_) (Cert.Reference15Ideal.Stages.run m' g')⟩
  obtain ⟨a0, a1, a2, a3, a4, a5, a6⟩ := hagree c
  obtain ⟨h0, h1, h2, h3, h4, h5, hargs⟩ := h c
  simp only [Cert.Reference15Ideal.Stages.argY, Cert.Reference15Ideal.Stages.argB, Cert.Reference15Ideal.Stages.argA, Cert.Reference15Ideal.Stages.argZ, Cert.Reference15Ideal.Stages.argP, Cert.Reference15Ideal.Stages.argQ, Cert.Reference15Ideal.Stages.argD, a0, a1, a2, a3, a4, a5, a6] at h0 h1 h2 h3 h4 h5
  exact ⟨h0, h1, h2, h3, h4, h5, hargs⟩

theorem gates_reference_frame : Cert.quiescent_Reference15Ideal := fun m ρ _ =>
  (θ_run Cert.Reference15Ideal.defs _ _).mono
    (fun r h => ⟨fun c => (h c).2.2.2.2.2.2, sem_eq_zero_of_no_sems (by decide) r.2⟩) (Cert.Reference15Ideal.Stages.run m ρ)

/-- The gradients of the gated linear unit. -/
theorem unit_gradients : Cert.algebraic_Kernel16Ideal_Reference16Ideal := by
  intro m g m' g' _ hagree
  refine ⟨_, _, _, Cert.Kernel16Ideal.Results.run m g, (θ_run Cert.Reference16Ideal.defs _ _).mono (fun r h c => ?_) (Cert.Reference16Ideal.Stages.run m' g')⟩
  obtain ⟨a0, a1, a2, a3⟩ := hagree c
  obtain ⟨h0, h1, h2, hargs⟩ := h c
  simp only [Cert.Reference16Ideal.Stages.argZ, Cert.Reference16Ideal.Stages.argP, Cert.Reference16Ideal.Stages.argQ, Cert.Reference16Ideal.Stages.argD, a0, a1, a2, a3] at h0 h1 h2
  exact ⟨h0, h1, h2, hargs⟩

theorem unit_reference_frame : Cert.quiescent_Reference16Ideal := fun m ρ _ =>
  (θ_run Cert.Reference16Ideal.defs _ _).mono
    (fun r h => ⟨fun c => (h c).2.2.2, sem_eq_zero_of_no_sems (by decide) r.2⟩) (Cert.Reference16Ideal.Stages.run m ρ)

/-- The gradients of the low-rank arrays' norms. -/
theorem low_gradients : Cert.algebraic_Kernel17Ideal_Reference17Ideal := by
  intro m g m' g' _ hagree
  refine ⟨_, _, _, Cert.Kernel17Ideal.Results.run m g, (θ_run Cert.Reference17Ideal.defs _ _).mono (fun r h c => ?_) (Cert.Reference17Ideal.Stages.run m' g')⟩
  obtain ⟨a0, a1, a2, a3, a4, a5⟩ := hagree c
  obtain ⟨h0, h1, h2, hargs⟩ := h c
  simp only [Cert.Reference17Ideal.Stages.argZ, Cert.Reference17Ideal.Stages.argP, Cert.Reference17Ideal.Stages.argQ, Cert.Reference17Ideal.Stages.argD, Cert.Reference17Ideal.Stages.argE, Cert.Reference17Ideal.Stages.argR, a0, a1, a2, a3, a4, a5] at h0 h1 h2
  exact ⟨h0, h1, h2, hargs⟩

theorem low_reference_frame : Cert.quiescent_Reference17Ideal := fun m ρ _ =>
  (θ_run Cert.Reference17Ideal.defs _ _).mono
    (fun r h => ⟨fun c => (h c).2.2.2, sem_eq_zero_of_no_sems (by decide) r.2⟩) (Cert.Reference17Ideal.Stages.run m ρ)

/-- The gradients of the layer norm and its activation. -/
theorem layer_gradients : Cert.algebraic_Kernel18Ideal_Reference18Ideal := by
  intro m g m' g' _ hagree
  refine ⟨_, _, _, Cert.Kernel18Ideal.Results.run m g, (θ_run Cert.Reference18Ideal.defs _ _).mono (fun r h c => ?_) (Cert.Reference18Ideal.Stages.run m' g')⟩
  obtain ⟨a0, a1, a2, a3⟩ := hagree c
  obtain ⟨h0, h1, h2, hargs⟩ := h c
  simp only [Cert.Reference18Ideal.Stages.argX, Cert.Reference18Ideal.Stages.argG, Cert.Reference18Ideal.Stages.argB, Cert.Reference18Ideal.Stages.argD, a0, a1, a2, a3] at h0 h1 h2
  exact ⟨h0, h1, h2, hargs⟩

theorem layer_reference_frame : Cert.quiescent_Reference18Ideal := fun m ρ _ =>
  (θ_run Cert.Reference18Ideal.defs _ _).mono
    (fun r h => ⟨fun c => (h c).2.2.2, sem_eq_zero_of_no_sems (by decide) r.2⟩) (Cert.Reference18Ideal.Stages.run m ρ)

/-- The gated linear unit. -/
theorem gated_unit : Cert.algebraic_Kernel19Ideal_Reference19Ideal := by
  intro m g m' g' _ hagree
  refine ⟨_, Cert.Kernel19Ideal.Results.run m g, (θ_run Cert.Reference19Ideal.defs _ _).mono (fun r h c => ?_) (Cert.Reference19Ideal.Stages.run m' g')⟩
  obtain ⟨a0, a1, a2⟩ := hagree c
  obtain ⟨h0, hargs⟩ := h c
  simp only [Cert.Reference19Ideal.Stages.argZ, Cert.Reference19Ideal.Stages.argP, Cert.Reference19Ideal.Stages.argQ, a0, a1, a2] at h0
  exact ⟨h0, hargs⟩

theorem gated_unit_reference_frame : Cert.quiescent_Reference19Ideal := fun m ρ _ =>
  (θ_run Cert.Reference19Ideal.defs _ _).mono
    (fun r h => ⟨fun c => (h c).2, sem_eq_zero_of_no_sems (by decide) r.2⟩) (Cert.Reference19Ideal.Stages.run m ρ)

/-- The layer norm and its activation. -/
theorem layered_rows : Cert.algebraic_Kernel20Ideal_Reference20Ideal := by
  intro m g m' g' _ hagree
  refine ⟨_, Cert.Kernel20Ideal.Results.run m g, (θ_run Cert.Reference20Ideal.defs _ _).mono (fun r h c => ?_) (Cert.Reference20Ideal.Stages.run m' g')⟩
  obtain ⟨a0, a1, a2⟩ := hagree c
  obtain ⟨h0, hargs⟩ := h c
  simp only [Cert.Reference20Ideal.Stages.argX, Cert.Reference20Ideal.Stages.argG, Cert.Reference20Ideal.Stages.argB, a0, a1, a2] at h0
  exact ⟨h0, hargs⟩

theorem layered_reference_frame : Cert.quiescent_Reference20Ideal := fun m ρ _ =>
  (θ_run Cert.Reference20Ideal.defs _ _).mono
    (fun r h => ⟨fun c => (h c).2, sem_eq_zero_of_no_sems (by decide) r.2⟩) (Cert.Reference20Ideal.Stages.run m ρ)

/-- The norms of the low-rank arrays. -/
theorem low_norms : Cert.algebraic_Kernel21Ideal_Reference21Ideal := by
  intro m g m' g' _ hagree
  refine ⟨_, _, Cert.Kernel21Ideal.Results.run m g, (θ_run Cert.Reference21Ideal.defs _ _).mono (fun r h c => ?_) (Cert.Reference21Ideal.Stages.run m' g')⟩
  obtain ⟨a0, a1, a2⟩ := hagree c
  obtain ⟨h0, h1, hargs⟩ := h c
  simp only [Cert.Reference21Ideal.Stages.argZ, Cert.Reference21Ideal.Stages.argP, Cert.Reference21Ideal.Stages.argQ, a0, a1, a2] at h0 h1
  exact ⟨h0, h1, hargs⟩

theorem low_norms_reference_frame : Cert.quiescent_Reference21Ideal := fun m ρ _ =>
  (θ_run Cert.Reference21Ideal.defs _ _).mono
    (fun r h => ⟨fun c => (h c).2.2, sem_eq_zero_of_no_sems (by decide) r.2⟩) (Cert.Reference21Ideal.Stages.run m ρ)

/-- The gradients of the rotary embedding and of the split into heads. -/
theorem head_gradients : Cert.algebraic_Kernel22Ideal_Reference22Ideal := by
  intro m g m' g' _ hagree
  refine ⟨_, _, _, Cert.Kernel22Ideal.Results.run m g, (θ_run Cert.Reference22Ideal.defs _ _).mono (fun r h c => ?_) (Cert.Reference22Ideal.Stages.run m' g')⟩
  obtain ⟨a0, a1, a2, a3, a4⟩ := hagree c
  obtain ⟨h0, h1, h2, hargs⟩ := h c
  simp only [Cert.Reference22Ideal.Stages.argQ, Cert.Reference22Ideal.Stages.argK, Cert.Reference22Ideal.Stages.argV, Cert.Reference22Ideal.Stages.argC, Cert.Reference22Ideal.Stages.argS, a0, a1, a2, a3, a4] at h0 h1 h2
  exact ⟨h0, h1, h2, hargs⟩

theorem head_gradients_reference_frame : Cert.quiescent_Reference22Ideal := fun m ρ _ =>
  (θ_run Cert.Reference22Ideal.defs _ _).mono
    (fun r h => ⟨fun c => (h c).2.2.2, sem_eq_zero_of_no_sems (by decide) r.2⟩) (Cert.Reference22Ideal.Stages.run m ρ)

/-- The rotary embedding and the split into heads. -/
theorem head_arrays : Cert.algebraic_Kernel23Ideal_Reference23Ideal := by
  intro m g m' g' _ hagree
  refine ⟨_, _, _, Cert.Kernel23Ideal.Results.run m g, (θ_run Cert.Reference23Ideal.defs _ _).mono (fun r h c => ?_) (Cert.Reference23Ideal.Stages.run m' g')⟩
  obtain ⟨a0, a1, a2, a3, a4⟩ := hagree c
  obtain ⟨h0, h1, h2, hargs⟩ := h c
  simp only [Cert.Reference23Ideal.Stages.argQ, Cert.Reference23Ideal.Stages.argK, Cert.Reference23Ideal.Stages.argZ, Cert.Reference23Ideal.Stages.argC, Cert.Reference23Ideal.Stages.argS, a0, a1, a2, a3, a4] at h0 h1 h2
  exact ⟨h0, h1, h2, hargs⟩

theorem head_arrays_reference_frame : Cert.quiescent_Reference23Ideal := fun m ρ _ =>
  (θ_run Cert.Reference23Ideal.defs _ _).mono
    (fun r h => ⟨fun c => (h c).2.2.2, sem_eq_zero_of_no_sems (by decide) r.2⟩) (Cert.Reference23Ideal.Stages.run m ρ)

/-- The loss and its gradients through the last norm. -/
theorem loss_head : Cert.algebraic_Kernel24Ideal_Reference24Ideal := by
  intro m g m' g' _ hagree
  refine ⟨_, _, _, _, Cert.Kernel24Ideal.Results.run m g, (θ_run Cert.Reference24Ideal.defs _ _).mono (fun r h c => ?_) (Cert.Reference24Ideal.Stages.run m' g')⟩
  obtain ⟨a0, a1, a2⟩ := hagree c
  obtain ⟨h0, h1, h2, h3, hargs⟩ := h c
  simp only [Cert.Reference24Ideal.Stages.argH, Cert.Reference24Ideal.Stages.argG, Cert.Reference24Ideal.Stages.argT, a0, a1, a2] at h0 h1 h2 h3
  exact ⟨h0, h1, h2, h3, hargs⟩

theorem loss_head_reference_frame : Cert.quiescent_Reference24Ideal := fun m ρ _ =>
  (θ_run Cert.Reference24Ideal.defs _ _).mono
    (fun r h => ⟨fun c => (h c).2.2.2.2, sem_eq_zero_of_no_sems (by decide) r.2⟩) (Cert.Reference24Ideal.Stages.run m ρ)

/-- The optimiser's step of the weights that every device holds whole. -/
theorem optimiser : Cert.algebraic_Kernel25Ideal_Reference25Ideal := by
  intro m g m' g' _ hagree
  refine ⟨_, _, _, _, Cert.Kernel25Ideal.Results.run m g, (θ_run Cert.Reference25Ideal.defs _ _).mono (fun r h c => ?_) (Cert.Reference25Ideal.Stages.run m' g')⟩
  obtain ⟨a0, a1, a2, a3, a4, a5⟩ := hagree c
  obtain ⟨h0, h1, h2, h3, hargs⟩ := h c
  simp only [Cert.Reference25Ideal.Stages.argD, Cert.Reference25Ideal.Stages.argX, Cert.Reference25Ideal.Stages.argO, Cert.Reference25Ideal.Stages.argW, Cert.Reference25Ideal.Stages.argA, Cert.Reference25Ideal.Stages.argB, a0, a1, a2, a3, a4, a5] at h0 h1 h2 h3
  exact ⟨h0, h1, h2, h3, hargs⟩

theorem optimiser_reference_frame : Cert.quiescent_Reference25Ideal := fun m ρ _ =>
  (θ_run Cert.Reference25Ideal.defs _ _).mono
    (fun r h => ⟨fun c => (h c).2.2.2.2, sem_eq_zero_of_no_sems (by decide) r.2⟩) (Cert.Reference25Ideal.Stages.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts, Cert.Pre_finite.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, ffn_reference_frame,
    fun m ρ _ => Cert.Kernel3.Gen.frame m ρ, fun m ρ _ => Cert.Kernel3Ideal.Gen.frame m ρ, mix_reference_frame,
    fun m ρ _ => Cert.Kernel4.Gen.frame m ρ, fun m ρ _ => Cert.Kernel4Ideal.Gen.frame m ρ, out_reference_frame,
    fun m ρ _ => Cert.Kernel5.Gen.frame m ρ, fun m ρ _ => Cert.Kernel5Ideal.Gen.frame m ρ, in_reference_frame,
    fun m ρ _ => Cert.Kernel6.Gen.frame m ρ, fun m ρ _ => Cert.Kernel6Ideal.Gen.frame m ρ, lora_reference_frame,
    fun m ρ _ => Cert.Kernel7.Gen.frame m ρ, fun m ρ _ => Cert.Kernel7Ideal.Gen.frame m ρ, normed_reference_frame,
    fun m ρ _ => Cert.Kernel8.Gen.frame m ρ, fun m ρ _ => Cert.Kernel8Ideal.Gen.frame m ρ, down_reference_frame,
    fun m ρ _ => Cert.Kernel9.Gen.frame m ρ, fun m ρ _ => Cert.Kernel9Ideal.Gen.frame m ρ, first_reference_frame,
    fun m ρ _ => Cert.Kernel10.Gen.frame m ρ, fun m ρ _ => Cert.Kernel10Ideal.Gen.frame m ρ, second_reference_frame,
    fun m ρ _ => Cert.Kernel11.Gen.frame m ρ, fun m ρ _ => Cert.Kernel11Ideal.Gen.frame m ρ, third_reference_frame,
    fun m ρ _ => Cert.Kernel12.Gen.frame m ρ, fun m ρ _ => Cert.Kernel12Ideal.Gen.frame m ρ, queries_reference_frame,
    fun m ρ _ => Cert.Kernel13.Gen.frame m ρ, fun m ρ _ => Cert.Kernel13Ideal.Gen.frame m ρ, keys_reference_frame,
    fun m ρ _ => Cert.Kernel14.Gen.frame m ρ, fun m ρ _ => Cert.Kernel14Ideal.Gen.frame m ρ, norm_reference_frame,
    fun m ρ _ => Cert.Kernel15.Gen.frame m ρ, fun m ρ _ => Cert.Kernel15Ideal.Gen.frame m ρ, gates_reference_frame,
    fun m ρ _ => Cert.Kernel16.Gen.frame m ρ, fun m ρ _ => Cert.Kernel16Ideal.Gen.frame m ρ, unit_reference_frame,
    fun m ρ _ => Cert.Kernel17.Gen.frame m ρ, fun m ρ _ => Cert.Kernel17Ideal.Gen.frame m ρ, low_reference_frame,
    fun m ρ _ => Cert.Kernel18.Gen.frame m ρ, fun m ρ _ => Cert.Kernel18Ideal.Gen.frame m ρ, layer_reference_frame,
    fun m ρ _ => Cert.Kernel19.Gen.frame m ρ, fun m ρ _ => Cert.Kernel19Ideal.Gen.frame m ρ, gated_unit_reference_frame,
    fun m ρ _ => Cert.Kernel20.Gen.frame m ρ, fun m ρ _ => Cert.Kernel20Ideal.Gen.frame m ρ, layered_reference_frame,
    fun m ρ _ => Cert.Kernel21.Gen.frame m ρ, fun m ρ _ => Cert.Kernel21Ideal.Gen.frame m ρ, low_norms_reference_frame,
    fun m ρ _ => Cert.Kernel22.Gen.frame m ρ, fun m ρ _ => Cert.Kernel22Ideal.Gen.frame m ρ, head_gradients_reference_frame,
    fun m ρ _ => Cert.Kernel23.Gen.frame m ρ, fun m ρ _ => Cert.Kernel23Ideal.Gen.frame m ρ, head_arrays_reference_frame,
    fun m ρ _ => Cert.Kernel24.Gen.frame m ρ, fun m ρ _ => Cert.Kernel24Ideal.Gen.frame m ρ, loss_head_reference_frame,
    fun m ρ _ => Cert.Kernel25.Gen.frame m ρ trivial, fun m ρ _ => Cert.Kernel25Ideal.Gen.frame m ρ trivial, optimiser_reference_frame,
    trivial, gradients, trivial, ffn_gradients,
    trivial, mix_gradients, trivial, out_gradients, trivial, in_gradients, trivial, lora_gradients,
    trivial, normed_gradients, trivial, down_gradients, trivial, first_gradients, trivial, second_gradients,
    trivial, third_gradients, trivial, queries_gradients, trivial, keys_gradients,
    trivial, norm_gradients, trivial, gates_gradients, trivial, unit_gradients,
    trivial, low_gradients, trivial, layer_gradients, trivial, gated_unit, trivial, layered_rows,
    trivial, low_norms, trivial, head_gradients, trivial, head_arrays, trivial, loss_head, trivial, optimiser⟩

end Cert.Proof

end
